-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x20000x39 : Shape := ⟨3, ![32, 20000, 39]⟩
abbrev S640000x39 : Shape := ⟨2, ![640000, 39]⟩
abbrev S640000x31 : Shape := ⟨2, ![640000, 31]⟩
abbrev S2x160x39 : Shape := ⟨3, ![2, 160, 39]⟩
abbrev S2x160x31 : Shape := ⟨3, ![2, 160, 31]⟩
abbrev S_ : Shape := ⟨0, ![]⟩
abbrev S16 : Shape := ⟨1, ![16]⟩
abbrev S1x160x39 : Shape := ⟨3, ![1, 160, 39]⟩
abbrev S160x39 : Shape := ⟨2, ![160, 39]⟩
abbrev S1x160x31 : Shape := ⟨3, ![1, 160, 31]⟩
abbrev S160x31 : Shape := ⟨2, ![160, 31]⟩
abbrev S32x20000x31 : Shape := ⟨3, ![32, 20000, 31]⟩

abbrev nBuf : Table → Nat
  | .hbm => 4
  | .local .scVector .vmem => 2
  | _ => 0

abbrev bufTy : (tb : Table) → Fin (nBuf tb) → BufTy
  | .hbm, ⟨0, _⟩ => ⟨S32x20000x39, .f32⟩
  | .hbm, ⟨1, _⟩ => ⟨S640000x39, .f32⟩
  | .hbm, ⟨2, _⟩ => ⟨S640000x31, .f32⟩
  | .hbm, ⟨3, _⟩ => ⟨S32x20000x31, .f32⟩
  | .local .scVector .vmem, ⟨0, _⟩ => ⟨S2x160x39, .f32⟩
  | .local .scVector .vmem, ⟨1, _⟩ => ⟨S2x160x31, .f32⟩
  | _, _ => ⟨S32x20000x39, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let v4 : BitVec 32 := Scalar.addi v2 c0_i32
  let c0_i32_3 : BitVec 32 := 0#32
  ![v4.toNat, 0]
def k0_off1_at (r : Fin 3) : BitVec 32 :=
  if r.val < 1 then
    0#32
  else
    if r.val < 2 then
      160#32
    else
      19840#32
@[reducible] def k0_t1_loop : Scf.Loop 32 :=
  let c0_i32_14 : BitVec 32 := 0#32
  let c62_i32 : BitVec 32 := 62#32
  let v18 : BitVec 32 := Scalar.addi c0_i32_14 c62_i32
  let c1_i32_15 : BitVec 32 := 1#32
  ⟨c0_i32_14, v18, c1_i32_15⟩
def k0_cond1 (k0_t1 : Fin k0_t1_loop.trips) : BitVec 1 :=
  let c0_i32_14 : BitVec 32 := 0#32
  let c1_i32_15 : BitVec 32 := 1#32
  let arg10 : BitVec 32 := Scf.iv c0_i32_14 c1_i32_15 k0_t1
  let c0_i32_2844 : BitVec 32 := 0#32
  let v2906 : BitVec 1 := Scalar.cmpi .sgt arg10 c0_i32_2844
  let v2907 : BitVec 32 := Scalar.extui v2906
  let c0_i32_2845 : BitVec 32 := 0#32
  let v2908 : BitVec 1 := Scalar.cmpi .ne v2907 c0_i32_2845
  v2908

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg10 : BitVec 32 := Scf.iv c0_i32_14 c1_i32_15 k0_t1
  let c2_i32_2842 : BitVec 32 := 2#32
  let v2904 : BitVec 32 := Scalar.muli arg10 c2_i32_2842
  let c0_i32_2843 : BitVec 32 := 0#32
  let v2905 : BitVec 32 := Scalar.addi v2904 c0_i32_2843
  let c2_i32_8547 : BitVec 32 := 2#32
  let v8654 : BitVec 32 := Scalar.subi v2905 c2_i32_8547
  let c160_i32_8548 : BitVec 32 := 160#32
  let v8655 : BitVec 32 := Scalar.muli v8654 c160_i32_8548
  let v8656 : BitVec 32 := Scalar.addi v2 v8655
  let c0_i32_8552 : BitVec 32 := 0#32
  ![v8656.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg10 : BitVec 32 := Scf.iv c0_i32_14 c1_i32_15 k0_t1
  let c2_i32_2842 : BitVec 32 := 2#32
  let v2904 : BitVec 32 := Scalar.muli arg10 c2_i32_2842
  let c0_i32_2843 : BitVec 32 := 0#32
  let v2905 : BitVec 32 := Scalar.addi v2904 c0_i32_2843
  let c160_i32_2846 : BitVec 32 := 160#32
  let v2909 : BitVec 32 := Scalar.muli v2905 c160_i32_2846
  let v2910 : BitVec 32 := Scalar.addi v2 v2909
  let c0_i32_2850 : BitVec 32 := 0#32
  ![v2910.toNat, 0]

def k0_chk1 (v2918 : IVec S16 32) (v2919 : IVec S16 32) : Prop :=
  (∀ a x, ((![v2918, v2919] : Fin 2 → IVec S16 32) a x).toNat < S160x39.size a)
theorem k0_idx1_inb : ∀ (v2918 : IVec S16 32) (v2919 : IVec S16 32) (k0_hw1 : k0_chk1 v2918 v2919), ∀ a x, ((![v2918, v2919] : Fin 2 → IVec S16 32) a x).toNat < S160x39.size a := fun v2918 v2919 k0_hw1 => k0_hw1

def k0_chk2 (v2918 : IVec S16 32) (v2923 : IVec S16 32) : Prop :=
  (∀ a x, ((![v2918, v2923] : Fin 2 → IVec S16 32) a x).toNat < S160x39.size a)
theorem k0_idx2_inb : ∀ (v2918 : IVec S16 32) (v2923 : IVec S16 32) (k0_hw2 : k0_chk2 v2918 v2923), ∀ a x, ((![v2918, v2923] : Fin 2 → IVec S16 32) a x).toNat < S160x39.size a := fun v2918 v2923 k0_hw2 => k0_hw2

def k0_chk3 (v2918 : IVec S16 32) (v2927 : IVec S16 32) : Prop :=
  (∀ a x, ((![v2918, v2927] : Fin 2 → IVec S16 32) a x).toNat < S160x39.size a)
theorem k0_idx3_inb : ∀ (v2918 : IVec S16 32) (v2927 : IVec S16 32) (k0_hw3 : k0_chk3 v2918 v2927), ∀ a x, ((![v2918, v2927] : Fin 2 → IVec S16 32) a x).toNat < S160x39.size a := fun v2918 v2927 k0_hw3 => k0_hw3

def k0_chk4 (v2918 : IVec S16 32) (v2931 : IVec S16 32) : Prop :=
  (∀ a x, ((![v2918, v2931] : Fin 2 → IVec S16 32) a x).toNat < S160x39.size a)
theorem k0_idx4_inb : ∀ (v2918 : IVec S16 32) (v2931 : IVec S16 32) (k0_hw4 : k0_chk4 v2918 v2931), ∀ a x, ((![v2918, v2931] : Fin 2 → IVec S16 32) a x).toNat < S160x39.size a := fun v2918 v2931 k0_hw4 => k0_hw4

def k0_chk5 (v2918 : IVec S16 32) (v2936 : IVec S16 32) : Prop :=
  (∀ a x, ((![v2918, v2936] : Fin 2 → IVec S16 32) a x).toNat < S160x39.size a)
theorem k0_idx5_inb : ∀ (v2918 : IVec S16 32) (v2936 : IVec S16 32) (k0_hw5 : k0_chk5 v2918 v2936), ∀ a x, ((![v2918, v2936] : Fin 2 → IVec S16 32) a x).toNat < S160x39.size a := fun v2918 v2936 k0_hw5 => k0_hw5

def k0_chk6 (v2918 : IVec S16 32) (v2940 : IVec S16 32) : Prop :=
  (∀ a x, ((![v2918, v2940] : Fin 2 → IVec S16 32) a x).toNat < S160x39.size a)
theorem k0_idx6_inb : ∀ (v2918 : IVec S16 32) (v2940 : IVec S16 32) (k0_hw6 : k0_chk6 v2918 v2940), ∀ a x, ((![v2918, v2940] : Fin 2 → IVec S16 32) a x).toNat < S160x39.size a := fun v2918 v2940 k0_hw6 => k0_hw6

def k0_chk7 (v2918 : IVec S16 32) (v2945 : IVec S16 32) : Prop :=
  (∀ a x, ((![v2918, v2945] : Fin 2 → IVec S16 32) a x).toNat < S160x39.size a)
theorem k0_idx7_inb : ∀ (v2918 : IVec S16 32) (v2945 : IVec S16 32) (k0_hw7 : k0_chk7 v2918 v2945), ∀ a x, ((![v2918, v2945] : Fin 2 → IVec S16 32) a x).toNat < S160x39.size a := fun v2918 v2945 k0_hw7 => k0_hw7

def k0_chk8 (v2918 : IVec S16 32) (v2953 : IVec S16 32) : Prop :=
  (∀ a x, ((![v2918, v2953] : Fin 2 → IVec S16 32) a x).toNat < S160x39.size a)
theorem k0_idx8_inb : ∀ (v2918 : IVec S16 32) (v2953 : IVec S16 32) (k0_hw8 : k0_chk8 v2918 v2953), ∀ a x, ((![v2918, v2953] : Fin 2 → IVec S16 32) a x).toNat < S160x39.size a := fun v2918 v2953 k0_hw8 => k0_hw8

def k0_chk9 (v2918 : IVec S16 32) (v2961 : IVec S16 32) : Prop :=
  (∀ a x, ((![v2918, v2961] : Fin 2 → IVec S16 32) a x).toNat < S160x31.size a)
theorem k0_idx9_inb : ∀ (v2918 : IVec S16 32) (v2961 : IVec S16 32) (k0_hw9 : k0_chk9 v2918 v2961), ∀ a x, ((![v2918, v2961] : Fin 2 → IVec S16 32) a x).toNat < S160x31.size a := fun v2918 v2961 k0_hw9 => k0_hw9

def k0_chk10 (v2918 : IVec S16 32) (v2964 : IVec S16 32) : Prop :=
  (∀ a x, ((![v2918, v2964] : Fin 2 → IVec S16 32) a x).toNat < S160x31.size a)
theorem k0_idx10_inb : ∀ (v2918 : IVec S16 32) (v2964 : IVec S16 32) (k0_hw10 : k0_chk10 v2918 v2964), ∀ a x, ((![v2918, v2964] : Fin 2 → IVec S16 32) a x).toNat < S160x31.size a := fun v2918 v2964 k0_hw10 => k0_hw10

def k0_chk11 (v2918 : IVec S16 32) (v2967 : IVec S16 32) : Prop :=
  (∀ a x, ((![v2918, v2967] : Fin 2 → IVec S16 32) a x).toNat < S160x39.size a)
theorem k0_idx11_inb : ∀ (v2918 : IVec S16 32) (v2967 : IVec S16 32) (k0_hw11 : k0_chk11 v2918 v2967), ∀ a x, ((![v2918, v2967] : Fin 2 → IVec S16 32) a x).toNat < S160x39.size a := fun v2918 v2967 k0_hw11 => k0_hw11

def k0_chk12 (v2918 : IVec S16 32) (v2975 : IVec S16 32) : Prop :=
  (∀ a x, ((![v2918, v2975] : Fin 2 → IVec S16 32) a x).toNat < S160x39.size a)
theorem k0_idx12_inb : ∀ (v2918 : IVec S16 32) (v2975 : IVec S16 32) (k0_hw12 : k0_chk12 v2918 v2975), ∀ a x, ((![v2918, v2975] : Fin 2 → IVec S16 32) a x).toNat < S160x39.size a := fun v2918 v2975 k0_hw12 => k0_hw12

def k0_chk13 (v2918 : IVec S16 32) (v2983 : IVec S16 32) : Prop :=
  (∀ a x, ((![v2918, v2983] : Fin 2 → IVec S16 32) a x).toNat < S160x31.size a)
theorem k0_idx13_inb : ∀ (v2918 : IVec S16 32) (v2983 : IVec S16 32) (k0_hw13 : k0_chk13 v2918 v2983), ∀ a x, ((![v2918, v2983] : Fin 2 → IVec S16 32) a x).toNat < S160x31.size a := fun v2918 v2983 k0_hw13 => k0_hw13

def k0_chk14 (v2918 : IVec S16 32) (v2986 : IVec S16 32) : Prop :=
  (∀ a x, ((![v2918, v2986] : Fin 2 → IVec S16 32) a x).toNat < S160x31.size a)
theorem k0_idx14_inb : ∀ (v2918 : IVec S16 32) (v2986 : IVec S16 32) (k0_hw14 : k0_chk14 v2918 v2986), ∀ a x, ((![v2918, v2986] : Fin 2 → IVec S16 32) a x).toNat < S160x31.size a := fun v2918 v2986 k0_hw14 => k0_hw14

def k0_chk15 (v2918 : IVec S16 32) (v2989 : IVec S16 32) : Prop :=
  (∀ a x, ((![v2918, v2989] : Fin 2 → IVec S16 32) a x).toNat < S160x39.size a)
theorem k0_idx15_inb : ∀ (v2918 : IVec S16 32) (v2989 : IVec S16 32) (k0_hw15 : k0_chk15 v2918 v2989), ∀ a x, ((![v2918, v2989] : Fin 2 → IVec S16 32) a x).toNat < S160x39.size a := fun v2918 v2989 k0_hw15 => k0_hw15

def k0_chk16 (v2918 : IVec S16 32) (v2997 : IVec S16 32) : Prop :=
  (∀ a x, ((![v2918, v2997] : Fin 2 → IVec S16 32) a x).toNat < S160x39.size a)
theorem k0_idx16_inb : ∀ (v2918 : IVec S16 32) (v2997 : IVec S16 32) (k0_hw16 : k0_chk16 v2918 v2997), ∀ a x, ((![v2918, v2997] : Fin 2 → IVec S16 32) a x).toNat < S160x39.size a := fun v2918 v2997 k0_hw16 => k0_hw16

def k0_chk17 (v2918 : IVec S16 32) (v3005 : IVec S16 32) : Prop :=
  (∀ a x, ((![v2918, v3005] : Fin 2 → IVec S16 32) a x).toNat < S160x31.size a)
theorem k0_idx17_inb : ∀ (v2918 : IVec S16 32) (v3005 : IVec S16 32) (k0_hw17 : k0_chk17 v2918 v3005), ∀ a x, ((![v2918, v3005] : Fin 2 → IVec S16 32) a x).toNat < S160x31.size a := fun v2918 v3005 k0_hw17 => k0_hw17

def k0_chk18 (v2918 : IVec S16 32) (v3008 : IVec S16 32) : Prop :=
  (∀ a x, ((![v2918, v3008] : Fin 2 → IVec S16 32) a x).toNat < S160x31.size a)
theorem k0_idx18_inb : ∀ (v2918 : IVec S16 32) (v3008 : IVec S16 32) (k0_hw18 : k0_chk18 v2918 v3008), ∀ a x, ((![v2918, v3008] : Fin 2 → IVec S16 32) a x).toNat < S160x31.size a := fun v2918 v3008 k0_hw18 => k0_hw18

def k0_chk19 (v2918 : IVec S16 32) (v3011 : IVec S16 32) : Prop :=
  (∀ a x, ((![v2918, v3011] : Fin 2 → IVec S16 32) a x).toNat < S160x39.size a)
theorem k0_idx19_inb : ∀ (v2918 : IVec S16 32) (v3011 : IVec S16 32) (k0_hw19 : k0_chk19 v2918 v3011), ∀ a x, ((![v2918, v3011] : Fin 2 → IVec S16 32) a x).toNat < S160x39.size a := fun v2918 v3011 k0_hw19 => k0_hw19

def k0_chk20 (v2918 : IVec S16 32) (v3019 : IVec S16 32) : Prop :=
  (∀ a x, ((![v2918, v3019] : Fin 2 → IVec S16 32) a x).toNat < S160x39.size a)
theorem k0_idx20_inb : ∀ (v2918 : IVec S16 32) (v3019 : IVec S16 32) (k0_hw20 : k0_chk20 v2918 v3019), ∀ a x, ((![v2918, v3019] : Fin 2 → IVec S16 32) a x).toNat < S160x39.size a := fun v2918 v3019 k0_hw20 => k0_hw20

def k0_chk21 (v2918 : IVec S16 32) (v3027 : IVec S16 32) : Prop :=
  (∀ a x, ((![v2918, v3027] : Fin 2 → IVec S16 32) a x).toNat < S160x31.size a)
theorem k0_idx21_inb : ∀ (v2918 : IVec S16 32) (v3027 : IVec S16 32) (k0_hw21 : k0_chk21 v2918 v3027), ∀ a x, ((![v2918, v3027] : Fin 2 → IVec S16 32) a x).toNat < S160x31.size a := fun v2918 v3027 k0_hw21 => k0_hw21

def k0_chk22 (v2918 : IVec S16 32) (v3030 : IVec S16 32) : Prop :=
  (∀ a x, ((![v2918, v3030] : Fin 2 → IVec S16 32) a x).toNat < S160x31.size a)
theorem k0_idx22_inb : ∀ (v2918 : IVec S16 32) (v3030 : IVec S16 32) (k0_hw22 : k0_chk22 v2918 v3030), ∀ a x, ((![v2918, v3030] : Fin 2 → IVec S16 32) a x).toNat < S160x31.size a := fun v2918 v3030 k0_hw22 => k0_hw22

def k0_chk23 (v2918 : IVec S16 32) (v3033 : IVec S16 32) : Prop :=
  (∀ a x, ((![v2918, v3033] : Fin 2 → IVec S16 32) a x).toNat < S160x39.size a)
theorem k0_idx23_inb : ∀ (v2918 : IVec S16 32) (v3033 : IVec S16 32) (k0_hw23 : k0_chk23 v2918 v3033), ∀ a x, ((![v2918, v3033] : Fin 2 → IVec S16 32) a x).toNat < S160x39.size a := fun v2918 v3033 k0_hw23 => k0_hw23

def k0_chk24 (v2918 : IVec S16 32) (v3041 : IVec S16 32) : Prop :=
  (∀ a x, ((![v2918, v3041] : Fin 2 → IVec S16 32) a x).toNat < S160x39.size a)
theorem k0_idx24_inb : ∀ (v2918 : IVec S16 32) (v3041 : IVec S16 32) (k0_hw24 : k0_chk24 v2918 v3041), ∀ a x, ((![v2918, v3041] : Fin 2 → IVec S16 32) a x).toNat < S160x39.size a := fun v2918 v3041 k0_hw24 => k0_hw24

def k0_chk25 (v2918 : IVec S16 32) (v3049 : IVec S16 32) : Prop :=
  (∀ a x, ((![v2918, v3049] : Fin 2 → IVec S16 32) a x).toNat < S160x31.size a)
theorem k0_idx25_inb : ∀ (v2918 : IVec S16 32) (v3049 : IVec S16 32) (k0_hw25 : k0_chk25 v2918 v3049), ∀ a x, ((![v2918, v3049] : Fin 2 → IVec S16 32) a x).toNat < S160x31.size a := fun v2918 v3049 k0_hw25 => k0_hw25

def k0_chk26 (v2918 : IVec S16 32) (v3052 : IVec S16 32) : Prop :=
  (∀ a x, ((![v2918, v3052] : Fin 2 → IVec S16 32) a x).toNat < S160x31.size a)
theorem k0_idx26_inb : ∀ (v2918 : IVec S16 32) (v3052 : IVec S16 32) (k0_hw26 : k0_chk26 v2918 v3052), ∀ a x, ((![v2918, v3052] : Fin 2 → IVec S16 32) a x).toNat < S160x31.size a := fun v2918 v3052 k0_hw26 => k0_hw26

def k0_chk27 (v2918 : IVec S16 32) (v3055 : IVec S16 32) : Prop :=
  (∀ a x, ((![v2918, v3055] : Fin 2 → IVec S16 32) a x).toNat < S160x39.size a)
theorem k0_idx27_inb : ∀ (v2918 : IVec S16 32) (v3055 : IVec S16 32) (k0_hw27 : k0_chk27 v2918 v3055), ∀ a x, ((![v2918, v3055] : Fin 2 → IVec S16 32) a x).toNat < S160x39.size a := fun v2918 v3055 k0_hw27 => k0_hw27

def k0_chk28 (v2918 : IVec S16 32) (v3059 : IVec S16 32) : Prop :=
  (∀ a x, ((![v2918, v3059] : Fin 2 → IVec S16 32) a x).toNat < S160x31.size a)
theorem k0_idx28_inb : ∀ (v2918 : IVec S16 32) (v3059 : IVec S16 32) (k0_hw28 : k0_chk28 v2918 v3059), ∀ a x, ((![v2918, v3059] : Fin 2 → IVec S16 32) a x).toNat < S160x31.size a := fun v2918 v3059 k0_hw28 => k0_hw28

def k0_chk29 (v2918 : IVec S16 32) (v3062 : IVec S16 32) : Prop :=
  (∀ a x, ((![v2918, v3062] : Fin 2 → IVec S16 32) a x).toNat < S160x39.size a)
theorem k0_idx29_inb : ∀ (v2918 : IVec S16 32) (v3062 : IVec S16 32) (k0_hw29 : k0_chk29 v2918 v3062), ∀ a x, ((![v2918, v3062] : Fin 2 → IVec S16 32) a x).toNat < S160x39.size a := fun v2918 v3062 k0_hw29 => k0_hw29

def k0_chk30 (v2918 : IVec S16 32) (v3066 : IVec S16 32) : Prop :=
  (∀ a x, ((![v2918, v3066] : Fin 2 → IVec S16 32) a x).toNat < S160x31.size a)
theorem k0_idx30_inb : ∀ (v2918 : IVec S16 32) (v3066 : IVec S16 32) (k0_hw30 : k0_chk30 v2918 v3066), ∀ a x, ((![v2918, v3066] : Fin 2 → IVec S16 32) a x).toNat < S160x31.size a := fun v2918 v3066 k0_hw30 => k0_hw30

def k0_chk31 (v2918 : IVec S16 32) (v3069 : IVec S16 32) : Prop :=
  (∀ a x, ((![v2918, v3069] : Fin 2 → IVec S16 32) a x).toNat < S160x39.size a)
theorem k0_idx31_inb : ∀ (v2918 : IVec S16 32) (v3069 : IVec S16 32) (k0_hw31 : k0_chk31 v2918 v3069), ∀ a x, ((![v2918, v3069] : Fin 2 → IVec S16 32) a x).toNat < S160x39.size a := fun v2918 v3069 k0_hw31 => k0_hw31

def k0_chk32 (v2918 : IVec S16 32) (v3073 : IVec S16 32) : Prop :=
  (∀ a x, ((![v2918, v3073] : Fin 2 → IVec S16 32) a x).toNat < S160x31.size a)
theorem k0_idx32_inb : ∀ (v2918 : IVec S16 32) (v3073 : IVec S16 32) (k0_hw32 : k0_chk32 v2918 v3073), ∀ a x, ((![v2918, v3073] : Fin 2 → IVec S16 32) a x).toNat < S160x31.size a := fun v2918 v3073 k0_hw32 => k0_hw32

def k0_chk33 (v2918 : IVec S16 32) (v3076 : IVec S16 32) : Prop :=
  (∀ a x, ((![v2918, v3076] : Fin 2 → IVec S16 32) a x).toNat < S160x39.size a)
theorem k0_idx33_inb : ∀ (v2918 : IVec S16 32) (v3076 : IVec S16 32) (k0_hw33 : k0_chk33 v2918 v3076), ∀ a x, ((![v2918, v3076] : Fin 2 → IVec S16 32) a x).toNat < S160x39.size a := fun v2918 v3076 k0_hw33 => k0_hw33

def k0_chk34 (v2918 : IVec S16 32) (v3080 : IVec S16 32) : Prop :=
  (∀ a x, ((![v2918, v3080] : Fin 2 → IVec S16 32) a x).toNat < S160x31.size a)
theorem k0_idx34_inb : ∀ (v2918 : IVec S16 32) (v3080 : IVec S16 32) (k0_hw34 : k0_chk34 v2918 v3080), ∀ a x, ((![v2918, v3080] : Fin 2 → IVec S16 32) a x).toNat < S160x31.size a := fun v2918 v3080 k0_hw34 => k0_hw34

def k0_chk35 (v2918 : IVec S16 32) (v3083 : IVec S16 32) : Prop :=
  (∀ a x, ((![v2918, v3083] : Fin 2 → IVec S16 32) a x).toNat < S160x39.size a)
theorem k0_idx35_inb : ∀ (v2918 : IVec S16 32) (v3083 : IVec S16 32) (k0_hw35 : k0_chk35 v2918 v3083), ∀ a x, ((![v2918, v3083] : Fin 2 → IVec S16 32) a x).toNat < S160x39.size a := fun v2918 v3083 k0_hw35 => k0_hw35

def k0_chk36 (v2918 : IVec S16 32) (v3087 : IVec S16 32) : Prop :=
  (∀ a x, ((![v2918, v3087] : Fin 2 → IVec S16 32) a x).toNat < S160x31.size a)
theorem k0_idx36_inb : ∀ (v2918 : IVec S16 32) (v3087 : IVec S16 32) (k0_hw36 : k0_chk36 v2918 v3087), ∀ a x, ((![v2918, v3087] : Fin 2 → IVec S16 32) a x).toNat < S160x31.size a := fun v2918 v3087 k0_hw36 => k0_hw36

def k0_chk37 (v2918 : IVec S16 32) (v3090 : IVec S16 32) : Prop :=
  (∀ a x, ((![v2918, v3090] : Fin 2 → IVec S16 32) a x).toNat < S160x39.size a)
theorem k0_idx37_inb : ∀ (v2918 : IVec S16 32) (v3090 : IVec S16 32) (k0_hw37 : k0_chk37 v2918 v3090), ∀ a x, ((![v2918, v3090] : Fin 2 → IVec S16 32) a x).toNat < S160x39.size a := fun v2918 v3090 k0_hw37 => k0_hw37

def k0_chk38 (v2918 : IVec S16 32) (v3094 : IVec S16 32) : Prop :=
  (∀ a x, ((![v2918, v3094] : Fin 2 → IVec S16 32) a x).toNat < S160x31.size a)
theorem k0_idx38_inb : ∀ (v2918 : IVec S16 32) (v3094 : IVec S16 32) (k0_hw38 : k0_chk38 v2918 v3094), ∀ a x, ((![v2918, v3094] : Fin 2 → IVec S16 32) a x).toNat < S160x31.size a := fun v2918 v3094 k0_hw38 => k0_hw38

def k0_chk39 (v2918 : IVec S16 32) (v3097 : IVec S16 32) : Prop :=
  (∀ a x, ((![v2918, v3097] : Fin 2 → IVec S16 32) a x).toNat < S160x39.size a)
theorem k0_idx39_inb : ∀ (v2918 : IVec S16 32) (v3097 : IVec S16 32) (k0_hw39 : k0_chk39 v2918 v3097), ∀ a x, ((![v2918, v3097] : Fin 2 → IVec S16 32) a x).toNat < S160x39.size a := fun v2918 v3097 k0_hw39 => k0_hw39

def k0_chk40 (v2918 : IVec S16 32) (v3101 : IVec S16 32) : Prop :=
  (∀ a x, ((![v2918, v3101] : Fin 2 → IVec S16 32) a x).toNat < S160x31.size a)
theorem k0_idx40_inb : ∀ (v2918 : IVec S16 32) (v3101 : IVec S16 32) (k0_hw40 : k0_chk40 v2918 v3101), ∀ a x, ((![v2918, v3101] : Fin 2 → IVec S16 32) a x).toNat < S160x31.size a := fun v2918 v3101 k0_hw40 => k0_hw40

def k0_chk41 (v2918 : IVec S16 32) (v3104 : IVec S16 32) : Prop :=
  (∀ a x, ((![v2918, v3104] : Fin 2 → IVec S16 32) a x).toNat < S160x39.size a)
theorem k0_idx41_inb : ∀ (v2918 : IVec S16 32) (v3104 : IVec S16 32) (k0_hw41 : k0_chk41 v2918 v3104), ∀ a x, ((![v2918, v3104] : Fin 2 → IVec S16 32) a x).toNat < S160x39.size a := fun v2918 v3104 k0_hw41 => k0_hw41

def k0_chk42 (v2918 : IVec S16 32) (v3108 : IVec S16 32) : Prop :=
  (∀ a x, ((![v2918, v3108] : Fin 2 → IVec S16 32) a x).toNat < S160x31.size a)
theorem k0_idx42_inb : ∀ (v2918 : IVec S16 32) (v3108 : IVec S16 32) (k0_hw42 : k0_chk42 v2918 v3108), ∀ a x, ((![v2918, v3108] : Fin 2 → IVec S16 32) a x).toNat < S160x31.size a := fun v2918 v3108 k0_hw42 => k0_hw42

def k0_chk43 (v2918 : IVec S16 32) (v3111 : IVec S16 32) : Prop :=
  (∀ a x, ((![v2918, v3111] : Fin 2 → IVec S16 32) a x).toNat < S160x39.size a)
theorem k0_idx43_inb : ∀ (v2918 : IVec S16 32) (v3111 : IVec S16 32) (k0_hw43 : k0_chk43 v2918 v3111), ∀ a x, ((![v2918, v3111] : Fin 2 → IVec S16 32) a x).toNat < S160x39.size a := fun v2918 v3111 k0_hw43 => k0_hw43

def k0_chk44 (v2918 : IVec S16 32) (v3115 : IVec S16 32) : Prop :=
  (∀ a x, ((![v2918, v3115] : Fin 2 → IVec S16 32) a x).toNat < S160x31.size a)
theorem k0_idx44_inb : ∀ (v2918 : IVec S16 32) (v3115 : IVec S16 32) (k0_hw44 : k0_chk44 v2918 v3115), ∀ a x, ((![v2918, v3115] : Fin 2 → IVec S16 32) a x).toNat < S160x31.size a := fun v2918 v3115 k0_hw44 => k0_hw44

def k0_chk45 (v2918 : IVec S16 32) (v3118 : IVec S16 32) : Prop :=
  (∀ a x, ((![v2918, v3118] : Fin 2 → IVec S16 32) a x).toNat < S160x39.size a)
theorem k0_idx45_inb : ∀ (v2918 : IVec S16 32) (v3118 : IVec S16 32) (k0_hw45 : k0_chk45 v2918 v3118), ∀ a x, ((![v2918, v3118] : Fin 2 → IVec S16 32) a x).toNat < S160x39.size a := fun v2918 v3118 k0_hw45 => k0_hw45

def k0_chk46 (v2918 : IVec S16 32) (v3122 : IVec S16 32) : Prop :=
  (∀ a x, ((![v2918, v3122] : Fin 2 → IVec S16 32) a x).toNat < S160x31.size a)
theorem k0_idx46_inb : ∀ (v2918 : IVec S16 32) (v3122 : IVec S16 32) (k0_hw46 : k0_chk46 v2918 v3122), ∀ a x, ((![v2918, v3122] : Fin 2 → IVec S16 32) a x).toNat < S160x31.size a := fun v2918 v3122 k0_hw46 => k0_hw46

def k0_chk47 (v2918 : IVec S16 32) (v3125 : IVec S16 32) : Prop :=
  (∀ a x, ((![v2918, v3125] : Fin 2 → IVec S16 32) a x).toNat < S160x39.size a)
theorem k0_idx47_inb : ∀ (v2918 : IVec S16 32) (v3125 : IVec S16 32) (k0_hw47 : k0_chk47 v2918 v3125), ∀ a x, ((![v2918, v3125] : Fin 2 → IVec S16 32) a x).toNat < S160x39.size a := fun v2918 v3125 k0_hw47 => k0_hw47

def k0_chk48 (v2918 : IVec S16 32) (v3129 : IVec S16 32) : Prop :=
  (∀ a x, ((![v2918, v3129] : Fin 2 → IVec S16 32) a x).toNat < S160x31.size a)
theorem k0_idx48_inb : ∀ (v2918 : IVec S16 32) (v3129 : IVec S16 32) (k0_hw48 : k0_chk48 v2918 v3129), ∀ a x, ((![v2918, v3129] : Fin 2 → IVec S16 32) a x).toNat < S160x31.size a := fun v2918 v3129 k0_hw48 => k0_hw48

def k0_chk49 (v2918 : IVec S16 32) (v3132 : IVec S16 32) : Prop :=
  (∀ a x, ((![v2918, v3132] : Fin 2 → IVec S16 32) a x).toNat < S160x39.size a)
theorem k0_idx49_inb : ∀ (v2918 : IVec S16 32) (v3132 : IVec S16 32) (k0_hw49 : k0_chk49 v2918 v3132), ∀ a x, ((![v2918, v3132] : Fin 2 → IVec S16 32) a x).toNat < S160x39.size a := fun v2918 v3132 k0_hw49 => k0_hw49

def k0_chk50 (v2918 : IVec S16 32) (v3136 : IVec S16 32) : Prop :=
  (∀ a x, ((![v2918, v3136] : Fin 2 → IVec S16 32) a x).toNat < S160x31.size a)
theorem k0_idx50_inb : ∀ (v2918 : IVec S16 32) (v3136 : IVec S16 32) (k0_hw50 : k0_chk50 v2918 v3136), ∀ a x, ((![v2918, v3136] : Fin 2 → IVec S16 32) a x).toNat < S160x31.size a := fun v2918 v3136 k0_hw50 => k0_hw50

def k0_chk51 (v2918 : IVec S16 32) (v3139 : IVec S16 32) : Prop :=
  (∀ a x, ((![v2918, v3139] : Fin 2 → IVec S16 32) a x).toNat < S160x39.size a)
theorem k0_idx51_inb : ∀ (v2918 : IVec S16 32) (v3139 : IVec S16 32) (k0_hw51 : k0_chk51 v2918 v3139), ∀ a x, ((![v2918, v3139] : Fin 2 → IVec S16 32) a x).toNat < S160x39.size a := fun v2918 v3139 k0_hw51 => k0_hw51

def k0_chk52 (v2918 : IVec S16 32) (v3143 : IVec S16 32) : Prop :=
  (∀ a x, ((![v2918, v3143] : Fin 2 → IVec S16 32) a x).toNat < S160x31.size a)
theorem k0_idx52_inb : ∀ (v2918 : IVec S16 32) (v3143 : IVec S16 32) (k0_hw52 : k0_chk52 v2918 v3143), ∀ a x, ((![v2918, v3143] : Fin 2 → IVec S16 32) a x).toNat < S160x31.size a := fun v2918 v3143 k0_hw52 => k0_hw52

def k0_chk53 (v2918 : IVec S16 32) (v3146 : IVec S16 32) : Prop :=
  (∀ a x, ((![v2918, v3146] : Fin 2 → IVec S16 32) a x).toNat < S160x39.size a)
theorem k0_idx53_inb : ∀ (v2918 : IVec S16 32) (v3146 : IVec S16 32) (k0_hw53 : k0_chk53 v2918 v3146), ∀ a x, ((![v2918, v3146] : Fin 2 → IVec S16 32) a x).toNat < S160x39.size a := fun v2918 v3146 k0_hw53 => k0_hw53

def k0_chk54 (v2918 : IVec S16 32) (v3150 : IVec S16 32) : Prop :=
  (∀ a x, ((![v2918, v3150] : Fin 2 → IVec S16 32) a x).toNat < S160x31.size a)
theorem k0_idx54_inb : ∀ (v2918 : IVec S16 32) (v3150 : IVec S16 32) (k0_hw54 : k0_chk54 v2918 v3150), ∀ a x, ((![v2918, v3150] : Fin 2 → IVec S16 32) a x).toNat < S160x31.size a := fun v2918 v3150 k0_hw54 => k0_hw54

def k0_chk55 (v2918 : IVec S16 32) (v3153 : IVec S16 32) : Prop :=
  (∀ a x, ((![v2918, v3153] : Fin 2 → IVec S16 32) a x).toNat < S160x39.size a)
theorem k0_idx55_inb : ∀ (v2918 : IVec S16 32) (v3153 : IVec S16 32) (k0_hw55 : k0_chk55 v2918 v3153), ∀ a x, ((![v2918, v3153] : Fin 2 → IVec S16 32) a x).toNat < S160x39.size a := fun v2918 v3153 k0_hw55 => k0_hw55

def k0_chk56 (v2918 : IVec S16 32) (v3157 : IVec S16 32) : Prop :=
  (∀ a x, ((![v2918, v3157] : Fin 2 → IVec S16 32) a x).toNat < S160x31.size a)
theorem k0_idx56_inb : ∀ (v2918 : IVec S16 32) (v3157 : IVec S16 32) (k0_hw56 : k0_chk56 v2918 v3157), ∀ a x, ((![v2918, v3157] : Fin 2 → IVec S16 32) a x).toNat < S160x31.size a := fun v2918 v3157 k0_hw56 => k0_hw56

def k0_chk57 (v2918 : IVec S16 32) (v3160 : IVec S16 32) : Prop :=
  (∀ a x, ((![v2918, v3160] : Fin 2 → IVec S16 32) a x).toNat < S160x39.size a)
theorem k0_idx57_inb : ∀ (v2918 : IVec S16 32) (v3160 : IVec S16 32) (k0_hw57 : k0_chk57 v2918 v3160), ∀ a x, ((![v2918, v3160] : Fin 2 → IVec S16 32) a x).toNat < S160x39.size a := fun v2918 v3160 k0_hw57 => k0_hw57

def k0_chk58 (v2918 : IVec S16 32) (v3164 : IVec S16 32) : Prop :=
  (∀ a x, ((![v2918, v3164] : Fin 2 → IVec S16 32) a x).toNat < S160x31.size a)
theorem k0_idx58_inb : ∀ (v2918 : IVec S16 32) (v3164 : IVec S16 32) (k0_hw58 : k0_chk58 v2918 v3164), ∀ a x, ((![v2918, v3164] : Fin 2 → IVec S16 32) a x).toNat < S160x31.size a := fun v2918 v3164 k0_hw58 => k0_hw58

def k0_chk59 (v2918 : IVec S16 32) (v3167 : IVec S16 32) : Prop :=
  (∀ a x, ((![v2918, v3167] : Fin 2 → IVec S16 32) a x).toNat < S160x39.size a)
theorem k0_idx59_inb : ∀ (v2918 : IVec S16 32) (v3167 : IVec S16 32) (k0_hw59 : k0_chk59 v2918 v3167), ∀ a x, ((![v2918, v3167] : Fin 2 → IVec S16 32) a x).toNat < S160x39.size a := fun v2918 v3167 k0_hw59 => k0_hw59

def k0_chk60 (v2918 : IVec S16 32) (v3171 : IVec S16 32) : Prop :=
  (∀ a x, ((![v2918, v3171] : Fin 2 → IVec S16 32) a x).toNat < S160x31.size a)
theorem k0_idx60_inb : ∀ (v2918 : IVec S16 32) (v3171 : IVec S16 32) (k0_hw60 : k0_chk60 v2918 v3171), ∀ a x, ((![v2918, v3171] : Fin 2 → IVec S16 32) a x).toNat < S160x31.size a := fun v2918 v3171 k0_hw60 => k0_hw60

def k0_chk61 (v2918 : IVec S16 32) (v3174 : IVec S16 32) : Prop :=
  (∀ a x, ((![v2918, v3174] : Fin 2 → IVec S16 32) a x).toNat < S160x39.size a)
theorem k0_idx61_inb : ∀ (v2918 : IVec S16 32) (v3174 : IVec S16 32) (k0_hw61 : k0_chk61 v2918 v3174), ∀ a x, ((![v2918, v3174] : Fin 2 → IVec S16 32) a x).toNat < S160x39.size a := fun v2918 v3174 k0_hw61 => k0_hw61

def k0_chk62 (v2918 : IVec S16 32) (v3178 : IVec S16 32) : Prop :=
  (∀ a x, ((![v2918, v3178] : Fin 2 → IVec S16 32) a x).toNat < S160x31.size a)
theorem k0_idx62_inb : ∀ (v2918 : IVec S16 32) (v3178 : IVec S16 32) (k0_hw62 : k0_chk62 v2918 v3178), ∀ a x, ((![v2918, v3178] : Fin 2 → IVec S16 32) a x).toNat < S160x31.size a := fun v2918 v3178 k0_hw62 => k0_hw62

def k0_chk63 (v2918 : IVec S16 32) (v3181 : IVec S16 32) : Prop :=
  (∀ a x, ((![v2918, v3181] : Fin 2 → IVec S16 32) a x).toNat < S160x39.size a)
theorem k0_idx63_inb : ∀ (v2918 : IVec S16 32) (v3181 : IVec S16 32) (k0_hw63 : k0_chk63 v2918 v3181), ∀ a x, ((![v2918, v3181] : Fin 2 → IVec S16 32) a x).toNat < S160x39.size a := fun v2918 v3181 k0_hw63 => k0_hw63

def k0_chk64 (v2918 : IVec S16 32) (v3185 : IVec S16 32) : Prop :=
  (∀ a x, ((![v2918, v3185] : Fin 2 → IVec S16 32) a x).toNat < S160x31.size a)
theorem k0_idx64_inb : ∀ (v2918 : IVec S16 32) (v3185 : IVec S16 32) (k0_hw64 : k0_chk64 v2918 v3185), ∀ a x, ((![v2918, v3185] : Fin 2 → IVec S16 32) a x).toNat < S160x31.size a := fun v2918 v3185 k0_hw64 => k0_hw64

def k0_chk65 (v2918 : IVec S16 32) (v3188 : IVec S16 32) : Prop :=
  (∀ a x, ((![v2918, v3188] : Fin 2 → IVec S16 32) a x).toNat < S160x39.size a)
theorem k0_idx65_inb : ∀ (v2918 : IVec S16 32) (v3188 : IVec S16 32) (k0_hw65 : k0_chk65 v2918 v3188), ∀ a x, ((![v2918, v3188] : Fin 2 → IVec S16 32) a x).toNat < S160x39.size a := fun v2918 v3188 k0_hw65 => k0_hw65

def k0_chk66 (v2918 : IVec S16 32) (v3192 : IVec S16 32) : Prop :=
  (∀ a x, ((![v2918, v3192] : Fin 2 → IVec S16 32) a x).toNat < S160x31.size a)
theorem k0_idx66_inb : ∀ (v2918 : IVec S16 32) (v3192 : IVec S16 32) (k0_hw66 : k0_chk66 v2918 v3192), ∀ a x, ((![v2918, v3192] : Fin 2 → IVec S16 32) a x).toNat < S160x31.size a := fun v2918 v3192 k0_hw66 => k0_hw66

def k0_chk67 (v2918 : IVec S16 32) (v3195 : IVec S16 32) : Prop :=
  (∀ a x, ((![v2918, v3195] : Fin 2 → IVec S16 32) a x).toNat < S160x39.size a)
theorem k0_idx67_inb : ∀ (v2918 : IVec S16 32) (v3195 : IVec S16 32) (k0_hw67 : k0_chk67 v2918 v3195), ∀ a x, ((![v2918, v3195] : Fin 2 → IVec S16 32) a x).toNat < S160x39.size a := fun v2918 v3195 k0_hw67 => k0_hw67

def k0_chk68 (v2918 : IVec S16 32) (v3199 : IVec S16 32) : Prop :=
  (∀ a x, ((![v2918, v3199] : Fin 2 → IVec S16 32) a x).toNat < S160x31.size a)
theorem k0_idx68_inb : ∀ (v2918 : IVec S16 32) (v3199 : IVec S16 32) (k0_hw68 : k0_chk68 v2918 v3199), ∀ a x, ((![v2918, v3199] : Fin 2 → IVec S16 32) a x).toNat < S160x31.size a := fun v2918 v3199 k0_hw68 => k0_hw68

def k0_chk69 (v3203 : IVec S16 32) (v3204 : IVec S16 32) : Prop :=
  (∀ a x, ((![v3203, v3204] : Fin 2 → IVec S16 32) a x).toNat < S160x39.size a)
theorem k0_idx69_inb : ∀ (v3203 : IVec S16 32) (v3204 : IVec S16 32) (k0_hw69 : k0_chk69 v3203 v3204), ∀ a x, ((![v3203, v3204] : Fin 2 → IVec S16 32) a x).toNat < S160x39.size a := fun v3203 v3204 k0_hw69 => k0_hw69

def k0_chk70 (v3203 : IVec S16 32) (v3208 : IVec S16 32) : Prop :=
  (∀ a x, ((![v3203, v3208] : Fin 2 → IVec S16 32) a x).toNat < S160x39.size a)
theorem k0_idx70_inb : ∀ (v3203 : IVec S16 32) (v3208 : IVec S16 32) (k0_hw70 : k0_chk70 v3203 v3208), ∀ a x, ((![v3203, v3208] : Fin 2 → IVec S16 32) a x).toNat < S160x39.size a := fun v3203 v3208 k0_hw70 => k0_hw70

def k0_chk71 (v3203 : IVec S16 32) (v3212 : IVec S16 32) : Prop :=
  (∀ a x, ((![v3203, v3212] : Fin 2 → IVec S16 32) a x).toNat < S160x39.size a)
theorem k0_idx71_inb : ∀ (v3203 : IVec S16 32) (v3212 : IVec S16 32) (k0_hw71 : k0_chk71 v3203 v3212), ∀ a x, ((![v3203, v3212] : Fin 2 → IVec S16 32) a x).toNat < S160x39.size a := fun v3203 v3212 k0_hw71 => k0_hw71

def k0_chk72 (v3203 : IVec S16 32) (v3216 : IVec S16 32) : Prop :=
  (∀ a x, ((![v3203, v3216] : Fin 2 → IVec S16 32) a x).toNat < S160x39.size a)
theorem k0_idx72_inb : ∀ (v3203 : IVec S16 32) (v3216 : IVec S16 32) (k0_hw72 : k0_chk72 v3203 v3216), ∀ a x, ((![v3203, v3216] : Fin 2 → IVec S16 32) a x).toNat < S160x39.size a := fun v3203 v3216 k0_hw72 => k0_hw72

def k0_chk73 (v3203 : IVec S16 32) (v3221 : IVec S16 32) : Prop :=
  (∀ a x, ((![v3203, v3221] : Fin 2 → IVec S16 32) a x).toNat < S160x39.size a)
theorem k0_idx73_inb : ∀ (v3203 : IVec S16 32) (v3221 : IVec S16 32) (k0_hw73 : k0_chk73 v3203 v3221), ∀ a x, ((![v3203, v3221] : Fin 2 → IVec S16 32) a x).toNat < S160x39.size a := fun v3203 v3221 k0_hw73 => k0_hw73

def k0_chk74 (v3203 : IVec S16 32) (v3225 : IVec S16 32) : Prop :=
  (∀ a x, ((![v3203, v3225] : Fin 2 → IVec S16 32) a x).toNat < S160x39.size a)
theorem k0_idx74_inb : ∀ (v3203 : IVec S16 32) (v3225 : IVec S16 32) (k0_hw74 : k0_chk74 v3203 v3225), ∀ a x, ((![v3203, v3225] : Fin 2 → IVec S16 32) a x).toNat < S160x39.size a := fun v3203 v3225 k0_hw74 => k0_hw74

def k0_chk75 (v3203 : IVec S16 32) (v3230 : IVec S16 32) : Prop :=
  (∀ a x, ((![v3203, v3230] : Fin 2 → IVec S16 32) a x).toNat < S160x39.size a)
theorem k0_idx75_inb : ∀ (v3203 : IVec S16 32) (v3230 : IVec S16 32) (k0_hw75 : k0_chk75 v3203 v3230), ∀ a x, ((![v3203, v3230] : Fin 2 → IVec S16 32) a x).toNat < S160x39.size a := fun v3203 v3230 k0_hw75 => k0_hw75

def k0_chk76 (v3203 : IVec S16 32) (v3238 : IVec S16 32) : Prop :=
  (∀ a x, ((![v3203, v3238] : Fin 2 → IVec S16 32) a x).toNat < S160x39.size a)
theorem k0_idx76_inb : ∀ (v3203 : IVec S16 32) (v3238 : IVec S16 32) (k0_hw76 : k0_chk76 v3203 v3238), ∀ a x, ((![v3203, v3238] : Fin 2 → IVec S16 32) a x).toNat < S160x39.size a := fun v3203 v3238 k0_hw76 => k0_hw76

def k0_chk77 (v3203 : IVec S16 32) (v3246 : IVec S16 32) : Prop :=
  (∀ a x, ((![v3203, v3246] : Fin 2 → IVec S16 32) a x).toNat < S160x31.size a)
theorem k0_idx77_inb : ∀ (v3203 : IVec S16 32) (v3246 : IVec S16 32) (k0_hw77 : k0_chk77 v3203 v3246), ∀ a x, ((![v3203, v3246] : Fin 2 → IVec S16 32) a x).toNat < S160x31.size a := fun v3203 v3246 k0_hw77 => k0_hw77

def k0_chk78 (v3203 : IVec S16 32) (v3249 : IVec S16 32) : Prop :=
  (∀ a x, ((![v3203, v3249] : Fin 2 → IVec S16 32) a x).toNat < S160x31.size a)
theorem k0_idx78_inb : ∀ (v3203 : IVec S16 32) (v3249 : IVec S16 32) (k0_hw78 : k0_chk78 v3203 v3249), ∀ a x, ((![v3203, v3249] : Fin 2 → IVec S16 32) a x).toNat < S160x31.size a := fun v3203 v3249 k0_hw78 => k0_hw78

def k0_chk79 (v3203 : IVec S16 32) (v3252 : IVec S16 32) : Prop :=
  (∀ a x, ((![v3203, v3252] : Fin 2 → IVec S16 32) a x).toNat < S160x39.size a)
theorem k0_idx79_inb : ∀ (v3203 : IVec S16 32) (v3252 : IVec S16 32) (k0_hw79 : k0_chk79 v3203 v3252), ∀ a x, ((![v3203, v3252] : Fin 2 → IVec S16 32) a x).toNat < S160x39.size a := fun v3203 v3252 k0_hw79 => k0_hw79

def k0_chk80 (v3203 : IVec S16 32) (v3260 : IVec S16 32) : Prop :=
  (∀ a x, ((![v3203, v3260] : Fin 2 → IVec S16 32) a x).toNat < S160x39.size a)
theorem k0_idx80_inb : ∀ (v3203 : IVec S16 32) (v3260 : IVec S16 32) (k0_hw80 : k0_chk80 v3203 v3260), ∀ a x, ((![v3203, v3260] : Fin 2 → IVec S16 32) a x).toNat < S160x39.size a := fun v3203 v3260 k0_hw80 => k0_hw80

def k0_chk81 (v3203 : IVec S16 32) (v3268 : IVec S16 32) : Prop :=
  (∀ a x, ((![v3203, v3268] : Fin 2 → IVec S16 32) a x).toNat < S160x31.size a)
theorem k0_idx81_inb : ∀ (v3203 : IVec S16 32) (v3268 : IVec S16 32) (k0_hw81 : k0_chk81 v3203 v3268), ∀ a x, ((![v3203, v3268] : Fin 2 → IVec S16 32) a x).toNat < S160x31.size a := fun v3203 v3268 k0_hw81 => k0_hw81

def k0_chk82 (v3203 : IVec S16 32) (v3271 : IVec S16 32) : Prop :=
  (∀ a x, ((![v3203, v3271] : Fin 2 → IVec S16 32) a x).toNat < S160x31.size a)
theorem k0_idx82_inb : ∀ (v3203 : IVec S16 32) (v3271 : IVec S16 32) (k0_hw82 : k0_chk82 v3203 v3271), ∀ a x, ((![v3203, v3271] : Fin 2 → IVec S16 32) a x).toNat < S160x31.size a := fun v3203 v3271 k0_hw82 => k0_hw82

def k0_chk83 (v3203 : IVec S16 32) (v3274 : IVec S16 32) : Prop :=
  (∀ a x, ((![v3203, v3274] : Fin 2 → IVec S16 32) a x).toNat < S160x39.size a)
theorem k0_idx83_inb : ∀ (v3203 : IVec S16 32) (v3274 : IVec S16 32) (k0_hw83 : k0_chk83 v3203 v3274), ∀ a x, ((![v3203, v3274] : Fin 2 → IVec S16 32) a x).toNat < S160x39.size a := fun v3203 v3274 k0_hw83 => k0_hw83

def k0_chk84 (v3203 : IVec S16 32) (v3282 : IVec S16 32) : Prop :=
  (∀ a x, ((![v3203, v3282] : Fin 2 → IVec S16 32) a x).toNat < S160x39.size a)
theorem k0_idx84_inb : ∀ (v3203 : IVec S16 32) (v3282 : IVec S16 32) (k0_hw84 : k0_chk84 v3203 v3282), ∀ a x, ((![v3203, v3282] : Fin 2 → IVec S16 32) a x).toNat < S160x39.size a := fun v3203 v3282 k0_hw84 => k0_hw84

def k0_chk85 (v3203 : IVec S16 32) (v3290 : IVec S16 32) : Prop :=
  (∀ a x, ((![v3203, v3290] : Fin 2 → IVec S16 32) a x).toNat < S160x31.size a)
theorem k0_idx85_inb : ∀ (v3203 : IVec S16 32) (v3290 : IVec S16 32) (k0_hw85 : k0_chk85 v3203 v3290), ∀ a x, ((![v3203, v3290] : Fin 2 → IVec S16 32) a x).toNat < S160x31.size a := fun v3203 v3290 k0_hw85 => k0_hw85

def k0_chk86 (v3203 : IVec S16 32) (v3293 : IVec S16 32) : Prop :=
  (∀ a x, ((![v3203, v3293] : Fin 2 → IVec S16 32) a x).toNat < S160x31.size a)
theorem k0_idx86_inb : ∀ (v3203 : IVec S16 32) (v3293 : IVec S16 32) (k0_hw86 : k0_chk86 v3203 v3293), ∀ a x, ((![v3203, v3293] : Fin 2 → IVec S16 32) a x).toNat < S160x31.size a := fun v3203 v3293 k0_hw86 => k0_hw86

def k0_chk87 (v3203 : IVec S16 32) (v3296 : IVec S16 32) : Prop :=
  (∀ a x, ((![v3203, v3296] : Fin 2 → IVec S16 32) a x).toNat < S160x39.size a)
theorem k0_idx87_inb : ∀ (v3203 : IVec S16 32) (v3296 : IVec S16 32) (k0_hw87 : k0_chk87 v3203 v3296), ∀ a x, ((![v3203, v3296] : Fin 2 → IVec S16 32) a x).toNat < S160x39.size a := fun v3203 v3296 k0_hw87 => k0_hw87

def k0_chk88 (v3203 : IVec S16 32) (v3304 : IVec S16 32) : Prop :=
  (∀ a x, ((![v3203, v3304] : Fin 2 → IVec S16 32) a x).toNat < S160x39.size a)
theorem k0_idx88_inb : ∀ (v3203 : IVec S16 32) (v3304 : IVec S16 32) (k0_hw88 : k0_chk88 v3203 v3304), ∀ a x, ((![v3203, v3304] : Fin 2 → IVec S16 32) a x).toNat < S160x39.size a := fun v3203 v3304 k0_hw88 => k0_hw88

def k0_chk89 (v3203 : IVec S16 32) (v3312 : IVec S16 32) : Prop :=
  (∀ a x, ((![v3203, v3312] : Fin 2 → IVec S16 32) a x).toNat < S160x31.size a)
theorem k0_idx89_inb : ∀ (v3203 : IVec S16 32) (v3312 : IVec S16 32) (k0_hw89 : k0_chk89 v3203 v3312), ∀ a x, ((![v3203, v3312] : Fin 2 → IVec S16 32) a x).toNat < S160x31.size a := fun v3203 v3312 k0_hw89 => k0_hw89

def k0_chk90 (v3203 : IVec S16 32) (v3315 : IVec S16 32) : Prop :=
  (∀ a x, ((![v3203, v3315] : Fin 2 → IVec S16 32) a x).toNat < S160x31.size a)
theorem k0_idx90_inb : ∀ (v3203 : IVec S16 32) (v3315 : IVec S16 32) (k0_hw90 : k0_chk90 v3203 v3315), ∀ a x, ((![v3203, v3315] : Fin 2 → IVec S16 32) a x).toNat < S160x31.size a := fun v3203 v3315 k0_hw90 => k0_hw90

def k0_chk91 (v3203 : IVec S16 32) (v3318 : IVec S16 32) : Prop :=
  (∀ a x, ((![v3203, v3318] : Fin 2 → IVec S16 32) a x).toNat < S160x39.size a)
theorem k0_idx91_inb : ∀ (v3203 : IVec S16 32) (v3318 : IVec S16 32) (k0_hw91 : k0_chk91 v3203 v3318), ∀ a x, ((![v3203, v3318] : Fin 2 → IVec S16 32) a x).toNat < S160x39.size a := fun v3203 v3318 k0_hw91 => k0_hw91

def k0_chk92 (v3203 : IVec S16 32) (v3326 : IVec S16 32) : Prop :=
  (∀ a x, ((![v3203, v3326] : Fin 2 → IVec S16 32) a x).toNat < S160x39.size a)
theorem k0_idx92_inb : ∀ (v3203 : IVec S16 32) (v3326 : IVec S16 32) (k0_hw92 : k0_chk92 v3203 v3326), ∀ a x, ((![v3203, v3326] : Fin 2 → IVec S16 32) a x).toNat < S160x39.size a := fun v3203 v3326 k0_hw92 => k0_hw92

def k0_chk93 (v3203 : IVec S16 32) (v3334 : IVec S16 32) : Prop :=
  (∀ a x, ((![v3203, v3334] : Fin 2 → IVec S16 32) a x).toNat < S160x31.size a)
theorem k0_idx93_inb : ∀ (v3203 : IVec S16 32) (v3334 : IVec S16 32) (k0_hw93 : k0_chk93 v3203 v3334), ∀ a x, ((![v3203, v3334] : Fin 2 → IVec S16 32) a x).toNat < S160x31.size a := fun v3203 v3334 k0_hw93 => k0_hw93

def k0_chk94 (v3203 : IVec S16 32) (v3337 : IVec S16 32) : Prop :=
  (∀ a x, ((![v3203, v3337] : Fin 2 → IVec S16 32) a x).toNat < S160x31.size a)
theorem k0_idx94_inb : ∀ (v3203 : IVec S16 32) (v3337 : IVec S16 32) (k0_hw94 : k0_chk94 v3203 v3337), ∀ a x, ((![v3203, v3337] : Fin 2 → IVec S16 32) a x).toNat < S160x31.size a := fun v3203 v3337 k0_hw94 => k0_hw94

def k0_chk95 (v3203 : IVec S16 32) (v3340 : IVec S16 32) : Prop :=
  (∀ a x, ((![v3203, v3340] : Fin 2 → IVec S16 32) a x).toNat < S160x39.size a)
theorem k0_idx95_inb : ∀ (v3203 : IVec S16 32) (v3340 : IVec S16 32) (k0_hw95 : k0_chk95 v3203 v3340), ∀ a x, ((![v3203, v3340] : Fin 2 → IVec S16 32) a x).toNat < S160x39.size a := fun v3203 v3340 k0_hw95 => k0_hw95

def k0_chk96 (v3203 : IVec S16 32) (v3344 : IVec S16 32) : Prop :=
  (∀ a x, ((![v3203, v3344] : Fin 2 → IVec S16 32) a x).toNat < S160x31.size a)
theorem k0_idx96_inb : ∀ (v3203 : IVec S16 32) (v3344 : IVec S16 32) (k0_hw96 : k0_chk96 v3203 v3344), ∀ a x, ((![v3203, v3344] : Fin 2 → IVec S16 32) a x).toNat < S160x31.size a := fun v3203 v3344 k0_hw96 => k0_hw96

def k0_chk97 (v3203 : IVec S16 32) (v3347 : IVec S16 32) : Prop :=
  (∀ a x, ((![v3203, v3347] : Fin 2 → IVec S16 32) a x).toNat < S160x39.size a)
theorem k0_idx97_inb : ∀ (v3203 : IVec S16 32) (v3347 : IVec S16 32) (k0_hw97 : k0_chk97 v3203 v3347), ∀ a x, ((![v3203, v3347] : Fin 2 → IVec S16 32) a x).toNat < S160x39.size a := fun v3203 v3347 k0_hw97 => k0_hw97

def k0_chk98 (v3203 : IVec S16 32) (v3351 : IVec S16 32) : Prop :=
  (∀ a x, ((![v3203, v3351] : Fin 2 → IVec S16 32) a x).toNat < S160x31.size a)
theorem k0_idx98_inb : ∀ (v3203 : IVec S16 32) (v3351 : IVec S16 32) (k0_hw98 : k0_chk98 v3203 v3351), ∀ a x, ((![v3203, v3351] : Fin 2 → IVec S16 32) a x).toNat < S160x31.size a := fun v3203 v3351 k0_hw98 => k0_hw98

def k0_chk99 (v3203 : IVec S16 32) (v3354 : IVec S16 32) : Prop :=
  (∀ a x, ((![v3203, v3354] : Fin 2 → IVec S16 32) a x).toNat < S160x39.size a)
theorem k0_idx99_inb : ∀ (v3203 : IVec S16 32) (v3354 : IVec S16 32) (k0_hw99 : k0_chk99 v3203 v3354), ∀ a x, ((![v3203, v3354] : Fin 2 → IVec S16 32) a x).toNat < S160x39.size a := fun v3203 v3354 k0_hw99 => k0_hw99

def k0_chk100 (v3203 : IVec S16 32) (v3358 : IVec S16 32) : Prop :=
  (∀ a x, ((![v3203, v3358] : Fin 2 → IVec S16 32) a x).toNat < S160x31.size a)
theorem k0_idx100_inb : ∀ (v3203 : IVec S16 32) (v3358 : IVec S16 32) (k0_hw100 : k0_chk100 v3203 v3358), ∀ a x, ((![v3203, v3358] : Fin 2 → IVec S16 32) a x).toNat < S160x31.size a := fun v3203 v3358 k0_hw100 => k0_hw100

def k0_chk101 (v3203 : IVec S16 32) (v3361 : IVec S16 32) : Prop :=
  (∀ a x, ((![v3203, v3361] : Fin 2 → IVec S16 32) a x).toNat < S160x39.size a)
theorem k0_idx101_inb : ∀ (v3203 : IVec S16 32) (v3361 : IVec S16 32) (k0_hw101 : k0_chk101 v3203 v3361), ∀ a x, ((![v3203, v3361] : Fin 2 → IVec S16 32) a x).toNat < S160x39.size a := fun v3203 v3361 k0_hw101 => k0_hw101

def k0_chk102 (v3203 : IVec S16 32) (v3365 : IVec S16 32) : Prop :=
  (∀ a x, ((![v3203, v3365] : Fin 2 → IVec S16 32) a x).toNat < S160x31.size a)
theorem k0_idx102_inb : ∀ (v3203 : IVec S16 32) (v3365 : IVec S16 32) (k0_hw102 : k0_chk102 v3203 v3365), ∀ a x, ((![v3203, v3365] : Fin 2 → IVec S16 32) a x).toNat < S160x31.size a := fun v3203 v3365 k0_hw102 => k0_hw102

def k0_chk103 (v3203 : IVec S16 32) (v3368 : IVec S16 32) : Prop :=
  (∀ a x, ((![v3203, v3368] : Fin 2 → IVec S16 32) a x).toNat < S160x39.size a)
theorem k0_idx103_inb : ∀ (v3203 : IVec S16 32) (v3368 : IVec S16 32) (k0_hw103 : k0_chk103 v3203 v3368), ∀ a x, ((![v3203, v3368] : Fin 2 → IVec S16 32) a x).toNat < S160x39.size a := fun v3203 v3368 k0_hw103 => k0_hw103

def k0_chk104 (v3203 : IVec S16 32) (v3372 : IVec S16 32) : Prop :=
  (∀ a x, ((![v3203, v3372] : Fin 2 → IVec S16 32) a x).toNat < S160x31.size a)
theorem k0_idx104_inb : ∀ (v3203 : IVec S16 32) (v3372 : IVec S16 32) (k0_hw104 : k0_chk104 v3203 v3372), ∀ a x, ((![v3203, v3372] : Fin 2 → IVec S16 32) a x).toNat < S160x31.size a := fun v3203 v3372 k0_hw104 => k0_hw104

def k0_chk105 (v3203 : IVec S16 32) (v3375 : IVec S16 32) : Prop :=
  (∀ a x, ((![v3203, v3375] : Fin 2 → IVec S16 32) a x).toNat < S160x39.size a)
theorem k0_idx105_inb : ∀ (v3203 : IVec S16 32) (v3375 : IVec S16 32) (k0_hw105 : k0_chk105 v3203 v3375), ∀ a x, ((![v3203, v3375] : Fin 2 → IVec S16 32) a x).toNat < S160x39.size a := fun v3203 v3375 k0_hw105 => k0_hw105

def k0_chk106 (v3203 : IVec S16 32) (v3379 : IVec S16 32) : Prop :=
  (∀ a x, ((![v3203, v3379] : Fin 2 → IVec S16 32) a x).toNat < S160x31.size a)
theorem k0_idx106_inb : ∀ (v3203 : IVec S16 32) (v3379 : IVec S16 32) (k0_hw106 : k0_chk106 v3203 v3379), ∀ a x, ((![v3203, v3379] : Fin 2 → IVec S16 32) a x).toNat < S160x31.size a := fun v3203 v3379 k0_hw106 => k0_hw106

def k0_chk107 (v3203 : IVec S16 32) (v3382 : IVec S16 32) : Prop :=
  (∀ a x, ((![v3203, v3382] : Fin 2 → IVec S16 32) a x).toNat < S160x39.size a)
theorem k0_idx107_inb : ∀ (v3203 : IVec S16 32) (v3382 : IVec S16 32) (k0_hw107 : k0_chk107 v3203 v3382), ∀ a x, ((![v3203, v3382] : Fin 2 → IVec S16 32) a x).toNat < S160x39.size a := fun v3203 v3382 k0_hw107 => k0_hw107

def k0_chk108 (v3203 : IVec S16 32) (v3386 : IVec S16 32) : Prop :=
  (∀ a x, ((![v3203, v3386] : Fin 2 → IVec S16 32) a x).toNat < S160x31.size a)
theorem k0_idx108_inb : ∀ (v3203 : IVec S16 32) (v3386 : IVec S16 32) (k0_hw108 : k0_chk108 v3203 v3386), ∀ a x, ((![v3203, v3386] : Fin 2 → IVec S16 32) a x).toNat < S160x31.size a := fun v3203 v3386 k0_hw108 => k0_hw108

def k0_chk109 (v3203 : IVec S16 32) (v3389 : IVec S16 32) : Prop :=
  (∀ a x, ((![v3203, v3389] : Fin 2 → IVec S16 32) a x).toNat < S160x39.size a)
theorem k0_idx109_inb : ∀ (v3203 : IVec S16 32) (v3389 : IVec S16 32) (k0_hw109 : k0_chk109 v3203 v3389), ∀ a x, ((![v3203, v3389] : Fin 2 → IVec S16 32) a x).toNat < S160x39.size a := fun v3203 v3389 k0_hw109 => k0_hw109

def k0_chk110 (v3203 : IVec S16 32) (v3393 : IVec S16 32) : Prop :=
  (∀ a x, ((![v3203, v3393] : Fin 2 → IVec S16 32) a x).toNat < S160x31.size a)
theorem k0_idx110_inb : ∀ (v3203 : IVec S16 32) (v3393 : IVec S16 32) (k0_hw110 : k0_chk110 v3203 v3393), ∀ a x, ((![v3203, v3393] : Fin 2 → IVec S16 32) a x).toNat < S160x31.size a := fun v3203 v3393 k0_hw110 => k0_hw110

def k0_chk111 (v3203 : IVec S16 32) (v3396 : IVec S16 32) : Prop :=
  (∀ a x, ((![v3203, v3396] : Fin 2 → IVec S16 32) a x).toNat < S160x39.size a)
theorem k0_idx111_inb : ∀ (v3203 : IVec S16 32) (v3396 : IVec S16 32) (k0_hw111 : k0_chk111 v3203 v3396), ∀ a x, ((![v3203, v3396] : Fin 2 → IVec S16 32) a x).toNat < S160x39.size a := fun v3203 v3396 k0_hw111 => k0_hw111

def k0_chk112 (v3203 : IVec S16 32) (v3400 : IVec S16 32) : Prop :=
  (∀ a x, ((![v3203, v3400] : Fin 2 → IVec S16 32) a x).toNat < S160x31.size a)
theorem k0_idx112_inb : ∀ (v3203 : IVec S16 32) (v3400 : IVec S16 32) (k0_hw112 : k0_chk112 v3203 v3400), ∀ a x, ((![v3203, v3400] : Fin 2 → IVec S16 32) a x).toNat < S160x31.size a := fun v3203 v3400 k0_hw112 => k0_hw112

def k0_chk113 (v3203 : IVec S16 32) (v3403 : IVec S16 32) : Prop :=
  (∀ a x, ((![v3203, v3403] : Fin 2 → IVec S16 32) a x).toNat < S160x39.size a)
theorem k0_idx113_inb : ∀ (v3203 : IVec S16 32) (v3403 : IVec S16 32) (k0_hw113 : k0_chk113 v3203 v3403), ∀ a x, ((![v3203, v3403] : Fin 2 → IVec S16 32) a x).toNat < S160x39.size a := fun v3203 v3403 k0_hw113 => k0_hw113

def k0_chk114 (v3203 : IVec S16 32) (v3407 : IVec S16 32) : Prop :=
  (∀ a x, ((![v3203, v3407] : Fin 2 → IVec S16 32) a x).toNat < S160x31.size a)
theorem k0_idx114_inb : ∀ (v3203 : IVec S16 32) (v3407 : IVec S16 32) (k0_hw114 : k0_chk114 v3203 v3407), ∀ a x, ((![v3203, v3407] : Fin 2 → IVec S16 32) a x).toNat < S160x31.size a := fun v3203 v3407 k0_hw114 => k0_hw114

def k0_chk115 (v3203 : IVec S16 32) (v3410 : IVec S16 32) : Prop :=
  (∀ a x, ((![v3203, v3410] : Fin 2 → IVec S16 32) a x).toNat < S160x39.size a)
theorem k0_idx115_inb : ∀ (v3203 : IVec S16 32) (v3410 : IVec S16 32) (k0_hw115 : k0_chk115 v3203 v3410), ∀ a x, ((![v3203, v3410] : Fin 2 → IVec S16 32) a x).toNat < S160x39.size a := fun v3203 v3410 k0_hw115 => k0_hw115

def k0_chk116 (v3203 : IVec S16 32) (v3414 : IVec S16 32) : Prop :=
  (∀ a x, ((![v3203, v3414] : Fin 2 → IVec S16 32) a x).toNat < S160x31.size a)
theorem k0_idx116_inb : ∀ (v3203 : IVec S16 32) (v3414 : IVec S16 32) (k0_hw116 : k0_chk116 v3203 v3414), ∀ a x, ((![v3203, v3414] : Fin 2 → IVec S16 32) a x).toNat < S160x31.size a := fun v3203 v3414 k0_hw116 => k0_hw116

def k0_chk117 (v3203 : IVec S16 32) (v3417 : IVec S16 32) : Prop :=
  (∀ a x, ((![v3203, v3417] : Fin 2 → IVec S16 32) a x).toNat < S160x39.size a)
theorem k0_idx117_inb : ∀ (v3203 : IVec S16 32) (v3417 : IVec S16 32) (k0_hw117 : k0_chk117 v3203 v3417), ∀ a x, ((![v3203, v3417] : Fin 2 → IVec S16 32) a x).toNat < S160x39.size a := fun v3203 v3417 k0_hw117 => k0_hw117

def k0_chk118 (v3203 : IVec S16 32) (v3421 : IVec S16 32) : Prop :=
  (∀ a x, ((![v3203, v3421] : Fin 2 → IVec S16 32) a x).toNat < S160x31.size a)
theorem k0_idx118_inb : ∀ (v3203 : IVec S16 32) (v3421 : IVec S16 32) (k0_hw118 : k0_chk118 v3203 v3421), ∀ a x, ((![v3203, v3421] : Fin 2 → IVec S16 32) a x).toNat < S160x31.size a := fun v3203 v3421 k0_hw118 => k0_hw118

def k0_chk119 (v3203 : IVec S16 32) (v3424 : IVec S16 32) : Prop :=
  (∀ a x, ((![v3203, v3424] : Fin 2 → IVec S16 32) a x).toNat < S160x39.size a)
theorem k0_idx119_inb : ∀ (v3203 : IVec S16 32) (v3424 : IVec S16 32) (k0_hw119 : k0_chk119 v3203 v3424), ∀ a x, ((![v3203, v3424] : Fin 2 → IVec S16 32) a x).toNat < S160x39.size a := fun v3203 v3424 k0_hw119 => k0_hw119

def k0_chk120 (v3203 : IVec S16 32) (v3428 : IVec S16 32) : Prop :=
  (∀ a x, ((![v3203, v3428] : Fin 2 → IVec S16 32) a x).toNat < S160x31.size a)
theorem k0_idx120_inb : ∀ (v3203 : IVec S16 32) (v3428 : IVec S16 32) (k0_hw120 : k0_chk120 v3203 v3428), ∀ a x, ((![v3203, v3428] : Fin 2 → IVec S16 32) a x).toNat < S160x31.size a := fun v3203 v3428 k0_hw120 => k0_hw120

def k0_chk121 (v3203 : IVec S16 32) (v3431 : IVec S16 32) : Prop :=
  (∀ a x, ((![v3203, v3431] : Fin 2 → IVec S16 32) a x).toNat < S160x39.size a)
theorem k0_idx121_inb : ∀ (v3203 : IVec S16 32) (v3431 : IVec S16 32) (k0_hw121 : k0_chk121 v3203 v3431), ∀ a x, ((![v3203, v3431] : Fin 2 → IVec S16 32) a x).toNat < S160x39.size a := fun v3203 v3431 k0_hw121 => k0_hw121

def k0_chk122 (v3203 : IVec S16 32) (v3435 : IVec S16 32) : Prop :=
  (∀ a x, ((![v3203, v3435] : Fin 2 → IVec S16 32) a x).toNat < S160x31.size a)
theorem k0_idx122_inb : ∀ (v3203 : IVec S16 32) (v3435 : IVec S16 32) (k0_hw122 : k0_chk122 v3203 v3435), ∀ a x, ((![v3203, v3435] : Fin 2 → IVec S16 32) a x).toNat < S160x31.size a := fun v3203 v3435 k0_hw122 => k0_hw122

def k0_chk123 (v3203 : IVec S16 32) (v3438 : IVec S16 32) : Prop :=
  (∀ a x, ((![v3203, v3438] : Fin 2 → IVec S16 32) a x).toNat < S160x39.size a)
theorem k0_idx123_inb : ∀ (v3203 : IVec S16 32) (v3438 : IVec S16 32) (k0_hw123 : k0_chk123 v3203 v3438), ∀ a x, ((![v3203, v3438] : Fin 2 → IVec S16 32) a x).toNat < S160x39.size a := fun v3203 v3438 k0_hw123 => k0_hw123

def k0_chk124 (v3203 : IVec S16 32) (v3442 : IVec S16 32) : Prop :=
  (∀ a x, ((![v3203, v3442] : Fin 2 → IVec S16 32) a x).toNat < S160x31.size a)
theorem k0_idx124_inb : ∀ (v3203 : IVec S16 32) (v3442 : IVec S16 32) (k0_hw124 : k0_chk124 v3203 v3442), ∀ a x, ((![v3203, v3442] : Fin 2 → IVec S16 32) a x).toNat < S160x31.size a := fun v3203 v3442 k0_hw124 => k0_hw124

def k0_chk125 (v3203 : IVec S16 32) (v3445 : IVec S16 32) : Prop :=
  (∀ a x, ((![v3203, v3445] : Fin 2 → IVec S16 32) a x).toNat < S160x39.size a)
theorem k0_idx125_inb : ∀ (v3203 : IVec S16 32) (v3445 : IVec S16 32) (k0_hw125 : k0_chk125 v3203 v3445), ∀ a x, ((![v3203, v3445] : Fin 2 → IVec S16 32) a x).toNat < S160x39.size a := fun v3203 v3445 k0_hw125 => k0_hw125

def k0_chk126 (v3203 : IVec S16 32) (v3449 : IVec S16 32) : Prop :=
  (∀ a x, ((![v3203, v3449] : Fin 2 → IVec S16 32) a x).toNat < S160x31.size a)
theorem k0_idx126_inb : ∀ (v3203 : IVec S16 32) (v3449 : IVec S16 32) (k0_hw126 : k0_chk126 v3203 v3449), ∀ a x, ((![v3203, v3449] : Fin 2 → IVec S16 32) a x).toNat < S160x31.size a := fun v3203 v3449 k0_hw126 => k0_hw126

def k0_chk127 (v3203 : IVec S16 32) (v3452 : IVec S16 32) : Prop :=
  (∀ a x, ((![v3203, v3452] : Fin 2 → IVec S16 32) a x).toNat < S160x39.size a)
theorem k0_idx127_inb : ∀ (v3203 : IVec S16 32) (v3452 : IVec S16 32) (k0_hw127 : k0_chk127 v3203 v3452), ∀ a x, ((![v3203, v3452] : Fin 2 → IVec S16 32) a x).toNat < S160x39.size a := fun v3203 v3452 k0_hw127 => k0_hw127

def k0_chk128 (v3203 : IVec S16 32) (v3456 : IVec S16 32) : Prop :=
  (∀ a x, ((![v3203, v3456] : Fin 2 → IVec S16 32) a x).toNat < S160x31.size a)
theorem k0_idx128_inb : ∀ (v3203 : IVec S16 32) (v3456 : IVec S16 32) (k0_hw128 : k0_chk128 v3203 v3456), ∀ a x, ((![v3203, v3456] : Fin 2 → IVec S16 32) a x).toNat < S160x31.size a := fun v3203 v3456 k0_hw128 => k0_hw128

def k0_chk129 (v3203 : IVec S16 32) (v3459 : IVec S16 32) : Prop :=
  (∀ a x, ((![v3203, v3459] : Fin 2 → IVec S16 32) a x).toNat < S160x39.size a)
theorem k0_idx129_inb : ∀ (v3203 : IVec S16 32) (v3459 : IVec S16 32) (k0_hw129 : k0_chk129 v3203 v3459), ∀ a x, ((![v3203, v3459] : Fin 2 → IVec S16 32) a x).toNat < S160x39.size a := fun v3203 v3459 k0_hw129 => k0_hw129

def k0_chk130 (v3203 : IVec S16 32) (v3463 : IVec S16 32) : Prop :=
  (∀ a x, ((![v3203, v3463] : Fin 2 → IVec S16 32) a x).toNat < S160x31.size a)
theorem k0_idx130_inb : ∀ (v3203 : IVec S16 32) (v3463 : IVec S16 32) (k0_hw130 : k0_chk130 v3203 v3463), ∀ a x, ((![v3203, v3463] : Fin 2 → IVec S16 32) a x).toNat < S160x31.size a := fun v3203 v3463 k0_hw130 => k0_hw130

def k0_chk131 (v3203 : IVec S16 32) (v3466 : IVec S16 32) : Prop :=
  (∀ a x, ((![v3203, v3466] : Fin 2 → IVec S16 32) a x).toNat < S160x39.size a)
theorem k0_idx131_inb : ∀ (v3203 : IVec S16 32) (v3466 : IVec S16 32) (k0_hw131 : k0_chk131 v3203 v3466), ∀ a x, ((![v3203, v3466] : Fin 2 → IVec S16 32) a x).toNat < S160x39.size a := fun v3203 v3466 k0_hw131 => k0_hw131

def k0_chk132 (v3203 : IVec S16 32) (v3470 : IVec S16 32) : Prop :=
  (∀ a x, ((![v3203, v3470] : Fin 2 → IVec S16 32) a x).toNat < S160x31.size a)
theorem k0_idx132_inb : ∀ (v3203 : IVec S16 32) (v3470 : IVec S16 32) (k0_hw132 : k0_chk132 v3203 v3470), ∀ a x, ((![v3203, v3470] : Fin 2 → IVec S16 32) a x).toNat < S160x31.size a := fun v3203 v3470 k0_hw132 => k0_hw132

def k0_chk133 (v3203 : IVec S16 32) (v3473 : IVec S16 32) : Prop :=
  (∀ a x, ((![v3203, v3473] : Fin 2 → IVec S16 32) a x).toNat < S160x39.size a)
theorem k0_idx133_inb : ∀ (v3203 : IVec S16 32) (v3473 : IVec S16 32) (k0_hw133 : k0_chk133 v3203 v3473), ∀ a x, ((![v3203, v3473] : Fin 2 → IVec S16 32) a x).toNat < S160x39.size a := fun v3203 v3473 k0_hw133 => k0_hw133

def k0_chk134 (v3203 : IVec S16 32) (v3477 : IVec S16 32) : Prop :=
  (∀ a x, ((![v3203, v3477] : Fin 2 → IVec S16 32) a x).toNat < S160x31.size a)
theorem k0_idx134_inb : ∀ (v3203 : IVec S16 32) (v3477 : IVec S16 32) (k0_hw134 : k0_chk134 v3203 v3477), ∀ a x, ((![v3203, v3477] : Fin 2 → IVec S16 32) a x).toNat < S160x31.size a := fun v3203 v3477 k0_hw134 => k0_hw134

def k0_chk135 (v3203 : IVec S16 32) (v3480 : IVec S16 32) : Prop :=
  (∀ a x, ((![v3203, v3480] : Fin 2 → IVec S16 32) a x).toNat < S160x39.size a)
theorem k0_idx135_inb : ∀ (v3203 : IVec S16 32) (v3480 : IVec S16 32) (k0_hw135 : k0_chk135 v3203 v3480), ∀ a x, ((![v3203, v3480] : Fin 2 → IVec S16 32) a x).toNat < S160x39.size a := fun v3203 v3480 k0_hw135 => k0_hw135

def k0_chk136 (v3203 : IVec S16 32) (v3484 : IVec S16 32) : Prop :=
  (∀ a x, ((![v3203, v3484] : Fin 2 → IVec S16 32) a x).toNat < S160x31.size a)
theorem k0_idx136_inb : ∀ (v3203 : IVec S16 32) (v3484 : IVec S16 32) (k0_hw136 : k0_chk136 v3203 v3484), ∀ a x, ((![v3203, v3484] : Fin 2 → IVec S16 32) a x).toNat < S160x31.size a := fun v3203 v3484 k0_hw136 => k0_hw136

def k0_chk137 (v3488 : IVec S16 32) (v3489 : IVec S16 32) : Prop :=
  (∀ a x, ((![v3488, v3489] : Fin 2 → IVec S16 32) a x).toNat < S160x39.size a)
theorem k0_idx137_inb : ∀ (v3488 : IVec S16 32) (v3489 : IVec S16 32) (k0_hw137 : k0_chk137 v3488 v3489), ∀ a x, ((![v3488, v3489] : Fin 2 → IVec S16 32) a x).toNat < S160x39.size a := fun v3488 v3489 k0_hw137 => k0_hw137

def k0_chk138 (v3488 : IVec S16 32) (v3493 : IVec S16 32) : Prop :=
  (∀ a x, ((![v3488, v3493] : Fin 2 → IVec S16 32) a x).toNat < S160x39.size a)
theorem k0_idx138_inb : ∀ (v3488 : IVec S16 32) (v3493 : IVec S16 32) (k0_hw138 : k0_chk138 v3488 v3493), ∀ a x, ((![v3488, v3493] : Fin 2 → IVec S16 32) a x).toNat < S160x39.size a := fun v3488 v3493 k0_hw138 => k0_hw138

def k0_chk139 (v3488 : IVec S16 32) (v3497 : IVec S16 32) : Prop :=
  (∀ a x, ((![v3488, v3497] : Fin 2 → IVec S16 32) a x).toNat < S160x39.size a)
theorem k0_idx139_inb : ∀ (v3488 : IVec S16 32) (v3497 : IVec S16 32) (k0_hw139 : k0_chk139 v3488 v3497), ∀ a x, ((![v3488, v3497] : Fin 2 → IVec S16 32) a x).toNat < S160x39.size a := fun v3488 v3497 k0_hw139 => k0_hw139

def k0_chk140 (v3488 : IVec S16 32) (v3501 : IVec S16 32) : Prop :=
  (∀ a x, ((![v3488, v3501] : Fin 2 → IVec S16 32) a x).toNat < S160x39.size a)
theorem k0_idx140_inb : ∀ (v3488 : IVec S16 32) (v3501 : IVec S16 32) (k0_hw140 : k0_chk140 v3488 v3501), ∀ a x, ((![v3488, v3501] : Fin 2 → IVec S16 32) a x).toNat < S160x39.size a := fun v3488 v3501 k0_hw140 => k0_hw140

def k0_chk141 (v3488 : IVec S16 32) (v3506 : IVec S16 32) : Prop :=
  (∀ a x, ((![v3488, v3506] : Fin 2 → IVec S16 32) a x).toNat < S160x39.size a)
theorem k0_idx141_inb : ∀ (v3488 : IVec S16 32) (v3506 : IVec S16 32) (k0_hw141 : k0_chk141 v3488 v3506), ∀ a x, ((![v3488, v3506] : Fin 2 → IVec S16 32) a x).toNat < S160x39.size a := fun v3488 v3506 k0_hw141 => k0_hw141

def k0_chk142 (v3488 : IVec S16 32) (v3510 : IVec S16 32) : Prop :=
  (∀ a x, ((![v3488, v3510] : Fin 2 → IVec S16 32) a x).toNat < S160x39.size a)
theorem k0_idx142_inb : ∀ (v3488 : IVec S16 32) (v3510 : IVec S16 32) (k0_hw142 : k0_chk142 v3488 v3510), ∀ a x, ((![v3488, v3510] : Fin 2 → IVec S16 32) a x).toNat < S160x39.size a := fun v3488 v3510 k0_hw142 => k0_hw142

def k0_chk143 (v3488 : IVec S16 32) (v3515 : IVec S16 32) : Prop :=
  (∀ a x, ((![v3488, v3515] : Fin 2 → IVec S16 32) a x).toNat < S160x39.size a)
theorem k0_idx143_inb : ∀ (v3488 : IVec S16 32) (v3515 : IVec S16 32) (k0_hw143 : k0_chk143 v3488 v3515), ∀ a x, ((![v3488, v3515] : Fin 2 → IVec S16 32) a x).toNat < S160x39.size a := fun v3488 v3515 k0_hw143 => k0_hw143

def k0_chk144 (v3488 : IVec S16 32) (v3523 : IVec S16 32) : Prop :=
  (∀ a x, ((![v3488, v3523] : Fin 2 → IVec S16 32) a x).toNat < S160x39.size a)
theorem k0_idx144_inb : ∀ (v3488 : IVec S16 32) (v3523 : IVec S16 32) (k0_hw144 : k0_chk144 v3488 v3523), ∀ a x, ((![v3488, v3523] : Fin 2 → IVec S16 32) a x).toNat < S160x39.size a := fun v3488 v3523 k0_hw144 => k0_hw144

def k0_chk145 (v3488 : IVec S16 32) (v3531 : IVec S16 32) : Prop :=
  (∀ a x, ((![v3488, v3531] : Fin 2 → IVec S16 32) a x).toNat < S160x31.size a)
theorem k0_idx145_inb : ∀ (v3488 : IVec S16 32) (v3531 : IVec S16 32) (k0_hw145 : k0_chk145 v3488 v3531), ∀ a x, ((![v3488, v3531] : Fin 2 → IVec S16 32) a x).toNat < S160x31.size a := fun v3488 v3531 k0_hw145 => k0_hw145

def k0_chk146 (v3488 : IVec S16 32) (v3534 : IVec S16 32) : Prop :=
  (∀ a x, ((![v3488, v3534] : Fin 2 → IVec S16 32) a x).toNat < S160x31.size a)
theorem k0_idx146_inb : ∀ (v3488 : IVec S16 32) (v3534 : IVec S16 32) (k0_hw146 : k0_chk146 v3488 v3534), ∀ a x, ((![v3488, v3534] : Fin 2 → IVec S16 32) a x).toNat < S160x31.size a := fun v3488 v3534 k0_hw146 => k0_hw146

def k0_chk147 (v3488 : IVec S16 32) (v3537 : IVec S16 32) : Prop :=
  (∀ a x, ((![v3488, v3537] : Fin 2 → IVec S16 32) a x).toNat < S160x39.size a)
theorem k0_idx147_inb : ∀ (v3488 : IVec S16 32) (v3537 : IVec S16 32) (k0_hw147 : k0_chk147 v3488 v3537), ∀ a x, ((![v3488, v3537] : Fin 2 → IVec S16 32) a x).toNat < S160x39.size a := fun v3488 v3537 k0_hw147 => k0_hw147

def k0_chk148 (v3488 : IVec S16 32) (v3545 : IVec S16 32) : Prop :=
  (∀ a x, ((![v3488, v3545] : Fin 2 → IVec S16 32) a x).toNat < S160x39.size a)
theorem k0_idx148_inb : ∀ (v3488 : IVec S16 32) (v3545 : IVec S16 32) (k0_hw148 : k0_chk148 v3488 v3545), ∀ a x, ((![v3488, v3545] : Fin 2 → IVec S16 32) a x).toNat < S160x39.size a := fun v3488 v3545 k0_hw148 => k0_hw148

def k0_chk149 (v3488 : IVec S16 32) (v3553 : IVec S16 32) : Prop :=
  (∀ a x, ((![v3488, v3553] : Fin 2 → IVec S16 32) a x).toNat < S160x31.size a)
theorem k0_idx149_inb : ∀ (v3488 : IVec S16 32) (v3553 : IVec S16 32) (k0_hw149 : k0_chk149 v3488 v3553), ∀ a x, ((![v3488, v3553] : Fin 2 → IVec S16 32) a x).toNat < S160x31.size a := fun v3488 v3553 k0_hw149 => k0_hw149

def k0_chk150 (v3488 : IVec S16 32) (v3556 : IVec S16 32) : Prop :=
  (∀ a x, ((![v3488, v3556] : Fin 2 → IVec S16 32) a x).toNat < S160x31.size a)
theorem k0_idx150_inb : ∀ (v3488 : IVec S16 32) (v3556 : IVec S16 32) (k0_hw150 : k0_chk150 v3488 v3556), ∀ a x, ((![v3488, v3556] : Fin 2 → IVec S16 32) a x).toNat < S160x31.size a := fun v3488 v3556 k0_hw150 => k0_hw150

def k0_chk151 (v3488 : IVec S16 32) (v3559 : IVec S16 32) : Prop :=
  (∀ a x, ((![v3488, v3559] : Fin 2 → IVec S16 32) a x).toNat < S160x39.size a)
theorem k0_idx151_inb : ∀ (v3488 : IVec S16 32) (v3559 : IVec S16 32) (k0_hw151 : k0_chk151 v3488 v3559), ∀ a x, ((![v3488, v3559] : Fin 2 → IVec S16 32) a x).toNat < S160x39.size a := fun v3488 v3559 k0_hw151 => k0_hw151

def k0_chk152 (v3488 : IVec S16 32) (v3567 : IVec S16 32) : Prop :=
  (∀ a x, ((![v3488, v3567] : Fin 2 → IVec S16 32) a x).toNat < S160x39.size a)
theorem k0_idx152_inb : ∀ (v3488 : IVec S16 32) (v3567 : IVec S16 32) (k0_hw152 : k0_chk152 v3488 v3567), ∀ a x, ((![v3488, v3567] : Fin 2 → IVec S16 32) a x).toNat < S160x39.size a := fun v3488 v3567 k0_hw152 => k0_hw152

def k0_chk153 (v3488 : IVec S16 32) (v3575 : IVec S16 32) : Prop :=
  (∀ a x, ((![v3488, v3575] : Fin 2 → IVec S16 32) a x).toNat < S160x31.size a)
theorem k0_idx153_inb : ∀ (v3488 : IVec S16 32) (v3575 : IVec S16 32) (k0_hw153 : k0_chk153 v3488 v3575), ∀ a x, ((![v3488, v3575] : Fin 2 → IVec S16 32) a x).toNat < S160x31.size a := fun v3488 v3575 k0_hw153 => k0_hw153

def k0_chk154 (v3488 : IVec S16 32) (v3578 : IVec S16 32) : Prop :=
  (∀ a x, ((![v3488, v3578] : Fin 2 → IVec S16 32) a x).toNat < S160x31.size a)
theorem k0_idx154_inb : ∀ (v3488 : IVec S16 32) (v3578 : IVec S16 32) (k0_hw154 : k0_chk154 v3488 v3578), ∀ a x, ((![v3488, v3578] : Fin 2 → IVec S16 32) a x).toNat < S160x31.size a := fun v3488 v3578 k0_hw154 => k0_hw154

def k0_chk155 (v3488 : IVec S16 32) (v3581 : IVec S16 32) : Prop :=
  (∀ a x, ((![v3488, v3581] : Fin 2 → IVec S16 32) a x).toNat < S160x39.size a)
theorem k0_idx155_inb : ∀ (v3488 : IVec S16 32) (v3581 : IVec S16 32) (k0_hw155 : k0_chk155 v3488 v3581), ∀ a x, ((![v3488, v3581] : Fin 2 → IVec S16 32) a x).toNat < S160x39.size a := fun v3488 v3581 k0_hw155 => k0_hw155

def k0_chk156 (v3488 : IVec S16 32) (v3589 : IVec S16 32) : Prop :=
  (∀ a x, ((![v3488, v3589] : Fin 2 → IVec S16 32) a x).toNat < S160x39.size a)
theorem k0_idx156_inb : ∀ (v3488 : IVec S16 32) (v3589 : IVec S16 32) (k0_hw156 : k0_chk156 v3488 v3589), ∀ a x, ((![v3488, v3589] : Fin 2 → IVec S16 32) a x).toNat < S160x39.size a := fun v3488 v3589 k0_hw156 => k0_hw156

def k0_chk157 (v3488 : IVec S16 32) (v3597 : IVec S16 32) : Prop :=
  (∀ a x, ((![v3488, v3597] : Fin 2 → IVec S16 32) a x).toNat < S160x31.size a)
theorem k0_idx157_inb : ∀ (v3488 : IVec S16 32) (v3597 : IVec S16 32) (k0_hw157 : k0_chk157 v3488 v3597), ∀ a x, ((![v3488, v3597] : Fin 2 → IVec S16 32) a x).toNat < S160x31.size a := fun v3488 v3597 k0_hw157 => k0_hw157

def k0_chk158 (v3488 : IVec S16 32) (v3600 : IVec S16 32) : Prop :=
  (∀ a x, ((![v3488, v3600] : Fin 2 → IVec S16 32) a x).toNat < S160x31.size a)
theorem k0_idx158_inb : ∀ (v3488 : IVec S16 32) (v3600 : IVec S16 32) (k0_hw158 : k0_chk158 v3488 v3600), ∀ a x, ((![v3488, v3600] : Fin 2 → IVec S16 32) a x).toNat < S160x31.size a := fun v3488 v3600 k0_hw158 => k0_hw158

def k0_chk159 (v3488 : IVec S16 32) (v3603 : IVec S16 32) : Prop :=
  (∀ a x, ((![v3488, v3603] : Fin 2 → IVec S16 32) a x).toNat < S160x39.size a)
theorem k0_idx159_inb : ∀ (v3488 : IVec S16 32) (v3603 : IVec S16 32) (k0_hw159 : k0_chk159 v3488 v3603), ∀ a x, ((![v3488, v3603] : Fin 2 → IVec S16 32) a x).toNat < S160x39.size a := fun v3488 v3603 k0_hw159 => k0_hw159

def k0_chk160 (v3488 : IVec S16 32) (v3611 : IVec S16 32) : Prop :=
  (∀ a x, ((![v3488, v3611] : Fin 2 → IVec S16 32) a x).toNat < S160x39.size a)
theorem k0_idx160_inb : ∀ (v3488 : IVec S16 32) (v3611 : IVec S16 32) (k0_hw160 : k0_chk160 v3488 v3611), ∀ a x, ((![v3488, v3611] : Fin 2 → IVec S16 32) a x).toNat < S160x39.size a := fun v3488 v3611 k0_hw160 => k0_hw160

def k0_chk161 (v3488 : IVec S16 32) (v3619 : IVec S16 32) : Prop :=
  (∀ a x, ((![v3488, v3619] : Fin 2 → IVec S16 32) a x).toNat < S160x31.size a)
theorem k0_idx161_inb : ∀ (v3488 : IVec S16 32) (v3619 : IVec S16 32) (k0_hw161 : k0_chk161 v3488 v3619), ∀ a x, ((![v3488, v3619] : Fin 2 → IVec S16 32) a x).toNat < S160x31.size a := fun v3488 v3619 k0_hw161 => k0_hw161

def k0_chk162 (v3488 : IVec S16 32) (v3622 : IVec S16 32) : Prop :=
  (∀ a x, ((![v3488, v3622] : Fin 2 → IVec S16 32) a x).toNat < S160x31.size a)
theorem k0_idx162_inb : ∀ (v3488 : IVec S16 32) (v3622 : IVec S16 32) (k0_hw162 : k0_chk162 v3488 v3622), ∀ a x, ((![v3488, v3622] : Fin 2 → IVec S16 32) a x).toNat < S160x31.size a := fun v3488 v3622 k0_hw162 => k0_hw162

def k0_chk163 (v3488 : IVec S16 32) (v3625 : IVec S16 32) : Prop :=
  (∀ a x, ((![v3488, v3625] : Fin 2 → IVec S16 32) a x).toNat < S160x39.size a)
theorem k0_idx163_inb : ∀ (v3488 : IVec S16 32) (v3625 : IVec S16 32) (k0_hw163 : k0_chk163 v3488 v3625), ∀ a x, ((![v3488, v3625] : Fin 2 → IVec S16 32) a x).toNat < S160x39.size a := fun v3488 v3625 k0_hw163 => k0_hw163

def k0_chk164 (v3488 : IVec S16 32) (v3629 : IVec S16 32) : Prop :=
  (∀ a x, ((![v3488, v3629] : Fin 2 → IVec S16 32) a x).toNat < S160x31.size a)
theorem k0_idx164_inb : ∀ (v3488 : IVec S16 32) (v3629 : IVec S16 32) (k0_hw164 : k0_chk164 v3488 v3629), ∀ a x, ((![v3488, v3629] : Fin 2 → IVec S16 32) a x).toNat < S160x31.size a := fun v3488 v3629 k0_hw164 => k0_hw164

def k0_chk165 (v3488 : IVec S16 32) (v3632 : IVec S16 32) : Prop :=
  (∀ a x, ((![v3488, v3632] : Fin 2 → IVec S16 32) a x).toNat < S160x39.size a)
theorem k0_idx165_inb : ∀ (v3488 : IVec S16 32) (v3632 : IVec S16 32) (k0_hw165 : k0_chk165 v3488 v3632), ∀ a x, ((![v3488, v3632] : Fin 2 → IVec S16 32) a x).toNat < S160x39.size a := fun v3488 v3632 k0_hw165 => k0_hw165

def k0_chk166 (v3488 : IVec S16 32) (v3636 : IVec S16 32) : Prop :=
  (∀ a x, ((![v3488, v3636] : Fin 2 → IVec S16 32) a x).toNat < S160x31.size a)
theorem k0_idx166_inb : ∀ (v3488 : IVec S16 32) (v3636 : IVec S16 32) (k0_hw166 : k0_chk166 v3488 v3636), ∀ a x, ((![v3488, v3636] : Fin 2 → IVec S16 32) a x).toNat < S160x31.size a := fun v3488 v3636 k0_hw166 => k0_hw166

def k0_chk167 (v3488 : IVec S16 32) (v3639 : IVec S16 32) : Prop :=
  (∀ a x, ((![v3488, v3639] : Fin 2 → IVec S16 32) a x).toNat < S160x39.size a)
theorem k0_idx167_inb : ∀ (v3488 : IVec S16 32) (v3639 : IVec S16 32) (k0_hw167 : k0_chk167 v3488 v3639), ∀ a x, ((![v3488, v3639] : Fin 2 → IVec S16 32) a x).toNat < S160x39.size a := fun v3488 v3639 k0_hw167 => k0_hw167

def k0_chk168 (v3488 : IVec S16 32) (v3643 : IVec S16 32) : Prop :=
  (∀ a x, ((![v3488, v3643] : Fin 2 → IVec S16 32) a x).toNat < S160x31.size a)
theorem k0_idx168_inb : ∀ (v3488 : IVec S16 32) (v3643 : IVec S16 32) (k0_hw168 : k0_chk168 v3488 v3643), ∀ a x, ((![v3488, v3643] : Fin 2 → IVec S16 32) a x).toNat < S160x31.size a := fun v3488 v3643 k0_hw168 => k0_hw168

def k0_chk169 (v3488 : IVec S16 32) (v3646 : IVec S16 32) : Prop :=
  (∀ a x, ((![v3488, v3646] : Fin 2 → IVec S16 32) a x).toNat < S160x39.size a)
theorem k0_idx169_inb : ∀ (v3488 : IVec S16 32) (v3646 : IVec S16 32) (k0_hw169 : k0_chk169 v3488 v3646), ∀ a x, ((![v3488, v3646] : Fin 2 → IVec S16 32) a x).toNat < S160x39.size a := fun v3488 v3646 k0_hw169 => k0_hw169

def k0_chk170 (v3488 : IVec S16 32) (v3650 : IVec S16 32) : Prop :=
  (∀ a x, ((![v3488, v3650] : Fin 2 → IVec S16 32) a x).toNat < S160x31.size a)
theorem k0_idx170_inb : ∀ (v3488 : IVec S16 32) (v3650 : IVec S16 32) (k0_hw170 : k0_chk170 v3488 v3650), ∀ a x, ((![v3488, v3650] : Fin 2 → IVec S16 32) a x).toNat < S160x31.size a := fun v3488 v3650 k0_hw170 => k0_hw170

def k0_chk171 (v3488 : IVec S16 32) (v3653 : IVec S16 32) : Prop :=
  (∀ a x, ((![v3488, v3653] : Fin 2 → IVec S16 32) a x).toNat < S160x39.size a)
theorem k0_idx171_inb : ∀ (v3488 : IVec S16 32) (v3653 : IVec S16 32) (k0_hw171 : k0_chk171 v3488 v3653), ∀ a x, ((![v3488, v3653] : Fin 2 → IVec S16 32) a x).toNat < S160x39.size a := fun v3488 v3653 k0_hw171 => k0_hw171

def k0_chk172 (v3488 : IVec S16 32) (v3657 : IVec S16 32) : Prop :=
  (∀ a x, ((![v3488, v3657] : Fin 2 → IVec S16 32) a x).toNat < S160x31.size a)
theorem k0_idx172_inb : ∀ (v3488 : IVec S16 32) (v3657 : IVec S16 32) (k0_hw172 : k0_chk172 v3488 v3657), ∀ a x, ((![v3488, v3657] : Fin 2 → IVec S16 32) a x).toNat < S160x31.size a := fun v3488 v3657 k0_hw172 => k0_hw172

def k0_chk173 (v3488 : IVec S16 32) (v3660 : IVec S16 32) : Prop :=
  (∀ a x, ((![v3488, v3660] : Fin 2 → IVec S16 32) a x).toNat < S160x39.size a)
theorem k0_idx173_inb : ∀ (v3488 : IVec S16 32) (v3660 : IVec S16 32) (k0_hw173 : k0_chk173 v3488 v3660), ∀ a x, ((![v3488, v3660] : Fin 2 → IVec S16 32) a x).toNat < S160x39.size a := fun v3488 v3660 k0_hw173 => k0_hw173

def k0_chk174 (v3488 : IVec S16 32) (v3664 : IVec S16 32) : Prop :=
  (∀ a x, ((![v3488, v3664] : Fin 2 → IVec S16 32) a x).toNat < S160x31.size a)
theorem k0_idx174_inb : ∀ (v3488 : IVec S16 32) (v3664 : IVec S16 32) (k0_hw174 : k0_chk174 v3488 v3664), ∀ a x, ((![v3488, v3664] : Fin 2 → IVec S16 32) a x).toNat < S160x31.size a := fun v3488 v3664 k0_hw174 => k0_hw174

def k0_chk175 (v3488 : IVec S16 32) (v3667 : IVec S16 32) : Prop :=
  (∀ a x, ((![v3488, v3667] : Fin 2 → IVec S16 32) a x).toNat < S160x39.size a)
theorem k0_idx175_inb : ∀ (v3488 : IVec S16 32) (v3667 : IVec S16 32) (k0_hw175 : k0_chk175 v3488 v3667), ∀ a x, ((![v3488, v3667] : Fin 2 → IVec S16 32) a x).toNat < S160x39.size a := fun v3488 v3667 k0_hw175 => k0_hw175

def k0_chk176 (v3488 : IVec S16 32) (v3671 : IVec S16 32) : Prop :=
  (∀ a x, ((![v3488, v3671] : Fin 2 → IVec S16 32) a x).toNat < S160x31.size a)
theorem k0_idx176_inb : ∀ (v3488 : IVec S16 32) (v3671 : IVec S16 32) (k0_hw176 : k0_chk176 v3488 v3671), ∀ a x, ((![v3488, v3671] : Fin 2 → IVec S16 32) a x).toNat < S160x31.size a := fun v3488 v3671 k0_hw176 => k0_hw176

def k0_chk177 (v3488 : IVec S16 32) (v3674 : IVec S16 32) : Prop :=
  (∀ a x, ((![v3488, v3674] : Fin 2 → IVec S16 32) a x).toNat < S160x39.size a)
theorem k0_idx177_inb : ∀ (v3488 : IVec S16 32) (v3674 : IVec S16 32) (k0_hw177 : k0_chk177 v3488 v3674), ∀ a x, ((![v3488, v3674] : Fin 2 → IVec S16 32) a x).toNat < S160x39.size a := fun v3488 v3674 k0_hw177 => k0_hw177

def k0_chk178 (v3488 : IVec S16 32) (v3678 : IVec S16 32) : Prop :=
  (∀ a x, ((![v3488, v3678] : Fin 2 → IVec S16 32) a x).toNat < S160x31.size a)
theorem k0_idx178_inb : ∀ (v3488 : IVec S16 32) (v3678 : IVec S16 32) (k0_hw178 : k0_chk178 v3488 v3678), ∀ a x, ((![v3488, v3678] : Fin 2 → IVec S16 32) a x).toNat < S160x31.size a := fun v3488 v3678 k0_hw178 => k0_hw178

def k0_chk179 (v3488 : IVec S16 32) (v3681 : IVec S16 32) : Prop :=
  (∀ a x, ((![v3488, v3681] : Fin 2 → IVec S16 32) a x).toNat < S160x39.size a)
theorem k0_idx179_inb : ∀ (v3488 : IVec S16 32) (v3681 : IVec S16 32) (k0_hw179 : k0_chk179 v3488 v3681), ∀ a x, ((![v3488, v3681] : Fin 2 → IVec S16 32) a x).toNat < S160x39.size a := fun v3488 v3681 k0_hw179 => k0_hw179

def k0_chk180 (v3488 : IVec S16 32) (v3685 : IVec S16 32) : Prop :=
  (∀ a x, ((![v3488, v3685] : Fin 2 → IVec S16 32) a x).toNat < S160x31.size a)
theorem k0_idx180_inb : ∀ (v3488 : IVec S16 32) (v3685 : IVec S16 32) (k0_hw180 : k0_chk180 v3488 v3685), ∀ a x, ((![v3488, v3685] : Fin 2 → IVec S16 32) a x).toNat < S160x31.size a := fun v3488 v3685 k0_hw180 => k0_hw180

def k0_chk181 (v3488 : IVec S16 32) (v3688 : IVec S16 32) : Prop :=
  (∀ a x, ((![v3488, v3688] : Fin 2 → IVec S16 32) a x).toNat < S160x39.size a)
theorem k0_idx181_inb : ∀ (v3488 : IVec S16 32) (v3688 : IVec S16 32) (k0_hw181 : k0_chk181 v3488 v3688), ∀ a x, ((![v3488, v3688] : Fin 2 → IVec S16 32) a x).toNat < S160x39.size a := fun v3488 v3688 k0_hw181 => k0_hw181

def k0_chk182 (v3488 : IVec S16 32) (v3692 : IVec S16 32) : Prop :=
  (∀ a x, ((![v3488, v3692] : Fin 2 → IVec S16 32) a x).toNat < S160x31.size a)
theorem k0_idx182_inb : ∀ (v3488 : IVec S16 32) (v3692 : IVec S16 32) (k0_hw182 : k0_chk182 v3488 v3692), ∀ a x, ((![v3488, v3692] : Fin 2 → IVec S16 32) a x).toNat < S160x31.size a := fun v3488 v3692 k0_hw182 => k0_hw182

def k0_chk183 (v3488 : IVec S16 32) (v3695 : IVec S16 32) : Prop :=
  (∀ a x, ((![v3488, v3695] : Fin 2 → IVec S16 32) a x).toNat < S160x39.size a)
theorem k0_idx183_inb : ∀ (v3488 : IVec S16 32) (v3695 : IVec S16 32) (k0_hw183 : k0_chk183 v3488 v3695), ∀ a x, ((![v3488, v3695] : Fin 2 → IVec S16 32) a x).toNat < S160x39.size a := fun v3488 v3695 k0_hw183 => k0_hw183

def k0_chk184 (v3488 : IVec S16 32) (v3699 : IVec S16 32) : Prop :=
  (∀ a x, ((![v3488, v3699] : Fin 2 → IVec S16 32) a x).toNat < S160x31.size a)
theorem k0_idx184_inb : ∀ (v3488 : IVec S16 32) (v3699 : IVec S16 32) (k0_hw184 : k0_chk184 v3488 v3699), ∀ a x, ((![v3488, v3699] : Fin 2 → IVec S16 32) a x).toNat < S160x31.size a := fun v3488 v3699 k0_hw184 => k0_hw184

def k0_chk185 (v3488 : IVec S16 32) (v3702 : IVec S16 32) : Prop :=
  (∀ a x, ((![v3488, v3702] : Fin 2 → IVec S16 32) a x).toNat < S160x39.size a)
theorem k0_idx185_inb : ∀ (v3488 : IVec S16 32) (v3702 : IVec S16 32) (k0_hw185 : k0_chk185 v3488 v3702), ∀ a x, ((![v3488, v3702] : Fin 2 → IVec S16 32) a x).toNat < S160x39.size a := fun v3488 v3702 k0_hw185 => k0_hw185

def k0_chk186 (v3488 : IVec S16 32) (v3706 : IVec S16 32) : Prop :=
  (∀ a x, ((![v3488, v3706] : Fin 2 → IVec S16 32) a x).toNat < S160x31.size a)
theorem k0_idx186_inb : ∀ (v3488 : IVec S16 32) (v3706 : IVec S16 32) (k0_hw186 : k0_chk186 v3488 v3706), ∀ a x, ((![v3488, v3706] : Fin 2 → IVec S16 32) a x).toNat < S160x31.size a := fun v3488 v3706 k0_hw186 => k0_hw186

def k0_chk187 (v3488 : IVec S16 32) (v3709 : IVec S16 32) : Prop :=
  (∀ a x, ((![v3488, v3709] : Fin 2 → IVec S16 32) a x).toNat < S160x39.size a)
theorem k0_idx187_inb : ∀ (v3488 : IVec S16 32) (v3709 : IVec S16 32) (k0_hw187 : k0_chk187 v3488 v3709), ∀ a x, ((![v3488, v3709] : Fin 2 → IVec S16 32) a x).toNat < S160x39.size a := fun v3488 v3709 k0_hw187 => k0_hw187

def k0_chk188 (v3488 : IVec S16 32) (v3713 : IVec S16 32) : Prop :=
  (∀ a x, ((![v3488, v3713] : Fin 2 → IVec S16 32) a x).toNat < S160x31.size a)
theorem k0_idx188_inb : ∀ (v3488 : IVec S16 32) (v3713 : IVec S16 32) (k0_hw188 : k0_chk188 v3488 v3713), ∀ a x, ((![v3488, v3713] : Fin 2 → IVec S16 32) a x).toNat < S160x31.size a := fun v3488 v3713 k0_hw188 => k0_hw188

def k0_chk189 (v3488 : IVec S16 32) (v3716 : IVec S16 32) : Prop :=
  (∀ a x, ((![v3488, v3716] : Fin 2 → IVec S16 32) a x).toNat < S160x39.size a)
theorem k0_idx189_inb : ∀ (v3488 : IVec S16 32) (v3716 : IVec S16 32) (k0_hw189 : k0_chk189 v3488 v3716), ∀ a x, ((![v3488, v3716] : Fin 2 → IVec S16 32) a x).toNat < S160x39.size a := fun v3488 v3716 k0_hw189 => k0_hw189

def k0_chk190 (v3488 : IVec S16 32) (v3720 : IVec S16 32) : Prop :=
  (∀ a x, ((![v3488, v3720] : Fin 2 → IVec S16 32) a x).toNat < S160x31.size a)
theorem k0_idx190_inb : ∀ (v3488 : IVec S16 32) (v3720 : IVec S16 32) (k0_hw190 : k0_chk190 v3488 v3720), ∀ a x, ((![v3488, v3720] : Fin 2 → IVec S16 32) a x).toNat < S160x31.size a := fun v3488 v3720 k0_hw190 => k0_hw190

def k0_chk191 (v3488 : IVec S16 32) (v3723 : IVec S16 32) : Prop :=
  (∀ a x, ((![v3488, v3723] : Fin 2 → IVec S16 32) a x).toNat < S160x39.size a)
theorem k0_idx191_inb : ∀ (v3488 : IVec S16 32) (v3723 : IVec S16 32) (k0_hw191 : k0_chk191 v3488 v3723), ∀ a x, ((![v3488, v3723] : Fin 2 → IVec S16 32) a x).toNat < S160x39.size a := fun v3488 v3723 k0_hw191 => k0_hw191

def k0_chk192 (v3488 : IVec S16 32) (v3727 : IVec S16 32) : Prop :=
  (∀ a x, ((![v3488, v3727] : Fin 2 → IVec S16 32) a x).toNat < S160x31.size a)
theorem k0_idx192_inb : ∀ (v3488 : IVec S16 32) (v3727 : IVec S16 32) (k0_hw192 : k0_chk192 v3488 v3727), ∀ a x, ((![v3488, v3727] : Fin 2 → IVec S16 32) a x).toNat < S160x31.size a := fun v3488 v3727 k0_hw192 => k0_hw192

def k0_chk193 (v3488 : IVec S16 32) (v3730 : IVec S16 32) : Prop :=
  (∀ a x, ((![v3488, v3730] : Fin 2 → IVec S16 32) a x).toNat < S160x39.size a)
theorem k0_idx193_inb : ∀ (v3488 : IVec S16 32) (v3730 : IVec S16 32) (k0_hw193 : k0_chk193 v3488 v3730), ∀ a x, ((![v3488, v3730] : Fin 2 → IVec S16 32) a x).toNat < S160x39.size a := fun v3488 v3730 k0_hw193 => k0_hw193

def k0_chk194 (v3488 : IVec S16 32) (v3734 : IVec S16 32) : Prop :=
  (∀ a x, ((![v3488, v3734] : Fin 2 → IVec S16 32) a x).toNat < S160x31.size a)
theorem k0_idx194_inb : ∀ (v3488 : IVec S16 32) (v3734 : IVec S16 32) (k0_hw194 : k0_chk194 v3488 v3734), ∀ a x, ((![v3488, v3734] : Fin 2 → IVec S16 32) a x).toNat < S160x31.size a := fun v3488 v3734 k0_hw194 => k0_hw194

def k0_chk195 (v3488 : IVec S16 32) (v3737 : IVec S16 32) : Prop :=
  (∀ a x, ((![v3488, v3737] : Fin 2 → IVec S16 32) a x).toNat < S160x39.size a)
theorem k0_idx195_inb : ∀ (v3488 : IVec S16 32) (v3737 : IVec S16 32) (k0_hw195 : k0_chk195 v3488 v3737), ∀ a x, ((![v3488, v3737] : Fin 2 → IVec S16 32) a x).toNat < S160x39.size a := fun v3488 v3737 k0_hw195 => k0_hw195

def k0_chk196 (v3488 : IVec S16 32) (v3741 : IVec S16 32) : Prop :=
  (∀ a x, ((![v3488, v3741] : Fin 2 → IVec S16 32) a x).toNat < S160x31.size a)
theorem k0_idx196_inb : ∀ (v3488 : IVec S16 32) (v3741 : IVec S16 32) (k0_hw196 : k0_chk196 v3488 v3741), ∀ a x, ((![v3488, v3741] : Fin 2 → IVec S16 32) a x).toNat < S160x31.size a := fun v3488 v3741 k0_hw196 => k0_hw196

def k0_chk197 (v3488 : IVec S16 32) (v3744 : IVec S16 32) : Prop :=
  (∀ a x, ((![v3488, v3744] : Fin 2 → IVec S16 32) a x).toNat < S160x39.size a)
theorem k0_idx197_inb : ∀ (v3488 : IVec S16 32) (v3744 : IVec S16 32) (k0_hw197 : k0_chk197 v3488 v3744), ∀ a x, ((![v3488, v3744] : Fin 2 → IVec S16 32) a x).toNat < S160x39.size a := fun v3488 v3744 k0_hw197 => k0_hw197

def k0_chk198 (v3488 : IVec S16 32) (v3748 : IVec S16 32) : Prop :=
  (∀ a x, ((![v3488, v3748] : Fin 2 → IVec S16 32) a x).toNat < S160x31.size a)
theorem k0_idx198_inb : ∀ (v3488 : IVec S16 32) (v3748 : IVec S16 32) (k0_hw198 : k0_chk198 v3488 v3748), ∀ a x, ((![v3488, v3748] : Fin 2 → IVec S16 32) a x).toNat < S160x31.size a := fun v3488 v3748 k0_hw198 => k0_hw198

def k0_chk199 (v3488 : IVec S16 32) (v3751 : IVec S16 32) : Prop :=
  (∀ a x, ((![v3488, v3751] : Fin 2 → IVec S16 32) a x).toNat < S160x39.size a)
theorem k0_idx199_inb : ∀ (v3488 : IVec S16 32) (v3751 : IVec S16 32) (k0_hw199 : k0_chk199 v3488 v3751), ∀ a x, ((![v3488, v3751] : Fin 2 → IVec S16 32) a x).toNat < S160x39.size a := fun v3488 v3751 k0_hw199 => k0_hw199

def k0_chk200 (v3488 : IVec S16 32) (v3755 : IVec S16 32) : Prop :=
  (∀ a x, ((![v3488, v3755] : Fin 2 → IVec S16 32) a x).toNat < S160x31.size a)
theorem k0_idx200_inb : ∀ (v3488 : IVec S16 32) (v3755 : IVec S16 32) (k0_hw200 : k0_chk200 v3488 v3755), ∀ a x, ((![v3488, v3755] : Fin 2 → IVec S16 32) a x).toNat < S160x31.size a := fun v3488 v3755 k0_hw200 => k0_hw200

def k0_chk201 (v3488 : IVec S16 32) (v3758 : IVec S16 32) : Prop :=
  (∀ a x, ((![v3488, v3758] : Fin 2 → IVec S16 32) a x).toNat < S160x39.size a)
theorem k0_idx201_inb : ∀ (v3488 : IVec S16 32) (v3758 : IVec S16 32) (k0_hw201 : k0_chk201 v3488 v3758), ∀ a x, ((![v3488, v3758] : Fin 2 → IVec S16 32) a x).toNat < S160x39.size a := fun v3488 v3758 k0_hw201 => k0_hw201

def k0_chk202 (v3488 : IVec S16 32) (v3762 : IVec S16 32) : Prop :=
  (∀ a x, ((![v3488, v3762] : Fin 2 → IVec S16 32) a x).toNat < S160x31.size a)
theorem k0_idx202_inb : ∀ (v3488 : IVec S16 32) (v3762 : IVec S16 32) (k0_hw202 : k0_chk202 v3488 v3762), ∀ a x, ((![v3488, v3762] : Fin 2 → IVec S16 32) a x).toNat < S160x31.size a := fun v3488 v3762 k0_hw202 => k0_hw202

def k0_chk203 (v3488 : IVec S16 32) (v3765 : IVec S16 32) : Prop :=
  (∀ a x, ((![v3488, v3765] : Fin 2 → IVec S16 32) a x).toNat < S160x39.size a)
theorem k0_idx203_inb : ∀ (v3488 : IVec S16 32) (v3765 : IVec S16 32) (k0_hw203 : k0_chk203 v3488 v3765), ∀ a x, ((![v3488, v3765] : Fin 2 → IVec S16 32) a x).toNat < S160x39.size a := fun v3488 v3765 k0_hw203 => k0_hw203

def k0_chk204 (v3488 : IVec S16 32) (v3769 : IVec S16 32) : Prop :=
  (∀ a x, ((![v3488, v3769] : Fin 2 → IVec S16 32) a x).toNat < S160x31.size a)
theorem k0_idx204_inb : ∀ (v3488 : IVec S16 32) (v3769 : IVec S16 32) (k0_hw204 : k0_chk204 v3488 v3769), ∀ a x, ((![v3488, v3769] : Fin 2 → IVec S16 32) a x).toNat < S160x31.size a := fun v3488 v3769 k0_hw204 => k0_hw204

def k0_chk205 (v3773 : IVec S16 32) (v3774 : IVec S16 32) : Prop :=
  (∀ a x, ((![v3773, v3774] : Fin 2 → IVec S16 32) a x).toNat < S160x39.size a)
theorem k0_idx205_inb : ∀ (v3773 : IVec S16 32) (v3774 : IVec S16 32) (k0_hw205 : k0_chk205 v3773 v3774), ∀ a x, ((![v3773, v3774] : Fin 2 → IVec S16 32) a x).toNat < S160x39.size a := fun v3773 v3774 k0_hw205 => k0_hw205

def k0_chk206 (v3773 : IVec S16 32) (v3778 : IVec S16 32) : Prop :=
  (∀ a x, ((![v3773, v3778] : Fin 2 → IVec S16 32) a x).toNat < S160x39.size a)
theorem k0_idx206_inb : ∀ (v3773 : IVec S16 32) (v3778 : IVec S16 32) (k0_hw206 : k0_chk206 v3773 v3778), ∀ a x, ((![v3773, v3778] : Fin 2 → IVec S16 32) a x).toNat < S160x39.size a := fun v3773 v3778 k0_hw206 => k0_hw206

def k0_chk207 (v3773 : IVec S16 32) (v3782 : IVec S16 32) : Prop :=
  (∀ a x, ((![v3773, v3782] : Fin 2 → IVec S16 32) a x).toNat < S160x39.size a)
theorem k0_idx207_inb : ∀ (v3773 : IVec S16 32) (v3782 : IVec S16 32) (k0_hw207 : k0_chk207 v3773 v3782), ∀ a x, ((![v3773, v3782] : Fin 2 → IVec S16 32) a x).toNat < S160x39.size a := fun v3773 v3782 k0_hw207 => k0_hw207

def k0_chk208 (v3773 : IVec S16 32) (v3786 : IVec S16 32) : Prop :=
  (∀ a x, ((![v3773, v3786] : Fin 2 → IVec S16 32) a x).toNat < S160x39.size a)
theorem k0_idx208_inb : ∀ (v3773 : IVec S16 32) (v3786 : IVec S16 32) (k0_hw208 : k0_chk208 v3773 v3786), ∀ a x, ((![v3773, v3786] : Fin 2 → IVec S16 32) a x).toNat < S160x39.size a := fun v3773 v3786 k0_hw208 => k0_hw208

def k0_chk209 (v3773 : IVec S16 32) (v3791 : IVec S16 32) : Prop :=
  (∀ a x, ((![v3773, v3791] : Fin 2 → IVec S16 32) a x).toNat < S160x39.size a)
theorem k0_idx209_inb : ∀ (v3773 : IVec S16 32) (v3791 : IVec S16 32) (k0_hw209 : k0_chk209 v3773 v3791), ∀ a x, ((![v3773, v3791] : Fin 2 → IVec S16 32) a x).toNat < S160x39.size a := fun v3773 v3791 k0_hw209 => k0_hw209

def k0_chk210 (v3773 : IVec S16 32) (v3795 : IVec S16 32) : Prop :=
  (∀ a x, ((![v3773, v3795] : Fin 2 → IVec S16 32) a x).toNat < S160x39.size a)
theorem k0_idx210_inb : ∀ (v3773 : IVec S16 32) (v3795 : IVec S16 32) (k0_hw210 : k0_chk210 v3773 v3795), ∀ a x, ((![v3773, v3795] : Fin 2 → IVec S16 32) a x).toNat < S160x39.size a := fun v3773 v3795 k0_hw210 => k0_hw210

def k0_chk211 (v3773 : IVec S16 32) (v3800 : IVec S16 32) : Prop :=
  (∀ a x, ((![v3773, v3800] : Fin 2 → IVec S16 32) a x).toNat < S160x39.size a)
theorem k0_idx211_inb : ∀ (v3773 : IVec S16 32) (v3800 : IVec S16 32) (k0_hw211 : k0_chk211 v3773 v3800), ∀ a x, ((![v3773, v3800] : Fin 2 → IVec S16 32) a x).toNat < S160x39.size a := fun v3773 v3800 k0_hw211 => k0_hw211

def k0_chk212 (v3773 : IVec S16 32) (v3808 : IVec S16 32) : Prop :=
  (∀ a x, ((![v3773, v3808] : Fin 2 → IVec S16 32) a x).toNat < S160x39.size a)
theorem k0_idx212_inb : ∀ (v3773 : IVec S16 32) (v3808 : IVec S16 32) (k0_hw212 : k0_chk212 v3773 v3808), ∀ a x, ((![v3773, v3808] : Fin 2 → IVec S16 32) a x).toNat < S160x39.size a := fun v3773 v3808 k0_hw212 => k0_hw212

def k0_chk213 (v3773 : IVec S16 32) (v3816 : IVec S16 32) : Prop :=
  (∀ a x, ((![v3773, v3816] : Fin 2 → IVec S16 32) a x).toNat < S160x31.size a)
theorem k0_idx213_inb : ∀ (v3773 : IVec S16 32) (v3816 : IVec S16 32) (k0_hw213 : k0_chk213 v3773 v3816), ∀ a x, ((![v3773, v3816] : Fin 2 → IVec S16 32) a x).toNat < S160x31.size a := fun v3773 v3816 k0_hw213 => k0_hw213

def k0_chk214 (v3773 : IVec S16 32) (v3819 : IVec S16 32) : Prop :=
  (∀ a x, ((![v3773, v3819] : Fin 2 → IVec S16 32) a x).toNat < S160x31.size a)
theorem k0_idx214_inb : ∀ (v3773 : IVec S16 32) (v3819 : IVec S16 32) (k0_hw214 : k0_chk214 v3773 v3819), ∀ a x, ((![v3773, v3819] : Fin 2 → IVec S16 32) a x).toNat < S160x31.size a := fun v3773 v3819 k0_hw214 => k0_hw214

def k0_chk215 (v3773 : IVec S16 32) (v3822 : IVec S16 32) : Prop :=
  (∀ a x, ((![v3773, v3822] : Fin 2 → IVec S16 32) a x).toNat < S160x39.size a)
theorem k0_idx215_inb : ∀ (v3773 : IVec S16 32) (v3822 : IVec S16 32) (k0_hw215 : k0_chk215 v3773 v3822), ∀ a x, ((![v3773, v3822] : Fin 2 → IVec S16 32) a x).toNat < S160x39.size a := fun v3773 v3822 k0_hw215 => k0_hw215

def k0_chk216 (v3773 : IVec S16 32) (v3830 : IVec S16 32) : Prop :=
  (∀ a x, ((![v3773, v3830] : Fin 2 → IVec S16 32) a x).toNat < S160x39.size a)
theorem k0_idx216_inb : ∀ (v3773 : IVec S16 32) (v3830 : IVec S16 32) (k0_hw216 : k0_chk216 v3773 v3830), ∀ a x, ((![v3773, v3830] : Fin 2 → IVec S16 32) a x).toNat < S160x39.size a := fun v3773 v3830 k0_hw216 => k0_hw216

def k0_chk217 (v3773 : IVec S16 32) (v3838 : IVec S16 32) : Prop :=
  (∀ a x, ((![v3773, v3838] : Fin 2 → IVec S16 32) a x).toNat < S160x31.size a)
theorem k0_idx217_inb : ∀ (v3773 : IVec S16 32) (v3838 : IVec S16 32) (k0_hw217 : k0_chk217 v3773 v3838), ∀ a x, ((![v3773, v3838] : Fin 2 → IVec S16 32) a x).toNat < S160x31.size a := fun v3773 v3838 k0_hw217 => k0_hw217

def k0_chk218 (v3773 : IVec S16 32) (v3841 : IVec S16 32) : Prop :=
  (∀ a x, ((![v3773, v3841] : Fin 2 → IVec S16 32) a x).toNat < S160x31.size a)
theorem k0_idx218_inb : ∀ (v3773 : IVec S16 32) (v3841 : IVec S16 32) (k0_hw218 : k0_chk218 v3773 v3841), ∀ a x, ((![v3773, v3841] : Fin 2 → IVec S16 32) a x).toNat < S160x31.size a := fun v3773 v3841 k0_hw218 => k0_hw218

def k0_chk219 (v3773 : IVec S16 32) (v3844 : IVec S16 32) : Prop :=
  (∀ a x, ((![v3773, v3844] : Fin 2 → IVec S16 32) a x).toNat < S160x39.size a)
theorem k0_idx219_inb : ∀ (v3773 : IVec S16 32) (v3844 : IVec S16 32) (k0_hw219 : k0_chk219 v3773 v3844), ∀ a x, ((![v3773, v3844] : Fin 2 → IVec S16 32) a x).toNat < S160x39.size a := fun v3773 v3844 k0_hw219 => k0_hw219

def k0_chk220 (v3773 : IVec S16 32) (v3852 : IVec S16 32) : Prop :=
  (∀ a x, ((![v3773, v3852] : Fin 2 → IVec S16 32) a x).toNat < S160x39.size a)
theorem k0_idx220_inb : ∀ (v3773 : IVec S16 32) (v3852 : IVec S16 32) (k0_hw220 : k0_chk220 v3773 v3852), ∀ a x, ((![v3773, v3852] : Fin 2 → IVec S16 32) a x).toNat < S160x39.size a := fun v3773 v3852 k0_hw220 => k0_hw220

def k0_chk221 (v3773 : IVec S16 32) (v3860 : IVec S16 32) : Prop :=
  (∀ a x, ((![v3773, v3860] : Fin 2 → IVec S16 32) a x).toNat < S160x31.size a)
theorem k0_idx221_inb : ∀ (v3773 : IVec S16 32) (v3860 : IVec S16 32) (k0_hw221 : k0_chk221 v3773 v3860), ∀ a x, ((![v3773, v3860] : Fin 2 → IVec S16 32) a x).toNat < S160x31.size a := fun v3773 v3860 k0_hw221 => k0_hw221

def k0_chk222 (v3773 : IVec S16 32) (v3863 : IVec S16 32) : Prop :=
  (∀ a x, ((![v3773, v3863] : Fin 2 → IVec S16 32) a x).toNat < S160x31.size a)
theorem k0_idx222_inb : ∀ (v3773 : IVec S16 32) (v3863 : IVec S16 32) (k0_hw222 : k0_chk222 v3773 v3863), ∀ a x, ((![v3773, v3863] : Fin 2 → IVec S16 32) a x).toNat < S160x31.size a := fun v3773 v3863 k0_hw222 => k0_hw222

def k0_chk223 (v3773 : IVec S16 32) (v3866 : IVec S16 32) : Prop :=
  (∀ a x, ((![v3773, v3866] : Fin 2 → IVec S16 32) a x).toNat < S160x39.size a)
theorem k0_idx223_inb : ∀ (v3773 : IVec S16 32) (v3866 : IVec S16 32) (k0_hw223 : k0_chk223 v3773 v3866), ∀ a x, ((![v3773, v3866] : Fin 2 → IVec S16 32) a x).toNat < S160x39.size a := fun v3773 v3866 k0_hw223 => k0_hw223

def k0_chk224 (v3773 : IVec S16 32) (v3874 : IVec S16 32) : Prop :=
  (∀ a x, ((![v3773, v3874] : Fin 2 → IVec S16 32) a x).toNat < S160x39.size a)
theorem k0_idx224_inb : ∀ (v3773 : IVec S16 32) (v3874 : IVec S16 32) (k0_hw224 : k0_chk224 v3773 v3874), ∀ a x, ((![v3773, v3874] : Fin 2 → IVec S16 32) a x).toNat < S160x39.size a := fun v3773 v3874 k0_hw224 => k0_hw224

def k0_chk225 (v3773 : IVec S16 32) (v3882 : IVec S16 32) : Prop :=
  (∀ a x, ((![v3773, v3882] : Fin 2 → IVec S16 32) a x).toNat < S160x31.size a)
theorem k0_idx225_inb : ∀ (v3773 : IVec S16 32) (v3882 : IVec S16 32) (k0_hw225 : k0_chk225 v3773 v3882), ∀ a x, ((![v3773, v3882] : Fin 2 → IVec S16 32) a x).toNat < S160x31.size a := fun v3773 v3882 k0_hw225 => k0_hw225

def k0_chk226 (v3773 : IVec S16 32) (v3885 : IVec S16 32) : Prop :=
  (∀ a x, ((![v3773, v3885] : Fin 2 → IVec S16 32) a x).toNat < S160x31.size a)
theorem k0_idx226_inb : ∀ (v3773 : IVec S16 32) (v3885 : IVec S16 32) (k0_hw226 : k0_chk226 v3773 v3885), ∀ a x, ((![v3773, v3885] : Fin 2 → IVec S16 32) a x).toNat < S160x31.size a := fun v3773 v3885 k0_hw226 => k0_hw226

def k0_chk227 (v3773 : IVec S16 32) (v3888 : IVec S16 32) : Prop :=
  (∀ a x, ((![v3773, v3888] : Fin 2 → IVec S16 32) a x).toNat < S160x39.size a)
theorem k0_idx227_inb : ∀ (v3773 : IVec S16 32) (v3888 : IVec S16 32) (k0_hw227 : k0_chk227 v3773 v3888), ∀ a x, ((![v3773, v3888] : Fin 2 → IVec S16 32) a x).toNat < S160x39.size a := fun v3773 v3888 k0_hw227 => k0_hw227

def k0_chk228 (v3773 : IVec S16 32) (v3896 : IVec S16 32) : Prop :=
  (∀ a x, ((![v3773, v3896] : Fin 2 → IVec S16 32) a x).toNat < S160x39.size a)
theorem k0_idx228_inb : ∀ (v3773 : IVec S16 32) (v3896 : IVec S16 32) (k0_hw228 : k0_chk228 v3773 v3896), ∀ a x, ((![v3773, v3896] : Fin 2 → IVec S16 32) a x).toNat < S160x39.size a := fun v3773 v3896 k0_hw228 => k0_hw228

def k0_chk229 (v3773 : IVec S16 32) (v3904 : IVec S16 32) : Prop :=
  (∀ a x, ((![v3773, v3904] : Fin 2 → IVec S16 32) a x).toNat < S160x31.size a)
theorem k0_idx229_inb : ∀ (v3773 : IVec S16 32) (v3904 : IVec S16 32) (k0_hw229 : k0_chk229 v3773 v3904), ∀ a x, ((![v3773, v3904] : Fin 2 → IVec S16 32) a x).toNat < S160x31.size a := fun v3773 v3904 k0_hw229 => k0_hw229

def k0_chk230 (v3773 : IVec S16 32) (v3907 : IVec S16 32) : Prop :=
  (∀ a x, ((![v3773, v3907] : Fin 2 → IVec S16 32) a x).toNat < S160x31.size a)
theorem k0_idx230_inb : ∀ (v3773 : IVec S16 32) (v3907 : IVec S16 32) (k0_hw230 : k0_chk230 v3773 v3907), ∀ a x, ((![v3773, v3907] : Fin 2 → IVec S16 32) a x).toNat < S160x31.size a := fun v3773 v3907 k0_hw230 => k0_hw230

def k0_chk231 (v3773 : IVec S16 32) (v3910 : IVec S16 32) : Prop :=
  (∀ a x, ((![v3773, v3910] : Fin 2 → IVec S16 32) a x).toNat < S160x39.size a)
theorem k0_idx231_inb : ∀ (v3773 : IVec S16 32) (v3910 : IVec S16 32) (k0_hw231 : k0_chk231 v3773 v3910), ∀ a x, ((![v3773, v3910] : Fin 2 → IVec S16 32) a x).toNat < S160x39.size a := fun v3773 v3910 k0_hw231 => k0_hw231

def k0_chk232 (v3773 : IVec S16 32) (v3914 : IVec S16 32) : Prop :=
  (∀ a x, ((![v3773, v3914] : Fin 2 → IVec S16 32) a x).toNat < S160x31.size a)
theorem k0_idx232_inb : ∀ (v3773 : IVec S16 32) (v3914 : IVec S16 32) (k0_hw232 : k0_chk232 v3773 v3914), ∀ a x, ((![v3773, v3914] : Fin 2 → IVec S16 32) a x).toNat < S160x31.size a := fun v3773 v3914 k0_hw232 => k0_hw232

def k0_chk233 (v3773 : IVec S16 32) (v3917 : IVec S16 32) : Prop :=
  (∀ a x, ((![v3773, v3917] : Fin 2 → IVec S16 32) a x).toNat < S160x39.size a)
theorem k0_idx233_inb : ∀ (v3773 : IVec S16 32) (v3917 : IVec S16 32) (k0_hw233 : k0_chk233 v3773 v3917), ∀ a x, ((![v3773, v3917] : Fin 2 → IVec S16 32) a x).toNat < S160x39.size a := fun v3773 v3917 k0_hw233 => k0_hw233

def k0_chk234 (v3773 : IVec S16 32) (v3921 : IVec S16 32) : Prop :=
  (∀ a x, ((![v3773, v3921] : Fin 2 → IVec S16 32) a x).toNat < S160x31.size a)
theorem k0_idx234_inb : ∀ (v3773 : IVec S16 32) (v3921 : IVec S16 32) (k0_hw234 : k0_chk234 v3773 v3921), ∀ a x, ((![v3773, v3921] : Fin 2 → IVec S16 32) a x).toNat < S160x31.size a := fun v3773 v3921 k0_hw234 => k0_hw234

def k0_chk235 (v3773 : IVec S16 32) (v3924 : IVec S16 32) : Prop :=
  (∀ a x, ((![v3773, v3924] : Fin 2 → IVec S16 32) a x).toNat < S160x39.size a)
theorem k0_idx235_inb : ∀ (v3773 : IVec S16 32) (v3924 : IVec S16 32) (k0_hw235 : k0_chk235 v3773 v3924), ∀ a x, ((![v3773, v3924] : Fin 2 → IVec S16 32) a x).toNat < S160x39.size a := fun v3773 v3924 k0_hw235 => k0_hw235

def k0_chk236 (v3773 : IVec S16 32) (v3928 : IVec S16 32) : Prop :=
  (∀ a x, ((![v3773, v3928] : Fin 2 → IVec S16 32) a x).toNat < S160x31.size a)
theorem k0_idx236_inb : ∀ (v3773 : IVec S16 32) (v3928 : IVec S16 32) (k0_hw236 : k0_chk236 v3773 v3928), ∀ a x, ((![v3773, v3928] : Fin 2 → IVec S16 32) a x).toNat < S160x31.size a := fun v3773 v3928 k0_hw236 => k0_hw236

def k0_chk237 (v3773 : IVec S16 32) (v3931 : IVec S16 32) : Prop :=
  (∀ a x, ((![v3773, v3931] : Fin 2 → IVec S16 32) a x).toNat < S160x39.size a)
theorem k0_idx237_inb : ∀ (v3773 : IVec S16 32) (v3931 : IVec S16 32) (k0_hw237 : k0_chk237 v3773 v3931), ∀ a x, ((![v3773, v3931] : Fin 2 → IVec S16 32) a x).toNat < S160x39.size a := fun v3773 v3931 k0_hw237 => k0_hw237

def k0_chk238 (v3773 : IVec S16 32) (v3935 : IVec S16 32) : Prop :=
  (∀ a x, ((![v3773, v3935] : Fin 2 → IVec S16 32) a x).toNat < S160x31.size a)
theorem k0_idx238_inb : ∀ (v3773 : IVec S16 32) (v3935 : IVec S16 32) (k0_hw238 : k0_chk238 v3773 v3935), ∀ a x, ((![v3773, v3935] : Fin 2 → IVec S16 32) a x).toNat < S160x31.size a := fun v3773 v3935 k0_hw238 => k0_hw238

def k0_chk239 (v3773 : IVec S16 32) (v3938 : IVec S16 32) : Prop :=
  (∀ a x, ((![v3773, v3938] : Fin 2 → IVec S16 32) a x).toNat < S160x39.size a)
theorem k0_idx239_inb : ∀ (v3773 : IVec S16 32) (v3938 : IVec S16 32) (k0_hw239 : k0_chk239 v3773 v3938), ∀ a x, ((![v3773, v3938] : Fin 2 → IVec S16 32) a x).toNat < S160x39.size a := fun v3773 v3938 k0_hw239 => k0_hw239

def k0_chk240 (v3773 : IVec S16 32) (v3942 : IVec S16 32) : Prop :=
  (∀ a x, ((![v3773, v3942] : Fin 2 → IVec S16 32) a x).toNat < S160x31.size a)
theorem k0_idx240_inb : ∀ (v3773 : IVec S16 32) (v3942 : IVec S16 32) (k0_hw240 : k0_chk240 v3773 v3942), ∀ a x, ((![v3773, v3942] : Fin 2 → IVec S16 32) a x).toNat < S160x31.size a := fun v3773 v3942 k0_hw240 => k0_hw240

def k0_chk241 (v3773 : IVec S16 32) (v3945 : IVec S16 32) : Prop :=
  (∀ a x, ((![v3773, v3945] : Fin 2 → IVec S16 32) a x).toNat < S160x39.size a)
theorem k0_idx241_inb : ∀ (v3773 : IVec S16 32) (v3945 : IVec S16 32) (k0_hw241 : k0_chk241 v3773 v3945), ∀ a x, ((![v3773, v3945] : Fin 2 → IVec S16 32) a x).toNat < S160x39.size a := fun v3773 v3945 k0_hw241 => k0_hw241

def k0_chk242 (v3773 : IVec S16 32) (v3949 : IVec S16 32) : Prop :=
  (∀ a x, ((![v3773, v3949] : Fin 2 → IVec S16 32) a x).toNat < S160x31.size a)
theorem k0_idx242_inb : ∀ (v3773 : IVec S16 32) (v3949 : IVec S16 32) (k0_hw242 : k0_chk242 v3773 v3949), ∀ a x, ((![v3773, v3949] : Fin 2 → IVec S16 32) a x).toNat < S160x31.size a := fun v3773 v3949 k0_hw242 => k0_hw242

def k0_chk243 (v3773 : IVec S16 32) (v3952 : IVec S16 32) : Prop :=
  (∀ a x, ((![v3773, v3952] : Fin 2 → IVec S16 32) a x).toNat < S160x39.size a)
theorem k0_idx243_inb : ∀ (v3773 : IVec S16 32) (v3952 : IVec S16 32) (k0_hw243 : k0_chk243 v3773 v3952), ∀ a x, ((![v3773, v3952] : Fin 2 → IVec S16 32) a x).toNat < S160x39.size a := fun v3773 v3952 k0_hw243 => k0_hw243

def k0_chk244 (v3773 : IVec S16 32) (v3956 : IVec S16 32) : Prop :=
  (∀ a x, ((![v3773, v3956] : Fin 2 → IVec S16 32) a x).toNat < S160x31.size a)
theorem k0_idx244_inb : ∀ (v3773 : IVec S16 32) (v3956 : IVec S16 32) (k0_hw244 : k0_chk244 v3773 v3956), ∀ a x, ((![v3773, v3956] : Fin 2 → IVec S16 32) a x).toNat < S160x31.size a := fun v3773 v3956 k0_hw244 => k0_hw244

def k0_chk245 (v3773 : IVec S16 32) (v3959 : IVec S16 32) : Prop :=
  (∀ a x, ((![v3773, v3959] : Fin 2 → IVec S16 32) a x).toNat < S160x39.size a)
theorem k0_idx245_inb : ∀ (v3773 : IVec S16 32) (v3959 : IVec S16 32) (k0_hw245 : k0_chk245 v3773 v3959), ∀ a x, ((![v3773, v3959] : Fin 2 → IVec S16 32) a x).toNat < S160x39.size a := fun v3773 v3959 k0_hw245 => k0_hw245

def k0_chk246 (v3773 : IVec S16 32) (v3963 : IVec S16 32) : Prop :=
  (∀ a x, ((![v3773, v3963] : Fin 2 → IVec S16 32) a x).toNat < S160x31.size a)
theorem k0_idx246_inb : ∀ (v3773 : IVec S16 32) (v3963 : IVec S16 32) (k0_hw246 : k0_chk246 v3773 v3963), ∀ a x, ((![v3773, v3963] : Fin 2 → IVec S16 32) a x).toNat < S160x31.size a := fun v3773 v3963 k0_hw246 => k0_hw246

def k0_chk247 (v3773 : IVec S16 32) (v3966 : IVec S16 32) : Prop :=
  (∀ a x, ((![v3773, v3966] : Fin 2 → IVec S16 32) a x).toNat < S160x39.size a)
theorem k0_idx247_inb : ∀ (v3773 : IVec S16 32) (v3966 : IVec S16 32) (k0_hw247 : k0_chk247 v3773 v3966), ∀ a x, ((![v3773, v3966] : Fin 2 → IVec S16 32) a x).toNat < S160x39.size a := fun v3773 v3966 k0_hw247 => k0_hw247

def k0_chk248 (v3773 : IVec S16 32) (v3970 : IVec S16 32) : Prop :=
  (∀ a x, ((![v3773, v3970] : Fin 2 → IVec S16 32) a x).toNat < S160x31.size a)
theorem k0_idx248_inb : ∀ (v3773 : IVec S16 32) (v3970 : IVec S16 32) (k0_hw248 : k0_chk248 v3773 v3970), ∀ a x, ((![v3773, v3970] : Fin 2 → IVec S16 32) a x).toNat < S160x31.size a := fun v3773 v3970 k0_hw248 => k0_hw248

def k0_chk249 (v3773 : IVec S16 32) (v3973 : IVec S16 32) : Prop :=
  (∀ a x, ((![v3773, v3973] : Fin 2 → IVec S16 32) a x).toNat < S160x39.size a)
theorem k0_idx249_inb : ∀ (v3773 : IVec S16 32) (v3973 : IVec S16 32) (k0_hw249 : k0_chk249 v3773 v3973), ∀ a x, ((![v3773, v3973] : Fin 2 → IVec S16 32) a x).toNat < S160x39.size a := fun v3773 v3973 k0_hw249 => k0_hw249

def k0_chk250 (v3773 : IVec S16 32) (v3977 : IVec S16 32) : Prop :=
  (∀ a x, ((![v3773, v3977] : Fin 2 → IVec S16 32) a x).toNat < S160x31.size a)
theorem k0_idx250_inb : ∀ (v3773 : IVec S16 32) (v3977 : IVec S16 32) (k0_hw250 : k0_chk250 v3773 v3977), ∀ a x, ((![v3773, v3977] : Fin 2 → IVec S16 32) a x).toNat < S160x31.size a := fun v3773 v3977 k0_hw250 => k0_hw250

def k0_chk251 (v3773 : IVec S16 32) (v3980 : IVec S16 32) : Prop :=
  (∀ a x, ((![v3773, v3980] : Fin 2 → IVec S16 32) a x).toNat < S160x39.size a)
theorem k0_idx251_inb : ∀ (v3773 : IVec S16 32) (v3980 : IVec S16 32) (k0_hw251 : k0_chk251 v3773 v3980), ∀ a x, ((![v3773, v3980] : Fin 2 → IVec S16 32) a x).toNat < S160x39.size a := fun v3773 v3980 k0_hw251 => k0_hw251

def k0_chk252 (v3773 : IVec S16 32) (v3984 : IVec S16 32) : Prop :=
  (∀ a x, ((![v3773, v3984] : Fin 2 → IVec S16 32) a x).toNat < S160x31.size a)
theorem k0_idx252_inb : ∀ (v3773 : IVec S16 32) (v3984 : IVec S16 32) (k0_hw252 : k0_chk252 v3773 v3984), ∀ a x, ((![v3773, v3984] : Fin 2 → IVec S16 32) a x).toNat < S160x31.size a := fun v3773 v3984 k0_hw252 => k0_hw252

def k0_chk253 (v3773 : IVec S16 32) (v3987 : IVec S16 32) : Prop :=
  (∀ a x, ((![v3773, v3987] : Fin 2 → IVec S16 32) a x).toNat < S160x39.size a)
theorem k0_idx253_inb : ∀ (v3773 : IVec S16 32) (v3987 : IVec S16 32) (k0_hw253 : k0_chk253 v3773 v3987), ∀ a x, ((![v3773, v3987] : Fin 2 → IVec S16 32) a x).toNat < S160x39.size a := fun v3773 v3987 k0_hw253 => k0_hw253

def k0_chk254 (v3773 : IVec S16 32) (v3991 : IVec S16 32) : Prop :=
  (∀ a x, ((![v3773, v3991] : Fin 2 → IVec S16 32) a x).toNat < S160x31.size a)
theorem k0_idx254_inb : ∀ (v3773 : IVec S16 32) (v3991 : IVec S16 32) (k0_hw254 : k0_chk254 v3773 v3991), ∀ a x, ((![v3773, v3991] : Fin 2 → IVec S16 32) a x).toNat < S160x31.size a := fun v3773 v3991 k0_hw254 => k0_hw254

def k0_chk255 (v3773 : IVec S16 32) (v3994 : IVec S16 32) : Prop :=
  (∀ a x, ((![v3773, v3994] : Fin 2 → IVec S16 32) a x).toNat < S160x39.size a)
theorem k0_idx255_inb : ∀ (v3773 : IVec S16 32) (v3994 : IVec S16 32) (k0_hw255 : k0_chk255 v3773 v3994), ∀ a x, ((![v3773, v3994] : Fin 2 → IVec S16 32) a x).toNat < S160x39.size a := fun v3773 v3994 k0_hw255 => k0_hw255

def k0_chk256 (v3773 : IVec S16 32) (v3998 : IVec S16 32) : Prop :=
  (∀ a x, ((![v3773, v3998] : Fin 2 → IVec S16 32) a x).toNat < S160x31.size a)
theorem k0_idx256_inb : ∀ (v3773 : IVec S16 32) (v3998 : IVec S16 32) (k0_hw256 : k0_chk256 v3773 v3998), ∀ a x, ((![v3773, v3998] : Fin 2 → IVec S16 32) a x).toNat < S160x31.size a := fun v3773 v3998 k0_hw256 => k0_hw256

def k0_chk257 (v3773 : IVec S16 32) (v4001 : IVec S16 32) : Prop :=
  (∀ a x, ((![v3773, v4001] : Fin 2 → IVec S16 32) a x).toNat < S160x39.size a)
theorem k0_idx257_inb : ∀ (v3773 : IVec S16 32) (v4001 : IVec S16 32) (k0_hw257 : k0_chk257 v3773 v4001), ∀ a x, ((![v3773, v4001] : Fin 2 → IVec S16 32) a x).toNat < S160x39.size a := fun v3773 v4001 k0_hw257 => k0_hw257

def k0_chk258 (v3773 : IVec S16 32) (v4005 : IVec S16 32) : Prop :=
  (∀ a x, ((![v3773, v4005] : Fin 2 → IVec S16 32) a x).toNat < S160x31.size a)
theorem k0_idx258_inb : ∀ (v3773 : IVec S16 32) (v4005 : IVec S16 32) (k0_hw258 : k0_chk258 v3773 v4005), ∀ a x, ((![v3773, v4005] : Fin 2 → IVec S16 32) a x).toNat < S160x31.size a := fun v3773 v4005 k0_hw258 => k0_hw258

def k0_chk259 (v3773 : IVec S16 32) (v4008 : IVec S16 32) : Prop :=
  (∀ a x, ((![v3773, v4008] : Fin 2 → IVec S16 32) a x).toNat < S160x39.size a)
theorem k0_idx259_inb : ∀ (v3773 : IVec S16 32) (v4008 : IVec S16 32) (k0_hw259 : k0_chk259 v3773 v4008), ∀ a x, ((![v3773, v4008] : Fin 2 → IVec S16 32) a x).toNat < S160x39.size a := fun v3773 v4008 k0_hw259 => k0_hw259

def k0_chk260 (v3773 : IVec S16 32) (v4012 : IVec S16 32) : Prop :=
  (∀ a x, ((![v3773, v4012] : Fin 2 → IVec S16 32) a x).toNat < S160x31.size a)
theorem k0_idx260_inb : ∀ (v3773 : IVec S16 32) (v4012 : IVec S16 32) (k0_hw260 : k0_chk260 v3773 v4012), ∀ a x, ((![v3773, v4012] : Fin 2 → IVec S16 32) a x).toNat < S160x31.size a := fun v3773 v4012 k0_hw260 => k0_hw260

def k0_chk261 (v3773 : IVec S16 32) (v4015 : IVec S16 32) : Prop :=
  (∀ a x, ((![v3773, v4015] : Fin 2 → IVec S16 32) a x).toNat < S160x39.size a)
theorem k0_idx261_inb : ∀ (v3773 : IVec S16 32) (v4015 : IVec S16 32) (k0_hw261 : k0_chk261 v3773 v4015), ∀ a x, ((![v3773, v4015] : Fin 2 → IVec S16 32) a x).toNat < S160x39.size a := fun v3773 v4015 k0_hw261 => k0_hw261

def k0_chk262 (v3773 : IVec S16 32) (v4019 : IVec S16 32) : Prop :=
  (∀ a x, ((![v3773, v4019] : Fin 2 → IVec S16 32) a x).toNat < S160x31.size a)
theorem k0_idx262_inb : ∀ (v3773 : IVec S16 32) (v4019 : IVec S16 32) (k0_hw262 : k0_chk262 v3773 v4019), ∀ a x, ((![v3773, v4019] : Fin 2 → IVec S16 32) a x).toNat < S160x31.size a := fun v3773 v4019 k0_hw262 => k0_hw262

def k0_chk263 (v3773 : IVec S16 32) (v4022 : IVec S16 32) : Prop :=
  (∀ a x, ((![v3773, v4022] : Fin 2 → IVec S16 32) a x).toNat < S160x39.size a)
theorem k0_idx263_inb : ∀ (v3773 : IVec S16 32) (v4022 : IVec S16 32) (k0_hw263 : k0_chk263 v3773 v4022), ∀ a x, ((![v3773, v4022] : Fin 2 → IVec S16 32) a x).toNat < S160x39.size a := fun v3773 v4022 k0_hw263 => k0_hw263

def k0_chk264 (v3773 : IVec S16 32) (v4026 : IVec S16 32) : Prop :=
  (∀ a x, ((![v3773, v4026] : Fin 2 → IVec S16 32) a x).toNat < S160x31.size a)
theorem k0_idx264_inb : ∀ (v3773 : IVec S16 32) (v4026 : IVec S16 32) (k0_hw264 : k0_chk264 v3773 v4026), ∀ a x, ((![v3773, v4026] : Fin 2 → IVec S16 32) a x).toNat < S160x31.size a := fun v3773 v4026 k0_hw264 => k0_hw264

def k0_chk265 (v3773 : IVec S16 32) (v4029 : IVec S16 32) : Prop :=
  (∀ a x, ((![v3773, v4029] : Fin 2 → IVec S16 32) a x).toNat < S160x39.size a)
theorem k0_idx265_inb : ∀ (v3773 : IVec S16 32) (v4029 : IVec S16 32) (k0_hw265 : k0_chk265 v3773 v4029), ∀ a x, ((![v3773, v4029] : Fin 2 → IVec S16 32) a x).toNat < S160x39.size a := fun v3773 v4029 k0_hw265 => k0_hw265

def k0_chk266 (v3773 : IVec S16 32) (v4033 : IVec S16 32) : Prop :=
  (∀ a x, ((![v3773, v4033] : Fin 2 → IVec S16 32) a x).toNat < S160x31.size a)
theorem k0_idx266_inb : ∀ (v3773 : IVec S16 32) (v4033 : IVec S16 32) (k0_hw266 : k0_chk266 v3773 v4033), ∀ a x, ((![v3773, v4033] : Fin 2 → IVec S16 32) a x).toNat < S160x31.size a := fun v3773 v4033 k0_hw266 => k0_hw266

def k0_chk267 (v3773 : IVec S16 32) (v4036 : IVec S16 32) : Prop :=
  (∀ a x, ((![v3773, v4036] : Fin 2 → IVec S16 32) a x).toNat < S160x39.size a)
theorem k0_idx267_inb : ∀ (v3773 : IVec S16 32) (v4036 : IVec S16 32) (k0_hw267 : k0_chk267 v3773 v4036), ∀ a x, ((![v3773, v4036] : Fin 2 → IVec S16 32) a x).toNat < S160x39.size a := fun v3773 v4036 k0_hw267 => k0_hw267

def k0_chk268 (v3773 : IVec S16 32) (v4040 : IVec S16 32) : Prop :=
  (∀ a x, ((![v3773, v4040] : Fin 2 → IVec S16 32) a x).toNat < S160x31.size a)
theorem k0_idx268_inb : ∀ (v3773 : IVec S16 32) (v4040 : IVec S16 32) (k0_hw268 : k0_chk268 v3773 v4040), ∀ a x, ((![v3773, v4040] : Fin 2 → IVec S16 32) a x).toNat < S160x31.size a := fun v3773 v4040 k0_hw268 => k0_hw268

def k0_chk269 (v3773 : IVec S16 32) (v4043 : IVec S16 32) : Prop :=
  (∀ a x, ((![v3773, v4043] : Fin 2 → IVec S16 32) a x).toNat < S160x39.size a)
theorem k0_idx269_inb : ∀ (v3773 : IVec S16 32) (v4043 : IVec S16 32) (k0_hw269 : k0_chk269 v3773 v4043), ∀ a x, ((![v3773, v4043] : Fin 2 → IVec S16 32) a x).toNat < S160x39.size a := fun v3773 v4043 k0_hw269 => k0_hw269

def k0_chk270 (v3773 : IVec S16 32) (v4047 : IVec S16 32) : Prop :=
  (∀ a x, ((![v3773, v4047] : Fin 2 → IVec S16 32) a x).toNat < S160x31.size a)
theorem k0_idx270_inb : ∀ (v3773 : IVec S16 32) (v4047 : IVec S16 32) (k0_hw270 : k0_chk270 v3773 v4047), ∀ a x, ((![v3773, v4047] : Fin 2 → IVec S16 32) a x).toNat < S160x31.size a := fun v3773 v4047 k0_hw270 => k0_hw270

def k0_chk271 (v3773 : IVec S16 32) (v4050 : IVec S16 32) : Prop :=
  (∀ a x, ((![v3773, v4050] : Fin 2 → IVec S16 32) a x).toNat < S160x39.size a)
theorem k0_idx271_inb : ∀ (v3773 : IVec S16 32) (v4050 : IVec S16 32) (k0_hw271 : k0_chk271 v3773 v4050), ∀ a x, ((![v3773, v4050] : Fin 2 → IVec S16 32) a x).toNat < S160x39.size a := fun v3773 v4050 k0_hw271 => k0_hw271

def k0_chk272 (v3773 : IVec S16 32) (v4054 : IVec S16 32) : Prop :=
  (∀ a x, ((![v3773, v4054] : Fin 2 → IVec S16 32) a x).toNat < S160x31.size a)
theorem k0_idx272_inb : ∀ (v3773 : IVec S16 32) (v4054 : IVec S16 32) (k0_hw272 : k0_chk272 v3773 v4054), ∀ a x, ((![v3773, v4054] : Fin 2 → IVec S16 32) a x).toNat < S160x31.size a := fun v3773 v4054 k0_hw272 => k0_hw272

def k0_chk273 (v4058 : IVec S16 32) (v4059 : IVec S16 32) : Prop :=
  (∀ a x, ((![v4058, v4059] : Fin 2 → IVec S16 32) a x).toNat < S160x39.size a)
theorem k0_idx273_inb : ∀ (v4058 : IVec S16 32) (v4059 : IVec S16 32) (k0_hw273 : k0_chk273 v4058 v4059), ∀ a x, ((![v4058, v4059] : Fin 2 → IVec S16 32) a x).toNat < S160x39.size a := fun v4058 v4059 k0_hw273 => k0_hw273

def k0_chk274 (v4058 : IVec S16 32) (v4063 : IVec S16 32) : Prop :=
  (∀ a x, ((![v4058, v4063] : Fin 2 → IVec S16 32) a x).toNat < S160x39.size a)
theorem k0_idx274_inb : ∀ (v4058 : IVec S16 32) (v4063 : IVec S16 32) (k0_hw274 : k0_chk274 v4058 v4063), ∀ a x, ((![v4058, v4063] : Fin 2 → IVec S16 32) a x).toNat < S160x39.size a := fun v4058 v4063 k0_hw274 => k0_hw274

def k0_chk275 (v4058 : IVec S16 32) (v4067 : IVec S16 32) : Prop :=
  (∀ a x, ((![v4058, v4067] : Fin 2 → IVec S16 32) a x).toNat < S160x39.size a)
theorem k0_idx275_inb : ∀ (v4058 : IVec S16 32) (v4067 : IVec S16 32) (k0_hw275 : k0_chk275 v4058 v4067), ∀ a x, ((![v4058, v4067] : Fin 2 → IVec S16 32) a x).toNat < S160x39.size a := fun v4058 v4067 k0_hw275 => k0_hw275

def k0_chk276 (v4058 : IVec S16 32) (v4071 : IVec S16 32) : Prop :=
  (∀ a x, ((![v4058, v4071] : Fin 2 → IVec S16 32) a x).toNat < S160x39.size a)
theorem k0_idx276_inb : ∀ (v4058 : IVec S16 32) (v4071 : IVec S16 32) (k0_hw276 : k0_chk276 v4058 v4071), ∀ a x, ((![v4058, v4071] : Fin 2 → IVec S16 32) a x).toNat < S160x39.size a := fun v4058 v4071 k0_hw276 => k0_hw276

def k0_chk277 (v4058 : IVec S16 32) (v4076 : IVec S16 32) : Prop :=
  (∀ a x, ((![v4058, v4076] : Fin 2 → IVec S16 32) a x).toNat < S160x39.size a)
theorem k0_idx277_inb : ∀ (v4058 : IVec S16 32) (v4076 : IVec S16 32) (k0_hw277 : k0_chk277 v4058 v4076), ∀ a x, ((![v4058, v4076] : Fin 2 → IVec S16 32) a x).toNat < S160x39.size a := fun v4058 v4076 k0_hw277 => k0_hw277

def k0_chk278 (v4058 : IVec S16 32) (v4080 : IVec S16 32) : Prop :=
  (∀ a x, ((![v4058, v4080] : Fin 2 → IVec S16 32) a x).toNat < S160x39.size a)
theorem k0_idx278_inb : ∀ (v4058 : IVec S16 32) (v4080 : IVec S16 32) (k0_hw278 : k0_chk278 v4058 v4080), ∀ a x, ((![v4058, v4080] : Fin 2 → IVec S16 32) a x).toNat < S160x39.size a := fun v4058 v4080 k0_hw278 => k0_hw278

def k0_chk279 (v4058 : IVec S16 32) (v4085 : IVec S16 32) : Prop :=
  (∀ a x, ((![v4058, v4085] : Fin 2 → IVec S16 32) a x).toNat < S160x39.size a)
theorem k0_idx279_inb : ∀ (v4058 : IVec S16 32) (v4085 : IVec S16 32) (k0_hw279 : k0_chk279 v4058 v4085), ∀ a x, ((![v4058, v4085] : Fin 2 → IVec S16 32) a x).toNat < S160x39.size a := fun v4058 v4085 k0_hw279 => k0_hw279

def k0_chk280 (v4058 : IVec S16 32) (v4093 : IVec S16 32) : Prop :=
  (∀ a x, ((![v4058, v4093] : Fin 2 → IVec S16 32) a x).toNat < S160x39.size a)
theorem k0_idx280_inb : ∀ (v4058 : IVec S16 32) (v4093 : IVec S16 32) (k0_hw280 : k0_chk280 v4058 v4093), ∀ a x, ((![v4058, v4093] : Fin 2 → IVec S16 32) a x).toNat < S160x39.size a := fun v4058 v4093 k0_hw280 => k0_hw280

def k0_chk281 (v4058 : IVec S16 32) (v4101 : IVec S16 32) : Prop :=
  (∀ a x, ((![v4058, v4101] : Fin 2 → IVec S16 32) a x).toNat < S160x31.size a)
theorem k0_idx281_inb : ∀ (v4058 : IVec S16 32) (v4101 : IVec S16 32) (k0_hw281 : k0_chk281 v4058 v4101), ∀ a x, ((![v4058, v4101] : Fin 2 → IVec S16 32) a x).toNat < S160x31.size a := fun v4058 v4101 k0_hw281 => k0_hw281

def k0_chk282 (v4058 : IVec S16 32) (v4104 : IVec S16 32) : Prop :=
  (∀ a x, ((![v4058, v4104] : Fin 2 → IVec S16 32) a x).toNat < S160x31.size a)
theorem k0_idx282_inb : ∀ (v4058 : IVec S16 32) (v4104 : IVec S16 32) (k0_hw282 : k0_chk282 v4058 v4104), ∀ a x, ((![v4058, v4104] : Fin 2 → IVec S16 32) a x).toNat < S160x31.size a := fun v4058 v4104 k0_hw282 => k0_hw282

def k0_chk283 (v4058 : IVec S16 32) (v4107 : IVec S16 32) : Prop :=
  (∀ a x, ((![v4058, v4107] : Fin 2 → IVec S16 32) a x).toNat < S160x39.size a)
theorem k0_idx283_inb : ∀ (v4058 : IVec S16 32) (v4107 : IVec S16 32) (k0_hw283 : k0_chk283 v4058 v4107), ∀ a x, ((![v4058, v4107] : Fin 2 → IVec S16 32) a x).toNat < S160x39.size a := fun v4058 v4107 k0_hw283 => k0_hw283

def k0_chk284 (v4058 : IVec S16 32) (v4115 : IVec S16 32) : Prop :=
  (∀ a x, ((![v4058, v4115] : Fin 2 → IVec S16 32) a x).toNat < S160x39.size a)
theorem k0_idx284_inb : ∀ (v4058 : IVec S16 32) (v4115 : IVec S16 32) (k0_hw284 : k0_chk284 v4058 v4115), ∀ a x, ((![v4058, v4115] : Fin 2 → IVec S16 32) a x).toNat < S160x39.size a := fun v4058 v4115 k0_hw284 => k0_hw284

def k0_chk285 (v4058 : IVec S16 32) (v4123 : IVec S16 32) : Prop :=
  (∀ a x, ((![v4058, v4123] : Fin 2 → IVec S16 32) a x).toNat < S160x31.size a)
theorem k0_idx285_inb : ∀ (v4058 : IVec S16 32) (v4123 : IVec S16 32) (k0_hw285 : k0_chk285 v4058 v4123), ∀ a x, ((![v4058, v4123] : Fin 2 → IVec S16 32) a x).toNat < S160x31.size a := fun v4058 v4123 k0_hw285 => k0_hw285

def k0_chk286 (v4058 : IVec S16 32) (v4126 : IVec S16 32) : Prop :=
  (∀ a x, ((![v4058, v4126] : Fin 2 → IVec S16 32) a x).toNat < S160x31.size a)
theorem k0_idx286_inb : ∀ (v4058 : IVec S16 32) (v4126 : IVec S16 32) (k0_hw286 : k0_chk286 v4058 v4126), ∀ a x, ((![v4058, v4126] : Fin 2 → IVec S16 32) a x).toNat < S160x31.size a := fun v4058 v4126 k0_hw286 => k0_hw286

def k0_chk287 (v4058 : IVec S16 32) (v4129 : IVec S16 32) : Prop :=
  (∀ a x, ((![v4058, v4129] : Fin 2 → IVec S16 32) a x).toNat < S160x39.size a)
theorem k0_idx287_inb : ∀ (v4058 : IVec S16 32) (v4129 : IVec S16 32) (k0_hw287 : k0_chk287 v4058 v4129), ∀ a x, ((![v4058, v4129] : Fin 2 → IVec S16 32) a x).toNat < S160x39.size a := fun v4058 v4129 k0_hw287 => k0_hw287

def k0_chk288 (v4058 : IVec S16 32) (v4137 : IVec S16 32) : Prop :=
  (∀ a x, ((![v4058, v4137] : Fin 2 → IVec S16 32) a x).toNat < S160x39.size a)
theorem k0_idx288_inb : ∀ (v4058 : IVec S16 32) (v4137 : IVec S16 32) (k0_hw288 : k0_chk288 v4058 v4137), ∀ a x, ((![v4058, v4137] : Fin 2 → IVec S16 32) a x).toNat < S160x39.size a := fun v4058 v4137 k0_hw288 => k0_hw288

def k0_chk289 (v4058 : IVec S16 32) (v4145 : IVec S16 32) : Prop :=
  (∀ a x, ((![v4058, v4145] : Fin 2 → IVec S16 32) a x).toNat < S160x31.size a)
theorem k0_idx289_inb : ∀ (v4058 : IVec S16 32) (v4145 : IVec S16 32) (k0_hw289 : k0_chk289 v4058 v4145), ∀ a x, ((![v4058, v4145] : Fin 2 → IVec S16 32) a x).toNat < S160x31.size a := fun v4058 v4145 k0_hw289 => k0_hw289

def k0_chk290 (v4058 : IVec S16 32) (v4148 : IVec S16 32) : Prop :=
  (∀ a x, ((![v4058, v4148] : Fin 2 → IVec S16 32) a x).toNat < S160x31.size a)
theorem k0_idx290_inb : ∀ (v4058 : IVec S16 32) (v4148 : IVec S16 32) (k0_hw290 : k0_chk290 v4058 v4148), ∀ a x, ((![v4058, v4148] : Fin 2 → IVec S16 32) a x).toNat < S160x31.size a := fun v4058 v4148 k0_hw290 => k0_hw290

def k0_chk291 (v4058 : IVec S16 32) (v4151 : IVec S16 32) : Prop :=
  (∀ a x, ((![v4058, v4151] : Fin 2 → IVec S16 32) a x).toNat < S160x39.size a)
theorem k0_idx291_inb : ∀ (v4058 : IVec S16 32) (v4151 : IVec S16 32) (k0_hw291 : k0_chk291 v4058 v4151), ∀ a x, ((![v4058, v4151] : Fin 2 → IVec S16 32) a x).toNat < S160x39.size a := fun v4058 v4151 k0_hw291 => k0_hw291

def k0_chk292 (v4058 : IVec S16 32) (v4159 : IVec S16 32) : Prop :=
  (∀ a x, ((![v4058, v4159] : Fin 2 → IVec S16 32) a x).toNat < S160x39.size a)
theorem k0_idx292_inb : ∀ (v4058 : IVec S16 32) (v4159 : IVec S16 32) (k0_hw292 : k0_chk292 v4058 v4159), ∀ a x, ((![v4058, v4159] : Fin 2 → IVec S16 32) a x).toNat < S160x39.size a := fun v4058 v4159 k0_hw292 => k0_hw292

def k0_chk293 (v4058 : IVec S16 32) (v4167 : IVec S16 32) : Prop :=
  (∀ a x, ((![v4058, v4167] : Fin 2 → IVec S16 32) a x).toNat < S160x31.size a)
theorem k0_idx293_inb : ∀ (v4058 : IVec S16 32) (v4167 : IVec S16 32) (k0_hw293 : k0_chk293 v4058 v4167), ∀ a x, ((![v4058, v4167] : Fin 2 → IVec S16 32) a x).toNat < S160x31.size a := fun v4058 v4167 k0_hw293 => k0_hw293

def k0_chk294 (v4058 : IVec S16 32) (v4170 : IVec S16 32) : Prop :=
  (∀ a x, ((![v4058, v4170] : Fin 2 → IVec S16 32) a x).toNat < S160x31.size a)
theorem k0_idx294_inb : ∀ (v4058 : IVec S16 32) (v4170 : IVec S16 32) (k0_hw294 : k0_chk294 v4058 v4170), ∀ a x, ((![v4058, v4170] : Fin 2 → IVec S16 32) a x).toNat < S160x31.size a := fun v4058 v4170 k0_hw294 => k0_hw294

def k0_chk295 (v4058 : IVec S16 32) (v4173 : IVec S16 32) : Prop :=
  (∀ a x, ((![v4058, v4173] : Fin 2 → IVec S16 32) a x).toNat < S160x39.size a)
theorem k0_idx295_inb : ∀ (v4058 : IVec S16 32) (v4173 : IVec S16 32) (k0_hw295 : k0_chk295 v4058 v4173), ∀ a x, ((![v4058, v4173] : Fin 2 → IVec S16 32) a x).toNat < S160x39.size a := fun v4058 v4173 k0_hw295 => k0_hw295

def k0_chk296 (v4058 : IVec S16 32) (v4181 : IVec S16 32) : Prop :=
  (∀ a x, ((![v4058, v4181] : Fin 2 → IVec S16 32) a x).toNat < S160x39.size a)
theorem k0_idx296_inb : ∀ (v4058 : IVec S16 32) (v4181 : IVec S16 32) (k0_hw296 : k0_chk296 v4058 v4181), ∀ a x, ((![v4058, v4181] : Fin 2 → IVec S16 32) a x).toNat < S160x39.size a := fun v4058 v4181 k0_hw296 => k0_hw296

def k0_chk297 (v4058 : IVec S16 32) (v4189 : IVec S16 32) : Prop :=
  (∀ a x, ((![v4058, v4189] : Fin 2 → IVec S16 32) a x).toNat < S160x31.size a)
theorem k0_idx297_inb : ∀ (v4058 : IVec S16 32) (v4189 : IVec S16 32) (k0_hw297 : k0_chk297 v4058 v4189), ∀ a x, ((![v4058, v4189] : Fin 2 → IVec S16 32) a x).toNat < S160x31.size a := fun v4058 v4189 k0_hw297 => k0_hw297

def k0_chk298 (v4058 : IVec S16 32) (v4192 : IVec S16 32) : Prop :=
  (∀ a x, ((![v4058, v4192] : Fin 2 → IVec S16 32) a x).toNat < S160x31.size a)
theorem k0_idx298_inb : ∀ (v4058 : IVec S16 32) (v4192 : IVec S16 32) (k0_hw298 : k0_chk298 v4058 v4192), ∀ a x, ((![v4058, v4192] : Fin 2 → IVec S16 32) a x).toNat < S160x31.size a := fun v4058 v4192 k0_hw298 => k0_hw298

def k0_chk299 (v4058 : IVec S16 32) (v4195 : IVec S16 32) : Prop :=
  (∀ a x, ((![v4058, v4195] : Fin 2 → IVec S16 32) a x).toNat < S160x39.size a)
theorem k0_idx299_inb : ∀ (v4058 : IVec S16 32) (v4195 : IVec S16 32) (k0_hw299 : k0_chk299 v4058 v4195), ∀ a x, ((![v4058, v4195] : Fin 2 → IVec S16 32) a x).toNat < S160x39.size a := fun v4058 v4195 k0_hw299 => k0_hw299

def k0_chk300 (v4058 : IVec S16 32) (v4199 : IVec S16 32) : Prop :=
  (∀ a x, ((![v4058, v4199] : Fin 2 → IVec S16 32) a x).toNat < S160x31.size a)
theorem k0_idx300_inb : ∀ (v4058 : IVec S16 32) (v4199 : IVec S16 32) (k0_hw300 : k0_chk300 v4058 v4199), ∀ a x, ((![v4058, v4199] : Fin 2 → IVec S16 32) a x).toNat < S160x31.size a := fun v4058 v4199 k0_hw300 => k0_hw300

def k0_chk301 (v4058 : IVec S16 32) (v4202 : IVec S16 32) : Prop :=
  (∀ a x, ((![v4058, v4202] : Fin 2 → IVec S16 32) a x).toNat < S160x39.size a)
theorem k0_idx301_inb : ∀ (v4058 : IVec S16 32) (v4202 : IVec S16 32) (k0_hw301 : k0_chk301 v4058 v4202), ∀ a x, ((![v4058, v4202] : Fin 2 → IVec S16 32) a x).toNat < S160x39.size a := fun v4058 v4202 k0_hw301 => k0_hw301

def k0_chk302 (v4058 : IVec S16 32) (v4206 : IVec S16 32) : Prop :=
  (∀ a x, ((![v4058, v4206] : Fin 2 → IVec S16 32) a x).toNat < S160x31.size a)
theorem k0_idx302_inb : ∀ (v4058 : IVec S16 32) (v4206 : IVec S16 32) (k0_hw302 : k0_chk302 v4058 v4206), ∀ a x, ((![v4058, v4206] : Fin 2 → IVec S16 32) a x).toNat < S160x31.size a := fun v4058 v4206 k0_hw302 => k0_hw302

def k0_chk303 (v4058 : IVec S16 32) (v4209 : IVec S16 32) : Prop :=
  (∀ a x, ((![v4058, v4209] : Fin 2 → IVec S16 32) a x).toNat < S160x39.size a)
theorem k0_idx303_inb : ∀ (v4058 : IVec S16 32) (v4209 : IVec S16 32) (k0_hw303 : k0_chk303 v4058 v4209), ∀ a x, ((![v4058, v4209] : Fin 2 → IVec S16 32) a x).toNat < S160x39.size a := fun v4058 v4209 k0_hw303 => k0_hw303

def k0_chk304 (v4058 : IVec S16 32) (v4213 : IVec S16 32) : Prop :=
  (∀ a x, ((![v4058, v4213] : Fin 2 → IVec S16 32) a x).toNat < S160x31.size a)
theorem k0_idx304_inb : ∀ (v4058 : IVec S16 32) (v4213 : IVec S16 32) (k0_hw304 : k0_chk304 v4058 v4213), ∀ a x, ((![v4058, v4213] : Fin 2 → IVec S16 32) a x).toNat < S160x31.size a := fun v4058 v4213 k0_hw304 => k0_hw304

def k0_chk305 (v4058 : IVec S16 32) (v4216 : IVec S16 32) : Prop :=
  (∀ a x, ((![v4058, v4216] : Fin 2 → IVec S16 32) a x).toNat < S160x39.size a)
theorem k0_idx305_inb : ∀ (v4058 : IVec S16 32) (v4216 : IVec S16 32) (k0_hw305 : k0_chk305 v4058 v4216), ∀ a x, ((![v4058, v4216] : Fin 2 → IVec S16 32) a x).toNat < S160x39.size a := fun v4058 v4216 k0_hw305 => k0_hw305

def k0_chk306 (v4058 : IVec S16 32) (v4220 : IVec S16 32) : Prop :=
  (∀ a x, ((![v4058, v4220] : Fin 2 → IVec S16 32) a x).toNat < S160x31.size a)
theorem k0_idx306_inb : ∀ (v4058 : IVec S16 32) (v4220 : IVec S16 32) (k0_hw306 : k0_chk306 v4058 v4220), ∀ a x, ((![v4058, v4220] : Fin 2 → IVec S16 32) a x).toNat < S160x31.size a := fun v4058 v4220 k0_hw306 => k0_hw306

def k0_chk307 (v4058 : IVec S16 32) (v4223 : IVec S16 32) : Prop :=
  (∀ a x, ((![v4058, v4223] : Fin 2 → IVec S16 32) a x).toNat < S160x39.size a)
theorem k0_idx307_inb : ∀ (v4058 : IVec S16 32) (v4223 : IVec S16 32) (k0_hw307 : k0_chk307 v4058 v4223), ∀ a x, ((![v4058, v4223] : Fin 2 → IVec S16 32) a x).toNat < S160x39.size a := fun v4058 v4223 k0_hw307 => k0_hw307

def k0_chk308 (v4058 : IVec S16 32) (v4227 : IVec S16 32) : Prop :=
  (∀ a x, ((![v4058, v4227] : Fin 2 → IVec S16 32) a x).toNat < S160x31.size a)
theorem k0_idx308_inb : ∀ (v4058 : IVec S16 32) (v4227 : IVec S16 32) (k0_hw308 : k0_chk308 v4058 v4227), ∀ a x, ((![v4058, v4227] : Fin 2 → IVec S16 32) a x).toNat < S160x31.size a := fun v4058 v4227 k0_hw308 => k0_hw308

def k0_chk309 (v4058 : IVec S16 32) (v4230 : IVec S16 32) : Prop :=
  (∀ a x, ((![v4058, v4230] : Fin 2 → IVec S16 32) a x).toNat < S160x39.size a)
theorem k0_idx309_inb : ∀ (v4058 : IVec S16 32) (v4230 : IVec S16 32) (k0_hw309 : k0_chk309 v4058 v4230), ∀ a x, ((![v4058, v4230] : Fin 2 → IVec S16 32) a x).toNat < S160x39.size a := fun v4058 v4230 k0_hw309 => k0_hw309

def k0_chk310 (v4058 : IVec S16 32) (v4234 : IVec S16 32) : Prop :=
  (∀ a x, ((![v4058, v4234] : Fin 2 → IVec S16 32) a x).toNat < S160x31.size a)
theorem k0_idx310_inb : ∀ (v4058 : IVec S16 32) (v4234 : IVec S16 32) (k0_hw310 : k0_chk310 v4058 v4234), ∀ a x, ((![v4058, v4234] : Fin 2 → IVec S16 32) a x).toNat < S160x31.size a := fun v4058 v4234 k0_hw310 => k0_hw310

def k0_chk311 (v4058 : IVec S16 32) (v4237 : IVec S16 32) : Prop :=
  (∀ a x, ((![v4058, v4237] : Fin 2 → IVec S16 32) a x).toNat < S160x39.size a)
theorem k0_idx311_inb : ∀ (v4058 : IVec S16 32) (v4237 : IVec S16 32) (k0_hw311 : k0_chk311 v4058 v4237), ∀ a x, ((![v4058, v4237] : Fin 2 → IVec S16 32) a x).toNat < S160x39.size a := fun v4058 v4237 k0_hw311 => k0_hw311

def k0_chk312 (v4058 : IVec S16 32) (v4241 : IVec S16 32) : Prop :=
  (∀ a x, ((![v4058, v4241] : Fin 2 → IVec S16 32) a x).toNat < S160x31.size a)
theorem k0_idx312_inb : ∀ (v4058 : IVec S16 32) (v4241 : IVec S16 32) (k0_hw312 : k0_chk312 v4058 v4241), ∀ a x, ((![v4058, v4241] : Fin 2 → IVec S16 32) a x).toNat < S160x31.size a := fun v4058 v4241 k0_hw312 => k0_hw312

def k0_chk313 (v4058 : IVec S16 32) (v4244 : IVec S16 32) : Prop :=
  (∀ a x, ((![v4058, v4244] : Fin 2 → IVec S16 32) a x).toNat < S160x39.size a)
theorem k0_idx313_inb : ∀ (v4058 : IVec S16 32) (v4244 : IVec S16 32) (k0_hw313 : k0_chk313 v4058 v4244), ∀ a x, ((![v4058, v4244] : Fin 2 → IVec S16 32) a x).toNat < S160x39.size a := fun v4058 v4244 k0_hw313 => k0_hw313

def k0_chk314 (v4058 : IVec S16 32) (v4248 : IVec S16 32) : Prop :=
  (∀ a x, ((![v4058, v4248] : Fin 2 → IVec S16 32) a x).toNat < S160x31.size a)
theorem k0_idx314_inb : ∀ (v4058 : IVec S16 32) (v4248 : IVec S16 32) (k0_hw314 : k0_chk314 v4058 v4248), ∀ a x, ((![v4058, v4248] : Fin 2 → IVec S16 32) a x).toNat < S160x31.size a := fun v4058 v4248 k0_hw314 => k0_hw314

def k0_chk315 (v4058 : IVec S16 32) (v4251 : IVec S16 32) : Prop :=
  (∀ a x, ((![v4058, v4251] : Fin 2 → IVec S16 32) a x).toNat < S160x39.size a)
theorem k0_idx315_inb : ∀ (v4058 : IVec S16 32) (v4251 : IVec S16 32) (k0_hw315 : k0_chk315 v4058 v4251), ∀ a x, ((![v4058, v4251] : Fin 2 → IVec S16 32) a x).toNat < S160x39.size a := fun v4058 v4251 k0_hw315 => k0_hw315

def k0_chk316 (v4058 : IVec S16 32) (v4255 : IVec S16 32) : Prop :=
  (∀ a x, ((![v4058, v4255] : Fin 2 → IVec S16 32) a x).toNat < S160x31.size a)
theorem k0_idx316_inb : ∀ (v4058 : IVec S16 32) (v4255 : IVec S16 32) (k0_hw316 : k0_chk316 v4058 v4255), ∀ a x, ((![v4058, v4255] : Fin 2 → IVec S16 32) a x).toNat < S160x31.size a := fun v4058 v4255 k0_hw316 => k0_hw316

def k0_chk317 (v4058 : IVec S16 32) (v4258 : IVec S16 32) : Prop :=
  (∀ a x, ((![v4058, v4258] : Fin 2 → IVec S16 32) a x).toNat < S160x39.size a)
theorem k0_idx317_inb : ∀ (v4058 : IVec S16 32) (v4258 : IVec S16 32) (k0_hw317 : k0_chk317 v4058 v4258), ∀ a x, ((![v4058, v4258] : Fin 2 → IVec S16 32) a x).toNat < S160x39.size a := fun v4058 v4258 k0_hw317 => k0_hw317

def k0_chk318 (v4058 : IVec S16 32) (v4262 : IVec S16 32) : Prop :=
  (∀ a x, ((![v4058, v4262] : Fin 2 → IVec S16 32) a x).toNat < S160x31.size a)
theorem k0_idx318_inb : ∀ (v4058 : IVec S16 32) (v4262 : IVec S16 32) (k0_hw318 : k0_chk318 v4058 v4262), ∀ a x, ((![v4058, v4262] : Fin 2 → IVec S16 32) a x).toNat < S160x31.size a := fun v4058 v4262 k0_hw318 => k0_hw318

def k0_chk319 (v4058 : IVec S16 32) (v4265 : IVec S16 32) : Prop :=
  (∀ a x, ((![v4058, v4265] : Fin 2 → IVec S16 32) a x).toNat < S160x39.size a)
theorem k0_idx319_inb : ∀ (v4058 : IVec S16 32) (v4265 : IVec S16 32) (k0_hw319 : k0_chk319 v4058 v4265), ∀ a x, ((![v4058, v4265] : Fin 2 → IVec S16 32) a x).toNat < S160x39.size a := fun v4058 v4265 k0_hw319 => k0_hw319

def k0_chk320 (v4058 : IVec S16 32) (v4269 : IVec S16 32) : Prop :=
  (∀ a x, ((![v4058, v4269] : Fin 2 → IVec S16 32) a x).toNat < S160x31.size a)
theorem k0_idx320_inb : ∀ (v4058 : IVec S16 32) (v4269 : IVec S16 32) (k0_hw320 : k0_chk320 v4058 v4269), ∀ a x, ((![v4058, v4269] : Fin 2 → IVec S16 32) a x).toNat < S160x31.size a := fun v4058 v4269 k0_hw320 => k0_hw320

def k0_chk321 (v4058 : IVec S16 32) (v4272 : IVec S16 32) : Prop :=
  (∀ a x, ((![v4058, v4272] : Fin 2 → IVec S16 32) a x).toNat < S160x39.size a)
theorem k0_idx321_inb : ∀ (v4058 : IVec S16 32) (v4272 : IVec S16 32) (k0_hw321 : k0_chk321 v4058 v4272), ∀ a x, ((![v4058, v4272] : Fin 2 → IVec S16 32) a x).toNat < S160x39.size a := fun v4058 v4272 k0_hw321 => k0_hw321

def k0_chk322 (v4058 : IVec S16 32) (v4276 : IVec S16 32) : Prop :=
  (∀ a x, ((![v4058, v4276] : Fin 2 → IVec S16 32) a x).toNat < S160x31.size a)
theorem k0_idx322_inb : ∀ (v4058 : IVec S16 32) (v4276 : IVec S16 32) (k0_hw322 : k0_chk322 v4058 v4276), ∀ a x, ((![v4058, v4276] : Fin 2 → IVec S16 32) a x).toNat < S160x31.size a := fun v4058 v4276 k0_hw322 => k0_hw322

def k0_chk323 (v4058 : IVec S16 32) (v4279 : IVec S16 32) : Prop :=
  (∀ a x, ((![v4058, v4279] : Fin 2 → IVec S16 32) a x).toNat < S160x39.size a)
theorem k0_idx323_inb : ∀ (v4058 : IVec S16 32) (v4279 : IVec S16 32) (k0_hw323 : k0_chk323 v4058 v4279), ∀ a x, ((![v4058, v4279] : Fin 2 → IVec S16 32) a x).toNat < S160x39.size a := fun v4058 v4279 k0_hw323 => k0_hw323

def k0_chk324 (v4058 : IVec S16 32) (v4283 : IVec S16 32) : Prop :=
  (∀ a x, ((![v4058, v4283] : Fin 2 → IVec S16 32) a x).toNat < S160x31.size a)
theorem k0_idx324_inb : ∀ (v4058 : IVec S16 32) (v4283 : IVec S16 32) (k0_hw324 : k0_chk324 v4058 v4283), ∀ a x, ((![v4058, v4283] : Fin 2 → IVec S16 32) a x).toNat < S160x31.size a := fun v4058 v4283 k0_hw324 => k0_hw324

def k0_chk325 (v4058 : IVec S16 32) (v4286 : IVec S16 32) : Prop :=
  (∀ a x, ((![v4058, v4286] : Fin 2 → IVec S16 32) a x).toNat < S160x39.size a)
theorem k0_idx325_inb : ∀ (v4058 : IVec S16 32) (v4286 : IVec S16 32) (k0_hw325 : k0_chk325 v4058 v4286), ∀ a x, ((![v4058, v4286] : Fin 2 → IVec S16 32) a x).toNat < S160x39.size a := fun v4058 v4286 k0_hw325 => k0_hw325

def k0_chk326 (v4058 : IVec S16 32) (v4290 : IVec S16 32) : Prop :=
  (∀ a x, ((![v4058, v4290] : Fin 2 → IVec S16 32) a x).toNat < S160x31.size a)
theorem k0_idx326_inb : ∀ (v4058 : IVec S16 32) (v4290 : IVec S16 32) (k0_hw326 : k0_chk326 v4058 v4290), ∀ a x, ((![v4058, v4290] : Fin 2 → IVec S16 32) a x).toNat < S160x31.size a := fun v4058 v4290 k0_hw326 => k0_hw326

def k0_chk327 (v4058 : IVec S16 32) (v4293 : IVec S16 32) : Prop :=
  (∀ a x, ((![v4058, v4293] : Fin 2 → IVec S16 32) a x).toNat < S160x39.size a)
theorem k0_idx327_inb : ∀ (v4058 : IVec S16 32) (v4293 : IVec S16 32) (k0_hw327 : k0_chk327 v4058 v4293), ∀ a x, ((![v4058, v4293] : Fin 2 → IVec S16 32) a x).toNat < S160x39.size a := fun v4058 v4293 k0_hw327 => k0_hw327

def k0_chk328 (v4058 : IVec S16 32) (v4297 : IVec S16 32) : Prop :=
  (∀ a x, ((![v4058, v4297] : Fin 2 → IVec S16 32) a x).toNat < S160x31.size a)
theorem k0_idx328_inb : ∀ (v4058 : IVec S16 32) (v4297 : IVec S16 32) (k0_hw328 : k0_chk328 v4058 v4297), ∀ a x, ((![v4058, v4297] : Fin 2 → IVec S16 32) a x).toNat < S160x31.size a := fun v4058 v4297 k0_hw328 => k0_hw328

def k0_chk329 (v4058 : IVec S16 32) (v4300 : IVec S16 32) : Prop :=
  (∀ a x, ((![v4058, v4300] : Fin 2 → IVec S16 32) a x).toNat < S160x39.size a)
theorem k0_idx329_inb : ∀ (v4058 : IVec S16 32) (v4300 : IVec S16 32) (k0_hw329 : k0_chk329 v4058 v4300), ∀ a x, ((![v4058, v4300] : Fin 2 → IVec S16 32) a x).toNat < S160x39.size a := fun v4058 v4300 k0_hw329 => k0_hw329

def k0_chk330 (v4058 : IVec S16 32) (v4304 : IVec S16 32) : Prop :=
  (∀ a x, ((![v4058, v4304] : Fin 2 → IVec S16 32) a x).toNat < S160x31.size a)
theorem k0_idx330_inb : ∀ (v4058 : IVec S16 32) (v4304 : IVec S16 32) (k0_hw330 : k0_chk330 v4058 v4304), ∀ a x, ((![v4058, v4304] : Fin 2 → IVec S16 32) a x).toNat < S160x31.size a := fun v4058 v4304 k0_hw330 => k0_hw330

def k0_chk331 (v4058 : IVec S16 32) (v4307 : IVec S16 32) : Prop :=
  (∀ a x, ((![v4058, v4307] : Fin 2 → IVec S16 32) a x).toNat < S160x39.size a)
theorem k0_idx331_inb : ∀ (v4058 : IVec S16 32) (v4307 : IVec S16 32) (k0_hw331 : k0_chk331 v4058 v4307), ∀ a x, ((![v4058, v4307] : Fin 2 → IVec S16 32) a x).toNat < S160x39.size a := fun v4058 v4307 k0_hw331 => k0_hw331

def k0_chk332 (v4058 : IVec S16 32) (v4311 : IVec S16 32) : Prop :=
  (∀ a x, ((![v4058, v4311] : Fin 2 → IVec S16 32) a x).toNat < S160x31.size a)
theorem k0_idx332_inb : ∀ (v4058 : IVec S16 32) (v4311 : IVec S16 32) (k0_hw332 : k0_chk332 v4058 v4311), ∀ a x, ((![v4058, v4311] : Fin 2 → IVec S16 32) a x).toNat < S160x31.size a := fun v4058 v4311 k0_hw332 => k0_hw332

def k0_chk333 (v4058 : IVec S16 32) (v4314 : IVec S16 32) : Prop :=
  (∀ a x, ((![v4058, v4314] : Fin 2 → IVec S16 32) a x).toNat < S160x39.size a)
theorem k0_idx333_inb : ∀ (v4058 : IVec S16 32) (v4314 : IVec S16 32) (k0_hw333 : k0_chk333 v4058 v4314), ∀ a x, ((![v4058, v4314] : Fin 2 → IVec S16 32) a x).toNat < S160x39.size a := fun v4058 v4314 k0_hw333 => k0_hw333

def k0_chk334 (v4058 : IVec S16 32) (v4318 : IVec S16 32) : Prop :=
  (∀ a x, ((![v4058, v4318] : Fin 2 → IVec S16 32) a x).toNat < S160x31.size a)
theorem k0_idx334_inb : ∀ (v4058 : IVec S16 32) (v4318 : IVec S16 32) (k0_hw334 : k0_chk334 v4058 v4318), ∀ a x, ((![v4058, v4318] : Fin 2 → IVec S16 32) a x).toNat < S160x31.size a := fun v4058 v4318 k0_hw334 => k0_hw334

def k0_chk335 (v4058 : IVec S16 32) (v4321 : IVec S16 32) : Prop :=
  (∀ a x, ((![v4058, v4321] : Fin 2 → IVec S16 32) a x).toNat < S160x39.size a)
theorem k0_idx335_inb : ∀ (v4058 : IVec S16 32) (v4321 : IVec S16 32) (k0_hw335 : k0_chk335 v4058 v4321), ∀ a x, ((![v4058, v4321] : Fin 2 → IVec S16 32) a x).toNat < S160x39.size a := fun v4058 v4321 k0_hw335 => k0_hw335

def k0_chk336 (v4058 : IVec S16 32) (v4325 : IVec S16 32) : Prop :=
  (∀ a x, ((![v4058, v4325] : Fin 2 → IVec S16 32) a x).toNat < S160x31.size a)
theorem k0_idx336_inb : ∀ (v4058 : IVec S16 32) (v4325 : IVec S16 32) (k0_hw336 : k0_chk336 v4058 v4325), ∀ a x, ((![v4058, v4325] : Fin 2 → IVec S16 32) a x).toNat < S160x31.size a := fun v4058 v4325 k0_hw336 => k0_hw336

def k0_chk337 (v4058 : IVec S16 32) (v4328 : IVec S16 32) : Prop :=
  (∀ a x, ((![v4058, v4328] : Fin 2 → IVec S16 32) a x).toNat < S160x39.size a)
theorem k0_idx337_inb : ∀ (v4058 : IVec S16 32) (v4328 : IVec S16 32) (k0_hw337 : k0_chk337 v4058 v4328), ∀ a x, ((![v4058, v4328] : Fin 2 → IVec S16 32) a x).toNat < S160x39.size a := fun v4058 v4328 k0_hw337 => k0_hw337

def k0_chk338 (v4058 : IVec S16 32) (v4332 : IVec S16 32) : Prop :=
  (∀ a x, ((![v4058, v4332] : Fin 2 → IVec S16 32) a x).toNat < S160x31.size a)
theorem k0_idx338_inb : ∀ (v4058 : IVec S16 32) (v4332 : IVec S16 32) (k0_hw338 : k0_chk338 v4058 v4332), ∀ a x, ((![v4058, v4332] : Fin 2 → IVec S16 32) a x).toNat < S160x31.size a := fun v4058 v4332 k0_hw338 => k0_hw338

def k0_chk339 (v4058 : IVec S16 32) (v4335 : IVec S16 32) : Prop :=
  (∀ a x, ((![v4058, v4335] : Fin 2 → IVec S16 32) a x).toNat < S160x39.size a)
theorem k0_idx339_inb : ∀ (v4058 : IVec S16 32) (v4335 : IVec S16 32) (k0_hw339 : k0_chk339 v4058 v4335), ∀ a x, ((![v4058, v4335] : Fin 2 → IVec S16 32) a x).toNat < S160x39.size a := fun v4058 v4335 k0_hw339 => k0_hw339

def k0_chk340 (v4058 : IVec S16 32) (v4339 : IVec S16 32) : Prop :=
  (∀ a x, ((![v4058, v4339] : Fin 2 → IVec S16 32) a x).toNat < S160x31.size a)
theorem k0_idx340_inb : ∀ (v4058 : IVec S16 32) (v4339 : IVec S16 32) (k0_hw340 : k0_chk340 v4058 v4339), ∀ a x, ((![v4058, v4339] : Fin 2 → IVec S16 32) a x).toNat < S160x31.size a := fun v4058 v4339 k0_hw340 => k0_hw340

def k0_chk341 (v4343 : IVec S16 32) (v4344 : IVec S16 32) : Prop :=
  (∀ a x, ((![v4343, v4344] : Fin 2 → IVec S16 32) a x).toNat < S160x39.size a)
theorem k0_idx341_inb : ∀ (v4343 : IVec S16 32) (v4344 : IVec S16 32) (k0_hw341 : k0_chk341 v4343 v4344), ∀ a x, ((![v4343, v4344] : Fin 2 → IVec S16 32) a x).toNat < S160x39.size a := fun v4343 v4344 k0_hw341 => k0_hw341

def k0_chk342 (v4343 : IVec S16 32) (v4348 : IVec S16 32) : Prop :=
  (∀ a x, ((![v4343, v4348] : Fin 2 → IVec S16 32) a x).toNat < S160x39.size a)
theorem k0_idx342_inb : ∀ (v4343 : IVec S16 32) (v4348 : IVec S16 32) (k0_hw342 : k0_chk342 v4343 v4348), ∀ a x, ((![v4343, v4348] : Fin 2 → IVec S16 32) a x).toNat < S160x39.size a := fun v4343 v4348 k0_hw342 => k0_hw342

def k0_chk343 (v4343 : IVec S16 32) (v4352 : IVec S16 32) : Prop :=
  (∀ a x, ((![v4343, v4352] : Fin 2 → IVec S16 32) a x).toNat < S160x39.size a)
theorem k0_idx343_inb : ∀ (v4343 : IVec S16 32) (v4352 : IVec S16 32) (k0_hw343 : k0_chk343 v4343 v4352), ∀ a x, ((![v4343, v4352] : Fin 2 → IVec S16 32) a x).toNat < S160x39.size a := fun v4343 v4352 k0_hw343 => k0_hw343

def k0_chk344 (v4343 : IVec S16 32) (v4356 : IVec S16 32) : Prop :=
  (∀ a x, ((![v4343, v4356] : Fin 2 → IVec S16 32) a x).toNat < S160x39.size a)
theorem k0_idx344_inb : ∀ (v4343 : IVec S16 32) (v4356 : IVec S16 32) (k0_hw344 : k0_chk344 v4343 v4356), ∀ a x, ((![v4343, v4356] : Fin 2 → IVec S16 32) a x).toNat < S160x39.size a := fun v4343 v4356 k0_hw344 => k0_hw344

def k0_chk345 (v4343 : IVec S16 32) (v4361 : IVec S16 32) : Prop :=
  (∀ a x, ((![v4343, v4361] : Fin 2 → IVec S16 32) a x).toNat < S160x39.size a)
theorem k0_idx345_inb : ∀ (v4343 : IVec S16 32) (v4361 : IVec S16 32) (k0_hw345 : k0_chk345 v4343 v4361), ∀ a x, ((![v4343, v4361] : Fin 2 → IVec S16 32) a x).toNat < S160x39.size a := fun v4343 v4361 k0_hw345 => k0_hw345

def k0_chk346 (v4343 : IVec S16 32) (v4365 : IVec S16 32) : Prop :=
  (∀ a x, ((![v4343, v4365] : Fin 2 → IVec S16 32) a x).toNat < S160x39.size a)
theorem k0_idx346_inb : ∀ (v4343 : IVec S16 32) (v4365 : IVec S16 32) (k0_hw346 : k0_chk346 v4343 v4365), ∀ a x, ((![v4343, v4365] : Fin 2 → IVec S16 32) a x).toNat < S160x39.size a := fun v4343 v4365 k0_hw346 => k0_hw346

def k0_chk347 (v4343 : IVec S16 32) (v4370 : IVec S16 32) : Prop :=
  (∀ a x, ((![v4343, v4370] : Fin 2 → IVec S16 32) a x).toNat < S160x39.size a)
theorem k0_idx347_inb : ∀ (v4343 : IVec S16 32) (v4370 : IVec S16 32) (k0_hw347 : k0_chk347 v4343 v4370), ∀ a x, ((![v4343, v4370] : Fin 2 → IVec S16 32) a x).toNat < S160x39.size a := fun v4343 v4370 k0_hw347 => k0_hw347

def k0_chk348 (v4343 : IVec S16 32) (v4378 : IVec S16 32) : Prop :=
  (∀ a x, ((![v4343, v4378] : Fin 2 → IVec S16 32) a x).toNat < S160x39.size a)
theorem k0_idx348_inb : ∀ (v4343 : IVec S16 32) (v4378 : IVec S16 32) (k0_hw348 : k0_chk348 v4343 v4378), ∀ a x, ((![v4343, v4378] : Fin 2 → IVec S16 32) a x).toNat < S160x39.size a := fun v4343 v4378 k0_hw348 => k0_hw348

def k0_chk349 (v4343 : IVec S16 32) (v4386 : IVec S16 32) : Prop :=
  (∀ a x, ((![v4343, v4386] : Fin 2 → IVec S16 32) a x).toNat < S160x31.size a)
theorem k0_idx349_inb : ∀ (v4343 : IVec S16 32) (v4386 : IVec S16 32) (k0_hw349 : k0_chk349 v4343 v4386), ∀ a x, ((![v4343, v4386] : Fin 2 → IVec S16 32) a x).toNat < S160x31.size a := fun v4343 v4386 k0_hw349 => k0_hw349

def k0_chk350 (v4343 : IVec S16 32) (v4389 : IVec S16 32) : Prop :=
  (∀ a x, ((![v4343, v4389] : Fin 2 → IVec S16 32) a x).toNat < S160x31.size a)
theorem k0_idx350_inb : ∀ (v4343 : IVec S16 32) (v4389 : IVec S16 32) (k0_hw350 : k0_chk350 v4343 v4389), ∀ a x, ((![v4343, v4389] : Fin 2 → IVec S16 32) a x).toNat < S160x31.size a := fun v4343 v4389 k0_hw350 => k0_hw350

def k0_chk351 (v4343 : IVec S16 32) (v4392 : IVec S16 32) : Prop :=
  (∀ a x, ((![v4343, v4392] : Fin 2 → IVec S16 32) a x).toNat < S160x39.size a)
theorem k0_idx351_inb : ∀ (v4343 : IVec S16 32) (v4392 : IVec S16 32) (k0_hw351 : k0_chk351 v4343 v4392), ∀ a x, ((![v4343, v4392] : Fin 2 → IVec S16 32) a x).toNat < S160x39.size a := fun v4343 v4392 k0_hw351 => k0_hw351

def k0_chk352 (v4343 : IVec S16 32) (v4400 : IVec S16 32) : Prop :=
  (∀ a x, ((![v4343, v4400] : Fin 2 → IVec S16 32) a x).toNat < S160x39.size a)
theorem k0_idx352_inb : ∀ (v4343 : IVec S16 32) (v4400 : IVec S16 32) (k0_hw352 : k0_chk352 v4343 v4400), ∀ a x, ((![v4343, v4400] : Fin 2 → IVec S16 32) a x).toNat < S160x39.size a := fun v4343 v4400 k0_hw352 => k0_hw352

def k0_chk353 (v4343 : IVec S16 32) (v4408 : IVec S16 32) : Prop :=
  (∀ a x, ((![v4343, v4408] : Fin 2 → IVec S16 32) a x).toNat < S160x31.size a)
theorem k0_idx353_inb : ∀ (v4343 : IVec S16 32) (v4408 : IVec S16 32) (k0_hw353 : k0_chk353 v4343 v4408), ∀ a x, ((![v4343, v4408] : Fin 2 → IVec S16 32) a x).toNat < S160x31.size a := fun v4343 v4408 k0_hw353 => k0_hw353

def k0_chk354 (v4343 : IVec S16 32) (v4411 : IVec S16 32) : Prop :=
  (∀ a x, ((![v4343, v4411] : Fin 2 → IVec S16 32) a x).toNat < S160x31.size a)
theorem k0_idx354_inb : ∀ (v4343 : IVec S16 32) (v4411 : IVec S16 32) (k0_hw354 : k0_chk354 v4343 v4411), ∀ a x, ((![v4343, v4411] : Fin 2 → IVec S16 32) a x).toNat < S160x31.size a := fun v4343 v4411 k0_hw354 => k0_hw354

def k0_chk355 (v4343 : IVec S16 32) (v4414 : IVec S16 32) : Prop :=
  (∀ a x, ((![v4343, v4414] : Fin 2 → IVec S16 32) a x).toNat < S160x39.size a)
theorem k0_idx355_inb : ∀ (v4343 : IVec S16 32) (v4414 : IVec S16 32) (k0_hw355 : k0_chk355 v4343 v4414), ∀ a x, ((![v4343, v4414] : Fin 2 → IVec S16 32) a x).toNat < S160x39.size a := fun v4343 v4414 k0_hw355 => k0_hw355

def k0_chk356 (v4343 : IVec S16 32) (v4422 : IVec S16 32) : Prop :=
  (∀ a x, ((![v4343, v4422] : Fin 2 → IVec S16 32) a x).toNat < S160x39.size a)
theorem k0_idx356_inb : ∀ (v4343 : IVec S16 32) (v4422 : IVec S16 32) (k0_hw356 : k0_chk356 v4343 v4422), ∀ a x, ((![v4343, v4422] : Fin 2 → IVec S16 32) a x).toNat < S160x39.size a := fun v4343 v4422 k0_hw356 => k0_hw356

def k0_chk357 (v4343 : IVec S16 32) (v4430 : IVec S16 32) : Prop :=
  (∀ a x, ((![v4343, v4430] : Fin 2 → IVec S16 32) a x).toNat < S160x31.size a)
theorem k0_idx357_inb : ∀ (v4343 : IVec S16 32) (v4430 : IVec S16 32) (k0_hw357 : k0_chk357 v4343 v4430), ∀ a x, ((![v4343, v4430] : Fin 2 → IVec S16 32) a x).toNat < S160x31.size a := fun v4343 v4430 k0_hw357 => k0_hw357

def k0_chk358 (v4343 : IVec S16 32) (v4433 : IVec S16 32) : Prop :=
  (∀ a x, ((![v4343, v4433] : Fin 2 → IVec S16 32) a x).toNat < S160x31.size a)
theorem k0_idx358_inb : ∀ (v4343 : IVec S16 32) (v4433 : IVec S16 32) (k0_hw358 : k0_chk358 v4343 v4433), ∀ a x, ((![v4343, v4433] : Fin 2 → IVec S16 32) a x).toNat < S160x31.size a := fun v4343 v4433 k0_hw358 => k0_hw358

def k0_chk359 (v4343 : IVec S16 32) (v4436 : IVec S16 32) : Prop :=
  (∀ a x, ((![v4343, v4436] : Fin 2 → IVec S16 32) a x).toNat < S160x39.size a)
theorem k0_idx359_inb : ∀ (v4343 : IVec S16 32) (v4436 : IVec S16 32) (k0_hw359 : k0_chk359 v4343 v4436), ∀ a x, ((![v4343, v4436] : Fin 2 → IVec S16 32) a x).toNat < S160x39.size a := fun v4343 v4436 k0_hw359 => k0_hw359

def k0_chk360 (v4343 : IVec S16 32) (v4444 : IVec S16 32) : Prop :=
  (∀ a x, ((![v4343, v4444] : Fin 2 → IVec S16 32) a x).toNat < S160x39.size a)
theorem k0_idx360_inb : ∀ (v4343 : IVec S16 32) (v4444 : IVec S16 32) (k0_hw360 : k0_chk360 v4343 v4444), ∀ a x, ((![v4343, v4444] : Fin 2 → IVec S16 32) a x).toNat < S160x39.size a := fun v4343 v4444 k0_hw360 => k0_hw360

def k0_chk361 (v4343 : IVec S16 32) (v4452 : IVec S16 32) : Prop :=
  (∀ a x, ((![v4343, v4452] : Fin 2 → IVec S16 32) a x).toNat < S160x31.size a)
theorem k0_idx361_inb : ∀ (v4343 : IVec S16 32) (v4452 : IVec S16 32) (k0_hw361 : k0_chk361 v4343 v4452), ∀ a x, ((![v4343, v4452] : Fin 2 → IVec S16 32) a x).toNat < S160x31.size a := fun v4343 v4452 k0_hw361 => k0_hw361

def k0_chk362 (v4343 : IVec S16 32) (v4455 : IVec S16 32) : Prop :=
  (∀ a x, ((![v4343, v4455] : Fin 2 → IVec S16 32) a x).toNat < S160x31.size a)
theorem k0_idx362_inb : ∀ (v4343 : IVec S16 32) (v4455 : IVec S16 32) (k0_hw362 : k0_chk362 v4343 v4455), ∀ a x, ((![v4343, v4455] : Fin 2 → IVec S16 32) a x).toNat < S160x31.size a := fun v4343 v4455 k0_hw362 => k0_hw362

def k0_chk363 (v4343 : IVec S16 32) (v4458 : IVec S16 32) : Prop :=
  (∀ a x, ((![v4343, v4458] : Fin 2 → IVec S16 32) a x).toNat < S160x39.size a)
theorem k0_idx363_inb : ∀ (v4343 : IVec S16 32) (v4458 : IVec S16 32) (k0_hw363 : k0_chk363 v4343 v4458), ∀ a x, ((![v4343, v4458] : Fin 2 → IVec S16 32) a x).toNat < S160x39.size a := fun v4343 v4458 k0_hw363 => k0_hw363

def k0_chk364 (v4343 : IVec S16 32) (v4466 : IVec S16 32) : Prop :=
  (∀ a x, ((![v4343, v4466] : Fin 2 → IVec S16 32) a x).toNat < S160x39.size a)
theorem k0_idx364_inb : ∀ (v4343 : IVec S16 32) (v4466 : IVec S16 32) (k0_hw364 : k0_chk364 v4343 v4466), ∀ a x, ((![v4343, v4466] : Fin 2 → IVec S16 32) a x).toNat < S160x39.size a := fun v4343 v4466 k0_hw364 => k0_hw364

def k0_chk365 (v4343 : IVec S16 32) (v4474 : IVec S16 32) : Prop :=
  (∀ a x, ((![v4343, v4474] : Fin 2 → IVec S16 32) a x).toNat < S160x31.size a)
theorem k0_idx365_inb : ∀ (v4343 : IVec S16 32) (v4474 : IVec S16 32) (k0_hw365 : k0_chk365 v4343 v4474), ∀ a x, ((![v4343, v4474] : Fin 2 → IVec S16 32) a x).toNat < S160x31.size a := fun v4343 v4474 k0_hw365 => k0_hw365

def k0_chk366 (v4343 : IVec S16 32) (v4477 : IVec S16 32) : Prop :=
  (∀ a x, ((![v4343, v4477] : Fin 2 → IVec S16 32) a x).toNat < S160x31.size a)
theorem k0_idx366_inb : ∀ (v4343 : IVec S16 32) (v4477 : IVec S16 32) (k0_hw366 : k0_chk366 v4343 v4477), ∀ a x, ((![v4343, v4477] : Fin 2 → IVec S16 32) a x).toNat < S160x31.size a := fun v4343 v4477 k0_hw366 => k0_hw366

def k0_chk367 (v4343 : IVec S16 32) (v4480 : IVec S16 32) : Prop :=
  (∀ a x, ((![v4343, v4480] : Fin 2 → IVec S16 32) a x).toNat < S160x39.size a)
theorem k0_idx367_inb : ∀ (v4343 : IVec S16 32) (v4480 : IVec S16 32) (k0_hw367 : k0_chk367 v4343 v4480), ∀ a x, ((![v4343, v4480] : Fin 2 → IVec S16 32) a x).toNat < S160x39.size a := fun v4343 v4480 k0_hw367 => k0_hw367

def k0_chk368 (v4343 : IVec S16 32) (v4484 : IVec S16 32) : Prop :=
  (∀ a x, ((![v4343, v4484] : Fin 2 → IVec S16 32) a x).toNat < S160x31.size a)
theorem k0_idx368_inb : ∀ (v4343 : IVec S16 32) (v4484 : IVec S16 32) (k0_hw368 : k0_chk368 v4343 v4484), ∀ a x, ((![v4343, v4484] : Fin 2 → IVec S16 32) a x).toNat < S160x31.size a := fun v4343 v4484 k0_hw368 => k0_hw368

def k0_chk369 (v4343 : IVec S16 32) (v4487 : IVec S16 32) : Prop :=
  (∀ a x, ((![v4343, v4487] : Fin 2 → IVec S16 32) a x).toNat < S160x39.size a)
theorem k0_idx369_inb : ∀ (v4343 : IVec S16 32) (v4487 : IVec S16 32) (k0_hw369 : k0_chk369 v4343 v4487), ∀ a x, ((![v4343, v4487] : Fin 2 → IVec S16 32) a x).toNat < S160x39.size a := fun v4343 v4487 k0_hw369 => k0_hw369

def k0_chk370 (v4343 : IVec S16 32) (v4491 : IVec S16 32) : Prop :=
  (∀ a x, ((![v4343, v4491] : Fin 2 → IVec S16 32) a x).toNat < S160x31.size a)
theorem k0_idx370_inb : ∀ (v4343 : IVec S16 32) (v4491 : IVec S16 32) (k0_hw370 : k0_chk370 v4343 v4491), ∀ a x, ((![v4343, v4491] : Fin 2 → IVec S16 32) a x).toNat < S160x31.size a := fun v4343 v4491 k0_hw370 => k0_hw370

def k0_chk371 (v4343 : IVec S16 32) (v4494 : IVec S16 32) : Prop :=
  (∀ a x, ((![v4343, v4494] : Fin 2 → IVec S16 32) a x).toNat < S160x39.size a)
theorem k0_idx371_inb : ∀ (v4343 : IVec S16 32) (v4494 : IVec S16 32) (k0_hw371 : k0_chk371 v4343 v4494), ∀ a x, ((![v4343, v4494] : Fin 2 → IVec S16 32) a x).toNat < S160x39.size a := fun v4343 v4494 k0_hw371 => k0_hw371

def k0_chk372 (v4343 : IVec S16 32) (v4498 : IVec S16 32) : Prop :=
  (∀ a x, ((![v4343, v4498] : Fin 2 → IVec S16 32) a x).toNat < S160x31.size a)
theorem k0_idx372_inb : ∀ (v4343 : IVec S16 32) (v4498 : IVec S16 32) (k0_hw372 : k0_chk372 v4343 v4498), ∀ a x, ((![v4343, v4498] : Fin 2 → IVec S16 32) a x).toNat < S160x31.size a := fun v4343 v4498 k0_hw372 => k0_hw372

def k0_chk373 (v4343 : IVec S16 32) (v4501 : IVec S16 32) : Prop :=
  (∀ a x, ((![v4343, v4501] : Fin 2 → IVec S16 32) a x).toNat < S160x39.size a)
theorem k0_idx373_inb : ∀ (v4343 : IVec S16 32) (v4501 : IVec S16 32) (k0_hw373 : k0_chk373 v4343 v4501), ∀ a x, ((![v4343, v4501] : Fin 2 → IVec S16 32) a x).toNat < S160x39.size a := fun v4343 v4501 k0_hw373 => k0_hw373

def k0_chk374 (v4343 : IVec S16 32) (v4505 : IVec S16 32) : Prop :=
  (∀ a x, ((![v4343, v4505] : Fin 2 → IVec S16 32) a x).toNat < S160x31.size a)
theorem k0_idx374_inb : ∀ (v4343 : IVec S16 32) (v4505 : IVec S16 32) (k0_hw374 : k0_chk374 v4343 v4505), ∀ a x, ((![v4343, v4505] : Fin 2 → IVec S16 32) a x).toNat < S160x31.size a := fun v4343 v4505 k0_hw374 => k0_hw374

def k0_chk375 (v4343 : IVec S16 32) (v4508 : IVec S16 32) : Prop :=
  (∀ a x, ((![v4343, v4508] : Fin 2 → IVec S16 32) a x).toNat < S160x39.size a)
theorem k0_idx375_inb : ∀ (v4343 : IVec S16 32) (v4508 : IVec S16 32) (k0_hw375 : k0_chk375 v4343 v4508), ∀ a x, ((![v4343, v4508] : Fin 2 → IVec S16 32) a x).toNat < S160x39.size a := fun v4343 v4508 k0_hw375 => k0_hw375

def k0_chk376 (v4343 : IVec S16 32) (v4512 : IVec S16 32) : Prop :=
  (∀ a x, ((![v4343, v4512] : Fin 2 → IVec S16 32) a x).toNat < S160x31.size a)
theorem k0_idx376_inb : ∀ (v4343 : IVec S16 32) (v4512 : IVec S16 32) (k0_hw376 : k0_chk376 v4343 v4512), ∀ a x, ((![v4343, v4512] : Fin 2 → IVec S16 32) a x).toNat < S160x31.size a := fun v4343 v4512 k0_hw376 => k0_hw376

def k0_chk377 (v4343 : IVec S16 32) (v4515 : IVec S16 32) : Prop :=
  (∀ a x, ((![v4343, v4515] : Fin 2 → IVec S16 32) a x).toNat < S160x39.size a)
theorem k0_idx377_inb : ∀ (v4343 : IVec S16 32) (v4515 : IVec S16 32) (k0_hw377 : k0_chk377 v4343 v4515), ∀ a x, ((![v4343, v4515] : Fin 2 → IVec S16 32) a x).toNat < S160x39.size a := fun v4343 v4515 k0_hw377 => k0_hw377

def k0_chk378 (v4343 : IVec S16 32) (v4519 : IVec S16 32) : Prop :=
  (∀ a x, ((![v4343, v4519] : Fin 2 → IVec S16 32) a x).toNat < S160x31.size a)
theorem k0_idx378_inb : ∀ (v4343 : IVec S16 32) (v4519 : IVec S16 32) (k0_hw378 : k0_chk378 v4343 v4519), ∀ a x, ((![v4343, v4519] : Fin 2 → IVec S16 32) a x).toNat < S160x31.size a := fun v4343 v4519 k0_hw378 => k0_hw378

def k0_chk379 (v4343 : IVec S16 32) (v4522 : IVec S16 32) : Prop :=
  (∀ a x, ((![v4343, v4522] : Fin 2 → IVec S16 32) a x).toNat < S160x39.size a)
theorem k0_idx379_inb : ∀ (v4343 : IVec S16 32) (v4522 : IVec S16 32) (k0_hw379 : k0_chk379 v4343 v4522), ∀ a x, ((![v4343, v4522] : Fin 2 → IVec S16 32) a x).toNat < S160x39.size a := fun v4343 v4522 k0_hw379 => k0_hw379

def k0_chk380 (v4343 : IVec S16 32) (v4526 : IVec S16 32) : Prop :=
  (∀ a x, ((![v4343, v4526] : Fin 2 → IVec S16 32) a x).toNat < S160x31.size a)
theorem k0_idx380_inb : ∀ (v4343 : IVec S16 32) (v4526 : IVec S16 32) (k0_hw380 : k0_chk380 v4343 v4526), ∀ a x, ((![v4343, v4526] : Fin 2 → IVec S16 32) a x).toNat < S160x31.size a := fun v4343 v4526 k0_hw380 => k0_hw380

def k0_chk381 (v4343 : IVec S16 32) (v4529 : IVec S16 32) : Prop :=
  (∀ a x, ((![v4343, v4529] : Fin 2 → IVec S16 32) a x).toNat < S160x39.size a)
theorem k0_idx381_inb : ∀ (v4343 : IVec S16 32) (v4529 : IVec S16 32) (k0_hw381 : k0_chk381 v4343 v4529), ∀ a x, ((![v4343, v4529] : Fin 2 → IVec S16 32) a x).toNat < S160x39.size a := fun v4343 v4529 k0_hw381 => k0_hw381

def k0_chk382 (v4343 : IVec S16 32) (v4533 : IVec S16 32) : Prop :=
  (∀ a x, ((![v4343, v4533] : Fin 2 → IVec S16 32) a x).toNat < S160x31.size a)
theorem k0_idx382_inb : ∀ (v4343 : IVec S16 32) (v4533 : IVec S16 32) (k0_hw382 : k0_chk382 v4343 v4533), ∀ a x, ((![v4343, v4533] : Fin 2 → IVec S16 32) a x).toNat < S160x31.size a := fun v4343 v4533 k0_hw382 => k0_hw382

def k0_chk383 (v4343 : IVec S16 32) (v4536 : IVec S16 32) : Prop :=
  (∀ a x, ((![v4343, v4536] : Fin 2 → IVec S16 32) a x).toNat < S160x39.size a)
theorem k0_idx383_inb : ∀ (v4343 : IVec S16 32) (v4536 : IVec S16 32) (k0_hw383 : k0_chk383 v4343 v4536), ∀ a x, ((![v4343, v4536] : Fin 2 → IVec S16 32) a x).toNat < S160x39.size a := fun v4343 v4536 k0_hw383 => k0_hw383

def k0_chk384 (v4343 : IVec S16 32) (v4540 : IVec S16 32) : Prop :=
  (∀ a x, ((![v4343, v4540] : Fin 2 → IVec S16 32) a x).toNat < S160x31.size a)
theorem k0_idx384_inb : ∀ (v4343 : IVec S16 32) (v4540 : IVec S16 32) (k0_hw384 : k0_chk384 v4343 v4540), ∀ a x, ((![v4343, v4540] : Fin 2 → IVec S16 32) a x).toNat < S160x31.size a := fun v4343 v4540 k0_hw384 => k0_hw384

def k0_chk385 (v4343 : IVec S16 32) (v4543 : IVec S16 32) : Prop :=
  (∀ a x, ((![v4343, v4543] : Fin 2 → IVec S16 32) a x).toNat < S160x39.size a)
theorem k0_idx385_inb : ∀ (v4343 : IVec S16 32) (v4543 : IVec S16 32) (k0_hw385 : k0_chk385 v4343 v4543), ∀ a x, ((![v4343, v4543] : Fin 2 → IVec S16 32) a x).toNat < S160x39.size a := fun v4343 v4543 k0_hw385 => k0_hw385

def k0_chk386 (v4343 : IVec S16 32) (v4547 : IVec S16 32) : Prop :=
  (∀ a x, ((![v4343, v4547] : Fin 2 → IVec S16 32) a x).toNat < S160x31.size a)
theorem k0_idx386_inb : ∀ (v4343 : IVec S16 32) (v4547 : IVec S16 32) (k0_hw386 : k0_chk386 v4343 v4547), ∀ a x, ((![v4343, v4547] : Fin 2 → IVec S16 32) a x).toNat < S160x31.size a := fun v4343 v4547 k0_hw386 => k0_hw386

def k0_chk387 (v4343 : IVec S16 32) (v4550 : IVec S16 32) : Prop :=
  (∀ a x, ((![v4343, v4550] : Fin 2 → IVec S16 32) a x).toNat < S160x39.size a)
theorem k0_idx387_inb : ∀ (v4343 : IVec S16 32) (v4550 : IVec S16 32) (k0_hw387 : k0_chk387 v4343 v4550), ∀ a x, ((![v4343, v4550] : Fin 2 → IVec S16 32) a x).toNat < S160x39.size a := fun v4343 v4550 k0_hw387 => k0_hw387

def k0_chk388 (v4343 : IVec S16 32) (v4554 : IVec S16 32) : Prop :=
  (∀ a x, ((![v4343, v4554] : Fin 2 → IVec S16 32) a x).toNat < S160x31.size a)
theorem k0_idx388_inb : ∀ (v4343 : IVec S16 32) (v4554 : IVec S16 32) (k0_hw388 : k0_chk388 v4343 v4554), ∀ a x, ((![v4343, v4554] : Fin 2 → IVec S16 32) a x).toNat < S160x31.size a := fun v4343 v4554 k0_hw388 => k0_hw388

def k0_chk389 (v4343 : IVec S16 32) (v4557 : IVec S16 32) : Prop :=
  (∀ a x, ((![v4343, v4557] : Fin 2 → IVec S16 32) a x).toNat < S160x39.size a)
theorem k0_idx389_inb : ∀ (v4343 : IVec S16 32) (v4557 : IVec S16 32) (k0_hw389 : k0_chk389 v4343 v4557), ∀ a x, ((![v4343, v4557] : Fin 2 → IVec S16 32) a x).toNat < S160x39.size a := fun v4343 v4557 k0_hw389 => k0_hw389

def k0_chk390 (v4343 : IVec S16 32) (v4561 : IVec S16 32) : Prop :=
  (∀ a x, ((![v4343, v4561] : Fin 2 → IVec S16 32) a x).toNat < S160x31.size a)
theorem k0_idx390_inb : ∀ (v4343 : IVec S16 32) (v4561 : IVec S16 32) (k0_hw390 : k0_chk390 v4343 v4561), ∀ a x, ((![v4343, v4561] : Fin 2 → IVec S16 32) a x).toNat < S160x31.size a := fun v4343 v4561 k0_hw390 => k0_hw390

def k0_chk391 (v4343 : IVec S16 32) (v4564 : IVec S16 32) : Prop :=
  (∀ a x, ((![v4343, v4564] : Fin 2 → IVec S16 32) a x).toNat < S160x39.size a)
theorem k0_idx391_inb : ∀ (v4343 : IVec S16 32) (v4564 : IVec S16 32) (k0_hw391 : k0_chk391 v4343 v4564), ∀ a x, ((![v4343, v4564] : Fin 2 → IVec S16 32) a x).toNat < S160x39.size a := fun v4343 v4564 k0_hw391 => k0_hw391

def k0_chk392 (v4343 : IVec S16 32) (v4568 : IVec S16 32) : Prop :=
  (∀ a x, ((![v4343, v4568] : Fin 2 → IVec S16 32) a x).toNat < S160x31.size a)
theorem k0_idx392_inb : ∀ (v4343 : IVec S16 32) (v4568 : IVec S16 32) (k0_hw392 : k0_chk392 v4343 v4568), ∀ a x, ((![v4343, v4568] : Fin 2 → IVec S16 32) a x).toNat < S160x31.size a := fun v4343 v4568 k0_hw392 => k0_hw392

def k0_chk393 (v4343 : IVec S16 32) (v4571 : IVec S16 32) : Prop :=
  (∀ a x, ((![v4343, v4571] : Fin 2 → IVec S16 32) a x).toNat < S160x39.size a)
theorem k0_idx393_inb : ∀ (v4343 : IVec S16 32) (v4571 : IVec S16 32) (k0_hw393 : k0_chk393 v4343 v4571), ∀ a x, ((![v4343, v4571] : Fin 2 → IVec S16 32) a x).toNat < S160x39.size a := fun v4343 v4571 k0_hw393 => k0_hw393

def k0_chk394 (v4343 : IVec S16 32) (v4575 : IVec S16 32) : Prop :=
  (∀ a x, ((![v4343, v4575] : Fin 2 → IVec S16 32) a x).toNat < S160x31.size a)
theorem k0_idx394_inb : ∀ (v4343 : IVec S16 32) (v4575 : IVec S16 32) (k0_hw394 : k0_chk394 v4343 v4575), ∀ a x, ((![v4343, v4575] : Fin 2 → IVec S16 32) a x).toNat < S160x31.size a := fun v4343 v4575 k0_hw394 => k0_hw394

def k0_chk395 (v4343 : IVec S16 32) (v4578 : IVec S16 32) : Prop :=
  (∀ a x, ((![v4343, v4578] : Fin 2 → IVec S16 32) a x).toNat < S160x39.size a)
theorem k0_idx395_inb : ∀ (v4343 : IVec S16 32) (v4578 : IVec S16 32) (k0_hw395 : k0_chk395 v4343 v4578), ∀ a x, ((![v4343, v4578] : Fin 2 → IVec S16 32) a x).toNat < S160x39.size a := fun v4343 v4578 k0_hw395 => k0_hw395

def k0_chk396 (v4343 : IVec S16 32) (v4582 : IVec S16 32) : Prop :=
  (∀ a x, ((![v4343, v4582] : Fin 2 → IVec S16 32) a x).toNat < S160x31.size a)
theorem k0_idx396_inb : ∀ (v4343 : IVec S16 32) (v4582 : IVec S16 32) (k0_hw396 : k0_chk396 v4343 v4582), ∀ a x, ((![v4343, v4582] : Fin 2 → IVec S16 32) a x).toNat < S160x31.size a := fun v4343 v4582 k0_hw396 => k0_hw396

def k0_chk397 (v4343 : IVec S16 32) (v4585 : IVec S16 32) : Prop :=
  (∀ a x, ((![v4343, v4585] : Fin 2 → IVec S16 32) a x).toNat < S160x39.size a)
theorem k0_idx397_inb : ∀ (v4343 : IVec S16 32) (v4585 : IVec S16 32) (k0_hw397 : k0_chk397 v4343 v4585), ∀ a x, ((![v4343, v4585] : Fin 2 → IVec S16 32) a x).toNat < S160x39.size a := fun v4343 v4585 k0_hw397 => k0_hw397

def k0_chk398 (v4343 : IVec S16 32) (v4589 : IVec S16 32) : Prop :=
  (∀ a x, ((![v4343, v4589] : Fin 2 → IVec S16 32) a x).toNat < S160x31.size a)
theorem k0_idx398_inb : ∀ (v4343 : IVec S16 32) (v4589 : IVec S16 32) (k0_hw398 : k0_chk398 v4343 v4589), ∀ a x, ((![v4343, v4589] : Fin 2 → IVec S16 32) a x).toNat < S160x31.size a := fun v4343 v4589 k0_hw398 => k0_hw398

def k0_chk399 (v4343 : IVec S16 32) (v4592 : IVec S16 32) : Prop :=
  (∀ a x, ((![v4343, v4592] : Fin 2 → IVec S16 32) a x).toNat < S160x39.size a)
theorem k0_idx399_inb : ∀ (v4343 : IVec S16 32) (v4592 : IVec S16 32) (k0_hw399 : k0_chk399 v4343 v4592), ∀ a x, ((![v4343, v4592] : Fin 2 → IVec S16 32) a x).toNat < S160x39.size a := fun v4343 v4592 k0_hw399 => k0_hw399

def k0_chk400 (v4343 : IVec S16 32) (v4596 : IVec S16 32) : Prop :=
  (∀ a x, ((![v4343, v4596] : Fin 2 → IVec S16 32) a x).toNat < S160x31.size a)
theorem k0_idx400_inb : ∀ (v4343 : IVec S16 32) (v4596 : IVec S16 32) (k0_hw400 : k0_chk400 v4343 v4596), ∀ a x, ((![v4343, v4596] : Fin 2 → IVec S16 32) a x).toNat < S160x31.size a := fun v4343 v4596 k0_hw400 => k0_hw400

def k0_chk401 (v4343 : IVec S16 32) (v4599 : IVec S16 32) : Prop :=
  (∀ a x, ((![v4343, v4599] : Fin 2 → IVec S16 32) a x).toNat < S160x39.size a)
theorem k0_idx401_inb : ∀ (v4343 : IVec S16 32) (v4599 : IVec S16 32) (k0_hw401 : k0_chk401 v4343 v4599), ∀ a x, ((![v4343, v4599] : Fin 2 → IVec S16 32) a x).toNat < S160x39.size a := fun v4343 v4599 k0_hw401 => k0_hw401

def k0_chk402 (v4343 : IVec S16 32) (v4603 : IVec S16 32) : Prop :=
  (∀ a x, ((![v4343, v4603] : Fin 2 → IVec S16 32) a x).toNat < S160x31.size a)
theorem k0_idx402_inb : ∀ (v4343 : IVec S16 32) (v4603 : IVec S16 32) (k0_hw402 : k0_chk402 v4343 v4603), ∀ a x, ((![v4343, v4603] : Fin 2 → IVec S16 32) a x).toNat < S160x31.size a := fun v4343 v4603 k0_hw402 => k0_hw402

def k0_chk403 (v4343 : IVec S16 32) (v4606 : IVec S16 32) : Prop :=
  (∀ a x, ((![v4343, v4606] : Fin 2 → IVec S16 32) a x).toNat < S160x39.size a)
theorem k0_idx403_inb : ∀ (v4343 : IVec S16 32) (v4606 : IVec S16 32) (k0_hw403 : k0_chk403 v4343 v4606), ∀ a x, ((![v4343, v4606] : Fin 2 → IVec S16 32) a x).toNat < S160x39.size a := fun v4343 v4606 k0_hw403 => k0_hw403

def k0_chk404 (v4343 : IVec S16 32) (v4610 : IVec S16 32) : Prop :=
  (∀ a x, ((![v4343, v4610] : Fin 2 → IVec S16 32) a x).toNat < S160x31.size a)
theorem k0_idx404_inb : ∀ (v4343 : IVec S16 32) (v4610 : IVec S16 32) (k0_hw404 : k0_chk404 v4343 v4610), ∀ a x, ((![v4343, v4610] : Fin 2 → IVec S16 32) a x).toNat < S160x31.size a := fun v4343 v4610 k0_hw404 => k0_hw404

def k0_chk405 (v4343 : IVec S16 32) (v4613 : IVec S16 32) : Prop :=
  (∀ a x, ((![v4343, v4613] : Fin 2 → IVec S16 32) a x).toNat < S160x39.size a)
theorem k0_idx405_inb : ∀ (v4343 : IVec S16 32) (v4613 : IVec S16 32) (k0_hw405 : k0_chk405 v4343 v4613), ∀ a x, ((![v4343, v4613] : Fin 2 → IVec S16 32) a x).toNat < S160x39.size a := fun v4343 v4613 k0_hw405 => k0_hw405

def k0_chk406 (v4343 : IVec S16 32) (v4617 : IVec S16 32) : Prop :=
  (∀ a x, ((![v4343, v4617] : Fin 2 → IVec S16 32) a x).toNat < S160x31.size a)
theorem k0_idx406_inb : ∀ (v4343 : IVec S16 32) (v4617 : IVec S16 32) (k0_hw406 : k0_chk406 v4343 v4617), ∀ a x, ((![v4343, v4617] : Fin 2 → IVec S16 32) a x).toNat < S160x31.size a := fun v4343 v4617 k0_hw406 => k0_hw406

def k0_chk407 (v4343 : IVec S16 32) (v4620 : IVec S16 32) : Prop :=
  (∀ a x, ((![v4343, v4620] : Fin 2 → IVec S16 32) a x).toNat < S160x39.size a)
theorem k0_idx407_inb : ∀ (v4343 : IVec S16 32) (v4620 : IVec S16 32) (k0_hw407 : k0_chk407 v4343 v4620), ∀ a x, ((![v4343, v4620] : Fin 2 → IVec S16 32) a x).toNat < S160x39.size a := fun v4343 v4620 k0_hw407 => k0_hw407

def k0_chk408 (v4343 : IVec S16 32) (v4624 : IVec S16 32) : Prop :=
  (∀ a x, ((![v4343, v4624] : Fin 2 → IVec S16 32) a x).toNat < S160x31.size a)
theorem k0_idx408_inb : ∀ (v4343 : IVec S16 32) (v4624 : IVec S16 32) (k0_hw408 : k0_chk408 v4343 v4624), ∀ a x, ((![v4343, v4624] : Fin 2 → IVec S16 32) a x).toNat < S160x31.size a := fun v4343 v4624 k0_hw408 => k0_hw408

def k0_chk409 (v4628 : IVec S16 32) (v4629 : IVec S16 32) : Prop :=
  (∀ a x, ((![v4628, v4629] : Fin 2 → IVec S16 32) a x).toNat < S160x39.size a)
theorem k0_idx409_inb : ∀ (v4628 : IVec S16 32) (v4629 : IVec S16 32) (k0_hw409 : k0_chk409 v4628 v4629), ∀ a x, ((![v4628, v4629] : Fin 2 → IVec S16 32) a x).toNat < S160x39.size a := fun v4628 v4629 k0_hw409 => k0_hw409

def k0_chk410 (v4628 : IVec S16 32) (v4633 : IVec S16 32) : Prop :=
  (∀ a x, ((![v4628, v4633] : Fin 2 → IVec S16 32) a x).toNat < S160x39.size a)
theorem k0_idx410_inb : ∀ (v4628 : IVec S16 32) (v4633 : IVec S16 32) (k0_hw410 : k0_chk410 v4628 v4633), ∀ a x, ((![v4628, v4633] : Fin 2 → IVec S16 32) a x).toNat < S160x39.size a := fun v4628 v4633 k0_hw410 => k0_hw410

def k0_chk411 (v4628 : IVec S16 32) (v4637 : IVec S16 32) : Prop :=
  (∀ a x, ((![v4628, v4637] : Fin 2 → IVec S16 32) a x).toNat < S160x39.size a)
theorem k0_idx411_inb : ∀ (v4628 : IVec S16 32) (v4637 : IVec S16 32) (k0_hw411 : k0_chk411 v4628 v4637), ∀ a x, ((![v4628, v4637] : Fin 2 → IVec S16 32) a x).toNat < S160x39.size a := fun v4628 v4637 k0_hw411 => k0_hw411

def k0_chk412 (v4628 : IVec S16 32) (v4641 : IVec S16 32) : Prop :=
  (∀ a x, ((![v4628, v4641] : Fin 2 → IVec S16 32) a x).toNat < S160x39.size a)
theorem k0_idx412_inb : ∀ (v4628 : IVec S16 32) (v4641 : IVec S16 32) (k0_hw412 : k0_chk412 v4628 v4641), ∀ a x, ((![v4628, v4641] : Fin 2 → IVec S16 32) a x).toNat < S160x39.size a := fun v4628 v4641 k0_hw412 => k0_hw412

def k0_chk413 (v4628 : IVec S16 32) (v4646 : IVec S16 32) : Prop :=
  (∀ a x, ((![v4628, v4646] : Fin 2 → IVec S16 32) a x).toNat < S160x39.size a)
theorem k0_idx413_inb : ∀ (v4628 : IVec S16 32) (v4646 : IVec S16 32) (k0_hw413 : k0_chk413 v4628 v4646), ∀ a x, ((![v4628, v4646] : Fin 2 → IVec S16 32) a x).toNat < S160x39.size a := fun v4628 v4646 k0_hw413 => k0_hw413

def k0_chk414 (v4628 : IVec S16 32) (v4650 : IVec S16 32) : Prop :=
  (∀ a x, ((![v4628, v4650] : Fin 2 → IVec S16 32) a x).toNat < S160x39.size a)
theorem k0_idx414_inb : ∀ (v4628 : IVec S16 32) (v4650 : IVec S16 32) (k0_hw414 : k0_chk414 v4628 v4650), ∀ a x, ((![v4628, v4650] : Fin 2 → IVec S16 32) a x).toNat < S160x39.size a := fun v4628 v4650 k0_hw414 => k0_hw414

def k0_chk415 (v4628 : IVec S16 32) (v4655 : IVec S16 32) : Prop :=
  (∀ a x, ((![v4628, v4655] : Fin 2 → IVec S16 32) a x).toNat < S160x39.size a)
theorem k0_idx415_inb : ∀ (v4628 : IVec S16 32) (v4655 : IVec S16 32) (k0_hw415 : k0_chk415 v4628 v4655), ∀ a x, ((![v4628, v4655] : Fin 2 → IVec S16 32) a x).toNat < S160x39.size a := fun v4628 v4655 k0_hw415 => k0_hw415

def k0_chk416 (v4628 : IVec S16 32) (v4663 : IVec S16 32) : Prop :=
  (∀ a x, ((![v4628, v4663] : Fin 2 → IVec S16 32) a x).toNat < S160x39.size a)
theorem k0_idx416_inb : ∀ (v4628 : IVec S16 32) (v4663 : IVec S16 32) (k0_hw416 : k0_chk416 v4628 v4663), ∀ a x, ((![v4628, v4663] : Fin 2 → IVec S16 32) a x).toNat < S160x39.size a := fun v4628 v4663 k0_hw416 => k0_hw416

def k0_chk417 (v4628 : IVec S16 32) (v4671 : IVec S16 32) : Prop :=
  (∀ a x, ((![v4628, v4671] : Fin 2 → IVec S16 32) a x).toNat < S160x31.size a)
theorem k0_idx417_inb : ∀ (v4628 : IVec S16 32) (v4671 : IVec S16 32) (k0_hw417 : k0_chk417 v4628 v4671), ∀ a x, ((![v4628, v4671] : Fin 2 → IVec S16 32) a x).toNat < S160x31.size a := fun v4628 v4671 k0_hw417 => k0_hw417

def k0_chk418 (v4628 : IVec S16 32) (v4674 : IVec S16 32) : Prop :=
  (∀ a x, ((![v4628, v4674] : Fin 2 → IVec S16 32) a x).toNat < S160x31.size a)
theorem k0_idx418_inb : ∀ (v4628 : IVec S16 32) (v4674 : IVec S16 32) (k0_hw418 : k0_chk418 v4628 v4674), ∀ a x, ((![v4628, v4674] : Fin 2 → IVec S16 32) a x).toNat < S160x31.size a := fun v4628 v4674 k0_hw418 => k0_hw418

def k0_chk419 (v4628 : IVec S16 32) (v4677 : IVec S16 32) : Prop :=
  (∀ a x, ((![v4628, v4677] : Fin 2 → IVec S16 32) a x).toNat < S160x39.size a)
theorem k0_idx419_inb : ∀ (v4628 : IVec S16 32) (v4677 : IVec S16 32) (k0_hw419 : k0_chk419 v4628 v4677), ∀ a x, ((![v4628, v4677] : Fin 2 → IVec S16 32) a x).toNat < S160x39.size a := fun v4628 v4677 k0_hw419 => k0_hw419

def k0_chk420 (v4628 : IVec S16 32) (v4685 : IVec S16 32) : Prop :=
  (∀ a x, ((![v4628, v4685] : Fin 2 → IVec S16 32) a x).toNat < S160x39.size a)
theorem k0_idx420_inb : ∀ (v4628 : IVec S16 32) (v4685 : IVec S16 32) (k0_hw420 : k0_chk420 v4628 v4685), ∀ a x, ((![v4628, v4685] : Fin 2 → IVec S16 32) a x).toNat < S160x39.size a := fun v4628 v4685 k0_hw420 => k0_hw420

def k0_chk421 (v4628 : IVec S16 32) (v4693 : IVec S16 32) : Prop :=
  (∀ a x, ((![v4628, v4693] : Fin 2 → IVec S16 32) a x).toNat < S160x31.size a)
theorem k0_idx421_inb : ∀ (v4628 : IVec S16 32) (v4693 : IVec S16 32) (k0_hw421 : k0_chk421 v4628 v4693), ∀ a x, ((![v4628, v4693] : Fin 2 → IVec S16 32) a x).toNat < S160x31.size a := fun v4628 v4693 k0_hw421 => k0_hw421

def k0_chk422 (v4628 : IVec S16 32) (v4696 : IVec S16 32) : Prop :=
  (∀ a x, ((![v4628, v4696] : Fin 2 → IVec S16 32) a x).toNat < S160x31.size a)
theorem k0_idx422_inb : ∀ (v4628 : IVec S16 32) (v4696 : IVec S16 32) (k0_hw422 : k0_chk422 v4628 v4696), ∀ a x, ((![v4628, v4696] : Fin 2 → IVec S16 32) a x).toNat < S160x31.size a := fun v4628 v4696 k0_hw422 => k0_hw422

def k0_chk423 (v4628 : IVec S16 32) (v4699 : IVec S16 32) : Prop :=
  (∀ a x, ((![v4628, v4699] : Fin 2 → IVec S16 32) a x).toNat < S160x39.size a)
theorem k0_idx423_inb : ∀ (v4628 : IVec S16 32) (v4699 : IVec S16 32) (k0_hw423 : k0_chk423 v4628 v4699), ∀ a x, ((![v4628, v4699] : Fin 2 → IVec S16 32) a x).toNat < S160x39.size a := fun v4628 v4699 k0_hw423 => k0_hw423

def k0_chk424 (v4628 : IVec S16 32) (v4707 : IVec S16 32) : Prop :=
  (∀ a x, ((![v4628, v4707] : Fin 2 → IVec S16 32) a x).toNat < S160x39.size a)
theorem k0_idx424_inb : ∀ (v4628 : IVec S16 32) (v4707 : IVec S16 32) (k0_hw424 : k0_chk424 v4628 v4707), ∀ a x, ((![v4628, v4707] : Fin 2 → IVec S16 32) a x).toNat < S160x39.size a := fun v4628 v4707 k0_hw424 => k0_hw424

def k0_chk425 (v4628 : IVec S16 32) (v4715 : IVec S16 32) : Prop :=
  (∀ a x, ((![v4628, v4715] : Fin 2 → IVec S16 32) a x).toNat < S160x31.size a)
theorem k0_idx425_inb : ∀ (v4628 : IVec S16 32) (v4715 : IVec S16 32) (k0_hw425 : k0_chk425 v4628 v4715), ∀ a x, ((![v4628, v4715] : Fin 2 → IVec S16 32) a x).toNat < S160x31.size a := fun v4628 v4715 k0_hw425 => k0_hw425

def k0_chk426 (v4628 : IVec S16 32) (v4718 : IVec S16 32) : Prop :=
  (∀ a x, ((![v4628, v4718] : Fin 2 → IVec S16 32) a x).toNat < S160x31.size a)
theorem k0_idx426_inb : ∀ (v4628 : IVec S16 32) (v4718 : IVec S16 32) (k0_hw426 : k0_chk426 v4628 v4718), ∀ a x, ((![v4628, v4718] : Fin 2 → IVec S16 32) a x).toNat < S160x31.size a := fun v4628 v4718 k0_hw426 => k0_hw426

def k0_chk427 (v4628 : IVec S16 32) (v4721 : IVec S16 32) : Prop :=
  (∀ a x, ((![v4628, v4721] : Fin 2 → IVec S16 32) a x).toNat < S160x39.size a)
theorem k0_idx427_inb : ∀ (v4628 : IVec S16 32) (v4721 : IVec S16 32) (k0_hw427 : k0_chk427 v4628 v4721), ∀ a x, ((![v4628, v4721] : Fin 2 → IVec S16 32) a x).toNat < S160x39.size a := fun v4628 v4721 k0_hw427 => k0_hw427

def k0_chk428 (v4628 : IVec S16 32) (v4729 : IVec S16 32) : Prop :=
  (∀ a x, ((![v4628, v4729] : Fin 2 → IVec S16 32) a x).toNat < S160x39.size a)
theorem k0_idx428_inb : ∀ (v4628 : IVec S16 32) (v4729 : IVec S16 32) (k0_hw428 : k0_chk428 v4628 v4729), ∀ a x, ((![v4628, v4729] : Fin 2 → IVec S16 32) a x).toNat < S160x39.size a := fun v4628 v4729 k0_hw428 => k0_hw428

def k0_chk429 (v4628 : IVec S16 32) (v4737 : IVec S16 32) : Prop :=
  (∀ a x, ((![v4628, v4737] : Fin 2 → IVec S16 32) a x).toNat < S160x31.size a)
theorem k0_idx429_inb : ∀ (v4628 : IVec S16 32) (v4737 : IVec S16 32) (k0_hw429 : k0_chk429 v4628 v4737), ∀ a x, ((![v4628, v4737] : Fin 2 → IVec S16 32) a x).toNat < S160x31.size a := fun v4628 v4737 k0_hw429 => k0_hw429

def k0_chk430 (v4628 : IVec S16 32) (v4740 : IVec S16 32) : Prop :=
  (∀ a x, ((![v4628, v4740] : Fin 2 → IVec S16 32) a x).toNat < S160x31.size a)
theorem k0_idx430_inb : ∀ (v4628 : IVec S16 32) (v4740 : IVec S16 32) (k0_hw430 : k0_chk430 v4628 v4740), ∀ a x, ((![v4628, v4740] : Fin 2 → IVec S16 32) a x).toNat < S160x31.size a := fun v4628 v4740 k0_hw430 => k0_hw430

def k0_chk431 (v4628 : IVec S16 32) (v4743 : IVec S16 32) : Prop :=
  (∀ a x, ((![v4628, v4743] : Fin 2 → IVec S16 32) a x).toNat < S160x39.size a)
theorem k0_idx431_inb : ∀ (v4628 : IVec S16 32) (v4743 : IVec S16 32) (k0_hw431 : k0_chk431 v4628 v4743), ∀ a x, ((![v4628, v4743] : Fin 2 → IVec S16 32) a x).toNat < S160x39.size a := fun v4628 v4743 k0_hw431 => k0_hw431

def k0_chk432 (v4628 : IVec S16 32) (v4751 : IVec S16 32) : Prop :=
  (∀ a x, ((![v4628, v4751] : Fin 2 → IVec S16 32) a x).toNat < S160x39.size a)
theorem k0_idx432_inb : ∀ (v4628 : IVec S16 32) (v4751 : IVec S16 32) (k0_hw432 : k0_chk432 v4628 v4751), ∀ a x, ((![v4628, v4751] : Fin 2 → IVec S16 32) a x).toNat < S160x39.size a := fun v4628 v4751 k0_hw432 => k0_hw432

def k0_chk433 (v4628 : IVec S16 32) (v4759 : IVec S16 32) : Prop :=
  (∀ a x, ((![v4628, v4759] : Fin 2 → IVec S16 32) a x).toNat < S160x31.size a)
theorem k0_idx433_inb : ∀ (v4628 : IVec S16 32) (v4759 : IVec S16 32) (k0_hw433 : k0_chk433 v4628 v4759), ∀ a x, ((![v4628, v4759] : Fin 2 → IVec S16 32) a x).toNat < S160x31.size a := fun v4628 v4759 k0_hw433 => k0_hw433

def k0_chk434 (v4628 : IVec S16 32) (v4762 : IVec S16 32) : Prop :=
  (∀ a x, ((![v4628, v4762] : Fin 2 → IVec S16 32) a x).toNat < S160x31.size a)
theorem k0_idx434_inb : ∀ (v4628 : IVec S16 32) (v4762 : IVec S16 32) (k0_hw434 : k0_chk434 v4628 v4762), ∀ a x, ((![v4628, v4762] : Fin 2 → IVec S16 32) a x).toNat < S160x31.size a := fun v4628 v4762 k0_hw434 => k0_hw434

def k0_chk435 (v4628 : IVec S16 32) (v4765 : IVec S16 32) : Prop :=
  (∀ a x, ((![v4628, v4765] : Fin 2 → IVec S16 32) a x).toNat < S160x39.size a)
theorem k0_idx435_inb : ∀ (v4628 : IVec S16 32) (v4765 : IVec S16 32) (k0_hw435 : k0_chk435 v4628 v4765), ∀ a x, ((![v4628, v4765] : Fin 2 → IVec S16 32) a x).toNat < S160x39.size a := fun v4628 v4765 k0_hw435 => k0_hw435

def k0_chk436 (v4628 : IVec S16 32) (v4769 : IVec S16 32) : Prop :=
  (∀ a x, ((![v4628, v4769] : Fin 2 → IVec S16 32) a x).toNat < S160x31.size a)
theorem k0_idx436_inb : ∀ (v4628 : IVec S16 32) (v4769 : IVec S16 32) (k0_hw436 : k0_chk436 v4628 v4769), ∀ a x, ((![v4628, v4769] : Fin 2 → IVec S16 32) a x).toNat < S160x31.size a := fun v4628 v4769 k0_hw436 => k0_hw436

def k0_chk437 (v4628 : IVec S16 32) (v4772 : IVec S16 32) : Prop :=
  (∀ a x, ((![v4628, v4772] : Fin 2 → IVec S16 32) a x).toNat < S160x39.size a)
theorem k0_idx437_inb : ∀ (v4628 : IVec S16 32) (v4772 : IVec S16 32) (k0_hw437 : k0_chk437 v4628 v4772), ∀ a x, ((![v4628, v4772] : Fin 2 → IVec S16 32) a x).toNat < S160x39.size a := fun v4628 v4772 k0_hw437 => k0_hw437

def k0_chk438 (v4628 : IVec S16 32) (v4776 : IVec S16 32) : Prop :=
  (∀ a x, ((![v4628, v4776] : Fin 2 → IVec S16 32) a x).toNat < S160x31.size a)
theorem k0_idx438_inb : ∀ (v4628 : IVec S16 32) (v4776 : IVec S16 32) (k0_hw438 : k0_chk438 v4628 v4776), ∀ a x, ((![v4628, v4776] : Fin 2 → IVec S16 32) a x).toNat < S160x31.size a := fun v4628 v4776 k0_hw438 => k0_hw438

def k0_chk439 (v4628 : IVec S16 32) (v4779 : IVec S16 32) : Prop :=
  (∀ a x, ((![v4628, v4779] : Fin 2 → IVec S16 32) a x).toNat < S160x39.size a)
theorem k0_idx439_inb : ∀ (v4628 : IVec S16 32) (v4779 : IVec S16 32) (k0_hw439 : k0_chk439 v4628 v4779), ∀ a x, ((![v4628, v4779] : Fin 2 → IVec S16 32) a x).toNat < S160x39.size a := fun v4628 v4779 k0_hw439 => k0_hw439

def k0_chk440 (v4628 : IVec S16 32) (v4783 : IVec S16 32) : Prop :=
  (∀ a x, ((![v4628, v4783] : Fin 2 → IVec S16 32) a x).toNat < S160x31.size a)
theorem k0_idx440_inb : ∀ (v4628 : IVec S16 32) (v4783 : IVec S16 32) (k0_hw440 : k0_chk440 v4628 v4783), ∀ a x, ((![v4628, v4783] : Fin 2 → IVec S16 32) a x).toNat < S160x31.size a := fun v4628 v4783 k0_hw440 => k0_hw440

def k0_chk441 (v4628 : IVec S16 32) (v4786 : IVec S16 32) : Prop :=
  (∀ a x, ((![v4628, v4786] : Fin 2 → IVec S16 32) a x).toNat < S160x39.size a)
theorem k0_idx441_inb : ∀ (v4628 : IVec S16 32) (v4786 : IVec S16 32) (k0_hw441 : k0_chk441 v4628 v4786), ∀ a x, ((![v4628, v4786] : Fin 2 → IVec S16 32) a x).toNat < S160x39.size a := fun v4628 v4786 k0_hw441 => k0_hw441

def k0_chk442 (v4628 : IVec S16 32) (v4790 : IVec S16 32) : Prop :=
  (∀ a x, ((![v4628, v4790] : Fin 2 → IVec S16 32) a x).toNat < S160x31.size a)
theorem k0_idx442_inb : ∀ (v4628 : IVec S16 32) (v4790 : IVec S16 32) (k0_hw442 : k0_chk442 v4628 v4790), ∀ a x, ((![v4628, v4790] : Fin 2 → IVec S16 32) a x).toNat < S160x31.size a := fun v4628 v4790 k0_hw442 => k0_hw442

def k0_chk443 (v4628 : IVec S16 32) (v4793 : IVec S16 32) : Prop :=
  (∀ a x, ((![v4628, v4793] : Fin 2 → IVec S16 32) a x).toNat < S160x39.size a)
theorem k0_idx443_inb : ∀ (v4628 : IVec S16 32) (v4793 : IVec S16 32) (k0_hw443 : k0_chk443 v4628 v4793), ∀ a x, ((![v4628, v4793] : Fin 2 → IVec S16 32) a x).toNat < S160x39.size a := fun v4628 v4793 k0_hw443 => k0_hw443

def k0_chk444 (v4628 : IVec S16 32) (v4797 : IVec S16 32) : Prop :=
  (∀ a x, ((![v4628, v4797] : Fin 2 → IVec S16 32) a x).toNat < S160x31.size a)
theorem k0_idx444_inb : ∀ (v4628 : IVec S16 32) (v4797 : IVec S16 32) (k0_hw444 : k0_chk444 v4628 v4797), ∀ a x, ((![v4628, v4797] : Fin 2 → IVec S16 32) a x).toNat < S160x31.size a := fun v4628 v4797 k0_hw444 => k0_hw444

def k0_chk445 (v4628 : IVec S16 32) (v4800 : IVec S16 32) : Prop :=
  (∀ a x, ((![v4628, v4800] : Fin 2 → IVec S16 32) a x).toNat < S160x39.size a)
theorem k0_idx445_inb : ∀ (v4628 : IVec S16 32) (v4800 : IVec S16 32) (k0_hw445 : k0_chk445 v4628 v4800), ∀ a x, ((![v4628, v4800] : Fin 2 → IVec S16 32) a x).toNat < S160x39.size a := fun v4628 v4800 k0_hw445 => k0_hw445

def k0_chk446 (v4628 : IVec S16 32) (v4804 : IVec S16 32) : Prop :=
  (∀ a x, ((![v4628, v4804] : Fin 2 → IVec S16 32) a x).toNat < S160x31.size a)
theorem k0_idx446_inb : ∀ (v4628 : IVec S16 32) (v4804 : IVec S16 32) (k0_hw446 : k0_chk446 v4628 v4804), ∀ a x, ((![v4628, v4804] : Fin 2 → IVec S16 32) a x).toNat < S160x31.size a := fun v4628 v4804 k0_hw446 => k0_hw446

def k0_chk447 (v4628 : IVec S16 32) (v4807 : IVec S16 32) : Prop :=
  (∀ a x, ((![v4628, v4807] : Fin 2 → IVec S16 32) a x).toNat < S160x39.size a)
theorem k0_idx447_inb : ∀ (v4628 : IVec S16 32) (v4807 : IVec S16 32) (k0_hw447 : k0_chk447 v4628 v4807), ∀ a x, ((![v4628, v4807] : Fin 2 → IVec S16 32) a x).toNat < S160x39.size a := fun v4628 v4807 k0_hw447 => k0_hw447

def k0_chk448 (v4628 : IVec S16 32) (v4811 : IVec S16 32) : Prop :=
  (∀ a x, ((![v4628, v4811] : Fin 2 → IVec S16 32) a x).toNat < S160x31.size a)
theorem k0_idx448_inb : ∀ (v4628 : IVec S16 32) (v4811 : IVec S16 32) (k0_hw448 : k0_chk448 v4628 v4811), ∀ a x, ((![v4628, v4811] : Fin 2 → IVec S16 32) a x).toNat < S160x31.size a := fun v4628 v4811 k0_hw448 => k0_hw448

def k0_chk449 (v4628 : IVec S16 32) (v4814 : IVec S16 32) : Prop :=
  (∀ a x, ((![v4628, v4814] : Fin 2 → IVec S16 32) a x).toNat < S160x39.size a)
theorem k0_idx449_inb : ∀ (v4628 : IVec S16 32) (v4814 : IVec S16 32) (k0_hw449 : k0_chk449 v4628 v4814), ∀ a x, ((![v4628, v4814] : Fin 2 → IVec S16 32) a x).toNat < S160x39.size a := fun v4628 v4814 k0_hw449 => k0_hw449

def k0_chk450 (v4628 : IVec S16 32) (v4818 : IVec S16 32) : Prop :=
  (∀ a x, ((![v4628, v4818] : Fin 2 → IVec S16 32) a x).toNat < S160x31.size a)
theorem k0_idx450_inb : ∀ (v4628 : IVec S16 32) (v4818 : IVec S16 32) (k0_hw450 : k0_chk450 v4628 v4818), ∀ a x, ((![v4628, v4818] : Fin 2 → IVec S16 32) a x).toNat < S160x31.size a := fun v4628 v4818 k0_hw450 => k0_hw450

def k0_chk451 (v4628 : IVec S16 32) (v4821 : IVec S16 32) : Prop :=
  (∀ a x, ((![v4628, v4821] : Fin 2 → IVec S16 32) a x).toNat < S160x39.size a)
theorem k0_idx451_inb : ∀ (v4628 : IVec S16 32) (v4821 : IVec S16 32) (k0_hw451 : k0_chk451 v4628 v4821), ∀ a x, ((![v4628, v4821] : Fin 2 → IVec S16 32) a x).toNat < S160x39.size a := fun v4628 v4821 k0_hw451 => k0_hw451

def k0_chk452 (v4628 : IVec S16 32) (v4825 : IVec S16 32) : Prop :=
  (∀ a x, ((![v4628, v4825] : Fin 2 → IVec S16 32) a x).toNat < S160x31.size a)
theorem k0_idx452_inb : ∀ (v4628 : IVec S16 32) (v4825 : IVec S16 32) (k0_hw452 : k0_chk452 v4628 v4825), ∀ a x, ((![v4628, v4825] : Fin 2 → IVec S16 32) a x).toNat < S160x31.size a := fun v4628 v4825 k0_hw452 => k0_hw452

def k0_chk453 (v4628 : IVec S16 32) (v4828 : IVec S16 32) : Prop :=
  (∀ a x, ((![v4628, v4828] : Fin 2 → IVec S16 32) a x).toNat < S160x39.size a)
theorem k0_idx453_inb : ∀ (v4628 : IVec S16 32) (v4828 : IVec S16 32) (k0_hw453 : k0_chk453 v4628 v4828), ∀ a x, ((![v4628, v4828] : Fin 2 → IVec S16 32) a x).toNat < S160x39.size a := fun v4628 v4828 k0_hw453 => k0_hw453

def k0_chk454 (v4628 : IVec S16 32) (v4832 : IVec S16 32) : Prop :=
  (∀ a x, ((![v4628, v4832] : Fin 2 → IVec S16 32) a x).toNat < S160x31.size a)
theorem k0_idx454_inb : ∀ (v4628 : IVec S16 32) (v4832 : IVec S16 32) (k0_hw454 : k0_chk454 v4628 v4832), ∀ a x, ((![v4628, v4832] : Fin 2 → IVec S16 32) a x).toNat < S160x31.size a := fun v4628 v4832 k0_hw454 => k0_hw454

def k0_chk455 (v4628 : IVec S16 32) (v4835 : IVec S16 32) : Prop :=
  (∀ a x, ((![v4628, v4835] : Fin 2 → IVec S16 32) a x).toNat < S160x39.size a)
theorem k0_idx455_inb : ∀ (v4628 : IVec S16 32) (v4835 : IVec S16 32) (k0_hw455 : k0_chk455 v4628 v4835), ∀ a x, ((![v4628, v4835] : Fin 2 → IVec S16 32) a x).toNat < S160x39.size a := fun v4628 v4835 k0_hw455 => k0_hw455

def k0_chk456 (v4628 : IVec S16 32) (v4839 : IVec S16 32) : Prop :=
  (∀ a x, ((![v4628, v4839] : Fin 2 → IVec S16 32) a x).toNat < S160x31.size a)
theorem k0_idx456_inb : ∀ (v4628 : IVec S16 32) (v4839 : IVec S16 32) (k0_hw456 : k0_chk456 v4628 v4839), ∀ a x, ((![v4628, v4839] : Fin 2 → IVec S16 32) a x).toNat < S160x31.size a := fun v4628 v4839 k0_hw456 => k0_hw456

def k0_chk457 (v4628 : IVec S16 32) (v4842 : IVec S16 32) : Prop :=
  (∀ a x, ((![v4628, v4842] : Fin 2 → IVec S16 32) a x).toNat < S160x39.size a)
theorem k0_idx457_inb : ∀ (v4628 : IVec S16 32) (v4842 : IVec S16 32) (k0_hw457 : k0_chk457 v4628 v4842), ∀ a x, ((![v4628, v4842] : Fin 2 → IVec S16 32) a x).toNat < S160x39.size a := fun v4628 v4842 k0_hw457 => k0_hw457

def k0_chk458 (v4628 : IVec S16 32) (v4846 : IVec S16 32) : Prop :=
  (∀ a x, ((![v4628, v4846] : Fin 2 → IVec S16 32) a x).toNat < S160x31.size a)
theorem k0_idx458_inb : ∀ (v4628 : IVec S16 32) (v4846 : IVec S16 32) (k0_hw458 : k0_chk458 v4628 v4846), ∀ a x, ((![v4628, v4846] : Fin 2 → IVec S16 32) a x).toNat < S160x31.size a := fun v4628 v4846 k0_hw458 => k0_hw458

def k0_chk459 (v4628 : IVec S16 32) (v4849 : IVec S16 32) : Prop :=
  (∀ a x, ((![v4628, v4849] : Fin 2 → IVec S16 32) a x).toNat < S160x39.size a)
theorem k0_idx459_inb : ∀ (v4628 : IVec S16 32) (v4849 : IVec S16 32) (k0_hw459 : k0_chk459 v4628 v4849), ∀ a x, ((![v4628, v4849] : Fin 2 → IVec S16 32) a x).toNat < S160x39.size a := fun v4628 v4849 k0_hw459 => k0_hw459

def k0_chk460 (v4628 : IVec S16 32) (v4853 : IVec S16 32) : Prop :=
  (∀ a x, ((![v4628, v4853] : Fin 2 → IVec S16 32) a x).toNat < S160x31.size a)
theorem k0_idx460_inb : ∀ (v4628 : IVec S16 32) (v4853 : IVec S16 32) (k0_hw460 : k0_chk460 v4628 v4853), ∀ a x, ((![v4628, v4853] : Fin 2 → IVec S16 32) a x).toNat < S160x31.size a := fun v4628 v4853 k0_hw460 => k0_hw460

def k0_chk461 (v4628 : IVec S16 32) (v4856 : IVec S16 32) : Prop :=
  (∀ a x, ((![v4628, v4856] : Fin 2 → IVec S16 32) a x).toNat < S160x39.size a)
theorem k0_idx461_inb : ∀ (v4628 : IVec S16 32) (v4856 : IVec S16 32) (k0_hw461 : k0_chk461 v4628 v4856), ∀ a x, ((![v4628, v4856] : Fin 2 → IVec S16 32) a x).toNat < S160x39.size a := fun v4628 v4856 k0_hw461 => k0_hw461

def k0_chk462 (v4628 : IVec S16 32) (v4860 : IVec S16 32) : Prop :=
  (∀ a x, ((![v4628, v4860] : Fin 2 → IVec S16 32) a x).toNat < S160x31.size a)
theorem k0_idx462_inb : ∀ (v4628 : IVec S16 32) (v4860 : IVec S16 32) (k0_hw462 : k0_chk462 v4628 v4860), ∀ a x, ((![v4628, v4860] : Fin 2 → IVec S16 32) a x).toNat < S160x31.size a := fun v4628 v4860 k0_hw462 => k0_hw462

def k0_chk463 (v4628 : IVec S16 32) (v4863 : IVec S16 32) : Prop :=
  (∀ a x, ((![v4628, v4863] : Fin 2 → IVec S16 32) a x).toNat < S160x39.size a)
theorem k0_idx463_inb : ∀ (v4628 : IVec S16 32) (v4863 : IVec S16 32) (k0_hw463 : k0_chk463 v4628 v4863), ∀ a x, ((![v4628, v4863] : Fin 2 → IVec S16 32) a x).toNat < S160x39.size a := fun v4628 v4863 k0_hw463 => k0_hw463

def k0_chk464 (v4628 : IVec S16 32) (v4867 : IVec S16 32) : Prop :=
  (∀ a x, ((![v4628, v4867] : Fin 2 → IVec S16 32) a x).toNat < S160x31.size a)
theorem k0_idx464_inb : ∀ (v4628 : IVec S16 32) (v4867 : IVec S16 32) (k0_hw464 : k0_chk464 v4628 v4867), ∀ a x, ((![v4628, v4867] : Fin 2 → IVec S16 32) a x).toNat < S160x31.size a := fun v4628 v4867 k0_hw464 => k0_hw464

def k0_chk465 (v4628 : IVec S16 32) (v4870 : IVec S16 32) : Prop :=
  (∀ a x, ((![v4628, v4870] : Fin 2 → IVec S16 32) a x).toNat < S160x39.size a)
theorem k0_idx465_inb : ∀ (v4628 : IVec S16 32) (v4870 : IVec S16 32) (k0_hw465 : k0_chk465 v4628 v4870), ∀ a x, ((![v4628, v4870] : Fin 2 → IVec S16 32) a x).toNat < S160x39.size a := fun v4628 v4870 k0_hw465 => k0_hw465

def k0_chk466 (v4628 : IVec S16 32) (v4874 : IVec S16 32) : Prop :=
  (∀ a x, ((![v4628, v4874] : Fin 2 → IVec S16 32) a x).toNat < S160x31.size a)
theorem k0_idx466_inb : ∀ (v4628 : IVec S16 32) (v4874 : IVec S16 32) (k0_hw466 : k0_chk466 v4628 v4874), ∀ a x, ((![v4628, v4874] : Fin 2 → IVec S16 32) a x).toNat < S160x31.size a := fun v4628 v4874 k0_hw466 => k0_hw466

def k0_chk467 (v4628 : IVec S16 32) (v4877 : IVec S16 32) : Prop :=
  (∀ a x, ((![v4628, v4877] : Fin 2 → IVec S16 32) a x).toNat < S160x39.size a)
theorem k0_idx467_inb : ∀ (v4628 : IVec S16 32) (v4877 : IVec S16 32) (k0_hw467 : k0_chk467 v4628 v4877), ∀ a x, ((![v4628, v4877] : Fin 2 → IVec S16 32) a x).toNat < S160x39.size a := fun v4628 v4877 k0_hw467 => k0_hw467

def k0_chk468 (v4628 : IVec S16 32) (v4881 : IVec S16 32) : Prop :=
  (∀ a x, ((![v4628, v4881] : Fin 2 → IVec S16 32) a x).toNat < S160x31.size a)
theorem k0_idx468_inb : ∀ (v4628 : IVec S16 32) (v4881 : IVec S16 32) (k0_hw468 : k0_chk468 v4628 v4881), ∀ a x, ((![v4628, v4881] : Fin 2 → IVec S16 32) a x).toNat < S160x31.size a := fun v4628 v4881 k0_hw468 => k0_hw468

def k0_chk469 (v4628 : IVec S16 32) (v4884 : IVec S16 32) : Prop :=
  (∀ a x, ((![v4628, v4884] : Fin 2 → IVec S16 32) a x).toNat < S160x39.size a)
theorem k0_idx469_inb : ∀ (v4628 : IVec S16 32) (v4884 : IVec S16 32) (k0_hw469 : k0_chk469 v4628 v4884), ∀ a x, ((![v4628, v4884] : Fin 2 → IVec S16 32) a x).toNat < S160x39.size a := fun v4628 v4884 k0_hw469 => k0_hw469

def k0_chk470 (v4628 : IVec S16 32) (v4888 : IVec S16 32) : Prop :=
  (∀ a x, ((![v4628, v4888] : Fin 2 → IVec S16 32) a x).toNat < S160x31.size a)
theorem k0_idx470_inb : ∀ (v4628 : IVec S16 32) (v4888 : IVec S16 32) (k0_hw470 : k0_chk470 v4628 v4888), ∀ a x, ((![v4628, v4888] : Fin 2 → IVec S16 32) a x).toNat < S160x31.size a := fun v4628 v4888 k0_hw470 => k0_hw470

def k0_chk471 (v4628 : IVec S16 32) (v4891 : IVec S16 32) : Prop :=
  (∀ a x, ((![v4628, v4891] : Fin 2 → IVec S16 32) a x).toNat < S160x39.size a)
theorem k0_idx471_inb : ∀ (v4628 : IVec S16 32) (v4891 : IVec S16 32) (k0_hw471 : k0_chk471 v4628 v4891), ∀ a x, ((![v4628, v4891] : Fin 2 → IVec S16 32) a x).toNat < S160x39.size a := fun v4628 v4891 k0_hw471 => k0_hw471

def k0_chk472 (v4628 : IVec S16 32) (v4895 : IVec S16 32) : Prop :=
  (∀ a x, ((![v4628, v4895] : Fin 2 → IVec S16 32) a x).toNat < S160x31.size a)
theorem k0_idx472_inb : ∀ (v4628 : IVec S16 32) (v4895 : IVec S16 32) (k0_hw472 : k0_chk472 v4628 v4895), ∀ a x, ((![v4628, v4895] : Fin 2 → IVec S16 32) a x).toNat < S160x31.size a := fun v4628 v4895 k0_hw472 => k0_hw472

def k0_chk473 (v4628 : IVec S16 32) (v4898 : IVec S16 32) : Prop :=
  (∀ a x, ((![v4628, v4898] : Fin 2 → IVec S16 32) a x).toNat < S160x39.size a)
theorem k0_idx473_inb : ∀ (v4628 : IVec S16 32) (v4898 : IVec S16 32) (k0_hw473 : k0_chk473 v4628 v4898), ∀ a x, ((![v4628, v4898] : Fin 2 → IVec S16 32) a x).toNat < S160x39.size a := fun v4628 v4898 k0_hw473 => k0_hw473

def k0_chk474 (v4628 : IVec S16 32) (v4902 : IVec S16 32) : Prop :=
  (∀ a x, ((![v4628, v4902] : Fin 2 → IVec S16 32) a x).toNat < S160x31.size a)
theorem k0_idx474_inb : ∀ (v4628 : IVec S16 32) (v4902 : IVec S16 32) (k0_hw474 : k0_chk474 v4628 v4902), ∀ a x, ((![v4628, v4902] : Fin 2 → IVec S16 32) a x).toNat < S160x31.size a := fun v4628 v4902 k0_hw474 => k0_hw474

def k0_chk475 (v4628 : IVec S16 32) (v4905 : IVec S16 32) : Prop :=
  (∀ a x, ((![v4628, v4905] : Fin 2 → IVec S16 32) a x).toNat < S160x39.size a)
theorem k0_idx475_inb : ∀ (v4628 : IVec S16 32) (v4905 : IVec S16 32) (k0_hw475 : k0_chk475 v4628 v4905), ∀ a x, ((![v4628, v4905] : Fin 2 → IVec S16 32) a x).toNat < S160x39.size a := fun v4628 v4905 k0_hw475 => k0_hw475

def k0_chk476 (v4628 : IVec S16 32) (v4909 : IVec S16 32) : Prop :=
  (∀ a x, ((![v4628, v4909] : Fin 2 → IVec S16 32) a x).toNat < S160x31.size a)
theorem k0_idx476_inb : ∀ (v4628 : IVec S16 32) (v4909 : IVec S16 32) (k0_hw476 : k0_chk476 v4628 v4909), ∀ a x, ((![v4628, v4909] : Fin 2 → IVec S16 32) a x).toNat < S160x31.size a := fun v4628 v4909 k0_hw476 => k0_hw476

def k0_chk477 (v4913 : IVec S16 32) (v4914 : IVec S16 32) : Prop :=
  (∀ a x, ((![v4913, v4914] : Fin 2 → IVec S16 32) a x).toNat < S160x39.size a)
theorem k0_idx477_inb : ∀ (v4913 : IVec S16 32) (v4914 : IVec S16 32) (k0_hw477 : k0_chk477 v4913 v4914), ∀ a x, ((![v4913, v4914] : Fin 2 → IVec S16 32) a x).toNat < S160x39.size a := fun v4913 v4914 k0_hw477 => k0_hw477

def k0_chk478 (v4913 : IVec S16 32) (v4918 : IVec S16 32) : Prop :=
  (∀ a x, ((![v4913, v4918] : Fin 2 → IVec S16 32) a x).toNat < S160x39.size a)
theorem k0_idx478_inb : ∀ (v4913 : IVec S16 32) (v4918 : IVec S16 32) (k0_hw478 : k0_chk478 v4913 v4918), ∀ a x, ((![v4913, v4918] : Fin 2 → IVec S16 32) a x).toNat < S160x39.size a := fun v4913 v4918 k0_hw478 => k0_hw478

def k0_chk479 (v4913 : IVec S16 32) (v4922 : IVec S16 32) : Prop :=
  (∀ a x, ((![v4913, v4922] : Fin 2 → IVec S16 32) a x).toNat < S160x39.size a)
theorem k0_idx479_inb : ∀ (v4913 : IVec S16 32) (v4922 : IVec S16 32) (k0_hw479 : k0_chk479 v4913 v4922), ∀ a x, ((![v4913, v4922] : Fin 2 → IVec S16 32) a x).toNat < S160x39.size a := fun v4913 v4922 k0_hw479 => k0_hw479

def k0_chk480 (v4913 : IVec S16 32) (v4926 : IVec S16 32) : Prop :=
  (∀ a x, ((![v4913, v4926] : Fin 2 → IVec S16 32) a x).toNat < S160x39.size a)
theorem k0_idx480_inb : ∀ (v4913 : IVec S16 32) (v4926 : IVec S16 32) (k0_hw480 : k0_chk480 v4913 v4926), ∀ a x, ((![v4913, v4926] : Fin 2 → IVec S16 32) a x).toNat < S160x39.size a := fun v4913 v4926 k0_hw480 => k0_hw480

def k0_chk481 (v4913 : IVec S16 32) (v4931 : IVec S16 32) : Prop :=
  (∀ a x, ((![v4913, v4931] : Fin 2 → IVec S16 32) a x).toNat < S160x39.size a)
theorem k0_idx481_inb : ∀ (v4913 : IVec S16 32) (v4931 : IVec S16 32) (k0_hw481 : k0_chk481 v4913 v4931), ∀ a x, ((![v4913, v4931] : Fin 2 → IVec S16 32) a x).toNat < S160x39.size a := fun v4913 v4931 k0_hw481 => k0_hw481

def k0_chk482 (v4913 : IVec S16 32) (v4935 : IVec S16 32) : Prop :=
  (∀ a x, ((![v4913, v4935] : Fin 2 → IVec S16 32) a x).toNat < S160x39.size a)
theorem k0_idx482_inb : ∀ (v4913 : IVec S16 32) (v4935 : IVec S16 32) (k0_hw482 : k0_chk482 v4913 v4935), ∀ a x, ((![v4913, v4935] : Fin 2 → IVec S16 32) a x).toNat < S160x39.size a := fun v4913 v4935 k0_hw482 => k0_hw482

def k0_chk483 (v4913 : IVec S16 32) (v4940 : IVec S16 32) : Prop :=
  (∀ a x, ((![v4913, v4940] : Fin 2 → IVec S16 32) a x).toNat < S160x39.size a)
theorem k0_idx483_inb : ∀ (v4913 : IVec S16 32) (v4940 : IVec S16 32) (k0_hw483 : k0_chk483 v4913 v4940), ∀ a x, ((![v4913, v4940] : Fin 2 → IVec S16 32) a x).toNat < S160x39.size a := fun v4913 v4940 k0_hw483 => k0_hw483

def k0_chk484 (v4913 : IVec S16 32) (v4948 : IVec S16 32) : Prop :=
  (∀ a x, ((![v4913, v4948] : Fin 2 → IVec S16 32) a x).toNat < S160x39.size a)
theorem k0_idx484_inb : ∀ (v4913 : IVec S16 32) (v4948 : IVec S16 32) (k0_hw484 : k0_chk484 v4913 v4948), ∀ a x, ((![v4913, v4948] : Fin 2 → IVec S16 32) a x).toNat < S160x39.size a := fun v4913 v4948 k0_hw484 => k0_hw484

def k0_chk485 (v4913 : IVec S16 32) (v4956 : IVec S16 32) : Prop :=
  (∀ a x, ((![v4913, v4956] : Fin 2 → IVec S16 32) a x).toNat < S160x31.size a)
theorem k0_idx485_inb : ∀ (v4913 : IVec S16 32) (v4956 : IVec S16 32) (k0_hw485 : k0_chk485 v4913 v4956), ∀ a x, ((![v4913, v4956] : Fin 2 → IVec S16 32) a x).toNat < S160x31.size a := fun v4913 v4956 k0_hw485 => k0_hw485

def k0_chk486 (v4913 : IVec S16 32) (v4959 : IVec S16 32) : Prop :=
  (∀ a x, ((![v4913, v4959] : Fin 2 → IVec S16 32) a x).toNat < S160x31.size a)
theorem k0_idx486_inb : ∀ (v4913 : IVec S16 32) (v4959 : IVec S16 32) (k0_hw486 : k0_chk486 v4913 v4959), ∀ a x, ((![v4913, v4959] : Fin 2 → IVec S16 32) a x).toNat < S160x31.size a := fun v4913 v4959 k0_hw486 => k0_hw486

def k0_chk487 (v4913 : IVec S16 32) (v4962 : IVec S16 32) : Prop :=
  (∀ a x, ((![v4913, v4962] : Fin 2 → IVec S16 32) a x).toNat < S160x39.size a)
theorem k0_idx487_inb : ∀ (v4913 : IVec S16 32) (v4962 : IVec S16 32) (k0_hw487 : k0_chk487 v4913 v4962), ∀ a x, ((![v4913, v4962] : Fin 2 → IVec S16 32) a x).toNat < S160x39.size a := fun v4913 v4962 k0_hw487 => k0_hw487

def k0_chk488 (v4913 : IVec S16 32) (v4970 : IVec S16 32) : Prop :=
  (∀ a x, ((![v4913, v4970] : Fin 2 → IVec S16 32) a x).toNat < S160x39.size a)
theorem k0_idx488_inb : ∀ (v4913 : IVec S16 32) (v4970 : IVec S16 32) (k0_hw488 : k0_chk488 v4913 v4970), ∀ a x, ((![v4913, v4970] : Fin 2 → IVec S16 32) a x).toNat < S160x39.size a := fun v4913 v4970 k0_hw488 => k0_hw488

def k0_chk489 (v4913 : IVec S16 32) (v4978 : IVec S16 32) : Prop :=
  (∀ a x, ((![v4913, v4978] : Fin 2 → IVec S16 32) a x).toNat < S160x31.size a)
theorem k0_idx489_inb : ∀ (v4913 : IVec S16 32) (v4978 : IVec S16 32) (k0_hw489 : k0_chk489 v4913 v4978), ∀ a x, ((![v4913, v4978] : Fin 2 → IVec S16 32) a x).toNat < S160x31.size a := fun v4913 v4978 k0_hw489 => k0_hw489

def k0_chk490 (v4913 : IVec S16 32) (v4981 : IVec S16 32) : Prop :=
  (∀ a x, ((![v4913, v4981] : Fin 2 → IVec S16 32) a x).toNat < S160x31.size a)
theorem k0_idx490_inb : ∀ (v4913 : IVec S16 32) (v4981 : IVec S16 32) (k0_hw490 : k0_chk490 v4913 v4981), ∀ a x, ((![v4913, v4981] : Fin 2 → IVec S16 32) a x).toNat < S160x31.size a := fun v4913 v4981 k0_hw490 => k0_hw490

def k0_chk491 (v4913 : IVec S16 32) (v4984 : IVec S16 32) : Prop :=
  (∀ a x, ((![v4913, v4984] : Fin 2 → IVec S16 32) a x).toNat < S160x39.size a)
theorem k0_idx491_inb : ∀ (v4913 : IVec S16 32) (v4984 : IVec S16 32) (k0_hw491 : k0_chk491 v4913 v4984), ∀ a x, ((![v4913, v4984] : Fin 2 → IVec S16 32) a x).toNat < S160x39.size a := fun v4913 v4984 k0_hw491 => k0_hw491

def k0_chk492 (v4913 : IVec S16 32) (v4992 : IVec S16 32) : Prop :=
  (∀ a x, ((![v4913, v4992] : Fin 2 → IVec S16 32) a x).toNat < S160x39.size a)
theorem k0_idx492_inb : ∀ (v4913 : IVec S16 32) (v4992 : IVec S16 32) (k0_hw492 : k0_chk492 v4913 v4992), ∀ a x, ((![v4913, v4992] : Fin 2 → IVec S16 32) a x).toNat < S160x39.size a := fun v4913 v4992 k0_hw492 => k0_hw492

def k0_chk493 (v4913 : IVec S16 32) (v5000 : IVec S16 32) : Prop :=
  (∀ a x, ((![v4913, v5000] : Fin 2 → IVec S16 32) a x).toNat < S160x31.size a)
theorem k0_idx493_inb : ∀ (v4913 : IVec S16 32) (v5000 : IVec S16 32) (k0_hw493 : k0_chk493 v4913 v5000), ∀ a x, ((![v4913, v5000] : Fin 2 → IVec S16 32) a x).toNat < S160x31.size a := fun v4913 v5000 k0_hw493 => k0_hw493

def k0_chk494 (v4913 : IVec S16 32) (v5003 : IVec S16 32) : Prop :=
  (∀ a x, ((![v4913, v5003] : Fin 2 → IVec S16 32) a x).toNat < S160x31.size a)
theorem k0_idx494_inb : ∀ (v4913 : IVec S16 32) (v5003 : IVec S16 32) (k0_hw494 : k0_chk494 v4913 v5003), ∀ a x, ((![v4913, v5003] : Fin 2 → IVec S16 32) a x).toNat < S160x31.size a := fun v4913 v5003 k0_hw494 => k0_hw494

def k0_chk495 (v4913 : IVec S16 32) (v5006 : IVec S16 32) : Prop :=
  (∀ a x, ((![v4913, v5006] : Fin 2 → IVec S16 32) a x).toNat < S160x39.size a)
theorem k0_idx495_inb : ∀ (v4913 : IVec S16 32) (v5006 : IVec S16 32) (k0_hw495 : k0_chk495 v4913 v5006), ∀ a x, ((![v4913, v5006] : Fin 2 → IVec S16 32) a x).toNat < S160x39.size a := fun v4913 v5006 k0_hw495 => k0_hw495

def k0_chk496 (v4913 : IVec S16 32) (v5014 : IVec S16 32) : Prop :=
  (∀ a x, ((![v4913, v5014] : Fin 2 → IVec S16 32) a x).toNat < S160x39.size a)
theorem k0_idx496_inb : ∀ (v4913 : IVec S16 32) (v5014 : IVec S16 32) (k0_hw496 : k0_chk496 v4913 v5014), ∀ a x, ((![v4913, v5014] : Fin 2 → IVec S16 32) a x).toNat < S160x39.size a := fun v4913 v5014 k0_hw496 => k0_hw496

def k0_chk497 (v4913 : IVec S16 32) (v5022 : IVec S16 32) : Prop :=
  (∀ a x, ((![v4913, v5022] : Fin 2 → IVec S16 32) a x).toNat < S160x31.size a)
theorem k0_idx497_inb : ∀ (v4913 : IVec S16 32) (v5022 : IVec S16 32) (k0_hw497 : k0_chk497 v4913 v5022), ∀ a x, ((![v4913, v5022] : Fin 2 → IVec S16 32) a x).toNat < S160x31.size a := fun v4913 v5022 k0_hw497 => k0_hw497

def k0_chk498 (v4913 : IVec S16 32) (v5025 : IVec S16 32) : Prop :=
  (∀ a x, ((![v4913, v5025] : Fin 2 → IVec S16 32) a x).toNat < S160x31.size a)
theorem k0_idx498_inb : ∀ (v4913 : IVec S16 32) (v5025 : IVec S16 32) (k0_hw498 : k0_chk498 v4913 v5025), ∀ a x, ((![v4913, v5025] : Fin 2 → IVec S16 32) a x).toNat < S160x31.size a := fun v4913 v5025 k0_hw498 => k0_hw498

def k0_chk499 (v4913 : IVec S16 32) (v5028 : IVec S16 32) : Prop :=
  (∀ a x, ((![v4913, v5028] : Fin 2 → IVec S16 32) a x).toNat < S160x39.size a)
theorem k0_idx499_inb : ∀ (v4913 : IVec S16 32) (v5028 : IVec S16 32) (k0_hw499 : k0_chk499 v4913 v5028), ∀ a x, ((![v4913, v5028] : Fin 2 → IVec S16 32) a x).toNat < S160x39.size a := fun v4913 v5028 k0_hw499 => k0_hw499

def k0_chk500 (v4913 : IVec S16 32) (v5036 : IVec S16 32) : Prop :=
  (∀ a x, ((![v4913, v5036] : Fin 2 → IVec S16 32) a x).toNat < S160x39.size a)
theorem k0_idx500_inb : ∀ (v4913 : IVec S16 32) (v5036 : IVec S16 32) (k0_hw500 : k0_chk500 v4913 v5036), ∀ a x, ((![v4913, v5036] : Fin 2 → IVec S16 32) a x).toNat < S160x39.size a := fun v4913 v5036 k0_hw500 => k0_hw500

def k0_chk501 (v4913 : IVec S16 32) (v5044 : IVec S16 32) : Prop :=
  (∀ a x, ((![v4913, v5044] : Fin 2 → IVec S16 32) a x).toNat < S160x31.size a)
theorem k0_idx501_inb : ∀ (v4913 : IVec S16 32) (v5044 : IVec S16 32) (k0_hw501 : k0_chk501 v4913 v5044), ∀ a x, ((![v4913, v5044] : Fin 2 → IVec S16 32) a x).toNat < S160x31.size a := fun v4913 v5044 k0_hw501 => k0_hw501

def k0_chk502 (v4913 : IVec S16 32) (v5047 : IVec S16 32) : Prop :=
  (∀ a x, ((![v4913, v5047] : Fin 2 → IVec S16 32) a x).toNat < S160x31.size a)
theorem k0_idx502_inb : ∀ (v4913 : IVec S16 32) (v5047 : IVec S16 32) (k0_hw502 : k0_chk502 v4913 v5047), ∀ a x, ((![v4913, v5047] : Fin 2 → IVec S16 32) a x).toNat < S160x31.size a := fun v4913 v5047 k0_hw502 => k0_hw502

def k0_chk503 (v4913 : IVec S16 32) (v5050 : IVec S16 32) : Prop :=
  (∀ a x, ((![v4913, v5050] : Fin 2 → IVec S16 32) a x).toNat < S160x39.size a)
theorem k0_idx503_inb : ∀ (v4913 : IVec S16 32) (v5050 : IVec S16 32) (k0_hw503 : k0_chk503 v4913 v5050), ∀ a x, ((![v4913, v5050] : Fin 2 → IVec S16 32) a x).toNat < S160x39.size a := fun v4913 v5050 k0_hw503 => k0_hw503

def k0_chk504 (v4913 : IVec S16 32) (v5054 : IVec S16 32) : Prop :=
  (∀ a x, ((![v4913, v5054] : Fin 2 → IVec S16 32) a x).toNat < S160x31.size a)
theorem k0_idx504_inb : ∀ (v4913 : IVec S16 32) (v5054 : IVec S16 32) (k0_hw504 : k0_chk504 v4913 v5054), ∀ a x, ((![v4913, v5054] : Fin 2 → IVec S16 32) a x).toNat < S160x31.size a := fun v4913 v5054 k0_hw504 => k0_hw504

def k0_chk505 (v4913 : IVec S16 32) (v5057 : IVec S16 32) : Prop :=
  (∀ a x, ((![v4913, v5057] : Fin 2 → IVec S16 32) a x).toNat < S160x39.size a)
theorem k0_idx505_inb : ∀ (v4913 : IVec S16 32) (v5057 : IVec S16 32) (k0_hw505 : k0_chk505 v4913 v5057), ∀ a x, ((![v4913, v5057] : Fin 2 → IVec S16 32) a x).toNat < S160x39.size a := fun v4913 v5057 k0_hw505 => k0_hw505

def k0_chk506 (v4913 : IVec S16 32) (v5061 : IVec S16 32) : Prop :=
  (∀ a x, ((![v4913, v5061] : Fin 2 → IVec S16 32) a x).toNat < S160x31.size a)
theorem k0_idx506_inb : ∀ (v4913 : IVec S16 32) (v5061 : IVec S16 32) (k0_hw506 : k0_chk506 v4913 v5061), ∀ a x, ((![v4913, v5061] : Fin 2 → IVec S16 32) a x).toNat < S160x31.size a := fun v4913 v5061 k0_hw506 => k0_hw506

def k0_chk507 (v4913 : IVec S16 32) (v5064 : IVec S16 32) : Prop :=
  (∀ a x, ((![v4913, v5064] : Fin 2 → IVec S16 32) a x).toNat < S160x39.size a)
theorem k0_idx507_inb : ∀ (v4913 : IVec S16 32) (v5064 : IVec S16 32) (k0_hw507 : k0_chk507 v4913 v5064), ∀ a x, ((![v4913, v5064] : Fin 2 → IVec S16 32) a x).toNat < S160x39.size a := fun v4913 v5064 k0_hw507 => k0_hw507

def k0_chk508 (v4913 : IVec S16 32) (v5068 : IVec S16 32) : Prop :=
  (∀ a x, ((![v4913, v5068] : Fin 2 → IVec S16 32) a x).toNat < S160x31.size a)
theorem k0_idx508_inb : ∀ (v4913 : IVec S16 32) (v5068 : IVec S16 32) (k0_hw508 : k0_chk508 v4913 v5068), ∀ a x, ((![v4913, v5068] : Fin 2 → IVec S16 32) a x).toNat < S160x31.size a := fun v4913 v5068 k0_hw508 => k0_hw508

def k0_chk509 (v4913 : IVec S16 32) (v5071 : IVec S16 32) : Prop :=
  (∀ a x, ((![v4913, v5071] : Fin 2 → IVec S16 32) a x).toNat < S160x39.size a)
theorem k0_idx509_inb : ∀ (v4913 : IVec S16 32) (v5071 : IVec S16 32) (k0_hw509 : k0_chk509 v4913 v5071), ∀ a x, ((![v4913, v5071] : Fin 2 → IVec S16 32) a x).toNat < S160x39.size a := fun v4913 v5071 k0_hw509 => k0_hw509

def k0_chk510 (v4913 : IVec S16 32) (v5075 : IVec S16 32) : Prop :=
  (∀ a x, ((![v4913, v5075] : Fin 2 → IVec S16 32) a x).toNat < S160x31.size a)
theorem k0_idx510_inb : ∀ (v4913 : IVec S16 32) (v5075 : IVec S16 32) (k0_hw510 : k0_chk510 v4913 v5075), ∀ a x, ((![v4913, v5075] : Fin 2 → IVec S16 32) a x).toNat < S160x31.size a := fun v4913 v5075 k0_hw510 => k0_hw510

def k0_chk511 (v4913 : IVec S16 32) (v5078 : IVec S16 32) : Prop :=
  (∀ a x, ((![v4913, v5078] : Fin 2 → IVec S16 32) a x).toNat < S160x39.size a)
theorem k0_idx511_inb : ∀ (v4913 : IVec S16 32) (v5078 : IVec S16 32) (k0_hw511 : k0_chk511 v4913 v5078), ∀ a x, ((![v4913, v5078] : Fin 2 → IVec S16 32) a x).toNat < S160x39.size a := fun v4913 v5078 k0_hw511 => k0_hw511

def k0_chk512 (v4913 : IVec S16 32) (v5082 : IVec S16 32) : Prop :=
  (∀ a x, ((![v4913, v5082] : Fin 2 → IVec S16 32) a x).toNat < S160x31.size a)
theorem k0_idx512_inb : ∀ (v4913 : IVec S16 32) (v5082 : IVec S16 32) (k0_hw512 : k0_chk512 v4913 v5082), ∀ a x, ((![v4913, v5082] : Fin 2 → IVec S16 32) a x).toNat < S160x31.size a := fun v4913 v5082 k0_hw512 => k0_hw512

def k0_chk513 (v4913 : IVec S16 32) (v5085 : IVec S16 32) : Prop :=
  (∀ a x, ((![v4913, v5085] : Fin 2 → IVec S16 32) a x).toNat < S160x39.size a)
theorem k0_idx513_inb : ∀ (v4913 : IVec S16 32) (v5085 : IVec S16 32) (k0_hw513 : k0_chk513 v4913 v5085), ∀ a x, ((![v4913, v5085] : Fin 2 → IVec S16 32) a x).toNat < S160x39.size a := fun v4913 v5085 k0_hw513 => k0_hw513

def k0_chk514 (v4913 : IVec S16 32) (v5089 : IVec S16 32) : Prop :=
  (∀ a x, ((![v4913, v5089] : Fin 2 → IVec S16 32) a x).toNat < S160x31.size a)
theorem k0_idx514_inb : ∀ (v4913 : IVec S16 32) (v5089 : IVec S16 32) (k0_hw514 : k0_chk514 v4913 v5089), ∀ a x, ((![v4913, v5089] : Fin 2 → IVec S16 32) a x).toNat < S160x31.size a := fun v4913 v5089 k0_hw514 => k0_hw514

def k0_chk515 (v4913 : IVec S16 32) (v5092 : IVec S16 32) : Prop :=
  (∀ a x, ((![v4913, v5092] : Fin 2 → IVec S16 32) a x).toNat < S160x39.size a)
theorem k0_idx515_inb : ∀ (v4913 : IVec S16 32) (v5092 : IVec S16 32) (k0_hw515 : k0_chk515 v4913 v5092), ∀ a x, ((![v4913, v5092] : Fin 2 → IVec S16 32) a x).toNat < S160x39.size a := fun v4913 v5092 k0_hw515 => k0_hw515

def k0_chk516 (v4913 : IVec S16 32) (v5096 : IVec S16 32) : Prop :=
  (∀ a x, ((![v4913, v5096] : Fin 2 → IVec S16 32) a x).toNat < S160x31.size a)
theorem k0_idx516_inb : ∀ (v4913 : IVec S16 32) (v5096 : IVec S16 32) (k0_hw516 : k0_chk516 v4913 v5096), ∀ a x, ((![v4913, v5096] : Fin 2 → IVec S16 32) a x).toNat < S160x31.size a := fun v4913 v5096 k0_hw516 => k0_hw516

def k0_chk517 (v4913 : IVec S16 32) (v5099 : IVec S16 32) : Prop :=
  (∀ a x, ((![v4913, v5099] : Fin 2 → IVec S16 32) a x).toNat < S160x39.size a)
theorem k0_idx517_inb : ∀ (v4913 : IVec S16 32) (v5099 : IVec S16 32) (k0_hw517 : k0_chk517 v4913 v5099), ∀ a x, ((![v4913, v5099] : Fin 2 → IVec S16 32) a x).toNat < S160x39.size a := fun v4913 v5099 k0_hw517 => k0_hw517

def k0_chk518 (v4913 : IVec S16 32) (v5103 : IVec S16 32) : Prop :=
  (∀ a x, ((![v4913, v5103] : Fin 2 → IVec S16 32) a x).toNat < S160x31.size a)
theorem k0_idx518_inb : ∀ (v4913 : IVec S16 32) (v5103 : IVec S16 32) (k0_hw518 : k0_chk518 v4913 v5103), ∀ a x, ((![v4913, v5103] : Fin 2 → IVec S16 32) a x).toNat < S160x31.size a := fun v4913 v5103 k0_hw518 => k0_hw518

def k0_chk519 (v4913 : IVec S16 32) (v5106 : IVec S16 32) : Prop :=
  (∀ a x, ((![v4913, v5106] : Fin 2 → IVec S16 32) a x).toNat < S160x39.size a)
theorem k0_idx519_inb : ∀ (v4913 : IVec S16 32) (v5106 : IVec S16 32) (k0_hw519 : k0_chk519 v4913 v5106), ∀ a x, ((![v4913, v5106] : Fin 2 → IVec S16 32) a x).toNat < S160x39.size a := fun v4913 v5106 k0_hw519 => k0_hw519

def k0_chk520 (v4913 : IVec S16 32) (v5110 : IVec S16 32) : Prop :=
  (∀ a x, ((![v4913, v5110] : Fin 2 → IVec S16 32) a x).toNat < S160x31.size a)
theorem k0_idx520_inb : ∀ (v4913 : IVec S16 32) (v5110 : IVec S16 32) (k0_hw520 : k0_chk520 v4913 v5110), ∀ a x, ((![v4913, v5110] : Fin 2 → IVec S16 32) a x).toNat < S160x31.size a := fun v4913 v5110 k0_hw520 => k0_hw520

def k0_chk521 (v4913 : IVec S16 32) (v5113 : IVec S16 32) : Prop :=
  (∀ a x, ((![v4913, v5113] : Fin 2 → IVec S16 32) a x).toNat < S160x39.size a)
theorem k0_idx521_inb : ∀ (v4913 : IVec S16 32) (v5113 : IVec S16 32) (k0_hw521 : k0_chk521 v4913 v5113), ∀ a x, ((![v4913, v5113] : Fin 2 → IVec S16 32) a x).toNat < S160x39.size a := fun v4913 v5113 k0_hw521 => k0_hw521

def k0_chk522 (v4913 : IVec S16 32) (v5117 : IVec S16 32) : Prop :=
  (∀ a x, ((![v4913, v5117] : Fin 2 → IVec S16 32) a x).toNat < S160x31.size a)
theorem k0_idx522_inb : ∀ (v4913 : IVec S16 32) (v5117 : IVec S16 32) (k0_hw522 : k0_chk522 v4913 v5117), ∀ a x, ((![v4913, v5117] : Fin 2 → IVec S16 32) a x).toNat < S160x31.size a := fun v4913 v5117 k0_hw522 => k0_hw522

def k0_chk523 (v4913 : IVec S16 32) (v5120 : IVec S16 32) : Prop :=
  (∀ a x, ((![v4913, v5120] : Fin 2 → IVec S16 32) a x).toNat < S160x39.size a)
theorem k0_idx523_inb : ∀ (v4913 : IVec S16 32) (v5120 : IVec S16 32) (k0_hw523 : k0_chk523 v4913 v5120), ∀ a x, ((![v4913, v5120] : Fin 2 → IVec S16 32) a x).toNat < S160x39.size a := fun v4913 v5120 k0_hw523 => k0_hw523

def k0_chk524 (v4913 : IVec S16 32) (v5124 : IVec S16 32) : Prop :=
  (∀ a x, ((![v4913, v5124] : Fin 2 → IVec S16 32) a x).toNat < S160x31.size a)
theorem k0_idx524_inb : ∀ (v4913 : IVec S16 32) (v5124 : IVec S16 32) (k0_hw524 : k0_chk524 v4913 v5124), ∀ a x, ((![v4913, v5124] : Fin 2 → IVec S16 32) a x).toNat < S160x31.size a := fun v4913 v5124 k0_hw524 => k0_hw524

def k0_chk525 (v4913 : IVec S16 32) (v5127 : IVec S16 32) : Prop :=
  (∀ a x, ((![v4913, v5127] : Fin 2 → IVec S16 32) a x).toNat < S160x39.size a)
theorem k0_idx525_inb : ∀ (v4913 : IVec S16 32) (v5127 : IVec S16 32) (k0_hw525 : k0_chk525 v4913 v5127), ∀ a x, ((![v4913, v5127] : Fin 2 → IVec S16 32) a x).toNat < S160x39.size a := fun v4913 v5127 k0_hw525 => k0_hw525

def k0_chk526 (v4913 : IVec S16 32) (v5131 : IVec S16 32) : Prop :=
  (∀ a x, ((![v4913, v5131] : Fin 2 → IVec S16 32) a x).toNat < S160x31.size a)
theorem k0_idx526_inb : ∀ (v4913 : IVec S16 32) (v5131 : IVec S16 32) (k0_hw526 : k0_chk526 v4913 v5131), ∀ a x, ((![v4913, v5131] : Fin 2 → IVec S16 32) a x).toNat < S160x31.size a := fun v4913 v5131 k0_hw526 => k0_hw526

def k0_chk527 (v4913 : IVec S16 32) (v5134 : IVec S16 32) : Prop :=
  (∀ a x, ((![v4913, v5134] : Fin 2 → IVec S16 32) a x).toNat < S160x39.size a)
theorem k0_idx527_inb : ∀ (v4913 : IVec S16 32) (v5134 : IVec S16 32) (k0_hw527 : k0_chk527 v4913 v5134), ∀ a x, ((![v4913, v5134] : Fin 2 → IVec S16 32) a x).toNat < S160x39.size a := fun v4913 v5134 k0_hw527 => k0_hw527

def k0_chk528 (v4913 : IVec S16 32) (v5138 : IVec S16 32) : Prop :=
  (∀ a x, ((![v4913, v5138] : Fin 2 → IVec S16 32) a x).toNat < S160x31.size a)
theorem k0_idx528_inb : ∀ (v4913 : IVec S16 32) (v5138 : IVec S16 32) (k0_hw528 : k0_chk528 v4913 v5138), ∀ a x, ((![v4913, v5138] : Fin 2 → IVec S16 32) a x).toNat < S160x31.size a := fun v4913 v5138 k0_hw528 => k0_hw528

def k0_chk529 (v4913 : IVec S16 32) (v5141 : IVec S16 32) : Prop :=
  (∀ a x, ((![v4913, v5141] : Fin 2 → IVec S16 32) a x).toNat < S160x39.size a)
theorem k0_idx529_inb : ∀ (v4913 : IVec S16 32) (v5141 : IVec S16 32) (k0_hw529 : k0_chk529 v4913 v5141), ∀ a x, ((![v4913, v5141] : Fin 2 → IVec S16 32) a x).toNat < S160x39.size a := fun v4913 v5141 k0_hw529 => k0_hw529

def k0_chk530 (v4913 : IVec S16 32) (v5145 : IVec S16 32) : Prop :=
  (∀ a x, ((![v4913, v5145] : Fin 2 → IVec S16 32) a x).toNat < S160x31.size a)
theorem k0_idx530_inb : ∀ (v4913 : IVec S16 32) (v5145 : IVec S16 32) (k0_hw530 : k0_chk530 v4913 v5145), ∀ a x, ((![v4913, v5145] : Fin 2 → IVec S16 32) a x).toNat < S160x31.size a := fun v4913 v5145 k0_hw530 => k0_hw530

def k0_chk531 (v4913 : IVec S16 32) (v5148 : IVec S16 32) : Prop :=
  (∀ a x, ((![v4913, v5148] : Fin 2 → IVec S16 32) a x).toNat < S160x39.size a)
theorem k0_idx531_inb : ∀ (v4913 : IVec S16 32) (v5148 : IVec S16 32) (k0_hw531 : k0_chk531 v4913 v5148), ∀ a x, ((![v4913, v5148] : Fin 2 → IVec S16 32) a x).toNat < S160x39.size a := fun v4913 v5148 k0_hw531 => k0_hw531

def k0_chk532 (v4913 : IVec S16 32) (v5152 : IVec S16 32) : Prop :=
  (∀ a x, ((![v4913, v5152] : Fin 2 → IVec S16 32) a x).toNat < S160x31.size a)
theorem k0_idx532_inb : ∀ (v4913 : IVec S16 32) (v5152 : IVec S16 32) (k0_hw532 : k0_chk532 v4913 v5152), ∀ a x, ((![v4913, v5152] : Fin 2 → IVec S16 32) a x).toNat < S160x31.size a := fun v4913 v5152 k0_hw532 => k0_hw532

def k0_chk533 (v4913 : IVec S16 32) (v5155 : IVec S16 32) : Prop :=
  (∀ a x, ((![v4913, v5155] : Fin 2 → IVec S16 32) a x).toNat < S160x39.size a)
theorem k0_idx533_inb : ∀ (v4913 : IVec S16 32) (v5155 : IVec S16 32) (k0_hw533 : k0_chk533 v4913 v5155), ∀ a x, ((![v4913, v5155] : Fin 2 → IVec S16 32) a x).toNat < S160x39.size a := fun v4913 v5155 k0_hw533 => k0_hw533

def k0_chk534 (v4913 : IVec S16 32) (v5159 : IVec S16 32) : Prop :=
  (∀ a x, ((![v4913, v5159] : Fin 2 → IVec S16 32) a x).toNat < S160x31.size a)
theorem k0_idx534_inb : ∀ (v4913 : IVec S16 32) (v5159 : IVec S16 32) (k0_hw534 : k0_chk534 v4913 v5159), ∀ a x, ((![v4913, v5159] : Fin 2 → IVec S16 32) a x).toNat < S160x31.size a := fun v4913 v5159 k0_hw534 => k0_hw534

def k0_chk535 (v4913 : IVec S16 32) (v5162 : IVec S16 32) : Prop :=
  (∀ a x, ((![v4913, v5162] : Fin 2 → IVec S16 32) a x).toNat < S160x39.size a)
theorem k0_idx535_inb : ∀ (v4913 : IVec S16 32) (v5162 : IVec S16 32) (k0_hw535 : k0_chk535 v4913 v5162), ∀ a x, ((![v4913, v5162] : Fin 2 → IVec S16 32) a x).toNat < S160x39.size a := fun v4913 v5162 k0_hw535 => k0_hw535

def k0_chk536 (v4913 : IVec S16 32) (v5166 : IVec S16 32) : Prop :=
  (∀ a x, ((![v4913, v5166] : Fin 2 → IVec S16 32) a x).toNat < S160x31.size a)
theorem k0_idx536_inb : ∀ (v4913 : IVec S16 32) (v5166 : IVec S16 32) (k0_hw536 : k0_chk536 v4913 v5166), ∀ a x, ((![v4913, v5166] : Fin 2 → IVec S16 32) a x).toNat < S160x31.size a := fun v4913 v5166 k0_hw536 => k0_hw536

def k0_chk537 (v4913 : IVec S16 32) (v5169 : IVec S16 32) : Prop :=
  (∀ a x, ((![v4913, v5169] : Fin 2 → IVec S16 32) a x).toNat < S160x39.size a)
theorem k0_idx537_inb : ∀ (v4913 : IVec S16 32) (v5169 : IVec S16 32) (k0_hw537 : k0_chk537 v4913 v5169), ∀ a x, ((![v4913, v5169] : Fin 2 → IVec S16 32) a x).toNat < S160x39.size a := fun v4913 v5169 k0_hw537 => k0_hw537

def k0_chk538 (v4913 : IVec S16 32) (v5173 : IVec S16 32) : Prop :=
  (∀ a x, ((![v4913, v5173] : Fin 2 → IVec S16 32) a x).toNat < S160x31.size a)
theorem k0_idx538_inb : ∀ (v4913 : IVec S16 32) (v5173 : IVec S16 32) (k0_hw538 : k0_chk538 v4913 v5173), ∀ a x, ((![v4913, v5173] : Fin 2 → IVec S16 32) a x).toNat < S160x31.size a := fun v4913 v5173 k0_hw538 => k0_hw538

def k0_chk539 (v4913 : IVec S16 32) (v5176 : IVec S16 32) : Prop :=
  (∀ a x, ((![v4913, v5176] : Fin 2 → IVec S16 32) a x).toNat < S160x39.size a)
theorem k0_idx539_inb : ∀ (v4913 : IVec S16 32) (v5176 : IVec S16 32) (k0_hw539 : k0_chk539 v4913 v5176), ∀ a x, ((![v4913, v5176] : Fin 2 → IVec S16 32) a x).toNat < S160x39.size a := fun v4913 v5176 k0_hw539 => k0_hw539

def k0_chk540 (v4913 : IVec S16 32) (v5180 : IVec S16 32) : Prop :=
  (∀ a x, ((![v4913, v5180] : Fin 2 → IVec S16 32) a x).toNat < S160x31.size a)
theorem k0_idx540_inb : ∀ (v4913 : IVec S16 32) (v5180 : IVec S16 32) (k0_hw540 : k0_chk540 v4913 v5180), ∀ a x, ((![v4913, v5180] : Fin 2 → IVec S16 32) a x).toNat < S160x31.size a := fun v4913 v5180 k0_hw540 => k0_hw540

def k0_chk541 (v4913 : IVec S16 32) (v5183 : IVec S16 32) : Prop :=
  (∀ a x, ((![v4913, v5183] : Fin 2 → IVec S16 32) a x).toNat < S160x39.size a)
theorem k0_idx541_inb : ∀ (v4913 : IVec S16 32) (v5183 : IVec S16 32) (k0_hw541 : k0_chk541 v4913 v5183), ∀ a x, ((![v4913, v5183] : Fin 2 → IVec S16 32) a x).toNat < S160x39.size a := fun v4913 v5183 k0_hw541 => k0_hw541

def k0_chk542 (v4913 : IVec S16 32) (v5187 : IVec S16 32) : Prop :=
  (∀ a x, ((![v4913, v5187] : Fin 2 → IVec S16 32) a x).toNat < S160x31.size a)
theorem k0_idx542_inb : ∀ (v4913 : IVec S16 32) (v5187 : IVec S16 32) (k0_hw542 : k0_chk542 v4913 v5187), ∀ a x, ((![v4913, v5187] : Fin 2 → IVec S16 32) a x).toNat < S160x31.size a := fun v4913 v5187 k0_hw542 => k0_hw542

def k0_chk543 (v4913 : IVec S16 32) (v5190 : IVec S16 32) : Prop :=
  (∀ a x, ((![v4913, v5190] : Fin 2 → IVec S16 32) a x).toNat < S160x39.size a)
theorem k0_idx543_inb : ∀ (v4913 : IVec S16 32) (v5190 : IVec S16 32) (k0_hw543 : k0_chk543 v4913 v5190), ∀ a x, ((![v4913, v5190] : Fin 2 → IVec S16 32) a x).toNat < S160x39.size a := fun v4913 v5190 k0_hw543 => k0_hw543

def k0_chk544 (v4913 : IVec S16 32) (v5194 : IVec S16 32) : Prop :=
  (∀ a x, ((![v4913, v5194] : Fin 2 → IVec S16 32) a x).toNat < S160x31.size a)
theorem k0_idx544_inb : ∀ (v4913 : IVec S16 32) (v5194 : IVec S16 32) (k0_hw544 : k0_chk544 v4913 v5194), ∀ a x, ((![v4913, v5194] : Fin 2 → IVec S16 32) a x).toNat < S160x31.size a := fun v4913 v5194 k0_hw544 => k0_hw544

def k0_chk545 (v5198 : IVec S16 32) (v5199 : IVec S16 32) : Prop :=
  (∀ a x, ((![v5198, v5199] : Fin 2 → IVec S16 32) a x).toNat < S160x39.size a)
theorem k0_idx545_inb : ∀ (v5198 : IVec S16 32) (v5199 : IVec S16 32) (k0_hw545 : k0_chk545 v5198 v5199), ∀ a x, ((![v5198, v5199] : Fin 2 → IVec S16 32) a x).toNat < S160x39.size a := fun v5198 v5199 k0_hw545 => k0_hw545

def k0_chk546 (v5198 : IVec S16 32) (v5203 : IVec S16 32) : Prop :=
  (∀ a x, ((![v5198, v5203] : Fin 2 → IVec S16 32) a x).toNat < S160x39.size a)
theorem k0_idx546_inb : ∀ (v5198 : IVec S16 32) (v5203 : IVec S16 32) (k0_hw546 : k0_chk546 v5198 v5203), ∀ a x, ((![v5198, v5203] : Fin 2 → IVec S16 32) a x).toNat < S160x39.size a := fun v5198 v5203 k0_hw546 => k0_hw546

def k0_chk547 (v5198 : IVec S16 32) (v5207 : IVec S16 32) : Prop :=
  (∀ a x, ((![v5198, v5207] : Fin 2 → IVec S16 32) a x).toNat < S160x39.size a)
theorem k0_idx547_inb : ∀ (v5198 : IVec S16 32) (v5207 : IVec S16 32) (k0_hw547 : k0_chk547 v5198 v5207), ∀ a x, ((![v5198, v5207] : Fin 2 → IVec S16 32) a x).toNat < S160x39.size a := fun v5198 v5207 k0_hw547 => k0_hw547

def k0_chk548 (v5198 : IVec S16 32) (v5211 : IVec S16 32) : Prop :=
  (∀ a x, ((![v5198, v5211] : Fin 2 → IVec S16 32) a x).toNat < S160x39.size a)
theorem k0_idx548_inb : ∀ (v5198 : IVec S16 32) (v5211 : IVec S16 32) (k0_hw548 : k0_chk548 v5198 v5211), ∀ a x, ((![v5198, v5211] : Fin 2 → IVec S16 32) a x).toNat < S160x39.size a := fun v5198 v5211 k0_hw548 => k0_hw548

def k0_chk549 (v5198 : IVec S16 32) (v5216 : IVec S16 32) : Prop :=
  (∀ a x, ((![v5198, v5216] : Fin 2 → IVec S16 32) a x).toNat < S160x39.size a)
theorem k0_idx549_inb : ∀ (v5198 : IVec S16 32) (v5216 : IVec S16 32) (k0_hw549 : k0_chk549 v5198 v5216), ∀ a x, ((![v5198, v5216] : Fin 2 → IVec S16 32) a x).toNat < S160x39.size a := fun v5198 v5216 k0_hw549 => k0_hw549

def k0_chk550 (v5198 : IVec S16 32) (v5220 : IVec S16 32) : Prop :=
  (∀ a x, ((![v5198, v5220] : Fin 2 → IVec S16 32) a x).toNat < S160x39.size a)
theorem k0_idx550_inb : ∀ (v5198 : IVec S16 32) (v5220 : IVec S16 32) (k0_hw550 : k0_chk550 v5198 v5220), ∀ a x, ((![v5198, v5220] : Fin 2 → IVec S16 32) a x).toNat < S160x39.size a := fun v5198 v5220 k0_hw550 => k0_hw550

def k0_chk551 (v5198 : IVec S16 32) (v5225 : IVec S16 32) : Prop :=
  (∀ a x, ((![v5198, v5225] : Fin 2 → IVec S16 32) a x).toNat < S160x39.size a)
theorem k0_idx551_inb : ∀ (v5198 : IVec S16 32) (v5225 : IVec S16 32) (k0_hw551 : k0_chk551 v5198 v5225), ∀ a x, ((![v5198, v5225] : Fin 2 → IVec S16 32) a x).toNat < S160x39.size a := fun v5198 v5225 k0_hw551 => k0_hw551

def k0_chk552 (v5198 : IVec S16 32) (v5233 : IVec S16 32) : Prop :=
  (∀ a x, ((![v5198, v5233] : Fin 2 → IVec S16 32) a x).toNat < S160x39.size a)
theorem k0_idx552_inb : ∀ (v5198 : IVec S16 32) (v5233 : IVec S16 32) (k0_hw552 : k0_chk552 v5198 v5233), ∀ a x, ((![v5198, v5233] : Fin 2 → IVec S16 32) a x).toNat < S160x39.size a := fun v5198 v5233 k0_hw552 => k0_hw552

def k0_chk553 (v5198 : IVec S16 32) (v5241 : IVec S16 32) : Prop :=
  (∀ a x, ((![v5198, v5241] : Fin 2 → IVec S16 32) a x).toNat < S160x31.size a)
theorem k0_idx553_inb : ∀ (v5198 : IVec S16 32) (v5241 : IVec S16 32) (k0_hw553 : k0_chk553 v5198 v5241), ∀ a x, ((![v5198, v5241] : Fin 2 → IVec S16 32) a x).toNat < S160x31.size a := fun v5198 v5241 k0_hw553 => k0_hw553

def k0_chk554 (v5198 : IVec S16 32) (v5244 : IVec S16 32) : Prop :=
  (∀ a x, ((![v5198, v5244] : Fin 2 → IVec S16 32) a x).toNat < S160x31.size a)
theorem k0_idx554_inb : ∀ (v5198 : IVec S16 32) (v5244 : IVec S16 32) (k0_hw554 : k0_chk554 v5198 v5244), ∀ a x, ((![v5198, v5244] : Fin 2 → IVec S16 32) a x).toNat < S160x31.size a := fun v5198 v5244 k0_hw554 => k0_hw554

def k0_chk555 (v5198 : IVec S16 32) (v5247 : IVec S16 32) : Prop :=
  (∀ a x, ((![v5198, v5247] : Fin 2 → IVec S16 32) a x).toNat < S160x39.size a)
theorem k0_idx555_inb : ∀ (v5198 : IVec S16 32) (v5247 : IVec S16 32) (k0_hw555 : k0_chk555 v5198 v5247), ∀ a x, ((![v5198, v5247] : Fin 2 → IVec S16 32) a x).toNat < S160x39.size a := fun v5198 v5247 k0_hw555 => k0_hw555

def k0_chk556 (v5198 : IVec S16 32) (v5255 : IVec S16 32) : Prop :=
  (∀ a x, ((![v5198, v5255] : Fin 2 → IVec S16 32) a x).toNat < S160x39.size a)
theorem k0_idx556_inb : ∀ (v5198 : IVec S16 32) (v5255 : IVec S16 32) (k0_hw556 : k0_chk556 v5198 v5255), ∀ a x, ((![v5198, v5255] : Fin 2 → IVec S16 32) a x).toNat < S160x39.size a := fun v5198 v5255 k0_hw556 => k0_hw556

def k0_chk557 (v5198 : IVec S16 32) (v5263 : IVec S16 32) : Prop :=
  (∀ a x, ((![v5198, v5263] : Fin 2 → IVec S16 32) a x).toNat < S160x31.size a)
theorem k0_idx557_inb : ∀ (v5198 : IVec S16 32) (v5263 : IVec S16 32) (k0_hw557 : k0_chk557 v5198 v5263), ∀ a x, ((![v5198, v5263] : Fin 2 → IVec S16 32) a x).toNat < S160x31.size a := fun v5198 v5263 k0_hw557 => k0_hw557

def k0_chk558 (v5198 : IVec S16 32) (v5266 : IVec S16 32) : Prop :=
  (∀ a x, ((![v5198, v5266] : Fin 2 → IVec S16 32) a x).toNat < S160x31.size a)
theorem k0_idx558_inb : ∀ (v5198 : IVec S16 32) (v5266 : IVec S16 32) (k0_hw558 : k0_chk558 v5198 v5266), ∀ a x, ((![v5198, v5266] : Fin 2 → IVec S16 32) a x).toNat < S160x31.size a := fun v5198 v5266 k0_hw558 => k0_hw558

def k0_chk559 (v5198 : IVec S16 32) (v5269 : IVec S16 32) : Prop :=
  (∀ a x, ((![v5198, v5269] : Fin 2 → IVec S16 32) a x).toNat < S160x39.size a)
theorem k0_idx559_inb : ∀ (v5198 : IVec S16 32) (v5269 : IVec S16 32) (k0_hw559 : k0_chk559 v5198 v5269), ∀ a x, ((![v5198, v5269] : Fin 2 → IVec S16 32) a x).toNat < S160x39.size a := fun v5198 v5269 k0_hw559 => k0_hw559

def k0_chk560 (v5198 : IVec S16 32) (v5277 : IVec S16 32) : Prop :=
  (∀ a x, ((![v5198, v5277] : Fin 2 → IVec S16 32) a x).toNat < S160x39.size a)
theorem k0_idx560_inb : ∀ (v5198 : IVec S16 32) (v5277 : IVec S16 32) (k0_hw560 : k0_chk560 v5198 v5277), ∀ a x, ((![v5198, v5277] : Fin 2 → IVec S16 32) a x).toNat < S160x39.size a := fun v5198 v5277 k0_hw560 => k0_hw560

def k0_chk561 (v5198 : IVec S16 32) (v5285 : IVec S16 32) : Prop :=
  (∀ a x, ((![v5198, v5285] : Fin 2 → IVec S16 32) a x).toNat < S160x31.size a)
theorem k0_idx561_inb : ∀ (v5198 : IVec S16 32) (v5285 : IVec S16 32) (k0_hw561 : k0_chk561 v5198 v5285), ∀ a x, ((![v5198, v5285] : Fin 2 → IVec S16 32) a x).toNat < S160x31.size a := fun v5198 v5285 k0_hw561 => k0_hw561

def k0_chk562 (v5198 : IVec S16 32) (v5288 : IVec S16 32) : Prop :=
  (∀ a x, ((![v5198, v5288] : Fin 2 → IVec S16 32) a x).toNat < S160x31.size a)
theorem k0_idx562_inb : ∀ (v5198 : IVec S16 32) (v5288 : IVec S16 32) (k0_hw562 : k0_chk562 v5198 v5288), ∀ a x, ((![v5198, v5288] : Fin 2 → IVec S16 32) a x).toNat < S160x31.size a := fun v5198 v5288 k0_hw562 => k0_hw562

def k0_chk563 (v5198 : IVec S16 32) (v5291 : IVec S16 32) : Prop :=
  (∀ a x, ((![v5198, v5291] : Fin 2 → IVec S16 32) a x).toNat < S160x39.size a)
theorem k0_idx563_inb : ∀ (v5198 : IVec S16 32) (v5291 : IVec S16 32) (k0_hw563 : k0_chk563 v5198 v5291), ∀ a x, ((![v5198, v5291] : Fin 2 → IVec S16 32) a x).toNat < S160x39.size a := fun v5198 v5291 k0_hw563 => k0_hw563

def k0_chk564 (v5198 : IVec S16 32) (v5299 : IVec S16 32) : Prop :=
  (∀ a x, ((![v5198, v5299] : Fin 2 → IVec S16 32) a x).toNat < S160x39.size a)
theorem k0_idx564_inb : ∀ (v5198 : IVec S16 32) (v5299 : IVec S16 32) (k0_hw564 : k0_chk564 v5198 v5299), ∀ a x, ((![v5198, v5299] : Fin 2 → IVec S16 32) a x).toNat < S160x39.size a := fun v5198 v5299 k0_hw564 => k0_hw564

def k0_chk565 (v5198 : IVec S16 32) (v5307 : IVec S16 32) : Prop :=
  (∀ a x, ((![v5198, v5307] : Fin 2 → IVec S16 32) a x).toNat < S160x31.size a)
theorem k0_idx565_inb : ∀ (v5198 : IVec S16 32) (v5307 : IVec S16 32) (k0_hw565 : k0_chk565 v5198 v5307), ∀ a x, ((![v5198, v5307] : Fin 2 → IVec S16 32) a x).toNat < S160x31.size a := fun v5198 v5307 k0_hw565 => k0_hw565

def k0_chk566 (v5198 : IVec S16 32) (v5310 : IVec S16 32) : Prop :=
  (∀ a x, ((![v5198, v5310] : Fin 2 → IVec S16 32) a x).toNat < S160x31.size a)
theorem k0_idx566_inb : ∀ (v5198 : IVec S16 32) (v5310 : IVec S16 32) (k0_hw566 : k0_chk566 v5198 v5310), ∀ a x, ((![v5198, v5310] : Fin 2 → IVec S16 32) a x).toNat < S160x31.size a := fun v5198 v5310 k0_hw566 => k0_hw566

def k0_chk567 (v5198 : IVec S16 32) (v5313 : IVec S16 32) : Prop :=
  (∀ a x, ((![v5198, v5313] : Fin 2 → IVec S16 32) a x).toNat < S160x39.size a)
theorem k0_idx567_inb : ∀ (v5198 : IVec S16 32) (v5313 : IVec S16 32) (k0_hw567 : k0_chk567 v5198 v5313), ∀ a x, ((![v5198, v5313] : Fin 2 → IVec S16 32) a x).toNat < S160x39.size a := fun v5198 v5313 k0_hw567 => k0_hw567

def k0_chk568 (v5198 : IVec S16 32) (v5321 : IVec S16 32) : Prop :=
  (∀ a x, ((![v5198, v5321] : Fin 2 → IVec S16 32) a x).toNat < S160x39.size a)
theorem k0_idx568_inb : ∀ (v5198 : IVec S16 32) (v5321 : IVec S16 32) (k0_hw568 : k0_chk568 v5198 v5321), ∀ a x, ((![v5198, v5321] : Fin 2 → IVec S16 32) a x).toNat < S160x39.size a := fun v5198 v5321 k0_hw568 => k0_hw568

def k0_chk569 (v5198 : IVec S16 32) (v5329 : IVec S16 32) : Prop :=
  (∀ a x, ((![v5198, v5329] : Fin 2 → IVec S16 32) a x).toNat < S160x31.size a)
theorem k0_idx569_inb : ∀ (v5198 : IVec S16 32) (v5329 : IVec S16 32) (k0_hw569 : k0_chk569 v5198 v5329), ∀ a x, ((![v5198, v5329] : Fin 2 → IVec S16 32) a x).toNat < S160x31.size a := fun v5198 v5329 k0_hw569 => k0_hw569

def k0_chk570 (v5198 : IVec S16 32) (v5332 : IVec S16 32) : Prop :=
  (∀ a x, ((![v5198, v5332] : Fin 2 → IVec S16 32) a x).toNat < S160x31.size a)
theorem k0_idx570_inb : ∀ (v5198 : IVec S16 32) (v5332 : IVec S16 32) (k0_hw570 : k0_chk570 v5198 v5332), ∀ a x, ((![v5198, v5332] : Fin 2 → IVec S16 32) a x).toNat < S160x31.size a := fun v5198 v5332 k0_hw570 => k0_hw570

def k0_chk571 (v5198 : IVec S16 32) (v5335 : IVec S16 32) : Prop :=
  (∀ a x, ((![v5198, v5335] : Fin 2 → IVec S16 32) a x).toNat < S160x39.size a)
theorem k0_idx571_inb : ∀ (v5198 : IVec S16 32) (v5335 : IVec S16 32) (k0_hw571 : k0_chk571 v5198 v5335), ∀ a x, ((![v5198, v5335] : Fin 2 → IVec S16 32) a x).toNat < S160x39.size a := fun v5198 v5335 k0_hw571 => k0_hw571

def k0_chk572 (v5198 : IVec S16 32) (v5339 : IVec S16 32) : Prop :=
  (∀ a x, ((![v5198, v5339] : Fin 2 → IVec S16 32) a x).toNat < S160x31.size a)
theorem k0_idx572_inb : ∀ (v5198 : IVec S16 32) (v5339 : IVec S16 32) (k0_hw572 : k0_chk572 v5198 v5339), ∀ a x, ((![v5198, v5339] : Fin 2 → IVec S16 32) a x).toNat < S160x31.size a := fun v5198 v5339 k0_hw572 => k0_hw572

def k0_chk573 (v5198 : IVec S16 32) (v5342 : IVec S16 32) : Prop :=
  (∀ a x, ((![v5198, v5342] : Fin 2 → IVec S16 32) a x).toNat < S160x39.size a)
theorem k0_idx573_inb : ∀ (v5198 : IVec S16 32) (v5342 : IVec S16 32) (k0_hw573 : k0_chk573 v5198 v5342), ∀ a x, ((![v5198, v5342] : Fin 2 → IVec S16 32) a x).toNat < S160x39.size a := fun v5198 v5342 k0_hw573 => k0_hw573

def k0_chk574 (v5198 : IVec S16 32) (v5346 : IVec S16 32) : Prop :=
  (∀ a x, ((![v5198, v5346] : Fin 2 → IVec S16 32) a x).toNat < S160x31.size a)
theorem k0_idx574_inb : ∀ (v5198 : IVec S16 32) (v5346 : IVec S16 32) (k0_hw574 : k0_chk574 v5198 v5346), ∀ a x, ((![v5198, v5346] : Fin 2 → IVec S16 32) a x).toNat < S160x31.size a := fun v5198 v5346 k0_hw574 => k0_hw574

def k0_chk575 (v5198 : IVec S16 32) (v5349 : IVec S16 32) : Prop :=
  (∀ a x, ((![v5198, v5349] : Fin 2 → IVec S16 32) a x).toNat < S160x39.size a)
theorem k0_idx575_inb : ∀ (v5198 : IVec S16 32) (v5349 : IVec S16 32) (k0_hw575 : k0_chk575 v5198 v5349), ∀ a x, ((![v5198, v5349] : Fin 2 → IVec S16 32) a x).toNat < S160x39.size a := fun v5198 v5349 k0_hw575 => k0_hw575

def k0_chk576 (v5198 : IVec S16 32) (v5353 : IVec S16 32) : Prop :=
  (∀ a x, ((![v5198, v5353] : Fin 2 → IVec S16 32) a x).toNat < S160x31.size a)
theorem k0_idx576_inb : ∀ (v5198 : IVec S16 32) (v5353 : IVec S16 32) (k0_hw576 : k0_chk576 v5198 v5353), ∀ a x, ((![v5198, v5353] : Fin 2 → IVec S16 32) a x).toNat < S160x31.size a := fun v5198 v5353 k0_hw576 => k0_hw576

def k0_chk577 (v5198 : IVec S16 32) (v5356 : IVec S16 32) : Prop :=
  (∀ a x, ((![v5198, v5356] : Fin 2 → IVec S16 32) a x).toNat < S160x39.size a)
theorem k0_idx577_inb : ∀ (v5198 : IVec S16 32) (v5356 : IVec S16 32) (k0_hw577 : k0_chk577 v5198 v5356), ∀ a x, ((![v5198, v5356] : Fin 2 → IVec S16 32) a x).toNat < S160x39.size a := fun v5198 v5356 k0_hw577 => k0_hw577

def k0_chk578 (v5198 : IVec S16 32) (v5360 : IVec S16 32) : Prop :=
  (∀ a x, ((![v5198, v5360] : Fin 2 → IVec S16 32) a x).toNat < S160x31.size a)
theorem k0_idx578_inb : ∀ (v5198 : IVec S16 32) (v5360 : IVec S16 32) (k0_hw578 : k0_chk578 v5198 v5360), ∀ a x, ((![v5198, v5360] : Fin 2 → IVec S16 32) a x).toNat < S160x31.size a := fun v5198 v5360 k0_hw578 => k0_hw578

def k0_chk579 (v5198 : IVec S16 32) (v5363 : IVec S16 32) : Prop :=
  (∀ a x, ((![v5198, v5363] : Fin 2 → IVec S16 32) a x).toNat < S160x39.size a)
theorem k0_idx579_inb : ∀ (v5198 : IVec S16 32) (v5363 : IVec S16 32) (k0_hw579 : k0_chk579 v5198 v5363), ∀ a x, ((![v5198, v5363] : Fin 2 → IVec S16 32) a x).toNat < S160x39.size a := fun v5198 v5363 k0_hw579 => k0_hw579

def k0_chk580 (v5198 : IVec S16 32) (v5367 : IVec S16 32) : Prop :=
  (∀ a x, ((![v5198, v5367] : Fin 2 → IVec S16 32) a x).toNat < S160x31.size a)
theorem k0_idx580_inb : ∀ (v5198 : IVec S16 32) (v5367 : IVec S16 32) (k0_hw580 : k0_chk580 v5198 v5367), ∀ a x, ((![v5198, v5367] : Fin 2 → IVec S16 32) a x).toNat < S160x31.size a := fun v5198 v5367 k0_hw580 => k0_hw580

def k0_chk581 (v5198 : IVec S16 32) (v5370 : IVec S16 32) : Prop :=
  (∀ a x, ((![v5198, v5370] : Fin 2 → IVec S16 32) a x).toNat < S160x39.size a)
theorem k0_idx581_inb : ∀ (v5198 : IVec S16 32) (v5370 : IVec S16 32) (k0_hw581 : k0_chk581 v5198 v5370), ∀ a x, ((![v5198, v5370] : Fin 2 → IVec S16 32) a x).toNat < S160x39.size a := fun v5198 v5370 k0_hw581 => k0_hw581

def k0_chk582 (v5198 : IVec S16 32) (v5374 : IVec S16 32) : Prop :=
  (∀ a x, ((![v5198, v5374] : Fin 2 → IVec S16 32) a x).toNat < S160x31.size a)
theorem k0_idx582_inb : ∀ (v5198 : IVec S16 32) (v5374 : IVec S16 32) (k0_hw582 : k0_chk582 v5198 v5374), ∀ a x, ((![v5198, v5374] : Fin 2 → IVec S16 32) a x).toNat < S160x31.size a := fun v5198 v5374 k0_hw582 => k0_hw582

def k0_chk583 (v5198 : IVec S16 32) (v5377 : IVec S16 32) : Prop :=
  (∀ a x, ((![v5198, v5377] : Fin 2 → IVec S16 32) a x).toNat < S160x39.size a)
theorem k0_idx583_inb : ∀ (v5198 : IVec S16 32) (v5377 : IVec S16 32) (k0_hw583 : k0_chk583 v5198 v5377), ∀ a x, ((![v5198, v5377] : Fin 2 → IVec S16 32) a x).toNat < S160x39.size a := fun v5198 v5377 k0_hw583 => k0_hw583

def k0_chk584 (v5198 : IVec S16 32) (v5381 : IVec S16 32) : Prop :=
  (∀ a x, ((![v5198, v5381] : Fin 2 → IVec S16 32) a x).toNat < S160x31.size a)
theorem k0_idx584_inb : ∀ (v5198 : IVec S16 32) (v5381 : IVec S16 32) (k0_hw584 : k0_chk584 v5198 v5381), ∀ a x, ((![v5198, v5381] : Fin 2 → IVec S16 32) a x).toNat < S160x31.size a := fun v5198 v5381 k0_hw584 => k0_hw584

def k0_chk585 (v5198 : IVec S16 32) (v5384 : IVec S16 32) : Prop :=
  (∀ a x, ((![v5198, v5384] : Fin 2 → IVec S16 32) a x).toNat < S160x39.size a)
theorem k0_idx585_inb : ∀ (v5198 : IVec S16 32) (v5384 : IVec S16 32) (k0_hw585 : k0_chk585 v5198 v5384), ∀ a x, ((![v5198, v5384] : Fin 2 → IVec S16 32) a x).toNat < S160x39.size a := fun v5198 v5384 k0_hw585 => k0_hw585

def k0_chk586 (v5198 : IVec S16 32) (v5388 : IVec S16 32) : Prop :=
  (∀ a x, ((![v5198, v5388] : Fin 2 → IVec S16 32) a x).toNat < S160x31.size a)
theorem k0_idx586_inb : ∀ (v5198 : IVec S16 32) (v5388 : IVec S16 32) (k0_hw586 : k0_chk586 v5198 v5388), ∀ a x, ((![v5198, v5388] : Fin 2 → IVec S16 32) a x).toNat < S160x31.size a := fun v5198 v5388 k0_hw586 => k0_hw586

def k0_chk587 (v5198 : IVec S16 32) (v5391 : IVec S16 32) : Prop :=
  (∀ a x, ((![v5198, v5391] : Fin 2 → IVec S16 32) a x).toNat < S160x39.size a)
theorem k0_idx587_inb : ∀ (v5198 : IVec S16 32) (v5391 : IVec S16 32) (k0_hw587 : k0_chk587 v5198 v5391), ∀ a x, ((![v5198, v5391] : Fin 2 → IVec S16 32) a x).toNat < S160x39.size a := fun v5198 v5391 k0_hw587 => k0_hw587

def k0_chk588 (v5198 : IVec S16 32) (v5395 : IVec S16 32) : Prop :=
  (∀ a x, ((![v5198, v5395] : Fin 2 → IVec S16 32) a x).toNat < S160x31.size a)
theorem k0_idx588_inb : ∀ (v5198 : IVec S16 32) (v5395 : IVec S16 32) (k0_hw588 : k0_chk588 v5198 v5395), ∀ a x, ((![v5198, v5395] : Fin 2 → IVec S16 32) a x).toNat < S160x31.size a := fun v5198 v5395 k0_hw588 => k0_hw588

def k0_chk589 (v5198 : IVec S16 32) (v5398 : IVec S16 32) : Prop :=
  (∀ a x, ((![v5198, v5398] : Fin 2 → IVec S16 32) a x).toNat < S160x39.size a)
theorem k0_idx589_inb : ∀ (v5198 : IVec S16 32) (v5398 : IVec S16 32) (k0_hw589 : k0_chk589 v5198 v5398), ∀ a x, ((![v5198, v5398] : Fin 2 → IVec S16 32) a x).toNat < S160x39.size a := fun v5198 v5398 k0_hw589 => k0_hw589

def k0_chk590 (v5198 : IVec S16 32) (v5402 : IVec S16 32) : Prop :=
  (∀ a x, ((![v5198, v5402] : Fin 2 → IVec S16 32) a x).toNat < S160x31.size a)
theorem k0_idx590_inb : ∀ (v5198 : IVec S16 32) (v5402 : IVec S16 32) (k0_hw590 : k0_chk590 v5198 v5402), ∀ a x, ((![v5198, v5402] : Fin 2 → IVec S16 32) a x).toNat < S160x31.size a := fun v5198 v5402 k0_hw590 => k0_hw590

def k0_chk591 (v5198 : IVec S16 32) (v5405 : IVec S16 32) : Prop :=
  (∀ a x, ((![v5198, v5405] : Fin 2 → IVec S16 32) a x).toNat < S160x39.size a)
theorem k0_idx591_inb : ∀ (v5198 : IVec S16 32) (v5405 : IVec S16 32) (k0_hw591 : k0_chk591 v5198 v5405), ∀ a x, ((![v5198, v5405] : Fin 2 → IVec S16 32) a x).toNat < S160x39.size a := fun v5198 v5405 k0_hw591 => k0_hw591

def k0_chk592 (v5198 : IVec S16 32) (v5409 : IVec S16 32) : Prop :=
  (∀ a x, ((![v5198, v5409] : Fin 2 → IVec S16 32) a x).toNat < S160x31.size a)
theorem k0_idx592_inb : ∀ (v5198 : IVec S16 32) (v5409 : IVec S16 32) (k0_hw592 : k0_chk592 v5198 v5409), ∀ a x, ((![v5198, v5409] : Fin 2 → IVec S16 32) a x).toNat < S160x31.size a := fun v5198 v5409 k0_hw592 => k0_hw592

def k0_chk593 (v5198 : IVec S16 32) (v5412 : IVec S16 32) : Prop :=
  (∀ a x, ((![v5198, v5412] : Fin 2 → IVec S16 32) a x).toNat < S160x39.size a)
theorem k0_idx593_inb : ∀ (v5198 : IVec S16 32) (v5412 : IVec S16 32) (k0_hw593 : k0_chk593 v5198 v5412), ∀ a x, ((![v5198, v5412] : Fin 2 → IVec S16 32) a x).toNat < S160x39.size a := fun v5198 v5412 k0_hw593 => k0_hw593

def k0_chk594 (v5198 : IVec S16 32) (v5416 : IVec S16 32) : Prop :=
  (∀ a x, ((![v5198, v5416] : Fin 2 → IVec S16 32) a x).toNat < S160x31.size a)
theorem k0_idx594_inb : ∀ (v5198 : IVec S16 32) (v5416 : IVec S16 32) (k0_hw594 : k0_chk594 v5198 v5416), ∀ a x, ((![v5198, v5416] : Fin 2 → IVec S16 32) a x).toNat < S160x31.size a := fun v5198 v5416 k0_hw594 => k0_hw594

def k0_chk595 (v5198 : IVec S16 32) (v5419 : IVec S16 32) : Prop :=
  (∀ a x, ((![v5198, v5419] : Fin 2 → IVec S16 32) a x).toNat < S160x39.size a)
theorem k0_idx595_inb : ∀ (v5198 : IVec S16 32) (v5419 : IVec S16 32) (k0_hw595 : k0_chk595 v5198 v5419), ∀ a x, ((![v5198, v5419] : Fin 2 → IVec S16 32) a x).toNat < S160x39.size a := fun v5198 v5419 k0_hw595 => k0_hw595

def k0_chk596 (v5198 : IVec S16 32) (v5423 : IVec S16 32) : Prop :=
  (∀ a x, ((![v5198, v5423] : Fin 2 → IVec S16 32) a x).toNat < S160x31.size a)
theorem k0_idx596_inb : ∀ (v5198 : IVec S16 32) (v5423 : IVec S16 32) (k0_hw596 : k0_chk596 v5198 v5423), ∀ a x, ((![v5198, v5423] : Fin 2 → IVec S16 32) a x).toNat < S160x31.size a := fun v5198 v5423 k0_hw596 => k0_hw596

def k0_chk597 (v5198 : IVec S16 32) (v5426 : IVec S16 32) : Prop :=
  (∀ a x, ((![v5198, v5426] : Fin 2 → IVec S16 32) a x).toNat < S160x39.size a)
theorem k0_idx597_inb : ∀ (v5198 : IVec S16 32) (v5426 : IVec S16 32) (k0_hw597 : k0_chk597 v5198 v5426), ∀ a x, ((![v5198, v5426] : Fin 2 → IVec S16 32) a x).toNat < S160x39.size a := fun v5198 v5426 k0_hw597 => k0_hw597

def k0_chk598 (v5198 : IVec S16 32) (v5430 : IVec S16 32) : Prop :=
  (∀ a x, ((![v5198, v5430] : Fin 2 → IVec S16 32) a x).toNat < S160x31.size a)
theorem k0_idx598_inb : ∀ (v5198 : IVec S16 32) (v5430 : IVec S16 32) (k0_hw598 : k0_chk598 v5198 v5430), ∀ a x, ((![v5198, v5430] : Fin 2 → IVec S16 32) a x).toNat < S160x31.size a := fun v5198 v5430 k0_hw598 => k0_hw598

def k0_chk599 (v5198 : IVec S16 32) (v5433 : IVec S16 32) : Prop :=
  (∀ a x, ((![v5198, v5433] : Fin 2 → IVec S16 32) a x).toNat < S160x39.size a)
theorem k0_idx599_inb : ∀ (v5198 : IVec S16 32) (v5433 : IVec S16 32) (k0_hw599 : k0_chk599 v5198 v5433), ∀ a x, ((![v5198, v5433] : Fin 2 → IVec S16 32) a x).toNat < S160x39.size a := fun v5198 v5433 k0_hw599 => k0_hw599

def k0_chk600 (v5198 : IVec S16 32) (v5437 : IVec S16 32) : Prop :=
  (∀ a x, ((![v5198, v5437] : Fin 2 → IVec S16 32) a x).toNat < S160x31.size a)
theorem k0_idx600_inb : ∀ (v5198 : IVec S16 32) (v5437 : IVec S16 32) (k0_hw600 : k0_chk600 v5198 v5437), ∀ a x, ((![v5198, v5437] : Fin 2 → IVec S16 32) a x).toNat < S160x31.size a := fun v5198 v5437 k0_hw600 => k0_hw600

def k0_chk601 (v5198 : IVec S16 32) (v5440 : IVec S16 32) : Prop :=
  (∀ a x, ((![v5198, v5440] : Fin 2 → IVec S16 32) a x).toNat < S160x39.size a)
theorem k0_idx601_inb : ∀ (v5198 : IVec S16 32) (v5440 : IVec S16 32) (k0_hw601 : k0_chk601 v5198 v5440), ∀ a x, ((![v5198, v5440] : Fin 2 → IVec S16 32) a x).toNat < S160x39.size a := fun v5198 v5440 k0_hw601 => k0_hw601

def k0_chk602 (v5198 : IVec S16 32) (v5444 : IVec S16 32) : Prop :=
  (∀ a x, ((![v5198, v5444] : Fin 2 → IVec S16 32) a x).toNat < S160x31.size a)
theorem k0_idx602_inb : ∀ (v5198 : IVec S16 32) (v5444 : IVec S16 32) (k0_hw602 : k0_chk602 v5198 v5444), ∀ a x, ((![v5198, v5444] : Fin 2 → IVec S16 32) a x).toNat < S160x31.size a := fun v5198 v5444 k0_hw602 => k0_hw602

def k0_chk603 (v5198 : IVec S16 32) (v5447 : IVec S16 32) : Prop :=
  (∀ a x, ((![v5198, v5447] : Fin 2 → IVec S16 32) a x).toNat < S160x39.size a)
theorem k0_idx603_inb : ∀ (v5198 : IVec S16 32) (v5447 : IVec S16 32) (k0_hw603 : k0_chk603 v5198 v5447), ∀ a x, ((![v5198, v5447] : Fin 2 → IVec S16 32) a x).toNat < S160x39.size a := fun v5198 v5447 k0_hw603 => k0_hw603

def k0_chk604 (v5198 : IVec S16 32) (v5451 : IVec S16 32) : Prop :=
  (∀ a x, ((![v5198, v5451] : Fin 2 → IVec S16 32) a x).toNat < S160x31.size a)
theorem k0_idx604_inb : ∀ (v5198 : IVec S16 32) (v5451 : IVec S16 32) (k0_hw604 : k0_chk604 v5198 v5451), ∀ a x, ((![v5198, v5451] : Fin 2 → IVec S16 32) a x).toNat < S160x31.size a := fun v5198 v5451 k0_hw604 => k0_hw604

def k0_chk605 (v5198 : IVec S16 32) (v5454 : IVec S16 32) : Prop :=
  (∀ a x, ((![v5198, v5454] : Fin 2 → IVec S16 32) a x).toNat < S160x39.size a)
theorem k0_idx605_inb : ∀ (v5198 : IVec S16 32) (v5454 : IVec S16 32) (k0_hw605 : k0_chk605 v5198 v5454), ∀ a x, ((![v5198, v5454] : Fin 2 → IVec S16 32) a x).toNat < S160x39.size a := fun v5198 v5454 k0_hw605 => k0_hw605

def k0_chk606 (v5198 : IVec S16 32) (v5458 : IVec S16 32) : Prop :=
  (∀ a x, ((![v5198, v5458] : Fin 2 → IVec S16 32) a x).toNat < S160x31.size a)
theorem k0_idx606_inb : ∀ (v5198 : IVec S16 32) (v5458 : IVec S16 32) (k0_hw606 : k0_chk606 v5198 v5458), ∀ a x, ((![v5198, v5458] : Fin 2 → IVec S16 32) a x).toNat < S160x31.size a := fun v5198 v5458 k0_hw606 => k0_hw606

def k0_chk607 (v5198 : IVec S16 32) (v5461 : IVec S16 32) : Prop :=
  (∀ a x, ((![v5198, v5461] : Fin 2 → IVec S16 32) a x).toNat < S160x39.size a)
theorem k0_idx607_inb : ∀ (v5198 : IVec S16 32) (v5461 : IVec S16 32) (k0_hw607 : k0_chk607 v5198 v5461), ∀ a x, ((![v5198, v5461] : Fin 2 → IVec S16 32) a x).toNat < S160x39.size a := fun v5198 v5461 k0_hw607 => k0_hw607

def k0_chk608 (v5198 : IVec S16 32) (v5465 : IVec S16 32) : Prop :=
  (∀ a x, ((![v5198, v5465] : Fin 2 → IVec S16 32) a x).toNat < S160x31.size a)
theorem k0_idx608_inb : ∀ (v5198 : IVec S16 32) (v5465 : IVec S16 32) (k0_hw608 : k0_chk608 v5198 v5465), ∀ a x, ((![v5198, v5465] : Fin 2 → IVec S16 32) a x).toNat < S160x31.size a := fun v5198 v5465 k0_hw608 => k0_hw608

def k0_chk609 (v5198 : IVec S16 32) (v5468 : IVec S16 32) : Prop :=
  (∀ a x, ((![v5198, v5468] : Fin 2 → IVec S16 32) a x).toNat < S160x39.size a)
theorem k0_idx609_inb : ∀ (v5198 : IVec S16 32) (v5468 : IVec S16 32) (k0_hw609 : k0_chk609 v5198 v5468), ∀ a x, ((![v5198, v5468] : Fin 2 → IVec S16 32) a x).toNat < S160x39.size a := fun v5198 v5468 k0_hw609 => k0_hw609

def k0_chk610 (v5198 : IVec S16 32) (v5472 : IVec S16 32) : Prop :=
  (∀ a x, ((![v5198, v5472] : Fin 2 → IVec S16 32) a x).toNat < S160x31.size a)
theorem k0_idx610_inb : ∀ (v5198 : IVec S16 32) (v5472 : IVec S16 32) (k0_hw610 : k0_chk610 v5198 v5472), ∀ a x, ((![v5198, v5472] : Fin 2 → IVec S16 32) a x).toNat < S160x31.size a := fun v5198 v5472 k0_hw610 => k0_hw610

def k0_chk611 (v5198 : IVec S16 32) (v5475 : IVec S16 32) : Prop :=
  (∀ a x, ((![v5198, v5475] : Fin 2 → IVec S16 32) a x).toNat < S160x39.size a)
theorem k0_idx611_inb : ∀ (v5198 : IVec S16 32) (v5475 : IVec S16 32) (k0_hw611 : k0_chk611 v5198 v5475), ∀ a x, ((![v5198, v5475] : Fin 2 → IVec S16 32) a x).toNat < S160x39.size a := fun v5198 v5475 k0_hw611 => k0_hw611

def k0_chk612 (v5198 : IVec S16 32) (v5479 : IVec S16 32) : Prop :=
  (∀ a x, ((![v5198, v5479] : Fin 2 → IVec S16 32) a x).toNat < S160x31.size a)
theorem k0_idx612_inb : ∀ (v5198 : IVec S16 32) (v5479 : IVec S16 32) (k0_hw612 : k0_chk612 v5198 v5479), ∀ a x, ((![v5198, v5479] : Fin 2 → IVec S16 32) a x).toNat < S160x31.size a := fun v5198 v5479 k0_hw612 => k0_hw612

def k0_chk613 (v5483 : IVec S16 32) (v5484 : IVec S16 32) : Prop :=
  (∀ a x, ((![v5483, v5484] : Fin 2 → IVec S16 32) a x).toNat < S160x39.size a)
theorem k0_idx613_inb : ∀ (v5483 : IVec S16 32) (v5484 : IVec S16 32) (k0_hw613 : k0_chk613 v5483 v5484), ∀ a x, ((![v5483, v5484] : Fin 2 → IVec S16 32) a x).toNat < S160x39.size a := fun v5483 v5484 k0_hw613 => k0_hw613

def k0_chk614 (v5483 : IVec S16 32) (v5488 : IVec S16 32) : Prop :=
  (∀ a x, ((![v5483, v5488] : Fin 2 → IVec S16 32) a x).toNat < S160x39.size a)
theorem k0_idx614_inb : ∀ (v5483 : IVec S16 32) (v5488 : IVec S16 32) (k0_hw614 : k0_chk614 v5483 v5488), ∀ a x, ((![v5483, v5488] : Fin 2 → IVec S16 32) a x).toNat < S160x39.size a := fun v5483 v5488 k0_hw614 => k0_hw614

def k0_chk615 (v5483 : IVec S16 32) (v5492 : IVec S16 32) : Prop :=
  (∀ a x, ((![v5483, v5492] : Fin 2 → IVec S16 32) a x).toNat < S160x39.size a)
theorem k0_idx615_inb : ∀ (v5483 : IVec S16 32) (v5492 : IVec S16 32) (k0_hw615 : k0_chk615 v5483 v5492), ∀ a x, ((![v5483, v5492] : Fin 2 → IVec S16 32) a x).toNat < S160x39.size a := fun v5483 v5492 k0_hw615 => k0_hw615

def k0_chk616 (v5483 : IVec S16 32) (v5496 : IVec S16 32) : Prop :=
  (∀ a x, ((![v5483, v5496] : Fin 2 → IVec S16 32) a x).toNat < S160x39.size a)
theorem k0_idx616_inb : ∀ (v5483 : IVec S16 32) (v5496 : IVec S16 32) (k0_hw616 : k0_chk616 v5483 v5496), ∀ a x, ((![v5483, v5496] : Fin 2 → IVec S16 32) a x).toNat < S160x39.size a := fun v5483 v5496 k0_hw616 => k0_hw616

def k0_chk617 (v5483 : IVec S16 32) (v5501 : IVec S16 32) : Prop :=
  (∀ a x, ((![v5483, v5501] : Fin 2 → IVec S16 32) a x).toNat < S160x39.size a)
theorem k0_idx617_inb : ∀ (v5483 : IVec S16 32) (v5501 : IVec S16 32) (k0_hw617 : k0_chk617 v5483 v5501), ∀ a x, ((![v5483, v5501] : Fin 2 → IVec S16 32) a x).toNat < S160x39.size a := fun v5483 v5501 k0_hw617 => k0_hw617

def k0_chk618 (v5483 : IVec S16 32) (v5505 : IVec S16 32) : Prop :=
  (∀ a x, ((![v5483, v5505] : Fin 2 → IVec S16 32) a x).toNat < S160x39.size a)
theorem k0_idx618_inb : ∀ (v5483 : IVec S16 32) (v5505 : IVec S16 32) (k0_hw618 : k0_chk618 v5483 v5505), ∀ a x, ((![v5483, v5505] : Fin 2 → IVec S16 32) a x).toNat < S160x39.size a := fun v5483 v5505 k0_hw618 => k0_hw618

def k0_chk619 (v5483 : IVec S16 32) (v5510 : IVec S16 32) : Prop :=
  (∀ a x, ((![v5483, v5510] : Fin 2 → IVec S16 32) a x).toNat < S160x39.size a)
theorem k0_idx619_inb : ∀ (v5483 : IVec S16 32) (v5510 : IVec S16 32) (k0_hw619 : k0_chk619 v5483 v5510), ∀ a x, ((![v5483, v5510] : Fin 2 → IVec S16 32) a x).toNat < S160x39.size a := fun v5483 v5510 k0_hw619 => k0_hw619

def k0_chk620 (v5483 : IVec S16 32) (v5518 : IVec S16 32) : Prop :=
  (∀ a x, ((![v5483, v5518] : Fin 2 → IVec S16 32) a x).toNat < S160x39.size a)
theorem k0_idx620_inb : ∀ (v5483 : IVec S16 32) (v5518 : IVec S16 32) (k0_hw620 : k0_chk620 v5483 v5518), ∀ a x, ((![v5483, v5518] : Fin 2 → IVec S16 32) a x).toNat < S160x39.size a := fun v5483 v5518 k0_hw620 => k0_hw620

def k0_chk621 (v5483 : IVec S16 32) (v5526 : IVec S16 32) : Prop :=
  (∀ a x, ((![v5483, v5526] : Fin 2 → IVec S16 32) a x).toNat < S160x31.size a)
theorem k0_idx621_inb : ∀ (v5483 : IVec S16 32) (v5526 : IVec S16 32) (k0_hw621 : k0_chk621 v5483 v5526), ∀ a x, ((![v5483, v5526] : Fin 2 → IVec S16 32) a x).toNat < S160x31.size a := fun v5483 v5526 k0_hw621 => k0_hw621

def k0_chk622 (v5483 : IVec S16 32) (v5529 : IVec S16 32) : Prop :=
  (∀ a x, ((![v5483, v5529] : Fin 2 → IVec S16 32) a x).toNat < S160x31.size a)
theorem k0_idx622_inb : ∀ (v5483 : IVec S16 32) (v5529 : IVec S16 32) (k0_hw622 : k0_chk622 v5483 v5529), ∀ a x, ((![v5483, v5529] : Fin 2 → IVec S16 32) a x).toNat < S160x31.size a := fun v5483 v5529 k0_hw622 => k0_hw622

def k0_chk623 (v5483 : IVec S16 32) (v5532 : IVec S16 32) : Prop :=
  (∀ a x, ((![v5483, v5532] : Fin 2 → IVec S16 32) a x).toNat < S160x39.size a)
theorem k0_idx623_inb : ∀ (v5483 : IVec S16 32) (v5532 : IVec S16 32) (k0_hw623 : k0_chk623 v5483 v5532), ∀ a x, ((![v5483, v5532] : Fin 2 → IVec S16 32) a x).toNat < S160x39.size a := fun v5483 v5532 k0_hw623 => k0_hw623

def k0_chk624 (v5483 : IVec S16 32) (v5540 : IVec S16 32) : Prop :=
  (∀ a x, ((![v5483, v5540] : Fin 2 → IVec S16 32) a x).toNat < S160x39.size a)
theorem k0_idx624_inb : ∀ (v5483 : IVec S16 32) (v5540 : IVec S16 32) (k0_hw624 : k0_chk624 v5483 v5540), ∀ a x, ((![v5483, v5540] : Fin 2 → IVec S16 32) a x).toNat < S160x39.size a := fun v5483 v5540 k0_hw624 => k0_hw624

def k0_chk625 (v5483 : IVec S16 32) (v5548 : IVec S16 32) : Prop :=
  (∀ a x, ((![v5483, v5548] : Fin 2 → IVec S16 32) a x).toNat < S160x31.size a)
theorem k0_idx625_inb : ∀ (v5483 : IVec S16 32) (v5548 : IVec S16 32) (k0_hw625 : k0_chk625 v5483 v5548), ∀ a x, ((![v5483, v5548] : Fin 2 → IVec S16 32) a x).toNat < S160x31.size a := fun v5483 v5548 k0_hw625 => k0_hw625

def k0_chk626 (v5483 : IVec S16 32) (v5551 : IVec S16 32) : Prop :=
  (∀ a x, ((![v5483, v5551] : Fin 2 → IVec S16 32) a x).toNat < S160x31.size a)
theorem k0_idx626_inb : ∀ (v5483 : IVec S16 32) (v5551 : IVec S16 32) (k0_hw626 : k0_chk626 v5483 v5551), ∀ a x, ((![v5483, v5551] : Fin 2 → IVec S16 32) a x).toNat < S160x31.size a := fun v5483 v5551 k0_hw626 => k0_hw626

def k0_chk627 (v5483 : IVec S16 32) (v5554 : IVec S16 32) : Prop :=
  (∀ a x, ((![v5483, v5554] : Fin 2 → IVec S16 32) a x).toNat < S160x39.size a)
theorem k0_idx627_inb : ∀ (v5483 : IVec S16 32) (v5554 : IVec S16 32) (k0_hw627 : k0_chk627 v5483 v5554), ∀ a x, ((![v5483, v5554] : Fin 2 → IVec S16 32) a x).toNat < S160x39.size a := fun v5483 v5554 k0_hw627 => k0_hw627

def k0_chk628 (v5483 : IVec S16 32) (v5562 : IVec S16 32) : Prop :=
  (∀ a x, ((![v5483, v5562] : Fin 2 → IVec S16 32) a x).toNat < S160x39.size a)
theorem k0_idx628_inb : ∀ (v5483 : IVec S16 32) (v5562 : IVec S16 32) (k0_hw628 : k0_chk628 v5483 v5562), ∀ a x, ((![v5483, v5562] : Fin 2 → IVec S16 32) a x).toNat < S160x39.size a := fun v5483 v5562 k0_hw628 => k0_hw628

def k0_chk629 (v5483 : IVec S16 32) (v5570 : IVec S16 32) : Prop :=
  (∀ a x, ((![v5483, v5570] : Fin 2 → IVec S16 32) a x).toNat < S160x31.size a)
theorem k0_idx629_inb : ∀ (v5483 : IVec S16 32) (v5570 : IVec S16 32) (k0_hw629 : k0_chk629 v5483 v5570), ∀ a x, ((![v5483, v5570] : Fin 2 → IVec S16 32) a x).toNat < S160x31.size a := fun v5483 v5570 k0_hw629 => k0_hw629

def k0_chk630 (v5483 : IVec S16 32) (v5573 : IVec S16 32) : Prop :=
  (∀ a x, ((![v5483, v5573] : Fin 2 → IVec S16 32) a x).toNat < S160x31.size a)
theorem k0_idx630_inb : ∀ (v5483 : IVec S16 32) (v5573 : IVec S16 32) (k0_hw630 : k0_chk630 v5483 v5573), ∀ a x, ((![v5483, v5573] : Fin 2 → IVec S16 32) a x).toNat < S160x31.size a := fun v5483 v5573 k0_hw630 => k0_hw630

def k0_chk631 (v5483 : IVec S16 32) (v5576 : IVec S16 32) : Prop :=
  (∀ a x, ((![v5483, v5576] : Fin 2 → IVec S16 32) a x).toNat < S160x39.size a)
theorem k0_idx631_inb : ∀ (v5483 : IVec S16 32) (v5576 : IVec S16 32) (k0_hw631 : k0_chk631 v5483 v5576), ∀ a x, ((![v5483, v5576] : Fin 2 → IVec S16 32) a x).toNat < S160x39.size a := fun v5483 v5576 k0_hw631 => k0_hw631

def k0_chk632 (v5483 : IVec S16 32) (v5584 : IVec S16 32) : Prop :=
  (∀ a x, ((![v5483, v5584] : Fin 2 → IVec S16 32) a x).toNat < S160x39.size a)
theorem k0_idx632_inb : ∀ (v5483 : IVec S16 32) (v5584 : IVec S16 32) (k0_hw632 : k0_chk632 v5483 v5584), ∀ a x, ((![v5483, v5584] : Fin 2 → IVec S16 32) a x).toNat < S160x39.size a := fun v5483 v5584 k0_hw632 => k0_hw632

def k0_chk633 (v5483 : IVec S16 32) (v5592 : IVec S16 32) : Prop :=
  (∀ a x, ((![v5483, v5592] : Fin 2 → IVec S16 32) a x).toNat < S160x31.size a)
theorem k0_idx633_inb : ∀ (v5483 : IVec S16 32) (v5592 : IVec S16 32) (k0_hw633 : k0_chk633 v5483 v5592), ∀ a x, ((![v5483, v5592] : Fin 2 → IVec S16 32) a x).toNat < S160x31.size a := fun v5483 v5592 k0_hw633 => k0_hw633

def k0_chk634 (v5483 : IVec S16 32) (v5595 : IVec S16 32) : Prop :=
  (∀ a x, ((![v5483, v5595] : Fin 2 → IVec S16 32) a x).toNat < S160x31.size a)
theorem k0_idx634_inb : ∀ (v5483 : IVec S16 32) (v5595 : IVec S16 32) (k0_hw634 : k0_chk634 v5483 v5595), ∀ a x, ((![v5483, v5595] : Fin 2 → IVec S16 32) a x).toNat < S160x31.size a := fun v5483 v5595 k0_hw634 => k0_hw634

def k0_chk635 (v5483 : IVec S16 32) (v5598 : IVec S16 32) : Prop :=
  (∀ a x, ((![v5483, v5598] : Fin 2 → IVec S16 32) a x).toNat < S160x39.size a)
theorem k0_idx635_inb : ∀ (v5483 : IVec S16 32) (v5598 : IVec S16 32) (k0_hw635 : k0_chk635 v5483 v5598), ∀ a x, ((![v5483, v5598] : Fin 2 → IVec S16 32) a x).toNat < S160x39.size a := fun v5483 v5598 k0_hw635 => k0_hw635

def k0_chk636 (v5483 : IVec S16 32) (v5606 : IVec S16 32) : Prop :=
  (∀ a x, ((![v5483, v5606] : Fin 2 → IVec S16 32) a x).toNat < S160x39.size a)
theorem k0_idx636_inb : ∀ (v5483 : IVec S16 32) (v5606 : IVec S16 32) (k0_hw636 : k0_chk636 v5483 v5606), ∀ a x, ((![v5483, v5606] : Fin 2 → IVec S16 32) a x).toNat < S160x39.size a := fun v5483 v5606 k0_hw636 => k0_hw636

def k0_chk637 (v5483 : IVec S16 32) (v5614 : IVec S16 32) : Prop :=
  (∀ a x, ((![v5483, v5614] : Fin 2 → IVec S16 32) a x).toNat < S160x31.size a)
theorem k0_idx637_inb : ∀ (v5483 : IVec S16 32) (v5614 : IVec S16 32) (k0_hw637 : k0_chk637 v5483 v5614), ∀ a x, ((![v5483, v5614] : Fin 2 → IVec S16 32) a x).toNat < S160x31.size a := fun v5483 v5614 k0_hw637 => k0_hw637

def k0_chk638 (v5483 : IVec S16 32) (v5617 : IVec S16 32) : Prop :=
  (∀ a x, ((![v5483, v5617] : Fin 2 → IVec S16 32) a x).toNat < S160x31.size a)
theorem k0_idx638_inb : ∀ (v5483 : IVec S16 32) (v5617 : IVec S16 32) (k0_hw638 : k0_chk638 v5483 v5617), ∀ a x, ((![v5483, v5617] : Fin 2 → IVec S16 32) a x).toNat < S160x31.size a := fun v5483 v5617 k0_hw638 => k0_hw638

def k0_chk639 (v5483 : IVec S16 32) (v5620 : IVec S16 32) : Prop :=
  (∀ a x, ((![v5483, v5620] : Fin 2 → IVec S16 32) a x).toNat < S160x39.size a)
theorem k0_idx639_inb : ∀ (v5483 : IVec S16 32) (v5620 : IVec S16 32) (k0_hw639 : k0_chk639 v5483 v5620), ∀ a x, ((![v5483, v5620] : Fin 2 → IVec S16 32) a x).toNat < S160x39.size a := fun v5483 v5620 k0_hw639 => k0_hw639

def k0_chk640 (v5483 : IVec S16 32) (v5624 : IVec S16 32) : Prop :=
  (∀ a x, ((![v5483, v5624] : Fin 2 → IVec S16 32) a x).toNat < S160x31.size a)
theorem k0_idx640_inb : ∀ (v5483 : IVec S16 32) (v5624 : IVec S16 32) (k0_hw640 : k0_chk640 v5483 v5624), ∀ a x, ((![v5483, v5624] : Fin 2 → IVec S16 32) a x).toNat < S160x31.size a := fun v5483 v5624 k0_hw640 => k0_hw640

def k0_chk641 (v5483 : IVec S16 32) (v5627 : IVec S16 32) : Prop :=
  (∀ a x, ((![v5483, v5627] : Fin 2 → IVec S16 32) a x).toNat < S160x39.size a)
theorem k0_idx641_inb : ∀ (v5483 : IVec S16 32) (v5627 : IVec S16 32) (k0_hw641 : k0_chk641 v5483 v5627), ∀ a x, ((![v5483, v5627] : Fin 2 → IVec S16 32) a x).toNat < S160x39.size a := fun v5483 v5627 k0_hw641 => k0_hw641

def k0_chk642 (v5483 : IVec S16 32) (v5631 : IVec S16 32) : Prop :=
  (∀ a x, ((![v5483, v5631] : Fin 2 → IVec S16 32) a x).toNat < S160x31.size a)
theorem k0_idx642_inb : ∀ (v5483 : IVec S16 32) (v5631 : IVec S16 32) (k0_hw642 : k0_chk642 v5483 v5631), ∀ a x, ((![v5483, v5631] : Fin 2 → IVec S16 32) a x).toNat < S160x31.size a := fun v5483 v5631 k0_hw642 => k0_hw642

def k0_chk643 (v5483 : IVec S16 32) (v5634 : IVec S16 32) : Prop :=
  (∀ a x, ((![v5483, v5634] : Fin 2 → IVec S16 32) a x).toNat < S160x39.size a)
theorem k0_idx643_inb : ∀ (v5483 : IVec S16 32) (v5634 : IVec S16 32) (k0_hw643 : k0_chk643 v5483 v5634), ∀ a x, ((![v5483, v5634] : Fin 2 → IVec S16 32) a x).toNat < S160x39.size a := fun v5483 v5634 k0_hw643 => k0_hw643

def k0_chk644 (v5483 : IVec S16 32) (v5638 : IVec S16 32) : Prop :=
  (∀ a x, ((![v5483, v5638] : Fin 2 → IVec S16 32) a x).toNat < S160x31.size a)
theorem k0_idx644_inb : ∀ (v5483 : IVec S16 32) (v5638 : IVec S16 32) (k0_hw644 : k0_chk644 v5483 v5638), ∀ a x, ((![v5483, v5638] : Fin 2 → IVec S16 32) a x).toNat < S160x31.size a := fun v5483 v5638 k0_hw644 => k0_hw644

def k0_chk645 (v5483 : IVec S16 32) (v5641 : IVec S16 32) : Prop :=
  (∀ a x, ((![v5483, v5641] : Fin 2 → IVec S16 32) a x).toNat < S160x39.size a)
theorem k0_idx645_inb : ∀ (v5483 : IVec S16 32) (v5641 : IVec S16 32) (k0_hw645 : k0_chk645 v5483 v5641), ∀ a x, ((![v5483, v5641] : Fin 2 → IVec S16 32) a x).toNat < S160x39.size a := fun v5483 v5641 k0_hw645 => k0_hw645

def k0_chk646 (v5483 : IVec S16 32) (v5645 : IVec S16 32) : Prop :=
  (∀ a x, ((![v5483, v5645] : Fin 2 → IVec S16 32) a x).toNat < S160x31.size a)
theorem k0_idx646_inb : ∀ (v5483 : IVec S16 32) (v5645 : IVec S16 32) (k0_hw646 : k0_chk646 v5483 v5645), ∀ a x, ((![v5483, v5645] : Fin 2 → IVec S16 32) a x).toNat < S160x31.size a := fun v5483 v5645 k0_hw646 => k0_hw646

def k0_chk647 (v5483 : IVec S16 32) (v5648 : IVec S16 32) : Prop :=
  (∀ a x, ((![v5483, v5648] : Fin 2 → IVec S16 32) a x).toNat < S160x39.size a)
theorem k0_idx647_inb : ∀ (v5483 : IVec S16 32) (v5648 : IVec S16 32) (k0_hw647 : k0_chk647 v5483 v5648), ∀ a x, ((![v5483, v5648] : Fin 2 → IVec S16 32) a x).toNat < S160x39.size a := fun v5483 v5648 k0_hw647 => k0_hw647

def k0_chk648 (v5483 : IVec S16 32) (v5652 : IVec S16 32) : Prop :=
  (∀ a x, ((![v5483, v5652] : Fin 2 → IVec S16 32) a x).toNat < S160x31.size a)
theorem k0_idx648_inb : ∀ (v5483 : IVec S16 32) (v5652 : IVec S16 32) (k0_hw648 : k0_chk648 v5483 v5652), ∀ a x, ((![v5483, v5652] : Fin 2 → IVec S16 32) a x).toNat < S160x31.size a := fun v5483 v5652 k0_hw648 => k0_hw648

def k0_chk649 (v5483 : IVec S16 32) (v5655 : IVec S16 32) : Prop :=
  (∀ a x, ((![v5483, v5655] : Fin 2 → IVec S16 32) a x).toNat < S160x39.size a)
theorem k0_idx649_inb : ∀ (v5483 : IVec S16 32) (v5655 : IVec S16 32) (k0_hw649 : k0_chk649 v5483 v5655), ∀ a x, ((![v5483, v5655] : Fin 2 → IVec S16 32) a x).toNat < S160x39.size a := fun v5483 v5655 k0_hw649 => k0_hw649

def k0_chk650 (v5483 : IVec S16 32) (v5659 : IVec S16 32) : Prop :=
  (∀ a x, ((![v5483, v5659] : Fin 2 → IVec S16 32) a x).toNat < S160x31.size a)
theorem k0_idx650_inb : ∀ (v5483 : IVec S16 32) (v5659 : IVec S16 32) (k0_hw650 : k0_chk650 v5483 v5659), ∀ a x, ((![v5483, v5659] : Fin 2 → IVec S16 32) a x).toNat < S160x31.size a := fun v5483 v5659 k0_hw650 => k0_hw650

def k0_chk651 (v5483 : IVec S16 32) (v5662 : IVec S16 32) : Prop :=
  (∀ a x, ((![v5483, v5662] : Fin 2 → IVec S16 32) a x).toNat < S160x39.size a)
theorem k0_idx651_inb : ∀ (v5483 : IVec S16 32) (v5662 : IVec S16 32) (k0_hw651 : k0_chk651 v5483 v5662), ∀ a x, ((![v5483, v5662] : Fin 2 → IVec S16 32) a x).toNat < S160x39.size a := fun v5483 v5662 k0_hw651 => k0_hw651

def k0_chk652 (v5483 : IVec S16 32) (v5666 : IVec S16 32) : Prop :=
  (∀ a x, ((![v5483, v5666] : Fin 2 → IVec S16 32) a x).toNat < S160x31.size a)
theorem k0_idx652_inb : ∀ (v5483 : IVec S16 32) (v5666 : IVec S16 32) (k0_hw652 : k0_chk652 v5483 v5666), ∀ a x, ((![v5483, v5666] : Fin 2 → IVec S16 32) a x).toNat < S160x31.size a := fun v5483 v5666 k0_hw652 => k0_hw652

def k0_chk653 (v5483 : IVec S16 32) (v5669 : IVec S16 32) : Prop :=
  (∀ a x, ((![v5483, v5669] : Fin 2 → IVec S16 32) a x).toNat < S160x39.size a)
theorem k0_idx653_inb : ∀ (v5483 : IVec S16 32) (v5669 : IVec S16 32) (k0_hw653 : k0_chk653 v5483 v5669), ∀ a x, ((![v5483, v5669] : Fin 2 → IVec S16 32) a x).toNat < S160x39.size a := fun v5483 v5669 k0_hw653 => k0_hw653

def k0_chk654 (v5483 : IVec S16 32) (v5673 : IVec S16 32) : Prop :=
  (∀ a x, ((![v5483, v5673] : Fin 2 → IVec S16 32) a x).toNat < S160x31.size a)
theorem k0_idx654_inb : ∀ (v5483 : IVec S16 32) (v5673 : IVec S16 32) (k0_hw654 : k0_chk654 v5483 v5673), ∀ a x, ((![v5483, v5673] : Fin 2 → IVec S16 32) a x).toNat < S160x31.size a := fun v5483 v5673 k0_hw654 => k0_hw654

def k0_chk655 (v5483 : IVec S16 32) (v5676 : IVec S16 32) : Prop :=
  (∀ a x, ((![v5483, v5676] : Fin 2 → IVec S16 32) a x).toNat < S160x39.size a)
theorem k0_idx655_inb : ∀ (v5483 : IVec S16 32) (v5676 : IVec S16 32) (k0_hw655 : k0_chk655 v5483 v5676), ∀ a x, ((![v5483, v5676] : Fin 2 → IVec S16 32) a x).toNat < S160x39.size a := fun v5483 v5676 k0_hw655 => k0_hw655

def k0_chk656 (v5483 : IVec S16 32) (v5680 : IVec S16 32) : Prop :=
  (∀ a x, ((![v5483, v5680] : Fin 2 → IVec S16 32) a x).toNat < S160x31.size a)
theorem k0_idx656_inb : ∀ (v5483 : IVec S16 32) (v5680 : IVec S16 32) (k0_hw656 : k0_chk656 v5483 v5680), ∀ a x, ((![v5483, v5680] : Fin 2 → IVec S16 32) a x).toNat < S160x31.size a := fun v5483 v5680 k0_hw656 => k0_hw656

def k0_chk657 (v5483 : IVec S16 32) (v5683 : IVec S16 32) : Prop :=
  (∀ a x, ((![v5483, v5683] : Fin 2 → IVec S16 32) a x).toNat < S160x39.size a)
theorem k0_idx657_inb : ∀ (v5483 : IVec S16 32) (v5683 : IVec S16 32) (k0_hw657 : k0_chk657 v5483 v5683), ∀ a x, ((![v5483, v5683] : Fin 2 → IVec S16 32) a x).toNat < S160x39.size a := fun v5483 v5683 k0_hw657 => k0_hw657

def k0_chk658 (v5483 : IVec S16 32) (v5687 : IVec S16 32) : Prop :=
  (∀ a x, ((![v5483, v5687] : Fin 2 → IVec S16 32) a x).toNat < S160x31.size a)
theorem k0_idx658_inb : ∀ (v5483 : IVec S16 32) (v5687 : IVec S16 32) (k0_hw658 : k0_chk658 v5483 v5687), ∀ a x, ((![v5483, v5687] : Fin 2 → IVec S16 32) a x).toNat < S160x31.size a := fun v5483 v5687 k0_hw658 => k0_hw658

def k0_chk659 (v5483 : IVec S16 32) (v5690 : IVec S16 32) : Prop :=
  (∀ a x, ((![v5483, v5690] : Fin 2 → IVec S16 32) a x).toNat < S160x39.size a)
theorem k0_idx659_inb : ∀ (v5483 : IVec S16 32) (v5690 : IVec S16 32) (k0_hw659 : k0_chk659 v5483 v5690), ∀ a x, ((![v5483, v5690] : Fin 2 → IVec S16 32) a x).toNat < S160x39.size a := fun v5483 v5690 k0_hw659 => k0_hw659

def k0_chk660 (v5483 : IVec S16 32) (v5694 : IVec S16 32) : Prop :=
  (∀ a x, ((![v5483, v5694] : Fin 2 → IVec S16 32) a x).toNat < S160x31.size a)
theorem k0_idx660_inb : ∀ (v5483 : IVec S16 32) (v5694 : IVec S16 32) (k0_hw660 : k0_chk660 v5483 v5694), ∀ a x, ((![v5483, v5694] : Fin 2 → IVec S16 32) a x).toNat < S160x31.size a := fun v5483 v5694 k0_hw660 => k0_hw660

def k0_chk661 (v5483 : IVec S16 32) (v5697 : IVec S16 32) : Prop :=
  (∀ a x, ((![v5483, v5697] : Fin 2 → IVec S16 32) a x).toNat < S160x39.size a)
theorem k0_idx661_inb : ∀ (v5483 : IVec S16 32) (v5697 : IVec S16 32) (k0_hw661 : k0_chk661 v5483 v5697), ∀ a x, ((![v5483, v5697] : Fin 2 → IVec S16 32) a x).toNat < S160x39.size a := fun v5483 v5697 k0_hw661 => k0_hw661

def k0_chk662 (v5483 : IVec S16 32) (v5701 : IVec S16 32) : Prop :=
  (∀ a x, ((![v5483, v5701] : Fin 2 → IVec S16 32) a x).toNat < S160x31.size a)
theorem k0_idx662_inb : ∀ (v5483 : IVec S16 32) (v5701 : IVec S16 32) (k0_hw662 : k0_chk662 v5483 v5701), ∀ a x, ((![v5483, v5701] : Fin 2 → IVec S16 32) a x).toNat < S160x31.size a := fun v5483 v5701 k0_hw662 => k0_hw662

def k0_chk663 (v5483 : IVec S16 32) (v5704 : IVec S16 32) : Prop :=
  (∀ a x, ((![v5483, v5704] : Fin 2 → IVec S16 32) a x).toNat < S160x39.size a)
theorem k0_idx663_inb : ∀ (v5483 : IVec S16 32) (v5704 : IVec S16 32) (k0_hw663 : k0_chk663 v5483 v5704), ∀ a x, ((![v5483, v5704] : Fin 2 → IVec S16 32) a x).toNat < S160x39.size a := fun v5483 v5704 k0_hw663 => k0_hw663

def k0_chk664 (v5483 : IVec S16 32) (v5708 : IVec S16 32) : Prop :=
  (∀ a x, ((![v5483, v5708] : Fin 2 → IVec S16 32) a x).toNat < S160x31.size a)
theorem k0_idx664_inb : ∀ (v5483 : IVec S16 32) (v5708 : IVec S16 32) (k0_hw664 : k0_chk664 v5483 v5708), ∀ a x, ((![v5483, v5708] : Fin 2 → IVec S16 32) a x).toNat < S160x31.size a := fun v5483 v5708 k0_hw664 => k0_hw664

def k0_chk665 (v5483 : IVec S16 32) (v5711 : IVec S16 32) : Prop :=
  (∀ a x, ((![v5483, v5711] : Fin 2 → IVec S16 32) a x).toNat < S160x39.size a)
theorem k0_idx665_inb : ∀ (v5483 : IVec S16 32) (v5711 : IVec S16 32) (k0_hw665 : k0_chk665 v5483 v5711), ∀ a x, ((![v5483, v5711] : Fin 2 → IVec S16 32) a x).toNat < S160x39.size a := fun v5483 v5711 k0_hw665 => k0_hw665

def k0_chk666 (v5483 : IVec S16 32) (v5715 : IVec S16 32) : Prop :=
  (∀ a x, ((![v5483, v5715] : Fin 2 → IVec S16 32) a x).toNat < S160x31.size a)
theorem k0_idx666_inb : ∀ (v5483 : IVec S16 32) (v5715 : IVec S16 32) (k0_hw666 : k0_chk666 v5483 v5715), ∀ a x, ((![v5483, v5715] : Fin 2 → IVec S16 32) a x).toNat < S160x31.size a := fun v5483 v5715 k0_hw666 => k0_hw666

def k0_chk667 (v5483 : IVec S16 32) (v5718 : IVec S16 32) : Prop :=
  (∀ a x, ((![v5483, v5718] : Fin 2 → IVec S16 32) a x).toNat < S160x39.size a)
theorem k0_idx667_inb : ∀ (v5483 : IVec S16 32) (v5718 : IVec S16 32) (k0_hw667 : k0_chk667 v5483 v5718), ∀ a x, ((![v5483, v5718] : Fin 2 → IVec S16 32) a x).toNat < S160x39.size a := fun v5483 v5718 k0_hw667 => k0_hw667

def k0_chk668 (v5483 : IVec S16 32) (v5722 : IVec S16 32) : Prop :=
  (∀ a x, ((![v5483, v5722] : Fin 2 → IVec S16 32) a x).toNat < S160x31.size a)
theorem k0_idx668_inb : ∀ (v5483 : IVec S16 32) (v5722 : IVec S16 32) (k0_hw668 : k0_chk668 v5483 v5722), ∀ a x, ((![v5483, v5722] : Fin 2 → IVec S16 32) a x).toNat < S160x31.size a := fun v5483 v5722 k0_hw668 => k0_hw668

def k0_chk669 (v5483 : IVec S16 32) (v5725 : IVec S16 32) : Prop :=
  (∀ a x, ((![v5483, v5725] : Fin 2 → IVec S16 32) a x).toNat < S160x39.size a)
theorem k0_idx669_inb : ∀ (v5483 : IVec S16 32) (v5725 : IVec S16 32) (k0_hw669 : k0_chk669 v5483 v5725), ∀ a x, ((![v5483, v5725] : Fin 2 → IVec S16 32) a x).toNat < S160x39.size a := fun v5483 v5725 k0_hw669 => k0_hw669

def k0_chk670 (v5483 : IVec S16 32) (v5729 : IVec S16 32) : Prop :=
  (∀ a x, ((![v5483, v5729] : Fin 2 → IVec S16 32) a x).toNat < S160x31.size a)
theorem k0_idx670_inb : ∀ (v5483 : IVec S16 32) (v5729 : IVec S16 32) (k0_hw670 : k0_chk670 v5483 v5729), ∀ a x, ((![v5483, v5729] : Fin 2 → IVec S16 32) a x).toNat < S160x31.size a := fun v5483 v5729 k0_hw670 => k0_hw670

def k0_chk671 (v5483 : IVec S16 32) (v5732 : IVec S16 32) : Prop :=
  (∀ a x, ((![v5483, v5732] : Fin 2 → IVec S16 32) a x).toNat < S160x39.size a)
theorem k0_idx671_inb : ∀ (v5483 : IVec S16 32) (v5732 : IVec S16 32) (k0_hw671 : k0_chk671 v5483 v5732), ∀ a x, ((![v5483, v5732] : Fin 2 → IVec S16 32) a x).toNat < S160x39.size a := fun v5483 v5732 k0_hw671 => k0_hw671

def k0_chk672 (v5483 : IVec S16 32) (v5736 : IVec S16 32) : Prop :=
  (∀ a x, ((![v5483, v5736] : Fin 2 → IVec S16 32) a x).toNat < S160x31.size a)
theorem k0_idx672_inb : ∀ (v5483 : IVec S16 32) (v5736 : IVec S16 32) (k0_hw672 : k0_chk672 v5483 v5736), ∀ a x, ((![v5483, v5736] : Fin 2 → IVec S16 32) a x).toNat < S160x31.size a := fun v5483 v5736 k0_hw672 => k0_hw672

def k0_chk673 (v5483 : IVec S16 32) (v5739 : IVec S16 32) : Prop :=
  (∀ a x, ((![v5483, v5739] : Fin 2 → IVec S16 32) a x).toNat < S160x39.size a)
theorem k0_idx673_inb : ∀ (v5483 : IVec S16 32) (v5739 : IVec S16 32) (k0_hw673 : k0_chk673 v5483 v5739), ∀ a x, ((![v5483, v5739] : Fin 2 → IVec S16 32) a x).toNat < S160x39.size a := fun v5483 v5739 k0_hw673 => k0_hw673

def k0_chk674 (v5483 : IVec S16 32) (v5743 : IVec S16 32) : Prop :=
  (∀ a x, ((![v5483, v5743] : Fin 2 → IVec S16 32) a x).toNat < S160x31.size a)
theorem k0_idx674_inb : ∀ (v5483 : IVec S16 32) (v5743 : IVec S16 32) (k0_hw674 : k0_chk674 v5483 v5743), ∀ a x, ((![v5483, v5743] : Fin 2 → IVec S16 32) a x).toNat < S160x31.size a := fun v5483 v5743 k0_hw674 => k0_hw674

def k0_chk675 (v5483 : IVec S16 32) (v5746 : IVec S16 32) : Prop :=
  (∀ a x, ((![v5483, v5746] : Fin 2 → IVec S16 32) a x).toNat < S160x39.size a)
theorem k0_idx675_inb : ∀ (v5483 : IVec S16 32) (v5746 : IVec S16 32) (k0_hw675 : k0_chk675 v5483 v5746), ∀ a x, ((![v5483, v5746] : Fin 2 → IVec S16 32) a x).toNat < S160x39.size a := fun v5483 v5746 k0_hw675 => k0_hw675

def k0_chk676 (v5483 : IVec S16 32) (v5750 : IVec S16 32) : Prop :=
  (∀ a x, ((![v5483, v5750] : Fin 2 → IVec S16 32) a x).toNat < S160x31.size a)
theorem k0_idx676_inb : ∀ (v5483 : IVec S16 32) (v5750 : IVec S16 32) (k0_hw676 : k0_chk676 v5483 v5750), ∀ a x, ((![v5483, v5750] : Fin 2 → IVec S16 32) a x).toNat < S160x31.size a := fun v5483 v5750 k0_hw676 => k0_hw676

def k0_chk677 (v5483 : IVec S16 32) (v5753 : IVec S16 32) : Prop :=
  (∀ a x, ((![v5483, v5753] : Fin 2 → IVec S16 32) a x).toNat < S160x39.size a)
theorem k0_idx677_inb : ∀ (v5483 : IVec S16 32) (v5753 : IVec S16 32) (k0_hw677 : k0_chk677 v5483 v5753), ∀ a x, ((![v5483, v5753] : Fin 2 → IVec S16 32) a x).toNat < S160x39.size a := fun v5483 v5753 k0_hw677 => k0_hw677

def k0_chk678 (v5483 : IVec S16 32) (v5757 : IVec S16 32) : Prop :=
  (∀ a x, ((![v5483, v5757] : Fin 2 → IVec S16 32) a x).toNat < S160x31.size a)
theorem k0_idx678_inb : ∀ (v5483 : IVec S16 32) (v5757 : IVec S16 32) (k0_hw678 : k0_chk678 v5483 v5757), ∀ a x, ((![v5483, v5757] : Fin 2 → IVec S16 32) a x).toNat < S160x31.size a := fun v5483 v5757 k0_hw678 => k0_hw678

def k0_chk679 (v5483 : IVec S16 32) (v5760 : IVec S16 32) : Prop :=
  (∀ a x, ((![v5483, v5760] : Fin 2 → IVec S16 32) a x).toNat < S160x39.size a)
theorem k0_idx679_inb : ∀ (v5483 : IVec S16 32) (v5760 : IVec S16 32) (k0_hw679 : k0_chk679 v5483 v5760), ∀ a x, ((![v5483, v5760] : Fin 2 → IVec S16 32) a x).toNat < S160x39.size a := fun v5483 v5760 k0_hw679 => k0_hw679

def k0_chk680 (v5483 : IVec S16 32) (v5764 : IVec S16 32) : Prop :=
  (∀ a x, ((![v5483, v5764] : Fin 2 → IVec S16 32) a x).toNat < S160x31.size a)
theorem k0_idx680_inb : ∀ (v5483 : IVec S16 32) (v5764 : IVec S16 32) (k0_hw680 : k0_chk680 v5483 v5764), ∀ a x, ((![v5483, v5764] : Fin 2 → IVec S16 32) a x).toNat < S160x31.size a := fun v5483 v5764 k0_hw680 => k0_hw680
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg10 : BitVec 32 := Scf.iv c0_i32_14 c1_i32_15 k0_t1
  let c2_i32_2842 : BitVec 32 := 2#32
  let v2904 : BitVec 32 := Scalar.muli arg10 c2_i32_2842
  let c0_i32_2843 : BitVec 32 := 0#32
  let v2905 : BitVec 32 := Scalar.addi v2904 c0_i32_2843
  let c160_i32_5684 : BitVec 32 := 160#32
  let v5767 : BitVec 32 := Scalar.muli v2905 c160_i32_5684
  let v5768 : BitVec 32 := Scalar.addi v2 v5767
  let c0_i32_5688 : BitVec 32 := 0#32
  ![v5768.toNat, 0]
def k0_cond2 (k0_t1 : Fin k0_t1_loop.trips) : BitVec 1 :=
  let c0_i32_14 : BitVec 32 := 0#32
  let c1_i32_15 : BitVec 32 := 1#32
  let arg10 : BitVec 32 := Scf.iv c0_i32_14 c1_i32_15 k0_t1
  let c2_i32_2842 : BitVec 32 := 2#32
  let v2904 : BitVec 32 := Scalar.muli arg10 c2_i32_2842
  let c0_i32_2843 : BitVec 32 := 0#32
  let v2905 : BitVec 32 := Scalar.addi v2904 c0_i32_2843
  let c2_i32_5692 : BitVec 32 := 2#32
  let v5775 : BitVec 32 := Scalar.addi v2905 c2_i32_5692
  let c125_i32 : BitVec 32 := 125#32
  let v5776 : BitVec 1 := Scalar.cmpi .slt v5775 c125_i32
  let v5777 : BitVec 32 := Scalar.extui v5776
  let c0_i32_5693 : BitVec 32 := 0#32
  let v5778 : BitVec 1 := Scalar.cmpi .ne v5777 c0_i32_5693
  v5778

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg10 : BitVec 32 := Scf.iv c0_i32_14 c1_i32_15 k0_t1
  let c2_i32_2842 : BitVec 32 := 2#32
  let v2904 : BitVec 32 := Scalar.muli arg10 c2_i32_2842
  let c0_i32_2843 : BitVec 32 := 0#32
  let v2905 : BitVec 32 := Scalar.addi v2904 c0_i32_2843
  let c2_i32_8547 : BitVec 32 := 2#32
  let v8654 : BitVec 32 := Scalar.addi v2905 c2_i32_8547
  let c160_i32_8548 : BitVec 32 := 160#32
  let v8655 : BitVec 32 := Scalar.muli v8654 c160_i32_8548
  let v8656 : BitVec 32 := Scalar.addi v2 v8655
  let c0_i32_8552 : BitVec 32 := 0#32
  ![v8656.toNat, 0]
def k0_cond3 (k0_t1 : Fin k0_t1_loop.trips) : BitVec 1 :=
  let c0_i32_14 : BitVec 32 := 0#32
  let c1_i32_15 : BitVec 32 := 1#32
  let arg10 : BitVec 32 := Scf.iv c0_i32_14 c1_i32_15 k0_t1
  let c0_i32_5696 : BitVec 32 := 0#32
  let v5781 : BitVec 1 := Scalar.cmpi .sgt arg10 c0_i32_5696
  let v5782 : BitVec 32 := Scalar.extui v5781
  let c0_i32_5697 : BitVec 32 := 0#32
  let v5783 : BitVec 1 := Scalar.cmpi .ne v5782 c0_i32_5697
  v5783

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg10 : BitVec 32 := Scf.iv c0_i32_14 c1_i32_15 k0_t1
  let c2_i32_5694 : BitVec 32 := 2#32
  let v5779 : BitVec 32 := Scalar.muli arg10 c2_i32_5694
  let c1_i32_5695 : BitVec 32 := 1#32
  let v5780 : BitVec 32 := Scalar.addi v5779 c1_i32_5695
  let c2_i32_8547 : BitVec 32 := 2#32
  let v8654 : BitVec 32 := Scalar.subi v5780 c2_i32_8547
  let c160_i32_8548 : BitVec 32 := 160#32
  let v8655 : BitVec 32 := Scalar.muli v8654 c160_i32_8548
  let v8656 : BitVec 32 := Scalar.addi v2 v8655
  let c0_i32_8552 : BitVec 32 := 0#32
  ![v8656.toNat, 0]
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg10 : BitVec 32 := Scf.iv c0_i32_14 c1_i32_15 k0_t1
  let c2_i32_5694 : BitVec 32 := 2#32
  let v5779 : BitVec 32 := Scalar.muli arg10 c2_i32_5694
  let c1_i32_5695 : BitVec 32 := 1#32
  let v5780 : BitVec 32 := Scalar.addi v5779 c1_i32_5695
  let c160_i32_5698 : BitVec 32 := 160#32
  let v5784 : BitVec 32 := Scalar.muli v5780 c160_i32_5698
  let v5785 : BitVec 32 := Scalar.addi v2 v5784
  let c0_i32_5702 : BitVec 32 := 0#32
  ![v5785.toNat, 0]

def k0_chk681 (v5793 : IVec S16 32) (v5794 : IVec S16 32) : Prop :=
  (∀ a x, ((![v5793, v5794] : Fin 2 → IVec S16 32) a x).toNat < S160x39.size a)
theorem k0_idx681_inb : ∀ (v5793 : IVec S16 32) (v5794 : IVec S16 32) (k0_hw681 : k0_chk681 v5793 v5794), ∀ a x, ((![v5793, v5794] : Fin 2 → IVec S16 32) a x).toNat < S160x39.size a := fun v5793 v5794 k0_hw681 => k0_hw681

def k0_chk682 (v5793 : IVec S16 32) (v5798 : IVec S16 32) : Prop :=
  (∀ a x, ((![v5793, v5798] : Fin 2 → IVec S16 32) a x).toNat < S160x39.size a)
theorem k0_idx682_inb : ∀ (v5793 : IVec S16 32) (v5798 : IVec S16 32) (k0_hw682 : k0_chk682 v5793 v5798), ∀ a x, ((![v5793, v5798] : Fin 2 → IVec S16 32) a x).toNat < S160x39.size a := fun v5793 v5798 k0_hw682 => k0_hw682

def k0_chk683 (v5793 : IVec S16 32) (v5802 : IVec S16 32) : Prop :=
  (∀ a x, ((![v5793, v5802] : Fin 2 → IVec S16 32) a x).toNat < S160x39.size a)
theorem k0_idx683_inb : ∀ (v5793 : IVec S16 32) (v5802 : IVec S16 32) (k0_hw683 : k0_chk683 v5793 v5802), ∀ a x, ((![v5793, v5802] : Fin 2 → IVec S16 32) a x).toNat < S160x39.size a := fun v5793 v5802 k0_hw683 => k0_hw683

def k0_chk684 (v5793 : IVec S16 32) (v5806 : IVec S16 32) : Prop :=
  (∀ a x, ((![v5793, v5806] : Fin 2 → IVec S16 32) a x).toNat < S160x39.size a)
theorem k0_idx684_inb : ∀ (v5793 : IVec S16 32) (v5806 : IVec S16 32) (k0_hw684 : k0_chk684 v5793 v5806), ∀ a x, ((![v5793, v5806] : Fin 2 → IVec S16 32) a x).toNat < S160x39.size a := fun v5793 v5806 k0_hw684 => k0_hw684

def k0_chk685 (v5793 : IVec S16 32) (v5811 : IVec S16 32) : Prop :=
  (∀ a x, ((![v5793, v5811] : Fin 2 → IVec S16 32) a x).toNat < S160x39.size a)
theorem k0_idx685_inb : ∀ (v5793 : IVec S16 32) (v5811 : IVec S16 32) (k0_hw685 : k0_chk685 v5793 v5811), ∀ a x, ((![v5793, v5811] : Fin 2 → IVec S16 32) a x).toNat < S160x39.size a := fun v5793 v5811 k0_hw685 => k0_hw685

def k0_chk686 (v5793 : IVec S16 32) (v5815 : IVec S16 32) : Prop :=
  (∀ a x, ((![v5793, v5815] : Fin 2 → IVec S16 32) a x).toNat < S160x39.size a)
theorem k0_idx686_inb : ∀ (v5793 : IVec S16 32) (v5815 : IVec S16 32) (k0_hw686 : k0_chk686 v5793 v5815), ∀ a x, ((![v5793, v5815] : Fin 2 → IVec S16 32) a x).toNat < S160x39.size a := fun v5793 v5815 k0_hw686 => k0_hw686

def k0_chk687 (v5793 : IVec S16 32) (v5820 : IVec S16 32) : Prop :=
  (∀ a x, ((![v5793, v5820] : Fin 2 → IVec S16 32) a x).toNat < S160x39.size a)
theorem k0_idx687_inb : ∀ (v5793 : IVec S16 32) (v5820 : IVec S16 32) (k0_hw687 : k0_chk687 v5793 v5820), ∀ a x, ((![v5793, v5820] : Fin 2 → IVec S16 32) a x).toNat < S160x39.size a := fun v5793 v5820 k0_hw687 => k0_hw687

def k0_chk688 (v5793 : IVec S16 32) (v5828 : IVec S16 32) : Prop :=
  (∀ a x, ((![v5793, v5828] : Fin 2 → IVec S16 32) a x).toNat < S160x39.size a)
theorem k0_idx688_inb : ∀ (v5793 : IVec S16 32) (v5828 : IVec S16 32) (k0_hw688 : k0_chk688 v5793 v5828), ∀ a x, ((![v5793, v5828] : Fin 2 → IVec S16 32) a x).toNat < S160x39.size a := fun v5793 v5828 k0_hw688 => k0_hw688

def k0_chk689 (v5793 : IVec S16 32) (v5836 : IVec S16 32) : Prop :=
  (∀ a x, ((![v5793, v5836] : Fin 2 → IVec S16 32) a x).toNat < S160x31.size a)
theorem k0_idx689_inb : ∀ (v5793 : IVec S16 32) (v5836 : IVec S16 32) (k0_hw689 : k0_chk689 v5793 v5836), ∀ a x, ((![v5793, v5836] : Fin 2 → IVec S16 32) a x).toNat < S160x31.size a := fun v5793 v5836 k0_hw689 => k0_hw689

def k0_chk690 (v5793 : IVec S16 32) (v5839 : IVec S16 32) : Prop :=
  (∀ a x, ((![v5793, v5839] : Fin 2 → IVec S16 32) a x).toNat < S160x31.size a)
theorem k0_idx690_inb : ∀ (v5793 : IVec S16 32) (v5839 : IVec S16 32) (k0_hw690 : k0_chk690 v5793 v5839), ∀ a x, ((![v5793, v5839] : Fin 2 → IVec S16 32) a x).toNat < S160x31.size a := fun v5793 v5839 k0_hw690 => k0_hw690

def k0_chk691 (v5793 : IVec S16 32) (v5842 : IVec S16 32) : Prop :=
  (∀ a x, ((![v5793, v5842] : Fin 2 → IVec S16 32) a x).toNat < S160x39.size a)
theorem k0_idx691_inb : ∀ (v5793 : IVec S16 32) (v5842 : IVec S16 32) (k0_hw691 : k0_chk691 v5793 v5842), ∀ a x, ((![v5793, v5842] : Fin 2 → IVec S16 32) a x).toNat < S160x39.size a := fun v5793 v5842 k0_hw691 => k0_hw691

def k0_chk692 (v5793 : IVec S16 32) (v5850 : IVec S16 32) : Prop :=
  (∀ a x, ((![v5793, v5850] : Fin 2 → IVec S16 32) a x).toNat < S160x39.size a)
theorem k0_idx692_inb : ∀ (v5793 : IVec S16 32) (v5850 : IVec S16 32) (k0_hw692 : k0_chk692 v5793 v5850), ∀ a x, ((![v5793, v5850] : Fin 2 → IVec S16 32) a x).toNat < S160x39.size a := fun v5793 v5850 k0_hw692 => k0_hw692

def k0_chk693 (v5793 : IVec S16 32) (v5858 : IVec S16 32) : Prop :=
  (∀ a x, ((![v5793, v5858] : Fin 2 → IVec S16 32) a x).toNat < S160x31.size a)
theorem k0_idx693_inb : ∀ (v5793 : IVec S16 32) (v5858 : IVec S16 32) (k0_hw693 : k0_chk693 v5793 v5858), ∀ a x, ((![v5793, v5858] : Fin 2 → IVec S16 32) a x).toNat < S160x31.size a := fun v5793 v5858 k0_hw693 => k0_hw693

def k0_chk694 (v5793 : IVec S16 32) (v5861 : IVec S16 32) : Prop :=
  (∀ a x, ((![v5793, v5861] : Fin 2 → IVec S16 32) a x).toNat < S160x31.size a)
theorem k0_idx694_inb : ∀ (v5793 : IVec S16 32) (v5861 : IVec S16 32) (k0_hw694 : k0_chk694 v5793 v5861), ∀ a x, ((![v5793, v5861] : Fin 2 → IVec S16 32) a x).toNat < S160x31.size a := fun v5793 v5861 k0_hw694 => k0_hw694

def k0_chk695 (v5793 : IVec S16 32) (v5864 : IVec S16 32) : Prop :=
  (∀ a x, ((![v5793, v5864] : Fin 2 → IVec S16 32) a x).toNat < S160x39.size a)
theorem k0_idx695_inb : ∀ (v5793 : IVec S16 32) (v5864 : IVec S16 32) (k0_hw695 : k0_chk695 v5793 v5864), ∀ a x, ((![v5793, v5864] : Fin 2 → IVec S16 32) a x).toNat < S160x39.size a := fun v5793 v5864 k0_hw695 => k0_hw695

def k0_chk696 (v5793 : IVec S16 32) (v5872 : IVec S16 32) : Prop :=
  (∀ a x, ((![v5793, v5872] : Fin 2 → IVec S16 32) a x).toNat < S160x39.size a)
theorem k0_idx696_inb : ∀ (v5793 : IVec S16 32) (v5872 : IVec S16 32) (k0_hw696 : k0_chk696 v5793 v5872), ∀ a x, ((![v5793, v5872] : Fin 2 → IVec S16 32) a x).toNat < S160x39.size a := fun v5793 v5872 k0_hw696 => k0_hw696

def k0_chk697 (v5793 : IVec S16 32) (v5880 : IVec S16 32) : Prop :=
  (∀ a x, ((![v5793, v5880] : Fin 2 → IVec S16 32) a x).toNat < S160x31.size a)
theorem k0_idx697_inb : ∀ (v5793 : IVec S16 32) (v5880 : IVec S16 32) (k0_hw697 : k0_chk697 v5793 v5880), ∀ a x, ((![v5793, v5880] : Fin 2 → IVec S16 32) a x).toNat < S160x31.size a := fun v5793 v5880 k0_hw697 => k0_hw697

def k0_chk698 (v5793 : IVec S16 32) (v5883 : IVec S16 32) : Prop :=
  (∀ a x, ((![v5793, v5883] : Fin 2 → IVec S16 32) a x).toNat < S160x31.size a)
theorem k0_idx698_inb : ∀ (v5793 : IVec S16 32) (v5883 : IVec S16 32) (k0_hw698 : k0_chk698 v5793 v5883), ∀ a x, ((![v5793, v5883] : Fin 2 → IVec S16 32) a x).toNat < S160x31.size a := fun v5793 v5883 k0_hw698 => k0_hw698

def k0_chk699 (v5793 : IVec S16 32) (v5886 : IVec S16 32) : Prop :=
  (∀ a x, ((![v5793, v5886] : Fin 2 → IVec S16 32) a x).toNat < S160x39.size a)
theorem k0_idx699_inb : ∀ (v5793 : IVec S16 32) (v5886 : IVec S16 32) (k0_hw699 : k0_chk699 v5793 v5886), ∀ a x, ((![v5793, v5886] : Fin 2 → IVec S16 32) a x).toNat < S160x39.size a := fun v5793 v5886 k0_hw699 => k0_hw699

def k0_chk700 (v5793 : IVec S16 32) (v5894 : IVec S16 32) : Prop :=
  (∀ a x, ((![v5793, v5894] : Fin 2 → IVec S16 32) a x).toNat < S160x39.size a)
theorem k0_idx700_inb : ∀ (v5793 : IVec S16 32) (v5894 : IVec S16 32) (k0_hw700 : k0_chk700 v5793 v5894), ∀ a x, ((![v5793, v5894] : Fin 2 → IVec S16 32) a x).toNat < S160x39.size a := fun v5793 v5894 k0_hw700 => k0_hw700

def k0_chk701 (v5793 : IVec S16 32) (v5902 : IVec S16 32) : Prop :=
  (∀ a x, ((![v5793, v5902] : Fin 2 → IVec S16 32) a x).toNat < S160x31.size a)
theorem k0_idx701_inb : ∀ (v5793 : IVec S16 32) (v5902 : IVec S16 32) (k0_hw701 : k0_chk701 v5793 v5902), ∀ a x, ((![v5793, v5902] : Fin 2 → IVec S16 32) a x).toNat < S160x31.size a := fun v5793 v5902 k0_hw701 => k0_hw701

def k0_chk702 (v5793 : IVec S16 32) (v5905 : IVec S16 32) : Prop :=
  (∀ a x, ((![v5793, v5905] : Fin 2 → IVec S16 32) a x).toNat < S160x31.size a)
theorem k0_idx702_inb : ∀ (v5793 : IVec S16 32) (v5905 : IVec S16 32) (k0_hw702 : k0_chk702 v5793 v5905), ∀ a x, ((![v5793, v5905] : Fin 2 → IVec S16 32) a x).toNat < S160x31.size a := fun v5793 v5905 k0_hw702 => k0_hw702

def k0_chk703 (v5793 : IVec S16 32) (v5908 : IVec S16 32) : Prop :=
  (∀ a x, ((![v5793, v5908] : Fin 2 → IVec S16 32) a x).toNat < S160x39.size a)
theorem k0_idx703_inb : ∀ (v5793 : IVec S16 32) (v5908 : IVec S16 32) (k0_hw703 : k0_chk703 v5793 v5908), ∀ a x, ((![v5793, v5908] : Fin 2 → IVec S16 32) a x).toNat < S160x39.size a := fun v5793 v5908 k0_hw703 => k0_hw703

def k0_chk704 (v5793 : IVec S16 32) (v5916 : IVec S16 32) : Prop :=
  (∀ a x, ((![v5793, v5916] : Fin 2 → IVec S16 32) a x).toNat < S160x39.size a)
theorem k0_idx704_inb : ∀ (v5793 : IVec S16 32) (v5916 : IVec S16 32) (k0_hw704 : k0_chk704 v5793 v5916), ∀ a x, ((![v5793, v5916] : Fin 2 → IVec S16 32) a x).toNat < S160x39.size a := fun v5793 v5916 k0_hw704 => k0_hw704

def k0_chk705 (v5793 : IVec S16 32) (v5924 : IVec S16 32) : Prop :=
  (∀ a x, ((![v5793, v5924] : Fin 2 → IVec S16 32) a x).toNat < S160x31.size a)
theorem k0_idx705_inb : ∀ (v5793 : IVec S16 32) (v5924 : IVec S16 32) (k0_hw705 : k0_chk705 v5793 v5924), ∀ a x, ((![v5793, v5924] : Fin 2 → IVec S16 32) a x).toNat < S160x31.size a := fun v5793 v5924 k0_hw705 => k0_hw705

def k0_chk706 (v5793 : IVec S16 32) (v5927 : IVec S16 32) : Prop :=
  (∀ a x, ((![v5793, v5927] : Fin 2 → IVec S16 32) a x).toNat < S160x31.size a)
theorem k0_idx706_inb : ∀ (v5793 : IVec S16 32) (v5927 : IVec S16 32) (k0_hw706 : k0_chk706 v5793 v5927), ∀ a x, ((![v5793, v5927] : Fin 2 → IVec S16 32) a x).toNat < S160x31.size a := fun v5793 v5927 k0_hw706 => k0_hw706

def k0_chk707 (v5793 : IVec S16 32) (v5930 : IVec S16 32) : Prop :=
  (∀ a x, ((![v5793, v5930] : Fin 2 → IVec S16 32) a x).toNat < S160x39.size a)
theorem k0_idx707_inb : ∀ (v5793 : IVec S16 32) (v5930 : IVec S16 32) (k0_hw707 : k0_chk707 v5793 v5930), ∀ a x, ((![v5793, v5930] : Fin 2 → IVec S16 32) a x).toNat < S160x39.size a := fun v5793 v5930 k0_hw707 => k0_hw707

def k0_chk708 (v5793 : IVec S16 32) (v5934 : IVec S16 32) : Prop :=
  (∀ a x, ((![v5793, v5934] : Fin 2 → IVec S16 32) a x).toNat < S160x31.size a)
theorem k0_idx708_inb : ∀ (v5793 : IVec S16 32) (v5934 : IVec S16 32) (k0_hw708 : k0_chk708 v5793 v5934), ∀ a x, ((![v5793, v5934] : Fin 2 → IVec S16 32) a x).toNat < S160x31.size a := fun v5793 v5934 k0_hw708 => k0_hw708

def k0_chk709 (v5793 : IVec S16 32) (v5937 : IVec S16 32) : Prop :=
  (∀ a x, ((![v5793, v5937] : Fin 2 → IVec S16 32) a x).toNat < S160x39.size a)
theorem k0_idx709_inb : ∀ (v5793 : IVec S16 32) (v5937 : IVec S16 32) (k0_hw709 : k0_chk709 v5793 v5937), ∀ a x, ((![v5793, v5937] : Fin 2 → IVec S16 32) a x).toNat < S160x39.size a := fun v5793 v5937 k0_hw709 => k0_hw709

def k0_chk710 (v5793 : IVec S16 32) (v5941 : IVec S16 32) : Prop :=
  (∀ a x, ((![v5793, v5941] : Fin 2 → IVec S16 32) a x).toNat < S160x31.size a)
theorem k0_idx710_inb : ∀ (v5793 : IVec S16 32) (v5941 : IVec S16 32) (k0_hw710 : k0_chk710 v5793 v5941), ∀ a x, ((![v5793, v5941] : Fin 2 → IVec S16 32) a x).toNat < S160x31.size a := fun v5793 v5941 k0_hw710 => k0_hw710

def k0_chk711 (v5793 : IVec S16 32) (v5944 : IVec S16 32) : Prop :=
  (∀ a x, ((![v5793, v5944] : Fin 2 → IVec S16 32) a x).toNat < S160x39.size a)
theorem k0_idx711_inb : ∀ (v5793 : IVec S16 32) (v5944 : IVec S16 32) (k0_hw711 : k0_chk711 v5793 v5944), ∀ a x, ((![v5793, v5944] : Fin 2 → IVec S16 32) a x).toNat < S160x39.size a := fun v5793 v5944 k0_hw711 => k0_hw711

def k0_chk712 (v5793 : IVec S16 32) (v5948 : IVec S16 32) : Prop :=
  (∀ a x, ((![v5793, v5948] : Fin 2 → IVec S16 32) a x).toNat < S160x31.size a)
theorem k0_idx712_inb : ∀ (v5793 : IVec S16 32) (v5948 : IVec S16 32) (k0_hw712 : k0_chk712 v5793 v5948), ∀ a x, ((![v5793, v5948] : Fin 2 → IVec S16 32) a x).toNat < S160x31.size a := fun v5793 v5948 k0_hw712 => k0_hw712

def k0_chk713 (v5793 : IVec S16 32) (v5951 : IVec S16 32) : Prop :=
  (∀ a x, ((![v5793, v5951] : Fin 2 → IVec S16 32) a x).toNat < S160x39.size a)
theorem k0_idx713_inb : ∀ (v5793 : IVec S16 32) (v5951 : IVec S16 32) (k0_hw713 : k0_chk713 v5793 v5951), ∀ a x, ((![v5793, v5951] : Fin 2 → IVec S16 32) a x).toNat < S160x39.size a := fun v5793 v5951 k0_hw713 => k0_hw713

def k0_chk714 (v5793 : IVec S16 32) (v5955 : IVec S16 32) : Prop :=
  (∀ a x, ((![v5793, v5955] : Fin 2 → IVec S16 32) a x).toNat < S160x31.size a)
theorem k0_idx714_inb : ∀ (v5793 : IVec S16 32) (v5955 : IVec S16 32) (k0_hw714 : k0_chk714 v5793 v5955), ∀ a x, ((![v5793, v5955] : Fin 2 → IVec S16 32) a x).toNat < S160x31.size a := fun v5793 v5955 k0_hw714 => k0_hw714

def k0_chk715 (v5793 : IVec S16 32) (v5958 : IVec S16 32) : Prop :=
  (∀ a x, ((![v5793, v5958] : Fin 2 → IVec S16 32) a x).toNat < S160x39.size a)
theorem k0_idx715_inb : ∀ (v5793 : IVec S16 32) (v5958 : IVec S16 32) (k0_hw715 : k0_chk715 v5793 v5958), ∀ a x, ((![v5793, v5958] : Fin 2 → IVec S16 32) a x).toNat < S160x39.size a := fun v5793 v5958 k0_hw715 => k0_hw715

def k0_chk716 (v5793 : IVec S16 32) (v5962 : IVec S16 32) : Prop :=
  (∀ a x, ((![v5793, v5962] : Fin 2 → IVec S16 32) a x).toNat < S160x31.size a)
theorem k0_idx716_inb : ∀ (v5793 : IVec S16 32) (v5962 : IVec S16 32) (k0_hw716 : k0_chk716 v5793 v5962), ∀ a x, ((![v5793, v5962] : Fin 2 → IVec S16 32) a x).toNat < S160x31.size a := fun v5793 v5962 k0_hw716 => k0_hw716

def k0_chk717 (v5793 : IVec S16 32) (v5965 : IVec S16 32) : Prop :=
  (∀ a x, ((![v5793, v5965] : Fin 2 → IVec S16 32) a x).toNat < S160x39.size a)
theorem k0_idx717_inb : ∀ (v5793 : IVec S16 32) (v5965 : IVec S16 32) (k0_hw717 : k0_chk717 v5793 v5965), ∀ a x, ((![v5793, v5965] : Fin 2 → IVec S16 32) a x).toNat < S160x39.size a := fun v5793 v5965 k0_hw717 => k0_hw717

def k0_chk718 (v5793 : IVec S16 32) (v5969 : IVec S16 32) : Prop :=
  (∀ a x, ((![v5793, v5969] : Fin 2 → IVec S16 32) a x).toNat < S160x31.size a)
theorem k0_idx718_inb : ∀ (v5793 : IVec S16 32) (v5969 : IVec S16 32) (k0_hw718 : k0_chk718 v5793 v5969), ∀ a x, ((![v5793, v5969] : Fin 2 → IVec S16 32) a x).toNat < S160x31.size a := fun v5793 v5969 k0_hw718 => k0_hw718

def k0_chk719 (v5793 : IVec S16 32) (v5972 : IVec S16 32) : Prop :=
  (∀ a x, ((![v5793, v5972] : Fin 2 → IVec S16 32) a x).toNat < S160x39.size a)
theorem k0_idx719_inb : ∀ (v5793 : IVec S16 32) (v5972 : IVec S16 32) (k0_hw719 : k0_chk719 v5793 v5972), ∀ a x, ((![v5793, v5972] : Fin 2 → IVec S16 32) a x).toNat < S160x39.size a := fun v5793 v5972 k0_hw719 => k0_hw719

def k0_chk720 (v5793 : IVec S16 32) (v5976 : IVec S16 32) : Prop :=
  (∀ a x, ((![v5793, v5976] : Fin 2 → IVec S16 32) a x).toNat < S160x31.size a)
theorem k0_idx720_inb : ∀ (v5793 : IVec S16 32) (v5976 : IVec S16 32) (k0_hw720 : k0_chk720 v5793 v5976), ∀ a x, ((![v5793, v5976] : Fin 2 → IVec S16 32) a x).toNat < S160x31.size a := fun v5793 v5976 k0_hw720 => k0_hw720

def k0_chk721 (v5793 : IVec S16 32) (v5979 : IVec S16 32) : Prop :=
  (∀ a x, ((![v5793, v5979] : Fin 2 → IVec S16 32) a x).toNat < S160x39.size a)
theorem k0_idx721_inb : ∀ (v5793 : IVec S16 32) (v5979 : IVec S16 32) (k0_hw721 : k0_chk721 v5793 v5979), ∀ a x, ((![v5793, v5979] : Fin 2 → IVec S16 32) a x).toNat < S160x39.size a := fun v5793 v5979 k0_hw721 => k0_hw721

def k0_chk722 (v5793 : IVec S16 32) (v5983 : IVec S16 32) : Prop :=
  (∀ a x, ((![v5793, v5983] : Fin 2 → IVec S16 32) a x).toNat < S160x31.size a)
theorem k0_idx722_inb : ∀ (v5793 : IVec S16 32) (v5983 : IVec S16 32) (k0_hw722 : k0_chk722 v5793 v5983), ∀ a x, ((![v5793, v5983] : Fin 2 → IVec S16 32) a x).toNat < S160x31.size a := fun v5793 v5983 k0_hw722 => k0_hw722

def k0_chk723 (v5793 : IVec S16 32) (v5986 : IVec S16 32) : Prop :=
  (∀ a x, ((![v5793, v5986] : Fin 2 → IVec S16 32) a x).toNat < S160x39.size a)
theorem k0_idx723_inb : ∀ (v5793 : IVec S16 32) (v5986 : IVec S16 32) (k0_hw723 : k0_chk723 v5793 v5986), ∀ a x, ((![v5793, v5986] : Fin 2 → IVec S16 32) a x).toNat < S160x39.size a := fun v5793 v5986 k0_hw723 => k0_hw723

def k0_chk724 (v5793 : IVec S16 32) (v5990 : IVec S16 32) : Prop :=
  (∀ a x, ((![v5793, v5990] : Fin 2 → IVec S16 32) a x).toNat < S160x31.size a)
theorem k0_idx724_inb : ∀ (v5793 : IVec S16 32) (v5990 : IVec S16 32) (k0_hw724 : k0_chk724 v5793 v5990), ∀ a x, ((![v5793, v5990] : Fin 2 → IVec S16 32) a x).toNat < S160x31.size a := fun v5793 v5990 k0_hw724 => k0_hw724

def k0_chk725 (v5793 : IVec S16 32) (v5993 : IVec S16 32) : Prop :=
  (∀ a x, ((![v5793, v5993] : Fin 2 → IVec S16 32) a x).toNat < S160x39.size a)
theorem k0_idx725_inb : ∀ (v5793 : IVec S16 32) (v5993 : IVec S16 32) (k0_hw725 : k0_chk725 v5793 v5993), ∀ a x, ((![v5793, v5993] : Fin 2 → IVec S16 32) a x).toNat < S160x39.size a := fun v5793 v5993 k0_hw725 => k0_hw725

def k0_chk726 (v5793 : IVec S16 32) (v5997 : IVec S16 32) : Prop :=
  (∀ a x, ((![v5793, v5997] : Fin 2 → IVec S16 32) a x).toNat < S160x31.size a)
theorem k0_idx726_inb : ∀ (v5793 : IVec S16 32) (v5997 : IVec S16 32) (k0_hw726 : k0_chk726 v5793 v5997), ∀ a x, ((![v5793, v5997] : Fin 2 → IVec S16 32) a x).toNat < S160x31.size a := fun v5793 v5997 k0_hw726 => k0_hw726

def k0_chk727 (v5793 : IVec S16 32) (v6000 : IVec S16 32) : Prop :=
  (∀ a x, ((![v5793, v6000] : Fin 2 → IVec S16 32) a x).toNat < S160x39.size a)
theorem k0_idx727_inb : ∀ (v5793 : IVec S16 32) (v6000 : IVec S16 32) (k0_hw727 : k0_chk727 v5793 v6000), ∀ a x, ((![v5793, v6000] : Fin 2 → IVec S16 32) a x).toNat < S160x39.size a := fun v5793 v6000 k0_hw727 => k0_hw727

def k0_chk728 (v5793 : IVec S16 32) (v6004 : IVec S16 32) : Prop :=
  (∀ a x, ((![v5793, v6004] : Fin 2 → IVec S16 32) a x).toNat < S160x31.size a)
theorem k0_idx728_inb : ∀ (v5793 : IVec S16 32) (v6004 : IVec S16 32) (k0_hw728 : k0_chk728 v5793 v6004), ∀ a x, ((![v5793, v6004] : Fin 2 → IVec S16 32) a x).toNat < S160x31.size a := fun v5793 v6004 k0_hw728 => k0_hw728

def k0_chk729 (v5793 : IVec S16 32) (v6007 : IVec S16 32) : Prop :=
  (∀ a x, ((![v5793, v6007] : Fin 2 → IVec S16 32) a x).toNat < S160x39.size a)
theorem k0_idx729_inb : ∀ (v5793 : IVec S16 32) (v6007 : IVec S16 32) (k0_hw729 : k0_chk729 v5793 v6007), ∀ a x, ((![v5793, v6007] : Fin 2 → IVec S16 32) a x).toNat < S160x39.size a := fun v5793 v6007 k0_hw729 => k0_hw729

def k0_chk730 (v5793 : IVec S16 32) (v6011 : IVec S16 32) : Prop :=
  (∀ a x, ((![v5793, v6011] : Fin 2 → IVec S16 32) a x).toNat < S160x31.size a)
theorem k0_idx730_inb : ∀ (v5793 : IVec S16 32) (v6011 : IVec S16 32) (k0_hw730 : k0_chk730 v5793 v6011), ∀ a x, ((![v5793, v6011] : Fin 2 → IVec S16 32) a x).toNat < S160x31.size a := fun v5793 v6011 k0_hw730 => k0_hw730

def k0_chk731 (v5793 : IVec S16 32) (v6014 : IVec S16 32) : Prop :=
  (∀ a x, ((![v5793, v6014] : Fin 2 → IVec S16 32) a x).toNat < S160x39.size a)
theorem k0_idx731_inb : ∀ (v5793 : IVec S16 32) (v6014 : IVec S16 32) (k0_hw731 : k0_chk731 v5793 v6014), ∀ a x, ((![v5793, v6014] : Fin 2 → IVec S16 32) a x).toNat < S160x39.size a := fun v5793 v6014 k0_hw731 => k0_hw731

def k0_chk732 (v5793 : IVec S16 32) (v6018 : IVec S16 32) : Prop :=
  (∀ a x, ((![v5793, v6018] : Fin 2 → IVec S16 32) a x).toNat < S160x31.size a)
theorem k0_idx732_inb : ∀ (v5793 : IVec S16 32) (v6018 : IVec S16 32) (k0_hw732 : k0_chk732 v5793 v6018), ∀ a x, ((![v5793, v6018] : Fin 2 → IVec S16 32) a x).toNat < S160x31.size a := fun v5793 v6018 k0_hw732 => k0_hw732

def k0_chk733 (v5793 : IVec S16 32) (v6021 : IVec S16 32) : Prop :=
  (∀ a x, ((![v5793, v6021] : Fin 2 → IVec S16 32) a x).toNat < S160x39.size a)
theorem k0_idx733_inb : ∀ (v5793 : IVec S16 32) (v6021 : IVec S16 32) (k0_hw733 : k0_chk733 v5793 v6021), ∀ a x, ((![v5793, v6021] : Fin 2 → IVec S16 32) a x).toNat < S160x39.size a := fun v5793 v6021 k0_hw733 => k0_hw733

def k0_chk734 (v5793 : IVec S16 32) (v6025 : IVec S16 32) : Prop :=
  (∀ a x, ((![v5793, v6025] : Fin 2 → IVec S16 32) a x).toNat < S160x31.size a)
theorem k0_idx734_inb : ∀ (v5793 : IVec S16 32) (v6025 : IVec S16 32) (k0_hw734 : k0_chk734 v5793 v6025), ∀ a x, ((![v5793, v6025] : Fin 2 → IVec S16 32) a x).toNat < S160x31.size a := fun v5793 v6025 k0_hw734 => k0_hw734

def k0_chk735 (v5793 : IVec S16 32) (v6028 : IVec S16 32) : Prop :=
  (∀ a x, ((![v5793, v6028] : Fin 2 → IVec S16 32) a x).toNat < S160x39.size a)
theorem k0_idx735_inb : ∀ (v5793 : IVec S16 32) (v6028 : IVec S16 32) (k0_hw735 : k0_chk735 v5793 v6028), ∀ a x, ((![v5793, v6028] : Fin 2 → IVec S16 32) a x).toNat < S160x39.size a := fun v5793 v6028 k0_hw735 => k0_hw735

def k0_chk736 (v5793 : IVec S16 32) (v6032 : IVec S16 32) : Prop :=
  (∀ a x, ((![v5793, v6032] : Fin 2 → IVec S16 32) a x).toNat < S160x31.size a)
theorem k0_idx736_inb : ∀ (v5793 : IVec S16 32) (v6032 : IVec S16 32) (k0_hw736 : k0_chk736 v5793 v6032), ∀ a x, ((![v5793, v6032] : Fin 2 → IVec S16 32) a x).toNat < S160x31.size a := fun v5793 v6032 k0_hw736 => k0_hw736

def k0_chk737 (v5793 : IVec S16 32) (v6035 : IVec S16 32) : Prop :=
  (∀ a x, ((![v5793, v6035] : Fin 2 → IVec S16 32) a x).toNat < S160x39.size a)
theorem k0_idx737_inb : ∀ (v5793 : IVec S16 32) (v6035 : IVec S16 32) (k0_hw737 : k0_chk737 v5793 v6035), ∀ a x, ((![v5793, v6035] : Fin 2 → IVec S16 32) a x).toNat < S160x39.size a := fun v5793 v6035 k0_hw737 => k0_hw737

def k0_chk738 (v5793 : IVec S16 32) (v6039 : IVec S16 32) : Prop :=
  (∀ a x, ((![v5793, v6039] : Fin 2 → IVec S16 32) a x).toNat < S160x31.size a)
theorem k0_idx738_inb : ∀ (v5793 : IVec S16 32) (v6039 : IVec S16 32) (k0_hw738 : k0_chk738 v5793 v6039), ∀ a x, ((![v5793, v6039] : Fin 2 → IVec S16 32) a x).toNat < S160x31.size a := fun v5793 v6039 k0_hw738 => k0_hw738

def k0_chk739 (v5793 : IVec S16 32) (v6042 : IVec S16 32) : Prop :=
  (∀ a x, ((![v5793, v6042] : Fin 2 → IVec S16 32) a x).toNat < S160x39.size a)
theorem k0_idx739_inb : ∀ (v5793 : IVec S16 32) (v6042 : IVec S16 32) (k0_hw739 : k0_chk739 v5793 v6042), ∀ a x, ((![v5793, v6042] : Fin 2 → IVec S16 32) a x).toNat < S160x39.size a := fun v5793 v6042 k0_hw739 => k0_hw739

def k0_chk740 (v5793 : IVec S16 32) (v6046 : IVec S16 32) : Prop :=
  (∀ a x, ((![v5793, v6046] : Fin 2 → IVec S16 32) a x).toNat < S160x31.size a)
theorem k0_idx740_inb : ∀ (v5793 : IVec S16 32) (v6046 : IVec S16 32) (k0_hw740 : k0_chk740 v5793 v6046), ∀ a x, ((![v5793, v6046] : Fin 2 → IVec S16 32) a x).toNat < S160x31.size a := fun v5793 v6046 k0_hw740 => k0_hw740

def k0_chk741 (v5793 : IVec S16 32) (v6049 : IVec S16 32) : Prop :=
  (∀ a x, ((![v5793, v6049] : Fin 2 → IVec S16 32) a x).toNat < S160x39.size a)
theorem k0_idx741_inb : ∀ (v5793 : IVec S16 32) (v6049 : IVec S16 32) (k0_hw741 : k0_chk741 v5793 v6049), ∀ a x, ((![v5793, v6049] : Fin 2 → IVec S16 32) a x).toNat < S160x39.size a := fun v5793 v6049 k0_hw741 => k0_hw741

def k0_chk742 (v5793 : IVec S16 32) (v6053 : IVec S16 32) : Prop :=
  (∀ a x, ((![v5793, v6053] : Fin 2 → IVec S16 32) a x).toNat < S160x31.size a)
theorem k0_idx742_inb : ∀ (v5793 : IVec S16 32) (v6053 : IVec S16 32) (k0_hw742 : k0_chk742 v5793 v6053), ∀ a x, ((![v5793, v6053] : Fin 2 → IVec S16 32) a x).toNat < S160x31.size a := fun v5793 v6053 k0_hw742 => k0_hw742

def k0_chk743 (v5793 : IVec S16 32) (v6056 : IVec S16 32) : Prop :=
  (∀ a x, ((![v5793, v6056] : Fin 2 → IVec S16 32) a x).toNat < S160x39.size a)
theorem k0_idx743_inb : ∀ (v5793 : IVec S16 32) (v6056 : IVec S16 32) (k0_hw743 : k0_chk743 v5793 v6056), ∀ a x, ((![v5793, v6056] : Fin 2 → IVec S16 32) a x).toNat < S160x39.size a := fun v5793 v6056 k0_hw743 => k0_hw743

def k0_chk744 (v5793 : IVec S16 32) (v6060 : IVec S16 32) : Prop :=
  (∀ a x, ((![v5793, v6060] : Fin 2 → IVec S16 32) a x).toNat < S160x31.size a)
theorem k0_idx744_inb : ∀ (v5793 : IVec S16 32) (v6060 : IVec S16 32) (k0_hw744 : k0_chk744 v5793 v6060), ∀ a x, ((![v5793, v6060] : Fin 2 → IVec S16 32) a x).toNat < S160x31.size a := fun v5793 v6060 k0_hw744 => k0_hw744

def k0_chk745 (v5793 : IVec S16 32) (v6063 : IVec S16 32) : Prop :=
  (∀ a x, ((![v5793, v6063] : Fin 2 → IVec S16 32) a x).toNat < S160x39.size a)
theorem k0_idx745_inb : ∀ (v5793 : IVec S16 32) (v6063 : IVec S16 32) (k0_hw745 : k0_chk745 v5793 v6063), ∀ a x, ((![v5793, v6063] : Fin 2 → IVec S16 32) a x).toNat < S160x39.size a := fun v5793 v6063 k0_hw745 => k0_hw745

def k0_chk746 (v5793 : IVec S16 32) (v6067 : IVec S16 32) : Prop :=
  (∀ a x, ((![v5793, v6067] : Fin 2 → IVec S16 32) a x).toNat < S160x31.size a)
theorem k0_idx746_inb : ∀ (v5793 : IVec S16 32) (v6067 : IVec S16 32) (k0_hw746 : k0_chk746 v5793 v6067), ∀ a x, ((![v5793, v6067] : Fin 2 → IVec S16 32) a x).toNat < S160x31.size a := fun v5793 v6067 k0_hw746 => k0_hw746

def k0_chk747 (v5793 : IVec S16 32) (v6070 : IVec S16 32) : Prop :=
  (∀ a x, ((![v5793, v6070] : Fin 2 → IVec S16 32) a x).toNat < S160x39.size a)
theorem k0_idx747_inb : ∀ (v5793 : IVec S16 32) (v6070 : IVec S16 32) (k0_hw747 : k0_chk747 v5793 v6070), ∀ a x, ((![v5793, v6070] : Fin 2 → IVec S16 32) a x).toNat < S160x39.size a := fun v5793 v6070 k0_hw747 => k0_hw747

def k0_chk748 (v5793 : IVec S16 32) (v6074 : IVec S16 32) : Prop :=
  (∀ a x, ((![v5793, v6074] : Fin 2 → IVec S16 32) a x).toNat < S160x31.size a)
theorem k0_idx748_inb : ∀ (v5793 : IVec S16 32) (v6074 : IVec S16 32) (k0_hw748 : k0_chk748 v5793 v6074), ∀ a x, ((![v5793, v6074] : Fin 2 → IVec S16 32) a x).toNat < S160x31.size a := fun v5793 v6074 k0_hw748 => k0_hw748

def k0_chk749 (v6078 : IVec S16 32) (v6079 : IVec S16 32) : Prop :=
  (∀ a x, ((![v6078, v6079] : Fin 2 → IVec S16 32) a x).toNat < S160x39.size a)
theorem k0_idx749_inb : ∀ (v6078 : IVec S16 32) (v6079 : IVec S16 32) (k0_hw749 : k0_chk749 v6078 v6079), ∀ a x, ((![v6078, v6079] : Fin 2 → IVec S16 32) a x).toNat < S160x39.size a := fun v6078 v6079 k0_hw749 => k0_hw749

def k0_chk750 (v6078 : IVec S16 32) (v6083 : IVec S16 32) : Prop :=
  (∀ a x, ((![v6078, v6083] : Fin 2 → IVec S16 32) a x).toNat < S160x39.size a)
theorem k0_idx750_inb : ∀ (v6078 : IVec S16 32) (v6083 : IVec S16 32) (k0_hw750 : k0_chk750 v6078 v6083), ∀ a x, ((![v6078, v6083] : Fin 2 → IVec S16 32) a x).toNat < S160x39.size a := fun v6078 v6083 k0_hw750 => k0_hw750

def k0_chk751 (v6078 : IVec S16 32) (v6087 : IVec S16 32) : Prop :=
  (∀ a x, ((![v6078, v6087] : Fin 2 → IVec S16 32) a x).toNat < S160x39.size a)
theorem k0_idx751_inb : ∀ (v6078 : IVec S16 32) (v6087 : IVec S16 32) (k0_hw751 : k0_chk751 v6078 v6087), ∀ a x, ((![v6078, v6087] : Fin 2 → IVec S16 32) a x).toNat < S160x39.size a := fun v6078 v6087 k0_hw751 => k0_hw751

def k0_chk752 (v6078 : IVec S16 32) (v6091 : IVec S16 32) : Prop :=
  (∀ a x, ((![v6078, v6091] : Fin 2 → IVec S16 32) a x).toNat < S160x39.size a)
theorem k0_idx752_inb : ∀ (v6078 : IVec S16 32) (v6091 : IVec S16 32) (k0_hw752 : k0_chk752 v6078 v6091), ∀ a x, ((![v6078, v6091] : Fin 2 → IVec S16 32) a x).toNat < S160x39.size a := fun v6078 v6091 k0_hw752 => k0_hw752

def k0_chk753 (v6078 : IVec S16 32) (v6096 : IVec S16 32) : Prop :=
  (∀ a x, ((![v6078, v6096] : Fin 2 → IVec S16 32) a x).toNat < S160x39.size a)
theorem k0_idx753_inb : ∀ (v6078 : IVec S16 32) (v6096 : IVec S16 32) (k0_hw753 : k0_chk753 v6078 v6096), ∀ a x, ((![v6078, v6096] : Fin 2 → IVec S16 32) a x).toNat < S160x39.size a := fun v6078 v6096 k0_hw753 => k0_hw753

def k0_chk754 (v6078 : IVec S16 32) (v6100 : IVec S16 32) : Prop :=
  (∀ a x, ((![v6078, v6100] : Fin 2 → IVec S16 32) a x).toNat < S160x39.size a)
theorem k0_idx754_inb : ∀ (v6078 : IVec S16 32) (v6100 : IVec S16 32) (k0_hw754 : k0_chk754 v6078 v6100), ∀ a x, ((![v6078, v6100] : Fin 2 → IVec S16 32) a x).toNat < S160x39.size a := fun v6078 v6100 k0_hw754 => k0_hw754

def k0_chk755 (v6078 : IVec S16 32) (v6105 : IVec S16 32) : Prop :=
  (∀ a x, ((![v6078, v6105] : Fin 2 → IVec S16 32) a x).toNat < S160x39.size a)
theorem k0_idx755_inb : ∀ (v6078 : IVec S16 32) (v6105 : IVec S16 32) (k0_hw755 : k0_chk755 v6078 v6105), ∀ a x, ((![v6078, v6105] : Fin 2 → IVec S16 32) a x).toNat < S160x39.size a := fun v6078 v6105 k0_hw755 => k0_hw755

def k0_chk756 (v6078 : IVec S16 32) (v6113 : IVec S16 32) : Prop :=
  (∀ a x, ((![v6078, v6113] : Fin 2 → IVec S16 32) a x).toNat < S160x39.size a)
theorem k0_idx756_inb : ∀ (v6078 : IVec S16 32) (v6113 : IVec S16 32) (k0_hw756 : k0_chk756 v6078 v6113), ∀ a x, ((![v6078, v6113] : Fin 2 → IVec S16 32) a x).toNat < S160x39.size a := fun v6078 v6113 k0_hw756 => k0_hw756

def k0_chk757 (v6078 : IVec S16 32) (v6121 : IVec S16 32) : Prop :=
  (∀ a x, ((![v6078, v6121] : Fin 2 → IVec S16 32) a x).toNat < S160x31.size a)
theorem k0_idx757_inb : ∀ (v6078 : IVec S16 32) (v6121 : IVec S16 32) (k0_hw757 : k0_chk757 v6078 v6121), ∀ a x, ((![v6078, v6121] : Fin 2 → IVec S16 32) a x).toNat < S160x31.size a := fun v6078 v6121 k0_hw757 => k0_hw757

def k0_chk758 (v6078 : IVec S16 32) (v6124 : IVec S16 32) : Prop :=
  (∀ a x, ((![v6078, v6124] : Fin 2 → IVec S16 32) a x).toNat < S160x31.size a)
theorem k0_idx758_inb : ∀ (v6078 : IVec S16 32) (v6124 : IVec S16 32) (k0_hw758 : k0_chk758 v6078 v6124), ∀ a x, ((![v6078, v6124] : Fin 2 → IVec S16 32) a x).toNat < S160x31.size a := fun v6078 v6124 k0_hw758 => k0_hw758

def k0_chk759 (v6078 : IVec S16 32) (v6127 : IVec S16 32) : Prop :=
  (∀ a x, ((![v6078, v6127] : Fin 2 → IVec S16 32) a x).toNat < S160x39.size a)
theorem k0_idx759_inb : ∀ (v6078 : IVec S16 32) (v6127 : IVec S16 32) (k0_hw759 : k0_chk759 v6078 v6127), ∀ a x, ((![v6078, v6127] : Fin 2 → IVec S16 32) a x).toNat < S160x39.size a := fun v6078 v6127 k0_hw759 => k0_hw759

def k0_chk760 (v6078 : IVec S16 32) (v6135 : IVec S16 32) : Prop :=
  (∀ a x, ((![v6078, v6135] : Fin 2 → IVec S16 32) a x).toNat < S160x39.size a)
theorem k0_idx760_inb : ∀ (v6078 : IVec S16 32) (v6135 : IVec S16 32) (k0_hw760 : k0_chk760 v6078 v6135), ∀ a x, ((![v6078, v6135] : Fin 2 → IVec S16 32) a x).toNat < S160x39.size a := fun v6078 v6135 k0_hw760 => k0_hw760

def k0_chk761 (v6078 : IVec S16 32) (v6143 : IVec S16 32) : Prop :=
  (∀ a x, ((![v6078, v6143] : Fin 2 → IVec S16 32) a x).toNat < S160x31.size a)
theorem k0_idx761_inb : ∀ (v6078 : IVec S16 32) (v6143 : IVec S16 32) (k0_hw761 : k0_chk761 v6078 v6143), ∀ a x, ((![v6078, v6143] : Fin 2 → IVec S16 32) a x).toNat < S160x31.size a := fun v6078 v6143 k0_hw761 => k0_hw761

def k0_chk762 (v6078 : IVec S16 32) (v6146 : IVec S16 32) : Prop :=
  (∀ a x, ((![v6078, v6146] : Fin 2 → IVec S16 32) a x).toNat < S160x31.size a)
theorem k0_idx762_inb : ∀ (v6078 : IVec S16 32) (v6146 : IVec S16 32) (k0_hw762 : k0_chk762 v6078 v6146), ∀ a x, ((![v6078, v6146] : Fin 2 → IVec S16 32) a x).toNat < S160x31.size a := fun v6078 v6146 k0_hw762 => k0_hw762

def k0_chk763 (v6078 : IVec S16 32) (v6149 : IVec S16 32) : Prop :=
  (∀ a x, ((![v6078, v6149] : Fin 2 → IVec S16 32) a x).toNat < S160x39.size a)
theorem k0_idx763_inb : ∀ (v6078 : IVec S16 32) (v6149 : IVec S16 32) (k0_hw763 : k0_chk763 v6078 v6149), ∀ a x, ((![v6078, v6149] : Fin 2 → IVec S16 32) a x).toNat < S160x39.size a := fun v6078 v6149 k0_hw763 => k0_hw763

def k0_chk764 (v6078 : IVec S16 32) (v6157 : IVec S16 32) : Prop :=
  (∀ a x, ((![v6078, v6157] : Fin 2 → IVec S16 32) a x).toNat < S160x39.size a)
theorem k0_idx764_inb : ∀ (v6078 : IVec S16 32) (v6157 : IVec S16 32) (k0_hw764 : k0_chk764 v6078 v6157), ∀ a x, ((![v6078, v6157] : Fin 2 → IVec S16 32) a x).toNat < S160x39.size a := fun v6078 v6157 k0_hw764 => k0_hw764

def k0_chk765 (v6078 : IVec S16 32) (v6165 : IVec S16 32) : Prop :=
  (∀ a x, ((![v6078, v6165] : Fin 2 → IVec S16 32) a x).toNat < S160x31.size a)
theorem k0_idx765_inb : ∀ (v6078 : IVec S16 32) (v6165 : IVec S16 32) (k0_hw765 : k0_chk765 v6078 v6165), ∀ a x, ((![v6078, v6165] : Fin 2 → IVec S16 32) a x).toNat < S160x31.size a := fun v6078 v6165 k0_hw765 => k0_hw765

def k0_chk766 (v6078 : IVec S16 32) (v6168 : IVec S16 32) : Prop :=
  (∀ a x, ((![v6078, v6168] : Fin 2 → IVec S16 32) a x).toNat < S160x31.size a)
theorem k0_idx766_inb : ∀ (v6078 : IVec S16 32) (v6168 : IVec S16 32) (k0_hw766 : k0_chk766 v6078 v6168), ∀ a x, ((![v6078, v6168] : Fin 2 → IVec S16 32) a x).toNat < S160x31.size a := fun v6078 v6168 k0_hw766 => k0_hw766

def k0_chk767 (v6078 : IVec S16 32) (v6171 : IVec S16 32) : Prop :=
  (∀ a x, ((![v6078, v6171] : Fin 2 → IVec S16 32) a x).toNat < S160x39.size a)
theorem k0_idx767_inb : ∀ (v6078 : IVec S16 32) (v6171 : IVec S16 32) (k0_hw767 : k0_chk767 v6078 v6171), ∀ a x, ((![v6078, v6171] : Fin 2 → IVec S16 32) a x).toNat < S160x39.size a := fun v6078 v6171 k0_hw767 => k0_hw767

def k0_chk768 (v6078 : IVec S16 32) (v6179 : IVec S16 32) : Prop :=
  (∀ a x, ((![v6078, v6179] : Fin 2 → IVec S16 32) a x).toNat < S160x39.size a)
theorem k0_idx768_inb : ∀ (v6078 : IVec S16 32) (v6179 : IVec S16 32) (k0_hw768 : k0_chk768 v6078 v6179), ∀ a x, ((![v6078, v6179] : Fin 2 → IVec S16 32) a x).toNat < S160x39.size a := fun v6078 v6179 k0_hw768 => k0_hw768

def k0_chk769 (v6078 : IVec S16 32) (v6187 : IVec S16 32) : Prop :=
  (∀ a x, ((![v6078, v6187] : Fin 2 → IVec S16 32) a x).toNat < S160x31.size a)
theorem k0_idx769_inb : ∀ (v6078 : IVec S16 32) (v6187 : IVec S16 32) (k0_hw769 : k0_chk769 v6078 v6187), ∀ a x, ((![v6078, v6187] : Fin 2 → IVec S16 32) a x).toNat < S160x31.size a := fun v6078 v6187 k0_hw769 => k0_hw769

def k0_chk770 (v6078 : IVec S16 32) (v6190 : IVec S16 32) : Prop :=
  (∀ a x, ((![v6078, v6190] : Fin 2 → IVec S16 32) a x).toNat < S160x31.size a)
theorem k0_idx770_inb : ∀ (v6078 : IVec S16 32) (v6190 : IVec S16 32) (k0_hw770 : k0_chk770 v6078 v6190), ∀ a x, ((![v6078, v6190] : Fin 2 → IVec S16 32) a x).toNat < S160x31.size a := fun v6078 v6190 k0_hw770 => k0_hw770

def k0_chk771 (v6078 : IVec S16 32) (v6193 : IVec S16 32) : Prop :=
  (∀ a x, ((![v6078, v6193] : Fin 2 → IVec S16 32) a x).toNat < S160x39.size a)
theorem k0_idx771_inb : ∀ (v6078 : IVec S16 32) (v6193 : IVec S16 32) (k0_hw771 : k0_chk771 v6078 v6193), ∀ a x, ((![v6078, v6193] : Fin 2 → IVec S16 32) a x).toNat < S160x39.size a := fun v6078 v6193 k0_hw771 => k0_hw771

def k0_chk772 (v6078 : IVec S16 32) (v6201 : IVec S16 32) : Prop :=
  (∀ a x, ((![v6078, v6201] : Fin 2 → IVec S16 32) a x).toNat < S160x39.size a)
theorem k0_idx772_inb : ∀ (v6078 : IVec S16 32) (v6201 : IVec S16 32) (k0_hw772 : k0_chk772 v6078 v6201), ∀ a x, ((![v6078, v6201] : Fin 2 → IVec S16 32) a x).toNat < S160x39.size a := fun v6078 v6201 k0_hw772 => k0_hw772

def k0_chk773 (v6078 : IVec S16 32) (v6209 : IVec S16 32) : Prop :=
  (∀ a x, ((![v6078, v6209] : Fin 2 → IVec S16 32) a x).toNat < S160x31.size a)
theorem k0_idx773_inb : ∀ (v6078 : IVec S16 32) (v6209 : IVec S16 32) (k0_hw773 : k0_chk773 v6078 v6209), ∀ a x, ((![v6078, v6209] : Fin 2 → IVec S16 32) a x).toNat < S160x31.size a := fun v6078 v6209 k0_hw773 => k0_hw773

def k0_chk774 (v6078 : IVec S16 32) (v6212 : IVec S16 32) : Prop :=
  (∀ a x, ((![v6078, v6212] : Fin 2 → IVec S16 32) a x).toNat < S160x31.size a)
theorem k0_idx774_inb : ∀ (v6078 : IVec S16 32) (v6212 : IVec S16 32) (k0_hw774 : k0_chk774 v6078 v6212), ∀ a x, ((![v6078, v6212] : Fin 2 → IVec S16 32) a x).toNat < S160x31.size a := fun v6078 v6212 k0_hw774 => k0_hw774

def k0_chk775 (v6078 : IVec S16 32) (v6215 : IVec S16 32) : Prop :=
  (∀ a x, ((![v6078, v6215] : Fin 2 → IVec S16 32) a x).toNat < S160x39.size a)
theorem k0_idx775_inb : ∀ (v6078 : IVec S16 32) (v6215 : IVec S16 32) (k0_hw775 : k0_chk775 v6078 v6215), ∀ a x, ((![v6078, v6215] : Fin 2 → IVec S16 32) a x).toNat < S160x39.size a := fun v6078 v6215 k0_hw775 => k0_hw775

def k0_chk776 (v6078 : IVec S16 32) (v6219 : IVec S16 32) : Prop :=
  (∀ a x, ((![v6078, v6219] : Fin 2 → IVec S16 32) a x).toNat < S160x31.size a)
theorem k0_idx776_inb : ∀ (v6078 : IVec S16 32) (v6219 : IVec S16 32) (k0_hw776 : k0_chk776 v6078 v6219), ∀ a x, ((![v6078, v6219] : Fin 2 → IVec S16 32) a x).toNat < S160x31.size a := fun v6078 v6219 k0_hw776 => k0_hw776

def k0_chk777 (v6078 : IVec S16 32) (v6222 : IVec S16 32) : Prop :=
  (∀ a x, ((![v6078, v6222] : Fin 2 → IVec S16 32) a x).toNat < S160x39.size a)
theorem k0_idx777_inb : ∀ (v6078 : IVec S16 32) (v6222 : IVec S16 32) (k0_hw777 : k0_chk777 v6078 v6222), ∀ a x, ((![v6078, v6222] : Fin 2 → IVec S16 32) a x).toNat < S160x39.size a := fun v6078 v6222 k0_hw777 => k0_hw777

def k0_chk778 (v6078 : IVec S16 32) (v6226 : IVec S16 32) : Prop :=
  (∀ a x, ((![v6078, v6226] : Fin 2 → IVec S16 32) a x).toNat < S160x31.size a)
theorem k0_idx778_inb : ∀ (v6078 : IVec S16 32) (v6226 : IVec S16 32) (k0_hw778 : k0_chk778 v6078 v6226), ∀ a x, ((![v6078, v6226] : Fin 2 → IVec S16 32) a x).toNat < S160x31.size a := fun v6078 v6226 k0_hw778 => k0_hw778

def k0_chk779 (v6078 : IVec S16 32) (v6229 : IVec S16 32) : Prop :=
  (∀ a x, ((![v6078, v6229] : Fin 2 → IVec S16 32) a x).toNat < S160x39.size a)
theorem k0_idx779_inb : ∀ (v6078 : IVec S16 32) (v6229 : IVec S16 32) (k0_hw779 : k0_chk779 v6078 v6229), ∀ a x, ((![v6078, v6229] : Fin 2 → IVec S16 32) a x).toNat < S160x39.size a := fun v6078 v6229 k0_hw779 => k0_hw779

def k0_chk780 (v6078 : IVec S16 32) (v6233 : IVec S16 32) : Prop :=
  (∀ a x, ((![v6078, v6233] : Fin 2 → IVec S16 32) a x).toNat < S160x31.size a)
theorem k0_idx780_inb : ∀ (v6078 : IVec S16 32) (v6233 : IVec S16 32) (k0_hw780 : k0_chk780 v6078 v6233), ∀ a x, ((![v6078, v6233] : Fin 2 → IVec S16 32) a x).toNat < S160x31.size a := fun v6078 v6233 k0_hw780 => k0_hw780

def k0_chk781 (v6078 : IVec S16 32) (v6236 : IVec S16 32) : Prop :=
  (∀ a x, ((![v6078, v6236] : Fin 2 → IVec S16 32) a x).toNat < S160x39.size a)
theorem k0_idx781_inb : ∀ (v6078 : IVec S16 32) (v6236 : IVec S16 32) (k0_hw781 : k0_chk781 v6078 v6236), ∀ a x, ((![v6078, v6236] : Fin 2 → IVec S16 32) a x).toNat < S160x39.size a := fun v6078 v6236 k0_hw781 => k0_hw781

def k0_chk782 (v6078 : IVec S16 32) (v6240 : IVec S16 32) : Prop :=
  (∀ a x, ((![v6078, v6240] : Fin 2 → IVec S16 32) a x).toNat < S160x31.size a)
theorem k0_idx782_inb : ∀ (v6078 : IVec S16 32) (v6240 : IVec S16 32) (k0_hw782 : k0_chk782 v6078 v6240), ∀ a x, ((![v6078, v6240] : Fin 2 → IVec S16 32) a x).toNat < S160x31.size a := fun v6078 v6240 k0_hw782 => k0_hw782

def k0_chk783 (v6078 : IVec S16 32) (v6243 : IVec S16 32) : Prop :=
  (∀ a x, ((![v6078, v6243] : Fin 2 → IVec S16 32) a x).toNat < S160x39.size a)
theorem k0_idx783_inb : ∀ (v6078 : IVec S16 32) (v6243 : IVec S16 32) (k0_hw783 : k0_chk783 v6078 v6243), ∀ a x, ((![v6078, v6243] : Fin 2 → IVec S16 32) a x).toNat < S160x39.size a := fun v6078 v6243 k0_hw783 => k0_hw783

def k0_chk784 (v6078 : IVec S16 32) (v6247 : IVec S16 32) : Prop :=
  (∀ a x, ((![v6078, v6247] : Fin 2 → IVec S16 32) a x).toNat < S160x31.size a)
theorem k0_idx784_inb : ∀ (v6078 : IVec S16 32) (v6247 : IVec S16 32) (k0_hw784 : k0_chk784 v6078 v6247), ∀ a x, ((![v6078, v6247] : Fin 2 → IVec S16 32) a x).toNat < S160x31.size a := fun v6078 v6247 k0_hw784 => k0_hw784

def k0_chk785 (v6078 : IVec S16 32) (v6250 : IVec S16 32) : Prop :=
  (∀ a x, ((![v6078, v6250] : Fin 2 → IVec S16 32) a x).toNat < S160x39.size a)
theorem k0_idx785_inb : ∀ (v6078 : IVec S16 32) (v6250 : IVec S16 32) (k0_hw785 : k0_chk785 v6078 v6250), ∀ a x, ((![v6078, v6250] : Fin 2 → IVec S16 32) a x).toNat < S160x39.size a := fun v6078 v6250 k0_hw785 => k0_hw785

def k0_chk786 (v6078 : IVec S16 32) (v6254 : IVec S16 32) : Prop :=
  (∀ a x, ((![v6078, v6254] : Fin 2 → IVec S16 32) a x).toNat < S160x31.size a)
theorem k0_idx786_inb : ∀ (v6078 : IVec S16 32) (v6254 : IVec S16 32) (k0_hw786 : k0_chk786 v6078 v6254), ∀ a x, ((![v6078, v6254] : Fin 2 → IVec S16 32) a x).toNat < S160x31.size a := fun v6078 v6254 k0_hw786 => k0_hw786

def k0_chk787 (v6078 : IVec S16 32) (v6257 : IVec S16 32) : Prop :=
  (∀ a x, ((![v6078, v6257] : Fin 2 → IVec S16 32) a x).toNat < S160x39.size a)
theorem k0_idx787_inb : ∀ (v6078 : IVec S16 32) (v6257 : IVec S16 32) (k0_hw787 : k0_chk787 v6078 v6257), ∀ a x, ((![v6078, v6257] : Fin 2 → IVec S16 32) a x).toNat < S160x39.size a := fun v6078 v6257 k0_hw787 => k0_hw787

def k0_chk788 (v6078 : IVec S16 32) (v6261 : IVec S16 32) : Prop :=
  (∀ a x, ((![v6078, v6261] : Fin 2 → IVec S16 32) a x).toNat < S160x31.size a)
theorem k0_idx788_inb : ∀ (v6078 : IVec S16 32) (v6261 : IVec S16 32) (k0_hw788 : k0_chk788 v6078 v6261), ∀ a x, ((![v6078, v6261] : Fin 2 → IVec S16 32) a x).toNat < S160x31.size a := fun v6078 v6261 k0_hw788 => k0_hw788

def k0_chk789 (v6078 : IVec S16 32) (v6264 : IVec S16 32) : Prop :=
  (∀ a x, ((![v6078, v6264] : Fin 2 → IVec S16 32) a x).toNat < S160x39.size a)
theorem k0_idx789_inb : ∀ (v6078 : IVec S16 32) (v6264 : IVec S16 32) (k0_hw789 : k0_chk789 v6078 v6264), ∀ a x, ((![v6078, v6264] : Fin 2 → IVec S16 32) a x).toNat < S160x39.size a := fun v6078 v6264 k0_hw789 => k0_hw789

def k0_chk790 (v6078 : IVec S16 32) (v6268 : IVec S16 32) : Prop :=
  (∀ a x, ((![v6078, v6268] : Fin 2 → IVec S16 32) a x).toNat < S160x31.size a)
theorem k0_idx790_inb : ∀ (v6078 : IVec S16 32) (v6268 : IVec S16 32) (k0_hw790 : k0_chk790 v6078 v6268), ∀ a x, ((![v6078, v6268] : Fin 2 → IVec S16 32) a x).toNat < S160x31.size a := fun v6078 v6268 k0_hw790 => k0_hw790

def k0_chk791 (v6078 : IVec S16 32) (v6271 : IVec S16 32) : Prop :=
  (∀ a x, ((![v6078, v6271] : Fin 2 → IVec S16 32) a x).toNat < S160x39.size a)
theorem k0_idx791_inb : ∀ (v6078 : IVec S16 32) (v6271 : IVec S16 32) (k0_hw791 : k0_chk791 v6078 v6271), ∀ a x, ((![v6078, v6271] : Fin 2 → IVec S16 32) a x).toNat < S160x39.size a := fun v6078 v6271 k0_hw791 => k0_hw791

def k0_chk792 (v6078 : IVec S16 32) (v6275 : IVec S16 32) : Prop :=
  (∀ a x, ((![v6078, v6275] : Fin 2 → IVec S16 32) a x).toNat < S160x31.size a)
theorem k0_idx792_inb : ∀ (v6078 : IVec S16 32) (v6275 : IVec S16 32) (k0_hw792 : k0_chk792 v6078 v6275), ∀ a x, ((![v6078, v6275] : Fin 2 → IVec S16 32) a x).toNat < S160x31.size a := fun v6078 v6275 k0_hw792 => k0_hw792

def k0_chk793 (v6078 : IVec S16 32) (v6278 : IVec S16 32) : Prop :=
  (∀ a x, ((![v6078, v6278] : Fin 2 → IVec S16 32) a x).toNat < S160x39.size a)
theorem k0_idx793_inb : ∀ (v6078 : IVec S16 32) (v6278 : IVec S16 32) (k0_hw793 : k0_chk793 v6078 v6278), ∀ a x, ((![v6078, v6278] : Fin 2 → IVec S16 32) a x).toNat < S160x39.size a := fun v6078 v6278 k0_hw793 => k0_hw793

def k0_chk794 (v6078 : IVec S16 32) (v6282 : IVec S16 32) : Prop :=
  (∀ a x, ((![v6078, v6282] : Fin 2 → IVec S16 32) a x).toNat < S160x31.size a)
theorem k0_idx794_inb : ∀ (v6078 : IVec S16 32) (v6282 : IVec S16 32) (k0_hw794 : k0_chk794 v6078 v6282), ∀ a x, ((![v6078, v6282] : Fin 2 → IVec S16 32) a x).toNat < S160x31.size a := fun v6078 v6282 k0_hw794 => k0_hw794

def k0_chk795 (v6078 : IVec S16 32) (v6285 : IVec S16 32) : Prop :=
  (∀ a x, ((![v6078, v6285] : Fin 2 → IVec S16 32) a x).toNat < S160x39.size a)
theorem k0_idx795_inb : ∀ (v6078 : IVec S16 32) (v6285 : IVec S16 32) (k0_hw795 : k0_chk795 v6078 v6285), ∀ a x, ((![v6078, v6285] : Fin 2 → IVec S16 32) a x).toNat < S160x39.size a := fun v6078 v6285 k0_hw795 => k0_hw795

def k0_chk796 (v6078 : IVec S16 32) (v6289 : IVec S16 32) : Prop :=
  (∀ a x, ((![v6078, v6289] : Fin 2 → IVec S16 32) a x).toNat < S160x31.size a)
theorem k0_idx796_inb : ∀ (v6078 : IVec S16 32) (v6289 : IVec S16 32) (k0_hw796 : k0_chk796 v6078 v6289), ∀ a x, ((![v6078, v6289] : Fin 2 → IVec S16 32) a x).toNat < S160x31.size a := fun v6078 v6289 k0_hw796 => k0_hw796

def k0_chk797 (v6078 : IVec S16 32) (v6292 : IVec S16 32) : Prop :=
  (∀ a x, ((![v6078, v6292] : Fin 2 → IVec S16 32) a x).toNat < S160x39.size a)
theorem k0_idx797_inb : ∀ (v6078 : IVec S16 32) (v6292 : IVec S16 32) (k0_hw797 : k0_chk797 v6078 v6292), ∀ a x, ((![v6078, v6292] : Fin 2 → IVec S16 32) a x).toNat < S160x39.size a := fun v6078 v6292 k0_hw797 => k0_hw797

def k0_chk798 (v6078 : IVec S16 32) (v6296 : IVec S16 32) : Prop :=
  (∀ a x, ((![v6078, v6296] : Fin 2 → IVec S16 32) a x).toNat < S160x31.size a)
theorem k0_idx798_inb : ∀ (v6078 : IVec S16 32) (v6296 : IVec S16 32) (k0_hw798 : k0_chk798 v6078 v6296), ∀ a x, ((![v6078, v6296] : Fin 2 → IVec S16 32) a x).toNat < S160x31.size a := fun v6078 v6296 k0_hw798 => k0_hw798

def k0_chk799 (v6078 : IVec S16 32) (v6299 : IVec S16 32) : Prop :=
  (∀ a x, ((![v6078, v6299] : Fin 2 → IVec S16 32) a x).toNat < S160x39.size a)
theorem k0_idx799_inb : ∀ (v6078 : IVec S16 32) (v6299 : IVec S16 32) (k0_hw799 : k0_chk799 v6078 v6299), ∀ a x, ((![v6078, v6299] : Fin 2 → IVec S16 32) a x).toNat < S160x39.size a := fun v6078 v6299 k0_hw799 => k0_hw799

def k0_chk800 (v6078 : IVec S16 32) (v6303 : IVec S16 32) : Prop :=
  (∀ a x, ((![v6078, v6303] : Fin 2 → IVec S16 32) a x).toNat < S160x31.size a)
theorem k0_idx800_inb : ∀ (v6078 : IVec S16 32) (v6303 : IVec S16 32) (k0_hw800 : k0_chk800 v6078 v6303), ∀ a x, ((![v6078, v6303] : Fin 2 → IVec S16 32) a x).toNat < S160x31.size a := fun v6078 v6303 k0_hw800 => k0_hw800

def k0_chk801 (v6078 : IVec S16 32) (v6306 : IVec S16 32) : Prop :=
  (∀ a x, ((![v6078, v6306] : Fin 2 → IVec S16 32) a x).toNat < S160x39.size a)
theorem k0_idx801_inb : ∀ (v6078 : IVec S16 32) (v6306 : IVec S16 32) (k0_hw801 : k0_chk801 v6078 v6306), ∀ a x, ((![v6078, v6306] : Fin 2 → IVec S16 32) a x).toNat < S160x39.size a := fun v6078 v6306 k0_hw801 => k0_hw801

def k0_chk802 (v6078 : IVec S16 32) (v6310 : IVec S16 32) : Prop :=
  (∀ a x, ((![v6078, v6310] : Fin 2 → IVec S16 32) a x).toNat < S160x31.size a)
theorem k0_idx802_inb : ∀ (v6078 : IVec S16 32) (v6310 : IVec S16 32) (k0_hw802 : k0_chk802 v6078 v6310), ∀ a x, ((![v6078, v6310] : Fin 2 → IVec S16 32) a x).toNat < S160x31.size a := fun v6078 v6310 k0_hw802 => k0_hw802

def k0_chk803 (v6078 : IVec S16 32) (v6313 : IVec S16 32) : Prop :=
  (∀ a x, ((![v6078, v6313] : Fin 2 → IVec S16 32) a x).toNat < S160x39.size a)
theorem k0_idx803_inb : ∀ (v6078 : IVec S16 32) (v6313 : IVec S16 32) (k0_hw803 : k0_chk803 v6078 v6313), ∀ a x, ((![v6078, v6313] : Fin 2 → IVec S16 32) a x).toNat < S160x39.size a := fun v6078 v6313 k0_hw803 => k0_hw803

def k0_chk804 (v6078 : IVec S16 32) (v6317 : IVec S16 32) : Prop :=
  (∀ a x, ((![v6078, v6317] : Fin 2 → IVec S16 32) a x).toNat < S160x31.size a)
theorem k0_idx804_inb : ∀ (v6078 : IVec S16 32) (v6317 : IVec S16 32) (k0_hw804 : k0_chk804 v6078 v6317), ∀ a x, ((![v6078, v6317] : Fin 2 → IVec S16 32) a x).toNat < S160x31.size a := fun v6078 v6317 k0_hw804 => k0_hw804

def k0_chk805 (v6078 : IVec S16 32) (v6320 : IVec S16 32) : Prop :=
  (∀ a x, ((![v6078, v6320] : Fin 2 → IVec S16 32) a x).toNat < S160x39.size a)
theorem k0_idx805_inb : ∀ (v6078 : IVec S16 32) (v6320 : IVec S16 32) (k0_hw805 : k0_chk805 v6078 v6320), ∀ a x, ((![v6078, v6320] : Fin 2 → IVec S16 32) a x).toNat < S160x39.size a := fun v6078 v6320 k0_hw805 => k0_hw805

def k0_chk806 (v6078 : IVec S16 32) (v6324 : IVec S16 32) : Prop :=
  (∀ a x, ((![v6078, v6324] : Fin 2 → IVec S16 32) a x).toNat < S160x31.size a)
theorem k0_idx806_inb : ∀ (v6078 : IVec S16 32) (v6324 : IVec S16 32) (k0_hw806 : k0_chk806 v6078 v6324), ∀ a x, ((![v6078, v6324] : Fin 2 → IVec S16 32) a x).toNat < S160x31.size a := fun v6078 v6324 k0_hw806 => k0_hw806

def k0_chk807 (v6078 : IVec S16 32) (v6327 : IVec S16 32) : Prop :=
  (∀ a x, ((![v6078, v6327] : Fin 2 → IVec S16 32) a x).toNat < S160x39.size a)
theorem k0_idx807_inb : ∀ (v6078 : IVec S16 32) (v6327 : IVec S16 32) (k0_hw807 : k0_chk807 v6078 v6327), ∀ a x, ((![v6078, v6327] : Fin 2 → IVec S16 32) a x).toNat < S160x39.size a := fun v6078 v6327 k0_hw807 => k0_hw807

def k0_chk808 (v6078 : IVec S16 32) (v6331 : IVec S16 32) : Prop :=
  (∀ a x, ((![v6078, v6331] : Fin 2 → IVec S16 32) a x).toNat < S160x31.size a)
theorem k0_idx808_inb : ∀ (v6078 : IVec S16 32) (v6331 : IVec S16 32) (k0_hw808 : k0_chk808 v6078 v6331), ∀ a x, ((![v6078, v6331] : Fin 2 → IVec S16 32) a x).toNat < S160x31.size a := fun v6078 v6331 k0_hw808 => k0_hw808

def k0_chk809 (v6078 : IVec S16 32) (v6334 : IVec S16 32) : Prop :=
  (∀ a x, ((![v6078, v6334] : Fin 2 → IVec S16 32) a x).toNat < S160x39.size a)
theorem k0_idx809_inb : ∀ (v6078 : IVec S16 32) (v6334 : IVec S16 32) (k0_hw809 : k0_chk809 v6078 v6334), ∀ a x, ((![v6078, v6334] : Fin 2 → IVec S16 32) a x).toNat < S160x39.size a := fun v6078 v6334 k0_hw809 => k0_hw809

def k0_chk810 (v6078 : IVec S16 32) (v6338 : IVec S16 32) : Prop :=
  (∀ a x, ((![v6078, v6338] : Fin 2 → IVec S16 32) a x).toNat < S160x31.size a)
theorem k0_idx810_inb : ∀ (v6078 : IVec S16 32) (v6338 : IVec S16 32) (k0_hw810 : k0_chk810 v6078 v6338), ∀ a x, ((![v6078, v6338] : Fin 2 → IVec S16 32) a x).toNat < S160x31.size a := fun v6078 v6338 k0_hw810 => k0_hw810

def k0_chk811 (v6078 : IVec S16 32) (v6341 : IVec S16 32) : Prop :=
  (∀ a x, ((![v6078, v6341] : Fin 2 → IVec S16 32) a x).toNat < S160x39.size a)
theorem k0_idx811_inb : ∀ (v6078 : IVec S16 32) (v6341 : IVec S16 32) (k0_hw811 : k0_chk811 v6078 v6341), ∀ a x, ((![v6078, v6341] : Fin 2 → IVec S16 32) a x).toNat < S160x39.size a := fun v6078 v6341 k0_hw811 => k0_hw811

def k0_chk812 (v6078 : IVec S16 32) (v6345 : IVec S16 32) : Prop :=
  (∀ a x, ((![v6078, v6345] : Fin 2 → IVec S16 32) a x).toNat < S160x31.size a)
theorem k0_idx812_inb : ∀ (v6078 : IVec S16 32) (v6345 : IVec S16 32) (k0_hw812 : k0_chk812 v6078 v6345), ∀ a x, ((![v6078, v6345] : Fin 2 → IVec S16 32) a x).toNat < S160x31.size a := fun v6078 v6345 k0_hw812 => k0_hw812

def k0_chk813 (v6078 : IVec S16 32) (v6348 : IVec S16 32) : Prop :=
  (∀ a x, ((![v6078, v6348] : Fin 2 → IVec S16 32) a x).toNat < S160x39.size a)
theorem k0_idx813_inb : ∀ (v6078 : IVec S16 32) (v6348 : IVec S16 32) (k0_hw813 : k0_chk813 v6078 v6348), ∀ a x, ((![v6078, v6348] : Fin 2 → IVec S16 32) a x).toNat < S160x39.size a := fun v6078 v6348 k0_hw813 => k0_hw813

def k0_chk814 (v6078 : IVec S16 32) (v6352 : IVec S16 32) : Prop :=
  (∀ a x, ((![v6078, v6352] : Fin 2 → IVec S16 32) a x).toNat < S160x31.size a)
theorem k0_idx814_inb : ∀ (v6078 : IVec S16 32) (v6352 : IVec S16 32) (k0_hw814 : k0_chk814 v6078 v6352), ∀ a x, ((![v6078, v6352] : Fin 2 → IVec S16 32) a x).toNat < S160x31.size a := fun v6078 v6352 k0_hw814 => k0_hw814

def k0_chk815 (v6078 : IVec S16 32) (v6355 : IVec S16 32) : Prop :=
  (∀ a x, ((![v6078, v6355] : Fin 2 → IVec S16 32) a x).toNat < S160x39.size a)
theorem k0_idx815_inb : ∀ (v6078 : IVec S16 32) (v6355 : IVec S16 32) (k0_hw815 : k0_chk815 v6078 v6355), ∀ a x, ((![v6078, v6355] : Fin 2 → IVec S16 32) a x).toNat < S160x39.size a := fun v6078 v6355 k0_hw815 => k0_hw815

def k0_chk816 (v6078 : IVec S16 32) (v6359 : IVec S16 32) : Prop :=
  (∀ a x, ((![v6078, v6359] : Fin 2 → IVec S16 32) a x).toNat < S160x31.size a)
theorem k0_idx816_inb : ∀ (v6078 : IVec S16 32) (v6359 : IVec S16 32) (k0_hw816 : k0_chk816 v6078 v6359), ∀ a x, ((![v6078, v6359] : Fin 2 → IVec S16 32) a x).toNat < S160x31.size a := fun v6078 v6359 k0_hw816 => k0_hw816

def k0_chk817 (v6363 : IVec S16 32) (v6364 : IVec S16 32) : Prop :=
  (∀ a x, ((![v6363, v6364] : Fin 2 → IVec S16 32) a x).toNat < S160x39.size a)
theorem k0_idx817_inb : ∀ (v6363 : IVec S16 32) (v6364 : IVec S16 32) (k0_hw817 : k0_chk817 v6363 v6364), ∀ a x, ((![v6363, v6364] : Fin 2 → IVec S16 32) a x).toNat < S160x39.size a := fun v6363 v6364 k0_hw817 => k0_hw817

def k0_chk818 (v6363 : IVec S16 32) (v6368 : IVec S16 32) : Prop :=
  (∀ a x, ((![v6363, v6368] : Fin 2 → IVec S16 32) a x).toNat < S160x39.size a)
theorem k0_idx818_inb : ∀ (v6363 : IVec S16 32) (v6368 : IVec S16 32) (k0_hw818 : k0_chk818 v6363 v6368), ∀ a x, ((![v6363, v6368] : Fin 2 → IVec S16 32) a x).toNat < S160x39.size a := fun v6363 v6368 k0_hw818 => k0_hw818

def k0_chk819 (v6363 : IVec S16 32) (v6372 : IVec S16 32) : Prop :=
  (∀ a x, ((![v6363, v6372] : Fin 2 → IVec S16 32) a x).toNat < S160x39.size a)
theorem k0_idx819_inb : ∀ (v6363 : IVec S16 32) (v6372 : IVec S16 32) (k0_hw819 : k0_chk819 v6363 v6372), ∀ a x, ((![v6363, v6372] : Fin 2 → IVec S16 32) a x).toNat < S160x39.size a := fun v6363 v6372 k0_hw819 => k0_hw819

def k0_chk820 (v6363 : IVec S16 32) (v6376 : IVec S16 32) : Prop :=
  (∀ a x, ((![v6363, v6376] : Fin 2 → IVec S16 32) a x).toNat < S160x39.size a)
theorem k0_idx820_inb : ∀ (v6363 : IVec S16 32) (v6376 : IVec S16 32) (k0_hw820 : k0_chk820 v6363 v6376), ∀ a x, ((![v6363, v6376] : Fin 2 → IVec S16 32) a x).toNat < S160x39.size a := fun v6363 v6376 k0_hw820 => k0_hw820

def k0_chk821 (v6363 : IVec S16 32) (v6381 : IVec S16 32) : Prop :=
  (∀ a x, ((![v6363, v6381] : Fin 2 → IVec S16 32) a x).toNat < S160x39.size a)
theorem k0_idx821_inb : ∀ (v6363 : IVec S16 32) (v6381 : IVec S16 32) (k0_hw821 : k0_chk821 v6363 v6381), ∀ a x, ((![v6363, v6381] : Fin 2 → IVec S16 32) a x).toNat < S160x39.size a := fun v6363 v6381 k0_hw821 => k0_hw821

def k0_chk822 (v6363 : IVec S16 32) (v6385 : IVec S16 32) : Prop :=
  (∀ a x, ((![v6363, v6385] : Fin 2 → IVec S16 32) a x).toNat < S160x39.size a)
theorem k0_idx822_inb : ∀ (v6363 : IVec S16 32) (v6385 : IVec S16 32) (k0_hw822 : k0_chk822 v6363 v6385), ∀ a x, ((![v6363, v6385] : Fin 2 → IVec S16 32) a x).toNat < S160x39.size a := fun v6363 v6385 k0_hw822 => k0_hw822

def k0_chk823 (v6363 : IVec S16 32) (v6390 : IVec S16 32) : Prop :=
  (∀ a x, ((![v6363, v6390] : Fin 2 → IVec S16 32) a x).toNat < S160x39.size a)
theorem k0_idx823_inb : ∀ (v6363 : IVec S16 32) (v6390 : IVec S16 32) (k0_hw823 : k0_chk823 v6363 v6390), ∀ a x, ((![v6363, v6390] : Fin 2 → IVec S16 32) a x).toNat < S160x39.size a := fun v6363 v6390 k0_hw823 => k0_hw823

def k0_chk824 (v6363 : IVec S16 32) (v6398 : IVec S16 32) : Prop :=
  (∀ a x, ((![v6363, v6398] : Fin 2 → IVec S16 32) a x).toNat < S160x39.size a)
theorem k0_idx824_inb : ∀ (v6363 : IVec S16 32) (v6398 : IVec S16 32) (k0_hw824 : k0_chk824 v6363 v6398), ∀ a x, ((![v6363, v6398] : Fin 2 → IVec S16 32) a x).toNat < S160x39.size a := fun v6363 v6398 k0_hw824 => k0_hw824

def k0_chk825 (v6363 : IVec S16 32) (v6406 : IVec S16 32) : Prop :=
  (∀ a x, ((![v6363, v6406] : Fin 2 → IVec S16 32) a x).toNat < S160x31.size a)
theorem k0_idx825_inb : ∀ (v6363 : IVec S16 32) (v6406 : IVec S16 32) (k0_hw825 : k0_chk825 v6363 v6406), ∀ a x, ((![v6363, v6406] : Fin 2 → IVec S16 32) a x).toNat < S160x31.size a := fun v6363 v6406 k0_hw825 => k0_hw825

def k0_chk826 (v6363 : IVec S16 32) (v6409 : IVec S16 32) : Prop :=
  (∀ a x, ((![v6363, v6409] : Fin 2 → IVec S16 32) a x).toNat < S160x31.size a)
theorem k0_idx826_inb : ∀ (v6363 : IVec S16 32) (v6409 : IVec S16 32) (k0_hw826 : k0_chk826 v6363 v6409), ∀ a x, ((![v6363, v6409] : Fin 2 → IVec S16 32) a x).toNat < S160x31.size a := fun v6363 v6409 k0_hw826 => k0_hw826

def k0_chk827 (v6363 : IVec S16 32) (v6412 : IVec S16 32) : Prop :=
  (∀ a x, ((![v6363, v6412] : Fin 2 → IVec S16 32) a x).toNat < S160x39.size a)
theorem k0_idx827_inb : ∀ (v6363 : IVec S16 32) (v6412 : IVec S16 32) (k0_hw827 : k0_chk827 v6363 v6412), ∀ a x, ((![v6363, v6412] : Fin 2 → IVec S16 32) a x).toNat < S160x39.size a := fun v6363 v6412 k0_hw827 => k0_hw827

def k0_chk828 (v6363 : IVec S16 32) (v6420 : IVec S16 32) : Prop :=
  (∀ a x, ((![v6363, v6420] : Fin 2 → IVec S16 32) a x).toNat < S160x39.size a)
theorem k0_idx828_inb : ∀ (v6363 : IVec S16 32) (v6420 : IVec S16 32) (k0_hw828 : k0_chk828 v6363 v6420), ∀ a x, ((![v6363, v6420] : Fin 2 → IVec S16 32) a x).toNat < S160x39.size a := fun v6363 v6420 k0_hw828 => k0_hw828

def k0_chk829 (v6363 : IVec S16 32) (v6428 : IVec S16 32) : Prop :=
  (∀ a x, ((![v6363, v6428] : Fin 2 → IVec S16 32) a x).toNat < S160x31.size a)
theorem k0_idx829_inb : ∀ (v6363 : IVec S16 32) (v6428 : IVec S16 32) (k0_hw829 : k0_chk829 v6363 v6428), ∀ a x, ((![v6363, v6428] : Fin 2 → IVec S16 32) a x).toNat < S160x31.size a := fun v6363 v6428 k0_hw829 => k0_hw829

def k0_chk830 (v6363 : IVec S16 32) (v6431 : IVec S16 32) : Prop :=
  (∀ a x, ((![v6363, v6431] : Fin 2 → IVec S16 32) a x).toNat < S160x31.size a)
theorem k0_idx830_inb : ∀ (v6363 : IVec S16 32) (v6431 : IVec S16 32) (k0_hw830 : k0_chk830 v6363 v6431), ∀ a x, ((![v6363, v6431] : Fin 2 → IVec S16 32) a x).toNat < S160x31.size a := fun v6363 v6431 k0_hw830 => k0_hw830

def k0_chk831 (v6363 : IVec S16 32) (v6434 : IVec S16 32) : Prop :=
  (∀ a x, ((![v6363, v6434] : Fin 2 → IVec S16 32) a x).toNat < S160x39.size a)
theorem k0_idx831_inb : ∀ (v6363 : IVec S16 32) (v6434 : IVec S16 32) (k0_hw831 : k0_chk831 v6363 v6434), ∀ a x, ((![v6363, v6434] : Fin 2 → IVec S16 32) a x).toNat < S160x39.size a := fun v6363 v6434 k0_hw831 => k0_hw831

def k0_chk832 (v6363 : IVec S16 32) (v6442 : IVec S16 32) : Prop :=
  (∀ a x, ((![v6363, v6442] : Fin 2 → IVec S16 32) a x).toNat < S160x39.size a)
theorem k0_idx832_inb : ∀ (v6363 : IVec S16 32) (v6442 : IVec S16 32) (k0_hw832 : k0_chk832 v6363 v6442), ∀ a x, ((![v6363, v6442] : Fin 2 → IVec S16 32) a x).toNat < S160x39.size a := fun v6363 v6442 k0_hw832 => k0_hw832

def k0_chk833 (v6363 : IVec S16 32) (v6450 : IVec S16 32) : Prop :=
  (∀ a x, ((![v6363, v6450] : Fin 2 → IVec S16 32) a x).toNat < S160x31.size a)
theorem k0_idx833_inb : ∀ (v6363 : IVec S16 32) (v6450 : IVec S16 32) (k0_hw833 : k0_chk833 v6363 v6450), ∀ a x, ((![v6363, v6450] : Fin 2 → IVec S16 32) a x).toNat < S160x31.size a := fun v6363 v6450 k0_hw833 => k0_hw833

def k0_chk834 (v6363 : IVec S16 32) (v6453 : IVec S16 32) : Prop :=
  (∀ a x, ((![v6363, v6453] : Fin 2 → IVec S16 32) a x).toNat < S160x31.size a)
theorem k0_idx834_inb : ∀ (v6363 : IVec S16 32) (v6453 : IVec S16 32) (k0_hw834 : k0_chk834 v6363 v6453), ∀ a x, ((![v6363, v6453] : Fin 2 → IVec S16 32) a x).toNat < S160x31.size a := fun v6363 v6453 k0_hw834 => k0_hw834

def k0_chk835 (v6363 : IVec S16 32) (v6456 : IVec S16 32) : Prop :=
  (∀ a x, ((![v6363, v6456] : Fin 2 → IVec S16 32) a x).toNat < S160x39.size a)
theorem k0_idx835_inb : ∀ (v6363 : IVec S16 32) (v6456 : IVec S16 32) (k0_hw835 : k0_chk835 v6363 v6456), ∀ a x, ((![v6363, v6456] : Fin 2 → IVec S16 32) a x).toNat < S160x39.size a := fun v6363 v6456 k0_hw835 => k0_hw835

def k0_chk836 (v6363 : IVec S16 32) (v6464 : IVec S16 32) : Prop :=
  (∀ a x, ((![v6363, v6464] : Fin 2 → IVec S16 32) a x).toNat < S160x39.size a)
theorem k0_idx836_inb : ∀ (v6363 : IVec S16 32) (v6464 : IVec S16 32) (k0_hw836 : k0_chk836 v6363 v6464), ∀ a x, ((![v6363, v6464] : Fin 2 → IVec S16 32) a x).toNat < S160x39.size a := fun v6363 v6464 k0_hw836 => k0_hw836

def k0_chk837 (v6363 : IVec S16 32) (v6472 : IVec S16 32) : Prop :=
  (∀ a x, ((![v6363, v6472] : Fin 2 → IVec S16 32) a x).toNat < S160x31.size a)
theorem k0_idx837_inb : ∀ (v6363 : IVec S16 32) (v6472 : IVec S16 32) (k0_hw837 : k0_chk837 v6363 v6472), ∀ a x, ((![v6363, v6472] : Fin 2 → IVec S16 32) a x).toNat < S160x31.size a := fun v6363 v6472 k0_hw837 => k0_hw837

def k0_chk838 (v6363 : IVec S16 32) (v6475 : IVec S16 32) : Prop :=
  (∀ a x, ((![v6363, v6475] : Fin 2 → IVec S16 32) a x).toNat < S160x31.size a)
theorem k0_idx838_inb : ∀ (v6363 : IVec S16 32) (v6475 : IVec S16 32) (k0_hw838 : k0_chk838 v6363 v6475), ∀ a x, ((![v6363, v6475] : Fin 2 → IVec S16 32) a x).toNat < S160x31.size a := fun v6363 v6475 k0_hw838 => k0_hw838

def k0_chk839 (v6363 : IVec S16 32) (v6478 : IVec S16 32) : Prop :=
  (∀ a x, ((![v6363, v6478] : Fin 2 → IVec S16 32) a x).toNat < S160x39.size a)
theorem k0_idx839_inb : ∀ (v6363 : IVec S16 32) (v6478 : IVec S16 32) (k0_hw839 : k0_chk839 v6363 v6478), ∀ a x, ((![v6363, v6478] : Fin 2 → IVec S16 32) a x).toNat < S160x39.size a := fun v6363 v6478 k0_hw839 => k0_hw839

def k0_chk840 (v6363 : IVec S16 32) (v6486 : IVec S16 32) : Prop :=
  (∀ a x, ((![v6363, v6486] : Fin 2 → IVec S16 32) a x).toNat < S160x39.size a)
theorem k0_idx840_inb : ∀ (v6363 : IVec S16 32) (v6486 : IVec S16 32) (k0_hw840 : k0_chk840 v6363 v6486), ∀ a x, ((![v6363, v6486] : Fin 2 → IVec S16 32) a x).toNat < S160x39.size a := fun v6363 v6486 k0_hw840 => k0_hw840

def k0_chk841 (v6363 : IVec S16 32) (v6494 : IVec S16 32) : Prop :=
  (∀ a x, ((![v6363, v6494] : Fin 2 → IVec S16 32) a x).toNat < S160x31.size a)
theorem k0_idx841_inb : ∀ (v6363 : IVec S16 32) (v6494 : IVec S16 32) (k0_hw841 : k0_chk841 v6363 v6494), ∀ a x, ((![v6363, v6494] : Fin 2 → IVec S16 32) a x).toNat < S160x31.size a := fun v6363 v6494 k0_hw841 => k0_hw841

def k0_chk842 (v6363 : IVec S16 32) (v6497 : IVec S16 32) : Prop :=
  (∀ a x, ((![v6363, v6497] : Fin 2 → IVec S16 32) a x).toNat < S160x31.size a)
theorem k0_idx842_inb : ∀ (v6363 : IVec S16 32) (v6497 : IVec S16 32) (k0_hw842 : k0_chk842 v6363 v6497), ∀ a x, ((![v6363, v6497] : Fin 2 → IVec S16 32) a x).toNat < S160x31.size a := fun v6363 v6497 k0_hw842 => k0_hw842

def k0_chk843 (v6363 : IVec S16 32) (v6500 : IVec S16 32) : Prop :=
  (∀ a x, ((![v6363, v6500] : Fin 2 → IVec S16 32) a x).toNat < S160x39.size a)
theorem k0_idx843_inb : ∀ (v6363 : IVec S16 32) (v6500 : IVec S16 32) (k0_hw843 : k0_chk843 v6363 v6500), ∀ a x, ((![v6363, v6500] : Fin 2 → IVec S16 32) a x).toNat < S160x39.size a := fun v6363 v6500 k0_hw843 => k0_hw843

def k0_chk844 (v6363 : IVec S16 32) (v6504 : IVec S16 32) : Prop :=
  (∀ a x, ((![v6363, v6504] : Fin 2 → IVec S16 32) a x).toNat < S160x31.size a)
theorem k0_idx844_inb : ∀ (v6363 : IVec S16 32) (v6504 : IVec S16 32) (k0_hw844 : k0_chk844 v6363 v6504), ∀ a x, ((![v6363, v6504] : Fin 2 → IVec S16 32) a x).toNat < S160x31.size a := fun v6363 v6504 k0_hw844 => k0_hw844

def k0_chk845 (v6363 : IVec S16 32) (v6507 : IVec S16 32) : Prop :=
  (∀ a x, ((![v6363, v6507] : Fin 2 → IVec S16 32) a x).toNat < S160x39.size a)
theorem k0_idx845_inb : ∀ (v6363 : IVec S16 32) (v6507 : IVec S16 32) (k0_hw845 : k0_chk845 v6363 v6507), ∀ a x, ((![v6363, v6507] : Fin 2 → IVec S16 32) a x).toNat < S160x39.size a := fun v6363 v6507 k0_hw845 => k0_hw845

def k0_chk846 (v6363 : IVec S16 32) (v6511 : IVec S16 32) : Prop :=
  (∀ a x, ((![v6363, v6511] : Fin 2 → IVec S16 32) a x).toNat < S160x31.size a)
theorem k0_idx846_inb : ∀ (v6363 : IVec S16 32) (v6511 : IVec S16 32) (k0_hw846 : k0_chk846 v6363 v6511), ∀ a x, ((![v6363, v6511] : Fin 2 → IVec S16 32) a x).toNat < S160x31.size a := fun v6363 v6511 k0_hw846 => k0_hw846

def k0_chk847 (v6363 : IVec S16 32) (v6514 : IVec S16 32) : Prop :=
  (∀ a x, ((![v6363, v6514] : Fin 2 → IVec S16 32) a x).toNat < S160x39.size a)
theorem k0_idx847_inb : ∀ (v6363 : IVec S16 32) (v6514 : IVec S16 32) (k0_hw847 : k0_chk847 v6363 v6514), ∀ a x, ((![v6363, v6514] : Fin 2 → IVec S16 32) a x).toNat < S160x39.size a := fun v6363 v6514 k0_hw847 => k0_hw847

def k0_chk848 (v6363 : IVec S16 32) (v6518 : IVec S16 32) : Prop :=
  (∀ a x, ((![v6363, v6518] : Fin 2 → IVec S16 32) a x).toNat < S160x31.size a)
theorem k0_idx848_inb : ∀ (v6363 : IVec S16 32) (v6518 : IVec S16 32) (k0_hw848 : k0_chk848 v6363 v6518), ∀ a x, ((![v6363, v6518] : Fin 2 → IVec S16 32) a x).toNat < S160x31.size a := fun v6363 v6518 k0_hw848 => k0_hw848

def k0_chk849 (v6363 : IVec S16 32) (v6521 : IVec S16 32) : Prop :=
  (∀ a x, ((![v6363, v6521] : Fin 2 → IVec S16 32) a x).toNat < S160x39.size a)
theorem k0_idx849_inb : ∀ (v6363 : IVec S16 32) (v6521 : IVec S16 32) (k0_hw849 : k0_chk849 v6363 v6521), ∀ a x, ((![v6363, v6521] : Fin 2 → IVec S16 32) a x).toNat < S160x39.size a := fun v6363 v6521 k0_hw849 => k0_hw849

def k0_chk850 (v6363 : IVec S16 32) (v6525 : IVec S16 32) : Prop :=
  (∀ a x, ((![v6363, v6525] : Fin 2 → IVec S16 32) a x).toNat < S160x31.size a)
theorem k0_idx850_inb : ∀ (v6363 : IVec S16 32) (v6525 : IVec S16 32) (k0_hw850 : k0_chk850 v6363 v6525), ∀ a x, ((![v6363, v6525] : Fin 2 → IVec S16 32) a x).toNat < S160x31.size a := fun v6363 v6525 k0_hw850 => k0_hw850

def k0_chk851 (v6363 : IVec S16 32) (v6528 : IVec S16 32) : Prop :=
  (∀ a x, ((![v6363, v6528] : Fin 2 → IVec S16 32) a x).toNat < S160x39.size a)
theorem k0_idx851_inb : ∀ (v6363 : IVec S16 32) (v6528 : IVec S16 32) (k0_hw851 : k0_chk851 v6363 v6528), ∀ a x, ((![v6363, v6528] : Fin 2 → IVec S16 32) a x).toNat < S160x39.size a := fun v6363 v6528 k0_hw851 => k0_hw851

def k0_chk852 (v6363 : IVec S16 32) (v6532 : IVec S16 32) : Prop :=
  (∀ a x, ((![v6363, v6532] : Fin 2 → IVec S16 32) a x).toNat < S160x31.size a)
theorem k0_idx852_inb : ∀ (v6363 : IVec S16 32) (v6532 : IVec S16 32) (k0_hw852 : k0_chk852 v6363 v6532), ∀ a x, ((![v6363, v6532] : Fin 2 → IVec S16 32) a x).toNat < S160x31.size a := fun v6363 v6532 k0_hw852 => k0_hw852

def k0_chk853 (v6363 : IVec S16 32) (v6535 : IVec S16 32) : Prop :=
  (∀ a x, ((![v6363, v6535] : Fin 2 → IVec S16 32) a x).toNat < S160x39.size a)
theorem k0_idx853_inb : ∀ (v6363 : IVec S16 32) (v6535 : IVec S16 32) (k0_hw853 : k0_chk853 v6363 v6535), ∀ a x, ((![v6363, v6535] : Fin 2 → IVec S16 32) a x).toNat < S160x39.size a := fun v6363 v6535 k0_hw853 => k0_hw853

def k0_chk854 (v6363 : IVec S16 32) (v6539 : IVec S16 32) : Prop :=
  (∀ a x, ((![v6363, v6539] : Fin 2 → IVec S16 32) a x).toNat < S160x31.size a)
theorem k0_idx854_inb : ∀ (v6363 : IVec S16 32) (v6539 : IVec S16 32) (k0_hw854 : k0_chk854 v6363 v6539), ∀ a x, ((![v6363, v6539] : Fin 2 → IVec S16 32) a x).toNat < S160x31.size a := fun v6363 v6539 k0_hw854 => k0_hw854

def k0_chk855 (v6363 : IVec S16 32) (v6542 : IVec S16 32) : Prop :=
  (∀ a x, ((![v6363, v6542] : Fin 2 → IVec S16 32) a x).toNat < S160x39.size a)
theorem k0_idx855_inb : ∀ (v6363 : IVec S16 32) (v6542 : IVec S16 32) (k0_hw855 : k0_chk855 v6363 v6542), ∀ a x, ((![v6363, v6542] : Fin 2 → IVec S16 32) a x).toNat < S160x39.size a := fun v6363 v6542 k0_hw855 => k0_hw855

def k0_chk856 (v6363 : IVec S16 32) (v6546 : IVec S16 32) : Prop :=
  (∀ a x, ((![v6363, v6546] : Fin 2 → IVec S16 32) a x).toNat < S160x31.size a)
theorem k0_idx856_inb : ∀ (v6363 : IVec S16 32) (v6546 : IVec S16 32) (k0_hw856 : k0_chk856 v6363 v6546), ∀ a x, ((![v6363, v6546] : Fin 2 → IVec S16 32) a x).toNat < S160x31.size a := fun v6363 v6546 k0_hw856 => k0_hw856

def k0_chk857 (v6363 : IVec S16 32) (v6549 : IVec S16 32) : Prop :=
  (∀ a x, ((![v6363, v6549] : Fin 2 → IVec S16 32) a x).toNat < S160x39.size a)
theorem k0_idx857_inb : ∀ (v6363 : IVec S16 32) (v6549 : IVec S16 32) (k0_hw857 : k0_chk857 v6363 v6549), ∀ a x, ((![v6363, v6549] : Fin 2 → IVec S16 32) a x).toNat < S160x39.size a := fun v6363 v6549 k0_hw857 => k0_hw857

def k0_chk858 (v6363 : IVec S16 32) (v6553 : IVec S16 32) : Prop :=
  (∀ a x, ((![v6363, v6553] : Fin 2 → IVec S16 32) a x).toNat < S160x31.size a)
theorem k0_idx858_inb : ∀ (v6363 : IVec S16 32) (v6553 : IVec S16 32) (k0_hw858 : k0_chk858 v6363 v6553), ∀ a x, ((![v6363, v6553] : Fin 2 → IVec S16 32) a x).toNat < S160x31.size a := fun v6363 v6553 k0_hw858 => k0_hw858

def k0_chk859 (v6363 : IVec S16 32) (v6556 : IVec S16 32) : Prop :=
  (∀ a x, ((![v6363, v6556] : Fin 2 → IVec S16 32) a x).toNat < S160x39.size a)
theorem k0_idx859_inb : ∀ (v6363 : IVec S16 32) (v6556 : IVec S16 32) (k0_hw859 : k0_chk859 v6363 v6556), ∀ a x, ((![v6363, v6556] : Fin 2 → IVec S16 32) a x).toNat < S160x39.size a := fun v6363 v6556 k0_hw859 => k0_hw859

def k0_chk860 (v6363 : IVec S16 32) (v6560 : IVec S16 32) : Prop :=
  (∀ a x, ((![v6363, v6560] : Fin 2 → IVec S16 32) a x).toNat < S160x31.size a)
theorem k0_idx860_inb : ∀ (v6363 : IVec S16 32) (v6560 : IVec S16 32) (k0_hw860 : k0_chk860 v6363 v6560), ∀ a x, ((![v6363, v6560] : Fin 2 → IVec S16 32) a x).toNat < S160x31.size a := fun v6363 v6560 k0_hw860 => k0_hw860

def k0_chk861 (v6363 : IVec S16 32) (v6563 : IVec S16 32) : Prop :=
  (∀ a x, ((![v6363, v6563] : Fin 2 → IVec S16 32) a x).toNat < S160x39.size a)
theorem k0_idx861_inb : ∀ (v6363 : IVec S16 32) (v6563 : IVec S16 32) (k0_hw861 : k0_chk861 v6363 v6563), ∀ a x, ((![v6363, v6563] : Fin 2 → IVec S16 32) a x).toNat < S160x39.size a := fun v6363 v6563 k0_hw861 => k0_hw861

def k0_chk862 (v6363 : IVec S16 32) (v6567 : IVec S16 32) : Prop :=
  (∀ a x, ((![v6363, v6567] : Fin 2 → IVec S16 32) a x).toNat < S160x31.size a)
theorem k0_idx862_inb : ∀ (v6363 : IVec S16 32) (v6567 : IVec S16 32) (k0_hw862 : k0_chk862 v6363 v6567), ∀ a x, ((![v6363, v6567] : Fin 2 → IVec S16 32) a x).toNat < S160x31.size a := fun v6363 v6567 k0_hw862 => k0_hw862

def k0_chk863 (v6363 : IVec S16 32) (v6570 : IVec S16 32) : Prop :=
  (∀ a x, ((![v6363, v6570] : Fin 2 → IVec S16 32) a x).toNat < S160x39.size a)
theorem k0_idx863_inb : ∀ (v6363 : IVec S16 32) (v6570 : IVec S16 32) (k0_hw863 : k0_chk863 v6363 v6570), ∀ a x, ((![v6363, v6570] : Fin 2 → IVec S16 32) a x).toNat < S160x39.size a := fun v6363 v6570 k0_hw863 => k0_hw863

def k0_chk864 (v6363 : IVec S16 32) (v6574 : IVec S16 32) : Prop :=
  (∀ a x, ((![v6363, v6574] : Fin 2 → IVec S16 32) a x).toNat < S160x31.size a)
theorem k0_idx864_inb : ∀ (v6363 : IVec S16 32) (v6574 : IVec S16 32) (k0_hw864 : k0_chk864 v6363 v6574), ∀ a x, ((![v6363, v6574] : Fin 2 → IVec S16 32) a x).toNat < S160x31.size a := fun v6363 v6574 k0_hw864 => k0_hw864

def k0_chk865 (v6363 : IVec S16 32) (v6577 : IVec S16 32) : Prop :=
  (∀ a x, ((![v6363, v6577] : Fin 2 → IVec S16 32) a x).toNat < S160x39.size a)
theorem k0_idx865_inb : ∀ (v6363 : IVec S16 32) (v6577 : IVec S16 32) (k0_hw865 : k0_chk865 v6363 v6577), ∀ a x, ((![v6363, v6577] : Fin 2 → IVec S16 32) a x).toNat < S160x39.size a := fun v6363 v6577 k0_hw865 => k0_hw865

def k0_chk866 (v6363 : IVec S16 32) (v6581 : IVec S16 32) : Prop :=
  (∀ a x, ((![v6363, v6581] : Fin 2 → IVec S16 32) a x).toNat < S160x31.size a)
theorem k0_idx866_inb : ∀ (v6363 : IVec S16 32) (v6581 : IVec S16 32) (k0_hw866 : k0_chk866 v6363 v6581), ∀ a x, ((![v6363, v6581] : Fin 2 → IVec S16 32) a x).toNat < S160x31.size a := fun v6363 v6581 k0_hw866 => k0_hw866

def k0_chk867 (v6363 : IVec S16 32) (v6584 : IVec S16 32) : Prop :=
  (∀ a x, ((![v6363, v6584] : Fin 2 → IVec S16 32) a x).toNat < S160x39.size a)
theorem k0_idx867_inb : ∀ (v6363 : IVec S16 32) (v6584 : IVec S16 32) (k0_hw867 : k0_chk867 v6363 v6584), ∀ a x, ((![v6363, v6584] : Fin 2 → IVec S16 32) a x).toNat < S160x39.size a := fun v6363 v6584 k0_hw867 => k0_hw867

def k0_chk868 (v6363 : IVec S16 32) (v6588 : IVec S16 32) : Prop :=
  (∀ a x, ((![v6363, v6588] : Fin 2 → IVec S16 32) a x).toNat < S160x31.size a)
theorem k0_idx868_inb : ∀ (v6363 : IVec S16 32) (v6588 : IVec S16 32) (k0_hw868 : k0_chk868 v6363 v6588), ∀ a x, ((![v6363, v6588] : Fin 2 → IVec S16 32) a x).toNat < S160x31.size a := fun v6363 v6588 k0_hw868 => k0_hw868

def k0_chk869 (v6363 : IVec S16 32) (v6591 : IVec S16 32) : Prop :=
  (∀ a x, ((![v6363, v6591] : Fin 2 → IVec S16 32) a x).toNat < S160x39.size a)
theorem k0_idx869_inb : ∀ (v6363 : IVec S16 32) (v6591 : IVec S16 32) (k0_hw869 : k0_chk869 v6363 v6591), ∀ a x, ((![v6363, v6591] : Fin 2 → IVec S16 32) a x).toNat < S160x39.size a := fun v6363 v6591 k0_hw869 => k0_hw869

def k0_chk870 (v6363 : IVec S16 32) (v6595 : IVec S16 32) : Prop :=
  (∀ a x, ((![v6363, v6595] : Fin 2 → IVec S16 32) a x).toNat < S160x31.size a)
theorem k0_idx870_inb : ∀ (v6363 : IVec S16 32) (v6595 : IVec S16 32) (k0_hw870 : k0_chk870 v6363 v6595), ∀ a x, ((![v6363, v6595] : Fin 2 → IVec S16 32) a x).toNat < S160x31.size a := fun v6363 v6595 k0_hw870 => k0_hw870

def k0_chk871 (v6363 : IVec S16 32) (v6598 : IVec S16 32) : Prop :=
  (∀ a x, ((![v6363, v6598] : Fin 2 → IVec S16 32) a x).toNat < S160x39.size a)
theorem k0_idx871_inb : ∀ (v6363 : IVec S16 32) (v6598 : IVec S16 32) (k0_hw871 : k0_chk871 v6363 v6598), ∀ a x, ((![v6363, v6598] : Fin 2 → IVec S16 32) a x).toNat < S160x39.size a := fun v6363 v6598 k0_hw871 => k0_hw871

def k0_chk872 (v6363 : IVec S16 32) (v6602 : IVec S16 32) : Prop :=
  (∀ a x, ((![v6363, v6602] : Fin 2 → IVec S16 32) a x).toNat < S160x31.size a)
theorem k0_idx872_inb : ∀ (v6363 : IVec S16 32) (v6602 : IVec S16 32) (k0_hw872 : k0_chk872 v6363 v6602), ∀ a x, ((![v6363, v6602] : Fin 2 → IVec S16 32) a x).toNat < S160x31.size a := fun v6363 v6602 k0_hw872 => k0_hw872

def k0_chk873 (v6363 : IVec S16 32) (v6605 : IVec S16 32) : Prop :=
  (∀ a x, ((![v6363, v6605] : Fin 2 → IVec S16 32) a x).toNat < S160x39.size a)
theorem k0_idx873_inb : ∀ (v6363 : IVec S16 32) (v6605 : IVec S16 32) (k0_hw873 : k0_chk873 v6363 v6605), ∀ a x, ((![v6363, v6605] : Fin 2 → IVec S16 32) a x).toNat < S160x39.size a := fun v6363 v6605 k0_hw873 => k0_hw873

def k0_chk874 (v6363 : IVec S16 32) (v6609 : IVec S16 32) : Prop :=
  (∀ a x, ((![v6363, v6609] : Fin 2 → IVec S16 32) a x).toNat < S160x31.size a)
theorem k0_idx874_inb : ∀ (v6363 : IVec S16 32) (v6609 : IVec S16 32) (k0_hw874 : k0_chk874 v6363 v6609), ∀ a x, ((![v6363, v6609] : Fin 2 → IVec S16 32) a x).toNat < S160x31.size a := fun v6363 v6609 k0_hw874 => k0_hw874

def k0_chk875 (v6363 : IVec S16 32) (v6612 : IVec S16 32) : Prop :=
  (∀ a x, ((![v6363, v6612] : Fin 2 → IVec S16 32) a x).toNat < S160x39.size a)
theorem k0_idx875_inb : ∀ (v6363 : IVec S16 32) (v6612 : IVec S16 32) (k0_hw875 : k0_chk875 v6363 v6612), ∀ a x, ((![v6363, v6612] : Fin 2 → IVec S16 32) a x).toNat < S160x39.size a := fun v6363 v6612 k0_hw875 => k0_hw875

def k0_chk876 (v6363 : IVec S16 32) (v6616 : IVec S16 32) : Prop :=
  (∀ a x, ((![v6363, v6616] : Fin 2 → IVec S16 32) a x).toNat < S160x31.size a)
theorem k0_idx876_inb : ∀ (v6363 : IVec S16 32) (v6616 : IVec S16 32) (k0_hw876 : k0_chk876 v6363 v6616), ∀ a x, ((![v6363, v6616] : Fin 2 → IVec S16 32) a x).toNat < S160x31.size a := fun v6363 v6616 k0_hw876 => k0_hw876

def k0_chk877 (v6363 : IVec S16 32) (v6619 : IVec S16 32) : Prop :=
  (∀ a x, ((![v6363, v6619] : Fin 2 → IVec S16 32) a x).toNat < S160x39.size a)
theorem k0_idx877_inb : ∀ (v6363 : IVec S16 32) (v6619 : IVec S16 32) (k0_hw877 : k0_chk877 v6363 v6619), ∀ a x, ((![v6363, v6619] : Fin 2 → IVec S16 32) a x).toNat < S160x39.size a := fun v6363 v6619 k0_hw877 => k0_hw877

def k0_chk878 (v6363 : IVec S16 32) (v6623 : IVec S16 32) : Prop :=
  (∀ a x, ((![v6363, v6623] : Fin 2 → IVec S16 32) a x).toNat < S160x31.size a)
theorem k0_idx878_inb : ∀ (v6363 : IVec S16 32) (v6623 : IVec S16 32) (k0_hw878 : k0_chk878 v6363 v6623), ∀ a x, ((![v6363, v6623] : Fin 2 → IVec S16 32) a x).toNat < S160x31.size a := fun v6363 v6623 k0_hw878 => k0_hw878

def k0_chk879 (v6363 : IVec S16 32) (v6626 : IVec S16 32) : Prop :=
  (∀ a x, ((![v6363, v6626] : Fin 2 → IVec S16 32) a x).toNat < S160x39.size a)
theorem k0_idx879_inb : ∀ (v6363 : IVec S16 32) (v6626 : IVec S16 32) (k0_hw879 : k0_chk879 v6363 v6626), ∀ a x, ((![v6363, v6626] : Fin 2 → IVec S16 32) a x).toNat < S160x39.size a := fun v6363 v6626 k0_hw879 => k0_hw879

def k0_chk880 (v6363 : IVec S16 32) (v6630 : IVec S16 32) : Prop :=
  (∀ a x, ((![v6363, v6630] : Fin 2 → IVec S16 32) a x).toNat < S160x31.size a)
theorem k0_idx880_inb : ∀ (v6363 : IVec S16 32) (v6630 : IVec S16 32) (k0_hw880 : k0_chk880 v6363 v6630), ∀ a x, ((![v6363, v6630] : Fin 2 → IVec S16 32) a x).toNat < S160x31.size a := fun v6363 v6630 k0_hw880 => k0_hw880

def k0_chk881 (v6363 : IVec S16 32) (v6633 : IVec S16 32) : Prop :=
  (∀ a x, ((![v6363, v6633] : Fin 2 → IVec S16 32) a x).toNat < S160x39.size a)
theorem k0_idx881_inb : ∀ (v6363 : IVec S16 32) (v6633 : IVec S16 32) (k0_hw881 : k0_chk881 v6363 v6633), ∀ a x, ((![v6363, v6633] : Fin 2 → IVec S16 32) a x).toNat < S160x39.size a := fun v6363 v6633 k0_hw881 => k0_hw881

def k0_chk882 (v6363 : IVec S16 32) (v6637 : IVec S16 32) : Prop :=
  (∀ a x, ((![v6363, v6637] : Fin 2 → IVec S16 32) a x).toNat < S160x31.size a)
theorem k0_idx882_inb : ∀ (v6363 : IVec S16 32) (v6637 : IVec S16 32) (k0_hw882 : k0_chk882 v6363 v6637), ∀ a x, ((![v6363, v6637] : Fin 2 → IVec S16 32) a x).toNat < S160x31.size a := fun v6363 v6637 k0_hw882 => k0_hw882

def k0_chk883 (v6363 : IVec S16 32) (v6640 : IVec S16 32) : Prop :=
  (∀ a x, ((![v6363, v6640] : Fin 2 → IVec S16 32) a x).toNat < S160x39.size a)
theorem k0_idx883_inb : ∀ (v6363 : IVec S16 32) (v6640 : IVec S16 32) (k0_hw883 : k0_chk883 v6363 v6640), ∀ a x, ((![v6363, v6640] : Fin 2 → IVec S16 32) a x).toNat < S160x39.size a := fun v6363 v6640 k0_hw883 => k0_hw883

def k0_chk884 (v6363 : IVec S16 32) (v6644 : IVec S16 32) : Prop :=
  (∀ a x, ((![v6363, v6644] : Fin 2 → IVec S16 32) a x).toNat < S160x31.size a)
theorem k0_idx884_inb : ∀ (v6363 : IVec S16 32) (v6644 : IVec S16 32) (k0_hw884 : k0_chk884 v6363 v6644), ∀ a x, ((![v6363, v6644] : Fin 2 → IVec S16 32) a x).toNat < S160x31.size a := fun v6363 v6644 k0_hw884 => k0_hw884

def k0_chk885 (v6648 : IVec S16 32) (v6649 : IVec S16 32) : Prop :=
  (∀ a x, ((![v6648, v6649] : Fin 2 → IVec S16 32) a x).toNat < S160x39.size a)
theorem k0_idx885_inb : ∀ (v6648 : IVec S16 32) (v6649 : IVec S16 32) (k0_hw885 : k0_chk885 v6648 v6649), ∀ a x, ((![v6648, v6649] : Fin 2 → IVec S16 32) a x).toNat < S160x39.size a := fun v6648 v6649 k0_hw885 => k0_hw885

def k0_chk886 (v6648 : IVec S16 32) (v6653 : IVec S16 32) : Prop :=
  (∀ a x, ((![v6648, v6653] : Fin 2 → IVec S16 32) a x).toNat < S160x39.size a)
theorem k0_idx886_inb : ∀ (v6648 : IVec S16 32) (v6653 : IVec S16 32) (k0_hw886 : k0_chk886 v6648 v6653), ∀ a x, ((![v6648, v6653] : Fin 2 → IVec S16 32) a x).toNat < S160x39.size a := fun v6648 v6653 k0_hw886 => k0_hw886

def k0_chk887 (v6648 : IVec S16 32) (v6657 : IVec S16 32) : Prop :=
  (∀ a x, ((![v6648, v6657] : Fin 2 → IVec S16 32) a x).toNat < S160x39.size a)
theorem k0_idx887_inb : ∀ (v6648 : IVec S16 32) (v6657 : IVec S16 32) (k0_hw887 : k0_chk887 v6648 v6657), ∀ a x, ((![v6648, v6657] : Fin 2 → IVec S16 32) a x).toNat < S160x39.size a := fun v6648 v6657 k0_hw887 => k0_hw887

def k0_chk888 (v6648 : IVec S16 32) (v6661 : IVec S16 32) : Prop :=
  (∀ a x, ((![v6648, v6661] : Fin 2 → IVec S16 32) a x).toNat < S160x39.size a)
theorem k0_idx888_inb : ∀ (v6648 : IVec S16 32) (v6661 : IVec S16 32) (k0_hw888 : k0_chk888 v6648 v6661), ∀ a x, ((![v6648, v6661] : Fin 2 → IVec S16 32) a x).toNat < S160x39.size a := fun v6648 v6661 k0_hw888 => k0_hw888

def k0_chk889 (v6648 : IVec S16 32) (v6666 : IVec S16 32) : Prop :=
  (∀ a x, ((![v6648, v6666] : Fin 2 → IVec S16 32) a x).toNat < S160x39.size a)
theorem k0_idx889_inb : ∀ (v6648 : IVec S16 32) (v6666 : IVec S16 32) (k0_hw889 : k0_chk889 v6648 v6666), ∀ a x, ((![v6648, v6666] : Fin 2 → IVec S16 32) a x).toNat < S160x39.size a := fun v6648 v6666 k0_hw889 => k0_hw889

def k0_chk890 (v6648 : IVec S16 32) (v6670 : IVec S16 32) : Prop :=
  (∀ a x, ((![v6648, v6670] : Fin 2 → IVec S16 32) a x).toNat < S160x39.size a)
theorem k0_idx890_inb : ∀ (v6648 : IVec S16 32) (v6670 : IVec S16 32) (k0_hw890 : k0_chk890 v6648 v6670), ∀ a x, ((![v6648, v6670] : Fin 2 → IVec S16 32) a x).toNat < S160x39.size a := fun v6648 v6670 k0_hw890 => k0_hw890

def k0_chk891 (v6648 : IVec S16 32) (v6675 : IVec S16 32) : Prop :=
  (∀ a x, ((![v6648, v6675] : Fin 2 → IVec S16 32) a x).toNat < S160x39.size a)
theorem k0_idx891_inb : ∀ (v6648 : IVec S16 32) (v6675 : IVec S16 32) (k0_hw891 : k0_chk891 v6648 v6675), ∀ a x, ((![v6648, v6675] : Fin 2 → IVec S16 32) a x).toNat < S160x39.size a := fun v6648 v6675 k0_hw891 => k0_hw891

def k0_chk892 (v6648 : IVec S16 32) (v6683 : IVec S16 32) : Prop :=
  (∀ a x, ((![v6648, v6683] : Fin 2 → IVec S16 32) a x).toNat < S160x39.size a)
theorem k0_idx892_inb : ∀ (v6648 : IVec S16 32) (v6683 : IVec S16 32) (k0_hw892 : k0_chk892 v6648 v6683), ∀ a x, ((![v6648, v6683] : Fin 2 → IVec S16 32) a x).toNat < S160x39.size a := fun v6648 v6683 k0_hw892 => k0_hw892

def k0_chk893 (v6648 : IVec S16 32) (v6691 : IVec S16 32) : Prop :=
  (∀ a x, ((![v6648, v6691] : Fin 2 → IVec S16 32) a x).toNat < S160x31.size a)
theorem k0_idx893_inb : ∀ (v6648 : IVec S16 32) (v6691 : IVec S16 32) (k0_hw893 : k0_chk893 v6648 v6691), ∀ a x, ((![v6648, v6691] : Fin 2 → IVec S16 32) a x).toNat < S160x31.size a := fun v6648 v6691 k0_hw893 => k0_hw893

def k0_chk894 (v6648 : IVec S16 32) (v6694 : IVec S16 32) : Prop :=
  (∀ a x, ((![v6648, v6694] : Fin 2 → IVec S16 32) a x).toNat < S160x31.size a)
theorem k0_idx894_inb : ∀ (v6648 : IVec S16 32) (v6694 : IVec S16 32) (k0_hw894 : k0_chk894 v6648 v6694), ∀ a x, ((![v6648, v6694] : Fin 2 → IVec S16 32) a x).toNat < S160x31.size a := fun v6648 v6694 k0_hw894 => k0_hw894

def k0_chk895 (v6648 : IVec S16 32) (v6697 : IVec S16 32) : Prop :=
  (∀ a x, ((![v6648, v6697] : Fin 2 → IVec S16 32) a x).toNat < S160x39.size a)
theorem k0_idx895_inb : ∀ (v6648 : IVec S16 32) (v6697 : IVec S16 32) (k0_hw895 : k0_chk895 v6648 v6697), ∀ a x, ((![v6648, v6697] : Fin 2 → IVec S16 32) a x).toNat < S160x39.size a := fun v6648 v6697 k0_hw895 => k0_hw895

def k0_chk896 (v6648 : IVec S16 32) (v6705 : IVec S16 32) : Prop :=
  (∀ a x, ((![v6648, v6705] : Fin 2 → IVec S16 32) a x).toNat < S160x39.size a)
theorem k0_idx896_inb : ∀ (v6648 : IVec S16 32) (v6705 : IVec S16 32) (k0_hw896 : k0_chk896 v6648 v6705), ∀ a x, ((![v6648, v6705] : Fin 2 → IVec S16 32) a x).toNat < S160x39.size a := fun v6648 v6705 k0_hw896 => k0_hw896

def k0_chk897 (v6648 : IVec S16 32) (v6713 : IVec S16 32) : Prop :=
  (∀ a x, ((![v6648, v6713] : Fin 2 → IVec S16 32) a x).toNat < S160x31.size a)
theorem k0_idx897_inb : ∀ (v6648 : IVec S16 32) (v6713 : IVec S16 32) (k0_hw897 : k0_chk897 v6648 v6713), ∀ a x, ((![v6648, v6713] : Fin 2 → IVec S16 32) a x).toNat < S160x31.size a := fun v6648 v6713 k0_hw897 => k0_hw897

def k0_chk898 (v6648 : IVec S16 32) (v6716 : IVec S16 32) : Prop :=
  (∀ a x, ((![v6648, v6716] : Fin 2 → IVec S16 32) a x).toNat < S160x31.size a)
theorem k0_idx898_inb : ∀ (v6648 : IVec S16 32) (v6716 : IVec S16 32) (k0_hw898 : k0_chk898 v6648 v6716), ∀ a x, ((![v6648, v6716] : Fin 2 → IVec S16 32) a x).toNat < S160x31.size a := fun v6648 v6716 k0_hw898 => k0_hw898

def k0_chk899 (v6648 : IVec S16 32) (v6719 : IVec S16 32) : Prop :=
  (∀ a x, ((![v6648, v6719] : Fin 2 → IVec S16 32) a x).toNat < S160x39.size a)
theorem k0_idx899_inb : ∀ (v6648 : IVec S16 32) (v6719 : IVec S16 32) (k0_hw899 : k0_chk899 v6648 v6719), ∀ a x, ((![v6648, v6719] : Fin 2 → IVec S16 32) a x).toNat < S160x39.size a := fun v6648 v6719 k0_hw899 => k0_hw899

def k0_chk900 (v6648 : IVec S16 32) (v6727 : IVec S16 32) : Prop :=
  (∀ a x, ((![v6648, v6727] : Fin 2 → IVec S16 32) a x).toNat < S160x39.size a)
theorem k0_idx900_inb : ∀ (v6648 : IVec S16 32) (v6727 : IVec S16 32) (k0_hw900 : k0_chk900 v6648 v6727), ∀ a x, ((![v6648, v6727] : Fin 2 → IVec S16 32) a x).toNat < S160x39.size a := fun v6648 v6727 k0_hw900 => k0_hw900

def k0_chk901 (v6648 : IVec S16 32) (v6735 : IVec S16 32) : Prop :=
  (∀ a x, ((![v6648, v6735] : Fin 2 → IVec S16 32) a x).toNat < S160x31.size a)
theorem k0_idx901_inb : ∀ (v6648 : IVec S16 32) (v6735 : IVec S16 32) (k0_hw901 : k0_chk901 v6648 v6735), ∀ a x, ((![v6648, v6735] : Fin 2 → IVec S16 32) a x).toNat < S160x31.size a := fun v6648 v6735 k0_hw901 => k0_hw901

def k0_chk902 (v6648 : IVec S16 32) (v6738 : IVec S16 32) : Prop :=
  (∀ a x, ((![v6648, v6738] : Fin 2 → IVec S16 32) a x).toNat < S160x31.size a)
theorem k0_idx902_inb : ∀ (v6648 : IVec S16 32) (v6738 : IVec S16 32) (k0_hw902 : k0_chk902 v6648 v6738), ∀ a x, ((![v6648, v6738] : Fin 2 → IVec S16 32) a x).toNat < S160x31.size a := fun v6648 v6738 k0_hw902 => k0_hw902

def k0_chk903 (v6648 : IVec S16 32) (v6741 : IVec S16 32) : Prop :=
  (∀ a x, ((![v6648, v6741] : Fin 2 → IVec S16 32) a x).toNat < S160x39.size a)
theorem k0_idx903_inb : ∀ (v6648 : IVec S16 32) (v6741 : IVec S16 32) (k0_hw903 : k0_chk903 v6648 v6741), ∀ a x, ((![v6648, v6741] : Fin 2 → IVec S16 32) a x).toNat < S160x39.size a := fun v6648 v6741 k0_hw903 => k0_hw903

def k0_chk904 (v6648 : IVec S16 32) (v6749 : IVec S16 32) : Prop :=
  (∀ a x, ((![v6648, v6749] : Fin 2 → IVec S16 32) a x).toNat < S160x39.size a)
theorem k0_idx904_inb : ∀ (v6648 : IVec S16 32) (v6749 : IVec S16 32) (k0_hw904 : k0_chk904 v6648 v6749), ∀ a x, ((![v6648, v6749] : Fin 2 → IVec S16 32) a x).toNat < S160x39.size a := fun v6648 v6749 k0_hw904 => k0_hw904

def k0_chk905 (v6648 : IVec S16 32) (v6757 : IVec S16 32) : Prop :=
  (∀ a x, ((![v6648, v6757] : Fin 2 → IVec S16 32) a x).toNat < S160x31.size a)
theorem k0_idx905_inb : ∀ (v6648 : IVec S16 32) (v6757 : IVec S16 32) (k0_hw905 : k0_chk905 v6648 v6757), ∀ a x, ((![v6648, v6757] : Fin 2 → IVec S16 32) a x).toNat < S160x31.size a := fun v6648 v6757 k0_hw905 => k0_hw905

def k0_chk906 (v6648 : IVec S16 32) (v6760 : IVec S16 32) : Prop :=
  (∀ a x, ((![v6648, v6760] : Fin 2 → IVec S16 32) a x).toNat < S160x31.size a)
theorem k0_idx906_inb : ∀ (v6648 : IVec S16 32) (v6760 : IVec S16 32) (k0_hw906 : k0_chk906 v6648 v6760), ∀ a x, ((![v6648, v6760] : Fin 2 → IVec S16 32) a x).toNat < S160x31.size a := fun v6648 v6760 k0_hw906 => k0_hw906

def k0_chk907 (v6648 : IVec S16 32) (v6763 : IVec S16 32) : Prop :=
  (∀ a x, ((![v6648, v6763] : Fin 2 → IVec S16 32) a x).toNat < S160x39.size a)
theorem k0_idx907_inb : ∀ (v6648 : IVec S16 32) (v6763 : IVec S16 32) (k0_hw907 : k0_chk907 v6648 v6763), ∀ a x, ((![v6648, v6763] : Fin 2 → IVec S16 32) a x).toNat < S160x39.size a := fun v6648 v6763 k0_hw907 => k0_hw907

def k0_chk908 (v6648 : IVec S16 32) (v6771 : IVec S16 32) : Prop :=
  (∀ a x, ((![v6648, v6771] : Fin 2 → IVec S16 32) a x).toNat < S160x39.size a)
theorem k0_idx908_inb : ∀ (v6648 : IVec S16 32) (v6771 : IVec S16 32) (k0_hw908 : k0_chk908 v6648 v6771), ∀ a x, ((![v6648, v6771] : Fin 2 → IVec S16 32) a x).toNat < S160x39.size a := fun v6648 v6771 k0_hw908 => k0_hw908

def k0_chk909 (v6648 : IVec S16 32) (v6779 : IVec S16 32) : Prop :=
  (∀ a x, ((![v6648, v6779] : Fin 2 → IVec S16 32) a x).toNat < S160x31.size a)
theorem k0_idx909_inb : ∀ (v6648 : IVec S16 32) (v6779 : IVec S16 32) (k0_hw909 : k0_chk909 v6648 v6779), ∀ a x, ((![v6648, v6779] : Fin 2 → IVec S16 32) a x).toNat < S160x31.size a := fun v6648 v6779 k0_hw909 => k0_hw909

def k0_chk910 (v6648 : IVec S16 32) (v6782 : IVec S16 32) : Prop :=
  (∀ a x, ((![v6648, v6782] : Fin 2 → IVec S16 32) a x).toNat < S160x31.size a)
theorem k0_idx910_inb : ∀ (v6648 : IVec S16 32) (v6782 : IVec S16 32) (k0_hw910 : k0_chk910 v6648 v6782), ∀ a x, ((![v6648, v6782] : Fin 2 → IVec S16 32) a x).toNat < S160x31.size a := fun v6648 v6782 k0_hw910 => k0_hw910

def k0_chk911 (v6648 : IVec S16 32) (v6785 : IVec S16 32) : Prop :=
  (∀ a x, ((![v6648, v6785] : Fin 2 → IVec S16 32) a x).toNat < S160x39.size a)
theorem k0_idx911_inb : ∀ (v6648 : IVec S16 32) (v6785 : IVec S16 32) (k0_hw911 : k0_chk911 v6648 v6785), ∀ a x, ((![v6648, v6785] : Fin 2 → IVec S16 32) a x).toNat < S160x39.size a := fun v6648 v6785 k0_hw911 => k0_hw911

def k0_chk912 (v6648 : IVec S16 32) (v6789 : IVec S16 32) : Prop :=
  (∀ a x, ((![v6648, v6789] : Fin 2 → IVec S16 32) a x).toNat < S160x31.size a)
theorem k0_idx912_inb : ∀ (v6648 : IVec S16 32) (v6789 : IVec S16 32) (k0_hw912 : k0_chk912 v6648 v6789), ∀ a x, ((![v6648, v6789] : Fin 2 → IVec S16 32) a x).toNat < S160x31.size a := fun v6648 v6789 k0_hw912 => k0_hw912

def k0_chk913 (v6648 : IVec S16 32) (v6792 : IVec S16 32) : Prop :=
  (∀ a x, ((![v6648, v6792] : Fin 2 → IVec S16 32) a x).toNat < S160x39.size a)
theorem k0_idx913_inb : ∀ (v6648 : IVec S16 32) (v6792 : IVec S16 32) (k0_hw913 : k0_chk913 v6648 v6792), ∀ a x, ((![v6648, v6792] : Fin 2 → IVec S16 32) a x).toNat < S160x39.size a := fun v6648 v6792 k0_hw913 => k0_hw913

def k0_chk914 (v6648 : IVec S16 32) (v6796 : IVec S16 32) : Prop :=
  (∀ a x, ((![v6648, v6796] : Fin 2 → IVec S16 32) a x).toNat < S160x31.size a)
theorem k0_idx914_inb : ∀ (v6648 : IVec S16 32) (v6796 : IVec S16 32) (k0_hw914 : k0_chk914 v6648 v6796), ∀ a x, ((![v6648, v6796] : Fin 2 → IVec S16 32) a x).toNat < S160x31.size a := fun v6648 v6796 k0_hw914 => k0_hw914

def k0_chk915 (v6648 : IVec S16 32) (v6799 : IVec S16 32) : Prop :=
  (∀ a x, ((![v6648, v6799] : Fin 2 → IVec S16 32) a x).toNat < S160x39.size a)
theorem k0_idx915_inb : ∀ (v6648 : IVec S16 32) (v6799 : IVec S16 32) (k0_hw915 : k0_chk915 v6648 v6799), ∀ a x, ((![v6648, v6799] : Fin 2 → IVec S16 32) a x).toNat < S160x39.size a := fun v6648 v6799 k0_hw915 => k0_hw915

def k0_chk916 (v6648 : IVec S16 32) (v6803 : IVec S16 32) : Prop :=
  (∀ a x, ((![v6648, v6803] : Fin 2 → IVec S16 32) a x).toNat < S160x31.size a)
theorem k0_idx916_inb : ∀ (v6648 : IVec S16 32) (v6803 : IVec S16 32) (k0_hw916 : k0_chk916 v6648 v6803), ∀ a x, ((![v6648, v6803] : Fin 2 → IVec S16 32) a x).toNat < S160x31.size a := fun v6648 v6803 k0_hw916 => k0_hw916

def k0_chk917 (v6648 : IVec S16 32) (v6806 : IVec S16 32) : Prop :=
  (∀ a x, ((![v6648, v6806] : Fin 2 → IVec S16 32) a x).toNat < S160x39.size a)
theorem k0_idx917_inb : ∀ (v6648 : IVec S16 32) (v6806 : IVec S16 32) (k0_hw917 : k0_chk917 v6648 v6806), ∀ a x, ((![v6648, v6806] : Fin 2 → IVec S16 32) a x).toNat < S160x39.size a := fun v6648 v6806 k0_hw917 => k0_hw917

def k0_chk918 (v6648 : IVec S16 32) (v6810 : IVec S16 32) : Prop :=
  (∀ a x, ((![v6648, v6810] : Fin 2 → IVec S16 32) a x).toNat < S160x31.size a)
theorem k0_idx918_inb : ∀ (v6648 : IVec S16 32) (v6810 : IVec S16 32) (k0_hw918 : k0_chk918 v6648 v6810), ∀ a x, ((![v6648, v6810] : Fin 2 → IVec S16 32) a x).toNat < S160x31.size a := fun v6648 v6810 k0_hw918 => k0_hw918

def k0_chk919 (v6648 : IVec S16 32) (v6813 : IVec S16 32) : Prop :=
  (∀ a x, ((![v6648, v6813] : Fin 2 → IVec S16 32) a x).toNat < S160x39.size a)
theorem k0_idx919_inb : ∀ (v6648 : IVec S16 32) (v6813 : IVec S16 32) (k0_hw919 : k0_chk919 v6648 v6813), ∀ a x, ((![v6648, v6813] : Fin 2 → IVec S16 32) a x).toNat < S160x39.size a := fun v6648 v6813 k0_hw919 => k0_hw919

def k0_chk920 (v6648 : IVec S16 32) (v6817 : IVec S16 32) : Prop :=
  (∀ a x, ((![v6648, v6817] : Fin 2 → IVec S16 32) a x).toNat < S160x31.size a)
theorem k0_idx920_inb : ∀ (v6648 : IVec S16 32) (v6817 : IVec S16 32) (k0_hw920 : k0_chk920 v6648 v6817), ∀ a x, ((![v6648, v6817] : Fin 2 → IVec S16 32) a x).toNat < S160x31.size a := fun v6648 v6817 k0_hw920 => k0_hw920

def k0_chk921 (v6648 : IVec S16 32) (v6820 : IVec S16 32) : Prop :=
  (∀ a x, ((![v6648, v6820] : Fin 2 → IVec S16 32) a x).toNat < S160x39.size a)
theorem k0_idx921_inb : ∀ (v6648 : IVec S16 32) (v6820 : IVec S16 32) (k0_hw921 : k0_chk921 v6648 v6820), ∀ a x, ((![v6648, v6820] : Fin 2 → IVec S16 32) a x).toNat < S160x39.size a := fun v6648 v6820 k0_hw921 => k0_hw921

def k0_chk922 (v6648 : IVec S16 32) (v6824 : IVec S16 32) : Prop :=
  (∀ a x, ((![v6648, v6824] : Fin 2 → IVec S16 32) a x).toNat < S160x31.size a)
theorem k0_idx922_inb : ∀ (v6648 : IVec S16 32) (v6824 : IVec S16 32) (k0_hw922 : k0_chk922 v6648 v6824), ∀ a x, ((![v6648, v6824] : Fin 2 → IVec S16 32) a x).toNat < S160x31.size a := fun v6648 v6824 k0_hw922 => k0_hw922

def k0_chk923 (v6648 : IVec S16 32) (v6827 : IVec S16 32) : Prop :=
  (∀ a x, ((![v6648, v6827] : Fin 2 → IVec S16 32) a x).toNat < S160x39.size a)
theorem k0_idx923_inb : ∀ (v6648 : IVec S16 32) (v6827 : IVec S16 32) (k0_hw923 : k0_chk923 v6648 v6827), ∀ a x, ((![v6648, v6827] : Fin 2 → IVec S16 32) a x).toNat < S160x39.size a := fun v6648 v6827 k0_hw923 => k0_hw923

def k0_chk924 (v6648 : IVec S16 32) (v6831 : IVec S16 32) : Prop :=
  (∀ a x, ((![v6648, v6831] : Fin 2 → IVec S16 32) a x).toNat < S160x31.size a)
theorem k0_idx924_inb : ∀ (v6648 : IVec S16 32) (v6831 : IVec S16 32) (k0_hw924 : k0_chk924 v6648 v6831), ∀ a x, ((![v6648, v6831] : Fin 2 → IVec S16 32) a x).toNat < S160x31.size a := fun v6648 v6831 k0_hw924 => k0_hw924

def k0_chk925 (v6648 : IVec S16 32) (v6834 : IVec S16 32) : Prop :=
  (∀ a x, ((![v6648, v6834] : Fin 2 → IVec S16 32) a x).toNat < S160x39.size a)
theorem k0_idx925_inb : ∀ (v6648 : IVec S16 32) (v6834 : IVec S16 32) (k0_hw925 : k0_chk925 v6648 v6834), ∀ a x, ((![v6648, v6834] : Fin 2 → IVec S16 32) a x).toNat < S160x39.size a := fun v6648 v6834 k0_hw925 => k0_hw925

def k0_chk926 (v6648 : IVec S16 32) (v6838 : IVec S16 32) : Prop :=
  (∀ a x, ((![v6648, v6838] : Fin 2 → IVec S16 32) a x).toNat < S160x31.size a)
theorem k0_idx926_inb : ∀ (v6648 : IVec S16 32) (v6838 : IVec S16 32) (k0_hw926 : k0_chk926 v6648 v6838), ∀ a x, ((![v6648, v6838] : Fin 2 → IVec S16 32) a x).toNat < S160x31.size a := fun v6648 v6838 k0_hw926 => k0_hw926

def k0_chk927 (v6648 : IVec S16 32) (v6841 : IVec S16 32) : Prop :=
  (∀ a x, ((![v6648, v6841] : Fin 2 → IVec S16 32) a x).toNat < S160x39.size a)
theorem k0_idx927_inb : ∀ (v6648 : IVec S16 32) (v6841 : IVec S16 32) (k0_hw927 : k0_chk927 v6648 v6841), ∀ a x, ((![v6648, v6841] : Fin 2 → IVec S16 32) a x).toNat < S160x39.size a := fun v6648 v6841 k0_hw927 => k0_hw927

def k0_chk928 (v6648 : IVec S16 32) (v6845 : IVec S16 32) : Prop :=
  (∀ a x, ((![v6648, v6845] : Fin 2 → IVec S16 32) a x).toNat < S160x31.size a)
theorem k0_idx928_inb : ∀ (v6648 : IVec S16 32) (v6845 : IVec S16 32) (k0_hw928 : k0_chk928 v6648 v6845), ∀ a x, ((![v6648, v6845] : Fin 2 → IVec S16 32) a x).toNat < S160x31.size a := fun v6648 v6845 k0_hw928 => k0_hw928

def k0_chk929 (v6648 : IVec S16 32) (v6848 : IVec S16 32) : Prop :=
  (∀ a x, ((![v6648, v6848] : Fin 2 → IVec S16 32) a x).toNat < S160x39.size a)
theorem k0_idx929_inb : ∀ (v6648 : IVec S16 32) (v6848 : IVec S16 32) (k0_hw929 : k0_chk929 v6648 v6848), ∀ a x, ((![v6648, v6848] : Fin 2 → IVec S16 32) a x).toNat < S160x39.size a := fun v6648 v6848 k0_hw929 => k0_hw929

def k0_chk930 (v6648 : IVec S16 32) (v6852 : IVec S16 32) : Prop :=
  (∀ a x, ((![v6648, v6852] : Fin 2 → IVec S16 32) a x).toNat < S160x31.size a)
theorem k0_idx930_inb : ∀ (v6648 : IVec S16 32) (v6852 : IVec S16 32) (k0_hw930 : k0_chk930 v6648 v6852), ∀ a x, ((![v6648, v6852] : Fin 2 → IVec S16 32) a x).toNat < S160x31.size a := fun v6648 v6852 k0_hw930 => k0_hw930

def k0_chk931 (v6648 : IVec S16 32) (v6855 : IVec S16 32) : Prop :=
  (∀ a x, ((![v6648, v6855] : Fin 2 → IVec S16 32) a x).toNat < S160x39.size a)
theorem k0_idx931_inb : ∀ (v6648 : IVec S16 32) (v6855 : IVec S16 32) (k0_hw931 : k0_chk931 v6648 v6855), ∀ a x, ((![v6648, v6855] : Fin 2 → IVec S16 32) a x).toNat < S160x39.size a := fun v6648 v6855 k0_hw931 => k0_hw931

def k0_chk932 (v6648 : IVec S16 32) (v6859 : IVec S16 32) : Prop :=
  (∀ a x, ((![v6648, v6859] : Fin 2 → IVec S16 32) a x).toNat < S160x31.size a)
theorem k0_idx932_inb : ∀ (v6648 : IVec S16 32) (v6859 : IVec S16 32) (k0_hw932 : k0_chk932 v6648 v6859), ∀ a x, ((![v6648, v6859] : Fin 2 → IVec S16 32) a x).toNat < S160x31.size a := fun v6648 v6859 k0_hw932 => k0_hw932

def k0_chk933 (v6648 : IVec S16 32) (v6862 : IVec S16 32) : Prop :=
  (∀ a x, ((![v6648, v6862] : Fin 2 → IVec S16 32) a x).toNat < S160x39.size a)
theorem k0_idx933_inb : ∀ (v6648 : IVec S16 32) (v6862 : IVec S16 32) (k0_hw933 : k0_chk933 v6648 v6862), ∀ a x, ((![v6648, v6862] : Fin 2 → IVec S16 32) a x).toNat < S160x39.size a := fun v6648 v6862 k0_hw933 => k0_hw933

def k0_chk934 (v6648 : IVec S16 32) (v6866 : IVec S16 32) : Prop :=
  (∀ a x, ((![v6648, v6866] : Fin 2 → IVec S16 32) a x).toNat < S160x31.size a)
theorem k0_idx934_inb : ∀ (v6648 : IVec S16 32) (v6866 : IVec S16 32) (k0_hw934 : k0_chk934 v6648 v6866), ∀ a x, ((![v6648, v6866] : Fin 2 → IVec S16 32) a x).toNat < S160x31.size a := fun v6648 v6866 k0_hw934 => k0_hw934

def k0_chk935 (v6648 : IVec S16 32) (v6869 : IVec S16 32) : Prop :=
  (∀ a x, ((![v6648, v6869] : Fin 2 → IVec S16 32) a x).toNat < S160x39.size a)
theorem k0_idx935_inb : ∀ (v6648 : IVec S16 32) (v6869 : IVec S16 32) (k0_hw935 : k0_chk935 v6648 v6869), ∀ a x, ((![v6648, v6869] : Fin 2 → IVec S16 32) a x).toNat < S160x39.size a := fun v6648 v6869 k0_hw935 => k0_hw935

def k0_chk936 (v6648 : IVec S16 32) (v6873 : IVec S16 32) : Prop :=
  (∀ a x, ((![v6648, v6873] : Fin 2 → IVec S16 32) a x).toNat < S160x31.size a)
theorem k0_idx936_inb : ∀ (v6648 : IVec S16 32) (v6873 : IVec S16 32) (k0_hw936 : k0_chk936 v6648 v6873), ∀ a x, ((![v6648, v6873] : Fin 2 → IVec S16 32) a x).toNat < S160x31.size a := fun v6648 v6873 k0_hw936 => k0_hw936

def k0_chk937 (v6648 : IVec S16 32) (v6876 : IVec S16 32) : Prop :=
  (∀ a x, ((![v6648, v6876] : Fin 2 → IVec S16 32) a x).toNat < S160x39.size a)
theorem k0_idx937_inb : ∀ (v6648 : IVec S16 32) (v6876 : IVec S16 32) (k0_hw937 : k0_chk937 v6648 v6876), ∀ a x, ((![v6648, v6876] : Fin 2 → IVec S16 32) a x).toNat < S160x39.size a := fun v6648 v6876 k0_hw937 => k0_hw937

def k0_chk938 (v6648 : IVec S16 32) (v6880 : IVec S16 32) : Prop :=
  (∀ a x, ((![v6648, v6880] : Fin 2 → IVec S16 32) a x).toNat < S160x31.size a)
theorem k0_idx938_inb : ∀ (v6648 : IVec S16 32) (v6880 : IVec S16 32) (k0_hw938 : k0_chk938 v6648 v6880), ∀ a x, ((![v6648, v6880] : Fin 2 → IVec S16 32) a x).toNat < S160x31.size a := fun v6648 v6880 k0_hw938 => k0_hw938

def k0_chk939 (v6648 : IVec S16 32) (v6883 : IVec S16 32) : Prop :=
  (∀ a x, ((![v6648, v6883] : Fin 2 → IVec S16 32) a x).toNat < S160x39.size a)
theorem k0_idx939_inb : ∀ (v6648 : IVec S16 32) (v6883 : IVec S16 32) (k0_hw939 : k0_chk939 v6648 v6883), ∀ a x, ((![v6648, v6883] : Fin 2 → IVec S16 32) a x).toNat < S160x39.size a := fun v6648 v6883 k0_hw939 => k0_hw939

def k0_chk940 (v6648 : IVec S16 32) (v6887 : IVec S16 32) : Prop :=
  (∀ a x, ((![v6648, v6887] : Fin 2 → IVec S16 32) a x).toNat < S160x31.size a)
theorem k0_idx940_inb : ∀ (v6648 : IVec S16 32) (v6887 : IVec S16 32) (k0_hw940 : k0_chk940 v6648 v6887), ∀ a x, ((![v6648, v6887] : Fin 2 → IVec S16 32) a x).toNat < S160x31.size a := fun v6648 v6887 k0_hw940 => k0_hw940

def k0_chk941 (v6648 : IVec S16 32) (v6890 : IVec S16 32) : Prop :=
  (∀ a x, ((![v6648, v6890] : Fin 2 → IVec S16 32) a x).toNat < S160x39.size a)
theorem k0_idx941_inb : ∀ (v6648 : IVec S16 32) (v6890 : IVec S16 32) (k0_hw941 : k0_chk941 v6648 v6890), ∀ a x, ((![v6648, v6890] : Fin 2 → IVec S16 32) a x).toNat < S160x39.size a := fun v6648 v6890 k0_hw941 => k0_hw941

def k0_chk942 (v6648 : IVec S16 32) (v6894 : IVec S16 32) : Prop :=
  (∀ a x, ((![v6648, v6894] : Fin 2 → IVec S16 32) a x).toNat < S160x31.size a)
theorem k0_idx942_inb : ∀ (v6648 : IVec S16 32) (v6894 : IVec S16 32) (k0_hw942 : k0_chk942 v6648 v6894), ∀ a x, ((![v6648, v6894] : Fin 2 → IVec S16 32) a x).toNat < S160x31.size a := fun v6648 v6894 k0_hw942 => k0_hw942

def k0_chk943 (v6648 : IVec S16 32) (v6897 : IVec S16 32) : Prop :=
  (∀ a x, ((![v6648, v6897] : Fin 2 → IVec S16 32) a x).toNat < S160x39.size a)
theorem k0_idx943_inb : ∀ (v6648 : IVec S16 32) (v6897 : IVec S16 32) (k0_hw943 : k0_chk943 v6648 v6897), ∀ a x, ((![v6648, v6897] : Fin 2 → IVec S16 32) a x).toNat < S160x39.size a := fun v6648 v6897 k0_hw943 => k0_hw943

def k0_chk944 (v6648 : IVec S16 32) (v6901 : IVec S16 32) : Prop :=
  (∀ a x, ((![v6648, v6901] : Fin 2 → IVec S16 32) a x).toNat < S160x31.size a)
theorem k0_idx944_inb : ∀ (v6648 : IVec S16 32) (v6901 : IVec S16 32) (k0_hw944 : k0_chk944 v6648 v6901), ∀ a x, ((![v6648, v6901] : Fin 2 → IVec S16 32) a x).toNat < S160x31.size a := fun v6648 v6901 k0_hw944 => k0_hw944

def k0_chk945 (v6648 : IVec S16 32) (v6904 : IVec S16 32) : Prop :=
  (∀ a x, ((![v6648, v6904] : Fin 2 → IVec S16 32) a x).toNat < S160x39.size a)
theorem k0_idx945_inb : ∀ (v6648 : IVec S16 32) (v6904 : IVec S16 32) (k0_hw945 : k0_chk945 v6648 v6904), ∀ a x, ((![v6648, v6904] : Fin 2 → IVec S16 32) a x).toNat < S160x39.size a := fun v6648 v6904 k0_hw945 => k0_hw945

def k0_chk946 (v6648 : IVec S16 32) (v6908 : IVec S16 32) : Prop :=
  (∀ a x, ((![v6648, v6908] : Fin 2 → IVec S16 32) a x).toNat < S160x31.size a)
theorem k0_idx946_inb : ∀ (v6648 : IVec S16 32) (v6908 : IVec S16 32) (k0_hw946 : k0_chk946 v6648 v6908), ∀ a x, ((![v6648, v6908] : Fin 2 → IVec S16 32) a x).toNat < S160x31.size a := fun v6648 v6908 k0_hw946 => k0_hw946

def k0_chk947 (v6648 : IVec S16 32) (v6911 : IVec S16 32) : Prop :=
  (∀ a x, ((![v6648, v6911] : Fin 2 → IVec S16 32) a x).toNat < S160x39.size a)
theorem k0_idx947_inb : ∀ (v6648 : IVec S16 32) (v6911 : IVec S16 32) (k0_hw947 : k0_chk947 v6648 v6911), ∀ a x, ((![v6648, v6911] : Fin 2 → IVec S16 32) a x).toNat < S160x39.size a := fun v6648 v6911 k0_hw947 => k0_hw947

def k0_chk948 (v6648 : IVec S16 32) (v6915 : IVec S16 32) : Prop :=
  (∀ a x, ((![v6648, v6915] : Fin 2 → IVec S16 32) a x).toNat < S160x31.size a)
theorem k0_idx948_inb : ∀ (v6648 : IVec S16 32) (v6915 : IVec S16 32) (k0_hw948 : k0_chk948 v6648 v6915), ∀ a x, ((![v6648, v6915] : Fin 2 → IVec S16 32) a x).toNat < S160x31.size a := fun v6648 v6915 k0_hw948 => k0_hw948

def k0_chk949 (v6648 : IVec S16 32) (v6918 : IVec S16 32) : Prop :=
  (∀ a x, ((![v6648, v6918] : Fin 2 → IVec S16 32) a x).toNat < S160x39.size a)
theorem k0_idx949_inb : ∀ (v6648 : IVec S16 32) (v6918 : IVec S16 32) (k0_hw949 : k0_chk949 v6648 v6918), ∀ a x, ((![v6648, v6918] : Fin 2 → IVec S16 32) a x).toNat < S160x39.size a := fun v6648 v6918 k0_hw949 => k0_hw949

def k0_chk950 (v6648 : IVec S16 32) (v6922 : IVec S16 32) : Prop :=
  (∀ a x, ((![v6648, v6922] : Fin 2 → IVec S16 32) a x).toNat < S160x31.size a)
theorem k0_idx950_inb : ∀ (v6648 : IVec S16 32) (v6922 : IVec S16 32) (k0_hw950 : k0_chk950 v6648 v6922), ∀ a x, ((![v6648, v6922] : Fin 2 → IVec S16 32) a x).toNat < S160x31.size a := fun v6648 v6922 k0_hw950 => k0_hw950

def k0_chk951 (v6648 : IVec S16 32) (v6925 : IVec S16 32) : Prop :=
  (∀ a x, ((![v6648, v6925] : Fin 2 → IVec S16 32) a x).toNat < S160x39.size a)
theorem k0_idx951_inb : ∀ (v6648 : IVec S16 32) (v6925 : IVec S16 32) (k0_hw951 : k0_chk951 v6648 v6925), ∀ a x, ((![v6648, v6925] : Fin 2 → IVec S16 32) a x).toNat < S160x39.size a := fun v6648 v6925 k0_hw951 => k0_hw951

def k0_chk952 (v6648 : IVec S16 32) (v6929 : IVec S16 32) : Prop :=
  (∀ a x, ((![v6648, v6929] : Fin 2 → IVec S16 32) a x).toNat < S160x31.size a)
theorem k0_idx952_inb : ∀ (v6648 : IVec S16 32) (v6929 : IVec S16 32) (k0_hw952 : k0_chk952 v6648 v6929), ∀ a x, ((![v6648, v6929] : Fin 2 → IVec S16 32) a x).toNat < S160x31.size a := fun v6648 v6929 k0_hw952 => k0_hw952

def k0_chk953 (v6933 : IVec S16 32) (v6934 : IVec S16 32) : Prop :=
  (∀ a x, ((![v6933, v6934] : Fin 2 → IVec S16 32) a x).toNat < S160x39.size a)
theorem k0_idx953_inb : ∀ (v6933 : IVec S16 32) (v6934 : IVec S16 32) (k0_hw953 : k0_chk953 v6933 v6934), ∀ a x, ((![v6933, v6934] : Fin 2 → IVec S16 32) a x).toNat < S160x39.size a := fun v6933 v6934 k0_hw953 => k0_hw953

def k0_chk954 (v6933 : IVec S16 32) (v6938 : IVec S16 32) : Prop :=
  (∀ a x, ((![v6933, v6938] : Fin 2 → IVec S16 32) a x).toNat < S160x39.size a)
theorem k0_idx954_inb : ∀ (v6933 : IVec S16 32) (v6938 : IVec S16 32) (k0_hw954 : k0_chk954 v6933 v6938), ∀ a x, ((![v6933, v6938] : Fin 2 → IVec S16 32) a x).toNat < S160x39.size a := fun v6933 v6938 k0_hw954 => k0_hw954

def k0_chk955 (v6933 : IVec S16 32) (v6942 : IVec S16 32) : Prop :=
  (∀ a x, ((![v6933, v6942] : Fin 2 → IVec S16 32) a x).toNat < S160x39.size a)
theorem k0_idx955_inb : ∀ (v6933 : IVec S16 32) (v6942 : IVec S16 32) (k0_hw955 : k0_chk955 v6933 v6942), ∀ a x, ((![v6933, v6942] : Fin 2 → IVec S16 32) a x).toNat < S160x39.size a := fun v6933 v6942 k0_hw955 => k0_hw955

def k0_chk956 (v6933 : IVec S16 32) (v6946 : IVec S16 32) : Prop :=
  (∀ a x, ((![v6933, v6946] : Fin 2 → IVec S16 32) a x).toNat < S160x39.size a)
theorem k0_idx956_inb : ∀ (v6933 : IVec S16 32) (v6946 : IVec S16 32) (k0_hw956 : k0_chk956 v6933 v6946), ∀ a x, ((![v6933, v6946] : Fin 2 → IVec S16 32) a x).toNat < S160x39.size a := fun v6933 v6946 k0_hw956 => k0_hw956

def k0_chk957 (v6933 : IVec S16 32) (v6951 : IVec S16 32) : Prop :=
  (∀ a x, ((![v6933, v6951] : Fin 2 → IVec S16 32) a x).toNat < S160x39.size a)
theorem k0_idx957_inb : ∀ (v6933 : IVec S16 32) (v6951 : IVec S16 32) (k0_hw957 : k0_chk957 v6933 v6951), ∀ a x, ((![v6933, v6951] : Fin 2 → IVec S16 32) a x).toNat < S160x39.size a := fun v6933 v6951 k0_hw957 => k0_hw957

def k0_chk958 (v6933 : IVec S16 32) (v6955 : IVec S16 32) : Prop :=
  (∀ a x, ((![v6933, v6955] : Fin 2 → IVec S16 32) a x).toNat < S160x39.size a)
theorem k0_idx958_inb : ∀ (v6933 : IVec S16 32) (v6955 : IVec S16 32) (k0_hw958 : k0_chk958 v6933 v6955), ∀ a x, ((![v6933, v6955] : Fin 2 → IVec S16 32) a x).toNat < S160x39.size a := fun v6933 v6955 k0_hw958 => k0_hw958

def k0_chk959 (v6933 : IVec S16 32) (v6960 : IVec S16 32) : Prop :=
  (∀ a x, ((![v6933, v6960] : Fin 2 → IVec S16 32) a x).toNat < S160x39.size a)
theorem k0_idx959_inb : ∀ (v6933 : IVec S16 32) (v6960 : IVec S16 32) (k0_hw959 : k0_chk959 v6933 v6960), ∀ a x, ((![v6933, v6960] : Fin 2 → IVec S16 32) a x).toNat < S160x39.size a := fun v6933 v6960 k0_hw959 => k0_hw959

def k0_chk960 (v6933 : IVec S16 32) (v6968 : IVec S16 32) : Prop :=
  (∀ a x, ((![v6933, v6968] : Fin 2 → IVec S16 32) a x).toNat < S160x39.size a)
theorem k0_idx960_inb : ∀ (v6933 : IVec S16 32) (v6968 : IVec S16 32) (k0_hw960 : k0_chk960 v6933 v6968), ∀ a x, ((![v6933, v6968] : Fin 2 → IVec S16 32) a x).toNat < S160x39.size a := fun v6933 v6968 k0_hw960 => k0_hw960

def k0_chk961 (v6933 : IVec S16 32) (v6976 : IVec S16 32) : Prop :=
  (∀ a x, ((![v6933, v6976] : Fin 2 → IVec S16 32) a x).toNat < S160x31.size a)
theorem k0_idx961_inb : ∀ (v6933 : IVec S16 32) (v6976 : IVec S16 32) (k0_hw961 : k0_chk961 v6933 v6976), ∀ a x, ((![v6933, v6976] : Fin 2 → IVec S16 32) a x).toNat < S160x31.size a := fun v6933 v6976 k0_hw961 => k0_hw961

def k0_chk962 (v6933 : IVec S16 32) (v6979 : IVec S16 32) : Prop :=
  (∀ a x, ((![v6933, v6979] : Fin 2 → IVec S16 32) a x).toNat < S160x31.size a)
theorem k0_idx962_inb : ∀ (v6933 : IVec S16 32) (v6979 : IVec S16 32) (k0_hw962 : k0_chk962 v6933 v6979), ∀ a x, ((![v6933, v6979] : Fin 2 → IVec S16 32) a x).toNat < S160x31.size a := fun v6933 v6979 k0_hw962 => k0_hw962

def k0_chk963 (v6933 : IVec S16 32) (v6982 : IVec S16 32) : Prop :=
  (∀ a x, ((![v6933, v6982] : Fin 2 → IVec S16 32) a x).toNat < S160x39.size a)
theorem k0_idx963_inb : ∀ (v6933 : IVec S16 32) (v6982 : IVec S16 32) (k0_hw963 : k0_chk963 v6933 v6982), ∀ a x, ((![v6933, v6982] : Fin 2 → IVec S16 32) a x).toNat < S160x39.size a := fun v6933 v6982 k0_hw963 => k0_hw963

def k0_chk964 (v6933 : IVec S16 32) (v6990 : IVec S16 32) : Prop :=
  (∀ a x, ((![v6933, v6990] : Fin 2 → IVec S16 32) a x).toNat < S160x39.size a)
theorem k0_idx964_inb : ∀ (v6933 : IVec S16 32) (v6990 : IVec S16 32) (k0_hw964 : k0_chk964 v6933 v6990), ∀ a x, ((![v6933, v6990] : Fin 2 → IVec S16 32) a x).toNat < S160x39.size a := fun v6933 v6990 k0_hw964 => k0_hw964

def k0_chk965 (v6933 : IVec S16 32) (v6998 : IVec S16 32) : Prop :=
  (∀ a x, ((![v6933, v6998] : Fin 2 → IVec S16 32) a x).toNat < S160x31.size a)
theorem k0_idx965_inb : ∀ (v6933 : IVec S16 32) (v6998 : IVec S16 32) (k0_hw965 : k0_chk965 v6933 v6998), ∀ a x, ((![v6933, v6998] : Fin 2 → IVec S16 32) a x).toNat < S160x31.size a := fun v6933 v6998 k0_hw965 => k0_hw965

def k0_chk966 (v6933 : IVec S16 32) (v7001 : IVec S16 32) : Prop :=
  (∀ a x, ((![v6933, v7001] : Fin 2 → IVec S16 32) a x).toNat < S160x31.size a)
theorem k0_idx966_inb : ∀ (v6933 : IVec S16 32) (v7001 : IVec S16 32) (k0_hw966 : k0_chk966 v6933 v7001), ∀ a x, ((![v6933, v7001] : Fin 2 → IVec S16 32) a x).toNat < S160x31.size a := fun v6933 v7001 k0_hw966 => k0_hw966

def k0_chk967 (v6933 : IVec S16 32) (v7004 : IVec S16 32) : Prop :=
  (∀ a x, ((![v6933, v7004] : Fin 2 → IVec S16 32) a x).toNat < S160x39.size a)
theorem k0_idx967_inb : ∀ (v6933 : IVec S16 32) (v7004 : IVec S16 32) (k0_hw967 : k0_chk967 v6933 v7004), ∀ a x, ((![v6933, v7004] : Fin 2 → IVec S16 32) a x).toNat < S160x39.size a := fun v6933 v7004 k0_hw967 => k0_hw967

def k0_chk968 (v6933 : IVec S16 32) (v7012 : IVec S16 32) : Prop :=
  (∀ a x, ((![v6933, v7012] : Fin 2 → IVec S16 32) a x).toNat < S160x39.size a)
theorem k0_idx968_inb : ∀ (v6933 : IVec S16 32) (v7012 : IVec S16 32) (k0_hw968 : k0_chk968 v6933 v7012), ∀ a x, ((![v6933, v7012] : Fin 2 → IVec S16 32) a x).toNat < S160x39.size a := fun v6933 v7012 k0_hw968 => k0_hw968

def k0_chk969 (v6933 : IVec S16 32) (v7020 : IVec S16 32) : Prop :=
  (∀ a x, ((![v6933, v7020] : Fin 2 → IVec S16 32) a x).toNat < S160x31.size a)
theorem k0_idx969_inb : ∀ (v6933 : IVec S16 32) (v7020 : IVec S16 32) (k0_hw969 : k0_chk969 v6933 v7020), ∀ a x, ((![v6933, v7020] : Fin 2 → IVec S16 32) a x).toNat < S160x31.size a := fun v6933 v7020 k0_hw969 => k0_hw969

def k0_chk970 (v6933 : IVec S16 32) (v7023 : IVec S16 32) : Prop :=
  (∀ a x, ((![v6933, v7023] : Fin 2 → IVec S16 32) a x).toNat < S160x31.size a)
theorem k0_idx970_inb : ∀ (v6933 : IVec S16 32) (v7023 : IVec S16 32) (k0_hw970 : k0_chk970 v6933 v7023), ∀ a x, ((![v6933, v7023] : Fin 2 → IVec S16 32) a x).toNat < S160x31.size a := fun v6933 v7023 k0_hw970 => k0_hw970

def k0_chk971 (v6933 : IVec S16 32) (v7026 : IVec S16 32) : Prop :=
  (∀ a x, ((![v6933, v7026] : Fin 2 → IVec S16 32) a x).toNat < S160x39.size a)
theorem k0_idx971_inb : ∀ (v6933 : IVec S16 32) (v7026 : IVec S16 32) (k0_hw971 : k0_chk971 v6933 v7026), ∀ a x, ((![v6933, v7026] : Fin 2 → IVec S16 32) a x).toNat < S160x39.size a := fun v6933 v7026 k0_hw971 => k0_hw971

def k0_chk972 (v6933 : IVec S16 32) (v7034 : IVec S16 32) : Prop :=
  (∀ a x, ((![v6933, v7034] : Fin 2 → IVec S16 32) a x).toNat < S160x39.size a)
theorem k0_idx972_inb : ∀ (v6933 : IVec S16 32) (v7034 : IVec S16 32) (k0_hw972 : k0_chk972 v6933 v7034), ∀ a x, ((![v6933, v7034] : Fin 2 → IVec S16 32) a x).toNat < S160x39.size a := fun v6933 v7034 k0_hw972 => k0_hw972

def k0_chk973 (v6933 : IVec S16 32) (v7042 : IVec S16 32) : Prop :=
  (∀ a x, ((![v6933, v7042] : Fin 2 → IVec S16 32) a x).toNat < S160x31.size a)
theorem k0_idx973_inb : ∀ (v6933 : IVec S16 32) (v7042 : IVec S16 32) (k0_hw973 : k0_chk973 v6933 v7042), ∀ a x, ((![v6933, v7042] : Fin 2 → IVec S16 32) a x).toNat < S160x31.size a := fun v6933 v7042 k0_hw973 => k0_hw973

def k0_chk974 (v6933 : IVec S16 32) (v7045 : IVec S16 32) : Prop :=
  (∀ a x, ((![v6933, v7045] : Fin 2 → IVec S16 32) a x).toNat < S160x31.size a)
theorem k0_idx974_inb : ∀ (v6933 : IVec S16 32) (v7045 : IVec S16 32) (k0_hw974 : k0_chk974 v6933 v7045), ∀ a x, ((![v6933, v7045] : Fin 2 → IVec S16 32) a x).toNat < S160x31.size a := fun v6933 v7045 k0_hw974 => k0_hw974

def k0_chk975 (v6933 : IVec S16 32) (v7048 : IVec S16 32) : Prop :=
  (∀ a x, ((![v6933, v7048] : Fin 2 → IVec S16 32) a x).toNat < S160x39.size a)
theorem k0_idx975_inb : ∀ (v6933 : IVec S16 32) (v7048 : IVec S16 32) (k0_hw975 : k0_chk975 v6933 v7048), ∀ a x, ((![v6933, v7048] : Fin 2 → IVec S16 32) a x).toNat < S160x39.size a := fun v6933 v7048 k0_hw975 => k0_hw975

def k0_chk976 (v6933 : IVec S16 32) (v7056 : IVec S16 32) : Prop :=
  (∀ a x, ((![v6933, v7056] : Fin 2 → IVec S16 32) a x).toNat < S160x39.size a)
theorem k0_idx976_inb : ∀ (v6933 : IVec S16 32) (v7056 : IVec S16 32) (k0_hw976 : k0_chk976 v6933 v7056), ∀ a x, ((![v6933, v7056] : Fin 2 → IVec S16 32) a x).toNat < S160x39.size a := fun v6933 v7056 k0_hw976 => k0_hw976

def k0_chk977 (v6933 : IVec S16 32) (v7064 : IVec S16 32) : Prop :=
  (∀ a x, ((![v6933, v7064] : Fin 2 → IVec S16 32) a x).toNat < S160x31.size a)
theorem k0_idx977_inb : ∀ (v6933 : IVec S16 32) (v7064 : IVec S16 32) (k0_hw977 : k0_chk977 v6933 v7064), ∀ a x, ((![v6933, v7064] : Fin 2 → IVec S16 32) a x).toNat < S160x31.size a := fun v6933 v7064 k0_hw977 => k0_hw977

def k0_chk978 (v6933 : IVec S16 32) (v7067 : IVec S16 32) : Prop :=
  (∀ a x, ((![v6933, v7067] : Fin 2 → IVec S16 32) a x).toNat < S160x31.size a)
theorem k0_idx978_inb : ∀ (v6933 : IVec S16 32) (v7067 : IVec S16 32) (k0_hw978 : k0_chk978 v6933 v7067), ∀ a x, ((![v6933, v7067] : Fin 2 → IVec S16 32) a x).toNat < S160x31.size a := fun v6933 v7067 k0_hw978 => k0_hw978

def k0_chk979 (v6933 : IVec S16 32) (v7070 : IVec S16 32) : Prop :=
  (∀ a x, ((![v6933, v7070] : Fin 2 → IVec S16 32) a x).toNat < S160x39.size a)
theorem k0_idx979_inb : ∀ (v6933 : IVec S16 32) (v7070 : IVec S16 32) (k0_hw979 : k0_chk979 v6933 v7070), ∀ a x, ((![v6933, v7070] : Fin 2 → IVec S16 32) a x).toNat < S160x39.size a := fun v6933 v7070 k0_hw979 => k0_hw979

def k0_chk980 (v6933 : IVec S16 32) (v7074 : IVec S16 32) : Prop :=
  (∀ a x, ((![v6933, v7074] : Fin 2 → IVec S16 32) a x).toNat < S160x31.size a)
theorem k0_idx980_inb : ∀ (v6933 : IVec S16 32) (v7074 : IVec S16 32) (k0_hw980 : k0_chk980 v6933 v7074), ∀ a x, ((![v6933, v7074] : Fin 2 → IVec S16 32) a x).toNat < S160x31.size a := fun v6933 v7074 k0_hw980 => k0_hw980

def k0_chk981 (v6933 : IVec S16 32) (v7077 : IVec S16 32) : Prop :=
  (∀ a x, ((![v6933, v7077] : Fin 2 → IVec S16 32) a x).toNat < S160x39.size a)
theorem k0_idx981_inb : ∀ (v6933 : IVec S16 32) (v7077 : IVec S16 32) (k0_hw981 : k0_chk981 v6933 v7077), ∀ a x, ((![v6933, v7077] : Fin 2 → IVec S16 32) a x).toNat < S160x39.size a := fun v6933 v7077 k0_hw981 => k0_hw981

def k0_chk982 (v6933 : IVec S16 32) (v7081 : IVec S16 32) : Prop :=
  (∀ a x, ((![v6933, v7081] : Fin 2 → IVec S16 32) a x).toNat < S160x31.size a)
theorem k0_idx982_inb : ∀ (v6933 : IVec S16 32) (v7081 : IVec S16 32) (k0_hw982 : k0_chk982 v6933 v7081), ∀ a x, ((![v6933, v7081] : Fin 2 → IVec S16 32) a x).toNat < S160x31.size a := fun v6933 v7081 k0_hw982 => k0_hw982

def k0_chk983 (v6933 : IVec S16 32) (v7084 : IVec S16 32) : Prop :=
  (∀ a x, ((![v6933, v7084] : Fin 2 → IVec S16 32) a x).toNat < S160x39.size a)
theorem k0_idx983_inb : ∀ (v6933 : IVec S16 32) (v7084 : IVec S16 32) (k0_hw983 : k0_chk983 v6933 v7084), ∀ a x, ((![v6933, v7084] : Fin 2 → IVec S16 32) a x).toNat < S160x39.size a := fun v6933 v7084 k0_hw983 => k0_hw983

def k0_chk984 (v6933 : IVec S16 32) (v7088 : IVec S16 32) : Prop :=
  (∀ a x, ((![v6933, v7088] : Fin 2 → IVec S16 32) a x).toNat < S160x31.size a)
theorem k0_idx984_inb : ∀ (v6933 : IVec S16 32) (v7088 : IVec S16 32) (k0_hw984 : k0_chk984 v6933 v7088), ∀ a x, ((![v6933, v7088] : Fin 2 → IVec S16 32) a x).toNat < S160x31.size a := fun v6933 v7088 k0_hw984 => k0_hw984

def k0_chk985 (v6933 : IVec S16 32) (v7091 : IVec S16 32) : Prop :=
  (∀ a x, ((![v6933, v7091] : Fin 2 → IVec S16 32) a x).toNat < S160x39.size a)
theorem k0_idx985_inb : ∀ (v6933 : IVec S16 32) (v7091 : IVec S16 32) (k0_hw985 : k0_chk985 v6933 v7091), ∀ a x, ((![v6933, v7091] : Fin 2 → IVec S16 32) a x).toNat < S160x39.size a := fun v6933 v7091 k0_hw985 => k0_hw985

def k0_chk986 (v6933 : IVec S16 32) (v7095 : IVec S16 32) : Prop :=
  (∀ a x, ((![v6933, v7095] : Fin 2 → IVec S16 32) a x).toNat < S160x31.size a)
theorem k0_idx986_inb : ∀ (v6933 : IVec S16 32) (v7095 : IVec S16 32) (k0_hw986 : k0_chk986 v6933 v7095), ∀ a x, ((![v6933, v7095] : Fin 2 → IVec S16 32) a x).toNat < S160x31.size a := fun v6933 v7095 k0_hw986 => k0_hw986

def k0_chk987 (v6933 : IVec S16 32) (v7098 : IVec S16 32) : Prop :=
  (∀ a x, ((![v6933, v7098] : Fin 2 → IVec S16 32) a x).toNat < S160x39.size a)
theorem k0_idx987_inb : ∀ (v6933 : IVec S16 32) (v7098 : IVec S16 32) (k0_hw987 : k0_chk987 v6933 v7098), ∀ a x, ((![v6933, v7098] : Fin 2 → IVec S16 32) a x).toNat < S160x39.size a := fun v6933 v7098 k0_hw987 => k0_hw987

def k0_chk988 (v6933 : IVec S16 32) (v7102 : IVec S16 32) : Prop :=
  (∀ a x, ((![v6933, v7102] : Fin 2 → IVec S16 32) a x).toNat < S160x31.size a)
theorem k0_idx988_inb : ∀ (v6933 : IVec S16 32) (v7102 : IVec S16 32) (k0_hw988 : k0_chk988 v6933 v7102), ∀ a x, ((![v6933, v7102] : Fin 2 → IVec S16 32) a x).toNat < S160x31.size a := fun v6933 v7102 k0_hw988 => k0_hw988

def k0_chk989 (v6933 : IVec S16 32) (v7105 : IVec S16 32) : Prop :=
  (∀ a x, ((![v6933, v7105] : Fin 2 → IVec S16 32) a x).toNat < S160x39.size a)
theorem k0_idx989_inb : ∀ (v6933 : IVec S16 32) (v7105 : IVec S16 32) (k0_hw989 : k0_chk989 v6933 v7105), ∀ a x, ((![v6933, v7105] : Fin 2 → IVec S16 32) a x).toNat < S160x39.size a := fun v6933 v7105 k0_hw989 => k0_hw989

def k0_chk990 (v6933 : IVec S16 32) (v7109 : IVec S16 32) : Prop :=
  (∀ a x, ((![v6933, v7109] : Fin 2 → IVec S16 32) a x).toNat < S160x31.size a)
theorem k0_idx990_inb : ∀ (v6933 : IVec S16 32) (v7109 : IVec S16 32) (k0_hw990 : k0_chk990 v6933 v7109), ∀ a x, ((![v6933, v7109] : Fin 2 → IVec S16 32) a x).toNat < S160x31.size a := fun v6933 v7109 k0_hw990 => k0_hw990

def k0_chk991 (v6933 : IVec S16 32) (v7112 : IVec S16 32) : Prop :=
  (∀ a x, ((![v6933, v7112] : Fin 2 → IVec S16 32) a x).toNat < S160x39.size a)
theorem k0_idx991_inb : ∀ (v6933 : IVec S16 32) (v7112 : IVec S16 32) (k0_hw991 : k0_chk991 v6933 v7112), ∀ a x, ((![v6933, v7112] : Fin 2 → IVec S16 32) a x).toNat < S160x39.size a := fun v6933 v7112 k0_hw991 => k0_hw991

def k0_chk992 (v6933 : IVec S16 32) (v7116 : IVec S16 32) : Prop :=
  (∀ a x, ((![v6933, v7116] : Fin 2 → IVec S16 32) a x).toNat < S160x31.size a)
theorem k0_idx992_inb : ∀ (v6933 : IVec S16 32) (v7116 : IVec S16 32) (k0_hw992 : k0_chk992 v6933 v7116), ∀ a x, ((![v6933, v7116] : Fin 2 → IVec S16 32) a x).toNat < S160x31.size a := fun v6933 v7116 k0_hw992 => k0_hw992

def k0_chk993 (v6933 : IVec S16 32) (v7119 : IVec S16 32) : Prop :=
  (∀ a x, ((![v6933, v7119] : Fin 2 → IVec S16 32) a x).toNat < S160x39.size a)
theorem k0_idx993_inb : ∀ (v6933 : IVec S16 32) (v7119 : IVec S16 32) (k0_hw993 : k0_chk993 v6933 v7119), ∀ a x, ((![v6933, v7119] : Fin 2 → IVec S16 32) a x).toNat < S160x39.size a := fun v6933 v7119 k0_hw993 => k0_hw993

def k0_chk994 (v6933 : IVec S16 32) (v7123 : IVec S16 32) : Prop :=
  (∀ a x, ((![v6933, v7123] : Fin 2 → IVec S16 32) a x).toNat < S160x31.size a)
theorem k0_idx994_inb : ∀ (v6933 : IVec S16 32) (v7123 : IVec S16 32) (k0_hw994 : k0_chk994 v6933 v7123), ∀ a x, ((![v6933, v7123] : Fin 2 → IVec S16 32) a x).toNat < S160x31.size a := fun v6933 v7123 k0_hw994 => k0_hw994

def k0_chk995 (v6933 : IVec S16 32) (v7126 : IVec S16 32) : Prop :=
  (∀ a x, ((![v6933, v7126] : Fin 2 → IVec S16 32) a x).toNat < S160x39.size a)
theorem k0_idx995_inb : ∀ (v6933 : IVec S16 32) (v7126 : IVec S16 32) (k0_hw995 : k0_chk995 v6933 v7126), ∀ a x, ((![v6933, v7126] : Fin 2 → IVec S16 32) a x).toNat < S160x39.size a := fun v6933 v7126 k0_hw995 => k0_hw995

def k0_chk996 (v6933 : IVec S16 32) (v7130 : IVec S16 32) : Prop :=
  (∀ a x, ((![v6933, v7130] : Fin 2 → IVec S16 32) a x).toNat < S160x31.size a)
theorem k0_idx996_inb : ∀ (v6933 : IVec S16 32) (v7130 : IVec S16 32) (k0_hw996 : k0_chk996 v6933 v7130), ∀ a x, ((![v6933, v7130] : Fin 2 → IVec S16 32) a x).toNat < S160x31.size a := fun v6933 v7130 k0_hw996 => k0_hw996

def k0_chk997 (v6933 : IVec S16 32) (v7133 : IVec S16 32) : Prop :=
  (∀ a x, ((![v6933, v7133] : Fin 2 → IVec S16 32) a x).toNat < S160x39.size a)
theorem k0_idx997_inb : ∀ (v6933 : IVec S16 32) (v7133 : IVec S16 32) (k0_hw997 : k0_chk997 v6933 v7133), ∀ a x, ((![v6933, v7133] : Fin 2 → IVec S16 32) a x).toNat < S160x39.size a := fun v6933 v7133 k0_hw997 => k0_hw997

def k0_chk998 (v6933 : IVec S16 32) (v7137 : IVec S16 32) : Prop :=
  (∀ a x, ((![v6933, v7137] : Fin 2 → IVec S16 32) a x).toNat < S160x31.size a)
theorem k0_idx998_inb : ∀ (v6933 : IVec S16 32) (v7137 : IVec S16 32) (k0_hw998 : k0_chk998 v6933 v7137), ∀ a x, ((![v6933, v7137] : Fin 2 → IVec S16 32) a x).toNat < S160x31.size a := fun v6933 v7137 k0_hw998 => k0_hw998

def k0_chk999 (v6933 : IVec S16 32) (v7140 : IVec S16 32) : Prop :=
  (∀ a x, ((![v6933, v7140] : Fin 2 → IVec S16 32) a x).toNat < S160x39.size a)
theorem k0_idx999_inb : ∀ (v6933 : IVec S16 32) (v7140 : IVec S16 32) (k0_hw999 : k0_chk999 v6933 v7140), ∀ a x, ((![v6933, v7140] : Fin 2 → IVec S16 32) a x).toNat < S160x39.size a := fun v6933 v7140 k0_hw999 => k0_hw999

def k0_chk1000 (v6933 : IVec S16 32) (v7144 : IVec S16 32) : Prop :=
  (∀ a x, ((![v6933, v7144] : Fin 2 → IVec S16 32) a x).toNat < S160x31.size a)
theorem k0_idx1000_inb : ∀ (v6933 : IVec S16 32) (v7144 : IVec S16 32) (k0_hw1000 : k0_chk1000 v6933 v7144), ∀ a x, ((![v6933, v7144] : Fin 2 → IVec S16 32) a x).toNat < S160x31.size a := fun v6933 v7144 k0_hw1000 => k0_hw1000

def k0_chk1001 (v6933 : IVec S16 32) (v7147 : IVec S16 32) : Prop :=
  (∀ a x, ((![v6933, v7147] : Fin 2 → IVec S16 32) a x).toNat < S160x39.size a)
theorem k0_idx1001_inb : ∀ (v6933 : IVec S16 32) (v7147 : IVec S16 32) (k0_hw1001 : k0_chk1001 v6933 v7147), ∀ a x, ((![v6933, v7147] : Fin 2 → IVec S16 32) a x).toNat < S160x39.size a := fun v6933 v7147 k0_hw1001 => k0_hw1001

def k0_chk1002 (v6933 : IVec S16 32) (v7151 : IVec S16 32) : Prop :=
  (∀ a x, ((![v6933, v7151] : Fin 2 → IVec S16 32) a x).toNat < S160x31.size a)
theorem k0_idx1002_inb : ∀ (v6933 : IVec S16 32) (v7151 : IVec S16 32) (k0_hw1002 : k0_chk1002 v6933 v7151), ∀ a x, ((![v6933, v7151] : Fin 2 → IVec S16 32) a x).toNat < S160x31.size a := fun v6933 v7151 k0_hw1002 => k0_hw1002

def k0_chk1003 (v6933 : IVec S16 32) (v7154 : IVec S16 32) : Prop :=
  (∀ a x, ((![v6933, v7154] : Fin 2 → IVec S16 32) a x).toNat < S160x39.size a)
theorem k0_idx1003_inb : ∀ (v6933 : IVec S16 32) (v7154 : IVec S16 32) (k0_hw1003 : k0_chk1003 v6933 v7154), ∀ a x, ((![v6933, v7154] : Fin 2 → IVec S16 32) a x).toNat < S160x39.size a := fun v6933 v7154 k0_hw1003 => k0_hw1003

def k0_chk1004 (v6933 : IVec S16 32) (v7158 : IVec S16 32) : Prop :=
  (∀ a x, ((![v6933, v7158] : Fin 2 → IVec S16 32) a x).toNat < S160x31.size a)
theorem k0_idx1004_inb : ∀ (v6933 : IVec S16 32) (v7158 : IVec S16 32) (k0_hw1004 : k0_chk1004 v6933 v7158), ∀ a x, ((![v6933, v7158] : Fin 2 → IVec S16 32) a x).toNat < S160x31.size a := fun v6933 v7158 k0_hw1004 => k0_hw1004

def k0_chk1005 (v6933 : IVec S16 32) (v7161 : IVec S16 32) : Prop :=
  (∀ a x, ((![v6933, v7161] : Fin 2 → IVec S16 32) a x).toNat < S160x39.size a)
theorem k0_idx1005_inb : ∀ (v6933 : IVec S16 32) (v7161 : IVec S16 32) (k0_hw1005 : k0_chk1005 v6933 v7161), ∀ a x, ((![v6933, v7161] : Fin 2 → IVec S16 32) a x).toNat < S160x39.size a := fun v6933 v7161 k0_hw1005 => k0_hw1005

def k0_chk1006 (v6933 : IVec S16 32) (v7165 : IVec S16 32) : Prop :=
  (∀ a x, ((![v6933, v7165] : Fin 2 → IVec S16 32) a x).toNat < S160x31.size a)
theorem k0_idx1006_inb : ∀ (v6933 : IVec S16 32) (v7165 : IVec S16 32) (k0_hw1006 : k0_chk1006 v6933 v7165), ∀ a x, ((![v6933, v7165] : Fin 2 → IVec S16 32) a x).toNat < S160x31.size a := fun v6933 v7165 k0_hw1006 => k0_hw1006

def k0_chk1007 (v6933 : IVec S16 32) (v7168 : IVec S16 32) : Prop :=
  (∀ a x, ((![v6933, v7168] : Fin 2 → IVec S16 32) a x).toNat < S160x39.size a)
theorem k0_idx1007_inb : ∀ (v6933 : IVec S16 32) (v7168 : IVec S16 32) (k0_hw1007 : k0_chk1007 v6933 v7168), ∀ a x, ((![v6933, v7168] : Fin 2 → IVec S16 32) a x).toNat < S160x39.size a := fun v6933 v7168 k0_hw1007 => k0_hw1007

def k0_chk1008 (v6933 : IVec S16 32) (v7172 : IVec S16 32) : Prop :=
  (∀ a x, ((![v6933, v7172] : Fin 2 → IVec S16 32) a x).toNat < S160x31.size a)
theorem k0_idx1008_inb : ∀ (v6933 : IVec S16 32) (v7172 : IVec S16 32) (k0_hw1008 : k0_chk1008 v6933 v7172), ∀ a x, ((![v6933, v7172] : Fin 2 → IVec S16 32) a x).toNat < S160x31.size a := fun v6933 v7172 k0_hw1008 => k0_hw1008

def k0_chk1009 (v6933 : IVec S16 32) (v7175 : IVec S16 32) : Prop :=
  (∀ a x, ((![v6933, v7175] : Fin 2 → IVec S16 32) a x).toNat < S160x39.size a)
theorem k0_idx1009_inb : ∀ (v6933 : IVec S16 32) (v7175 : IVec S16 32) (k0_hw1009 : k0_chk1009 v6933 v7175), ∀ a x, ((![v6933, v7175] : Fin 2 → IVec S16 32) a x).toNat < S160x39.size a := fun v6933 v7175 k0_hw1009 => k0_hw1009

def k0_chk1010 (v6933 : IVec S16 32) (v7179 : IVec S16 32) : Prop :=
  (∀ a x, ((![v6933, v7179] : Fin 2 → IVec S16 32) a x).toNat < S160x31.size a)
theorem k0_idx1010_inb : ∀ (v6933 : IVec S16 32) (v7179 : IVec S16 32) (k0_hw1010 : k0_chk1010 v6933 v7179), ∀ a x, ((![v6933, v7179] : Fin 2 → IVec S16 32) a x).toNat < S160x31.size a := fun v6933 v7179 k0_hw1010 => k0_hw1010

def k0_chk1011 (v6933 : IVec S16 32) (v7182 : IVec S16 32) : Prop :=
  (∀ a x, ((![v6933, v7182] : Fin 2 → IVec S16 32) a x).toNat < S160x39.size a)
theorem k0_idx1011_inb : ∀ (v6933 : IVec S16 32) (v7182 : IVec S16 32) (k0_hw1011 : k0_chk1011 v6933 v7182), ∀ a x, ((![v6933, v7182] : Fin 2 → IVec S16 32) a x).toNat < S160x39.size a := fun v6933 v7182 k0_hw1011 => k0_hw1011

def k0_chk1012 (v6933 : IVec S16 32) (v7186 : IVec S16 32) : Prop :=
  (∀ a x, ((![v6933, v7186] : Fin 2 → IVec S16 32) a x).toNat < S160x31.size a)
theorem k0_idx1012_inb : ∀ (v6933 : IVec S16 32) (v7186 : IVec S16 32) (k0_hw1012 : k0_chk1012 v6933 v7186), ∀ a x, ((![v6933, v7186] : Fin 2 → IVec S16 32) a x).toNat < S160x31.size a := fun v6933 v7186 k0_hw1012 => k0_hw1012

def k0_chk1013 (v6933 : IVec S16 32) (v7189 : IVec S16 32) : Prop :=
  (∀ a x, ((![v6933, v7189] : Fin 2 → IVec S16 32) a x).toNat < S160x39.size a)
theorem k0_idx1013_inb : ∀ (v6933 : IVec S16 32) (v7189 : IVec S16 32) (k0_hw1013 : k0_chk1013 v6933 v7189), ∀ a x, ((![v6933, v7189] : Fin 2 → IVec S16 32) a x).toNat < S160x39.size a := fun v6933 v7189 k0_hw1013 => k0_hw1013

def k0_chk1014 (v6933 : IVec S16 32) (v7193 : IVec S16 32) : Prop :=
  (∀ a x, ((![v6933, v7193] : Fin 2 → IVec S16 32) a x).toNat < S160x31.size a)
theorem k0_idx1014_inb : ∀ (v6933 : IVec S16 32) (v7193 : IVec S16 32) (k0_hw1014 : k0_chk1014 v6933 v7193), ∀ a x, ((![v6933, v7193] : Fin 2 → IVec S16 32) a x).toNat < S160x31.size a := fun v6933 v7193 k0_hw1014 => k0_hw1014

def k0_chk1015 (v6933 : IVec S16 32) (v7196 : IVec S16 32) : Prop :=
  (∀ a x, ((![v6933, v7196] : Fin 2 → IVec S16 32) a x).toNat < S160x39.size a)
theorem k0_idx1015_inb : ∀ (v6933 : IVec S16 32) (v7196 : IVec S16 32) (k0_hw1015 : k0_chk1015 v6933 v7196), ∀ a x, ((![v6933, v7196] : Fin 2 → IVec S16 32) a x).toNat < S160x39.size a := fun v6933 v7196 k0_hw1015 => k0_hw1015

def k0_chk1016 (v6933 : IVec S16 32) (v7200 : IVec S16 32) : Prop :=
  (∀ a x, ((![v6933, v7200] : Fin 2 → IVec S16 32) a x).toNat < S160x31.size a)
theorem k0_idx1016_inb : ∀ (v6933 : IVec S16 32) (v7200 : IVec S16 32) (k0_hw1016 : k0_chk1016 v6933 v7200), ∀ a x, ((![v6933, v7200] : Fin 2 → IVec S16 32) a x).toNat < S160x31.size a := fun v6933 v7200 k0_hw1016 => k0_hw1016

def k0_chk1017 (v6933 : IVec S16 32) (v7203 : IVec S16 32) : Prop :=
  (∀ a x, ((![v6933, v7203] : Fin 2 → IVec S16 32) a x).toNat < S160x39.size a)
theorem k0_idx1017_inb : ∀ (v6933 : IVec S16 32) (v7203 : IVec S16 32) (k0_hw1017 : k0_chk1017 v6933 v7203), ∀ a x, ((![v6933, v7203] : Fin 2 → IVec S16 32) a x).toNat < S160x39.size a := fun v6933 v7203 k0_hw1017 => k0_hw1017

def k0_chk1018 (v6933 : IVec S16 32) (v7207 : IVec S16 32) : Prop :=
  (∀ a x, ((![v6933, v7207] : Fin 2 → IVec S16 32) a x).toNat < S160x31.size a)
theorem k0_idx1018_inb : ∀ (v6933 : IVec S16 32) (v7207 : IVec S16 32) (k0_hw1018 : k0_chk1018 v6933 v7207), ∀ a x, ((![v6933, v7207] : Fin 2 → IVec S16 32) a x).toNat < S160x31.size a := fun v6933 v7207 k0_hw1018 => k0_hw1018

def k0_chk1019 (v6933 : IVec S16 32) (v7210 : IVec S16 32) : Prop :=
  (∀ a x, ((![v6933, v7210] : Fin 2 → IVec S16 32) a x).toNat < S160x39.size a)
theorem k0_idx1019_inb : ∀ (v6933 : IVec S16 32) (v7210 : IVec S16 32) (k0_hw1019 : k0_chk1019 v6933 v7210), ∀ a x, ((![v6933, v7210] : Fin 2 → IVec S16 32) a x).toNat < S160x39.size a := fun v6933 v7210 k0_hw1019 => k0_hw1019

def k0_chk1020 (v6933 : IVec S16 32) (v7214 : IVec S16 32) : Prop :=
  (∀ a x, ((![v6933, v7214] : Fin 2 → IVec S16 32) a x).toNat < S160x31.size a)
theorem k0_idx1020_inb : ∀ (v6933 : IVec S16 32) (v7214 : IVec S16 32) (k0_hw1020 : k0_chk1020 v6933 v7214), ∀ a x, ((![v6933, v7214] : Fin 2 → IVec S16 32) a x).toNat < S160x31.size a := fun v6933 v7214 k0_hw1020 => k0_hw1020

def k0_chk1021 (v7218 : IVec S16 32) (v7219 : IVec S16 32) : Prop :=
  (∀ a x, ((![v7218, v7219] : Fin 2 → IVec S16 32) a x).toNat < S160x39.size a)
theorem k0_idx1021_inb : ∀ (v7218 : IVec S16 32) (v7219 : IVec S16 32) (k0_hw1021 : k0_chk1021 v7218 v7219), ∀ a x, ((![v7218, v7219] : Fin 2 → IVec S16 32) a x).toNat < S160x39.size a := fun v7218 v7219 k0_hw1021 => k0_hw1021

def k0_chk1022 (v7218 : IVec S16 32) (v7223 : IVec S16 32) : Prop :=
  (∀ a x, ((![v7218, v7223] : Fin 2 → IVec S16 32) a x).toNat < S160x39.size a)
theorem k0_idx1022_inb : ∀ (v7218 : IVec S16 32) (v7223 : IVec S16 32) (k0_hw1022 : k0_chk1022 v7218 v7223), ∀ a x, ((![v7218, v7223] : Fin 2 → IVec S16 32) a x).toNat < S160x39.size a := fun v7218 v7223 k0_hw1022 => k0_hw1022

def k0_chk1023 (v7218 : IVec S16 32) (v7227 : IVec S16 32) : Prop :=
  (∀ a x, ((![v7218, v7227] : Fin 2 → IVec S16 32) a x).toNat < S160x39.size a)
theorem k0_idx1023_inb : ∀ (v7218 : IVec S16 32) (v7227 : IVec S16 32) (k0_hw1023 : k0_chk1023 v7218 v7227), ∀ a x, ((![v7218, v7227] : Fin 2 → IVec S16 32) a x).toNat < S160x39.size a := fun v7218 v7227 k0_hw1023 => k0_hw1023

def k0_chk1024 (v7218 : IVec S16 32) (v7231 : IVec S16 32) : Prop :=
  (∀ a x, ((![v7218, v7231] : Fin 2 → IVec S16 32) a x).toNat < S160x39.size a)
theorem k0_idx1024_inb : ∀ (v7218 : IVec S16 32) (v7231 : IVec S16 32) (k0_hw1024 : k0_chk1024 v7218 v7231), ∀ a x, ((![v7218, v7231] : Fin 2 → IVec S16 32) a x).toNat < S160x39.size a := fun v7218 v7231 k0_hw1024 => k0_hw1024

def k0_chk1025 (v7218 : IVec S16 32) (v7236 : IVec S16 32) : Prop :=
  (∀ a x, ((![v7218, v7236] : Fin 2 → IVec S16 32) a x).toNat < S160x39.size a)
theorem k0_idx1025_inb : ∀ (v7218 : IVec S16 32) (v7236 : IVec S16 32) (k0_hw1025 : k0_chk1025 v7218 v7236), ∀ a x, ((![v7218, v7236] : Fin 2 → IVec S16 32) a x).toNat < S160x39.size a := fun v7218 v7236 k0_hw1025 => k0_hw1025

def k0_chk1026 (v7218 : IVec S16 32) (v7240 : IVec S16 32) : Prop :=
  (∀ a x, ((![v7218, v7240] : Fin 2 → IVec S16 32) a x).toNat < S160x39.size a)
theorem k0_idx1026_inb : ∀ (v7218 : IVec S16 32) (v7240 : IVec S16 32) (k0_hw1026 : k0_chk1026 v7218 v7240), ∀ a x, ((![v7218, v7240] : Fin 2 → IVec S16 32) a x).toNat < S160x39.size a := fun v7218 v7240 k0_hw1026 => k0_hw1026

def k0_chk1027 (v7218 : IVec S16 32) (v7245 : IVec S16 32) : Prop :=
  (∀ a x, ((![v7218, v7245] : Fin 2 → IVec S16 32) a x).toNat < S160x39.size a)
theorem k0_idx1027_inb : ∀ (v7218 : IVec S16 32) (v7245 : IVec S16 32) (k0_hw1027 : k0_chk1027 v7218 v7245), ∀ a x, ((![v7218, v7245] : Fin 2 → IVec S16 32) a x).toNat < S160x39.size a := fun v7218 v7245 k0_hw1027 => k0_hw1027

def k0_chk1028 (v7218 : IVec S16 32) (v7253 : IVec S16 32) : Prop :=
  (∀ a x, ((![v7218, v7253] : Fin 2 → IVec S16 32) a x).toNat < S160x39.size a)
theorem k0_idx1028_inb : ∀ (v7218 : IVec S16 32) (v7253 : IVec S16 32) (k0_hw1028 : k0_chk1028 v7218 v7253), ∀ a x, ((![v7218, v7253] : Fin 2 → IVec S16 32) a x).toNat < S160x39.size a := fun v7218 v7253 k0_hw1028 => k0_hw1028

def k0_chk1029 (v7218 : IVec S16 32) (v7261 : IVec S16 32) : Prop :=
  (∀ a x, ((![v7218, v7261] : Fin 2 → IVec S16 32) a x).toNat < S160x31.size a)
theorem k0_idx1029_inb : ∀ (v7218 : IVec S16 32) (v7261 : IVec S16 32) (k0_hw1029 : k0_chk1029 v7218 v7261), ∀ a x, ((![v7218, v7261] : Fin 2 → IVec S16 32) a x).toNat < S160x31.size a := fun v7218 v7261 k0_hw1029 => k0_hw1029

def k0_chk1030 (v7218 : IVec S16 32) (v7264 : IVec S16 32) : Prop :=
  (∀ a x, ((![v7218, v7264] : Fin 2 → IVec S16 32) a x).toNat < S160x31.size a)
theorem k0_idx1030_inb : ∀ (v7218 : IVec S16 32) (v7264 : IVec S16 32) (k0_hw1030 : k0_chk1030 v7218 v7264), ∀ a x, ((![v7218, v7264] : Fin 2 → IVec S16 32) a x).toNat < S160x31.size a := fun v7218 v7264 k0_hw1030 => k0_hw1030

def k0_chk1031 (v7218 : IVec S16 32) (v7267 : IVec S16 32) : Prop :=
  (∀ a x, ((![v7218, v7267] : Fin 2 → IVec S16 32) a x).toNat < S160x39.size a)
theorem k0_idx1031_inb : ∀ (v7218 : IVec S16 32) (v7267 : IVec S16 32) (k0_hw1031 : k0_chk1031 v7218 v7267), ∀ a x, ((![v7218, v7267] : Fin 2 → IVec S16 32) a x).toNat < S160x39.size a := fun v7218 v7267 k0_hw1031 => k0_hw1031

def k0_chk1032 (v7218 : IVec S16 32) (v7275 : IVec S16 32) : Prop :=
  (∀ a x, ((![v7218, v7275] : Fin 2 → IVec S16 32) a x).toNat < S160x39.size a)
theorem k0_idx1032_inb : ∀ (v7218 : IVec S16 32) (v7275 : IVec S16 32) (k0_hw1032 : k0_chk1032 v7218 v7275), ∀ a x, ((![v7218, v7275] : Fin 2 → IVec S16 32) a x).toNat < S160x39.size a := fun v7218 v7275 k0_hw1032 => k0_hw1032

def k0_chk1033 (v7218 : IVec S16 32) (v7283 : IVec S16 32) : Prop :=
  (∀ a x, ((![v7218, v7283] : Fin 2 → IVec S16 32) a x).toNat < S160x31.size a)
theorem k0_idx1033_inb : ∀ (v7218 : IVec S16 32) (v7283 : IVec S16 32) (k0_hw1033 : k0_chk1033 v7218 v7283), ∀ a x, ((![v7218, v7283] : Fin 2 → IVec S16 32) a x).toNat < S160x31.size a := fun v7218 v7283 k0_hw1033 => k0_hw1033

def k0_chk1034 (v7218 : IVec S16 32) (v7286 : IVec S16 32) : Prop :=
  (∀ a x, ((![v7218, v7286] : Fin 2 → IVec S16 32) a x).toNat < S160x31.size a)
theorem k0_idx1034_inb : ∀ (v7218 : IVec S16 32) (v7286 : IVec S16 32) (k0_hw1034 : k0_chk1034 v7218 v7286), ∀ a x, ((![v7218, v7286] : Fin 2 → IVec S16 32) a x).toNat < S160x31.size a := fun v7218 v7286 k0_hw1034 => k0_hw1034

def k0_chk1035 (v7218 : IVec S16 32) (v7289 : IVec S16 32) : Prop :=
  (∀ a x, ((![v7218, v7289] : Fin 2 → IVec S16 32) a x).toNat < S160x39.size a)
theorem k0_idx1035_inb : ∀ (v7218 : IVec S16 32) (v7289 : IVec S16 32) (k0_hw1035 : k0_chk1035 v7218 v7289), ∀ a x, ((![v7218, v7289] : Fin 2 → IVec S16 32) a x).toNat < S160x39.size a := fun v7218 v7289 k0_hw1035 => k0_hw1035

def k0_chk1036 (v7218 : IVec S16 32) (v7297 : IVec S16 32) : Prop :=
  (∀ a x, ((![v7218, v7297] : Fin 2 → IVec S16 32) a x).toNat < S160x39.size a)
theorem k0_idx1036_inb : ∀ (v7218 : IVec S16 32) (v7297 : IVec S16 32) (k0_hw1036 : k0_chk1036 v7218 v7297), ∀ a x, ((![v7218, v7297] : Fin 2 → IVec S16 32) a x).toNat < S160x39.size a := fun v7218 v7297 k0_hw1036 => k0_hw1036

def k0_chk1037 (v7218 : IVec S16 32) (v7305 : IVec S16 32) : Prop :=
  (∀ a x, ((![v7218, v7305] : Fin 2 → IVec S16 32) a x).toNat < S160x31.size a)
theorem k0_idx1037_inb : ∀ (v7218 : IVec S16 32) (v7305 : IVec S16 32) (k0_hw1037 : k0_chk1037 v7218 v7305), ∀ a x, ((![v7218, v7305] : Fin 2 → IVec S16 32) a x).toNat < S160x31.size a := fun v7218 v7305 k0_hw1037 => k0_hw1037

def k0_chk1038 (v7218 : IVec S16 32) (v7308 : IVec S16 32) : Prop :=
  (∀ a x, ((![v7218, v7308] : Fin 2 → IVec S16 32) a x).toNat < S160x31.size a)
theorem k0_idx1038_inb : ∀ (v7218 : IVec S16 32) (v7308 : IVec S16 32) (k0_hw1038 : k0_chk1038 v7218 v7308), ∀ a x, ((![v7218, v7308] : Fin 2 → IVec S16 32) a x).toNat < S160x31.size a := fun v7218 v7308 k0_hw1038 => k0_hw1038

def k0_chk1039 (v7218 : IVec S16 32) (v7311 : IVec S16 32) : Prop :=
  (∀ a x, ((![v7218, v7311] : Fin 2 → IVec S16 32) a x).toNat < S160x39.size a)
theorem k0_idx1039_inb : ∀ (v7218 : IVec S16 32) (v7311 : IVec S16 32) (k0_hw1039 : k0_chk1039 v7218 v7311), ∀ a x, ((![v7218, v7311] : Fin 2 → IVec S16 32) a x).toNat < S160x39.size a := fun v7218 v7311 k0_hw1039 => k0_hw1039

def k0_chk1040 (v7218 : IVec S16 32) (v7319 : IVec S16 32) : Prop :=
  (∀ a x, ((![v7218, v7319] : Fin 2 → IVec S16 32) a x).toNat < S160x39.size a)
theorem k0_idx1040_inb : ∀ (v7218 : IVec S16 32) (v7319 : IVec S16 32) (k0_hw1040 : k0_chk1040 v7218 v7319), ∀ a x, ((![v7218, v7319] : Fin 2 → IVec S16 32) a x).toNat < S160x39.size a := fun v7218 v7319 k0_hw1040 => k0_hw1040

def k0_chk1041 (v7218 : IVec S16 32) (v7327 : IVec S16 32) : Prop :=
  (∀ a x, ((![v7218, v7327] : Fin 2 → IVec S16 32) a x).toNat < S160x31.size a)
theorem k0_idx1041_inb : ∀ (v7218 : IVec S16 32) (v7327 : IVec S16 32) (k0_hw1041 : k0_chk1041 v7218 v7327), ∀ a x, ((![v7218, v7327] : Fin 2 → IVec S16 32) a x).toNat < S160x31.size a := fun v7218 v7327 k0_hw1041 => k0_hw1041

def k0_chk1042 (v7218 : IVec S16 32) (v7330 : IVec S16 32) : Prop :=
  (∀ a x, ((![v7218, v7330] : Fin 2 → IVec S16 32) a x).toNat < S160x31.size a)
theorem k0_idx1042_inb : ∀ (v7218 : IVec S16 32) (v7330 : IVec S16 32) (k0_hw1042 : k0_chk1042 v7218 v7330), ∀ a x, ((![v7218, v7330] : Fin 2 → IVec S16 32) a x).toNat < S160x31.size a := fun v7218 v7330 k0_hw1042 => k0_hw1042

def k0_chk1043 (v7218 : IVec S16 32) (v7333 : IVec S16 32) : Prop :=
  (∀ a x, ((![v7218, v7333] : Fin 2 → IVec S16 32) a x).toNat < S160x39.size a)
theorem k0_idx1043_inb : ∀ (v7218 : IVec S16 32) (v7333 : IVec S16 32) (k0_hw1043 : k0_chk1043 v7218 v7333), ∀ a x, ((![v7218, v7333] : Fin 2 → IVec S16 32) a x).toNat < S160x39.size a := fun v7218 v7333 k0_hw1043 => k0_hw1043

def k0_chk1044 (v7218 : IVec S16 32) (v7341 : IVec S16 32) : Prop :=
  (∀ a x, ((![v7218, v7341] : Fin 2 → IVec S16 32) a x).toNat < S160x39.size a)
theorem k0_idx1044_inb : ∀ (v7218 : IVec S16 32) (v7341 : IVec S16 32) (k0_hw1044 : k0_chk1044 v7218 v7341), ∀ a x, ((![v7218, v7341] : Fin 2 → IVec S16 32) a x).toNat < S160x39.size a := fun v7218 v7341 k0_hw1044 => k0_hw1044

def k0_chk1045 (v7218 : IVec S16 32) (v7349 : IVec S16 32) : Prop :=
  (∀ a x, ((![v7218, v7349] : Fin 2 → IVec S16 32) a x).toNat < S160x31.size a)
theorem k0_idx1045_inb : ∀ (v7218 : IVec S16 32) (v7349 : IVec S16 32) (k0_hw1045 : k0_chk1045 v7218 v7349), ∀ a x, ((![v7218, v7349] : Fin 2 → IVec S16 32) a x).toNat < S160x31.size a := fun v7218 v7349 k0_hw1045 => k0_hw1045

def k0_chk1046 (v7218 : IVec S16 32) (v7352 : IVec S16 32) : Prop :=
  (∀ a x, ((![v7218, v7352] : Fin 2 → IVec S16 32) a x).toNat < S160x31.size a)
theorem k0_idx1046_inb : ∀ (v7218 : IVec S16 32) (v7352 : IVec S16 32) (k0_hw1046 : k0_chk1046 v7218 v7352), ∀ a x, ((![v7218, v7352] : Fin 2 → IVec S16 32) a x).toNat < S160x31.size a := fun v7218 v7352 k0_hw1046 => k0_hw1046

def k0_chk1047 (v7218 : IVec S16 32) (v7355 : IVec S16 32) : Prop :=
  (∀ a x, ((![v7218, v7355] : Fin 2 → IVec S16 32) a x).toNat < S160x39.size a)
theorem k0_idx1047_inb : ∀ (v7218 : IVec S16 32) (v7355 : IVec S16 32) (k0_hw1047 : k0_chk1047 v7218 v7355), ∀ a x, ((![v7218, v7355] : Fin 2 → IVec S16 32) a x).toNat < S160x39.size a := fun v7218 v7355 k0_hw1047 => k0_hw1047

def k0_chk1048 (v7218 : IVec S16 32) (v7359 : IVec S16 32) : Prop :=
  (∀ a x, ((![v7218, v7359] : Fin 2 → IVec S16 32) a x).toNat < S160x31.size a)
theorem k0_idx1048_inb : ∀ (v7218 : IVec S16 32) (v7359 : IVec S16 32) (k0_hw1048 : k0_chk1048 v7218 v7359), ∀ a x, ((![v7218, v7359] : Fin 2 → IVec S16 32) a x).toNat < S160x31.size a := fun v7218 v7359 k0_hw1048 => k0_hw1048

def k0_chk1049 (v7218 : IVec S16 32) (v7362 : IVec S16 32) : Prop :=
  (∀ a x, ((![v7218, v7362] : Fin 2 → IVec S16 32) a x).toNat < S160x39.size a)
theorem k0_idx1049_inb : ∀ (v7218 : IVec S16 32) (v7362 : IVec S16 32) (k0_hw1049 : k0_chk1049 v7218 v7362), ∀ a x, ((![v7218, v7362] : Fin 2 → IVec S16 32) a x).toNat < S160x39.size a := fun v7218 v7362 k0_hw1049 => k0_hw1049

def k0_chk1050 (v7218 : IVec S16 32) (v7366 : IVec S16 32) : Prop :=
  (∀ a x, ((![v7218, v7366] : Fin 2 → IVec S16 32) a x).toNat < S160x31.size a)
theorem k0_idx1050_inb : ∀ (v7218 : IVec S16 32) (v7366 : IVec S16 32) (k0_hw1050 : k0_chk1050 v7218 v7366), ∀ a x, ((![v7218, v7366] : Fin 2 → IVec S16 32) a x).toNat < S160x31.size a := fun v7218 v7366 k0_hw1050 => k0_hw1050

def k0_chk1051 (v7218 : IVec S16 32) (v7369 : IVec S16 32) : Prop :=
  (∀ a x, ((![v7218, v7369] : Fin 2 → IVec S16 32) a x).toNat < S160x39.size a)
theorem k0_idx1051_inb : ∀ (v7218 : IVec S16 32) (v7369 : IVec S16 32) (k0_hw1051 : k0_chk1051 v7218 v7369), ∀ a x, ((![v7218, v7369] : Fin 2 → IVec S16 32) a x).toNat < S160x39.size a := fun v7218 v7369 k0_hw1051 => k0_hw1051

def k0_chk1052 (v7218 : IVec S16 32) (v7373 : IVec S16 32) : Prop :=
  (∀ a x, ((![v7218, v7373] : Fin 2 → IVec S16 32) a x).toNat < S160x31.size a)
theorem k0_idx1052_inb : ∀ (v7218 : IVec S16 32) (v7373 : IVec S16 32) (k0_hw1052 : k0_chk1052 v7218 v7373), ∀ a x, ((![v7218, v7373] : Fin 2 → IVec S16 32) a x).toNat < S160x31.size a := fun v7218 v7373 k0_hw1052 => k0_hw1052

def k0_chk1053 (v7218 : IVec S16 32) (v7376 : IVec S16 32) : Prop :=
  (∀ a x, ((![v7218, v7376] : Fin 2 → IVec S16 32) a x).toNat < S160x39.size a)
theorem k0_idx1053_inb : ∀ (v7218 : IVec S16 32) (v7376 : IVec S16 32) (k0_hw1053 : k0_chk1053 v7218 v7376), ∀ a x, ((![v7218, v7376] : Fin 2 → IVec S16 32) a x).toNat < S160x39.size a := fun v7218 v7376 k0_hw1053 => k0_hw1053

def k0_chk1054 (v7218 : IVec S16 32) (v7380 : IVec S16 32) : Prop :=
  (∀ a x, ((![v7218, v7380] : Fin 2 → IVec S16 32) a x).toNat < S160x31.size a)
theorem k0_idx1054_inb : ∀ (v7218 : IVec S16 32) (v7380 : IVec S16 32) (k0_hw1054 : k0_chk1054 v7218 v7380), ∀ a x, ((![v7218, v7380] : Fin 2 → IVec S16 32) a x).toNat < S160x31.size a := fun v7218 v7380 k0_hw1054 => k0_hw1054

def k0_chk1055 (v7218 : IVec S16 32) (v7383 : IVec S16 32) : Prop :=
  (∀ a x, ((![v7218, v7383] : Fin 2 → IVec S16 32) a x).toNat < S160x39.size a)
theorem k0_idx1055_inb : ∀ (v7218 : IVec S16 32) (v7383 : IVec S16 32) (k0_hw1055 : k0_chk1055 v7218 v7383), ∀ a x, ((![v7218, v7383] : Fin 2 → IVec S16 32) a x).toNat < S160x39.size a := fun v7218 v7383 k0_hw1055 => k0_hw1055

def k0_chk1056 (v7218 : IVec S16 32) (v7387 : IVec S16 32) : Prop :=
  (∀ a x, ((![v7218, v7387] : Fin 2 → IVec S16 32) a x).toNat < S160x31.size a)
theorem k0_idx1056_inb : ∀ (v7218 : IVec S16 32) (v7387 : IVec S16 32) (k0_hw1056 : k0_chk1056 v7218 v7387), ∀ a x, ((![v7218, v7387] : Fin 2 → IVec S16 32) a x).toNat < S160x31.size a := fun v7218 v7387 k0_hw1056 => k0_hw1056

def k0_chk1057 (v7218 : IVec S16 32) (v7390 : IVec S16 32) : Prop :=
  (∀ a x, ((![v7218, v7390] : Fin 2 → IVec S16 32) a x).toNat < S160x39.size a)
theorem k0_idx1057_inb : ∀ (v7218 : IVec S16 32) (v7390 : IVec S16 32) (k0_hw1057 : k0_chk1057 v7218 v7390), ∀ a x, ((![v7218, v7390] : Fin 2 → IVec S16 32) a x).toNat < S160x39.size a := fun v7218 v7390 k0_hw1057 => k0_hw1057

def k0_chk1058 (v7218 : IVec S16 32) (v7394 : IVec S16 32) : Prop :=
  (∀ a x, ((![v7218, v7394] : Fin 2 → IVec S16 32) a x).toNat < S160x31.size a)
theorem k0_idx1058_inb : ∀ (v7218 : IVec S16 32) (v7394 : IVec S16 32) (k0_hw1058 : k0_chk1058 v7218 v7394), ∀ a x, ((![v7218, v7394] : Fin 2 → IVec S16 32) a x).toNat < S160x31.size a := fun v7218 v7394 k0_hw1058 => k0_hw1058

def k0_chk1059 (v7218 : IVec S16 32) (v7397 : IVec S16 32) : Prop :=
  (∀ a x, ((![v7218, v7397] : Fin 2 → IVec S16 32) a x).toNat < S160x39.size a)
theorem k0_idx1059_inb : ∀ (v7218 : IVec S16 32) (v7397 : IVec S16 32) (k0_hw1059 : k0_chk1059 v7218 v7397), ∀ a x, ((![v7218, v7397] : Fin 2 → IVec S16 32) a x).toNat < S160x39.size a := fun v7218 v7397 k0_hw1059 => k0_hw1059

def k0_chk1060 (v7218 : IVec S16 32) (v7401 : IVec S16 32) : Prop :=
  (∀ a x, ((![v7218, v7401] : Fin 2 → IVec S16 32) a x).toNat < S160x31.size a)
theorem k0_idx1060_inb : ∀ (v7218 : IVec S16 32) (v7401 : IVec S16 32) (k0_hw1060 : k0_chk1060 v7218 v7401), ∀ a x, ((![v7218, v7401] : Fin 2 → IVec S16 32) a x).toNat < S160x31.size a := fun v7218 v7401 k0_hw1060 => k0_hw1060

def k0_chk1061 (v7218 : IVec S16 32) (v7404 : IVec S16 32) : Prop :=
  (∀ a x, ((![v7218, v7404] : Fin 2 → IVec S16 32) a x).toNat < S160x39.size a)
theorem k0_idx1061_inb : ∀ (v7218 : IVec S16 32) (v7404 : IVec S16 32) (k0_hw1061 : k0_chk1061 v7218 v7404), ∀ a x, ((![v7218, v7404] : Fin 2 → IVec S16 32) a x).toNat < S160x39.size a := fun v7218 v7404 k0_hw1061 => k0_hw1061

def k0_chk1062 (v7218 : IVec S16 32) (v7408 : IVec S16 32) : Prop :=
  (∀ a x, ((![v7218, v7408] : Fin 2 → IVec S16 32) a x).toNat < S160x31.size a)
theorem k0_idx1062_inb : ∀ (v7218 : IVec S16 32) (v7408 : IVec S16 32) (k0_hw1062 : k0_chk1062 v7218 v7408), ∀ a x, ((![v7218, v7408] : Fin 2 → IVec S16 32) a x).toNat < S160x31.size a := fun v7218 v7408 k0_hw1062 => k0_hw1062

def k0_chk1063 (v7218 : IVec S16 32) (v7411 : IVec S16 32) : Prop :=
  (∀ a x, ((![v7218, v7411] : Fin 2 → IVec S16 32) a x).toNat < S160x39.size a)
theorem k0_idx1063_inb : ∀ (v7218 : IVec S16 32) (v7411 : IVec S16 32) (k0_hw1063 : k0_chk1063 v7218 v7411), ∀ a x, ((![v7218, v7411] : Fin 2 → IVec S16 32) a x).toNat < S160x39.size a := fun v7218 v7411 k0_hw1063 => k0_hw1063

def k0_chk1064 (v7218 : IVec S16 32) (v7415 : IVec S16 32) : Prop :=
  (∀ a x, ((![v7218, v7415] : Fin 2 → IVec S16 32) a x).toNat < S160x31.size a)
theorem k0_idx1064_inb : ∀ (v7218 : IVec S16 32) (v7415 : IVec S16 32) (k0_hw1064 : k0_chk1064 v7218 v7415), ∀ a x, ((![v7218, v7415] : Fin 2 → IVec S16 32) a x).toNat < S160x31.size a := fun v7218 v7415 k0_hw1064 => k0_hw1064

def k0_chk1065 (v7218 : IVec S16 32) (v7418 : IVec S16 32) : Prop :=
  (∀ a x, ((![v7218, v7418] : Fin 2 → IVec S16 32) a x).toNat < S160x39.size a)
theorem k0_idx1065_inb : ∀ (v7218 : IVec S16 32) (v7418 : IVec S16 32) (k0_hw1065 : k0_chk1065 v7218 v7418), ∀ a x, ((![v7218, v7418] : Fin 2 → IVec S16 32) a x).toNat < S160x39.size a := fun v7218 v7418 k0_hw1065 => k0_hw1065

def k0_chk1066 (v7218 : IVec S16 32) (v7422 : IVec S16 32) : Prop :=
  (∀ a x, ((![v7218, v7422] : Fin 2 → IVec S16 32) a x).toNat < S160x31.size a)
theorem k0_idx1066_inb : ∀ (v7218 : IVec S16 32) (v7422 : IVec S16 32) (k0_hw1066 : k0_chk1066 v7218 v7422), ∀ a x, ((![v7218, v7422] : Fin 2 → IVec S16 32) a x).toNat < S160x31.size a := fun v7218 v7422 k0_hw1066 => k0_hw1066

def k0_chk1067 (v7218 : IVec S16 32) (v7425 : IVec S16 32) : Prop :=
  (∀ a x, ((![v7218, v7425] : Fin 2 → IVec S16 32) a x).toNat < S160x39.size a)
theorem k0_idx1067_inb : ∀ (v7218 : IVec S16 32) (v7425 : IVec S16 32) (k0_hw1067 : k0_chk1067 v7218 v7425), ∀ a x, ((![v7218, v7425] : Fin 2 → IVec S16 32) a x).toNat < S160x39.size a := fun v7218 v7425 k0_hw1067 => k0_hw1067

def k0_chk1068 (v7218 : IVec S16 32) (v7429 : IVec S16 32) : Prop :=
  (∀ a x, ((![v7218, v7429] : Fin 2 → IVec S16 32) a x).toNat < S160x31.size a)
theorem k0_idx1068_inb : ∀ (v7218 : IVec S16 32) (v7429 : IVec S16 32) (k0_hw1068 : k0_chk1068 v7218 v7429), ∀ a x, ((![v7218, v7429] : Fin 2 → IVec S16 32) a x).toNat < S160x31.size a := fun v7218 v7429 k0_hw1068 => k0_hw1068

def k0_chk1069 (v7218 : IVec S16 32) (v7432 : IVec S16 32) : Prop :=
  (∀ a x, ((![v7218, v7432] : Fin 2 → IVec S16 32) a x).toNat < S160x39.size a)
theorem k0_idx1069_inb : ∀ (v7218 : IVec S16 32) (v7432 : IVec S16 32) (k0_hw1069 : k0_chk1069 v7218 v7432), ∀ a x, ((![v7218, v7432] : Fin 2 → IVec S16 32) a x).toNat < S160x39.size a := fun v7218 v7432 k0_hw1069 => k0_hw1069

def k0_chk1070 (v7218 : IVec S16 32) (v7436 : IVec S16 32) : Prop :=
  (∀ a x, ((![v7218, v7436] : Fin 2 → IVec S16 32) a x).toNat < S160x31.size a)
theorem k0_idx1070_inb : ∀ (v7218 : IVec S16 32) (v7436 : IVec S16 32) (k0_hw1070 : k0_chk1070 v7218 v7436), ∀ a x, ((![v7218, v7436] : Fin 2 → IVec S16 32) a x).toNat < S160x31.size a := fun v7218 v7436 k0_hw1070 => k0_hw1070

def k0_chk1071 (v7218 : IVec S16 32) (v7439 : IVec S16 32) : Prop :=
  (∀ a x, ((![v7218, v7439] : Fin 2 → IVec S16 32) a x).toNat < S160x39.size a)
theorem k0_idx1071_inb : ∀ (v7218 : IVec S16 32) (v7439 : IVec S16 32) (k0_hw1071 : k0_chk1071 v7218 v7439), ∀ a x, ((![v7218, v7439] : Fin 2 → IVec S16 32) a x).toNat < S160x39.size a := fun v7218 v7439 k0_hw1071 => k0_hw1071

def k0_chk1072 (v7218 : IVec S16 32) (v7443 : IVec S16 32) : Prop :=
  (∀ a x, ((![v7218, v7443] : Fin 2 → IVec S16 32) a x).toNat < S160x31.size a)
theorem k0_idx1072_inb : ∀ (v7218 : IVec S16 32) (v7443 : IVec S16 32) (k0_hw1072 : k0_chk1072 v7218 v7443), ∀ a x, ((![v7218, v7443] : Fin 2 → IVec S16 32) a x).toNat < S160x31.size a := fun v7218 v7443 k0_hw1072 => k0_hw1072

def k0_chk1073 (v7218 : IVec S16 32) (v7446 : IVec S16 32) : Prop :=
  (∀ a x, ((![v7218, v7446] : Fin 2 → IVec S16 32) a x).toNat < S160x39.size a)
theorem k0_idx1073_inb : ∀ (v7218 : IVec S16 32) (v7446 : IVec S16 32) (k0_hw1073 : k0_chk1073 v7218 v7446), ∀ a x, ((![v7218, v7446] : Fin 2 → IVec S16 32) a x).toNat < S160x39.size a := fun v7218 v7446 k0_hw1073 => k0_hw1073

def k0_chk1074 (v7218 : IVec S16 32) (v7450 : IVec S16 32) : Prop :=
  (∀ a x, ((![v7218, v7450] : Fin 2 → IVec S16 32) a x).toNat < S160x31.size a)
theorem k0_idx1074_inb : ∀ (v7218 : IVec S16 32) (v7450 : IVec S16 32) (k0_hw1074 : k0_chk1074 v7218 v7450), ∀ a x, ((![v7218, v7450] : Fin 2 → IVec S16 32) a x).toNat < S160x31.size a := fun v7218 v7450 k0_hw1074 => k0_hw1074

def k0_chk1075 (v7218 : IVec S16 32) (v7453 : IVec S16 32) : Prop :=
  (∀ a x, ((![v7218, v7453] : Fin 2 → IVec S16 32) a x).toNat < S160x39.size a)
theorem k0_idx1075_inb : ∀ (v7218 : IVec S16 32) (v7453 : IVec S16 32) (k0_hw1075 : k0_chk1075 v7218 v7453), ∀ a x, ((![v7218, v7453] : Fin 2 → IVec S16 32) a x).toNat < S160x39.size a := fun v7218 v7453 k0_hw1075 => k0_hw1075

def k0_chk1076 (v7218 : IVec S16 32) (v7457 : IVec S16 32) : Prop :=
  (∀ a x, ((![v7218, v7457] : Fin 2 → IVec S16 32) a x).toNat < S160x31.size a)
theorem k0_idx1076_inb : ∀ (v7218 : IVec S16 32) (v7457 : IVec S16 32) (k0_hw1076 : k0_chk1076 v7218 v7457), ∀ a x, ((![v7218, v7457] : Fin 2 → IVec S16 32) a x).toNat < S160x31.size a := fun v7218 v7457 k0_hw1076 => k0_hw1076

def k0_chk1077 (v7218 : IVec S16 32) (v7460 : IVec S16 32) : Prop :=
  (∀ a x, ((![v7218, v7460] : Fin 2 → IVec S16 32) a x).toNat < S160x39.size a)
theorem k0_idx1077_inb : ∀ (v7218 : IVec S16 32) (v7460 : IVec S16 32) (k0_hw1077 : k0_chk1077 v7218 v7460), ∀ a x, ((![v7218, v7460] : Fin 2 → IVec S16 32) a x).toNat < S160x39.size a := fun v7218 v7460 k0_hw1077 => k0_hw1077

def k0_chk1078 (v7218 : IVec S16 32) (v7464 : IVec S16 32) : Prop :=
  (∀ a x, ((![v7218, v7464] : Fin 2 → IVec S16 32) a x).toNat < S160x31.size a)
theorem k0_idx1078_inb : ∀ (v7218 : IVec S16 32) (v7464 : IVec S16 32) (k0_hw1078 : k0_chk1078 v7218 v7464), ∀ a x, ((![v7218, v7464] : Fin 2 → IVec S16 32) a x).toNat < S160x31.size a := fun v7218 v7464 k0_hw1078 => k0_hw1078

def k0_chk1079 (v7218 : IVec S16 32) (v7467 : IVec S16 32) : Prop :=
  (∀ a x, ((![v7218, v7467] : Fin 2 → IVec S16 32) a x).toNat < S160x39.size a)
theorem k0_idx1079_inb : ∀ (v7218 : IVec S16 32) (v7467 : IVec S16 32) (k0_hw1079 : k0_chk1079 v7218 v7467), ∀ a x, ((![v7218, v7467] : Fin 2 → IVec S16 32) a x).toNat < S160x39.size a := fun v7218 v7467 k0_hw1079 => k0_hw1079

def k0_chk1080 (v7218 : IVec S16 32) (v7471 : IVec S16 32) : Prop :=
  (∀ a x, ((![v7218, v7471] : Fin 2 → IVec S16 32) a x).toNat < S160x31.size a)
theorem k0_idx1080_inb : ∀ (v7218 : IVec S16 32) (v7471 : IVec S16 32) (k0_hw1080 : k0_chk1080 v7218 v7471), ∀ a x, ((![v7218, v7471] : Fin 2 → IVec S16 32) a x).toNat < S160x31.size a := fun v7218 v7471 k0_hw1080 => k0_hw1080

def k0_chk1081 (v7218 : IVec S16 32) (v7474 : IVec S16 32) : Prop :=
  (∀ a x, ((![v7218, v7474] : Fin 2 → IVec S16 32) a x).toNat < S160x39.size a)
theorem k0_idx1081_inb : ∀ (v7218 : IVec S16 32) (v7474 : IVec S16 32) (k0_hw1081 : k0_chk1081 v7218 v7474), ∀ a x, ((![v7218, v7474] : Fin 2 → IVec S16 32) a x).toNat < S160x39.size a := fun v7218 v7474 k0_hw1081 => k0_hw1081

def k0_chk1082 (v7218 : IVec S16 32) (v7478 : IVec S16 32) : Prop :=
  (∀ a x, ((![v7218, v7478] : Fin 2 → IVec S16 32) a x).toNat < S160x31.size a)
theorem k0_idx1082_inb : ∀ (v7218 : IVec S16 32) (v7478 : IVec S16 32) (k0_hw1082 : k0_chk1082 v7218 v7478), ∀ a x, ((![v7218, v7478] : Fin 2 → IVec S16 32) a x).toNat < S160x31.size a := fun v7218 v7478 k0_hw1082 => k0_hw1082

def k0_chk1083 (v7218 : IVec S16 32) (v7481 : IVec S16 32) : Prop :=
  (∀ a x, ((![v7218, v7481] : Fin 2 → IVec S16 32) a x).toNat < S160x39.size a)
theorem k0_idx1083_inb : ∀ (v7218 : IVec S16 32) (v7481 : IVec S16 32) (k0_hw1083 : k0_chk1083 v7218 v7481), ∀ a x, ((![v7218, v7481] : Fin 2 → IVec S16 32) a x).toNat < S160x39.size a := fun v7218 v7481 k0_hw1083 => k0_hw1083

def k0_chk1084 (v7218 : IVec S16 32) (v7485 : IVec S16 32) : Prop :=
  (∀ a x, ((![v7218, v7485] : Fin 2 → IVec S16 32) a x).toNat < S160x31.size a)
theorem k0_idx1084_inb : ∀ (v7218 : IVec S16 32) (v7485 : IVec S16 32) (k0_hw1084 : k0_chk1084 v7218 v7485), ∀ a x, ((![v7218, v7485] : Fin 2 → IVec S16 32) a x).toNat < S160x31.size a := fun v7218 v7485 k0_hw1084 => k0_hw1084

def k0_chk1085 (v7218 : IVec S16 32) (v7488 : IVec S16 32) : Prop :=
  (∀ a x, ((![v7218, v7488] : Fin 2 → IVec S16 32) a x).toNat < S160x39.size a)
theorem k0_idx1085_inb : ∀ (v7218 : IVec S16 32) (v7488 : IVec S16 32) (k0_hw1085 : k0_chk1085 v7218 v7488), ∀ a x, ((![v7218, v7488] : Fin 2 → IVec S16 32) a x).toNat < S160x39.size a := fun v7218 v7488 k0_hw1085 => k0_hw1085

def k0_chk1086 (v7218 : IVec S16 32) (v7492 : IVec S16 32) : Prop :=
  (∀ a x, ((![v7218, v7492] : Fin 2 → IVec S16 32) a x).toNat < S160x31.size a)
theorem k0_idx1086_inb : ∀ (v7218 : IVec S16 32) (v7492 : IVec S16 32) (k0_hw1086 : k0_chk1086 v7218 v7492), ∀ a x, ((![v7218, v7492] : Fin 2 → IVec S16 32) a x).toNat < S160x31.size a := fun v7218 v7492 k0_hw1086 => k0_hw1086

def k0_chk1087 (v7218 : IVec S16 32) (v7495 : IVec S16 32) : Prop :=
  (∀ a x, ((![v7218, v7495] : Fin 2 → IVec S16 32) a x).toNat < S160x39.size a)
theorem k0_idx1087_inb : ∀ (v7218 : IVec S16 32) (v7495 : IVec S16 32) (k0_hw1087 : k0_chk1087 v7218 v7495), ∀ a x, ((![v7218, v7495] : Fin 2 → IVec S16 32) a x).toNat < S160x39.size a := fun v7218 v7495 k0_hw1087 => k0_hw1087

def k0_chk1088 (v7218 : IVec S16 32) (v7499 : IVec S16 32) : Prop :=
  (∀ a x, ((![v7218, v7499] : Fin 2 → IVec S16 32) a x).toNat < S160x31.size a)
theorem k0_idx1088_inb : ∀ (v7218 : IVec S16 32) (v7499 : IVec S16 32) (k0_hw1088 : k0_chk1088 v7218 v7499), ∀ a x, ((![v7218, v7499] : Fin 2 → IVec S16 32) a x).toNat < S160x31.size a := fun v7218 v7499 k0_hw1088 => k0_hw1088

def k0_chk1089 (v7503 : IVec S16 32) (v7504 : IVec S16 32) : Prop :=
  (∀ a x, ((![v7503, v7504] : Fin 2 → IVec S16 32) a x).toNat < S160x39.size a)
theorem k0_idx1089_inb : ∀ (v7503 : IVec S16 32) (v7504 : IVec S16 32) (k0_hw1089 : k0_chk1089 v7503 v7504), ∀ a x, ((![v7503, v7504] : Fin 2 → IVec S16 32) a x).toNat < S160x39.size a := fun v7503 v7504 k0_hw1089 => k0_hw1089

def k0_chk1090 (v7503 : IVec S16 32) (v7508 : IVec S16 32) : Prop :=
  (∀ a x, ((![v7503, v7508] : Fin 2 → IVec S16 32) a x).toNat < S160x39.size a)
theorem k0_idx1090_inb : ∀ (v7503 : IVec S16 32) (v7508 : IVec S16 32) (k0_hw1090 : k0_chk1090 v7503 v7508), ∀ a x, ((![v7503, v7508] : Fin 2 → IVec S16 32) a x).toNat < S160x39.size a := fun v7503 v7508 k0_hw1090 => k0_hw1090

def k0_chk1091 (v7503 : IVec S16 32) (v7512 : IVec S16 32) : Prop :=
  (∀ a x, ((![v7503, v7512] : Fin 2 → IVec S16 32) a x).toNat < S160x39.size a)
theorem k0_idx1091_inb : ∀ (v7503 : IVec S16 32) (v7512 : IVec S16 32) (k0_hw1091 : k0_chk1091 v7503 v7512), ∀ a x, ((![v7503, v7512] : Fin 2 → IVec S16 32) a x).toNat < S160x39.size a := fun v7503 v7512 k0_hw1091 => k0_hw1091

def k0_chk1092 (v7503 : IVec S16 32) (v7516 : IVec S16 32) : Prop :=
  (∀ a x, ((![v7503, v7516] : Fin 2 → IVec S16 32) a x).toNat < S160x39.size a)
theorem k0_idx1092_inb : ∀ (v7503 : IVec S16 32) (v7516 : IVec S16 32) (k0_hw1092 : k0_chk1092 v7503 v7516), ∀ a x, ((![v7503, v7516] : Fin 2 → IVec S16 32) a x).toNat < S160x39.size a := fun v7503 v7516 k0_hw1092 => k0_hw1092

def k0_chk1093 (v7503 : IVec S16 32) (v7521 : IVec S16 32) : Prop :=
  (∀ a x, ((![v7503, v7521] : Fin 2 → IVec S16 32) a x).toNat < S160x39.size a)
theorem k0_idx1093_inb : ∀ (v7503 : IVec S16 32) (v7521 : IVec S16 32) (k0_hw1093 : k0_chk1093 v7503 v7521), ∀ a x, ((![v7503, v7521] : Fin 2 → IVec S16 32) a x).toNat < S160x39.size a := fun v7503 v7521 k0_hw1093 => k0_hw1093

def k0_chk1094 (v7503 : IVec S16 32) (v7525 : IVec S16 32) : Prop :=
  (∀ a x, ((![v7503, v7525] : Fin 2 → IVec S16 32) a x).toNat < S160x39.size a)
theorem k0_idx1094_inb : ∀ (v7503 : IVec S16 32) (v7525 : IVec S16 32) (k0_hw1094 : k0_chk1094 v7503 v7525), ∀ a x, ((![v7503, v7525] : Fin 2 → IVec S16 32) a x).toNat < S160x39.size a := fun v7503 v7525 k0_hw1094 => k0_hw1094

def k0_chk1095 (v7503 : IVec S16 32) (v7530 : IVec S16 32) : Prop :=
  (∀ a x, ((![v7503, v7530] : Fin 2 → IVec S16 32) a x).toNat < S160x39.size a)
theorem k0_idx1095_inb : ∀ (v7503 : IVec S16 32) (v7530 : IVec S16 32) (k0_hw1095 : k0_chk1095 v7503 v7530), ∀ a x, ((![v7503, v7530] : Fin 2 → IVec S16 32) a x).toNat < S160x39.size a := fun v7503 v7530 k0_hw1095 => k0_hw1095

def k0_chk1096 (v7503 : IVec S16 32) (v7538 : IVec S16 32) : Prop :=
  (∀ a x, ((![v7503, v7538] : Fin 2 → IVec S16 32) a x).toNat < S160x39.size a)
theorem k0_idx1096_inb : ∀ (v7503 : IVec S16 32) (v7538 : IVec S16 32) (k0_hw1096 : k0_chk1096 v7503 v7538), ∀ a x, ((![v7503, v7538] : Fin 2 → IVec S16 32) a x).toNat < S160x39.size a := fun v7503 v7538 k0_hw1096 => k0_hw1096

def k0_chk1097 (v7503 : IVec S16 32) (v7546 : IVec S16 32) : Prop :=
  (∀ a x, ((![v7503, v7546] : Fin 2 → IVec S16 32) a x).toNat < S160x31.size a)
theorem k0_idx1097_inb : ∀ (v7503 : IVec S16 32) (v7546 : IVec S16 32) (k0_hw1097 : k0_chk1097 v7503 v7546), ∀ a x, ((![v7503, v7546] : Fin 2 → IVec S16 32) a x).toNat < S160x31.size a := fun v7503 v7546 k0_hw1097 => k0_hw1097

def k0_chk1098 (v7503 : IVec S16 32) (v7549 : IVec S16 32) : Prop :=
  (∀ a x, ((![v7503, v7549] : Fin 2 → IVec S16 32) a x).toNat < S160x31.size a)
theorem k0_idx1098_inb : ∀ (v7503 : IVec S16 32) (v7549 : IVec S16 32) (k0_hw1098 : k0_chk1098 v7503 v7549), ∀ a x, ((![v7503, v7549] : Fin 2 → IVec S16 32) a x).toNat < S160x31.size a := fun v7503 v7549 k0_hw1098 => k0_hw1098

def k0_chk1099 (v7503 : IVec S16 32) (v7552 : IVec S16 32) : Prop :=
  (∀ a x, ((![v7503, v7552] : Fin 2 → IVec S16 32) a x).toNat < S160x39.size a)
theorem k0_idx1099_inb : ∀ (v7503 : IVec S16 32) (v7552 : IVec S16 32) (k0_hw1099 : k0_chk1099 v7503 v7552), ∀ a x, ((![v7503, v7552] : Fin 2 → IVec S16 32) a x).toNat < S160x39.size a := fun v7503 v7552 k0_hw1099 => k0_hw1099

def k0_chk1100 (v7503 : IVec S16 32) (v7560 : IVec S16 32) : Prop :=
  (∀ a x, ((![v7503, v7560] : Fin 2 → IVec S16 32) a x).toNat < S160x39.size a)
theorem k0_idx1100_inb : ∀ (v7503 : IVec S16 32) (v7560 : IVec S16 32) (k0_hw1100 : k0_chk1100 v7503 v7560), ∀ a x, ((![v7503, v7560] : Fin 2 → IVec S16 32) a x).toNat < S160x39.size a := fun v7503 v7560 k0_hw1100 => k0_hw1100

def k0_chk1101 (v7503 : IVec S16 32) (v7568 : IVec S16 32) : Prop :=
  (∀ a x, ((![v7503, v7568] : Fin 2 → IVec S16 32) a x).toNat < S160x31.size a)
theorem k0_idx1101_inb : ∀ (v7503 : IVec S16 32) (v7568 : IVec S16 32) (k0_hw1101 : k0_chk1101 v7503 v7568), ∀ a x, ((![v7503, v7568] : Fin 2 → IVec S16 32) a x).toNat < S160x31.size a := fun v7503 v7568 k0_hw1101 => k0_hw1101

def k0_chk1102 (v7503 : IVec S16 32) (v7571 : IVec S16 32) : Prop :=
  (∀ a x, ((![v7503, v7571] : Fin 2 → IVec S16 32) a x).toNat < S160x31.size a)
theorem k0_idx1102_inb : ∀ (v7503 : IVec S16 32) (v7571 : IVec S16 32) (k0_hw1102 : k0_chk1102 v7503 v7571), ∀ a x, ((![v7503, v7571] : Fin 2 → IVec S16 32) a x).toNat < S160x31.size a := fun v7503 v7571 k0_hw1102 => k0_hw1102

def k0_chk1103 (v7503 : IVec S16 32) (v7574 : IVec S16 32) : Prop :=
  (∀ a x, ((![v7503, v7574] : Fin 2 → IVec S16 32) a x).toNat < S160x39.size a)
theorem k0_idx1103_inb : ∀ (v7503 : IVec S16 32) (v7574 : IVec S16 32) (k0_hw1103 : k0_chk1103 v7503 v7574), ∀ a x, ((![v7503, v7574] : Fin 2 → IVec S16 32) a x).toNat < S160x39.size a := fun v7503 v7574 k0_hw1103 => k0_hw1103

def k0_chk1104 (v7503 : IVec S16 32) (v7582 : IVec S16 32) : Prop :=
  (∀ a x, ((![v7503, v7582] : Fin 2 → IVec S16 32) a x).toNat < S160x39.size a)
theorem k0_idx1104_inb : ∀ (v7503 : IVec S16 32) (v7582 : IVec S16 32) (k0_hw1104 : k0_chk1104 v7503 v7582), ∀ a x, ((![v7503, v7582] : Fin 2 → IVec S16 32) a x).toNat < S160x39.size a := fun v7503 v7582 k0_hw1104 => k0_hw1104

def k0_chk1105 (v7503 : IVec S16 32) (v7590 : IVec S16 32) : Prop :=
  (∀ a x, ((![v7503, v7590] : Fin 2 → IVec S16 32) a x).toNat < S160x31.size a)
theorem k0_idx1105_inb : ∀ (v7503 : IVec S16 32) (v7590 : IVec S16 32) (k0_hw1105 : k0_chk1105 v7503 v7590), ∀ a x, ((![v7503, v7590] : Fin 2 → IVec S16 32) a x).toNat < S160x31.size a := fun v7503 v7590 k0_hw1105 => k0_hw1105

def k0_chk1106 (v7503 : IVec S16 32) (v7593 : IVec S16 32) : Prop :=
  (∀ a x, ((![v7503, v7593] : Fin 2 → IVec S16 32) a x).toNat < S160x31.size a)
theorem k0_idx1106_inb : ∀ (v7503 : IVec S16 32) (v7593 : IVec S16 32) (k0_hw1106 : k0_chk1106 v7503 v7593), ∀ a x, ((![v7503, v7593] : Fin 2 → IVec S16 32) a x).toNat < S160x31.size a := fun v7503 v7593 k0_hw1106 => k0_hw1106

def k0_chk1107 (v7503 : IVec S16 32) (v7596 : IVec S16 32) : Prop :=
  (∀ a x, ((![v7503, v7596] : Fin 2 → IVec S16 32) a x).toNat < S160x39.size a)
theorem k0_idx1107_inb : ∀ (v7503 : IVec S16 32) (v7596 : IVec S16 32) (k0_hw1107 : k0_chk1107 v7503 v7596), ∀ a x, ((![v7503, v7596] : Fin 2 → IVec S16 32) a x).toNat < S160x39.size a := fun v7503 v7596 k0_hw1107 => k0_hw1107

def k0_chk1108 (v7503 : IVec S16 32) (v7604 : IVec S16 32) : Prop :=
  (∀ a x, ((![v7503, v7604] : Fin 2 → IVec S16 32) a x).toNat < S160x39.size a)
theorem k0_idx1108_inb : ∀ (v7503 : IVec S16 32) (v7604 : IVec S16 32) (k0_hw1108 : k0_chk1108 v7503 v7604), ∀ a x, ((![v7503, v7604] : Fin 2 → IVec S16 32) a x).toNat < S160x39.size a := fun v7503 v7604 k0_hw1108 => k0_hw1108

def k0_chk1109 (v7503 : IVec S16 32) (v7612 : IVec S16 32) : Prop :=
  (∀ a x, ((![v7503, v7612] : Fin 2 → IVec S16 32) a x).toNat < S160x31.size a)
theorem k0_idx1109_inb : ∀ (v7503 : IVec S16 32) (v7612 : IVec S16 32) (k0_hw1109 : k0_chk1109 v7503 v7612), ∀ a x, ((![v7503, v7612] : Fin 2 → IVec S16 32) a x).toNat < S160x31.size a := fun v7503 v7612 k0_hw1109 => k0_hw1109

def k0_chk1110 (v7503 : IVec S16 32) (v7615 : IVec S16 32) : Prop :=
  (∀ a x, ((![v7503, v7615] : Fin 2 → IVec S16 32) a x).toNat < S160x31.size a)
theorem k0_idx1110_inb : ∀ (v7503 : IVec S16 32) (v7615 : IVec S16 32) (k0_hw1110 : k0_chk1110 v7503 v7615), ∀ a x, ((![v7503, v7615] : Fin 2 → IVec S16 32) a x).toNat < S160x31.size a := fun v7503 v7615 k0_hw1110 => k0_hw1110

def k0_chk1111 (v7503 : IVec S16 32) (v7618 : IVec S16 32) : Prop :=
  (∀ a x, ((![v7503, v7618] : Fin 2 → IVec S16 32) a x).toNat < S160x39.size a)
theorem k0_idx1111_inb : ∀ (v7503 : IVec S16 32) (v7618 : IVec S16 32) (k0_hw1111 : k0_chk1111 v7503 v7618), ∀ a x, ((![v7503, v7618] : Fin 2 → IVec S16 32) a x).toNat < S160x39.size a := fun v7503 v7618 k0_hw1111 => k0_hw1111

def k0_chk1112 (v7503 : IVec S16 32) (v7626 : IVec S16 32) : Prop :=
  (∀ a x, ((![v7503, v7626] : Fin 2 → IVec S16 32) a x).toNat < S160x39.size a)
theorem k0_idx1112_inb : ∀ (v7503 : IVec S16 32) (v7626 : IVec S16 32) (k0_hw1112 : k0_chk1112 v7503 v7626), ∀ a x, ((![v7503, v7626] : Fin 2 → IVec S16 32) a x).toNat < S160x39.size a := fun v7503 v7626 k0_hw1112 => k0_hw1112

def k0_chk1113 (v7503 : IVec S16 32) (v7634 : IVec S16 32) : Prop :=
  (∀ a x, ((![v7503, v7634] : Fin 2 → IVec S16 32) a x).toNat < S160x31.size a)
theorem k0_idx1113_inb : ∀ (v7503 : IVec S16 32) (v7634 : IVec S16 32) (k0_hw1113 : k0_chk1113 v7503 v7634), ∀ a x, ((![v7503, v7634] : Fin 2 → IVec S16 32) a x).toNat < S160x31.size a := fun v7503 v7634 k0_hw1113 => k0_hw1113

def k0_chk1114 (v7503 : IVec S16 32) (v7637 : IVec S16 32) : Prop :=
  (∀ a x, ((![v7503, v7637] : Fin 2 → IVec S16 32) a x).toNat < S160x31.size a)
theorem k0_idx1114_inb : ∀ (v7503 : IVec S16 32) (v7637 : IVec S16 32) (k0_hw1114 : k0_chk1114 v7503 v7637), ∀ a x, ((![v7503, v7637] : Fin 2 → IVec S16 32) a x).toNat < S160x31.size a := fun v7503 v7637 k0_hw1114 => k0_hw1114

def k0_chk1115 (v7503 : IVec S16 32) (v7640 : IVec S16 32) : Prop :=
  (∀ a x, ((![v7503, v7640] : Fin 2 → IVec S16 32) a x).toNat < S160x39.size a)
theorem k0_idx1115_inb : ∀ (v7503 : IVec S16 32) (v7640 : IVec S16 32) (k0_hw1115 : k0_chk1115 v7503 v7640), ∀ a x, ((![v7503, v7640] : Fin 2 → IVec S16 32) a x).toNat < S160x39.size a := fun v7503 v7640 k0_hw1115 => k0_hw1115

def k0_chk1116 (v7503 : IVec S16 32) (v7644 : IVec S16 32) : Prop :=
  (∀ a x, ((![v7503, v7644] : Fin 2 → IVec S16 32) a x).toNat < S160x31.size a)
theorem k0_idx1116_inb : ∀ (v7503 : IVec S16 32) (v7644 : IVec S16 32) (k0_hw1116 : k0_chk1116 v7503 v7644), ∀ a x, ((![v7503, v7644] : Fin 2 → IVec S16 32) a x).toNat < S160x31.size a := fun v7503 v7644 k0_hw1116 => k0_hw1116

def k0_chk1117 (v7503 : IVec S16 32) (v7647 : IVec S16 32) : Prop :=
  (∀ a x, ((![v7503, v7647] : Fin 2 → IVec S16 32) a x).toNat < S160x39.size a)
theorem k0_idx1117_inb : ∀ (v7503 : IVec S16 32) (v7647 : IVec S16 32) (k0_hw1117 : k0_chk1117 v7503 v7647), ∀ a x, ((![v7503, v7647] : Fin 2 → IVec S16 32) a x).toNat < S160x39.size a := fun v7503 v7647 k0_hw1117 => k0_hw1117

def k0_chk1118 (v7503 : IVec S16 32) (v7651 : IVec S16 32) : Prop :=
  (∀ a x, ((![v7503, v7651] : Fin 2 → IVec S16 32) a x).toNat < S160x31.size a)
theorem k0_idx1118_inb : ∀ (v7503 : IVec S16 32) (v7651 : IVec S16 32) (k0_hw1118 : k0_chk1118 v7503 v7651), ∀ a x, ((![v7503, v7651] : Fin 2 → IVec S16 32) a x).toNat < S160x31.size a := fun v7503 v7651 k0_hw1118 => k0_hw1118

def k0_chk1119 (v7503 : IVec S16 32) (v7654 : IVec S16 32) : Prop :=
  (∀ a x, ((![v7503, v7654] : Fin 2 → IVec S16 32) a x).toNat < S160x39.size a)
theorem k0_idx1119_inb : ∀ (v7503 : IVec S16 32) (v7654 : IVec S16 32) (k0_hw1119 : k0_chk1119 v7503 v7654), ∀ a x, ((![v7503, v7654] : Fin 2 → IVec S16 32) a x).toNat < S160x39.size a := fun v7503 v7654 k0_hw1119 => k0_hw1119

def k0_chk1120 (v7503 : IVec S16 32) (v7658 : IVec S16 32) : Prop :=
  (∀ a x, ((![v7503, v7658] : Fin 2 → IVec S16 32) a x).toNat < S160x31.size a)
theorem k0_idx1120_inb : ∀ (v7503 : IVec S16 32) (v7658 : IVec S16 32) (k0_hw1120 : k0_chk1120 v7503 v7658), ∀ a x, ((![v7503, v7658] : Fin 2 → IVec S16 32) a x).toNat < S160x31.size a := fun v7503 v7658 k0_hw1120 => k0_hw1120

def k0_chk1121 (v7503 : IVec S16 32) (v7661 : IVec S16 32) : Prop :=
  (∀ a x, ((![v7503, v7661] : Fin 2 → IVec S16 32) a x).toNat < S160x39.size a)
theorem k0_idx1121_inb : ∀ (v7503 : IVec S16 32) (v7661 : IVec S16 32) (k0_hw1121 : k0_chk1121 v7503 v7661), ∀ a x, ((![v7503, v7661] : Fin 2 → IVec S16 32) a x).toNat < S160x39.size a := fun v7503 v7661 k0_hw1121 => k0_hw1121

def k0_chk1122 (v7503 : IVec S16 32) (v7665 : IVec S16 32) : Prop :=
  (∀ a x, ((![v7503, v7665] : Fin 2 → IVec S16 32) a x).toNat < S160x31.size a)
theorem k0_idx1122_inb : ∀ (v7503 : IVec S16 32) (v7665 : IVec S16 32) (k0_hw1122 : k0_chk1122 v7503 v7665), ∀ a x, ((![v7503, v7665] : Fin 2 → IVec S16 32) a x).toNat < S160x31.size a := fun v7503 v7665 k0_hw1122 => k0_hw1122

def k0_chk1123 (v7503 : IVec S16 32) (v7668 : IVec S16 32) : Prop :=
  (∀ a x, ((![v7503, v7668] : Fin 2 → IVec S16 32) a x).toNat < S160x39.size a)
theorem k0_idx1123_inb : ∀ (v7503 : IVec S16 32) (v7668 : IVec S16 32) (k0_hw1123 : k0_chk1123 v7503 v7668), ∀ a x, ((![v7503, v7668] : Fin 2 → IVec S16 32) a x).toNat < S160x39.size a := fun v7503 v7668 k0_hw1123 => k0_hw1123

def k0_chk1124 (v7503 : IVec S16 32) (v7672 : IVec S16 32) : Prop :=
  (∀ a x, ((![v7503, v7672] : Fin 2 → IVec S16 32) a x).toNat < S160x31.size a)
theorem k0_idx1124_inb : ∀ (v7503 : IVec S16 32) (v7672 : IVec S16 32) (k0_hw1124 : k0_chk1124 v7503 v7672), ∀ a x, ((![v7503, v7672] : Fin 2 → IVec S16 32) a x).toNat < S160x31.size a := fun v7503 v7672 k0_hw1124 => k0_hw1124

def k0_chk1125 (v7503 : IVec S16 32) (v7675 : IVec S16 32) : Prop :=
  (∀ a x, ((![v7503, v7675] : Fin 2 → IVec S16 32) a x).toNat < S160x39.size a)
theorem k0_idx1125_inb : ∀ (v7503 : IVec S16 32) (v7675 : IVec S16 32) (k0_hw1125 : k0_chk1125 v7503 v7675), ∀ a x, ((![v7503, v7675] : Fin 2 → IVec S16 32) a x).toNat < S160x39.size a := fun v7503 v7675 k0_hw1125 => k0_hw1125

def k0_chk1126 (v7503 : IVec S16 32) (v7679 : IVec S16 32) : Prop :=
  (∀ a x, ((![v7503, v7679] : Fin 2 → IVec S16 32) a x).toNat < S160x31.size a)
theorem k0_idx1126_inb : ∀ (v7503 : IVec S16 32) (v7679 : IVec S16 32) (k0_hw1126 : k0_chk1126 v7503 v7679), ∀ a x, ((![v7503, v7679] : Fin 2 → IVec S16 32) a x).toNat < S160x31.size a := fun v7503 v7679 k0_hw1126 => k0_hw1126

def k0_chk1127 (v7503 : IVec S16 32) (v7682 : IVec S16 32) : Prop :=
  (∀ a x, ((![v7503, v7682] : Fin 2 → IVec S16 32) a x).toNat < S160x39.size a)
theorem k0_idx1127_inb : ∀ (v7503 : IVec S16 32) (v7682 : IVec S16 32) (k0_hw1127 : k0_chk1127 v7503 v7682), ∀ a x, ((![v7503, v7682] : Fin 2 → IVec S16 32) a x).toNat < S160x39.size a := fun v7503 v7682 k0_hw1127 => k0_hw1127

def k0_chk1128 (v7503 : IVec S16 32) (v7686 : IVec S16 32) : Prop :=
  (∀ a x, ((![v7503, v7686] : Fin 2 → IVec S16 32) a x).toNat < S160x31.size a)
theorem k0_idx1128_inb : ∀ (v7503 : IVec S16 32) (v7686 : IVec S16 32) (k0_hw1128 : k0_chk1128 v7503 v7686), ∀ a x, ((![v7503, v7686] : Fin 2 → IVec S16 32) a x).toNat < S160x31.size a := fun v7503 v7686 k0_hw1128 => k0_hw1128

def k0_chk1129 (v7503 : IVec S16 32) (v7689 : IVec S16 32) : Prop :=
  (∀ a x, ((![v7503, v7689] : Fin 2 → IVec S16 32) a x).toNat < S160x39.size a)
theorem k0_idx1129_inb : ∀ (v7503 : IVec S16 32) (v7689 : IVec S16 32) (k0_hw1129 : k0_chk1129 v7503 v7689), ∀ a x, ((![v7503, v7689] : Fin 2 → IVec S16 32) a x).toNat < S160x39.size a := fun v7503 v7689 k0_hw1129 => k0_hw1129

def k0_chk1130 (v7503 : IVec S16 32) (v7693 : IVec S16 32) : Prop :=
  (∀ a x, ((![v7503, v7693] : Fin 2 → IVec S16 32) a x).toNat < S160x31.size a)
theorem k0_idx1130_inb : ∀ (v7503 : IVec S16 32) (v7693 : IVec S16 32) (k0_hw1130 : k0_chk1130 v7503 v7693), ∀ a x, ((![v7503, v7693] : Fin 2 → IVec S16 32) a x).toNat < S160x31.size a := fun v7503 v7693 k0_hw1130 => k0_hw1130

def k0_chk1131 (v7503 : IVec S16 32) (v7696 : IVec S16 32) : Prop :=
  (∀ a x, ((![v7503, v7696] : Fin 2 → IVec S16 32) a x).toNat < S160x39.size a)
theorem k0_idx1131_inb : ∀ (v7503 : IVec S16 32) (v7696 : IVec S16 32) (k0_hw1131 : k0_chk1131 v7503 v7696), ∀ a x, ((![v7503, v7696] : Fin 2 → IVec S16 32) a x).toNat < S160x39.size a := fun v7503 v7696 k0_hw1131 => k0_hw1131

def k0_chk1132 (v7503 : IVec S16 32) (v7700 : IVec S16 32) : Prop :=
  (∀ a x, ((![v7503, v7700] : Fin 2 → IVec S16 32) a x).toNat < S160x31.size a)
theorem k0_idx1132_inb : ∀ (v7503 : IVec S16 32) (v7700 : IVec S16 32) (k0_hw1132 : k0_chk1132 v7503 v7700), ∀ a x, ((![v7503, v7700] : Fin 2 → IVec S16 32) a x).toNat < S160x31.size a := fun v7503 v7700 k0_hw1132 => k0_hw1132

def k0_chk1133 (v7503 : IVec S16 32) (v7703 : IVec S16 32) : Prop :=
  (∀ a x, ((![v7503, v7703] : Fin 2 → IVec S16 32) a x).toNat < S160x39.size a)
theorem k0_idx1133_inb : ∀ (v7503 : IVec S16 32) (v7703 : IVec S16 32) (k0_hw1133 : k0_chk1133 v7503 v7703), ∀ a x, ((![v7503, v7703] : Fin 2 → IVec S16 32) a x).toNat < S160x39.size a := fun v7503 v7703 k0_hw1133 => k0_hw1133

def k0_chk1134 (v7503 : IVec S16 32) (v7707 : IVec S16 32) : Prop :=
  (∀ a x, ((![v7503, v7707] : Fin 2 → IVec S16 32) a x).toNat < S160x31.size a)
theorem k0_idx1134_inb : ∀ (v7503 : IVec S16 32) (v7707 : IVec S16 32) (k0_hw1134 : k0_chk1134 v7503 v7707), ∀ a x, ((![v7503, v7707] : Fin 2 → IVec S16 32) a x).toNat < S160x31.size a := fun v7503 v7707 k0_hw1134 => k0_hw1134

def k0_chk1135 (v7503 : IVec S16 32) (v7710 : IVec S16 32) : Prop :=
  (∀ a x, ((![v7503, v7710] : Fin 2 → IVec S16 32) a x).toNat < S160x39.size a)
theorem k0_idx1135_inb : ∀ (v7503 : IVec S16 32) (v7710 : IVec S16 32) (k0_hw1135 : k0_chk1135 v7503 v7710), ∀ a x, ((![v7503, v7710] : Fin 2 → IVec S16 32) a x).toNat < S160x39.size a := fun v7503 v7710 k0_hw1135 => k0_hw1135

def k0_chk1136 (v7503 : IVec S16 32) (v7714 : IVec S16 32) : Prop :=
  (∀ a x, ((![v7503, v7714] : Fin 2 → IVec S16 32) a x).toNat < S160x31.size a)
theorem k0_idx1136_inb : ∀ (v7503 : IVec S16 32) (v7714 : IVec S16 32) (k0_hw1136 : k0_chk1136 v7503 v7714), ∀ a x, ((![v7503, v7714] : Fin 2 → IVec S16 32) a x).toNat < S160x31.size a := fun v7503 v7714 k0_hw1136 => k0_hw1136

def k0_chk1137 (v7503 : IVec S16 32) (v7717 : IVec S16 32) : Prop :=
  (∀ a x, ((![v7503, v7717] : Fin 2 → IVec S16 32) a x).toNat < S160x39.size a)
theorem k0_idx1137_inb : ∀ (v7503 : IVec S16 32) (v7717 : IVec S16 32) (k0_hw1137 : k0_chk1137 v7503 v7717), ∀ a x, ((![v7503, v7717] : Fin 2 → IVec S16 32) a x).toNat < S160x39.size a := fun v7503 v7717 k0_hw1137 => k0_hw1137

def k0_chk1138 (v7503 : IVec S16 32) (v7721 : IVec S16 32) : Prop :=
  (∀ a x, ((![v7503, v7721] : Fin 2 → IVec S16 32) a x).toNat < S160x31.size a)
theorem k0_idx1138_inb : ∀ (v7503 : IVec S16 32) (v7721 : IVec S16 32) (k0_hw1138 : k0_chk1138 v7503 v7721), ∀ a x, ((![v7503, v7721] : Fin 2 → IVec S16 32) a x).toNat < S160x31.size a := fun v7503 v7721 k0_hw1138 => k0_hw1138

def k0_chk1139 (v7503 : IVec S16 32) (v7724 : IVec S16 32) : Prop :=
  (∀ a x, ((![v7503, v7724] : Fin 2 → IVec S16 32) a x).toNat < S160x39.size a)
theorem k0_idx1139_inb : ∀ (v7503 : IVec S16 32) (v7724 : IVec S16 32) (k0_hw1139 : k0_chk1139 v7503 v7724), ∀ a x, ((![v7503, v7724] : Fin 2 → IVec S16 32) a x).toNat < S160x39.size a := fun v7503 v7724 k0_hw1139 => k0_hw1139

def k0_chk1140 (v7503 : IVec S16 32) (v7728 : IVec S16 32) : Prop :=
  (∀ a x, ((![v7503, v7728] : Fin 2 → IVec S16 32) a x).toNat < S160x31.size a)
theorem k0_idx1140_inb : ∀ (v7503 : IVec S16 32) (v7728 : IVec S16 32) (k0_hw1140 : k0_chk1140 v7503 v7728), ∀ a x, ((![v7503, v7728] : Fin 2 → IVec S16 32) a x).toNat < S160x31.size a := fun v7503 v7728 k0_hw1140 => k0_hw1140

def k0_chk1141 (v7503 : IVec S16 32) (v7731 : IVec S16 32) : Prop :=
  (∀ a x, ((![v7503, v7731] : Fin 2 → IVec S16 32) a x).toNat < S160x39.size a)
theorem k0_idx1141_inb : ∀ (v7503 : IVec S16 32) (v7731 : IVec S16 32) (k0_hw1141 : k0_chk1141 v7503 v7731), ∀ a x, ((![v7503, v7731] : Fin 2 → IVec S16 32) a x).toNat < S160x39.size a := fun v7503 v7731 k0_hw1141 => k0_hw1141

def k0_chk1142 (v7503 : IVec S16 32) (v7735 : IVec S16 32) : Prop :=
  (∀ a x, ((![v7503, v7735] : Fin 2 → IVec S16 32) a x).toNat < S160x31.size a)
theorem k0_idx1142_inb : ∀ (v7503 : IVec S16 32) (v7735 : IVec S16 32) (k0_hw1142 : k0_chk1142 v7503 v7735), ∀ a x, ((![v7503, v7735] : Fin 2 → IVec S16 32) a x).toNat < S160x31.size a := fun v7503 v7735 k0_hw1142 => k0_hw1142

def k0_chk1143 (v7503 : IVec S16 32) (v7738 : IVec S16 32) : Prop :=
  (∀ a x, ((![v7503, v7738] : Fin 2 → IVec S16 32) a x).toNat < S160x39.size a)
theorem k0_idx1143_inb : ∀ (v7503 : IVec S16 32) (v7738 : IVec S16 32) (k0_hw1143 : k0_chk1143 v7503 v7738), ∀ a x, ((![v7503, v7738] : Fin 2 → IVec S16 32) a x).toNat < S160x39.size a := fun v7503 v7738 k0_hw1143 => k0_hw1143

def k0_chk1144 (v7503 : IVec S16 32) (v7742 : IVec S16 32) : Prop :=
  (∀ a x, ((![v7503, v7742] : Fin 2 → IVec S16 32) a x).toNat < S160x31.size a)
theorem k0_idx1144_inb : ∀ (v7503 : IVec S16 32) (v7742 : IVec S16 32) (k0_hw1144 : k0_chk1144 v7503 v7742), ∀ a x, ((![v7503, v7742] : Fin 2 → IVec S16 32) a x).toNat < S160x31.size a := fun v7503 v7742 k0_hw1144 => k0_hw1144

def k0_chk1145 (v7503 : IVec S16 32) (v7745 : IVec S16 32) : Prop :=
  (∀ a x, ((![v7503, v7745] : Fin 2 → IVec S16 32) a x).toNat < S160x39.size a)
theorem k0_idx1145_inb : ∀ (v7503 : IVec S16 32) (v7745 : IVec S16 32) (k0_hw1145 : k0_chk1145 v7503 v7745), ∀ a x, ((![v7503, v7745] : Fin 2 → IVec S16 32) a x).toNat < S160x39.size a := fun v7503 v7745 k0_hw1145 => k0_hw1145

def k0_chk1146 (v7503 : IVec S16 32) (v7749 : IVec S16 32) : Prop :=
  (∀ a x, ((![v7503, v7749] : Fin 2 → IVec S16 32) a x).toNat < S160x31.size a)
theorem k0_idx1146_inb : ∀ (v7503 : IVec S16 32) (v7749 : IVec S16 32) (k0_hw1146 : k0_chk1146 v7503 v7749), ∀ a x, ((![v7503, v7749] : Fin 2 → IVec S16 32) a x).toNat < S160x31.size a := fun v7503 v7749 k0_hw1146 => k0_hw1146

def k0_chk1147 (v7503 : IVec S16 32) (v7752 : IVec S16 32) : Prop :=
  (∀ a x, ((![v7503, v7752] : Fin 2 → IVec S16 32) a x).toNat < S160x39.size a)
theorem k0_idx1147_inb : ∀ (v7503 : IVec S16 32) (v7752 : IVec S16 32) (k0_hw1147 : k0_chk1147 v7503 v7752), ∀ a x, ((![v7503, v7752] : Fin 2 → IVec S16 32) a x).toNat < S160x39.size a := fun v7503 v7752 k0_hw1147 => k0_hw1147

def k0_chk1148 (v7503 : IVec S16 32) (v7756 : IVec S16 32) : Prop :=
  (∀ a x, ((![v7503, v7756] : Fin 2 → IVec S16 32) a x).toNat < S160x31.size a)
theorem k0_idx1148_inb : ∀ (v7503 : IVec S16 32) (v7756 : IVec S16 32) (k0_hw1148 : k0_chk1148 v7503 v7756), ∀ a x, ((![v7503, v7756] : Fin 2 → IVec S16 32) a x).toNat < S160x31.size a := fun v7503 v7756 k0_hw1148 => k0_hw1148

def k0_chk1149 (v7503 : IVec S16 32) (v7759 : IVec S16 32) : Prop :=
  (∀ a x, ((![v7503, v7759] : Fin 2 → IVec S16 32) a x).toNat < S160x39.size a)
theorem k0_idx1149_inb : ∀ (v7503 : IVec S16 32) (v7759 : IVec S16 32) (k0_hw1149 : k0_chk1149 v7503 v7759), ∀ a x, ((![v7503, v7759] : Fin 2 → IVec S16 32) a x).toNat < S160x39.size a := fun v7503 v7759 k0_hw1149 => k0_hw1149

def k0_chk1150 (v7503 : IVec S16 32) (v7763 : IVec S16 32) : Prop :=
  (∀ a x, ((![v7503, v7763] : Fin 2 → IVec S16 32) a x).toNat < S160x31.size a)
theorem k0_idx1150_inb : ∀ (v7503 : IVec S16 32) (v7763 : IVec S16 32) (k0_hw1150 : k0_chk1150 v7503 v7763), ∀ a x, ((![v7503, v7763] : Fin 2 → IVec S16 32) a x).toNat < S160x31.size a := fun v7503 v7763 k0_hw1150 => k0_hw1150

def k0_chk1151 (v7503 : IVec S16 32) (v7766 : IVec S16 32) : Prop :=
  (∀ a x, ((![v7503, v7766] : Fin 2 → IVec S16 32) a x).toNat < S160x39.size a)
theorem k0_idx1151_inb : ∀ (v7503 : IVec S16 32) (v7766 : IVec S16 32) (k0_hw1151 : k0_chk1151 v7503 v7766), ∀ a x, ((![v7503, v7766] : Fin 2 → IVec S16 32) a x).toNat < S160x39.size a := fun v7503 v7766 k0_hw1151 => k0_hw1151

def k0_chk1152 (v7503 : IVec S16 32) (v7770 : IVec S16 32) : Prop :=
  (∀ a x, ((![v7503, v7770] : Fin 2 → IVec S16 32) a x).toNat < S160x31.size a)
theorem k0_idx1152_inb : ∀ (v7503 : IVec S16 32) (v7770 : IVec S16 32) (k0_hw1152 : k0_chk1152 v7503 v7770), ∀ a x, ((![v7503, v7770] : Fin 2 → IVec S16 32) a x).toNat < S160x31.size a := fun v7503 v7770 k0_hw1152 => k0_hw1152

def k0_chk1153 (v7503 : IVec S16 32) (v7773 : IVec S16 32) : Prop :=
  (∀ a x, ((![v7503, v7773] : Fin 2 → IVec S16 32) a x).toNat < S160x39.size a)
theorem k0_idx1153_inb : ∀ (v7503 : IVec S16 32) (v7773 : IVec S16 32) (k0_hw1153 : k0_chk1153 v7503 v7773), ∀ a x, ((![v7503, v7773] : Fin 2 → IVec S16 32) a x).toNat < S160x39.size a := fun v7503 v7773 k0_hw1153 => k0_hw1153

def k0_chk1154 (v7503 : IVec S16 32) (v7777 : IVec S16 32) : Prop :=
  (∀ a x, ((![v7503, v7777] : Fin 2 → IVec S16 32) a x).toNat < S160x31.size a)
theorem k0_idx1154_inb : ∀ (v7503 : IVec S16 32) (v7777 : IVec S16 32) (k0_hw1154 : k0_chk1154 v7503 v7777), ∀ a x, ((![v7503, v7777] : Fin 2 → IVec S16 32) a x).toNat < S160x31.size a := fun v7503 v7777 k0_hw1154 => k0_hw1154

def k0_chk1155 (v7503 : IVec S16 32) (v7780 : IVec S16 32) : Prop :=
  (∀ a x, ((![v7503, v7780] : Fin 2 → IVec S16 32) a x).toNat < S160x39.size a)
theorem k0_idx1155_inb : ∀ (v7503 : IVec S16 32) (v7780 : IVec S16 32) (k0_hw1155 : k0_chk1155 v7503 v7780), ∀ a x, ((![v7503, v7780] : Fin 2 → IVec S16 32) a x).toNat < S160x39.size a := fun v7503 v7780 k0_hw1155 => k0_hw1155

def k0_chk1156 (v7503 : IVec S16 32) (v7784 : IVec S16 32) : Prop :=
  (∀ a x, ((![v7503, v7784] : Fin 2 → IVec S16 32) a x).toNat < S160x31.size a)
theorem k0_idx1156_inb : ∀ (v7503 : IVec S16 32) (v7784 : IVec S16 32) (k0_hw1156 : k0_chk1156 v7503 v7784), ∀ a x, ((![v7503, v7784] : Fin 2 → IVec S16 32) a x).toNat < S160x31.size a := fun v7503 v7784 k0_hw1156 => k0_hw1156

def k0_chk1157 (v7788 : IVec S16 32) (v7789 : IVec S16 32) : Prop :=
  (∀ a x, ((![v7788, v7789] : Fin 2 → IVec S16 32) a x).toNat < S160x39.size a)
theorem k0_idx1157_inb : ∀ (v7788 : IVec S16 32) (v7789 : IVec S16 32) (k0_hw1157 : k0_chk1157 v7788 v7789), ∀ a x, ((![v7788, v7789] : Fin 2 → IVec S16 32) a x).toNat < S160x39.size a := fun v7788 v7789 k0_hw1157 => k0_hw1157

def k0_chk1158 (v7788 : IVec S16 32) (v7793 : IVec S16 32) : Prop :=
  (∀ a x, ((![v7788, v7793] : Fin 2 → IVec S16 32) a x).toNat < S160x39.size a)
theorem k0_idx1158_inb : ∀ (v7788 : IVec S16 32) (v7793 : IVec S16 32) (k0_hw1158 : k0_chk1158 v7788 v7793), ∀ a x, ((![v7788, v7793] : Fin 2 → IVec S16 32) a x).toNat < S160x39.size a := fun v7788 v7793 k0_hw1158 => k0_hw1158

def k0_chk1159 (v7788 : IVec S16 32) (v7797 : IVec S16 32) : Prop :=
  (∀ a x, ((![v7788, v7797] : Fin 2 → IVec S16 32) a x).toNat < S160x39.size a)
theorem k0_idx1159_inb : ∀ (v7788 : IVec S16 32) (v7797 : IVec S16 32) (k0_hw1159 : k0_chk1159 v7788 v7797), ∀ a x, ((![v7788, v7797] : Fin 2 → IVec S16 32) a x).toNat < S160x39.size a := fun v7788 v7797 k0_hw1159 => k0_hw1159

def k0_chk1160 (v7788 : IVec S16 32) (v7801 : IVec S16 32) : Prop :=
  (∀ a x, ((![v7788, v7801] : Fin 2 → IVec S16 32) a x).toNat < S160x39.size a)
theorem k0_idx1160_inb : ∀ (v7788 : IVec S16 32) (v7801 : IVec S16 32) (k0_hw1160 : k0_chk1160 v7788 v7801), ∀ a x, ((![v7788, v7801] : Fin 2 → IVec S16 32) a x).toNat < S160x39.size a := fun v7788 v7801 k0_hw1160 => k0_hw1160

def k0_chk1161 (v7788 : IVec S16 32) (v7806 : IVec S16 32) : Prop :=
  (∀ a x, ((![v7788, v7806] : Fin 2 → IVec S16 32) a x).toNat < S160x39.size a)
theorem k0_idx1161_inb : ∀ (v7788 : IVec S16 32) (v7806 : IVec S16 32) (k0_hw1161 : k0_chk1161 v7788 v7806), ∀ a x, ((![v7788, v7806] : Fin 2 → IVec S16 32) a x).toNat < S160x39.size a := fun v7788 v7806 k0_hw1161 => k0_hw1161

def k0_chk1162 (v7788 : IVec S16 32) (v7810 : IVec S16 32) : Prop :=
  (∀ a x, ((![v7788, v7810] : Fin 2 → IVec S16 32) a x).toNat < S160x39.size a)
theorem k0_idx1162_inb : ∀ (v7788 : IVec S16 32) (v7810 : IVec S16 32) (k0_hw1162 : k0_chk1162 v7788 v7810), ∀ a x, ((![v7788, v7810] : Fin 2 → IVec S16 32) a x).toNat < S160x39.size a := fun v7788 v7810 k0_hw1162 => k0_hw1162

def k0_chk1163 (v7788 : IVec S16 32) (v7815 : IVec S16 32) : Prop :=
  (∀ a x, ((![v7788, v7815] : Fin 2 → IVec S16 32) a x).toNat < S160x39.size a)
theorem k0_idx1163_inb : ∀ (v7788 : IVec S16 32) (v7815 : IVec S16 32) (k0_hw1163 : k0_chk1163 v7788 v7815), ∀ a x, ((![v7788, v7815] : Fin 2 → IVec S16 32) a x).toNat < S160x39.size a := fun v7788 v7815 k0_hw1163 => k0_hw1163

def k0_chk1164 (v7788 : IVec S16 32) (v7823 : IVec S16 32) : Prop :=
  (∀ a x, ((![v7788, v7823] : Fin 2 → IVec S16 32) a x).toNat < S160x39.size a)
theorem k0_idx1164_inb : ∀ (v7788 : IVec S16 32) (v7823 : IVec S16 32) (k0_hw1164 : k0_chk1164 v7788 v7823), ∀ a x, ((![v7788, v7823] : Fin 2 → IVec S16 32) a x).toNat < S160x39.size a := fun v7788 v7823 k0_hw1164 => k0_hw1164

def k0_chk1165 (v7788 : IVec S16 32) (v7831 : IVec S16 32) : Prop :=
  (∀ a x, ((![v7788, v7831] : Fin 2 → IVec S16 32) a x).toNat < S160x31.size a)
theorem k0_idx1165_inb : ∀ (v7788 : IVec S16 32) (v7831 : IVec S16 32) (k0_hw1165 : k0_chk1165 v7788 v7831), ∀ a x, ((![v7788, v7831] : Fin 2 → IVec S16 32) a x).toNat < S160x31.size a := fun v7788 v7831 k0_hw1165 => k0_hw1165

def k0_chk1166 (v7788 : IVec S16 32) (v7834 : IVec S16 32) : Prop :=
  (∀ a x, ((![v7788, v7834] : Fin 2 → IVec S16 32) a x).toNat < S160x31.size a)
theorem k0_idx1166_inb : ∀ (v7788 : IVec S16 32) (v7834 : IVec S16 32) (k0_hw1166 : k0_chk1166 v7788 v7834), ∀ a x, ((![v7788, v7834] : Fin 2 → IVec S16 32) a x).toNat < S160x31.size a := fun v7788 v7834 k0_hw1166 => k0_hw1166

def k0_chk1167 (v7788 : IVec S16 32) (v7837 : IVec S16 32) : Prop :=
  (∀ a x, ((![v7788, v7837] : Fin 2 → IVec S16 32) a x).toNat < S160x39.size a)
theorem k0_idx1167_inb : ∀ (v7788 : IVec S16 32) (v7837 : IVec S16 32) (k0_hw1167 : k0_chk1167 v7788 v7837), ∀ a x, ((![v7788, v7837] : Fin 2 → IVec S16 32) a x).toNat < S160x39.size a := fun v7788 v7837 k0_hw1167 => k0_hw1167

def k0_chk1168 (v7788 : IVec S16 32) (v7845 : IVec S16 32) : Prop :=
  (∀ a x, ((![v7788, v7845] : Fin 2 → IVec S16 32) a x).toNat < S160x39.size a)
theorem k0_idx1168_inb : ∀ (v7788 : IVec S16 32) (v7845 : IVec S16 32) (k0_hw1168 : k0_chk1168 v7788 v7845), ∀ a x, ((![v7788, v7845] : Fin 2 → IVec S16 32) a x).toNat < S160x39.size a := fun v7788 v7845 k0_hw1168 => k0_hw1168

def k0_chk1169 (v7788 : IVec S16 32) (v7853 : IVec S16 32) : Prop :=
  (∀ a x, ((![v7788, v7853] : Fin 2 → IVec S16 32) a x).toNat < S160x31.size a)
theorem k0_idx1169_inb : ∀ (v7788 : IVec S16 32) (v7853 : IVec S16 32) (k0_hw1169 : k0_chk1169 v7788 v7853), ∀ a x, ((![v7788, v7853] : Fin 2 → IVec S16 32) a x).toNat < S160x31.size a := fun v7788 v7853 k0_hw1169 => k0_hw1169

def k0_chk1170 (v7788 : IVec S16 32) (v7856 : IVec S16 32) : Prop :=
  (∀ a x, ((![v7788, v7856] : Fin 2 → IVec S16 32) a x).toNat < S160x31.size a)
theorem k0_idx1170_inb : ∀ (v7788 : IVec S16 32) (v7856 : IVec S16 32) (k0_hw1170 : k0_chk1170 v7788 v7856), ∀ a x, ((![v7788, v7856] : Fin 2 → IVec S16 32) a x).toNat < S160x31.size a := fun v7788 v7856 k0_hw1170 => k0_hw1170

def k0_chk1171 (v7788 : IVec S16 32) (v7859 : IVec S16 32) : Prop :=
  (∀ a x, ((![v7788, v7859] : Fin 2 → IVec S16 32) a x).toNat < S160x39.size a)
theorem k0_idx1171_inb : ∀ (v7788 : IVec S16 32) (v7859 : IVec S16 32) (k0_hw1171 : k0_chk1171 v7788 v7859), ∀ a x, ((![v7788, v7859] : Fin 2 → IVec S16 32) a x).toNat < S160x39.size a := fun v7788 v7859 k0_hw1171 => k0_hw1171

def k0_chk1172 (v7788 : IVec S16 32) (v7867 : IVec S16 32) : Prop :=
  (∀ a x, ((![v7788, v7867] : Fin 2 → IVec S16 32) a x).toNat < S160x39.size a)
theorem k0_idx1172_inb : ∀ (v7788 : IVec S16 32) (v7867 : IVec S16 32) (k0_hw1172 : k0_chk1172 v7788 v7867), ∀ a x, ((![v7788, v7867] : Fin 2 → IVec S16 32) a x).toNat < S160x39.size a := fun v7788 v7867 k0_hw1172 => k0_hw1172

def k0_chk1173 (v7788 : IVec S16 32) (v7875 : IVec S16 32) : Prop :=
  (∀ a x, ((![v7788, v7875] : Fin 2 → IVec S16 32) a x).toNat < S160x31.size a)
theorem k0_idx1173_inb : ∀ (v7788 : IVec S16 32) (v7875 : IVec S16 32) (k0_hw1173 : k0_chk1173 v7788 v7875), ∀ a x, ((![v7788, v7875] : Fin 2 → IVec S16 32) a x).toNat < S160x31.size a := fun v7788 v7875 k0_hw1173 => k0_hw1173

def k0_chk1174 (v7788 : IVec S16 32) (v7878 : IVec S16 32) : Prop :=
  (∀ a x, ((![v7788, v7878] : Fin 2 → IVec S16 32) a x).toNat < S160x31.size a)
theorem k0_idx1174_inb : ∀ (v7788 : IVec S16 32) (v7878 : IVec S16 32) (k0_hw1174 : k0_chk1174 v7788 v7878), ∀ a x, ((![v7788, v7878] : Fin 2 → IVec S16 32) a x).toNat < S160x31.size a := fun v7788 v7878 k0_hw1174 => k0_hw1174

def k0_chk1175 (v7788 : IVec S16 32) (v7881 : IVec S16 32) : Prop :=
  (∀ a x, ((![v7788, v7881] : Fin 2 → IVec S16 32) a x).toNat < S160x39.size a)
theorem k0_idx1175_inb : ∀ (v7788 : IVec S16 32) (v7881 : IVec S16 32) (k0_hw1175 : k0_chk1175 v7788 v7881), ∀ a x, ((![v7788, v7881] : Fin 2 → IVec S16 32) a x).toNat < S160x39.size a := fun v7788 v7881 k0_hw1175 => k0_hw1175

def k0_chk1176 (v7788 : IVec S16 32) (v7889 : IVec S16 32) : Prop :=
  (∀ a x, ((![v7788, v7889] : Fin 2 → IVec S16 32) a x).toNat < S160x39.size a)
theorem k0_idx1176_inb : ∀ (v7788 : IVec S16 32) (v7889 : IVec S16 32) (k0_hw1176 : k0_chk1176 v7788 v7889), ∀ a x, ((![v7788, v7889] : Fin 2 → IVec S16 32) a x).toNat < S160x39.size a := fun v7788 v7889 k0_hw1176 => k0_hw1176

def k0_chk1177 (v7788 : IVec S16 32) (v7897 : IVec S16 32) : Prop :=
  (∀ a x, ((![v7788, v7897] : Fin 2 → IVec S16 32) a x).toNat < S160x31.size a)
theorem k0_idx1177_inb : ∀ (v7788 : IVec S16 32) (v7897 : IVec S16 32) (k0_hw1177 : k0_chk1177 v7788 v7897), ∀ a x, ((![v7788, v7897] : Fin 2 → IVec S16 32) a x).toNat < S160x31.size a := fun v7788 v7897 k0_hw1177 => k0_hw1177

def k0_chk1178 (v7788 : IVec S16 32) (v7900 : IVec S16 32) : Prop :=
  (∀ a x, ((![v7788, v7900] : Fin 2 → IVec S16 32) a x).toNat < S160x31.size a)
theorem k0_idx1178_inb : ∀ (v7788 : IVec S16 32) (v7900 : IVec S16 32) (k0_hw1178 : k0_chk1178 v7788 v7900), ∀ a x, ((![v7788, v7900] : Fin 2 → IVec S16 32) a x).toNat < S160x31.size a := fun v7788 v7900 k0_hw1178 => k0_hw1178

def k0_chk1179 (v7788 : IVec S16 32) (v7903 : IVec S16 32) : Prop :=
  (∀ a x, ((![v7788, v7903] : Fin 2 → IVec S16 32) a x).toNat < S160x39.size a)
theorem k0_idx1179_inb : ∀ (v7788 : IVec S16 32) (v7903 : IVec S16 32) (k0_hw1179 : k0_chk1179 v7788 v7903), ∀ a x, ((![v7788, v7903] : Fin 2 → IVec S16 32) a x).toNat < S160x39.size a := fun v7788 v7903 k0_hw1179 => k0_hw1179

def k0_chk1180 (v7788 : IVec S16 32) (v7911 : IVec S16 32) : Prop :=
  (∀ a x, ((![v7788, v7911] : Fin 2 → IVec S16 32) a x).toNat < S160x39.size a)
theorem k0_idx1180_inb : ∀ (v7788 : IVec S16 32) (v7911 : IVec S16 32) (k0_hw1180 : k0_chk1180 v7788 v7911), ∀ a x, ((![v7788, v7911] : Fin 2 → IVec S16 32) a x).toNat < S160x39.size a := fun v7788 v7911 k0_hw1180 => k0_hw1180

def k0_chk1181 (v7788 : IVec S16 32) (v7919 : IVec S16 32) : Prop :=
  (∀ a x, ((![v7788, v7919] : Fin 2 → IVec S16 32) a x).toNat < S160x31.size a)
theorem k0_idx1181_inb : ∀ (v7788 : IVec S16 32) (v7919 : IVec S16 32) (k0_hw1181 : k0_chk1181 v7788 v7919), ∀ a x, ((![v7788, v7919] : Fin 2 → IVec S16 32) a x).toNat < S160x31.size a := fun v7788 v7919 k0_hw1181 => k0_hw1181

def k0_chk1182 (v7788 : IVec S16 32) (v7922 : IVec S16 32) : Prop :=
  (∀ a x, ((![v7788, v7922] : Fin 2 → IVec S16 32) a x).toNat < S160x31.size a)
theorem k0_idx1182_inb : ∀ (v7788 : IVec S16 32) (v7922 : IVec S16 32) (k0_hw1182 : k0_chk1182 v7788 v7922), ∀ a x, ((![v7788, v7922] : Fin 2 → IVec S16 32) a x).toNat < S160x31.size a := fun v7788 v7922 k0_hw1182 => k0_hw1182

def k0_chk1183 (v7788 : IVec S16 32) (v7925 : IVec S16 32) : Prop :=
  (∀ a x, ((![v7788, v7925] : Fin 2 → IVec S16 32) a x).toNat < S160x39.size a)
theorem k0_idx1183_inb : ∀ (v7788 : IVec S16 32) (v7925 : IVec S16 32) (k0_hw1183 : k0_chk1183 v7788 v7925), ∀ a x, ((![v7788, v7925] : Fin 2 → IVec S16 32) a x).toNat < S160x39.size a := fun v7788 v7925 k0_hw1183 => k0_hw1183

def k0_chk1184 (v7788 : IVec S16 32) (v7929 : IVec S16 32) : Prop :=
  (∀ a x, ((![v7788, v7929] : Fin 2 → IVec S16 32) a x).toNat < S160x31.size a)
theorem k0_idx1184_inb : ∀ (v7788 : IVec S16 32) (v7929 : IVec S16 32) (k0_hw1184 : k0_chk1184 v7788 v7929), ∀ a x, ((![v7788, v7929] : Fin 2 → IVec S16 32) a x).toNat < S160x31.size a := fun v7788 v7929 k0_hw1184 => k0_hw1184

def k0_chk1185 (v7788 : IVec S16 32) (v7932 : IVec S16 32) : Prop :=
  (∀ a x, ((![v7788, v7932] : Fin 2 → IVec S16 32) a x).toNat < S160x39.size a)
theorem k0_idx1185_inb : ∀ (v7788 : IVec S16 32) (v7932 : IVec S16 32) (k0_hw1185 : k0_chk1185 v7788 v7932), ∀ a x, ((![v7788, v7932] : Fin 2 → IVec S16 32) a x).toNat < S160x39.size a := fun v7788 v7932 k0_hw1185 => k0_hw1185

def k0_chk1186 (v7788 : IVec S16 32) (v7936 : IVec S16 32) : Prop :=
  (∀ a x, ((![v7788, v7936] : Fin 2 → IVec S16 32) a x).toNat < S160x31.size a)
theorem k0_idx1186_inb : ∀ (v7788 : IVec S16 32) (v7936 : IVec S16 32) (k0_hw1186 : k0_chk1186 v7788 v7936), ∀ a x, ((![v7788, v7936] : Fin 2 → IVec S16 32) a x).toNat < S160x31.size a := fun v7788 v7936 k0_hw1186 => k0_hw1186

def k0_chk1187 (v7788 : IVec S16 32) (v7939 : IVec S16 32) : Prop :=
  (∀ a x, ((![v7788, v7939] : Fin 2 → IVec S16 32) a x).toNat < S160x39.size a)
theorem k0_idx1187_inb : ∀ (v7788 : IVec S16 32) (v7939 : IVec S16 32) (k0_hw1187 : k0_chk1187 v7788 v7939), ∀ a x, ((![v7788, v7939] : Fin 2 → IVec S16 32) a x).toNat < S160x39.size a := fun v7788 v7939 k0_hw1187 => k0_hw1187

def k0_chk1188 (v7788 : IVec S16 32) (v7943 : IVec S16 32) : Prop :=
  (∀ a x, ((![v7788, v7943] : Fin 2 → IVec S16 32) a x).toNat < S160x31.size a)
theorem k0_idx1188_inb : ∀ (v7788 : IVec S16 32) (v7943 : IVec S16 32) (k0_hw1188 : k0_chk1188 v7788 v7943), ∀ a x, ((![v7788, v7943] : Fin 2 → IVec S16 32) a x).toNat < S160x31.size a := fun v7788 v7943 k0_hw1188 => k0_hw1188

def k0_chk1189 (v7788 : IVec S16 32) (v7946 : IVec S16 32) : Prop :=
  (∀ a x, ((![v7788, v7946] : Fin 2 → IVec S16 32) a x).toNat < S160x39.size a)
theorem k0_idx1189_inb : ∀ (v7788 : IVec S16 32) (v7946 : IVec S16 32) (k0_hw1189 : k0_chk1189 v7788 v7946), ∀ a x, ((![v7788, v7946] : Fin 2 → IVec S16 32) a x).toNat < S160x39.size a := fun v7788 v7946 k0_hw1189 => k0_hw1189

def k0_chk1190 (v7788 : IVec S16 32) (v7950 : IVec S16 32) : Prop :=
  (∀ a x, ((![v7788, v7950] : Fin 2 → IVec S16 32) a x).toNat < S160x31.size a)
theorem k0_idx1190_inb : ∀ (v7788 : IVec S16 32) (v7950 : IVec S16 32) (k0_hw1190 : k0_chk1190 v7788 v7950), ∀ a x, ((![v7788, v7950] : Fin 2 → IVec S16 32) a x).toNat < S160x31.size a := fun v7788 v7950 k0_hw1190 => k0_hw1190

def k0_chk1191 (v7788 : IVec S16 32) (v7953 : IVec S16 32) : Prop :=
  (∀ a x, ((![v7788, v7953] : Fin 2 → IVec S16 32) a x).toNat < S160x39.size a)
theorem k0_idx1191_inb : ∀ (v7788 : IVec S16 32) (v7953 : IVec S16 32) (k0_hw1191 : k0_chk1191 v7788 v7953), ∀ a x, ((![v7788, v7953] : Fin 2 → IVec S16 32) a x).toNat < S160x39.size a := fun v7788 v7953 k0_hw1191 => k0_hw1191

def k0_chk1192 (v7788 : IVec S16 32) (v7957 : IVec S16 32) : Prop :=
  (∀ a x, ((![v7788, v7957] : Fin 2 → IVec S16 32) a x).toNat < S160x31.size a)
theorem k0_idx1192_inb : ∀ (v7788 : IVec S16 32) (v7957 : IVec S16 32) (k0_hw1192 : k0_chk1192 v7788 v7957), ∀ a x, ((![v7788, v7957] : Fin 2 → IVec S16 32) a x).toNat < S160x31.size a := fun v7788 v7957 k0_hw1192 => k0_hw1192

def k0_chk1193 (v7788 : IVec S16 32) (v7960 : IVec S16 32) : Prop :=
  (∀ a x, ((![v7788, v7960] : Fin 2 → IVec S16 32) a x).toNat < S160x39.size a)
theorem k0_idx1193_inb : ∀ (v7788 : IVec S16 32) (v7960 : IVec S16 32) (k0_hw1193 : k0_chk1193 v7788 v7960), ∀ a x, ((![v7788, v7960] : Fin 2 → IVec S16 32) a x).toNat < S160x39.size a := fun v7788 v7960 k0_hw1193 => k0_hw1193

def k0_chk1194 (v7788 : IVec S16 32) (v7964 : IVec S16 32) : Prop :=
  (∀ a x, ((![v7788, v7964] : Fin 2 → IVec S16 32) a x).toNat < S160x31.size a)
theorem k0_idx1194_inb : ∀ (v7788 : IVec S16 32) (v7964 : IVec S16 32) (k0_hw1194 : k0_chk1194 v7788 v7964), ∀ a x, ((![v7788, v7964] : Fin 2 → IVec S16 32) a x).toNat < S160x31.size a := fun v7788 v7964 k0_hw1194 => k0_hw1194

def k0_chk1195 (v7788 : IVec S16 32) (v7967 : IVec S16 32) : Prop :=
  (∀ a x, ((![v7788, v7967] : Fin 2 → IVec S16 32) a x).toNat < S160x39.size a)
theorem k0_idx1195_inb : ∀ (v7788 : IVec S16 32) (v7967 : IVec S16 32) (k0_hw1195 : k0_chk1195 v7788 v7967), ∀ a x, ((![v7788, v7967] : Fin 2 → IVec S16 32) a x).toNat < S160x39.size a := fun v7788 v7967 k0_hw1195 => k0_hw1195

def k0_chk1196 (v7788 : IVec S16 32) (v7971 : IVec S16 32) : Prop :=
  (∀ a x, ((![v7788, v7971] : Fin 2 → IVec S16 32) a x).toNat < S160x31.size a)
theorem k0_idx1196_inb : ∀ (v7788 : IVec S16 32) (v7971 : IVec S16 32) (k0_hw1196 : k0_chk1196 v7788 v7971), ∀ a x, ((![v7788, v7971] : Fin 2 → IVec S16 32) a x).toNat < S160x31.size a := fun v7788 v7971 k0_hw1196 => k0_hw1196

def k0_chk1197 (v7788 : IVec S16 32) (v7974 : IVec S16 32) : Prop :=
  (∀ a x, ((![v7788, v7974] : Fin 2 → IVec S16 32) a x).toNat < S160x39.size a)
theorem k0_idx1197_inb : ∀ (v7788 : IVec S16 32) (v7974 : IVec S16 32) (k0_hw1197 : k0_chk1197 v7788 v7974), ∀ a x, ((![v7788, v7974] : Fin 2 → IVec S16 32) a x).toNat < S160x39.size a := fun v7788 v7974 k0_hw1197 => k0_hw1197

def k0_chk1198 (v7788 : IVec S16 32) (v7978 : IVec S16 32) : Prop :=
  (∀ a x, ((![v7788, v7978] : Fin 2 → IVec S16 32) a x).toNat < S160x31.size a)
theorem k0_idx1198_inb : ∀ (v7788 : IVec S16 32) (v7978 : IVec S16 32) (k0_hw1198 : k0_chk1198 v7788 v7978), ∀ a x, ((![v7788, v7978] : Fin 2 → IVec S16 32) a x).toNat < S160x31.size a := fun v7788 v7978 k0_hw1198 => k0_hw1198

def k0_chk1199 (v7788 : IVec S16 32) (v7981 : IVec S16 32) : Prop :=
  (∀ a x, ((![v7788, v7981] : Fin 2 → IVec S16 32) a x).toNat < S160x39.size a)
theorem k0_idx1199_inb : ∀ (v7788 : IVec S16 32) (v7981 : IVec S16 32) (k0_hw1199 : k0_chk1199 v7788 v7981), ∀ a x, ((![v7788, v7981] : Fin 2 → IVec S16 32) a x).toNat < S160x39.size a := fun v7788 v7981 k0_hw1199 => k0_hw1199

def k0_chk1200 (v7788 : IVec S16 32) (v7985 : IVec S16 32) : Prop :=
  (∀ a x, ((![v7788, v7985] : Fin 2 → IVec S16 32) a x).toNat < S160x31.size a)
theorem k0_idx1200_inb : ∀ (v7788 : IVec S16 32) (v7985 : IVec S16 32) (k0_hw1200 : k0_chk1200 v7788 v7985), ∀ a x, ((![v7788, v7985] : Fin 2 → IVec S16 32) a x).toNat < S160x31.size a := fun v7788 v7985 k0_hw1200 => k0_hw1200

def k0_chk1201 (v7788 : IVec S16 32) (v7988 : IVec S16 32) : Prop :=
  (∀ a x, ((![v7788, v7988] : Fin 2 → IVec S16 32) a x).toNat < S160x39.size a)
theorem k0_idx1201_inb : ∀ (v7788 : IVec S16 32) (v7988 : IVec S16 32) (k0_hw1201 : k0_chk1201 v7788 v7988), ∀ a x, ((![v7788, v7988] : Fin 2 → IVec S16 32) a x).toNat < S160x39.size a := fun v7788 v7988 k0_hw1201 => k0_hw1201

def k0_chk1202 (v7788 : IVec S16 32) (v7992 : IVec S16 32) : Prop :=
  (∀ a x, ((![v7788, v7992] : Fin 2 → IVec S16 32) a x).toNat < S160x31.size a)
theorem k0_idx1202_inb : ∀ (v7788 : IVec S16 32) (v7992 : IVec S16 32) (k0_hw1202 : k0_chk1202 v7788 v7992), ∀ a x, ((![v7788, v7992] : Fin 2 → IVec S16 32) a x).toNat < S160x31.size a := fun v7788 v7992 k0_hw1202 => k0_hw1202

def k0_chk1203 (v7788 : IVec S16 32) (v7995 : IVec S16 32) : Prop :=
  (∀ a x, ((![v7788, v7995] : Fin 2 → IVec S16 32) a x).toNat < S160x39.size a)
theorem k0_idx1203_inb : ∀ (v7788 : IVec S16 32) (v7995 : IVec S16 32) (k0_hw1203 : k0_chk1203 v7788 v7995), ∀ a x, ((![v7788, v7995] : Fin 2 → IVec S16 32) a x).toNat < S160x39.size a := fun v7788 v7995 k0_hw1203 => k0_hw1203

def k0_chk1204 (v7788 : IVec S16 32) (v7999 : IVec S16 32) : Prop :=
  (∀ a x, ((![v7788, v7999] : Fin 2 → IVec S16 32) a x).toNat < S160x31.size a)
theorem k0_idx1204_inb : ∀ (v7788 : IVec S16 32) (v7999 : IVec S16 32) (k0_hw1204 : k0_chk1204 v7788 v7999), ∀ a x, ((![v7788, v7999] : Fin 2 → IVec S16 32) a x).toNat < S160x31.size a := fun v7788 v7999 k0_hw1204 => k0_hw1204

def k0_chk1205 (v7788 : IVec S16 32) (v8002 : IVec S16 32) : Prop :=
  (∀ a x, ((![v7788, v8002] : Fin 2 → IVec S16 32) a x).toNat < S160x39.size a)
theorem k0_idx1205_inb : ∀ (v7788 : IVec S16 32) (v8002 : IVec S16 32) (k0_hw1205 : k0_chk1205 v7788 v8002), ∀ a x, ((![v7788, v8002] : Fin 2 → IVec S16 32) a x).toNat < S160x39.size a := fun v7788 v8002 k0_hw1205 => k0_hw1205

def k0_chk1206 (v7788 : IVec S16 32) (v8006 : IVec S16 32) : Prop :=
  (∀ a x, ((![v7788, v8006] : Fin 2 → IVec S16 32) a x).toNat < S160x31.size a)
theorem k0_idx1206_inb : ∀ (v7788 : IVec S16 32) (v8006 : IVec S16 32) (k0_hw1206 : k0_chk1206 v7788 v8006), ∀ a x, ((![v7788, v8006] : Fin 2 → IVec S16 32) a x).toNat < S160x31.size a := fun v7788 v8006 k0_hw1206 => k0_hw1206

def k0_chk1207 (v7788 : IVec S16 32) (v8009 : IVec S16 32) : Prop :=
  (∀ a x, ((![v7788, v8009] : Fin 2 → IVec S16 32) a x).toNat < S160x39.size a)
theorem k0_idx1207_inb : ∀ (v7788 : IVec S16 32) (v8009 : IVec S16 32) (k0_hw1207 : k0_chk1207 v7788 v8009), ∀ a x, ((![v7788, v8009] : Fin 2 → IVec S16 32) a x).toNat < S160x39.size a := fun v7788 v8009 k0_hw1207 => k0_hw1207

def k0_chk1208 (v7788 : IVec S16 32) (v8013 : IVec S16 32) : Prop :=
  (∀ a x, ((![v7788, v8013] : Fin 2 → IVec S16 32) a x).toNat < S160x31.size a)
theorem k0_idx1208_inb : ∀ (v7788 : IVec S16 32) (v8013 : IVec S16 32) (k0_hw1208 : k0_chk1208 v7788 v8013), ∀ a x, ((![v7788, v8013] : Fin 2 → IVec S16 32) a x).toNat < S160x31.size a := fun v7788 v8013 k0_hw1208 => k0_hw1208

def k0_chk1209 (v7788 : IVec S16 32) (v8016 : IVec S16 32) : Prop :=
  (∀ a x, ((![v7788, v8016] : Fin 2 → IVec S16 32) a x).toNat < S160x39.size a)
theorem k0_idx1209_inb : ∀ (v7788 : IVec S16 32) (v8016 : IVec S16 32) (k0_hw1209 : k0_chk1209 v7788 v8016), ∀ a x, ((![v7788, v8016] : Fin 2 → IVec S16 32) a x).toNat < S160x39.size a := fun v7788 v8016 k0_hw1209 => k0_hw1209

def k0_chk1210 (v7788 : IVec S16 32) (v8020 : IVec S16 32) : Prop :=
  (∀ a x, ((![v7788, v8020] : Fin 2 → IVec S16 32) a x).toNat < S160x31.size a)
theorem k0_idx1210_inb : ∀ (v7788 : IVec S16 32) (v8020 : IVec S16 32) (k0_hw1210 : k0_chk1210 v7788 v8020), ∀ a x, ((![v7788, v8020] : Fin 2 → IVec S16 32) a x).toNat < S160x31.size a := fun v7788 v8020 k0_hw1210 => k0_hw1210

def k0_chk1211 (v7788 : IVec S16 32) (v8023 : IVec S16 32) : Prop :=
  (∀ a x, ((![v7788, v8023] : Fin 2 → IVec S16 32) a x).toNat < S160x39.size a)
theorem k0_idx1211_inb : ∀ (v7788 : IVec S16 32) (v8023 : IVec S16 32) (k0_hw1211 : k0_chk1211 v7788 v8023), ∀ a x, ((![v7788, v8023] : Fin 2 → IVec S16 32) a x).toNat < S160x39.size a := fun v7788 v8023 k0_hw1211 => k0_hw1211

def k0_chk1212 (v7788 : IVec S16 32) (v8027 : IVec S16 32) : Prop :=
  (∀ a x, ((![v7788, v8027] : Fin 2 → IVec S16 32) a x).toNat < S160x31.size a)
theorem k0_idx1212_inb : ∀ (v7788 : IVec S16 32) (v8027 : IVec S16 32) (k0_hw1212 : k0_chk1212 v7788 v8027), ∀ a x, ((![v7788, v8027] : Fin 2 → IVec S16 32) a x).toNat < S160x31.size a := fun v7788 v8027 k0_hw1212 => k0_hw1212

def k0_chk1213 (v7788 : IVec S16 32) (v8030 : IVec S16 32) : Prop :=
  (∀ a x, ((![v7788, v8030] : Fin 2 → IVec S16 32) a x).toNat < S160x39.size a)
theorem k0_idx1213_inb : ∀ (v7788 : IVec S16 32) (v8030 : IVec S16 32) (k0_hw1213 : k0_chk1213 v7788 v8030), ∀ a x, ((![v7788, v8030] : Fin 2 → IVec S16 32) a x).toNat < S160x39.size a := fun v7788 v8030 k0_hw1213 => k0_hw1213

def k0_chk1214 (v7788 : IVec S16 32) (v8034 : IVec S16 32) : Prop :=
  (∀ a x, ((![v7788, v8034] : Fin 2 → IVec S16 32) a x).toNat < S160x31.size a)
theorem k0_idx1214_inb : ∀ (v7788 : IVec S16 32) (v8034 : IVec S16 32) (k0_hw1214 : k0_chk1214 v7788 v8034), ∀ a x, ((![v7788, v8034] : Fin 2 → IVec S16 32) a x).toNat < S160x31.size a := fun v7788 v8034 k0_hw1214 => k0_hw1214

def k0_chk1215 (v7788 : IVec S16 32) (v8037 : IVec S16 32) : Prop :=
  (∀ a x, ((![v7788, v8037] : Fin 2 → IVec S16 32) a x).toNat < S160x39.size a)
theorem k0_idx1215_inb : ∀ (v7788 : IVec S16 32) (v8037 : IVec S16 32) (k0_hw1215 : k0_chk1215 v7788 v8037), ∀ a x, ((![v7788, v8037] : Fin 2 → IVec S16 32) a x).toNat < S160x39.size a := fun v7788 v8037 k0_hw1215 => k0_hw1215

def k0_chk1216 (v7788 : IVec S16 32) (v8041 : IVec S16 32) : Prop :=
  (∀ a x, ((![v7788, v8041] : Fin 2 → IVec S16 32) a x).toNat < S160x31.size a)
theorem k0_idx1216_inb : ∀ (v7788 : IVec S16 32) (v8041 : IVec S16 32) (k0_hw1216 : k0_chk1216 v7788 v8041), ∀ a x, ((![v7788, v8041] : Fin 2 → IVec S16 32) a x).toNat < S160x31.size a := fun v7788 v8041 k0_hw1216 => k0_hw1216

def k0_chk1217 (v7788 : IVec S16 32) (v8044 : IVec S16 32) : Prop :=
  (∀ a x, ((![v7788, v8044] : Fin 2 → IVec S16 32) a x).toNat < S160x39.size a)
theorem k0_idx1217_inb : ∀ (v7788 : IVec S16 32) (v8044 : IVec S16 32) (k0_hw1217 : k0_chk1217 v7788 v8044), ∀ a x, ((![v7788, v8044] : Fin 2 → IVec S16 32) a x).toNat < S160x39.size a := fun v7788 v8044 k0_hw1217 => k0_hw1217

def k0_chk1218 (v7788 : IVec S16 32) (v8048 : IVec S16 32) : Prop :=
  (∀ a x, ((![v7788, v8048] : Fin 2 → IVec S16 32) a x).toNat < S160x31.size a)
theorem k0_idx1218_inb : ∀ (v7788 : IVec S16 32) (v8048 : IVec S16 32) (k0_hw1218 : k0_chk1218 v7788 v8048), ∀ a x, ((![v7788, v8048] : Fin 2 → IVec S16 32) a x).toNat < S160x31.size a := fun v7788 v8048 k0_hw1218 => k0_hw1218

def k0_chk1219 (v7788 : IVec S16 32) (v8051 : IVec S16 32) : Prop :=
  (∀ a x, ((![v7788, v8051] : Fin 2 → IVec S16 32) a x).toNat < S160x39.size a)
theorem k0_idx1219_inb : ∀ (v7788 : IVec S16 32) (v8051 : IVec S16 32) (k0_hw1219 : k0_chk1219 v7788 v8051), ∀ a x, ((![v7788, v8051] : Fin 2 → IVec S16 32) a x).toNat < S160x39.size a := fun v7788 v8051 k0_hw1219 => k0_hw1219

def k0_chk1220 (v7788 : IVec S16 32) (v8055 : IVec S16 32) : Prop :=
  (∀ a x, ((![v7788, v8055] : Fin 2 → IVec S16 32) a x).toNat < S160x31.size a)
theorem k0_idx1220_inb : ∀ (v7788 : IVec S16 32) (v8055 : IVec S16 32) (k0_hw1220 : k0_chk1220 v7788 v8055), ∀ a x, ((![v7788, v8055] : Fin 2 → IVec S16 32) a x).toNat < S160x31.size a := fun v7788 v8055 k0_hw1220 => k0_hw1220

def k0_chk1221 (v7788 : IVec S16 32) (v8058 : IVec S16 32) : Prop :=
  (∀ a x, ((![v7788, v8058] : Fin 2 → IVec S16 32) a x).toNat < S160x39.size a)
theorem k0_idx1221_inb : ∀ (v7788 : IVec S16 32) (v8058 : IVec S16 32) (k0_hw1221 : k0_chk1221 v7788 v8058), ∀ a x, ((![v7788, v8058] : Fin 2 → IVec S16 32) a x).toNat < S160x39.size a := fun v7788 v8058 k0_hw1221 => k0_hw1221

def k0_chk1222 (v7788 : IVec S16 32) (v8062 : IVec S16 32) : Prop :=
  (∀ a x, ((![v7788, v8062] : Fin 2 → IVec S16 32) a x).toNat < S160x31.size a)
theorem k0_idx1222_inb : ∀ (v7788 : IVec S16 32) (v8062 : IVec S16 32) (k0_hw1222 : k0_chk1222 v7788 v8062), ∀ a x, ((![v7788, v8062] : Fin 2 → IVec S16 32) a x).toNat < S160x31.size a := fun v7788 v8062 k0_hw1222 => k0_hw1222

def k0_chk1223 (v7788 : IVec S16 32) (v8065 : IVec S16 32) : Prop :=
  (∀ a x, ((![v7788, v8065] : Fin 2 → IVec S16 32) a x).toNat < S160x39.size a)
theorem k0_idx1223_inb : ∀ (v7788 : IVec S16 32) (v8065 : IVec S16 32) (k0_hw1223 : k0_chk1223 v7788 v8065), ∀ a x, ((![v7788, v8065] : Fin 2 → IVec S16 32) a x).toNat < S160x39.size a := fun v7788 v8065 k0_hw1223 => k0_hw1223

def k0_chk1224 (v7788 : IVec S16 32) (v8069 : IVec S16 32) : Prop :=
  (∀ a x, ((![v7788, v8069] : Fin 2 → IVec S16 32) a x).toNat < S160x31.size a)
theorem k0_idx1224_inb : ∀ (v7788 : IVec S16 32) (v8069 : IVec S16 32) (k0_hw1224 : k0_chk1224 v7788 v8069), ∀ a x, ((![v7788, v8069] : Fin 2 → IVec S16 32) a x).toNat < S160x31.size a := fun v7788 v8069 k0_hw1224 => k0_hw1224

def k0_chk1225 (v8073 : IVec S16 32) (v8074 : IVec S16 32) : Prop :=
  (∀ a x, ((![v8073, v8074] : Fin 2 → IVec S16 32) a x).toNat < S160x39.size a)
theorem k0_idx1225_inb : ∀ (v8073 : IVec S16 32) (v8074 : IVec S16 32) (k0_hw1225 : k0_chk1225 v8073 v8074), ∀ a x, ((![v8073, v8074] : Fin 2 → IVec S16 32) a x).toNat < S160x39.size a := fun v8073 v8074 k0_hw1225 => k0_hw1225

def k0_chk1226 (v8073 : IVec S16 32) (v8078 : IVec S16 32) : Prop :=
  (∀ a x, ((![v8073, v8078] : Fin 2 → IVec S16 32) a x).toNat < S160x39.size a)
theorem k0_idx1226_inb : ∀ (v8073 : IVec S16 32) (v8078 : IVec S16 32) (k0_hw1226 : k0_chk1226 v8073 v8078), ∀ a x, ((![v8073, v8078] : Fin 2 → IVec S16 32) a x).toNat < S160x39.size a := fun v8073 v8078 k0_hw1226 => k0_hw1226

def k0_chk1227 (v8073 : IVec S16 32) (v8082 : IVec S16 32) : Prop :=
  (∀ a x, ((![v8073, v8082] : Fin 2 → IVec S16 32) a x).toNat < S160x39.size a)
theorem k0_idx1227_inb : ∀ (v8073 : IVec S16 32) (v8082 : IVec S16 32) (k0_hw1227 : k0_chk1227 v8073 v8082), ∀ a x, ((![v8073, v8082] : Fin 2 → IVec S16 32) a x).toNat < S160x39.size a := fun v8073 v8082 k0_hw1227 => k0_hw1227

def k0_chk1228 (v8073 : IVec S16 32) (v8086 : IVec S16 32) : Prop :=
  (∀ a x, ((![v8073, v8086] : Fin 2 → IVec S16 32) a x).toNat < S160x39.size a)
theorem k0_idx1228_inb : ∀ (v8073 : IVec S16 32) (v8086 : IVec S16 32) (k0_hw1228 : k0_chk1228 v8073 v8086), ∀ a x, ((![v8073, v8086] : Fin 2 → IVec S16 32) a x).toNat < S160x39.size a := fun v8073 v8086 k0_hw1228 => k0_hw1228

def k0_chk1229 (v8073 : IVec S16 32) (v8091 : IVec S16 32) : Prop :=
  (∀ a x, ((![v8073, v8091] : Fin 2 → IVec S16 32) a x).toNat < S160x39.size a)
theorem k0_idx1229_inb : ∀ (v8073 : IVec S16 32) (v8091 : IVec S16 32) (k0_hw1229 : k0_chk1229 v8073 v8091), ∀ a x, ((![v8073, v8091] : Fin 2 → IVec S16 32) a x).toNat < S160x39.size a := fun v8073 v8091 k0_hw1229 => k0_hw1229

def k0_chk1230 (v8073 : IVec S16 32) (v8095 : IVec S16 32) : Prop :=
  (∀ a x, ((![v8073, v8095] : Fin 2 → IVec S16 32) a x).toNat < S160x39.size a)
theorem k0_idx1230_inb : ∀ (v8073 : IVec S16 32) (v8095 : IVec S16 32) (k0_hw1230 : k0_chk1230 v8073 v8095), ∀ a x, ((![v8073, v8095] : Fin 2 → IVec S16 32) a x).toNat < S160x39.size a := fun v8073 v8095 k0_hw1230 => k0_hw1230

def k0_chk1231 (v8073 : IVec S16 32) (v8100 : IVec S16 32) : Prop :=
  (∀ a x, ((![v8073, v8100] : Fin 2 → IVec S16 32) a x).toNat < S160x39.size a)
theorem k0_idx1231_inb : ∀ (v8073 : IVec S16 32) (v8100 : IVec S16 32) (k0_hw1231 : k0_chk1231 v8073 v8100), ∀ a x, ((![v8073, v8100] : Fin 2 → IVec S16 32) a x).toNat < S160x39.size a := fun v8073 v8100 k0_hw1231 => k0_hw1231

def k0_chk1232 (v8073 : IVec S16 32) (v8108 : IVec S16 32) : Prop :=
  (∀ a x, ((![v8073, v8108] : Fin 2 → IVec S16 32) a x).toNat < S160x39.size a)
theorem k0_idx1232_inb : ∀ (v8073 : IVec S16 32) (v8108 : IVec S16 32) (k0_hw1232 : k0_chk1232 v8073 v8108), ∀ a x, ((![v8073, v8108] : Fin 2 → IVec S16 32) a x).toNat < S160x39.size a := fun v8073 v8108 k0_hw1232 => k0_hw1232

def k0_chk1233 (v8073 : IVec S16 32) (v8116 : IVec S16 32) : Prop :=
  (∀ a x, ((![v8073, v8116] : Fin 2 → IVec S16 32) a x).toNat < S160x31.size a)
theorem k0_idx1233_inb : ∀ (v8073 : IVec S16 32) (v8116 : IVec S16 32) (k0_hw1233 : k0_chk1233 v8073 v8116), ∀ a x, ((![v8073, v8116] : Fin 2 → IVec S16 32) a x).toNat < S160x31.size a := fun v8073 v8116 k0_hw1233 => k0_hw1233

def k0_chk1234 (v8073 : IVec S16 32) (v8119 : IVec S16 32) : Prop :=
  (∀ a x, ((![v8073, v8119] : Fin 2 → IVec S16 32) a x).toNat < S160x31.size a)
theorem k0_idx1234_inb : ∀ (v8073 : IVec S16 32) (v8119 : IVec S16 32) (k0_hw1234 : k0_chk1234 v8073 v8119), ∀ a x, ((![v8073, v8119] : Fin 2 → IVec S16 32) a x).toNat < S160x31.size a := fun v8073 v8119 k0_hw1234 => k0_hw1234

def k0_chk1235 (v8073 : IVec S16 32) (v8122 : IVec S16 32) : Prop :=
  (∀ a x, ((![v8073, v8122] : Fin 2 → IVec S16 32) a x).toNat < S160x39.size a)
theorem k0_idx1235_inb : ∀ (v8073 : IVec S16 32) (v8122 : IVec S16 32) (k0_hw1235 : k0_chk1235 v8073 v8122), ∀ a x, ((![v8073, v8122] : Fin 2 → IVec S16 32) a x).toNat < S160x39.size a := fun v8073 v8122 k0_hw1235 => k0_hw1235

def k0_chk1236 (v8073 : IVec S16 32) (v8130 : IVec S16 32) : Prop :=
  (∀ a x, ((![v8073, v8130] : Fin 2 → IVec S16 32) a x).toNat < S160x39.size a)
theorem k0_idx1236_inb : ∀ (v8073 : IVec S16 32) (v8130 : IVec S16 32) (k0_hw1236 : k0_chk1236 v8073 v8130), ∀ a x, ((![v8073, v8130] : Fin 2 → IVec S16 32) a x).toNat < S160x39.size a := fun v8073 v8130 k0_hw1236 => k0_hw1236

def k0_chk1237 (v8073 : IVec S16 32) (v8138 : IVec S16 32) : Prop :=
  (∀ a x, ((![v8073, v8138] : Fin 2 → IVec S16 32) a x).toNat < S160x31.size a)
theorem k0_idx1237_inb : ∀ (v8073 : IVec S16 32) (v8138 : IVec S16 32) (k0_hw1237 : k0_chk1237 v8073 v8138), ∀ a x, ((![v8073, v8138] : Fin 2 → IVec S16 32) a x).toNat < S160x31.size a := fun v8073 v8138 k0_hw1237 => k0_hw1237

def k0_chk1238 (v8073 : IVec S16 32) (v8141 : IVec S16 32) : Prop :=
  (∀ a x, ((![v8073, v8141] : Fin 2 → IVec S16 32) a x).toNat < S160x31.size a)
theorem k0_idx1238_inb : ∀ (v8073 : IVec S16 32) (v8141 : IVec S16 32) (k0_hw1238 : k0_chk1238 v8073 v8141), ∀ a x, ((![v8073, v8141] : Fin 2 → IVec S16 32) a x).toNat < S160x31.size a := fun v8073 v8141 k0_hw1238 => k0_hw1238

def k0_chk1239 (v8073 : IVec S16 32) (v8144 : IVec S16 32) : Prop :=
  (∀ a x, ((![v8073, v8144] : Fin 2 → IVec S16 32) a x).toNat < S160x39.size a)
theorem k0_idx1239_inb : ∀ (v8073 : IVec S16 32) (v8144 : IVec S16 32) (k0_hw1239 : k0_chk1239 v8073 v8144), ∀ a x, ((![v8073, v8144] : Fin 2 → IVec S16 32) a x).toNat < S160x39.size a := fun v8073 v8144 k0_hw1239 => k0_hw1239

def k0_chk1240 (v8073 : IVec S16 32) (v8152 : IVec S16 32) : Prop :=
  (∀ a x, ((![v8073, v8152] : Fin 2 → IVec S16 32) a x).toNat < S160x39.size a)
theorem k0_idx1240_inb : ∀ (v8073 : IVec S16 32) (v8152 : IVec S16 32) (k0_hw1240 : k0_chk1240 v8073 v8152), ∀ a x, ((![v8073, v8152] : Fin 2 → IVec S16 32) a x).toNat < S160x39.size a := fun v8073 v8152 k0_hw1240 => k0_hw1240

def k0_chk1241 (v8073 : IVec S16 32) (v8160 : IVec S16 32) : Prop :=
  (∀ a x, ((![v8073, v8160] : Fin 2 → IVec S16 32) a x).toNat < S160x31.size a)
theorem k0_idx1241_inb : ∀ (v8073 : IVec S16 32) (v8160 : IVec S16 32) (k0_hw1241 : k0_chk1241 v8073 v8160), ∀ a x, ((![v8073, v8160] : Fin 2 → IVec S16 32) a x).toNat < S160x31.size a := fun v8073 v8160 k0_hw1241 => k0_hw1241

def k0_chk1242 (v8073 : IVec S16 32) (v8163 : IVec S16 32) : Prop :=
  (∀ a x, ((![v8073, v8163] : Fin 2 → IVec S16 32) a x).toNat < S160x31.size a)
theorem k0_idx1242_inb : ∀ (v8073 : IVec S16 32) (v8163 : IVec S16 32) (k0_hw1242 : k0_chk1242 v8073 v8163), ∀ a x, ((![v8073, v8163] : Fin 2 → IVec S16 32) a x).toNat < S160x31.size a := fun v8073 v8163 k0_hw1242 => k0_hw1242

def k0_chk1243 (v8073 : IVec S16 32) (v8166 : IVec S16 32) : Prop :=
  (∀ a x, ((![v8073, v8166] : Fin 2 → IVec S16 32) a x).toNat < S160x39.size a)
theorem k0_idx1243_inb : ∀ (v8073 : IVec S16 32) (v8166 : IVec S16 32) (k0_hw1243 : k0_chk1243 v8073 v8166), ∀ a x, ((![v8073, v8166] : Fin 2 → IVec S16 32) a x).toNat < S160x39.size a := fun v8073 v8166 k0_hw1243 => k0_hw1243

def k0_chk1244 (v8073 : IVec S16 32) (v8174 : IVec S16 32) : Prop :=
  (∀ a x, ((![v8073, v8174] : Fin 2 → IVec S16 32) a x).toNat < S160x39.size a)
theorem k0_idx1244_inb : ∀ (v8073 : IVec S16 32) (v8174 : IVec S16 32) (k0_hw1244 : k0_chk1244 v8073 v8174), ∀ a x, ((![v8073, v8174] : Fin 2 → IVec S16 32) a x).toNat < S160x39.size a := fun v8073 v8174 k0_hw1244 => k0_hw1244

def k0_chk1245 (v8073 : IVec S16 32) (v8182 : IVec S16 32) : Prop :=
  (∀ a x, ((![v8073, v8182] : Fin 2 → IVec S16 32) a x).toNat < S160x31.size a)
theorem k0_idx1245_inb : ∀ (v8073 : IVec S16 32) (v8182 : IVec S16 32) (k0_hw1245 : k0_chk1245 v8073 v8182), ∀ a x, ((![v8073, v8182] : Fin 2 → IVec S16 32) a x).toNat < S160x31.size a := fun v8073 v8182 k0_hw1245 => k0_hw1245

def k0_chk1246 (v8073 : IVec S16 32) (v8185 : IVec S16 32) : Prop :=
  (∀ a x, ((![v8073, v8185] : Fin 2 → IVec S16 32) a x).toNat < S160x31.size a)
theorem k0_idx1246_inb : ∀ (v8073 : IVec S16 32) (v8185 : IVec S16 32) (k0_hw1246 : k0_chk1246 v8073 v8185), ∀ a x, ((![v8073, v8185] : Fin 2 → IVec S16 32) a x).toNat < S160x31.size a := fun v8073 v8185 k0_hw1246 => k0_hw1246

def k0_chk1247 (v8073 : IVec S16 32) (v8188 : IVec S16 32) : Prop :=
  (∀ a x, ((![v8073, v8188] : Fin 2 → IVec S16 32) a x).toNat < S160x39.size a)
theorem k0_idx1247_inb : ∀ (v8073 : IVec S16 32) (v8188 : IVec S16 32) (k0_hw1247 : k0_chk1247 v8073 v8188), ∀ a x, ((![v8073, v8188] : Fin 2 → IVec S16 32) a x).toNat < S160x39.size a := fun v8073 v8188 k0_hw1247 => k0_hw1247

def k0_chk1248 (v8073 : IVec S16 32) (v8196 : IVec S16 32) : Prop :=
  (∀ a x, ((![v8073, v8196] : Fin 2 → IVec S16 32) a x).toNat < S160x39.size a)
theorem k0_idx1248_inb : ∀ (v8073 : IVec S16 32) (v8196 : IVec S16 32) (k0_hw1248 : k0_chk1248 v8073 v8196), ∀ a x, ((![v8073, v8196] : Fin 2 → IVec S16 32) a x).toNat < S160x39.size a := fun v8073 v8196 k0_hw1248 => k0_hw1248

def k0_chk1249 (v8073 : IVec S16 32) (v8204 : IVec S16 32) : Prop :=
  (∀ a x, ((![v8073, v8204] : Fin 2 → IVec S16 32) a x).toNat < S160x31.size a)
theorem k0_idx1249_inb : ∀ (v8073 : IVec S16 32) (v8204 : IVec S16 32) (k0_hw1249 : k0_chk1249 v8073 v8204), ∀ a x, ((![v8073, v8204] : Fin 2 → IVec S16 32) a x).toNat < S160x31.size a := fun v8073 v8204 k0_hw1249 => k0_hw1249

def k0_chk1250 (v8073 : IVec S16 32) (v8207 : IVec S16 32) : Prop :=
  (∀ a x, ((![v8073, v8207] : Fin 2 → IVec S16 32) a x).toNat < S160x31.size a)
theorem k0_idx1250_inb : ∀ (v8073 : IVec S16 32) (v8207 : IVec S16 32) (k0_hw1250 : k0_chk1250 v8073 v8207), ∀ a x, ((![v8073, v8207] : Fin 2 → IVec S16 32) a x).toNat < S160x31.size a := fun v8073 v8207 k0_hw1250 => k0_hw1250

def k0_chk1251 (v8073 : IVec S16 32) (v8210 : IVec S16 32) : Prop :=
  (∀ a x, ((![v8073, v8210] : Fin 2 → IVec S16 32) a x).toNat < S160x39.size a)
theorem k0_idx1251_inb : ∀ (v8073 : IVec S16 32) (v8210 : IVec S16 32) (k0_hw1251 : k0_chk1251 v8073 v8210), ∀ a x, ((![v8073, v8210] : Fin 2 → IVec S16 32) a x).toNat < S160x39.size a := fun v8073 v8210 k0_hw1251 => k0_hw1251

def k0_chk1252 (v8073 : IVec S16 32) (v8214 : IVec S16 32) : Prop :=
  (∀ a x, ((![v8073, v8214] : Fin 2 → IVec S16 32) a x).toNat < S160x31.size a)
theorem k0_idx1252_inb : ∀ (v8073 : IVec S16 32) (v8214 : IVec S16 32) (k0_hw1252 : k0_chk1252 v8073 v8214), ∀ a x, ((![v8073, v8214] : Fin 2 → IVec S16 32) a x).toNat < S160x31.size a := fun v8073 v8214 k0_hw1252 => k0_hw1252

def k0_chk1253 (v8073 : IVec S16 32) (v8217 : IVec S16 32) : Prop :=
  (∀ a x, ((![v8073, v8217] : Fin 2 → IVec S16 32) a x).toNat < S160x39.size a)
theorem k0_idx1253_inb : ∀ (v8073 : IVec S16 32) (v8217 : IVec S16 32) (k0_hw1253 : k0_chk1253 v8073 v8217), ∀ a x, ((![v8073, v8217] : Fin 2 → IVec S16 32) a x).toNat < S160x39.size a := fun v8073 v8217 k0_hw1253 => k0_hw1253

def k0_chk1254 (v8073 : IVec S16 32) (v8221 : IVec S16 32) : Prop :=
  (∀ a x, ((![v8073, v8221] : Fin 2 → IVec S16 32) a x).toNat < S160x31.size a)
theorem k0_idx1254_inb : ∀ (v8073 : IVec S16 32) (v8221 : IVec S16 32) (k0_hw1254 : k0_chk1254 v8073 v8221), ∀ a x, ((![v8073, v8221] : Fin 2 → IVec S16 32) a x).toNat < S160x31.size a := fun v8073 v8221 k0_hw1254 => k0_hw1254

def k0_chk1255 (v8073 : IVec S16 32) (v8224 : IVec S16 32) : Prop :=
  (∀ a x, ((![v8073, v8224] : Fin 2 → IVec S16 32) a x).toNat < S160x39.size a)
theorem k0_idx1255_inb : ∀ (v8073 : IVec S16 32) (v8224 : IVec S16 32) (k0_hw1255 : k0_chk1255 v8073 v8224), ∀ a x, ((![v8073, v8224] : Fin 2 → IVec S16 32) a x).toNat < S160x39.size a := fun v8073 v8224 k0_hw1255 => k0_hw1255

def k0_chk1256 (v8073 : IVec S16 32) (v8228 : IVec S16 32) : Prop :=
  (∀ a x, ((![v8073, v8228] : Fin 2 → IVec S16 32) a x).toNat < S160x31.size a)
theorem k0_idx1256_inb : ∀ (v8073 : IVec S16 32) (v8228 : IVec S16 32) (k0_hw1256 : k0_chk1256 v8073 v8228), ∀ a x, ((![v8073, v8228] : Fin 2 → IVec S16 32) a x).toNat < S160x31.size a := fun v8073 v8228 k0_hw1256 => k0_hw1256

def k0_chk1257 (v8073 : IVec S16 32) (v8231 : IVec S16 32) : Prop :=
  (∀ a x, ((![v8073, v8231] : Fin 2 → IVec S16 32) a x).toNat < S160x39.size a)
theorem k0_idx1257_inb : ∀ (v8073 : IVec S16 32) (v8231 : IVec S16 32) (k0_hw1257 : k0_chk1257 v8073 v8231), ∀ a x, ((![v8073, v8231] : Fin 2 → IVec S16 32) a x).toNat < S160x39.size a := fun v8073 v8231 k0_hw1257 => k0_hw1257

def k0_chk1258 (v8073 : IVec S16 32) (v8235 : IVec S16 32) : Prop :=
  (∀ a x, ((![v8073, v8235] : Fin 2 → IVec S16 32) a x).toNat < S160x31.size a)
theorem k0_idx1258_inb : ∀ (v8073 : IVec S16 32) (v8235 : IVec S16 32) (k0_hw1258 : k0_chk1258 v8073 v8235), ∀ a x, ((![v8073, v8235] : Fin 2 → IVec S16 32) a x).toNat < S160x31.size a := fun v8073 v8235 k0_hw1258 => k0_hw1258

def k0_chk1259 (v8073 : IVec S16 32) (v8238 : IVec S16 32) : Prop :=
  (∀ a x, ((![v8073, v8238] : Fin 2 → IVec S16 32) a x).toNat < S160x39.size a)
theorem k0_idx1259_inb : ∀ (v8073 : IVec S16 32) (v8238 : IVec S16 32) (k0_hw1259 : k0_chk1259 v8073 v8238), ∀ a x, ((![v8073, v8238] : Fin 2 → IVec S16 32) a x).toNat < S160x39.size a := fun v8073 v8238 k0_hw1259 => k0_hw1259

def k0_chk1260 (v8073 : IVec S16 32) (v8242 : IVec S16 32) : Prop :=
  (∀ a x, ((![v8073, v8242] : Fin 2 → IVec S16 32) a x).toNat < S160x31.size a)
theorem k0_idx1260_inb : ∀ (v8073 : IVec S16 32) (v8242 : IVec S16 32) (k0_hw1260 : k0_chk1260 v8073 v8242), ∀ a x, ((![v8073, v8242] : Fin 2 → IVec S16 32) a x).toNat < S160x31.size a := fun v8073 v8242 k0_hw1260 => k0_hw1260

def k0_chk1261 (v8073 : IVec S16 32) (v8245 : IVec S16 32) : Prop :=
  (∀ a x, ((![v8073, v8245] : Fin 2 → IVec S16 32) a x).toNat < S160x39.size a)
theorem k0_idx1261_inb : ∀ (v8073 : IVec S16 32) (v8245 : IVec S16 32) (k0_hw1261 : k0_chk1261 v8073 v8245), ∀ a x, ((![v8073, v8245] : Fin 2 → IVec S16 32) a x).toNat < S160x39.size a := fun v8073 v8245 k0_hw1261 => k0_hw1261

def k0_chk1262 (v8073 : IVec S16 32) (v8249 : IVec S16 32) : Prop :=
  (∀ a x, ((![v8073, v8249] : Fin 2 → IVec S16 32) a x).toNat < S160x31.size a)
theorem k0_idx1262_inb : ∀ (v8073 : IVec S16 32) (v8249 : IVec S16 32) (k0_hw1262 : k0_chk1262 v8073 v8249), ∀ a x, ((![v8073, v8249] : Fin 2 → IVec S16 32) a x).toNat < S160x31.size a := fun v8073 v8249 k0_hw1262 => k0_hw1262

def k0_chk1263 (v8073 : IVec S16 32) (v8252 : IVec S16 32) : Prop :=
  (∀ a x, ((![v8073, v8252] : Fin 2 → IVec S16 32) a x).toNat < S160x39.size a)
theorem k0_idx1263_inb : ∀ (v8073 : IVec S16 32) (v8252 : IVec S16 32) (k0_hw1263 : k0_chk1263 v8073 v8252), ∀ a x, ((![v8073, v8252] : Fin 2 → IVec S16 32) a x).toNat < S160x39.size a := fun v8073 v8252 k0_hw1263 => k0_hw1263

def k0_chk1264 (v8073 : IVec S16 32) (v8256 : IVec S16 32) : Prop :=
  (∀ a x, ((![v8073, v8256] : Fin 2 → IVec S16 32) a x).toNat < S160x31.size a)
theorem k0_idx1264_inb : ∀ (v8073 : IVec S16 32) (v8256 : IVec S16 32) (k0_hw1264 : k0_chk1264 v8073 v8256), ∀ a x, ((![v8073, v8256] : Fin 2 → IVec S16 32) a x).toNat < S160x31.size a := fun v8073 v8256 k0_hw1264 => k0_hw1264

def k0_chk1265 (v8073 : IVec S16 32) (v8259 : IVec S16 32) : Prop :=
  (∀ a x, ((![v8073, v8259] : Fin 2 → IVec S16 32) a x).toNat < S160x39.size a)
theorem k0_idx1265_inb : ∀ (v8073 : IVec S16 32) (v8259 : IVec S16 32) (k0_hw1265 : k0_chk1265 v8073 v8259), ∀ a x, ((![v8073, v8259] : Fin 2 → IVec S16 32) a x).toNat < S160x39.size a := fun v8073 v8259 k0_hw1265 => k0_hw1265

def k0_chk1266 (v8073 : IVec S16 32) (v8263 : IVec S16 32) : Prop :=
  (∀ a x, ((![v8073, v8263] : Fin 2 → IVec S16 32) a x).toNat < S160x31.size a)
theorem k0_idx1266_inb : ∀ (v8073 : IVec S16 32) (v8263 : IVec S16 32) (k0_hw1266 : k0_chk1266 v8073 v8263), ∀ a x, ((![v8073, v8263] : Fin 2 → IVec S16 32) a x).toNat < S160x31.size a := fun v8073 v8263 k0_hw1266 => k0_hw1266

def k0_chk1267 (v8073 : IVec S16 32) (v8266 : IVec S16 32) : Prop :=
  (∀ a x, ((![v8073, v8266] : Fin 2 → IVec S16 32) a x).toNat < S160x39.size a)
theorem k0_idx1267_inb : ∀ (v8073 : IVec S16 32) (v8266 : IVec S16 32) (k0_hw1267 : k0_chk1267 v8073 v8266), ∀ a x, ((![v8073, v8266] : Fin 2 → IVec S16 32) a x).toNat < S160x39.size a := fun v8073 v8266 k0_hw1267 => k0_hw1267

def k0_chk1268 (v8073 : IVec S16 32) (v8270 : IVec S16 32) : Prop :=
  (∀ a x, ((![v8073, v8270] : Fin 2 → IVec S16 32) a x).toNat < S160x31.size a)
theorem k0_idx1268_inb : ∀ (v8073 : IVec S16 32) (v8270 : IVec S16 32) (k0_hw1268 : k0_chk1268 v8073 v8270), ∀ a x, ((![v8073, v8270] : Fin 2 → IVec S16 32) a x).toNat < S160x31.size a := fun v8073 v8270 k0_hw1268 => k0_hw1268

def k0_chk1269 (v8073 : IVec S16 32) (v8273 : IVec S16 32) : Prop :=
  (∀ a x, ((![v8073, v8273] : Fin 2 → IVec S16 32) a x).toNat < S160x39.size a)
theorem k0_idx1269_inb : ∀ (v8073 : IVec S16 32) (v8273 : IVec S16 32) (k0_hw1269 : k0_chk1269 v8073 v8273), ∀ a x, ((![v8073, v8273] : Fin 2 → IVec S16 32) a x).toNat < S160x39.size a := fun v8073 v8273 k0_hw1269 => k0_hw1269

def k0_chk1270 (v8073 : IVec S16 32) (v8277 : IVec S16 32) : Prop :=
  (∀ a x, ((![v8073, v8277] : Fin 2 → IVec S16 32) a x).toNat < S160x31.size a)
theorem k0_idx1270_inb : ∀ (v8073 : IVec S16 32) (v8277 : IVec S16 32) (k0_hw1270 : k0_chk1270 v8073 v8277), ∀ a x, ((![v8073, v8277] : Fin 2 → IVec S16 32) a x).toNat < S160x31.size a := fun v8073 v8277 k0_hw1270 => k0_hw1270

def k0_chk1271 (v8073 : IVec S16 32) (v8280 : IVec S16 32) : Prop :=
  (∀ a x, ((![v8073, v8280] : Fin 2 → IVec S16 32) a x).toNat < S160x39.size a)
theorem k0_idx1271_inb : ∀ (v8073 : IVec S16 32) (v8280 : IVec S16 32) (k0_hw1271 : k0_chk1271 v8073 v8280), ∀ a x, ((![v8073, v8280] : Fin 2 → IVec S16 32) a x).toNat < S160x39.size a := fun v8073 v8280 k0_hw1271 => k0_hw1271

def k0_chk1272 (v8073 : IVec S16 32) (v8284 : IVec S16 32) : Prop :=
  (∀ a x, ((![v8073, v8284] : Fin 2 → IVec S16 32) a x).toNat < S160x31.size a)
theorem k0_idx1272_inb : ∀ (v8073 : IVec S16 32) (v8284 : IVec S16 32) (k0_hw1272 : k0_chk1272 v8073 v8284), ∀ a x, ((![v8073, v8284] : Fin 2 → IVec S16 32) a x).toNat < S160x31.size a := fun v8073 v8284 k0_hw1272 => k0_hw1272

def k0_chk1273 (v8073 : IVec S16 32) (v8287 : IVec S16 32) : Prop :=
  (∀ a x, ((![v8073, v8287] : Fin 2 → IVec S16 32) a x).toNat < S160x39.size a)
theorem k0_idx1273_inb : ∀ (v8073 : IVec S16 32) (v8287 : IVec S16 32) (k0_hw1273 : k0_chk1273 v8073 v8287), ∀ a x, ((![v8073, v8287] : Fin 2 → IVec S16 32) a x).toNat < S160x39.size a := fun v8073 v8287 k0_hw1273 => k0_hw1273

def k0_chk1274 (v8073 : IVec S16 32) (v8291 : IVec S16 32) : Prop :=
  (∀ a x, ((![v8073, v8291] : Fin 2 → IVec S16 32) a x).toNat < S160x31.size a)
theorem k0_idx1274_inb : ∀ (v8073 : IVec S16 32) (v8291 : IVec S16 32) (k0_hw1274 : k0_chk1274 v8073 v8291), ∀ a x, ((![v8073, v8291] : Fin 2 → IVec S16 32) a x).toNat < S160x31.size a := fun v8073 v8291 k0_hw1274 => k0_hw1274

def k0_chk1275 (v8073 : IVec S16 32) (v8294 : IVec S16 32) : Prop :=
  (∀ a x, ((![v8073, v8294] : Fin 2 → IVec S16 32) a x).toNat < S160x39.size a)
theorem k0_idx1275_inb : ∀ (v8073 : IVec S16 32) (v8294 : IVec S16 32) (k0_hw1275 : k0_chk1275 v8073 v8294), ∀ a x, ((![v8073, v8294] : Fin 2 → IVec S16 32) a x).toNat < S160x39.size a := fun v8073 v8294 k0_hw1275 => k0_hw1275

def k0_chk1276 (v8073 : IVec S16 32) (v8298 : IVec S16 32) : Prop :=
  (∀ a x, ((![v8073, v8298] : Fin 2 → IVec S16 32) a x).toNat < S160x31.size a)
theorem k0_idx1276_inb : ∀ (v8073 : IVec S16 32) (v8298 : IVec S16 32) (k0_hw1276 : k0_chk1276 v8073 v8298), ∀ a x, ((![v8073, v8298] : Fin 2 → IVec S16 32) a x).toNat < S160x31.size a := fun v8073 v8298 k0_hw1276 => k0_hw1276

def k0_chk1277 (v8073 : IVec S16 32) (v8301 : IVec S16 32) : Prop :=
  (∀ a x, ((![v8073, v8301] : Fin 2 → IVec S16 32) a x).toNat < S160x39.size a)
theorem k0_idx1277_inb : ∀ (v8073 : IVec S16 32) (v8301 : IVec S16 32) (k0_hw1277 : k0_chk1277 v8073 v8301), ∀ a x, ((![v8073, v8301] : Fin 2 → IVec S16 32) a x).toNat < S160x39.size a := fun v8073 v8301 k0_hw1277 => k0_hw1277

def k0_chk1278 (v8073 : IVec S16 32) (v8305 : IVec S16 32) : Prop :=
  (∀ a x, ((![v8073, v8305] : Fin 2 → IVec S16 32) a x).toNat < S160x31.size a)
theorem k0_idx1278_inb : ∀ (v8073 : IVec S16 32) (v8305 : IVec S16 32) (k0_hw1278 : k0_chk1278 v8073 v8305), ∀ a x, ((![v8073, v8305] : Fin 2 → IVec S16 32) a x).toNat < S160x31.size a := fun v8073 v8305 k0_hw1278 => k0_hw1278

def k0_chk1279 (v8073 : IVec S16 32) (v8308 : IVec S16 32) : Prop :=
  (∀ a x, ((![v8073, v8308] : Fin 2 → IVec S16 32) a x).toNat < S160x39.size a)
theorem k0_idx1279_inb : ∀ (v8073 : IVec S16 32) (v8308 : IVec S16 32) (k0_hw1279 : k0_chk1279 v8073 v8308), ∀ a x, ((![v8073, v8308] : Fin 2 → IVec S16 32) a x).toNat < S160x39.size a := fun v8073 v8308 k0_hw1279 => k0_hw1279

def k0_chk1280 (v8073 : IVec S16 32) (v8312 : IVec S16 32) : Prop :=
  (∀ a x, ((![v8073, v8312] : Fin 2 → IVec S16 32) a x).toNat < S160x31.size a)
theorem k0_idx1280_inb : ∀ (v8073 : IVec S16 32) (v8312 : IVec S16 32) (k0_hw1280 : k0_chk1280 v8073 v8312), ∀ a x, ((![v8073, v8312] : Fin 2 → IVec S16 32) a x).toNat < S160x31.size a := fun v8073 v8312 k0_hw1280 => k0_hw1280

def k0_chk1281 (v8073 : IVec S16 32) (v8315 : IVec S16 32) : Prop :=
  (∀ a x, ((![v8073, v8315] : Fin 2 → IVec S16 32) a x).toNat < S160x39.size a)
theorem k0_idx1281_inb : ∀ (v8073 : IVec S16 32) (v8315 : IVec S16 32) (k0_hw1281 : k0_chk1281 v8073 v8315), ∀ a x, ((![v8073, v8315] : Fin 2 → IVec S16 32) a x).toNat < S160x39.size a := fun v8073 v8315 k0_hw1281 => k0_hw1281

def k0_chk1282 (v8073 : IVec S16 32) (v8319 : IVec S16 32) : Prop :=
  (∀ a x, ((![v8073, v8319] : Fin 2 → IVec S16 32) a x).toNat < S160x31.size a)
theorem k0_idx1282_inb : ∀ (v8073 : IVec S16 32) (v8319 : IVec S16 32) (k0_hw1282 : k0_chk1282 v8073 v8319), ∀ a x, ((![v8073, v8319] : Fin 2 → IVec S16 32) a x).toNat < S160x31.size a := fun v8073 v8319 k0_hw1282 => k0_hw1282

def k0_chk1283 (v8073 : IVec S16 32) (v8322 : IVec S16 32) : Prop :=
  (∀ a x, ((![v8073, v8322] : Fin 2 → IVec S16 32) a x).toNat < S160x39.size a)
theorem k0_idx1283_inb : ∀ (v8073 : IVec S16 32) (v8322 : IVec S16 32) (k0_hw1283 : k0_chk1283 v8073 v8322), ∀ a x, ((![v8073, v8322] : Fin 2 → IVec S16 32) a x).toNat < S160x39.size a := fun v8073 v8322 k0_hw1283 => k0_hw1283

def k0_chk1284 (v8073 : IVec S16 32) (v8326 : IVec S16 32) : Prop :=
  (∀ a x, ((![v8073, v8326] : Fin 2 → IVec S16 32) a x).toNat < S160x31.size a)
theorem k0_idx1284_inb : ∀ (v8073 : IVec S16 32) (v8326 : IVec S16 32) (k0_hw1284 : k0_chk1284 v8073 v8326), ∀ a x, ((![v8073, v8326] : Fin 2 → IVec S16 32) a x).toNat < S160x31.size a := fun v8073 v8326 k0_hw1284 => k0_hw1284

def k0_chk1285 (v8073 : IVec S16 32) (v8329 : IVec S16 32) : Prop :=
  (∀ a x, ((![v8073, v8329] : Fin 2 → IVec S16 32) a x).toNat < S160x39.size a)
theorem k0_idx1285_inb : ∀ (v8073 : IVec S16 32) (v8329 : IVec S16 32) (k0_hw1285 : k0_chk1285 v8073 v8329), ∀ a x, ((![v8073, v8329] : Fin 2 → IVec S16 32) a x).toNat < S160x39.size a := fun v8073 v8329 k0_hw1285 => k0_hw1285

def k0_chk1286 (v8073 : IVec S16 32) (v8333 : IVec S16 32) : Prop :=
  (∀ a x, ((![v8073, v8333] : Fin 2 → IVec S16 32) a x).toNat < S160x31.size a)
theorem k0_idx1286_inb : ∀ (v8073 : IVec S16 32) (v8333 : IVec S16 32) (k0_hw1286 : k0_chk1286 v8073 v8333), ∀ a x, ((![v8073, v8333] : Fin 2 → IVec S16 32) a x).toNat < S160x31.size a := fun v8073 v8333 k0_hw1286 => k0_hw1286

def k0_chk1287 (v8073 : IVec S16 32) (v8336 : IVec S16 32) : Prop :=
  (∀ a x, ((![v8073, v8336] : Fin 2 → IVec S16 32) a x).toNat < S160x39.size a)
theorem k0_idx1287_inb : ∀ (v8073 : IVec S16 32) (v8336 : IVec S16 32) (k0_hw1287 : k0_chk1287 v8073 v8336), ∀ a x, ((![v8073, v8336] : Fin 2 → IVec S16 32) a x).toNat < S160x39.size a := fun v8073 v8336 k0_hw1287 => k0_hw1287

def k0_chk1288 (v8073 : IVec S16 32) (v8340 : IVec S16 32) : Prop :=
  (∀ a x, ((![v8073, v8340] : Fin 2 → IVec S16 32) a x).toNat < S160x31.size a)
theorem k0_idx1288_inb : ∀ (v8073 : IVec S16 32) (v8340 : IVec S16 32) (k0_hw1288 : k0_chk1288 v8073 v8340), ∀ a x, ((![v8073, v8340] : Fin 2 → IVec S16 32) a x).toNat < S160x31.size a := fun v8073 v8340 k0_hw1288 => k0_hw1288

def k0_chk1289 (v8073 : IVec S16 32) (v8343 : IVec S16 32) : Prop :=
  (∀ a x, ((![v8073, v8343] : Fin 2 → IVec S16 32) a x).toNat < S160x39.size a)
theorem k0_idx1289_inb : ∀ (v8073 : IVec S16 32) (v8343 : IVec S16 32) (k0_hw1289 : k0_chk1289 v8073 v8343), ∀ a x, ((![v8073, v8343] : Fin 2 → IVec S16 32) a x).toNat < S160x39.size a := fun v8073 v8343 k0_hw1289 => k0_hw1289

def k0_chk1290 (v8073 : IVec S16 32) (v8347 : IVec S16 32) : Prop :=
  (∀ a x, ((![v8073, v8347] : Fin 2 → IVec S16 32) a x).toNat < S160x31.size a)
theorem k0_idx1290_inb : ∀ (v8073 : IVec S16 32) (v8347 : IVec S16 32) (k0_hw1290 : k0_chk1290 v8073 v8347), ∀ a x, ((![v8073, v8347] : Fin 2 → IVec S16 32) a x).toNat < S160x31.size a := fun v8073 v8347 k0_hw1290 => k0_hw1290

def k0_chk1291 (v8073 : IVec S16 32) (v8350 : IVec S16 32) : Prop :=
  (∀ a x, ((![v8073, v8350] : Fin 2 → IVec S16 32) a x).toNat < S160x39.size a)
theorem k0_idx1291_inb : ∀ (v8073 : IVec S16 32) (v8350 : IVec S16 32) (k0_hw1291 : k0_chk1291 v8073 v8350), ∀ a x, ((![v8073, v8350] : Fin 2 → IVec S16 32) a x).toNat < S160x39.size a := fun v8073 v8350 k0_hw1291 => k0_hw1291

def k0_chk1292 (v8073 : IVec S16 32) (v8354 : IVec S16 32) : Prop :=
  (∀ a x, ((![v8073, v8354] : Fin 2 → IVec S16 32) a x).toNat < S160x31.size a)
theorem k0_idx1292_inb : ∀ (v8073 : IVec S16 32) (v8354 : IVec S16 32) (k0_hw1292 : k0_chk1292 v8073 v8354), ∀ a x, ((![v8073, v8354] : Fin 2 → IVec S16 32) a x).toNat < S160x31.size a := fun v8073 v8354 k0_hw1292 => k0_hw1292

def k0_chk1293 (v8358 : IVec S16 32) (v8359 : IVec S16 32) : Prop :=
  (∀ a x, ((![v8358, v8359] : Fin 2 → IVec S16 32) a x).toNat < S160x39.size a)
theorem k0_idx1293_inb : ∀ (v8358 : IVec S16 32) (v8359 : IVec S16 32) (k0_hw1293 : k0_chk1293 v8358 v8359), ∀ a x, ((![v8358, v8359] : Fin 2 → IVec S16 32) a x).toNat < S160x39.size a := fun v8358 v8359 k0_hw1293 => k0_hw1293

def k0_chk1294 (v8358 : IVec S16 32) (v8363 : IVec S16 32) : Prop :=
  (∀ a x, ((![v8358, v8363] : Fin 2 → IVec S16 32) a x).toNat < S160x39.size a)
theorem k0_idx1294_inb : ∀ (v8358 : IVec S16 32) (v8363 : IVec S16 32) (k0_hw1294 : k0_chk1294 v8358 v8363), ∀ a x, ((![v8358, v8363] : Fin 2 → IVec S16 32) a x).toNat < S160x39.size a := fun v8358 v8363 k0_hw1294 => k0_hw1294

def k0_chk1295 (v8358 : IVec S16 32) (v8367 : IVec S16 32) : Prop :=
  (∀ a x, ((![v8358, v8367] : Fin 2 → IVec S16 32) a x).toNat < S160x39.size a)
theorem k0_idx1295_inb : ∀ (v8358 : IVec S16 32) (v8367 : IVec S16 32) (k0_hw1295 : k0_chk1295 v8358 v8367), ∀ a x, ((![v8358, v8367] : Fin 2 → IVec S16 32) a x).toNat < S160x39.size a := fun v8358 v8367 k0_hw1295 => k0_hw1295

def k0_chk1296 (v8358 : IVec S16 32) (v8371 : IVec S16 32) : Prop :=
  (∀ a x, ((![v8358, v8371] : Fin 2 → IVec S16 32) a x).toNat < S160x39.size a)
theorem k0_idx1296_inb : ∀ (v8358 : IVec S16 32) (v8371 : IVec S16 32) (k0_hw1296 : k0_chk1296 v8358 v8371), ∀ a x, ((![v8358, v8371] : Fin 2 → IVec S16 32) a x).toNat < S160x39.size a := fun v8358 v8371 k0_hw1296 => k0_hw1296

def k0_chk1297 (v8358 : IVec S16 32) (v8376 : IVec S16 32) : Prop :=
  (∀ a x, ((![v8358, v8376] : Fin 2 → IVec S16 32) a x).toNat < S160x39.size a)
theorem k0_idx1297_inb : ∀ (v8358 : IVec S16 32) (v8376 : IVec S16 32) (k0_hw1297 : k0_chk1297 v8358 v8376), ∀ a x, ((![v8358, v8376] : Fin 2 → IVec S16 32) a x).toNat < S160x39.size a := fun v8358 v8376 k0_hw1297 => k0_hw1297

def k0_chk1298 (v8358 : IVec S16 32) (v8380 : IVec S16 32) : Prop :=
  (∀ a x, ((![v8358, v8380] : Fin 2 → IVec S16 32) a x).toNat < S160x39.size a)
theorem k0_idx1298_inb : ∀ (v8358 : IVec S16 32) (v8380 : IVec S16 32) (k0_hw1298 : k0_chk1298 v8358 v8380), ∀ a x, ((![v8358, v8380] : Fin 2 → IVec S16 32) a x).toNat < S160x39.size a := fun v8358 v8380 k0_hw1298 => k0_hw1298

def k0_chk1299 (v8358 : IVec S16 32) (v8385 : IVec S16 32) : Prop :=
  (∀ a x, ((![v8358, v8385] : Fin 2 → IVec S16 32) a x).toNat < S160x39.size a)
theorem k0_idx1299_inb : ∀ (v8358 : IVec S16 32) (v8385 : IVec S16 32) (k0_hw1299 : k0_chk1299 v8358 v8385), ∀ a x, ((![v8358, v8385] : Fin 2 → IVec S16 32) a x).toNat < S160x39.size a := fun v8358 v8385 k0_hw1299 => k0_hw1299

def k0_chk1300 (v8358 : IVec S16 32) (v8393 : IVec S16 32) : Prop :=
  (∀ a x, ((![v8358, v8393] : Fin 2 → IVec S16 32) a x).toNat < S160x39.size a)
theorem k0_idx1300_inb : ∀ (v8358 : IVec S16 32) (v8393 : IVec S16 32) (k0_hw1300 : k0_chk1300 v8358 v8393), ∀ a x, ((![v8358, v8393] : Fin 2 → IVec S16 32) a x).toNat < S160x39.size a := fun v8358 v8393 k0_hw1300 => k0_hw1300

def k0_chk1301 (v8358 : IVec S16 32) (v8401 : IVec S16 32) : Prop :=
  (∀ a x, ((![v8358, v8401] : Fin 2 → IVec S16 32) a x).toNat < S160x31.size a)
theorem k0_idx1301_inb : ∀ (v8358 : IVec S16 32) (v8401 : IVec S16 32) (k0_hw1301 : k0_chk1301 v8358 v8401), ∀ a x, ((![v8358, v8401] : Fin 2 → IVec S16 32) a x).toNat < S160x31.size a := fun v8358 v8401 k0_hw1301 => k0_hw1301

def k0_chk1302 (v8358 : IVec S16 32) (v8404 : IVec S16 32) : Prop :=
  (∀ a x, ((![v8358, v8404] : Fin 2 → IVec S16 32) a x).toNat < S160x31.size a)
theorem k0_idx1302_inb : ∀ (v8358 : IVec S16 32) (v8404 : IVec S16 32) (k0_hw1302 : k0_chk1302 v8358 v8404), ∀ a x, ((![v8358, v8404] : Fin 2 → IVec S16 32) a x).toNat < S160x31.size a := fun v8358 v8404 k0_hw1302 => k0_hw1302

def k0_chk1303 (v8358 : IVec S16 32) (v8407 : IVec S16 32) : Prop :=
  (∀ a x, ((![v8358, v8407] : Fin 2 → IVec S16 32) a x).toNat < S160x39.size a)
theorem k0_idx1303_inb : ∀ (v8358 : IVec S16 32) (v8407 : IVec S16 32) (k0_hw1303 : k0_chk1303 v8358 v8407), ∀ a x, ((![v8358, v8407] : Fin 2 → IVec S16 32) a x).toNat < S160x39.size a := fun v8358 v8407 k0_hw1303 => k0_hw1303

def k0_chk1304 (v8358 : IVec S16 32) (v8415 : IVec S16 32) : Prop :=
  (∀ a x, ((![v8358, v8415] : Fin 2 → IVec S16 32) a x).toNat < S160x39.size a)
theorem k0_idx1304_inb : ∀ (v8358 : IVec S16 32) (v8415 : IVec S16 32) (k0_hw1304 : k0_chk1304 v8358 v8415), ∀ a x, ((![v8358, v8415] : Fin 2 → IVec S16 32) a x).toNat < S160x39.size a := fun v8358 v8415 k0_hw1304 => k0_hw1304

def k0_chk1305 (v8358 : IVec S16 32) (v8423 : IVec S16 32) : Prop :=
  (∀ a x, ((![v8358, v8423] : Fin 2 → IVec S16 32) a x).toNat < S160x31.size a)
theorem k0_idx1305_inb : ∀ (v8358 : IVec S16 32) (v8423 : IVec S16 32) (k0_hw1305 : k0_chk1305 v8358 v8423), ∀ a x, ((![v8358, v8423] : Fin 2 → IVec S16 32) a x).toNat < S160x31.size a := fun v8358 v8423 k0_hw1305 => k0_hw1305

def k0_chk1306 (v8358 : IVec S16 32) (v8426 : IVec S16 32) : Prop :=
  (∀ a x, ((![v8358, v8426] : Fin 2 → IVec S16 32) a x).toNat < S160x31.size a)
theorem k0_idx1306_inb : ∀ (v8358 : IVec S16 32) (v8426 : IVec S16 32) (k0_hw1306 : k0_chk1306 v8358 v8426), ∀ a x, ((![v8358, v8426] : Fin 2 → IVec S16 32) a x).toNat < S160x31.size a := fun v8358 v8426 k0_hw1306 => k0_hw1306

def k0_chk1307 (v8358 : IVec S16 32) (v8429 : IVec S16 32) : Prop :=
  (∀ a x, ((![v8358, v8429] : Fin 2 → IVec S16 32) a x).toNat < S160x39.size a)
theorem k0_idx1307_inb : ∀ (v8358 : IVec S16 32) (v8429 : IVec S16 32) (k0_hw1307 : k0_chk1307 v8358 v8429), ∀ a x, ((![v8358, v8429] : Fin 2 → IVec S16 32) a x).toNat < S160x39.size a := fun v8358 v8429 k0_hw1307 => k0_hw1307

def k0_chk1308 (v8358 : IVec S16 32) (v8437 : IVec S16 32) : Prop :=
  (∀ a x, ((![v8358, v8437] : Fin 2 → IVec S16 32) a x).toNat < S160x39.size a)
theorem k0_idx1308_inb : ∀ (v8358 : IVec S16 32) (v8437 : IVec S16 32) (k0_hw1308 : k0_chk1308 v8358 v8437), ∀ a x, ((![v8358, v8437] : Fin 2 → IVec S16 32) a x).toNat < S160x39.size a := fun v8358 v8437 k0_hw1308 => k0_hw1308

def k0_chk1309 (v8358 : IVec S16 32) (v8445 : IVec S16 32) : Prop :=
  (∀ a x, ((![v8358, v8445] : Fin 2 → IVec S16 32) a x).toNat < S160x31.size a)
theorem k0_idx1309_inb : ∀ (v8358 : IVec S16 32) (v8445 : IVec S16 32) (k0_hw1309 : k0_chk1309 v8358 v8445), ∀ a x, ((![v8358, v8445] : Fin 2 → IVec S16 32) a x).toNat < S160x31.size a := fun v8358 v8445 k0_hw1309 => k0_hw1309

def k0_chk1310 (v8358 : IVec S16 32) (v8448 : IVec S16 32) : Prop :=
  (∀ a x, ((![v8358, v8448] : Fin 2 → IVec S16 32) a x).toNat < S160x31.size a)
theorem k0_idx1310_inb : ∀ (v8358 : IVec S16 32) (v8448 : IVec S16 32) (k0_hw1310 : k0_chk1310 v8358 v8448), ∀ a x, ((![v8358, v8448] : Fin 2 → IVec S16 32) a x).toNat < S160x31.size a := fun v8358 v8448 k0_hw1310 => k0_hw1310

def k0_chk1311 (v8358 : IVec S16 32) (v8451 : IVec S16 32) : Prop :=
  (∀ a x, ((![v8358, v8451] : Fin 2 → IVec S16 32) a x).toNat < S160x39.size a)
theorem k0_idx1311_inb : ∀ (v8358 : IVec S16 32) (v8451 : IVec S16 32) (k0_hw1311 : k0_chk1311 v8358 v8451), ∀ a x, ((![v8358, v8451] : Fin 2 → IVec S16 32) a x).toNat < S160x39.size a := fun v8358 v8451 k0_hw1311 => k0_hw1311

def k0_chk1312 (v8358 : IVec S16 32) (v8459 : IVec S16 32) : Prop :=
  (∀ a x, ((![v8358, v8459] : Fin 2 → IVec S16 32) a x).toNat < S160x39.size a)
theorem k0_idx1312_inb : ∀ (v8358 : IVec S16 32) (v8459 : IVec S16 32) (k0_hw1312 : k0_chk1312 v8358 v8459), ∀ a x, ((![v8358, v8459] : Fin 2 → IVec S16 32) a x).toNat < S160x39.size a := fun v8358 v8459 k0_hw1312 => k0_hw1312

def k0_chk1313 (v8358 : IVec S16 32) (v8467 : IVec S16 32) : Prop :=
  (∀ a x, ((![v8358, v8467] : Fin 2 → IVec S16 32) a x).toNat < S160x31.size a)
theorem k0_idx1313_inb : ∀ (v8358 : IVec S16 32) (v8467 : IVec S16 32) (k0_hw1313 : k0_chk1313 v8358 v8467), ∀ a x, ((![v8358, v8467] : Fin 2 → IVec S16 32) a x).toNat < S160x31.size a := fun v8358 v8467 k0_hw1313 => k0_hw1313

def k0_chk1314 (v8358 : IVec S16 32) (v8470 : IVec S16 32) : Prop :=
  (∀ a x, ((![v8358, v8470] : Fin 2 → IVec S16 32) a x).toNat < S160x31.size a)
theorem k0_idx1314_inb : ∀ (v8358 : IVec S16 32) (v8470 : IVec S16 32) (k0_hw1314 : k0_chk1314 v8358 v8470), ∀ a x, ((![v8358, v8470] : Fin 2 → IVec S16 32) a x).toNat < S160x31.size a := fun v8358 v8470 k0_hw1314 => k0_hw1314

def k0_chk1315 (v8358 : IVec S16 32) (v8473 : IVec S16 32) : Prop :=
  (∀ a x, ((![v8358, v8473] : Fin 2 → IVec S16 32) a x).toNat < S160x39.size a)
theorem k0_idx1315_inb : ∀ (v8358 : IVec S16 32) (v8473 : IVec S16 32) (k0_hw1315 : k0_chk1315 v8358 v8473), ∀ a x, ((![v8358, v8473] : Fin 2 → IVec S16 32) a x).toNat < S160x39.size a := fun v8358 v8473 k0_hw1315 => k0_hw1315

def k0_chk1316 (v8358 : IVec S16 32) (v8481 : IVec S16 32) : Prop :=
  (∀ a x, ((![v8358, v8481] : Fin 2 → IVec S16 32) a x).toNat < S160x39.size a)
theorem k0_idx1316_inb : ∀ (v8358 : IVec S16 32) (v8481 : IVec S16 32) (k0_hw1316 : k0_chk1316 v8358 v8481), ∀ a x, ((![v8358, v8481] : Fin 2 → IVec S16 32) a x).toNat < S160x39.size a := fun v8358 v8481 k0_hw1316 => k0_hw1316

def k0_chk1317 (v8358 : IVec S16 32) (v8489 : IVec S16 32) : Prop :=
  (∀ a x, ((![v8358, v8489] : Fin 2 → IVec S16 32) a x).toNat < S160x31.size a)
theorem k0_idx1317_inb : ∀ (v8358 : IVec S16 32) (v8489 : IVec S16 32) (k0_hw1317 : k0_chk1317 v8358 v8489), ∀ a x, ((![v8358, v8489] : Fin 2 → IVec S16 32) a x).toNat < S160x31.size a := fun v8358 v8489 k0_hw1317 => k0_hw1317

def k0_chk1318 (v8358 : IVec S16 32) (v8492 : IVec S16 32) : Prop :=
  (∀ a x, ((![v8358, v8492] : Fin 2 → IVec S16 32) a x).toNat < S160x31.size a)
theorem k0_idx1318_inb : ∀ (v8358 : IVec S16 32) (v8492 : IVec S16 32) (k0_hw1318 : k0_chk1318 v8358 v8492), ∀ a x, ((![v8358, v8492] : Fin 2 → IVec S16 32) a x).toNat < S160x31.size a := fun v8358 v8492 k0_hw1318 => k0_hw1318

def k0_chk1319 (v8358 : IVec S16 32) (v8495 : IVec S16 32) : Prop :=
  (∀ a x, ((![v8358, v8495] : Fin 2 → IVec S16 32) a x).toNat < S160x39.size a)
theorem k0_idx1319_inb : ∀ (v8358 : IVec S16 32) (v8495 : IVec S16 32) (k0_hw1319 : k0_chk1319 v8358 v8495), ∀ a x, ((![v8358, v8495] : Fin 2 → IVec S16 32) a x).toNat < S160x39.size a := fun v8358 v8495 k0_hw1319 => k0_hw1319

def k0_chk1320 (v8358 : IVec S16 32) (v8499 : IVec S16 32) : Prop :=
  (∀ a x, ((![v8358, v8499] : Fin 2 → IVec S16 32) a x).toNat < S160x31.size a)
theorem k0_idx1320_inb : ∀ (v8358 : IVec S16 32) (v8499 : IVec S16 32) (k0_hw1320 : k0_chk1320 v8358 v8499), ∀ a x, ((![v8358, v8499] : Fin 2 → IVec S16 32) a x).toNat < S160x31.size a := fun v8358 v8499 k0_hw1320 => k0_hw1320

def k0_chk1321 (v8358 : IVec S16 32) (v8502 : IVec S16 32) : Prop :=
  (∀ a x, ((![v8358, v8502] : Fin 2 → IVec S16 32) a x).toNat < S160x39.size a)
theorem k0_idx1321_inb : ∀ (v8358 : IVec S16 32) (v8502 : IVec S16 32) (k0_hw1321 : k0_chk1321 v8358 v8502), ∀ a x, ((![v8358, v8502] : Fin 2 → IVec S16 32) a x).toNat < S160x39.size a := fun v8358 v8502 k0_hw1321 => k0_hw1321

def k0_chk1322 (v8358 : IVec S16 32) (v8506 : IVec S16 32) : Prop :=
  (∀ a x, ((![v8358, v8506] : Fin 2 → IVec S16 32) a x).toNat < S160x31.size a)
theorem k0_idx1322_inb : ∀ (v8358 : IVec S16 32) (v8506 : IVec S16 32) (k0_hw1322 : k0_chk1322 v8358 v8506), ∀ a x, ((![v8358, v8506] : Fin 2 → IVec S16 32) a x).toNat < S160x31.size a := fun v8358 v8506 k0_hw1322 => k0_hw1322

def k0_chk1323 (v8358 : IVec S16 32) (v8509 : IVec S16 32) : Prop :=
  (∀ a x, ((![v8358, v8509] : Fin 2 → IVec S16 32) a x).toNat < S160x39.size a)
theorem k0_idx1323_inb : ∀ (v8358 : IVec S16 32) (v8509 : IVec S16 32) (k0_hw1323 : k0_chk1323 v8358 v8509), ∀ a x, ((![v8358, v8509] : Fin 2 → IVec S16 32) a x).toNat < S160x39.size a := fun v8358 v8509 k0_hw1323 => k0_hw1323

def k0_chk1324 (v8358 : IVec S16 32) (v8513 : IVec S16 32) : Prop :=
  (∀ a x, ((![v8358, v8513] : Fin 2 → IVec S16 32) a x).toNat < S160x31.size a)
theorem k0_idx1324_inb : ∀ (v8358 : IVec S16 32) (v8513 : IVec S16 32) (k0_hw1324 : k0_chk1324 v8358 v8513), ∀ a x, ((![v8358, v8513] : Fin 2 → IVec S16 32) a x).toNat < S160x31.size a := fun v8358 v8513 k0_hw1324 => k0_hw1324

def k0_chk1325 (v8358 : IVec S16 32) (v8516 : IVec S16 32) : Prop :=
  (∀ a x, ((![v8358, v8516] : Fin 2 → IVec S16 32) a x).toNat < S160x39.size a)
theorem k0_idx1325_inb : ∀ (v8358 : IVec S16 32) (v8516 : IVec S16 32) (k0_hw1325 : k0_chk1325 v8358 v8516), ∀ a x, ((![v8358, v8516] : Fin 2 → IVec S16 32) a x).toNat < S160x39.size a := fun v8358 v8516 k0_hw1325 => k0_hw1325

def k0_chk1326 (v8358 : IVec S16 32) (v8520 : IVec S16 32) : Prop :=
  (∀ a x, ((![v8358, v8520] : Fin 2 → IVec S16 32) a x).toNat < S160x31.size a)
theorem k0_idx1326_inb : ∀ (v8358 : IVec S16 32) (v8520 : IVec S16 32) (k0_hw1326 : k0_chk1326 v8358 v8520), ∀ a x, ((![v8358, v8520] : Fin 2 → IVec S16 32) a x).toNat < S160x31.size a := fun v8358 v8520 k0_hw1326 => k0_hw1326

def k0_chk1327 (v8358 : IVec S16 32) (v8523 : IVec S16 32) : Prop :=
  (∀ a x, ((![v8358, v8523] : Fin 2 → IVec S16 32) a x).toNat < S160x39.size a)
theorem k0_idx1327_inb : ∀ (v8358 : IVec S16 32) (v8523 : IVec S16 32) (k0_hw1327 : k0_chk1327 v8358 v8523), ∀ a x, ((![v8358, v8523] : Fin 2 → IVec S16 32) a x).toNat < S160x39.size a := fun v8358 v8523 k0_hw1327 => k0_hw1327

def k0_chk1328 (v8358 : IVec S16 32) (v8527 : IVec S16 32) : Prop :=
  (∀ a x, ((![v8358, v8527] : Fin 2 → IVec S16 32) a x).toNat < S160x31.size a)
theorem k0_idx1328_inb : ∀ (v8358 : IVec S16 32) (v8527 : IVec S16 32) (k0_hw1328 : k0_chk1328 v8358 v8527), ∀ a x, ((![v8358, v8527] : Fin 2 → IVec S16 32) a x).toNat < S160x31.size a := fun v8358 v8527 k0_hw1328 => k0_hw1328

def k0_chk1329 (v8358 : IVec S16 32) (v8530 : IVec S16 32) : Prop :=
  (∀ a x, ((![v8358, v8530] : Fin 2 → IVec S16 32) a x).toNat < S160x39.size a)
theorem k0_idx1329_inb : ∀ (v8358 : IVec S16 32) (v8530 : IVec S16 32) (k0_hw1329 : k0_chk1329 v8358 v8530), ∀ a x, ((![v8358, v8530] : Fin 2 → IVec S16 32) a x).toNat < S160x39.size a := fun v8358 v8530 k0_hw1329 => k0_hw1329

def k0_chk1330 (v8358 : IVec S16 32) (v8534 : IVec S16 32) : Prop :=
  (∀ a x, ((![v8358, v8534] : Fin 2 → IVec S16 32) a x).toNat < S160x31.size a)
theorem k0_idx1330_inb : ∀ (v8358 : IVec S16 32) (v8534 : IVec S16 32) (k0_hw1330 : k0_chk1330 v8358 v8534), ∀ a x, ((![v8358, v8534] : Fin 2 → IVec S16 32) a x).toNat < S160x31.size a := fun v8358 v8534 k0_hw1330 => k0_hw1330

def k0_chk1331 (v8358 : IVec S16 32) (v8537 : IVec S16 32) : Prop :=
  (∀ a x, ((![v8358, v8537] : Fin 2 → IVec S16 32) a x).toNat < S160x39.size a)
theorem k0_idx1331_inb : ∀ (v8358 : IVec S16 32) (v8537 : IVec S16 32) (k0_hw1331 : k0_chk1331 v8358 v8537), ∀ a x, ((![v8358, v8537] : Fin 2 → IVec S16 32) a x).toNat < S160x39.size a := fun v8358 v8537 k0_hw1331 => k0_hw1331

def k0_chk1332 (v8358 : IVec S16 32) (v8541 : IVec S16 32) : Prop :=
  (∀ a x, ((![v8358, v8541] : Fin 2 → IVec S16 32) a x).toNat < S160x31.size a)
theorem k0_idx1332_inb : ∀ (v8358 : IVec S16 32) (v8541 : IVec S16 32) (k0_hw1332 : k0_chk1332 v8358 v8541), ∀ a x, ((![v8358, v8541] : Fin 2 → IVec S16 32) a x).toNat < S160x31.size a := fun v8358 v8541 k0_hw1332 => k0_hw1332

def k0_chk1333 (v8358 : IVec S16 32) (v8544 : IVec S16 32) : Prop :=
  (∀ a x, ((![v8358, v8544] : Fin 2 → IVec S16 32) a x).toNat < S160x39.size a)
theorem k0_idx1333_inb : ∀ (v8358 : IVec S16 32) (v8544 : IVec S16 32) (k0_hw1333 : k0_chk1333 v8358 v8544), ∀ a x, ((![v8358, v8544] : Fin 2 → IVec S16 32) a x).toNat < S160x39.size a := fun v8358 v8544 k0_hw1333 => k0_hw1333

def k0_chk1334 (v8358 : IVec S16 32) (v8548 : IVec S16 32) : Prop :=
  (∀ a x, ((![v8358, v8548] : Fin 2 → IVec S16 32) a x).toNat < S160x31.size a)
theorem k0_idx1334_inb : ∀ (v8358 : IVec S16 32) (v8548 : IVec S16 32) (k0_hw1334 : k0_chk1334 v8358 v8548), ∀ a x, ((![v8358, v8548] : Fin 2 → IVec S16 32) a x).toNat < S160x31.size a := fun v8358 v8548 k0_hw1334 => k0_hw1334

def k0_chk1335 (v8358 : IVec S16 32) (v8551 : IVec S16 32) : Prop :=
  (∀ a x, ((![v8358, v8551] : Fin 2 → IVec S16 32) a x).toNat < S160x39.size a)
theorem k0_idx1335_inb : ∀ (v8358 : IVec S16 32) (v8551 : IVec S16 32) (k0_hw1335 : k0_chk1335 v8358 v8551), ∀ a x, ((![v8358, v8551] : Fin 2 → IVec S16 32) a x).toNat < S160x39.size a := fun v8358 v8551 k0_hw1335 => k0_hw1335

def k0_chk1336 (v8358 : IVec S16 32) (v8555 : IVec S16 32) : Prop :=
  (∀ a x, ((![v8358, v8555] : Fin 2 → IVec S16 32) a x).toNat < S160x31.size a)
theorem k0_idx1336_inb : ∀ (v8358 : IVec S16 32) (v8555 : IVec S16 32) (k0_hw1336 : k0_chk1336 v8358 v8555), ∀ a x, ((![v8358, v8555] : Fin 2 → IVec S16 32) a x).toNat < S160x31.size a := fun v8358 v8555 k0_hw1336 => k0_hw1336

def k0_chk1337 (v8358 : IVec S16 32) (v8558 : IVec S16 32) : Prop :=
  (∀ a x, ((![v8358, v8558] : Fin 2 → IVec S16 32) a x).toNat < S160x39.size a)
theorem k0_idx1337_inb : ∀ (v8358 : IVec S16 32) (v8558 : IVec S16 32) (k0_hw1337 : k0_chk1337 v8358 v8558), ∀ a x, ((![v8358, v8558] : Fin 2 → IVec S16 32) a x).toNat < S160x39.size a := fun v8358 v8558 k0_hw1337 => k0_hw1337

def k0_chk1338 (v8358 : IVec S16 32) (v8562 : IVec S16 32) : Prop :=
  (∀ a x, ((![v8358, v8562] : Fin 2 → IVec S16 32) a x).toNat < S160x31.size a)
theorem k0_idx1338_inb : ∀ (v8358 : IVec S16 32) (v8562 : IVec S16 32) (k0_hw1338 : k0_chk1338 v8358 v8562), ∀ a x, ((![v8358, v8562] : Fin 2 → IVec S16 32) a x).toNat < S160x31.size a := fun v8358 v8562 k0_hw1338 => k0_hw1338

def k0_chk1339 (v8358 : IVec S16 32) (v8565 : IVec S16 32) : Prop :=
  (∀ a x, ((![v8358, v8565] : Fin 2 → IVec S16 32) a x).toNat < S160x39.size a)
theorem k0_idx1339_inb : ∀ (v8358 : IVec S16 32) (v8565 : IVec S16 32) (k0_hw1339 : k0_chk1339 v8358 v8565), ∀ a x, ((![v8358, v8565] : Fin 2 → IVec S16 32) a x).toNat < S160x39.size a := fun v8358 v8565 k0_hw1339 => k0_hw1339

def k0_chk1340 (v8358 : IVec S16 32) (v8569 : IVec S16 32) : Prop :=
  (∀ a x, ((![v8358, v8569] : Fin 2 → IVec S16 32) a x).toNat < S160x31.size a)
theorem k0_idx1340_inb : ∀ (v8358 : IVec S16 32) (v8569 : IVec S16 32) (k0_hw1340 : k0_chk1340 v8358 v8569), ∀ a x, ((![v8358, v8569] : Fin 2 → IVec S16 32) a x).toNat < S160x31.size a := fun v8358 v8569 k0_hw1340 => k0_hw1340

def k0_chk1341 (v8358 : IVec S16 32) (v8572 : IVec S16 32) : Prop :=
  (∀ a x, ((![v8358, v8572] : Fin 2 → IVec S16 32) a x).toNat < S160x39.size a)
theorem k0_idx1341_inb : ∀ (v8358 : IVec S16 32) (v8572 : IVec S16 32) (k0_hw1341 : k0_chk1341 v8358 v8572), ∀ a x, ((![v8358, v8572] : Fin 2 → IVec S16 32) a x).toNat < S160x39.size a := fun v8358 v8572 k0_hw1341 => k0_hw1341

def k0_chk1342 (v8358 : IVec S16 32) (v8576 : IVec S16 32) : Prop :=
  (∀ a x, ((![v8358, v8576] : Fin 2 → IVec S16 32) a x).toNat < S160x31.size a)
theorem k0_idx1342_inb : ∀ (v8358 : IVec S16 32) (v8576 : IVec S16 32) (k0_hw1342 : k0_chk1342 v8358 v8576), ∀ a x, ((![v8358, v8576] : Fin 2 → IVec S16 32) a x).toNat < S160x31.size a := fun v8358 v8576 k0_hw1342 => k0_hw1342

def k0_chk1343 (v8358 : IVec S16 32) (v8579 : IVec S16 32) : Prop :=
  (∀ a x, ((![v8358, v8579] : Fin 2 → IVec S16 32) a x).toNat < S160x39.size a)
theorem k0_idx1343_inb : ∀ (v8358 : IVec S16 32) (v8579 : IVec S16 32) (k0_hw1343 : k0_chk1343 v8358 v8579), ∀ a x, ((![v8358, v8579] : Fin 2 → IVec S16 32) a x).toNat < S160x39.size a := fun v8358 v8579 k0_hw1343 => k0_hw1343

def k0_chk1344 (v8358 : IVec S16 32) (v8583 : IVec S16 32) : Prop :=
  (∀ a x, ((![v8358, v8583] : Fin 2 → IVec S16 32) a x).toNat < S160x31.size a)
theorem k0_idx1344_inb : ∀ (v8358 : IVec S16 32) (v8583 : IVec S16 32) (k0_hw1344 : k0_chk1344 v8358 v8583), ∀ a x, ((![v8358, v8583] : Fin 2 → IVec S16 32) a x).toNat < S160x31.size a := fun v8358 v8583 k0_hw1344 => k0_hw1344

def k0_chk1345 (v8358 : IVec S16 32) (v8586 : IVec S16 32) : Prop :=
  (∀ a x, ((![v8358, v8586] : Fin 2 → IVec S16 32) a x).toNat < S160x39.size a)
theorem k0_idx1345_inb : ∀ (v8358 : IVec S16 32) (v8586 : IVec S16 32) (k0_hw1345 : k0_chk1345 v8358 v8586), ∀ a x, ((![v8358, v8586] : Fin 2 → IVec S16 32) a x).toNat < S160x39.size a := fun v8358 v8586 k0_hw1345 => k0_hw1345

def k0_chk1346 (v8358 : IVec S16 32) (v8590 : IVec S16 32) : Prop :=
  (∀ a x, ((![v8358, v8590] : Fin 2 → IVec S16 32) a x).toNat < S160x31.size a)
theorem k0_idx1346_inb : ∀ (v8358 : IVec S16 32) (v8590 : IVec S16 32) (k0_hw1346 : k0_chk1346 v8358 v8590), ∀ a x, ((![v8358, v8590] : Fin 2 → IVec S16 32) a x).toNat < S160x31.size a := fun v8358 v8590 k0_hw1346 => k0_hw1346

def k0_chk1347 (v8358 : IVec S16 32) (v8593 : IVec S16 32) : Prop :=
  (∀ a x, ((![v8358, v8593] : Fin 2 → IVec S16 32) a x).toNat < S160x39.size a)
theorem k0_idx1347_inb : ∀ (v8358 : IVec S16 32) (v8593 : IVec S16 32) (k0_hw1347 : k0_chk1347 v8358 v8593), ∀ a x, ((![v8358, v8593] : Fin 2 → IVec S16 32) a x).toNat < S160x39.size a := fun v8358 v8593 k0_hw1347 => k0_hw1347

def k0_chk1348 (v8358 : IVec S16 32) (v8597 : IVec S16 32) : Prop :=
  (∀ a x, ((![v8358, v8597] : Fin 2 → IVec S16 32) a x).toNat < S160x31.size a)
theorem k0_idx1348_inb : ∀ (v8358 : IVec S16 32) (v8597 : IVec S16 32) (k0_hw1348 : k0_chk1348 v8358 v8597), ∀ a x, ((![v8358, v8597] : Fin 2 → IVec S16 32) a x).toNat < S160x31.size a := fun v8358 v8597 k0_hw1348 => k0_hw1348

def k0_chk1349 (v8358 : IVec S16 32) (v8600 : IVec S16 32) : Prop :=
  (∀ a x, ((![v8358, v8600] : Fin 2 → IVec S16 32) a x).toNat < S160x39.size a)
theorem k0_idx1349_inb : ∀ (v8358 : IVec S16 32) (v8600 : IVec S16 32) (k0_hw1349 : k0_chk1349 v8358 v8600), ∀ a x, ((![v8358, v8600] : Fin 2 → IVec S16 32) a x).toNat < S160x39.size a := fun v8358 v8600 k0_hw1349 => k0_hw1349

def k0_chk1350 (v8358 : IVec S16 32) (v8604 : IVec S16 32) : Prop :=
  (∀ a x, ((![v8358, v8604] : Fin 2 → IVec S16 32) a x).toNat < S160x31.size a)
theorem k0_idx1350_inb : ∀ (v8358 : IVec S16 32) (v8604 : IVec S16 32) (k0_hw1350 : k0_chk1350 v8358 v8604), ∀ a x, ((![v8358, v8604] : Fin 2 → IVec S16 32) a x).toNat < S160x31.size a := fun v8358 v8604 k0_hw1350 => k0_hw1350

def k0_chk1351 (v8358 : IVec S16 32) (v8607 : IVec S16 32) : Prop :=
  (∀ a x, ((![v8358, v8607] : Fin 2 → IVec S16 32) a x).toNat < S160x39.size a)
theorem k0_idx1351_inb : ∀ (v8358 : IVec S16 32) (v8607 : IVec S16 32) (k0_hw1351 : k0_chk1351 v8358 v8607), ∀ a x, ((![v8358, v8607] : Fin 2 → IVec S16 32) a x).toNat < S160x39.size a := fun v8358 v8607 k0_hw1351 => k0_hw1351

def k0_chk1352 (v8358 : IVec S16 32) (v8611 : IVec S16 32) : Prop :=
  (∀ a x, ((![v8358, v8611] : Fin 2 → IVec S16 32) a x).toNat < S160x31.size a)
theorem k0_idx1352_inb : ∀ (v8358 : IVec S16 32) (v8611 : IVec S16 32) (k0_hw1352 : k0_chk1352 v8358 v8611), ∀ a x, ((![v8358, v8611] : Fin 2 → IVec S16 32) a x).toNat < S160x31.size a := fun v8358 v8611 k0_hw1352 => k0_hw1352

def k0_chk1353 (v8358 : IVec S16 32) (v8614 : IVec S16 32) : Prop :=
  (∀ a x, ((![v8358, v8614] : Fin 2 → IVec S16 32) a x).toNat < S160x39.size a)
theorem k0_idx1353_inb : ∀ (v8358 : IVec S16 32) (v8614 : IVec S16 32) (k0_hw1353 : k0_chk1353 v8358 v8614), ∀ a x, ((![v8358, v8614] : Fin 2 → IVec S16 32) a x).toNat < S160x39.size a := fun v8358 v8614 k0_hw1353 => k0_hw1353

def k0_chk1354 (v8358 : IVec S16 32) (v8618 : IVec S16 32) : Prop :=
  (∀ a x, ((![v8358, v8618] : Fin 2 → IVec S16 32) a x).toNat < S160x31.size a)
theorem k0_idx1354_inb : ∀ (v8358 : IVec S16 32) (v8618 : IVec S16 32) (k0_hw1354 : k0_chk1354 v8358 v8618), ∀ a x, ((![v8358, v8618] : Fin 2 → IVec S16 32) a x).toNat < S160x31.size a := fun v8358 v8618 k0_hw1354 => k0_hw1354

def k0_chk1355 (v8358 : IVec S16 32) (v8621 : IVec S16 32) : Prop :=
  (∀ a x, ((![v8358, v8621] : Fin 2 → IVec S16 32) a x).toNat < S160x39.size a)
theorem k0_idx1355_inb : ∀ (v8358 : IVec S16 32) (v8621 : IVec S16 32) (k0_hw1355 : k0_chk1355 v8358 v8621), ∀ a x, ((![v8358, v8621] : Fin 2 → IVec S16 32) a x).toNat < S160x39.size a := fun v8358 v8621 k0_hw1355 => k0_hw1355

def k0_chk1356 (v8358 : IVec S16 32) (v8625 : IVec S16 32) : Prop :=
  (∀ a x, ((![v8358, v8625] : Fin 2 → IVec S16 32) a x).toNat < S160x31.size a)
theorem k0_idx1356_inb : ∀ (v8358 : IVec S16 32) (v8625 : IVec S16 32) (k0_hw1356 : k0_chk1356 v8358 v8625), ∀ a x, ((![v8358, v8625] : Fin 2 → IVec S16 32) a x).toNat < S160x31.size a := fun v8358 v8625 k0_hw1356 => k0_hw1356

def k0_chk1357 (v8358 : IVec S16 32) (v8628 : IVec S16 32) : Prop :=
  (∀ a x, ((![v8358, v8628] : Fin 2 → IVec S16 32) a x).toNat < S160x39.size a)
theorem k0_idx1357_inb : ∀ (v8358 : IVec S16 32) (v8628 : IVec S16 32) (k0_hw1357 : k0_chk1357 v8358 v8628), ∀ a x, ((![v8358, v8628] : Fin 2 → IVec S16 32) a x).toNat < S160x39.size a := fun v8358 v8628 k0_hw1357 => k0_hw1357

def k0_chk1358 (v8358 : IVec S16 32) (v8632 : IVec S16 32) : Prop :=
  (∀ a x, ((![v8358, v8632] : Fin 2 → IVec S16 32) a x).toNat < S160x31.size a)
theorem k0_idx1358_inb : ∀ (v8358 : IVec S16 32) (v8632 : IVec S16 32) (k0_hw1358 : k0_chk1358 v8358 v8632), ∀ a x, ((![v8358, v8632] : Fin 2 → IVec S16 32) a x).toNat < S160x31.size a := fun v8358 v8632 k0_hw1358 => k0_hw1358

def k0_chk1359 (v8358 : IVec S16 32) (v8635 : IVec S16 32) : Prop :=
  (∀ a x, ((![v8358, v8635] : Fin 2 → IVec S16 32) a x).toNat < S160x39.size a)
theorem k0_idx1359_inb : ∀ (v8358 : IVec S16 32) (v8635 : IVec S16 32) (k0_hw1359 : k0_chk1359 v8358 v8635), ∀ a x, ((![v8358, v8635] : Fin 2 → IVec S16 32) a x).toNat < S160x39.size a := fun v8358 v8635 k0_hw1359 => k0_hw1359

def k0_chk1360 (v8358 : IVec S16 32) (v8639 : IVec S16 32) : Prop :=
  (∀ a x, ((![v8358, v8639] : Fin 2 → IVec S16 32) a x).toNat < S160x31.size a)
theorem k0_idx1360_inb : ∀ (v8358 : IVec S16 32) (v8639 : IVec S16 32) (k0_hw1360 : k0_chk1360 v8358 v8639), ∀ a x, ((![v8358, v8639] : Fin 2 → IVec S16 32) a x).toNat < S160x31.size a := fun v8358 v8639 k0_hw1360 => k0_hw1360
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg10 : BitVec 32 := Scf.iv c0_i32_14 c1_i32_15 k0_t1
  let c2_i32_5694 : BitVec 32 := 2#32
  let v5779 : BitVec 32 := Scalar.muli arg10 c2_i32_5694
  let c1_i32_5695 : BitVec 32 := 1#32
  let v5780 : BitVec 32 := Scalar.addi v5779 c1_i32_5695
  let c160_i32_8536 : BitVec 32 := 160#32
  let v8642 : BitVec 32 := Scalar.muli v5780 c160_i32_8536
  let v8643 : BitVec 32 := Scalar.addi v2 v8642
  let c0_i32_8540 : BitVec 32 := 0#32
  ![v8643.toNat, 0]
def k0_cond4 (k0_t1 : Fin k0_t1_loop.trips) : BitVec 1 :=
  let c0_i32_14 : BitVec 32 := 0#32
  let c1_i32_15 : BitVec 32 := 1#32
  let arg10 : BitVec 32 := Scf.iv c0_i32_14 c1_i32_15 k0_t1
  let c2_i32_5694 : BitVec 32 := 2#32
  let v5779 : BitVec 32 := Scalar.muli arg10 c2_i32_5694
  let c1_i32_5695 : BitVec 32 := 1#32
  let v5780 : BitVec 32 := Scalar.addi v5779 c1_i32_5695
  let c2_i32_8544 : BitVec 32 := 2#32
  let v8650 : BitVec 32 := Scalar.addi v5780 c2_i32_8544
  let c125_i32_8545 : BitVec 32 := 125#32
  let v8651 : BitVec 1 := Scalar.cmpi .slt v8650 c125_i32_8545
  let v8652 : BitVec 32 := Scalar.extui v8651
  let c0_i32_8546 : BitVec 32 := 0#32
  let v8653 : BitVec 1 := Scalar.cmpi .ne v8652 c0_i32_8546
  v8653

def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c0_i32_14 : BitVec 32 := 0#32
  let c1_i32_15 : BitVec 32 := 1#32
  let arg10 : BitVec 32 := Scf.iv c0_i32_14 c1_i32_15 k0_t1
  let c2_i32_5694 : BitVec 32 := 2#32
  let v5779 : BitVec 32 := Scalar.muli arg10 c2_i32_5694
  let c1_i32_5695 : BitVec 32 := 1#32
  let v5780 : BitVec 32 := Scalar.addi v5779 c1_i32_5695
  let c2_i32_8547 : BitVec 32 := 2#32
  let v8654 : BitVec 32 := Scalar.addi v5780 c2_i32_8547
  let c160_i32_8548 : BitVec 32 := 160#32
  let v8655 : BitVec 32 := Scalar.muli v8654 c160_i32_8548
  let v8656 : BitVec 32 := Scalar.addi v2 v8655
  let c0_i32_8552 : BitVec 32 := 0#32
  ![v8656.toNat, 0]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let c19520_i32 : BitVec 32 := 19520#32
  let v19 : BitVec 32 := Scalar.addi v2 c19520_i32
  let c0_i32_20 : BitVec 32 := 0#32
  ![v19.toNat, 0]

def k0_chk1361 (v34 : IVec S16 32) (v35 : IVec S16 32) : Prop :=
  (∀ a x, ((![v34, v35] : Fin 2 → IVec S16 32) a x).toNat < S160x39.size a)
theorem k0_idx1361_inb : ∀ (v34 : IVec S16 32) (v35 : IVec S16 32) (k0_hw1361 : k0_chk1361 v34 v35), ∀ a x, ((![v34, v35] : Fin 2 → IVec S16 32) a x).toNat < S160x39.size a := fun v34 v35 k0_hw1361 => k0_hw1361

def k0_chk1362 (v34 : IVec S16 32) (v39 : IVec S16 32) : Prop :=
  (∀ a x, ((![v34, v39] : Fin 2 → IVec S16 32) a x).toNat < S160x39.size a)
theorem k0_idx1362_inb : ∀ (v34 : IVec S16 32) (v39 : IVec S16 32) (k0_hw1362 : k0_chk1362 v34 v39), ∀ a x, ((![v34, v39] : Fin 2 → IVec S16 32) a x).toNat < S160x39.size a := fun v34 v39 k0_hw1362 => k0_hw1362

def k0_chk1363 (v34 : IVec S16 32) (v43 : IVec S16 32) : Prop :=
  (∀ a x, ((![v34, v43] : Fin 2 → IVec S16 32) a x).toNat < S160x39.size a)
theorem k0_idx1363_inb : ∀ (v34 : IVec S16 32) (v43 : IVec S16 32) (k0_hw1363 : k0_chk1363 v34 v43), ∀ a x, ((![v34, v43] : Fin 2 → IVec S16 32) a x).toNat < S160x39.size a := fun v34 v43 k0_hw1363 => k0_hw1363

def k0_chk1364 (v34 : IVec S16 32) (v47 : IVec S16 32) : Prop :=
  (∀ a x, ((![v34, v47] : Fin 2 → IVec S16 32) a x).toNat < S160x39.size a)
theorem k0_idx1364_inb : ∀ (v34 : IVec S16 32) (v47 : IVec S16 32) (k0_hw1364 : k0_chk1364 v34 v47), ∀ a x, ((![v34, v47] : Fin 2 → IVec S16 32) a x).toNat < S160x39.size a := fun v34 v47 k0_hw1364 => k0_hw1364

def k0_chk1365 (v34 : IVec S16 32) (v52 : IVec S16 32) : Prop :=
  (∀ a x, ((![v34, v52] : Fin 2 → IVec S16 32) a x).toNat < S160x39.size a)
theorem k0_idx1365_inb : ∀ (v34 : IVec S16 32) (v52 : IVec S16 32) (k0_hw1365 : k0_chk1365 v34 v52), ∀ a x, ((![v34, v52] : Fin 2 → IVec S16 32) a x).toNat < S160x39.size a := fun v34 v52 k0_hw1365 => k0_hw1365

def k0_chk1366 (v34 : IVec S16 32) (v56 : IVec S16 32) : Prop :=
  (∀ a x, ((![v34, v56] : Fin 2 → IVec S16 32) a x).toNat < S160x39.size a)
theorem k0_idx1366_inb : ∀ (v34 : IVec S16 32) (v56 : IVec S16 32) (k0_hw1366 : k0_chk1366 v34 v56), ∀ a x, ((![v34, v56] : Fin 2 → IVec S16 32) a x).toNat < S160x39.size a := fun v34 v56 k0_hw1366 => k0_hw1366

def k0_chk1367 (v34 : IVec S16 32) (v61 : IVec S16 32) : Prop :=
  (∀ a x, ((![v34, v61] : Fin 2 → IVec S16 32) a x).toNat < S160x39.size a)
theorem k0_idx1367_inb : ∀ (v34 : IVec S16 32) (v61 : IVec S16 32) (k0_hw1367 : k0_chk1367 v34 v61), ∀ a x, ((![v34, v61] : Fin 2 → IVec S16 32) a x).toNat < S160x39.size a := fun v34 v61 k0_hw1367 => k0_hw1367

def k0_chk1368 (v34 : IVec S16 32) (v69 : IVec S16 32) : Prop :=
  (∀ a x, ((![v34, v69] : Fin 2 → IVec S16 32) a x).toNat < S160x39.size a)
theorem k0_idx1368_inb : ∀ (v34 : IVec S16 32) (v69 : IVec S16 32) (k0_hw1368 : k0_chk1368 v34 v69), ∀ a x, ((![v34, v69] : Fin 2 → IVec S16 32) a x).toNat < S160x39.size a := fun v34 v69 k0_hw1368 => k0_hw1368

def k0_chk1369 (v34 : IVec S16 32) (v77 : IVec S16 32) : Prop :=
  (∀ a x, ((![v34, v77] : Fin 2 → IVec S16 32) a x).toNat < S160x31.size a)
theorem k0_idx1369_inb : ∀ (v34 : IVec S16 32) (v77 : IVec S16 32) (k0_hw1369 : k0_chk1369 v34 v77), ∀ a x, ((![v34, v77] : Fin 2 → IVec S16 32) a x).toNat < S160x31.size a := fun v34 v77 k0_hw1369 => k0_hw1369

def k0_chk1370 (v34 : IVec S16 32) (v80 : IVec S16 32) : Prop :=
  (∀ a x, ((![v34, v80] : Fin 2 → IVec S16 32) a x).toNat < S160x31.size a)
theorem k0_idx1370_inb : ∀ (v34 : IVec S16 32) (v80 : IVec S16 32) (k0_hw1370 : k0_chk1370 v34 v80), ∀ a x, ((![v34, v80] : Fin 2 → IVec S16 32) a x).toNat < S160x31.size a := fun v34 v80 k0_hw1370 => k0_hw1370

def k0_chk1371 (v34 : IVec S16 32) (v83 : IVec S16 32) : Prop :=
  (∀ a x, ((![v34, v83] : Fin 2 → IVec S16 32) a x).toNat < S160x39.size a)
theorem k0_idx1371_inb : ∀ (v34 : IVec S16 32) (v83 : IVec S16 32) (k0_hw1371 : k0_chk1371 v34 v83), ∀ a x, ((![v34, v83] : Fin 2 → IVec S16 32) a x).toNat < S160x39.size a := fun v34 v83 k0_hw1371 => k0_hw1371

def k0_chk1372 (v34 : IVec S16 32) (v91 : IVec S16 32) : Prop :=
  (∀ a x, ((![v34, v91] : Fin 2 → IVec S16 32) a x).toNat < S160x39.size a)
theorem k0_idx1372_inb : ∀ (v34 : IVec S16 32) (v91 : IVec S16 32) (k0_hw1372 : k0_chk1372 v34 v91), ∀ a x, ((![v34, v91] : Fin 2 → IVec S16 32) a x).toNat < S160x39.size a := fun v34 v91 k0_hw1372 => k0_hw1372

def k0_chk1373 (v34 : IVec S16 32) (v99 : IVec S16 32) : Prop :=
  (∀ a x, ((![v34, v99] : Fin 2 → IVec S16 32) a x).toNat < S160x31.size a)
theorem k0_idx1373_inb : ∀ (v34 : IVec S16 32) (v99 : IVec S16 32) (k0_hw1373 : k0_chk1373 v34 v99), ∀ a x, ((![v34, v99] : Fin 2 → IVec S16 32) a x).toNat < S160x31.size a := fun v34 v99 k0_hw1373 => k0_hw1373

def k0_chk1374 (v34 : IVec S16 32) (v102 : IVec S16 32) : Prop :=
  (∀ a x, ((![v34, v102] : Fin 2 → IVec S16 32) a x).toNat < S160x31.size a)
theorem k0_idx1374_inb : ∀ (v34 : IVec S16 32) (v102 : IVec S16 32) (k0_hw1374 : k0_chk1374 v34 v102), ∀ a x, ((![v34, v102] : Fin 2 → IVec S16 32) a x).toNat < S160x31.size a := fun v34 v102 k0_hw1374 => k0_hw1374

def k0_chk1375 (v34 : IVec S16 32) (v105 : IVec S16 32) : Prop :=
  (∀ a x, ((![v34, v105] : Fin 2 → IVec S16 32) a x).toNat < S160x39.size a)
theorem k0_idx1375_inb : ∀ (v34 : IVec S16 32) (v105 : IVec S16 32) (k0_hw1375 : k0_chk1375 v34 v105), ∀ a x, ((![v34, v105] : Fin 2 → IVec S16 32) a x).toNat < S160x39.size a := fun v34 v105 k0_hw1375 => k0_hw1375

def k0_chk1376 (v34 : IVec S16 32) (v113 : IVec S16 32) : Prop :=
  (∀ a x, ((![v34, v113] : Fin 2 → IVec S16 32) a x).toNat < S160x39.size a)
theorem k0_idx1376_inb : ∀ (v34 : IVec S16 32) (v113 : IVec S16 32) (k0_hw1376 : k0_chk1376 v34 v113), ∀ a x, ((![v34, v113] : Fin 2 → IVec S16 32) a x).toNat < S160x39.size a := fun v34 v113 k0_hw1376 => k0_hw1376

def k0_chk1377 (v34 : IVec S16 32) (v121 : IVec S16 32) : Prop :=
  (∀ a x, ((![v34, v121] : Fin 2 → IVec S16 32) a x).toNat < S160x31.size a)
theorem k0_idx1377_inb : ∀ (v34 : IVec S16 32) (v121 : IVec S16 32) (k0_hw1377 : k0_chk1377 v34 v121), ∀ a x, ((![v34, v121] : Fin 2 → IVec S16 32) a x).toNat < S160x31.size a := fun v34 v121 k0_hw1377 => k0_hw1377

def k0_chk1378 (v34 : IVec S16 32) (v124 : IVec S16 32) : Prop :=
  (∀ a x, ((![v34, v124] : Fin 2 → IVec S16 32) a x).toNat < S160x31.size a)
theorem k0_idx1378_inb : ∀ (v34 : IVec S16 32) (v124 : IVec S16 32) (k0_hw1378 : k0_chk1378 v34 v124), ∀ a x, ((![v34, v124] : Fin 2 → IVec S16 32) a x).toNat < S160x31.size a := fun v34 v124 k0_hw1378 => k0_hw1378

def k0_chk1379 (v34 : IVec S16 32) (v127 : IVec S16 32) : Prop :=
  (∀ a x, ((![v34, v127] : Fin 2 → IVec S16 32) a x).toNat < S160x39.size a)
theorem k0_idx1379_inb : ∀ (v34 : IVec S16 32) (v127 : IVec S16 32) (k0_hw1379 : k0_chk1379 v34 v127), ∀ a x, ((![v34, v127] : Fin 2 → IVec S16 32) a x).toNat < S160x39.size a := fun v34 v127 k0_hw1379 => k0_hw1379

def k0_chk1380 (v34 : IVec S16 32) (v135 : IVec S16 32) : Prop :=
  (∀ a x, ((![v34, v135] : Fin 2 → IVec S16 32) a x).toNat < S160x39.size a)
theorem k0_idx1380_inb : ∀ (v34 : IVec S16 32) (v135 : IVec S16 32) (k0_hw1380 : k0_chk1380 v34 v135), ∀ a x, ((![v34, v135] : Fin 2 → IVec S16 32) a x).toNat < S160x39.size a := fun v34 v135 k0_hw1380 => k0_hw1380

def k0_chk1381 (v34 : IVec S16 32) (v143 : IVec S16 32) : Prop :=
  (∀ a x, ((![v34, v143] : Fin 2 → IVec S16 32) a x).toNat < S160x31.size a)
theorem k0_idx1381_inb : ∀ (v34 : IVec S16 32) (v143 : IVec S16 32) (k0_hw1381 : k0_chk1381 v34 v143), ∀ a x, ((![v34, v143] : Fin 2 → IVec S16 32) a x).toNat < S160x31.size a := fun v34 v143 k0_hw1381 => k0_hw1381

def k0_chk1382 (v34 : IVec S16 32) (v146 : IVec S16 32) : Prop :=
  (∀ a x, ((![v34, v146] : Fin 2 → IVec S16 32) a x).toNat < S160x31.size a)
theorem k0_idx1382_inb : ∀ (v34 : IVec S16 32) (v146 : IVec S16 32) (k0_hw1382 : k0_chk1382 v34 v146), ∀ a x, ((![v34, v146] : Fin 2 → IVec S16 32) a x).toNat < S160x31.size a := fun v34 v146 k0_hw1382 => k0_hw1382

def k0_chk1383 (v34 : IVec S16 32) (v149 : IVec S16 32) : Prop :=
  (∀ a x, ((![v34, v149] : Fin 2 → IVec S16 32) a x).toNat < S160x39.size a)
theorem k0_idx1383_inb : ∀ (v34 : IVec S16 32) (v149 : IVec S16 32) (k0_hw1383 : k0_chk1383 v34 v149), ∀ a x, ((![v34, v149] : Fin 2 → IVec S16 32) a x).toNat < S160x39.size a := fun v34 v149 k0_hw1383 => k0_hw1383

def k0_chk1384 (v34 : IVec S16 32) (v157 : IVec S16 32) : Prop :=
  (∀ a x, ((![v34, v157] : Fin 2 → IVec S16 32) a x).toNat < S160x39.size a)
theorem k0_idx1384_inb : ∀ (v34 : IVec S16 32) (v157 : IVec S16 32) (k0_hw1384 : k0_chk1384 v34 v157), ∀ a x, ((![v34, v157] : Fin 2 → IVec S16 32) a x).toNat < S160x39.size a := fun v34 v157 k0_hw1384 => k0_hw1384

def k0_chk1385 (v34 : IVec S16 32) (v165 : IVec S16 32) : Prop :=
  (∀ a x, ((![v34, v165] : Fin 2 → IVec S16 32) a x).toNat < S160x31.size a)
theorem k0_idx1385_inb : ∀ (v34 : IVec S16 32) (v165 : IVec S16 32) (k0_hw1385 : k0_chk1385 v34 v165), ∀ a x, ((![v34, v165] : Fin 2 → IVec S16 32) a x).toNat < S160x31.size a := fun v34 v165 k0_hw1385 => k0_hw1385

def k0_chk1386 (v34 : IVec S16 32) (v168 : IVec S16 32) : Prop :=
  (∀ a x, ((![v34, v168] : Fin 2 → IVec S16 32) a x).toNat < S160x31.size a)
theorem k0_idx1386_inb : ∀ (v34 : IVec S16 32) (v168 : IVec S16 32) (k0_hw1386 : k0_chk1386 v34 v168), ∀ a x, ((![v34, v168] : Fin 2 → IVec S16 32) a x).toNat < S160x31.size a := fun v34 v168 k0_hw1386 => k0_hw1386

def k0_chk1387 (v34 : IVec S16 32) (v171 : IVec S16 32) : Prop :=
  (∀ a x, ((![v34, v171] : Fin 2 → IVec S16 32) a x).toNat < S160x39.size a)
theorem k0_idx1387_inb : ∀ (v34 : IVec S16 32) (v171 : IVec S16 32) (k0_hw1387 : k0_chk1387 v34 v171), ∀ a x, ((![v34, v171] : Fin 2 → IVec S16 32) a x).toNat < S160x39.size a := fun v34 v171 k0_hw1387 => k0_hw1387

def k0_chk1388 (v34 : IVec S16 32) (v175 : IVec S16 32) : Prop :=
  (∀ a x, ((![v34, v175] : Fin 2 → IVec S16 32) a x).toNat < S160x31.size a)
theorem k0_idx1388_inb : ∀ (v34 : IVec S16 32) (v175 : IVec S16 32) (k0_hw1388 : k0_chk1388 v34 v175), ∀ a x, ((![v34, v175] : Fin 2 → IVec S16 32) a x).toNat < S160x31.size a := fun v34 v175 k0_hw1388 => k0_hw1388

def k0_chk1389 (v34 : IVec S16 32) (v178 : IVec S16 32) : Prop :=
  (∀ a x, ((![v34, v178] : Fin 2 → IVec S16 32) a x).toNat < S160x39.size a)
theorem k0_idx1389_inb : ∀ (v34 : IVec S16 32) (v178 : IVec S16 32) (k0_hw1389 : k0_chk1389 v34 v178), ∀ a x, ((![v34, v178] : Fin 2 → IVec S16 32) a x).toNat < S160x39.size a := fun v34 v178 k0_hw1389 => k0_hw1389

def k0_chk1390 (v34 : IVec S16 32) (v182 : IVec S16 32) : Prop :=
  (∀ a x, ((![v34, v182] : Fin 2 → IVec S16 32) a x).toNat < S160x31.size a)
theorem k0_idx1390_inb : ∀ (v34 : IVec S16 32) (v182 : IVec S16 32) (k0_hw1390 : k0_chk1390 v34 v182), ∀ a x, ((![v34, v182] : Fin 2 → IVec S16 32) a x).toNat < S160x31.size a := fun v34 v182 k0_hw1390 => k0_hw1390

def k0_chk1391 (v34 : IVec S16 32) (v185 : IVec S16 32) : Prop :=
  (∀ a x, ((![v34, v185] : Fin 2 → IVec S16 32) a x).toNat < S160x39.size a)
theorem k0_idx1391_inb : ∀ (v34 : IVec S16 32) (v185 : IVec S16 32) (k0_hw1391 : k0_chk1391 v34 v185), ∀ a x, ((![v34, v185] : Fin 2 → IVec S16 32) a x).toNat < S160x39.size a := fun v34 v185 k0_hw1391 => k0_hw1391

def k0_chk1392 (v34 : IVec S16 32) (v189 : IVec S16 32) : Prop :=
  (∀ a x, ((![v34, v189] : Fin 2 → IVec S16 32) a x).toNat < S160x31.size a)
theorem k0_idx1392_inb : ∀ (v34 : IVec S16 32) (v189 : IVec S16 32) (k0_hw1392 : k0_chk1392 v34 v189), ∀ a x, ((![v34, v189] : Fin 2 → IVec S16 32) a x).toNat < S160x31.size a := fun v34 v189 k0_hw1392 => k0_hw1392

def k0_chk1393 (v34 : IVec S16 32) (v192 : IVec S16 32) : Prop :=
  (∀ a x, ((![v34, v192] : Fin 2 → IVec S16 32) a x).toNat < S160x39.size a)
theorem k0_idx1393_inb : ∀ (v34 : IVec S16 32) (v192 : IVec S16 32) (k0_hw1393 : k0_chk1393 v34 v192), ∀ a x, ((![v34, v192] : Fin 2 → IVec S16 32) a x).toNat < S160x39.size a := fun v34 v192 k0_hw1393 => k0_hw1393

def k0_chk1394 (v34 : IVec S16 32) (v196 : IVec S16 32) : Prop :=
  (∀ a x, ((![v34, v196] : Fin 2 → IVec S16 32) a x).toNat < S160x31.size a)
theorem k0_idx1394_inb : ∀ (v34 : IVec S16 32) (v196 : IVec S16 32) (k0_hw1394 : k0_chk1394 v34 v196), ∀ a x, ((![v34, v196] : Fin 2 → IVec S16 32) a x).toNat < S160x31.size a := fun v34 v196 k0_hw1394 => k0_hw1394

def k0_chk1395 (v34 : IVec S16 32) (v199 : IVec S16 32) : Prop :=
  (∀ a x, ((![v34, v199] : Fin 2 → IVec S16 32) a x).toNat < S160x39.size a)
theorem k0_idx1395_inb : ∀ (v34 : IVec S16 32) (v199 : IVec S16 32) (k0_hw1395 : k0_chk1395 v34 v199), ∀ a x, ((![v34, v199] : Fin 2 → IVec S16 32) a x).toNat < S160x39.size a := fun v34 v199 k0_hw1395 => k0_hw1395

def k0_chk1396 (v34 : IVec S16 32) (v203 : IVec S16 32) : Prop :=
  (∀ a x, ((![v34, v203] : Fin 2 → IVec S16 32) a x).toNat < S160x31.size a)
theorem k0_idx1396_inb : ∀ (v34 : IVec S16 32) (v203 : IVec S16 32) (k0_hw1396 : k0_chk1396 v34 v203), ∀ a x, ((![v34, v203] : Fin 2 → IVec S16 32) a x).toNat < S160x31.size a := fun v34 v203 k0_hw1396 => k0_hw1396

def k0_chk1397 (v34 : IVec S16 32) (v206 : IVec S16 32) : Prop :=
  (∀ a x, ((![v34, v206] : Fin 2 → IVec S16 32) a x).toNat < S160x39.size a)
theorem k0_idx1397_inb : ∀ (v34 : IVec S16 32) (v206 : IVec S16 32) (k0_hw1397 : k0_chk1397 v34 v206), ∀ a x, ((![v34, v206] : Fin 2 → IVec S16 32) a x).toNat < S160x39.size a := fun v34 v206 k0_hw1397 => k0_hw1397

def k0_chk1398 (v34 : IVec S16 32) (v210 : IVec S16 32) : Prop :=
  (∀ a x, ((![v34, v210] : Fin 2 → IVec S16 32) a x).toNat < S160x31.size a)
theorem k0_idx1398_inb : ∀ (v34 : IVec S16 32) (v210 : IVec S16 32) (k0_hw1398 : k0_chk1398 v34 v210), ∀ a x, ((![v34, v210] : Fin 2 → IVec S16 32) a x).toNat < S160x31.size a := fun v34 v210 k0_hw1398 => k0_hw1398

def k0_chk1399 (v34 : IVec S16 32) (v213 : IVec S16 32) : Prop :=
  (∀ a x, ((![v34, v213] : Fin 2 → IVec S16 32) a x).toNat < S160x39.size a)
theorem k0_idx1399_inb : ∀ (v34 : IVec S16 32) (v213 : IVec S16 32) (k0_hw1399 : k0_chk1399 v34 v213), ∀ a x, ((![v34, v213] : Fin 2 → IVec S16 32) a x).toNat < S160x39.size a := fun v34 v213 k0_hw1399 => k0_hw1399

def k0_chk1400 (v34 : IVec S16 32) (v217 : IVec S16 32) : Prop :=
  (∀ a x, ((![v34, v217] : Fin 2 → IVec S16 32) a x).toNat < S160x31.size a)
theorem k0_idx1400_inb : ∀ (v34 : IVec S16 32) (v217 : IVec S16 32) (k0_hw1400 : k0_chk1400 v34 v217), ∀ a x, ((![v34, v217] : Fin 2 → IVec S16 32) a x).toNat < S160x31.size a := fun v34 v217 k0_hw1400 => k0_hw1400

def k0_chk1401 (v34 : IVec S16 32) (v220 : IVec S16 32) : Prop :=
  (∀ a x, ((![v34, v220] : Fin 2 → IVec S16 32) a x).toNat < S160x39.size a)
theorem k0_idx1401_inb : ∀ (v34 : IVec S16 32) (v220 : IVec S16 32) (k0_hw1401 : k0_chk1401 v34 v220), ∀ a x, ((![v34, v220] : Fin 2 → IVec S16 32) a x).toNat < S160x39.size a := fun v34 v220 k0_hw1401 => k0_hw1401

def k0_chk1402 (v34 : IVec S16 32) (v224 : IVec S16 32) : Prop :=
  (∀ a x, ((![v34, v224] : Fin 2 → IVec S16 32) a x).toNat < S160x31.size a)
theorem k0_idx1402_inb : ∀ (v34 : IVec S16 32) (v224 : IVec S16 32) (k0_hw1402 : k0_chk1402 v34 v224), ∀ a x, ((![v34, v224] : Fin 2 → IVec S16 32) a x).toNat < S160x31.size a := fun v34 v224 k0_hw1402 => k0_hw1402

def k0_chk1403 (v34 : IVec S16 32) (v227 : IVec S16 32) : Prop :=
  (∀ a x, ((![v34, v227] : Fin 2 → IVec S16 32) a x).toNat < S160x39.size a)
theorem k0_idx1403_inb : ∀ (v34 : IVec S16 32) (v227 : IVec S16 32) (k0_hw1403 : k0_chk1403 v34 v227), ∀ a x, ((![v34, v227] : Fin 2 → IVec S16 32) a x).toNat < S160x39.size a := fun v34 v227 k0_hw1403 => k0_hw1403

def k0_chk1404 (v34 : IVec S16 32) (v231 : IVec S16 32) : Prop :=
  (∀ a x, ((![v34, v231] : Fin 2 → IVec S16 32) a x).toNat < S160x31.size a)
theorem k0_idx1404_inb : ∀ (v34 : IVec S16 32) (v231 : IVec S16 32) (k0_hw1404 : k0_chk1404 v34 v231), ∀ a x, ((![v34, v231] : Fin 2 → IVec S16 32) a x).toNat < S160x31.size a := fun v34 v231 k0_hw1404 => k0_hw1404

def k0_chk1405 (v34 : IVec S16 32) (v234 : IVec S16 32) : Prop :=
  (∀ a x, ((![v34, v234] : Fin 2 → IVec S16 32) a x).toNat < S160x39.size a)
theorem k0_idx1405_inb : ∀ (v34 : IVec S16 32) (v234 : IVec S16 32) (k0_hw1405 : k0_chk1405 v34 v234), ∀ a x, ((![v34, v234] : Fin 2 → IVec S16 32) a x).toNat < S160x39.size a := fun v34 v234 k0_hw1405 => k0_hw1405

def k0_chk1406 (v34 : IVec S16 32) (v238 : IVec S16 32) : Prop :=
  (∀ a x, ((![v34, v238] : Fin 2 → IVec S16 32) a x).toNat < S160x31.size a)
theorem k0_idx1406_inb : ∀ (v34 : IVec S16 32) (v238 : IVec S16 32) (k0_hw1406 : k0_chk1406 v34 v238), ∀ a x, ((![v34, v238] : Fin 2 → IVec S16 32) a x).toNat < S160x31.size a := fun v34 v238 k0_hw1406 => k0_hw1406

def k0_chk1407 (v34 : IVec S16 32) (v241 : IVec S16 32) : Prop :=
  (∀ a x, ((![v34, v241] : Fin 2 → IVec S16 32) a x).toNat < S160x39.size a)
theorem k0_idx1407_inb : ∀ (v34 : IVec S16 32) (v241 : IVec S16 32) (k0_hw1407 : k0_chk1407 v34 v241), ∀ a x, ((![v34, v241] : Fin 2 → IVec S16 32) a x).toNat < S160x39.size a := fun v34 v241 k0_hw1407 => k0_hw1407

def k0_chk1408 (v34 : IVec S16 32) (v245 : IVec S16 32) : Prop :=
  (∀ a x, ((![v34, v245] : Fin 2 → IVec S16 32) a x).toNat < S160x31.size a)
theorem k0_idx1408_inb : ∀ (v34 : IVec S16 32) (v245 : IVec S16 32) (k0_hw1408 : k0_chk1408 v34 v245), ∀ a x, ((![v34, v245] : Fin 2 → IVec S16 32) a x).toNat < S160x31.size a := fun v34 v245 k0_hw1408 => k0_hw1408

def k0_chk1409 (v34 : IVec S16 32) (v248 : IVec S16 32) : Prop :=
  (∀ a x, ((![v34, v248] : Fin 2 → IVec S16 32) a x).toNat < S160x39.size a)
theorem k0_idx1409_inb : ∀ (v34 : IVec S16 32) (v248 : IVec S16 32) (k0_hw1409 : k0_chk1409 v34 v248), ∀ a x, ((![v34, v248] : Fin 2 → IVec S16 32) a x).toNat < S160x39.size a := fun v34 v248 k0_hw1409 => k0_hw1409

def k0_chk1410 (v34 : IVec S16 32) (v252 : IVec S16 32) : Prop :=
  (∀ a x, ((![v34, v252] : Fin 2 → IVec S16 32) a x).toNat < S160x31.size a)
theorem k0_idx1410_inb : ∀ (v34 : IVec S16 32) (v252 : IVec S16 32) (k0_hw1410 : k0_chk1410 v34 v252), ∀ a x, ((![v34, v252] : Fin 2 → IVec S16 32) a x).toNat < S160x31.size a := fun v34 v252 k0_hw1410 => k0_hw1410

def k0_chk1411 (v34 : IVec S16 32) (v255 : IVec S16 32) : Prop :=
  (∀ a x, ((![v34, v255] : Fin 2 → IVec S16 32) a x).toNat < S160x39.size a)
theorem k0_idx1411_inb : ∀ (v34 : IVec S16 32) (v255 : IVec S16 32) (k0_hw1411 : k0_chk1411 v34 v255), ∀ a x, ((![v34, v255] : Fin 2 → IVec S16 32) a x).toNat < S160x39.size a := fun v34 v255 k0_hw1411 => k0_hw1411

def k0_chk1412 (v34 : IVec S16 32) (v259 : IVec S16 32) : Prop :=
  (∀ a x, ((![v34, v259] : Fin 2 → IVec S16 32) a x).toNat < S160x31.size a)
theorem k0_idx1412_inb : ∀ (v34 : IVec S16 32) (v259 : IVec S16 32) (k0_hw1412 : k0_chk1412 v34 v259), ∀ a x, ((![v34, v259] : Fin 2 → IVec S16 32) a x).toNat < S160x31.size a := fun v34 v259 k0_hw1412 => k0_hw1412

def k0_chk1413 (v34 : IVec S16 32) (v262 : IVec S16 32) : Prop :=
  (∀ a x, ((![v34, v262] : Fin 2 → IVec S16 32) a x).toNat < S160x39.size a)
theorem k0_idx1413_inb : ∀ (v34 : IVec S16 32) (v262 : IVec S16 32) (k0_hw1413 : k0_chk1413 v34 v262), ∀ a x, ((![v34, v262] : Fin 2 → IVec S16 32) a x).toNat < S160x39.size a := fun v34 v262 k0_hw1413 => k0_hw1413

def k0_chk1414 (v34 : IVec S16 32) (v266 : IVec S16 32) : Prop :=
  (∀ a x, ((![v34, v266] : Fin 2 → IVec S16 32) a x).toNat < S160x31.size a)
theorem k0_idx1414_inb : ∀ (v34 : IVec S16 32) (v266 : IVec S16 32) (k0_hw1414 : k0_chk1414 v34 v266), ∀ a x, ((![v34, v266] : Fin 2 → IVec S16 32) a x).toNat < S160x31.size a := fun v34 v266 k0_hw1414 => k0_hw1414

def k0_chk1415 (v34 : IVec S16 32) (v269 : IVec S16 32) : Prop :=
  (∀ a x, ((![v34, v269] : Fin 2 → IVec S16 32) a x).toNat < S160x39.size a)
theorem k0_idx1415_inb : ∀ (v34 : IVec S16 32) (v269 : IVec S16 32) (k0_hw1415 : k0_chk1415 v34 v269), ∀ a x, ((![v34, v269] : Fin 2 → IVec S16 32) a x).toNat < S160x39.size a := fun v34 v269 k0_hw1415 => k0_hw1415

def k0_chk1416 (v34 : IVec S16 32) (v273 : IVec S16 32) : Prop :=
  (∀ a x, ((![v34, v273] : Fin 2 → IVec S16 32) a x).toNat < S160x31.size a)
theorem k0_idx1416_inb : ∀ (v34 : IVec S16 32) (v273 : IVec S16 32) (k0_hw1416 : k0_chk1416 v34 v273), ∀ a x, ((![v34, v273] : Fin 2 → IVec S16 32) a x).toNat < S160x31.size a := fun v34 v273 k0_hw1416 => k0_hw1416

def k0_chk1417 (v34 : IVec S16 32) (v276 : IVec S16 32) : Prop :=
  (∀ a x, ((![v34, v276] : Fin 2 → IVec S16 32) a x).toNat < S160x39.size a)
theorem k0_idx1417_inb : ∀ (v34 : IVec S16 32) (v276 : IVec S16 32) (k0_hw1417 : k0_chk1417 v34 v276), ∀ a x, ((![v34, v276] : Fin 2 → IVec S16 32) a x).toNat < S160x39.size a := fun v34 v276 k0_hw1417 => k0_hw1417

def k0_chk1418 (v34 : IVec S16 32) (v280 : IVec S16 32) : Prop :=
  (∀ a x, ((![v34, v280] : Fin 2 → IVec S16 32) a x).toNat < S160x31.size a)
theorem k0_idx1418_inb : ∀ (v34 : IVec S16 32) (v280 : IVec S16 32) (k0_hw1418 : k0_chk1418 v34 v280), ∀ a x, ((![v34, v280] : Fin 2 → IVec S16 32) a x).toNat < S160x31.size a := fun v34 v280 k0_hw1418 => k0_hw1418

def k0_chk1419 (v34 : IVec S16 32) (v283 : IVec S16 32) : Prop :=
  (∀ a x, ((![v34, v283] : Fin 2 → IVec S16 32) a x).toNat < S160x39.size a)
theorem k0_idx1419_inb : ∀ (v34 : IVec S16 32) (v283 : IVec S16 32) (k0_hw1419 : k0_chk1419 v34 v283), ∀ a x, ((![v34, v283] : Fin 2 → IVec S16 32) a x).toNat < S160x39.size a := fun v34 v283 k0_hw1419 => k0_hw1419

def k0_chk1420 (v34 : IVec S16 32) (v287 : IVec S16 32) : Prop :=
  (∀ a x, ((![v34, v287] : Fin 2 → IVec S16 32) a x).toNat < S160x31.size a)
theorem k0_idx1420_inb : ∀ (v34 : IVec S16 32) (v287 : IVec S16 32) (k0_hw1420 : k0_chk1420 v34 v287), ∀ a x, ((![v34, v287] : Fin 2 → IVec S16 32) a x).toNat < S160x31.size a := fun v34 v287 k0_hw1420 => k0_hw1420

def k0_chk1421 (v34 : IVec S16 32) (v290 : IVec S16 32) : Prop :=
  (∀ a x, ((![v34, v290] : Fin 2 → IVec S16 32) a x).toNat < S160x39.size a)
theorem k0_idx1421_inb : ∀ (v34 : IVec S16 32) (v290 : IVec S16 32) (k0_hw1421 : k0_chk1421 v34 v290), ∀ a x, ((![v34, v290] : Fin 2 → IVec S16 32) a x).toNat < S160x39.size a := fun v34 v290 k0_hw1421 => k0_hw1421

def k0_chk1422 (v34 : IVec S16 32) (v294 : IVec S16 32) : Prop :=
  (∀ a x, ((![v34, v294] : Fin 2 → IVec S16 32) a x).toNat < S160x31.size a)
theorem k0_idx1422_inb : ∀ (v34 : IVec S16 32) (v294 : IVec S16 32) (k0_hw1422 : k0_chk1422 v34 v294), ∀ a x, ((![v34, v294] : Fin 2 → IVec S16 32) a x).toNat < S160x31.size a := fun v34 v294 k0_hw1422 => k0_hw1422

def k0_chk1423 (v34 : IVec S16 32) (v297 : IVec S16 32) : Prop :=
  (∀ a x, ((![v34, v297] : Fin 2 → IVec S16 32) a x).toNat < S160x39.size a)
theorem k0_idx1423_inb : ∀ (v34 : IVec S16 32) (v297 : IVec S16 32) (k0_hw1423 : k0_chk1423 v34 v297), ∀ a x, ((![v34, v297] : Fin 2 → IVec S16 32) a x).toNat < S160x39.size a := fun v34 v297 k0_hw1423 => k0_hw1423

def k0_chk1424 (v34 : IVec S16 32) (v301 : IVec S16 32) : Prop :=
  (∀ a x, ((![v34, v301] : Fin 2 → IVec S16 32) a x).toNat < S160x31.size a)
theorem k0_idx1424_inb : ∀ (v34 : IVec S16 32) (v301 : IVec S16 32) (k0_hw1424 : k0_chk1424 v34 v301), ∀ a x, ((![v34, v301] : Fin 2 → IVec S16 32) a x).toNat < S160x31.size a := fun v34 v301 k0_hw1424 => k0_hw1424

def k0_chk1425 (v34 : IVec S16 32) (v304 : IVec S16 32) : Prop :=
  (∀ a x, ((![v34, v304] : Fin 2 → IVec S16 32) a x).toNat < S160x39.size a)
theorem k0_idx1425_inb : ∀ (v34 : IVec S16 32) (v304 : IVec S16 32) (k0_hw1425 : k0_chk1425 v34 v304), ∀ a x, ((![v34, v304] : Fin 2 → IVec S16 32) a x).toNat < S160x39.size a := fun v34 v304 k0_hw1425 => k0_hw1425

def k0_chk1426 (v34 : IVec S16 32) (v308 : IVec S16 32) : Prop :=
  (∀ a x, ((![v34, v308] : Fin 2 → IVec S16 32) a x).toNat < S160x31.size a)
theorem k0_idx1426_inb : ∀ (v34 : IVec S16 32) (v308 : IVec S16 32) (k0_hw1426 : k0_chk1426 v34 v308), ∀ a x, ((![v34, v308] : Fin 2 → IVec S16 32) a x).toNat < S160x31.size a := fun v34 v308 k0_hw1426 => k0_hw1426

def k0_chk1427 (v34 : IVec S16 32) (v311 : IVec S16 32) : Prop :=
  (∀ a x, ((![v34, v311] : Fin 2 → IVec S16 32) a x).toNat < S160x39.size a)
theorem k0_idx1427_inb : ∀ (v34 : IVec S16 32) (v311 : IVec S16 32) (k0_hw1427 : k0_chk1427 v34 v311), ∀ a x, ((![v34, v311] : Fin 2 → IVec S16 32) a x).toNat < S160x39.size a := fun v34 v311 k0_hw1427 => k0_hw1427

def k0_chk1428 (v34 : IVec S16 32) (v315 : IVec S16 32) : Prop :=
  (∀ a x, ((![v34, v315] : Fin 2 → IVec S16 32) a x).toNat < S160x31.size a)
theorem k0_idx1428_inb : ∀ (v34 : IVec S16 32) (v315 : IVec S16 32) (k0_hw1428 : k0_chk1428 v34 v315), ∀ a x, ((![v34, v315] : Fin 2 → IVec S16 32) a x).toNat < S160x31.size a := fun v34 v315 k0_hw1428 => k0_hw1428

def k0_chk1429 (v319 : IVec S16 32) (v320 : IVec S16 32) : Prop :=
  (∀ a x, ((![v319, v320] : Fin 2 → IVec S16 32) a x).toNat < S160x39.size a)
theorem k0_idx1429_inb : ∀ (v319 : IVec S16 32) (v320 : IVec S16 32) (k0_hw1429 : k0_chk1429 v319 v320), ∀ a x, ((![v319, v320] : Fin 2 → IVec S16 32) a x).toNat < S160x39.size a := fun v319 v320 k0_hw1429 => k0_hw1429

def k0_chk1430 (v319 : IVec S16 32) (v324 : IVec S16 32) : Prop :=
  (∀ a x, ((![v319, v324] : Fin 2 → IVec S16 32) a x).toNat < S160x39.size a)
theorem k0_idx1430_inb : ∀ (v319 : IVec S16 32) (v324 : IVec S16 32) (k0_hw1430 : k0_chk1430 v319 v324), ∀ a x, ((![v319, v324] : Fin 2 → IVec S16 32) a x).toNat < S160x39.size a := fun v319 v324 k0_hw1430 => k0_hw1430

def k0_chk1431 (v319 : IVec S16 32) (v328 : IVec S16 32) : Prop :=
  (∀ a x, ((![v319, v328] : Fin 2 → IVec S16 32) a x).toNat < S160x39.size a)
theorem k0_idx1431_inb : ∀ (v319 : IVec S16 32) (v328 : IVec S16 32) (k0_hw1431 : k0_chk1431 v319 v328), ∀ a x, ((![v319, v328] : Fin 2 → IVec S16 32) a x).toNat < S160x39.size a := fun v319 v328 k0_hw1431 => k0_hw1431

def k0_chk1432 (v319 : IVec S16 32) (v332 : IVec S16 32) : Prop :=
  (∀ a x, ((![v319, v332] : Fin 2 → IVec S16 32) a x).toNat < S160x39.size a)
theorem k0_idx1432_inb : ∀ (v319 : IVec S16 32) (v332 : IVec S16 32) (k0_hw1432 : k0_chk1432 v319 v332), ∀ a x, ((![v319, v332] : Fin 2 → IVec S16 32) a x).toNat < S160x39.size a := fun v319 v332 k0_hw1432 => k0_hw1432

def k0_chk1433 (v319 : IVec S16 32) (v337 : IVec S16 32) : Prop :=
  (∀ a x, ((![v319, v337] : Fin 2 → IVec S16 32) a x).toNat < S160x39.size a)
theorem k0_idx1433_inb : ∀ (v319 : IVec S16 32) (v337 : IVec S16 32) (k0_hw1433 : k0_chk1433 v319 v337), ∀ a x, ((![v319, v337] : Fin 2 → IVec S16 32) a x).toNat < S160x39.size a := fun v319 v337 k0_hw1433 => k0_hw1433

def k0_chk1434 (v319 : IVec S16 32) (v341 : IVec S16 32) : Prop :=
  (∀ a x, ((![v319, v341] : Fin 2 → IVec S16 32) a x).toNat < S160x39.size a)
theorem k0_idx1434_inb : ∀ (v319 : IVec S16 32) (v341 : IVec S16 32) (k0_hw1434 : k0_chk1434 v319 v341), ∀ a x, ((![v319, v341] : Fin 2 → IVec S16 32) a x).toNat < S160x39.size a := fun v319 v341 k0_hw1434 => k0_hw1434

def k0_chk1435 (v319 : IVec S16 32) (v346 : IVec S16 32) : Prop :=
  (∀ a x, ((![v319, v346] : Fin 2 → IVec S16 32) a x).toNat < S160x39.size a)
theorem k0_idx1435_inb : ∀ (v319 : IVec S16 32) (v346 : IVec S16 32) (k0_hw1435 : k0_chk1435 v319 v346), ∀ a x, ((![v319, v346] : Fin 2 → IVec S16 32) a x).toNat < S160x39.size a := fun v319 v346 k0_hw1435 => k0_hw1435

def k0_chk1436 (v319 : IVec S16 32) (v354 : IVec S16 32) : Prop :=
  (∀ a x, ((![v319, v354] : Fin 2 → IVec S16 32) a x).toNat < S160x39.size a)
theorem k0_idx1436_inb : ∀ (v319 : IVec S16 32) (v354 : IVec S16 32) (k0_hw1436 : k0_chk1436 v319 v354), ∀ a x, ((![v319, v354] : Fin 2 → IVec S16 32) a x).toNat < S160x39.size a := fun v319 v354 k0_hw1436 => k0_hw1436

def k0_chk1437 (v319 : IVec S16 32) (v362 : IVec S16 32) : Prop :=
  (∀ a x, ((![v319, v362] : Fin 2 → IVec S16 32) a x).toNat < S160x31.size a)
theorem k0_idx1437_inb : ∀ (v319 : IVec S16 32) (v362 : IVec S16 32) (k0_hw1437 : k0_chk1437 v319 v362), ∀ a x, ((![v319, v362] : Fin 2 → IVec S16 32) a x).toNat < S160x31.size a := fun v319 v362 k0_hw1437 => k0_hw1437

def k0_chk1438 (v319 : IVec S16 32) (v365 : IVec S16 32) : Prop :=
  (∀ a x, ((![v319, v365] : Fin 2 → IVec S16 32) a x).toNat < S160x31.size a)
theorem k0_idx1438_inb : ∀ (v319 : IVec S16 32) (v365 : IVec S16 32) (k0_hw1438 : k0_chk1438 v319 v365), ∀ a x, ((![v319, v365] : Fin 2 → IVec S16 32) a x).toNat < S160x31.size a := fun v319 v365 k0_hw1438 => k0_hw1438

def k0_chk1439 (v319 : IVec S16 32) (v368 : IVec S16 32) : Prop :=
  (∀ a x, ((![v319, v368] : Fin 2 → IVec S16 32) a x).toNat < S160x39.size a)
theorem k0_idx1439_inb : ∀ (v319 : IVec S16 32) (v368 : IVec S16 32) (k0_hw1439 : k0_chk1439 v319 v368), ∀ a x, ((![v319, v368] : Fin 2 → IVec S16 32) a x).toNat < S160x39.size a := fun v319 v368 k0_hw1439 => k0_hw1439

def k0_chk1440 (v319 : IVec S16 32) (v376 : IVec S16 32) : Prop :=
  (∀ a x, ((![v319, v376] : Fin 2 → IVec S16 32) a x).toNat < S160x39.size a)
theorem k0_idx1440_inb : ∀ (v319 : IVec S16 32) (v376 : IVec S16 32) (k0_hw1440 : k0_chk1440 v319 v376), ∀ a x, ((![v319, v376] : Fin 2 → IVec S16 32) a x).toNat < S160x39.size a := fun v319 v376 k0_hw1440 => k0_hw1440

def k0_chk1441 (v319 : IVec S16 32) (v384 : IVec S16 32) : Prop :=
  (∀ a x, ((![v319, v384] : Fin 2 → IVec S16 32) a x).toNat < S160x31.size a)
theorem k0_idx1441_inb : ∀ (v319 : IVec S16 32) (v384 : IVec S16 32) (k0_hw1441 : k0_chk1441 v319 v384), ∀ a x, ((![v319, v384] : Fin 2 → IVec S16 32) a x).toNat < S160x31.size a := fun v319 v384 k0_hw1441 => k0_hw1441

def k0_chk1442 (v319 : IVec S16 32) (v387 : IVec S16 32) : Prop :=
  (∀ a x, ((![v319, v387] : Fin 2 → IVec S16 32) a x).toNat < S160x31.size a)
theorem k0_idx1442_inb : ∀ (v319 : IVec S16 32) (v387 : IVec S16 32) (k0_hw1442 : k0_chk1442 v319 v387), ∀ a x, ((![v319, v387] : Fin 2 → IVec S16 32) a x).toNat < S160x31.size a := fun v319 v387 k0_hw1442 => k0_hw1442

def k0_chk1443 (v319 : IVec S16 32) (v390 : IVec S16 32) : Prop :=
  (∀ a x, ((![v319, v390] : Fin 2 → IVec S16 32) a x).toNat < S160x39.size a)
theorem k0_idx1443_inb : ∀ (v319 : IVec S16 32) (v390 : IVec S16 32) (k0_hw1443 : k0_chk1443 v319 v390), ∀ a x, ((![v319, v390] : Fin 2 → IVec S16 32) a x).toNat < S160x39.size a := fun v319 v390 k0_hw1443 => k0_hw1443

def k0_chk1444 (v319 : IVec S16 32) (v398 : IVec S16 32) : Prop :=
  (∀ a x, ((![v319, v398] : Fin 2 → IVec S16 32) a x).toNat < S160x39.size a)
theorem k0_idx1444_inb : ∀ (v319 : IVec S16 32) (v398 : IVec S16 32) (k0_hw1444 : k0_chk1444 v319 v398), ∀ a x, ((![v319, v398] : Fin 2 → IVec S16 32) a x).toNat < S160x39.size a := fun v319 v398 k0_hw1444 => k0_hw1444

def k0_chk1445 (v319 : IVec S16 32) (v406 : IVec S16 32) : Prop :=
  (∀ a x, ((![v319, v406] : Fin 2 → IVec S16 32) a x).toNat < S160x31.size a)
theorem k0_idx1445_inb : ∀ (v319 : IVec S16 32) (v406 : IVec S16 32) (k0_hw1445 : k0_chk1445 v319 v406), ∀ a x, ((![v319, v406] : Fin 2 → IVec S16 32) a x).toNat < S160x31.size a := fun v319 v406 k0_hw1445 => k0_hw1445

def k0_chk1446 (v319 : IVec S16 32) (v409 : IVec S16 32) : Prop :=
  (∀ a x, ((![v319, v409] : Fin 2 → IVec S16 32) a x).toNat < S160x31.size a)
theorem k0_idx1446_inb : ∀ (v319 : IVec S16 32) (v409 : IVec S16 32) (k0_hw1446 : k0_chk1446 v319 v409), ∀ a x, ((![v319, v409] : Fin 2 → IVec S16 32) a x).toNat < S160x31.size a := fun v319 v409 k0_hw1446 => k0_hw1446

def k0_chk1447 (v319 : IVec S16 32) (v412 : IVec S16 32) : Prop :=
  (∀ a x, ((![v319, v412] : Fin 2 → IVec S16 32) a x).toNat < S160x39.size a)
theorem k0_idx1447_inb : ∀ (v319 : IVec S16 32) (v412 : IVec S16 32) (k0_hw1447 : k0_chk1447 v319 v412), ∀ a x, ((![v319, v412] : Fin 2 → IVec S16 32) a x).toNat < S160x39.size a := fun v319 v412 k0_hw1447 => k0_hw1447

def k0_chk1448 (v319 : IVec S16 32) (v420 : IVec S16 32) : Prop :=
  (∀ a x, ((![v319, v420] : Fin 2 → IVec S16 32) a x).toNat < S160x39.size a)
theorem k0_idx1448_inb : ∀ (v319 : IVec S16 32) (v420 : IVec S16 32) (k0_hw1448 : k0_chk1448 v319 v420), ∀ a x, ((![v319, v420] : Fin 2 → IVec S16 32) a x).toNat < S160x39.size a := fun v319 v420 k0_hw1448 => k0_hw1448

def k0_chk1449 (v319 : IVec S16 32) (v428 : IVec S16 32) : Prop :=
  (∀ a x, ((![v319, v428] : Fin 2 → IVec S16 32) a x).toNat < S160x31.size a)
theorem k0_idx1449_inb : ∀ (v319 : IVec S16 32) (v428 : IVec S16 32) (k0_hw1449 : k0_chk1449 v319 v428), ∀ a x, ((![v319, v428] : Fin 2 → IVec S16 32) a x).toNat < S160x31.size a := fun v319 v428 k0_hw1449 => k0_hw1449

def k0_chk1450 (v319 : IVec S16 32) (v431 : IVec S16 32) : Prop :=
  (∀ a x, ((![v319, v431] : Fin 2 → IVec S16 32) a x).toNat < S160x31.size a)
theorem k0_idx1450_inb : ∀ (v319 : IVec S16 32) (v431 : IVec S16 32) (k0_hw1450 : k0_chk1450 v319 v431), ∀ a x, ((![v319, v431] : Fin 2 → IVec S16 32) a x).toNat < S160x31.size a := fun v319 v431 k0_hw1450 => k0_hw1450

def k0_chk1451 (v319 : IVec S16 32) (v434 : IVec S16 32) : Prop :=
  (∀ a x, ((![v319, v434] : Fin 2 → IVec S16 32) a x).toNat < S160x39.size a)
theorem k0_idx1451_inb : ∀ (v319 : IVec S16 32) (v434 : IVec S16 32) (k0_hw1451 : k0_chk1451 v319 v434), ∀ a x, ((![v319, v434] : Fin 2 → IVec S16 32) a x).toNat < S160x39.size a := fun v319 v434 k0_hw1451 => k0_hw1451

def k0_chk1452 (v319 : IVec S16 32) (v442 : IVec S16 32) : Prop :=
  (∀ a x, ((![v319, v442] : Fin 2 → IVec S16 32) a x).toNat < S160x39.size a)
theorem k0_idx1452_inb : ∀ (v319 : IVec S16 32) (v442 : IVec S16 32) (k0_hw1452 : k0_chk1452 v319 v442), ∀ a x, ((![v319, v442] : Fin 2 → IVec S16 32) a x).toNat < S160x39.size a := fun v319 v442 k0_hw1452 => k0_hw1452

def k0_chk1453 (v319 : IVec S16 32) (v450 : IVec S16 32) : Prop :=
  (∀ a x, ((![v319, v450] : Fin 2 → IVec S16 32) a x).toNat < S160x31.size a)
theorem k0_idx1453_inb : ∀ (v319 : IVec S16 32) (v450 : IVec S16 32) (k0_hw1453 : k0_chk1453 v319 v450), ∀ a x, ((![v319, v450] : Fin 2 → IVec S16 32) a x).toNat < S160x31.size a := fun v319 v450 k0_hw1453 => k0_hw1453

def k0_chk1454 (v319 : IVec S16 32) (v453 : IVec S16 32) : Prop :=
  (∀ a x, ((![v319, v453] : Fin 2 → IVec S16 32) a x).toNat < S160x31.size a)
theorem k0_idx1454_inb : ∀ (v319 : IVec S16 32) (v453 : IVec S16 32) (k0_hw1454 : k0_chk1454 v319 v453), ∀ a x, ((![v319, v453] : Fin 2 → IVec S16 32) a x).toNat < S160x31.size a := fun v319 v453 k0_hw1454 => k0_hw1454

def k0_chk1455 (v319 : IVec S16 32) (v456 : IVec S16 32) : Prop :=
  (∀ a x, ((![v319, v456] : Fin 2 → IVec S16 32) a x).toNat < S160x39.size a)
theorem k0_idx1455_inb : ∀ (v319 : IVec S16 32) (v456 : IVec S16 32) (k0_hw1455 : k0_chk1455 v319 v456), ∀ a x, ((![v319, v456] : Fin 2 → IVec S16 32) a x).toNat < S160x39.size a := fun v319 v456 k0_hw1455 => k0_hw1455

def k0_chk1456 (v319 : IVec S16 32) (v460 : IVec S16 32) : Prop :=
  (∀ a x, ((![v319, v460] : Fin 2 → IVec S16 32) a x).toNat < S160x31.size a)
theorem k0_idx1456_inb : ∀ (v319 : IVec S16 32) (v460 : IVec S16 32) (k0_hw1456 : k0_chk1456 v319 v460), ∀ a x, ((![v319, v460] : Fin 2 → IVec S16 32) a x).toNat < S160x31.size a := fun v319 v460 k0_hw1456 => k0_hw1456

def k0_chk1457 (v319 : IVec S16 32) (v463 : IVec S16 32) : Prop :=
  (∀ a x, ((![v319, v463] : Fin 2 → IVec S16 32) a x).toNat < S160x39.size a)
theorem k0_idx1457_inb : ∀ (v319 : IVec S16 32) (v463 : IVec S16 32) (k0_hw1457 : k0_chk1457 v319 v463), ∀ a x, ((![v319, v463] : Fin 2 → IVec S16 32) a x).toNat < S160x39.size a := fun v319 v463 k0_hw1457 => k0_hw1457

def k0_chk1458 (v319 : IVec S16 32) (v467 : IVec S16 32) : Prop :=
  (∀ a x, ((![v319, v467] : Fin 2 → IVec S16 32) a x).toNat < S160x31.size a)
theorem k0_idx1458_inb : ∀ (v319 : IVec S16 32) (v467 : IVec S16 32) (k0_hw1458 : k0_chk1458 v319 v467), ∀ a x, ((![v319, v467] : Fin 2 → IVec S16 32) a x).toNat < S160x31.size a := fun v319 v467 k0_hw1458 => k0_hw1458

def k0_chk1459 (v319 : IVec S16 32) (v470 : IVec S16 32) : Prop :=
  (∀ a x, ((![v319, v470] : Fin 2 → IVec S16 32) a x).toNat < S160x39.size a)
theorem k0_idx1459_inb : ∀ (v319 : IVec S16 32) (v470 : IVec S16 32) (k0_hw1459 : k0_chk1459 v319 v470), ∀ a x, ((![v319, v470] : Fin 2 → IVec S16 32) a x).toNat < S160x39.size a := fun v319 v470 k0_hw1459 => k0_hw1459

def k0_chk1460 (v319 : IVec S16 32) (v474 : IVec S16 32) : Prop :=
  (∀ a x, ((![v319, v474] : Fin 2 → IVec S16 32) a x).toNat < S160x31.size a)
theorem k0_idx1460_inb : ∀ (v319 : IVec S16 32) (v474 : IVec S16 32) (k0_hw1460 : k0_chk1460 v319 v474), ∀ a x, ((![v319, v474] : Fin 2 → IVec S16 32) a x).toNat < S160x31.size a := fun v319 v474 k0_hw1460 => k0_hw1460

def k0_chk1461 (v319 : IVec S16 32) (v477 : IVec S16 32) : Prop :=
  (∀ a x, ((![v319, v477] : Fin 2 → IVec S16 32) a x).toNat < S160x39.size a)
theorem k0_idx1461_inb : ∀ (v319 : IVec S16 32) (v477 : IVec S16 32) (k0_hw1461 : k0_chk1461 v319 v477), ∀ a x, ((![v319, v477] : Fin 2 → IVec S16 32) a x).toNat < S160x39.size a := fun v319 v477 k0_hw1461 => k0_hw1461

def k0_chk1462 (v319 : IVec S16 32) (v481 : IVec S16 32) : Prop :=
  (∀ a x, ((![v319, v481] : Fin 2 → IVec S16 32) a x).toNat < S160x31.size a)
theorem k0_idx1462_inb : ∀ (v319 : IVec S16 32) (v481 : IVec S16 32) (k0_hw1462 : k0_chk1462 v319 v481), ∀ a x, ((![v319, v481] : Fin 2 → IVec S16 32) a x).toNat < S160x31.size a := fun v319 v481 k0_hw1462 => k0_hw1462

def k0_chk1463 (v319 : IVec S16 32) (v484 : IVec S16 32) : Prop :=
  (∀ a x, ((![v319, v484] : Fin 2 → IVec S16 32) a x).toNat < S160x39.size a)
theorem k0_idx1463_inb : ∀ (v319 : IVec S16 32) (v484 : IVec S16 32) (k0_hw1463 : k0_chk1463 v319 v484), ∀ a x, ((![v319, v484] : Fin 2 → IVec S16 32) a x).toNat < S160x39.size a := fun v319 v484 k0_hw1463 => k0_hw1463

def k0_chk1464 (v319 : IVec S16 32) (v488 : IVec S16 32) : Prop :=
  (∀ a x, ((![v319, v488] : Fin 2 → IVec S16 32) a x).toNat < S160x31.size a)
theorem k0_idx1464_inb : ∀ (v319 : IVec S16 32) (v488 : IVec S16 32) (k0_hw1464 : k0_chk1464 v319 v488), ∀ a x, ((![v319, v488] : Fin 2 → IVec S16 32) a x).toNat < S160x31.size a := fun v319 v488 k0_hw1464 => k0_hw1464

def k0_chk1465 (v319 : IVec S16 32) (v491 : IVec S16 32) : Prop :=
  (∀ a x, ((![v319, v491] : Fin 2 → IVec S16 32) a x).toNat < S160x39.size a)
theorem k0_idx1465_inb : ∀ (v319 : IVec S16 32) (v491 : IVec S16 32) (k0_hw1465 : k0_chk1465 v319 v491), ∀ a x, ((![v319, v491] : Fin 2 → IVec S16 32) a x).toNat < S160x39.size a := fun v319 v491 k0_hw1465 => k0_hw1465

def k0_chk1466 (v319 : IVec S16 32) (v495 : IVec S16 32) : Prop :=
  (∀ a x, ((![v319, v495] : Fin 2 → IVec S16 32) a x).toNat < S160x31.size a)
theorem k0_idx1466_inb : ∀ (v319 : IVec S16 32) (v495 : IVec S16 32) (k0_hw1466 : k0_chk1466 v319 v495), ∀ a x, ((![v319, v495] : Fin 2 → IVec S16 32) a x).toNat < S160x31.size a := fun v319 v495 k0_hw1466 => k0_hw1466

def k0_chk1467 (v319 : IVec S16 32) (v498 : IVec S16 32) : Prop :=
  (∀ a x, ((![v319, v498] : Fin 2 → IVec S16 32) a x).toNat < S160x39.size a)
theorem k0_idx1467_inb : ∀ (v319 : IVec S16 32) (v498 : IVec S16 32) (k0_hw1467 : k0_chk1467 v319 v498), ∀ a x, ((![v319, v498] : Fin 2 → IVec S16 32) a x).toNat < S160x39.size a := fun v319 v498 k0_hw1467 => k0_hw1467

def k0_chk1468 (v319 : IVec S16 32) (v502 : IVec S16 32) : Prop :=
  (∀ a x, ((![v319, v502] : Fin 2 → IVec S16 32) a x).toNat < S160x31.size a)
theorem k0_idx1468_inb : ∀ (v319 : IVec S16 32) (v502 : IVec S16 32) (k0_hw1468 : k0_chk1468 v319 v502), ∀ a x, ((![v319, v502] : Fin 2 → IVec S16 32) a x).toNat < S160x31.size a := fun v319 v502 k0_hw1468 => k0_hw1468

def k0_chk1469 (v319 : IVec S16 32) (v505 : IVec S16 32) : Prop :=
  (∀ a x, ((![v319, v505] : Fin 2 → IVec S16 32) a x).toNat < S160x39.size a)
theorem k0_idx1469_inb : ∀ (v319 : IVec S16 32) (v505 : IVec S16 32) (k0_hw1469 : k0_chk1469 v319 v505), ∀ a x, ((![v319, v505] : Fin 2 → IVec S16 32) a x).toNat < S160x39.size a := fun v319 v505 k0_hw1469 => k0_hw1469

def k0_chk1470 (v319 : IVec S16 32) (v509 : IVec S16 32) : Prop :=
  (∀ a x, ((![v319, v509] : Fin 2 → IVec S16 32) a x).toNat < S160x31.size a)
theorem k0_idx1470_inb : ∀ (v319 : IVec S16 32) (v509 : IVec S16 32) (k0_hw1470 : k0_chk1470 v319 v509), ∀ a x, ((![v319, v509] : Fin 2 → IVec S16 32) a x).toNat < S160x31.size a := fun v319 v509 k0_hw1470 => k0_hw1470

def k0_chk1471 (v319 : IVec S16 32) (v512 : IVec S16 32) : Prop :=
  (∀ a x, ((![v319, v512] : Fin 2 → IVec S16 32) a x).toNat < S160x39.size a)
theorem k0_idx1471_inb : ∀ (v319 : IVec S16 32) (v512 : IVec S16 32) (k0_hw1471 : k0_chk1471 v319 v512), ∀ a x, ((![v319, v512] : Fin 2 → IVec S16 32) a x).toNat < S160x39.size a := fun v319 v512 k0_hw1471 => k0_hw1471

def k0_chk1472 (v319 : IVec S16 32) (v516 : IVec S16 32) : Prop :=
  (∀ a x, ((![v319, v516] : Fin 2 → IVec S16 32) a x).toNat < S160x31.size a)
theorem k0_idx1472_inb : ∀ (v319 : IVec S16 32) (v516 : IVec S16 32) (k0_hw1472 : k0_chk1472 v319 v516), ∀ a x, ((![v319, v516] : Fin 2 → IVec S16 32) a x).toNat < S160x31.size a := fun v319 v516 k0_hw1472 => k0_hw1472

def k0_chk1473 (v319 : IVec S16 32) (v519 : IVec S16 32) : Prop :=
  (∀ a x, ((![v319, v519] : Fin 2 → IVec S16 32) a x).toNat < S160x39.size a)
theorem k0_idx1473_inb : ∀ (v319 : IVec S16 32) (v519 : IVec S16 32) (k0_hw1473 : k0_chk1473 v319 v519), ∀ a x, ((![v319, v519] : Fin 2 → IVec S16 32) a x).toNat < S160x39.size a := fun v319 v519 k0_hw1473 => k0_hw1473

def k0_chk1474 (v319 : IVec S16 32) (v523 : IVec S16 32) : Prop :=
  (∀ a x, ((![v319, v523] : Fin 2 → IVec S16 32) a x).toNat < S160x31.size a)
theorem k0_idx1474_inb : ∀ (v319 : IVec S16 32) (v523 : IVec S16 32) (k0_hw1474 : k0_chk1474 v319 v523), ∀ a x, ((![v319, v523] : Fin 2 → IVec S16 32) a x).toNat < S160x31.size a := fun v319 v523 k0_hw1474 => k0_hw1474

def k0_chk1475 (v319 : IVec S16 32) (v526 : IVec S16 32) : Prop :=
  (∀ a x, ((![v319, v526] : Fin 2 → IVec S16 32) a x).toNat < S160x39.size a)
theorem k0_idx1475_inb : ∀ (v319 : IVec S16 32) (v526 : IVec S16 32) (k0_hw1475 : k0_chk1475 v319 v526), ∀ a x, ((![v319, v526] : Fin 2 → IVec S16 32) a x).toNat < S160x39.size a := fun v319 v526 k0_hw1475 => k0_hw1475

def k0_chk1476 (v319 : IVec S16 32) (v530 : IVec S16 32) : Prop :=
  (∀ a x, ((![v319, v530] : Fin 2 → IVec S16 32) a x).toNat < S160x31.size a)
theorem k0_idx1476_inb : ∀ (v319 : IVec S16 32) (v530 : IVec S16 32) (k0_hw1476 : k0_chk1476 v319 v530), ∀ a x, ((![v319, v530] : Fin 2 → IVec S16 32) a x).toNat < S160x31.size a := fun v319 v530 k0_hw1476 => k0_hw1476

def k0_chk1477 (v319 : IVec S16 32) (v533 : IVec S16 32) : Prop :=
  (∀ a x, ((![v319, v533] : Fin 2 → IVec S16 32) a x).toNat < S160x39.size a)
theorem k0_idx1477_inb : ∀ (v319 : IVec S16 32) (v533 : IVec S16 32) (k0_hw1477 : k0_chk1477 v319 v533), ∀ a x, ((![v319, v533] : Fin 2 → IVec S16 32) a x).toNat < S160x39.size a := fun v319 v533 k0_hw1477 => k0_hw1477

def k0_chk1478 (v319 : IVec S16 32) (v537 : IVec S16 32) : Prop :=
  (∀ a x, ((![v319, v537] : Fin 2 → IVec S16 32) a x).toNat < S160x31.size a)
theorem k0_idx1478_inb : ∀ (v319 : IVec S16 32) (v537 : IVec S16 32) (k0_hw1478 : k0_chk1478 v319 v537), ∀ a x, ((![v319, v537] : Fin 2 → IVec S16 32) a x).toNat < S160x31.size a := fun v319 v537 k0_hw1478 => k0_hw1478

def k0_chk1479 (v319 : IVec S16 32) (v540 : IVec S16 32) : Prop :=
  (∀ a x, ((![v319, v540] : Fin 2 → IVec S16 32) a x).toNat < S160x39.size a)
theorem k0_idx1479_inb : ∀ (v319 : IVec S16 32) (v540 : IVec S16 32) (k0_hw1479 : k0_chk1479 v319 v540), ∀ a x, ((![v319, v540] : Fin 2 → IVec S16 32) a x).toNat < S160x39.size a := fun v319 v540 k0_hw1479 => k0_hw1479

def k0_chk1480 (v319 : IVec S16 32) (v544 : IVec S16 32) : Prop :=
  (∀ a x, ((![v319, v544] : Fin 2 → IVec S16 32) a x).toNat < S160x31.size a)
theorem k0_idx1480_inb : ∀ (v319 : IVec S16 32) (v544 : IVec S16 32) (k0_hw1480 : k0_chk1480 v319 v544), ∀ a x, ((![v319, v544] : Fin 2 → IVec S16 32) a x).toNat < S160x31.size a := fun v319 v544 k0_hw1480 => k0_hw1480

def k0_chk1481 (v319 : IVec S16 32) (v547 : IVec S16 32) : Prop :=
  (∀ a x, ((![v319, v547] : Fin 2 → IVec S16 32) a x).toNat < S160x39.size a)
theorem k0_idx1481_inb : ∀ (v319 : IVec S16 32) (v547 : IVec S16 32) (k0_hw1481 : k0_chk1481 v319 v547), ∀ a x, ((![v319, v547] : Fin 2 → IVec S16 32) a x).toNat < S160x39.size a := fun v319 v547 k0_hw1481 => k0_hw1481

def k0_chk1482 (v319 : IVec S16 32) (v551 : IVec S16 32) : Prop :=
  (∀ a x, ((![v319, v551] : Fin 2 → IVec S16 32) a x).toNat < S160x31.size a)
theorem k0_idx1482_inb : ∀ (v319 : IVec S16 32) (v551 : IVec S16 32) (k0_hw1482 : k0_chk1482 v319 v551), ∀ a x, ((![v319, v551] : Fin 2 → IVec S16 32) a x).toNat < S160x31.size a := fun v319 v551 k0_hw1482 => k0_hw1482

def k0_chk1483 (v319 : IVec S16 32) (v554 : IVec S16 32) : Prop :=
  (∀ a x, ((![v319, v554] : Fin 2 → IVec S16 32) a x).toNat < S160x39.size a)
theorem k0_idx1483_inb : ∀ (v319 : IVec S16 32) (v554 : IVec S16 32) (k0_hw1483 : k0_chk1483 v319 v554), ∀ a x, ((![v319, v554] : Fin 2 → IVec S16 32) a x).toNat < S160x39.size a := fun v319 v554 k0_hw1483 => k0_hw1483

def k0_chk1484 (v319 : IVec S16 32) (v558 : IVec S16 32) : Prop :=
  (∀ a x, ((![v319, v558] : Fin 2 → IVec S16 32) a x).toNat < S160x31.size a)
theorem k0_idx1484_inb : ∀ (v319 : IVec S16 32) (v558 : IVec S16 32) (k0_hw1484 : k0_chk1484 v319 v558), ∀ a x, ((![v319, v558] : Fin 2 → IVec S16 32) a x).toNat < S160x31.size a := fun v319 v558 k0_hw1484 => k0_hw1484

def k0_chk1485 (v319 : IVec S16 32) (v561 : IVec S16 32) : Prop :=
  (∀ a x, ((![v319, v561] : Fin 2 → IVec S16 32) a x).toNat < S160x39.size a)
theorem k0_idx1485_inb : ∀ (v319 : IVec S16 32) (v561 : IVec S16 32) (k0_hw1485 : k0_chk1485 v319 v561), ∀ a x, ((![v319, v561] : Fin 2 → IVec S16 32) a x).toNat < S160x39.size a := fun v319 v561 k0_hw1485 => k0_hw1485

def k0_chk1486 (v319 : IVec S16 32) (v565 : IVec S16 32) : Prop :=
  (∀ a x, ((![v319, v565] : Fin 2 → IVec S16 32) a x).toNat < S160x31.size a)
theorem k0_idx1486_inb : ∀ (v319 : IVec S16 32) (v565 : IVec S16 32) (k0_hw1486 : k0_chk1486 v319 v565), ∀ a x, ((![v319, v565] : Fin 2 → IVec S16 32) a x).toNat < S160x31.size a := fun v319 v565 k0_hw1486 => k0_hw1486

def k0_chk1487 (v319 : IVec S16 32) (v568 : IVec S16 32) : Prop :=
  (∀ a x, ((![v319, v568] : Fin 2 → IVec S16 32) a x).toNat < S160x39.size a)
theorem k0_idx1487_inb : ∀ (v319 : IVec S16 32) (v568 : IVec S16 32) (k0_hw1487 : k0_chk1487 v319 v568), ∀ a x, ((![v319, v568] : Fin 2 → IVec S16 32) a x).toNat < S160x39.size a := fun v319 v568 k0_hw1487 => k0_hw1487

def k0_chk1488 (v319 : IVec S16 32) (v572 : IVec S16 32) : Prop :=
  (∀ a x, ((![v319, v572] : Fin 2 → IVec S16 32) a x).toNat < S160x31.size a)
theorem k0_idx1488_inb : ∀ (v319 : IVec S16 32) (v572 : IVec S16 32) (k0_hw1488 : k0_chk1488 v319 v572), ∀ a x, ((![v319, v572] : Fin 2 → IVec S16 32) a x).toNat < S160x31.size a := fun v319 v572 k0_hw1488 => k0_hw1488

def k0_chk1489 (v319 : IVec S16 32) (v575 : IVec S16 32) : Prop :=
  (∀ a x, ((![v319, v575] : Fin 2 → IVec S16 32) a x).toNat < S160x39.size a)
theorem k0_idx1489_inb : ∀ (v319 : IVec S16 32) (v575 : IVec S16 32) (k0_hw1489 : k0_chk1489 v319 v575), ∀ a x, ((![v319, v575] : Fin 2 → IVec S16 32) a x).toNat < S160x39.size a := fun v319 v575 k0_hw1489 => k0_hw1489

def k0_chk1490 (v319 : IVec S16 32) (v579 : IVec S16 32) : Prop :=
  (∀ a x, ((![v319, v579] : Fin 2 → IVec S16 32) a x).toNat < S160x31.size a)
theorem k0_idx1490_inb : ∀ (v319 : IVec S16 32) (v579 : IVec S16 32) (k0_hw1490 : k0_chk1490 v319 v579), ∀ a x, ((![v319, v579] : Fin 2 → IVec S16 32) a x).toNat < S160x31.size a := fun v319 v579 k0_hw1490 => k0_hw1490

def k0_chk1491 (v319 : IVec S16 32) (v582 : IVec S16 32) : Prop :=
  (∀ a x, ((![v319, v582] : Fin 2 → IVec S16 32) a x).toNat < S160x39.size a)
theorem k0_idx1491_inb : ∀ (v319 : IVec S16 32) (v582 : IVec S16 32) (k0_hw1491 : k0_chk1491 v319 v582), ∀ a x, ((![v319, v582] : Fin 2 → IVec S16 32) a x).toNat < S160x39.size a := fun v319 v582 k0_hw1491 => k0_hw1491

def k0_chk1492 (v319 : IVec S16 32) (v586 : IVec S16 32) : Prop :=
  (∀ a x, ((![v319, v586] : Fin 2 → IVec S16 32) a x).toNat < S160x31.size a)
theorem k0_idx1492_inb : ∀ (v319 : IVec S16 32) (v586 : IVec S16 32) (k0_hw1492 : k0_chk1492 v319 v586), ∀ a x, ((![v319, v586] : Fin 2 → IVec S16 32) a x).toNat < S160x31.size a := fun v319 v586 k0_hw1492 => k0_hw1492

def k0_chk1493 (v319 : IVec S16 32) (v589 : IVec S16 32) : Prop :=
  (∀ a x, ((![v319, v589] : Fin 2 → IVec S16 32) a x).toNat < S160x39.size a)
theorem k0_idx1493_inb : ∀ (v319 : IVec S16 32) (v589 : IVec S16 32) (k0_hw1493 : k0_chk1493 v319 v589), ∀ a x, ((![v319, v589] : Fin 2 → IVec S16 32) a x).toNat < S160x39.size a := fun v319 v589 k0_hw1493 => k0_hw1493

def k0_chk1494 (v319 : IVec S16 32) (v593 : IVec S16 32) : Prop :=
  (∀ a x, ((![v319, v593] : Fin 2 → IVec S16 32) a x).toNat < S160x31.size a)
theorem k0_idx1494_inb : ∀ (v319 : IVec S16 32) (v593 : IVec S16 32) (k0_hw1494 : k0_chk1494 v319 v593), ∀ a x, ((![v319, v593] : Fin 2 → IVec S16 32) a x).toNat < S160x31.size a := fun v319 v593 k0_hw1494 => k0_hw1494

def k0_chk1495 (v319 : IVec S16 32) (v596 : IVec S16 32) : Prop :=
  (∀ a x, ((![v319, v596] : Fin 2 → IVec S16 32) a x).toNat < S160x39.size a)
theorem k0_idx1495_inb : ∀ (v319 : IVec S16 32) (v596 : IVec S16 32) (k0_hw1495 : k0_chk1495 v319 v596), ∀ a x, ((![v319, v596] : Fin 2 → IVec S16 32) a x).toNat < S160x39.size a := fun v319 v596 k0_hw1495 => k0_hw1495

def k0_chk1496 (v319 : IVec S16 32) (v600 : IVec S16 32) : Prop :=
  (∀ a x, ((![v319, v600] : Fin 2 → IVec S16 32) a x).toNat < S160x31.size a)
theorem k0_idx1496_inb : ∀ (v319 : IVec S16 32) (v600 : IVec S16 32) (k0_hw1496 : k0_chk1496 v319 v600), ∀ a x, ((![v319, v600] : Fin 2 → IVec S16 32) a x).toNat < S160x31.size a := fun v319 v600 k0_hw1496 => k0_hw1496

def k0_chk1497 (v604 : IVec S16 32) (v605 : IVec S16 32) : Prop :=
  (∀ a x, ((![v604, v605] : Fin 2 → IVec S16 32) a x).toNat < S160x39.size a)
theorem k0_idx1497_inb : ∀ (v604 : IVec S16 32) (v605 : IVec S16 32) (k0_hw1497 : k0_chk1497 v604 v605), ∀ a x, ((![v604, v605] : Fin 2 → IVec S16 32) a x).toNat < S160x39.size a := fun v604 v605 k0_hw1497 => k0_hw1497

def k0_chk1498 (v604 : IVec S16 32) (v609 : IVec S16 32) : Prop :=
  (∀ a x, ((![v604, v609] : Fin 2 → IVec S16 32) a x).toNat < S160x39.size a)
theorem k0_idx1498_inb : ∀ (v604 : IVec S16 32) (v609 : IVec S16 32) (k0_hw1498 : k0_chk1498 v604 v609), ∀ a x, ((![v604, v609] : Fin 2 → IVec S16 32) a x).toNat < S160x39.size a := fun v604 v609 k0_hw1498 => k0_hw1498

def k0_chk1499 (v604 : IVec S16 32) (v613 : IVec S16 32) : Prop :=
  (∀ a x, ((![v604, v613] : Fin 2 → IVec S16 32) a x).toNat < S160x39.size a)
theorem k0_idx1499_inb : ∀ (v604 : IVec S16 32) (v613 : IVec S16 32) (k0_hw1499 : k0_chk1499 v604 v613), ∀ a x, ((![v604, v613] : Fin 2 → IVec S16 32) a x).toNat < S160x39.size a := fun v604 v613 k0_hw1499 => k0_hw1499

def k0_chk1500 (v604 : IVec S16 32) (v617 : IVec S16 32) : Prop :=
  (∀ a x, ((![v604, v617] : Fin 2 → IVec S16 32) a x).toNat < S160x39.size a)
theorem k0_idx1500_inb : ∀ (v604 : IVec S16 32) (v617 : IVec S16 32) (k0_hw1500 : k0_chk1500 v604 v617), ∀ a x, ((![v604, v617] : Fin 2 → IVec S16 32) a x).toNat < S160x39.size a := fun v604 v617 k0_hw1500 => k0_hw1500

def k0_chk1501 (v604 : IVec S16 32) (v622 : IVec S16 32) : Prop :=
  (∀ a x, ((![v604, v622] : Fin 2 → IVec S16 32) a x).toNat < S160x39.size a)
theorem k0_idx1501_inb : ∀ (v604 : IVec S16 32) (v622 : IVec S16 32) (k0_hw1501 : k0_chk1501 v604 v622), ∀ a x, ((![v604, v622] : Fin 2 → IVec S16 32) a x).toNat < S160x39.size a := fun v604 v622 k0_hw1501 => k0_hw1501

def k0_chk1502 (v604 : IVec S16 32) (v626 : IVec S16 32) : Prop :=
  (∀ a x, ((![v604, v626] : Fin 2 → IVec S16 32) a x).toNat < S160x39.size a)
theorem k0_idx1502_inb : ∀ (v604 : IVec S16 32) (v626 : IVec S16 32) (k0_hw1502 : k0_chk1502 v604 v626), ∀ a x, ((![v604, v626] : Fin 2 → IVec S16 32) a x).toNat < S160x39.size a := fun v604 v626 k0_hw1502 => k0_hw1502

def k0_chk1503 (v604 : IVec S16 32) (v631 : IVec S16 32) : Prop :=
  (∀ a x, ((![v604, v631] : Fin 2 → IVec S16 32) a x).toNat < S160x39.size a)
theorem k0_idx1503_inb : ∀ (v604 : IVec S16 32) (v631 : IVec S16 32) (k0_hw1503 : k0_chk1503 v604 v631), ∀ a x, ((![v604, v631] : Fin 2 → IVec S16 32) a x).toNat < S160x39.size a := fun v604 v631 k0_hw1503 => k0_hw1503

def k0_chk1504 (v604 : IVec S16 32) (v639 : IVec S16 32) : Prop :=
  (∀ a x, ((![v604, v639] : Fin 2 → IVec S16 32) a x).toNat < S160x39.size a)
theorem k0_idx1504_inb : ∀ (v604 : IVec S16 32) (v639 : IVec S16 32) (k0_hw1504 : k0_chk1504 v604 v639), ∀ a x, ((![v604, v639] : Fin 2 → IVec S16 32) a x).toNat < S160x39.size a := fun v604 v639 k0_hw1504 => k0_hw1504

def k0_chk1505 (v604 : IVec S16 32) (v647 : IVec S16 32) : Prop :=
  (∀ a x, ((![v604, v647] : Fin 2 → IVec S16 32) a x).toNat < S160x31.size a)
theorem k0_idx1505_inb : ∀ (v604 : IVec S16 32) (v647 : IVec S16 32) (k0_hw1505 : k0_chk1505 v604 v647), ∀ a x, ((![v604, v647] : Fin 2 → IVec S16 32) a x).toNat < S160x31.size a := fun v604 v647 k0_hw1505 => k0_hw1505

def k0_chk1506 (v604 : IVec S16 32) (v650 : IVec S16 32) : Prop :=
  (∀ a x, ((![v604, v650] : Fin 2 → IVec S16 32) a x).toNat < S160x31.size a)
theorem k0_idx1506_inb : ∀ (v604 : IVec S16 32) (v650 : IVec S16 32) (k0_hw1506 : k0_chk1506 v604 v650), ∀ a x, ((![v604, v650] : Fin 2 → IVec S16 32) a x).toNat < S160x31.size a := fun v604 v650 k0_hw1506 => k0_hw1506

def k0_chk1507 (v604 : IVec S16 32) (v653 : IVec S16 32) : Prop :=
  (∀ a x, ((![v604, v653] : Fin 2 → IVec S16 32) a x).toNat < S160x39.size a)
theorem k0_idx1507_inb : ∀ (v604 : IVec S16 32) (v653 : IVec S16 32) (k0_hw1507 : k0_chk1507 v604 v653), ∀ a x, ((![v604, v653] : Fin 2 → IVec S16 32) a x).toNat < S160x39.size a := fun v604 v653 k0_hw1507 => k0_hw1507

def k0_chk1508 (v604 : IVec S16 32) (v661 : IVec S16 32) : Prop :=
  (∀ a x, ((![v604, v661] : Fin 2 → IVec S16 32) a x).toNat < S160x39.size a)
theorem k0_idx1508_inb : ∀ (v604 : IVec S16 32) (v661 : IVec S16 32) (k0_hw1508 : k0_chk1508 v604 v661), ∀ a x, ((![v604, v661] : Fin 2 → IVec S16 32) a x).toNat < S160x39.size a := fun v604 v661 k0_hw1508 => k0_hw1508

def k0_chk1509 (v604 : IVec S16 32) (v669 : IVec S16 32) : Prop :=
  (∀ a x, ((![v604, v669] : Fin 2 → IVec S16 32) a x).toNat < S160x31.size a)
theorem k0_idx1509_inb : ∀ (v604 : IVec S16 32) (v669 : IVec S16 32) (k0_hw1509 : k0_chk1509 v604 v669), ∀ a x, ((![v604, v669] : Fin 2 → IVec S16 32) a x).toNat < S160x31.size a := fun v604 v669 k0_hw1509 => k0_hw1509

def k0_chk1510 (v604 : IVec S16 32) (v672 : IVec S16 32) : Prop :=
  (∀ a x, ((![v604, v672] : Fin 2 → IVec S16 32) a x).toNat < S160x31.size a)
theorem k0_idx1510_inb : ∀ (v604 : IVec S16 32) (v672 : IVec S16 32) (k0_hw1510 : k0_chk1510 v604 v672), ∀ a x, ((![v604, v672] : Fin 2 → IVec S16 32) a x).toNat < S160x31.size a := fun v604 v672 k0_hw1510 => k0_hw1510

def k0_chk1511 (v604 : IVec S16 32) (v675 : IVec S16 32) : Prop :=
  (∀ a x, ((![v604, v675] : Fin 2 → IVec S16 32) a x).toNat < S160x39.size a)
theorem k0_idx1511_inb : ∀ (v604 : IVec S16 32) (v675 : IVec S16 32) (k0_hw1511 : k0_chk1511 v604 v675), ∀ a x, ((![v604, v675] : Fin 2 → IVec S16 32) a x).toNat < S160x39.size a := fun v604 v675 k0_hw1511 => k0_hw1511

def k0_chk1512 (v604 : IVec S16 32) (v683 : IVec S16 32) : Prop :=
  (∀ a x, ((![v604, v683] : Fin 2 → IVec S16 32) a x).toNat < S160x39.size a)
theorem k0_idx1512_inb : ∀ (v604 : IVec S16 32) (v683 : IVec S16 32) (k0_hw1512 : k0_chk1512 v604 v683), ∀ a x, ((![v604, v683] : Fin 2 → IVec S16 32) a x).toNat < S160x39.size a := fun v604 v683 k0_hw1512 => k0_hw1512

def k0_chk1513 (v604 : IVec S16 32) (v691 : IVec S16 32) : Prop :=
  (∀ a x, ((![v604, v691] : Fin 2 → IVec S16 32) a x).toNat < S160x31.size a)
theorem k0_idx1513_inb : ∀ (v604 : IVec S16 32) (v691 : IVec S16 32) (k0_hw1513 : k0_chk1513 v604 v691), ∀ a x, ((![v604, v691] : Fin 2 → IVec S16 32) a x).toNat < S160x31.size a := fun v604 v691 k0_hw1513 => k0_hw1513

def k0_chk1514 (v604 : IVec S16 32) (v694 : IVec S16 32) : Prop :=
  (∀ a x, ((![v604, v694] : Fin 2 → IVec S16 32) a x).toNat < S160x31.size a)
theorem k0_idx1514_inb : ∀ (v604 : IVec S16 32) (v694 : IVec S16 32) (k0_hw1514 : k0_chk1514 v604 v694), ∀ a x, ((![v604, v694] : Fin 2 → IVec S16 32) a x).toNat < S160x31.size a := fun v604 v694 k0_hw1514 => k0_hw1514

def k0_chk1515 (v604 : IVec S16 32) (v697 : IVec S16 32) : Prop :=
  (∀ a x, ((![v604, v697] : Fin 2 → IVec S16 32) a x).toNat < S160x39.size a)
theorem k0_idx1515_inb : ∀ (v604 : IVec S16 32) (v697 : IVec S16 32) (k0_hw1515 : k0_chk1515 v604 v697), ∀ a x, ((![v604, v697] : Fin 2 → IVec S16 32) a x).toNat < S160x39.size a := fun v604 v697 k0_hw1515 => k0_hw1515

def k0_chk1516 (v604 : IVec S16 32) (v705 : IVec S16 32) : Prop :=
  (∀ a x, ((![v604, v705] : Fin 2 → IVec S16 32) a x).toNat < S160x39.size a)
theorem k0_idx1516_inb : ∀ (v604 : IVec S16 32) (v705 : IVec S16 32) (k0_hw1516 : k0_chk1516 v604 v705), ∀ a x, ((![v604, v705] : Fin 2 → IVec S16 32) a x).toNat < S160x39.size a := fun v604 v705 k0_hw1516 => k0_hw1516

def k0_chk1517 (v604 : IVec S16 32) (v713 : IVec S16 32) : Prop :=
  (∀ a x, ((![v604, v713] : Fin 2 → IVec S16 32) a x).toNat < S160x31.size a)
theorem k0_idx1517_inb : ∀ (v604 : IVec S16 32) (v713 : IVec S16 32) (k0_hw1517 : k0_chk1517 v604 v713), ∀ a x, ((![v604, v713] : Fin 2 → IVec S16 32) a x).toNat < S160x31.size a := fun v604 v713 k0_hw1517 => k0_hw1517

def k0_chk1518 (v604 : IVec S16 32) (v716 : IVec S16 32) : Prop :=
  (∀ a x, ((![v604, v716] : Fin 2 → IVec S16 32) a x).toNat < S160x31.size a)
theorem k0_idx1518_inb : ∀ (v604 : IVec S16 32) (v716 : IVec S16 32) (k0_hw1518 : k0_chk1518 v604 v716), ∀ a x, ((![v604, v716] : Fin 2 → IVec S16 32) a x).toNat < S160x31.size a := fun v604 v716 k0_hw1518 => k0_hw1518

def k0_chk1519 (v604 : IVec S16 32) (v719 : IVec S16 32) : Prop :=
  (∀ a x, ((![v604, v719] : Fin 2 → IVec S16 32) a x).toNat < S160x39.size a)
theorem k0_idx1519_inb : ∀ (v604 : IVec S16 32) (v719 : IVec S16 32) (k0_hw1519 : k0_chk1519 v604 v719), ∀ a x, ((![v604, v719] : Fin 2 → IVec S16 32) a x).toNat < S160x39.size a := fun v604 v719 k0_hw1519 => k0_hw1519

def k0_chk1520 (v604 : IVec S16 32) (v727 : IVec S16 32) : Prop :=
  (∀ a x, ((![v604, v727] : Fin 2 → IVec S16 32) a x).toNat < S160x39.size a)
theorem k0_idx1520_inb : ∀ (v604 : IVec S16 32) (v727 : IVec S16 32) (k0_hw1520 : k0_chk1520 v604 v727), ∀ a x, ((![v604, v727] : Fin 2 → IVec S16 32) a x).toNat < S160x39.size a := fun v604 v727 k0_hw1520 => k0_hw1520

def k0_chk1521 (v604 : IVec S16 32) (v735 : IVec S16 32) : Prop :=
  (∀ a x, ((![v604, v735] : Fin 2 → IVec S16 32) a x).toNat < S160x31.size a)
theorem k0_idx1521_inb : ∀ (v604 : IVec S16 32) (v735 : IVec S16 32) (k0_hw1521 : k0_chk1521 v604 v735), ∀ a x, ((![v604, v735] : Fin 2 → IVec S16 32) a x).toNat < S160x31.size a := fun v604 v735 k0_hw1521 => k0_hw1521

def k0_chk1522 (v604 : IVec S16 32) (v738 : IVec S16 32) : Prop :=
  (∀ a x, ((![v604, v738] : Fin 2 → IVec S16 32) a x).toNat < S160x31.size a)
theorem k0_idx1522_inb : ∀ (v604 : IVec S16 32) (v738 : IVec S16 32) (k0_hw1522 : k0_chk1522 v604 v738), ∀ a x, ((![v604, v738] : Fin 2 → IVec S16 32) a x).toNat < S160x31.size a := fun v604 v738 k0_hw1522 => k0_hw1522

def k0_chk1523 (v604 : IVec S16 32) (v741 : IVec S16 32) : Prop :=
  (∀ a x, ((![v604, v741] : Fin 2 → IVec S16 32) a x).toNat < S160x39.size a)
theorem k0_idx1523_inb : ∀ (v604 : IVec S16 32) (v741 : IVec S16 32) (k0_hw1523 : k0_chk1523 v604 v741), ∀ a x, ((![v604, v741] : Fin 2 → IVec S16 32) a x).toNat < S160x39.size a := fun v604 v741 k0_hw1523 => k0_hw1523

def k0_chk1524 (v604 : IVec S16 32) (v745 : IVec S16 32) : Prop :=
  (∀ a x, ((![v604, v745] : Fin 2 → IVec S16 32) a x).toNat < S160x31.size a)
theorem k0_idx1524_inb : ∀ (v604 : IVec S16 32) (v745 : IVec S16 32) (k0_hw1524 : k0_chk1524 v604 v745), ∀ a x, ((![v604, v745] : Fin 2 → IVec S16 32) a x).toNat < S160x31.size a := fun v604 v745 k0_hw1524 => k0_hw1524

def k0_chk1525 (v604 : IVec S16 32) (v748 : IVec S16 32) : Prop :=
  (∀ a x, ((![v604, v748] : Fin 2 → IVec S16 32) a x).toNat < S160x39.size a)
theorem k0_idx1525_inb : ∀ (v604 : IVec S16 32) (v748 : IVec S16 32) (k0_hw1525 : k0_chk1525 v604 v748), ∀ a x, ((![v604, v748] : Fin 2 → IVec S16 32) a x).toNat < S160x39.size a := fun v604 v748 k0_hw1525 => k0_hw1525

def k0_chk1526 (v604 : IVec S16 32) (v752 : IVec S16 32) : Prop :=
  (∀ a x, ((![v604, v752] : Fin 2 → IVec S16 32) a x).toNat < S160x31.size a)
theorem k0_idx1526_inb : ∀ (v604 : IVec S16 32) (v752 : IVec S16 32) (k0_hw1526 : k0_chk1526 v604 v752), ∀ a x, ((![v604, v752] : Fin 2 → IVec S16 32) a x).toNat < S160x31.size a := fun v604 v752 k0_hw1526 => k0_hw1526

def k0_chk1527 (v604 : IVec S16 32) (v755 : IVec S16 32) : Prop :=
  (∀ a x, ((![v604, v755] : Fin 2 → IVec S16 32) a x).toNat < S160x39.size a)
theorem k0_idx1527_inb : ∀ (v604 : IVec S16 32) (v755 : IVec S16 32) (k0_hw1527 : k0_chk1527 v604 v755), ∀ a x, ((![v604, v755] : Fin 2 → IVec S16 32) a x).toNat < S160x39.size a := fun v604 v755 k0_hw1527 => k0_hw1527

def k0_chk1528 (v604 : IVec S16 32) (v759 : IVec S16 32) : Prop :=
  (∀ a x, ((![v604, v759] : Fin 2 → IVec S16 32) a x).toNat < S160x31.size a)
theorem k0_idx1528_inb : ∀ (v604 : IVec S16 32) (v759 : IVec S16 32) (k0_hw1528 : k0_chk1528 v604 v759), ∀ a x, ((![v604, v759] : Fin 2 → IVec S16 32) a x).toNat < S160x31.size a := fun v604 v759 k0_hw1528 => k0_hw1528

def k0_chk1529 (v604 : IVec S16 32) (v762 : IVec S16 32) : Prop :=
  (∀ a x, ((![v604, v762] : Fin 2 → IVec S16 32) a x).toNat < S160x39.size a)
theorem k0_idx1529_inb : ∀ (v604 : IVec S16 32) (v762 : IVec S16 32) (k0_hw1529 : k0_chk1529 v604 v762), ∀ a x, ((![v604, v762] : Fin 2 → IVec S16 32) a x).toNat < S160x39.size a := fun v604 v762 k0_hw1529 => k0_hw1529

def k0_chk1530 (v604 : IVec S16 32) (v766 : IVec S16 32) : Prop :=
  (∀ a x, ((![v604, v766] : Fin 2 → IVec S16 32) a x).toNat < S160x31.size a)
theorem k0_idx1530_inb : ∀ (v604 : IVec S16 32) (v766 : IVec S16 32) (k0_hw1530 : k0_chk1530 v604 v766), ∀ a x, ((![v604, v766] : Fin 2 → IVec S16 32) a x).toNat < S160x31.size a := fun v604 v766 k0_hw1530 => k0_hw1530

def k0_chk1531 (v604 : IVec S16 32) (v769 : IVec S16 32) : Prop :=
  (∀ a x, ((![v604, v769] : Fin 2 → IVec S16 32) a x).toNat < S160x39.size a)
theorem k0_idx1531_inb : ∀ (v604 : IVec S16 32) (v769 : IVec S16 32) (k0_hw1531 : k0_chk1531 v604 v769), ∀ a x, ((![v604, v769] : Fin 2 → IVec S16 32) a x).toNat < S160x39.size a := fun v604 v769 k0_hw1531 => k0_hw1531

def k0_chk1532 (v604 : IVec S16 32) (v773 : IVec S16 32) : Prop :=
  (∀ a x, ((![v604, v773] : Fin 2 → IVec S16 32) a x).toNat < S160x31.size a)
theorem k0_idx1532_inb : ∀ (v604 : IVec S16 32) (v773 : IVec S16 32) (k0_hw1532 : k0_chk1532 v604 v773), ∀ a x, ((![v604, v773] : Fin 2 → IVec S16 32) a x).toNat < S160x31.size a := fun v604 v773 k0_hw1532 => k0_hw1532

def k0_chk1533 (v604 : IVec S16 32) (v776 : IVec S16 32) : Prop :=
  (∀ a x, ((![v604, v776] : Fin 2 → IVec S16 32) a x).toNat < S160x39.size a)
theorem k0_idx1533_inb : ∀ (v604 : IVec S16 32) (v776 : IVec S16 32) (k0_hw1533 : k0_chk1533 v604 v776), ∀ a x, ((![v604, v776] : Fin 2 → IVec S16 32) a x).toNat < S160x39.size a := fun v604 v776 k0_hw1533 => k0_hw1533

def k0_chk1534 (v604 : IVec S16 32) (v780 : IVec S16 32) : Prop :=
  (∀ a x, ((![v604, v780] : Fin 2 → IVec S16 32) a x).toNat < S160x31.size a)
theorem k0_idx1534_inb : ∀ (v604 : IVec S16 32) (v780 : IVec S16 32) (k0_hw1534 : k0_chk1534 v604 v780), ∀ a x, ((![v604, v780] : Fin 2 → IVec S16 32) a x).toNat < S160x31.size a := fun v604 v780 k0_hw1534 => k0_hw1534

def k0_chk1535 (v604 : IVec S16 32) (v783 : IVec S16 32) : Prop :=
  (∀ a x, ((![v604, v783] : Fin 2 → IVec S16 32) a x).toNat < S160x39.size a)
theorem k0_idx1535_inb : ∀ (v604 : IVec S16 32) (v783 : IVec S16 32) (k0_hw1535 : k0_chk1535 v604 v783), ∀ a x, ((![v604, v783] : Fin 2 → IVec S16 32) a x).toNat < S160x39.size a := fun v604 v783 k0_hw1535 => k0_hw1535

def k0_chk1536 (v604 : IVec S16 32) (v787 : IVec S16 32) : Prop :=
  (∀ a x, ((![v604, v787] : Fin 2 → IVec S16 32) a x).toNat < S160x31.size a)
theorem k0_idx1536_inb : ∀ (v604 : IVec S16 32) (v787 : IVec S16 32) (k0_hw1536 : k0_chk1536 v604 v787), ∀ a x, ((![v604, v787] : Fin 2 → IVec S16 32) a x).toNat < S160x31.size a := fun v604 v787 k0_hw1536 => k0_hw1536

def k0_chk1537 (v604 : IVec S16 32) (v790 : IVec S16 32) : Prop :=
  (∀ a x, ((![v604, v790] : Fin 2 → IVec S16 32) a x).toNat < S160x39.size a)
theorem k0_idx1537_inb : ∀ (v604 : IVec S16 32) (v790 : IVec S16 32) (k0_hw1537 : k0_chk1537 v604 v790), ∀ a x, ((![v604, v790] : Fin 2 → IVec S16 32) a x).toNat < S160x39.size a := fun v604 v790 k0_hw1537 => k0_hw1537

def k0_chk1538 (v604 : IVec S16 32) (v794 : IVec S16 32) : Prop :=
  (∀ a x, ((![v604, v794] : Fin 2 → IVec S16 32) a x).toNat < S160x31.size a)
theorem k0_idx1538_inb : ∀ (v604 : IVec S16 32) (v794 : IVec S16 32) (k0_hw1538 : k0_chk1538 v604 v794), ∀ a x, ((![v604, v794] : Fin 2 → IVec S16 32) a x).toNat < S160x31.size a := fun v604 v794 k0_hw1538 => k0_hw1538

def k0_chk1539 (v604 : IVec S16 32) (v797 : IVec S16 32) : Prop :=
  (∀ a x, ((![v604, v797] : Fin 2 → IVec S16 32) a x).toNat < S160x39.size a)
theorem k0_idx1539_inb : ∀ (v604 : IVec S16 32) (v797 : IVec S16 32) (k0_hw1539 : k0_chk1539 v604 v797), ∀ a x, ((![v604, v797] : Fin 2 → IVec S16 32) a x).toNat < S160x39.size a := fun v604 v797 k0_hw1539 => k0_hw1539

def k0_chk1540 (v604 : IVec S16 32) (v801 : IVec S16 32) : Prop :=
  (∀ a x, ((![v604, v801] : Fin 2 → IVec S16 32) a x).toNat < S160x31.size a)
theorem k0_idx1540_inb : ∀ (v604 : IVec S16 32) (v801 : IVec S16 32) (k0_hw1540 : k0_chk1540 v604 v801), ∀ a x, ((![v604, v801] : Fin 2 → IVec S16 32) a x).toNat < S160x31.size a := fun v604 v801 k0_hw1540 => k0_hw1540

def k0_chk1541 (v604 : IVec S16 32) (v804 : IVec S16 32) : Prop :=
  (∀ a x, ((![v604, v804] : Fin 2 → IVec S16 32) a x).toNat < S160x39.size a)
theorem k0_idx1541_inb : ∀ (v604 : IVec S16 32) (v804 : IVec S16 32) (k0_hw1541 : k0_chk1541 v604 v804), ∀ a x, ((![v604, v804] : Fin 2 → IVec S16 32) a x).toNat < S160x39.size a := fun v604 v804 k0_hw1541 => k0_hw1541

def k0_chk1542 (v604 : IVec S16 32) (v808 : IVec S16 32) : Prop :=
  (∀ a x, ((![v604, v808] : Fin 2 → IVec S16 32) a x).toNat < S160x31.size a)
theorem k0_idx1542_inb : ∀ (v604 : IVec S16 32) (v808 : IVec S16 32) (k0_hw1542 : k0_chk1542 v604 v808), ∀ a x, ((![v604, v808] : Fin 2 → IVec S16 32) a x).toNat < S160x31.size a := fun v604 v808 k0_hw1542 => k0_hw1542

def k0_chk1543 (v604 : IVec S16 32) (v811 : IVec S16 32) : Prop :=
  (∀ a x, ((![v604, v811] : Fin 2 → IVec S16 32) a x).toNat < S160x39.size a)
theorem k0_idx1543_inb : ∀ (v604 : IVec S16 32) (v811 : IVec S16 32) (k0_hw1543 : k0_chk1543 v604 v811), ∀ a x, ((![v604, v811] : Fin 2 → IVec S16 32) a x).toNat < S160x39.size a := fun v604 v811 k0_hw1543 => k0_hw1543

def k0_chk1544 (v604 : IVec S16 32) (v815 : IVec S16 32) : Prop :=
  (∀ a x, ((![v604, v815] : Fin 2 → IVec S16 32) a x).toNat < S160x31.size a)
theorem k0_idx1544_inb : ∀ (v604 : IVec S16 32) (v815 : IVec S16 32) (k0_hw1544 : k0_chk1544 v604 v815), ∀ a x, ((![v604, v815] : Fin 2 → IVec S16 32) a x).toNat < S160x31.size a := fun v604 v815 k0_hw1544 => k0_hw1544

def k0_chk1545 (v604 : IVec S16 32) (v818 : IVec S16 32) : Prop :=
  (∀ a x, ((![v604, v818] : Fin 2 → IVec S16 32) a x).toNat < S160x39.size a)
theorem k0_idx1545_inb : ∀ (v604 : IVec S16 32) (v818 : IVec S16 32) (k0_hw1545 : k0_chk1545 v604 v818), ∀ a x, ((![v604, v818] : Fin 2 → IVec S16 32) a x).toNat < S160x39.size a := fun v604 v818 k0_hw1545 => k0_hw1545

def k0_chk1546 (v604 : IVec S16 32) (v822 : IVec S16 32) : Prop :=
  (∀ a x, ((![v604, v822] : Fin 2 → IVec S16 32) a x).toNat < S160x31.size a)
theorem k0_idx1546_inb : ∀ (v604 : IVec S16 32) (v822 : IVec S16 32) (k0_hw1546 : k0_chk1546 v604 v822), ∀ a x, ((![v604, v822] : Fin 2 → IVec S16 32) a x).toNat < S160x31.size a := fun v604 v822 k0_hw1546 => k0_hw1546

def k0_chk1547 (v604 : IVec S16 32) (v825 : IVec S16 32) : Prop :=
  (∀ a x, ((![v604, v825] : Fin 2 → IVec S16 32) a x).toNat < S160x39.size a)
theorem k0_idx1547_inb : ∀ (v604 : IVec S16 32) (v825 : IVec S16 32) (k0_hw1547 : k0_chk1547 v604 v825), ∀ a x, ((![v604, v825] : Fin 2 → IVec S16 32) a x).toNat < S160x39.size a := fun v604 v825 k0_hw1547 => k0_hw1547

def k0_chk1548 (v604 : IVec S16 32) (v829 : IVec S16 32) : Prop :=
  (∀ a x, ((![v604, v829] : Fin 2 → IVec S16 32) a x).toNat < S160x31.size a)
theorem k0_idx1548_inb : ∀ (v604 : IVec S16 32) (v829 : IVec S16 32) (k0_hw1548 : k0_chk1548 v604 v829), ∀ a x, ((![v604, v829] : Fin 2 → IVec S16 32) a x).toNat < S160x31.size a := fun v604 v829 k0_hw1548 => k0_hw1548

def k0_chk1549 (v604 : IVec S16 32) (v832 : IVec S16 32) : Prop :=
  (∀ a x, ((![v604, v832] : Fin 2 → IVec S16 32) a x).toNat < S160x39.size a)
theorem k0_idx1549_inb : ∀ (v604 : IVec S16 32) (v832 : IVec S16 32) (k0_hw1549 : k0_chk1549 v604 v832), ∀ a x, ((![v604, v832] : Fin 2 → IVec S16 32) a x).toNat < S160x39.size a := fun v604 v832 k0_hw1549 => k0_hw1549

def k0_chk1550 (v604 : IVec S16 32) (v836 : IVec S16 32) : Prop :=
  (∀ a x, ((![v604, v836] : Fin 2 → IVec S16 32) a x).toNat < S160x31.size a)
theorem k0_idx1550_inb : ∀ (v604 : IVec S16 32) (v836 : IVec S16 32) (k0_hw1550 : k0_chk1550 v604 v836), ∀ a x, ((![v604, v836] : Fin 2 → IVec S16 32) a x).toNat < S160x31.size a := fun v604 v836 k0_hw1550 => k0_hw1550

def k0_chk1551 (v604 : IVec S16 32) (v839 : IVec S16 32) : Prop :=
  (∀ a x, ((![v604, v839] : Fin 2 → IVec S16 32) a x).toNat < S160x39.size a)
theorem k0_idx1551_inb : ∀ (v604 : IVec S16 32) (v839 : IVec S16 32) (k0_hw1551 : k0_chk1551 v604 v839), ∀ a x, ((![v604, v839] : Fin 2 → IVec S16 32) a x).toNat < S160x39.size a := fun v604 v839 k0_hw1551 => k0_hw1551

def k0_chk1552 (v604 : IVec S16 32) (v843 : IVec S16 32) : Prop :=
  (∀ a x, ((![v604, v843] : Fin 2 → IVec S16 32) a x).toNat < S160x31.size a)
theorem k0_idx1552_inb : ∀ (v604 : IVec S16 32) (v843 : IVec S16 32) (k0_hw1552 : k0_chk1552 v604 v843), ∀ a x, ((![v604, v843] : Fin 2 → IVec S16 32) a x).toNat < S160x31.size a := fun v604 v843 k0_hw1552 => k0_hw1552

def k0_chk1553 (v604 : IVec S16 32) (v846 : IVec S16 32) : Prop :=
  (∀ a x, ((![v604, v846] : Fin 2 → IVec S16 32) a x).toNat < S160x39.size a)
theorem k0_idx1553_inb : ∀ (v604 : IVec S16 32) (v846 : IVec S16 32) (k0_hw1553 : k0_chk1553 v604 v846), ∀ a x, ((![v604, v846] : Fin 2 → IVec S16 32) a x).toNat < S160x39.size a := fun v604 v846 k0_hw1553 => k0_hw1553

def k0_chk1554 (v604 : IVec S16 32) (v850 : IVec S16 32) : Prop :=
  (∀ a x, ((![v604, v850] : Fin 2 → IVec S16 32) a x).toNat < S160x31.size a)
theorem k0_idx1554_inb : ∀ (v604 : IVec S16 32) (v850 : IVec S16 32) (k0_hw1554 : k0_chk1554 v604 v850), ∀ a x, ((![v604, v850] : Fin 2 → IVec S16 32) a x).toNat < S160x31.size a := fun v604 v850 k0_hw1554 => k0_hw1554

def k0_chk1555 (v604 : IVec S16 32) (v853 : IVec S16 32) : Prop :=
  (∀ a x, ((![v604, v853] : Fin 2 → IVec S16 32) a x).toNat < S160x39.size a)
theorem k0_idx1555_inb : ∀ (v604 : IVec S16 32) (v853 : IVec S16 32) (k0_hw1555 : k0_chk1555 v604 v853), ∀ a x, ((![v604, v853] : Fin 2 → IVec S16 32) a x).toNat < S160x39.size a := fun v604 v853 k0_hw1555 => k0_hw1555

def k0_chk1556 (v604 : IVec S16 32) (v857 : IVec S16 32) : Prop :=
  (∀ a x, ((![v604, v857] : Fin 2 → IVec S16 32) a x).toNat < S160x31.size a)
theorem k0_idx1556_inb : ∀ (v604 : IVec S16 32) (v857 : IVec S16 32) (k0_hw1556 : k0_chk1556 v604 v857), ∀ a x, ((![v604, v857] : Fin 2 → IVec S16 32) a x).toNat < S160x31.size a := fun v604 v857 k0_hw1556 => k0_hw1556

def k0_chk1557 (v604 : IVec S16 32) (v860 : IVec S16 32) : Prop :=
  (∀ a x, ((![v604, v860] : Fin 2 → IVec S16 32) a x).toNat < S160x39.size a)
theorem k0_idx1557_inb : ∀ (v604 : IVec S16 32) (v860 : IVec S16 32) (k0_hw1557 : k0_chk1557 v604 v860), ∀ a x, ((![v604, v860] : Fin 2 → IVec S16 32) a x).toNat < S160x39.size a := fun v604 v860 k0_hw1557 => k0_hw1557

def k0_chk1558 (v604 : IVec S16 32) (v864 : IVec S16 32) : Prop :=
  (∀ a x, ((![v604, v864] : Fin 2 → IVec S16 32) a x).toNat < S160x31.size a)
theorem k0_idx1558_inb : ∀ (v604 : IVec S16 32) (v864 : IVec S16 32) (k0_hw1558 : k0_chk1558 v604 v864), ∀ a x, ((![v604, v864] : Fin 2 → IVec S16 32) a x).toNat < S160x31.size a := fun v604 v864 k0_hw1558 => k0_hw1558

def k0_chk1559 (v604 : IVec S16 32) (v867 : IVec S16 32) : Prop :=
  (∀ a x, ((![v604, v867] : Fin 2 → IVec S16 32) a x).toNat < S160x39.size a)
theorem k0_idx1559_inb : ∀ (v604 : IVec S16 32) (v867 : IVec S16 32) (k0_hw1559 : k0_chk1559 v604 v867), ∀ a x, ((![v604, v867] : Fin 2 → IVec S16 32) a x).toNat < S160x39.size a := fun v604 v867 k0_hw1559 => k0_hw1559

def k0_chk1560 (v604 : IVec S16 32) (v871 : IVec S16 32) : Prop :=
  (∀ a x, ((![v604, v871] : Fin 2 → IVec S16 32) a x).toNat < S160x31.size a)
theorem k0_idx1560_inb : ∀ (v604 : IVec S16 32) (v871 : IVec S16 32) (k0_hw1560 : k0_chk1560 v604 v871), ∀ a x, ((![v604, v871] : Fin 2 → IVec S16 32) a x).toNat < S160x31.size a := fun v604 v871 k0_hw1560 => k0_hw1560

def k0_chk1561 (v604 : IVec S16 32) (v874 : IVec S16 32) : Prop :=
  (∀ a x, ((![v604, v874] : Fin 2 → IVec S16 32) a x).toNat < S160x39.size a)
theorem k0_idx1561_inb : ∀ (v604 : IVec S16 32) (v874 : IVec S16 32) (k0_hw1561 : k0_chk1561 v604 v874), ∀ a x, ((![v604, v874] : Fin 2 → IVec S16 32) a x).toNat < S160x39.size a := fun v604 v874 k0_hw1561 => k0_hw1561

def k0_chk1562 (v604 : IVec S16 32) (v878 : IVec S16 32) : Prop :=
  (∀ a x, ((![v604, v878] : Fin 2 → IVec S16 32) a x).toNat < S160x31.size a)
theorem k0_idx1562_inb : ∀ (v604 : IVec S16 32) (v878 : IVec S16 32) (k0_hw1562 : k0_chk1562 v604 v878), ∀ a x, ((![v604, v878] : Fin 2 → IVec S16 32) a x).toNat < S160x31.size a := fun v604 v878 k0_hw1562 => k0_hw1562

def k0_chk1563 (v604 : IVec S16 32) (v881 : IVec S16 32) : Prop :=
  (∀ a x, ((![v604, v881] : Fin 2 → IVec S16 32) a x).toNat < S160x39.size a)
theorem k0_idx1563_inb : ∀ (v604 : IVec S16 32) (v881 : IVec S16 32) (k0_hw1563 : k0_chk1563 v604 v881), ∀ a x, ((![v604, v881] : Fin 2 → IVec S16 32) a x).toNat < S160x39.size a := fun v604 v881 k0_hw1563 => k0_hw1563

def k0_chk1564 (v604 : IVec S16 32) (v885 : IVec S16 32) : Prop :=
  (∀ a x, ((![v604, v885] : Fin 2 → IVec S16 32) a x).toNat < S160x31.size a)
theorem k0_idx1564_inb : ∀ (v604 : IVec S16 32) (v885 : IVec S16 32) (k0_hw1564 : k0_chk1564 v604 v885), ∀ a x, ((![v604, v885] : Fin 2 → IVec S16 32) a x).toNat < S160x31.size a := fun v604 v885 k0_hw1564 => k0_hw1564

def k0_chk1565 (v889 : IVec S16 32) (v890 : IVec S16 32) : Prop :=
  (∀ a x, ((![v889, v890] : Fin 2 → IVec S16 32) a x).toNat < S160x39.size a)
theorem k0_idx1565_inb : ∀ (v889 : IVec S16 32) (v890 : IVec S16 32) (k0_hw1565 : k0_chk1565 v889 v890), ∀ a x, ((![v889, v890] : Fin 2 → IVec S16 32) a x).toNat < S160x39.size a := fun v889 v890 k0_hw1565 => k0_hw1565

def k0_chk1566 (v889 : IVec S16 32) (v894 : IVec S16 32) : Prop :=
  (∀ a x, ((![v889, v894] : Fin 2 → IVec S16 32) a x).toNat < S160x39.size a)
theorem k0_idx1566_inb : ∀ (v889 : IVec S16 32) (v894 : IVec S16 32) (k0_hw1566 : k0_chk1566 v889 v894), ∀ a x, ((![v889, v894] : Fin 2 → IVec S16 32) a x).toNat < S160x39.size a := fun v889 v894 k0_hw1566 => k0_hw1566

def k0_chk1567 (v889 : IVec S16 32) (v898 : IVec S16 32) : Prop :=
  (∀ a x, ((![v889, v898] : Fin 2 → IVec S16 32) a x).toNat < S160x39.size a)
theorem k0_idx1567_inb : ∀ (v889 : IVec S16 32) (v898 : IVec S16 32) (k0_hw1567 : k0_chk1567 v889 v898), ∀ a x, ((![v889, v898] : Fin 2 → IVec S16 32) a x).toNat < S160x39.size a := fun v889 v898 k0_hw1567 => k0_hw1567

def k0_chk1568 (v889 : IVec S16 32) (v902 : IVec S16 32) : Prop :=
  (∀ a x, ((![v889, v902] : Fin 2 → IVec S16 32) a x).toNat < S160x39.size a)
theorem k0_idx1568_inb : ∀ (v889 : IVec S16 32) (v902 : IVec S16 32) (k0_hw1568 : k0_chk1568 v889 v902), ∀ a x, ((![v889, v902] : Fin 2 → IVec S16 32) a x).toNat < S160x39.size a := fun v889 v902 k0_hw1568 => k0_hw1568

def k0_chk1569 (v889 : IVec S16 32) (v907 : IVec S16 32) : Prop :=
  (∀ a x, ((![v889, v907] : Fin 2 → IVec S16 32) a x).toNat < S160x39.size a)
theorem k0_idx1569_inb : ∀ (v889 : IVec S16 32) (v907 : IVec S16 32) (k0_hw1569 : k0_chk1569 v889 v907), ∀ a x, ((![v889, v907] : Fin 2 → IVec S16 32) a x).toNat < S160x39.size a := fun v889 v907 k0_hw1569 => k0_hw1569

def k0_chk1570 (v889 : IVec S16 32) (v911 : IVec S16 32) : Prop :=
  (∀ a x, ((![v889, v911] : Fin 2 → IVec S16 32) a x).toNat < S160x39.size a)
theorem k0_idx1570_inb : ∀ (v889 : IVec S16 32) (v911 : IVec S16 32) (k0_hw1570 : k0_chk1570 v889 v911), ∀ a x, ((![v889, v911] : Fin 2 → IVec S16 32) a x).toNat < S160x39.size a := fun v889 v911 k0_hw1570 => k0_hw1570

def k0_chk1571 (v889 : IVec S16 32) (v916 : IVec S16 32) : Prop :=
  (∀ a x, ((![v889, v916] : Fin 2 → IVec S16 32) a x).toNat < S160x39.size a)
theorem k0_idx1571_inb : ∀ (v889 : IVec S16 32) (v916 : IVec S16 32) (k0_hw1571 : k0_chk1571 v889 v916), ∀ a x, ((![v889, v916] : Fin 2 → IVec S16 32) a x).toNat < S160x39.size a := fun v889 v916 k0_hw1571 => k0_hw1571

def k0_chk1572 (v889 : IVec S16 32) (v924 : IVec S16 32) : Prop :=
  (∀ a x, ((![v889, v924] : Fin 2 → IVec S16 32) a x).toNat < S160x39.size a)
theorem k0_idx1572_inb : ∀ (v889 : IVec S16 32) (v924 : IVec S16 32) (k0_hw1572 : k0_chk1572 v889 v924), ∀ a x, ((![v889, v924] : Fin 2 → IVec S16 32) a x).toNat < S160x39.size a := fun v889 v924 k0_hw1572 => k0_hw1572

def k0_chk1573 (v889 : IVec S16 32) (v932 : IVec S16 32) : Prop :=
  (∀ a x, ((![v889, v932] : Fin 2 → IVec S16 32) a x).toNat < S160x31.size a)
theorem k0_idx1573_inb : ∀ (v889 : IVec S16 32) (v932 : IVec S16 32) (k0_hw1573 : k0_chk1573 v889 v932), ∀ a x, ((![v889, v932] : Fin 2 → IVec S16 32) a x).toNat < S160x31.size a := fun v889 v932 k0_hw1573 => k0_hw1573

def k0_chk1574 (v889 : IVec S16 32) (v935 : IVec S16 32) : Prop :=
  (∀ a x, ((![v889, v935] : Fin 2 → IVec S16 32) a x).toNat < S160x31.size a)
theorem k0_idx1574_inb : ∀ (v889 : IVec S16 32) (v935 : IVec S16 32) (k0_hw1574 : k0_chk1574 v889 v935), ∀ a x, ((![v889, v935] : Fin 2 → IVec S16 32) a x).toNat < S160x31.size a := fun v889 v935 k0_hw1574 => k0_hw1574

def k0_chk1575 (v889 : IVec S16 32) (v938 : IVec S16 32) : Prop :=
  (∀ a x, ((![v889, v938] : Fin 2 → IVec S16 32) a x).toNat < S160x39.size a)
theorem k0_idx1575_inb : ∀ (v889 : IVec S16 32) (v938 : IVec S16 32) (k0_hw1575 : k0_chk1575 v889 v938), ∀ a x, ((![v889, v938] : Fin 2 → IVec S16 32) a x).toNat < S160x39.size a := fun v889 v938 k0_hw1575 => k0_hw1575

def k0_chk1576 (v889 : IVec S16 32) (v946 : IVec S16 32) : Prop :=
  (∀ a x, ((![v889, v946] : Fin 2 → IVec S16 32) a x).toNat < S160x39.size a)
theorem k0_idx1576_inb : ∀ (v889 : IVec S16 32) (v946 : IVec S16 32) (k0_hw1576 : k0_chk1576 v889 v946), ∀ a x, ((![v889, v946] : Fin 2 → IVec S16 32) a x).toNat < S160x39.size a := fun v889 v946 k0_hw1576 => k0_hw1576

def k0_chk1577 (v889 : IVec S16 32) (v954 : IVec S16 32) : Prop :=
  (∀ a x, ((![v889, v954] : Fin 2 → IVec S16 32) a x).toNat < S160x31.size a)
theorem k0_idx1577_inb : ∀ (v889 : IVec S16 32) (v954 : IVec S16 32) (k0_hw1577 : k0_chk1577 v889 v954), ∀ a x, ((![v889, v954] : Fin 2 → IVec S16 32) a x).toNat < S160x31.size a := fun v889 v954 k0_hw1577 => k0_hw1577

def k0_chk1578 (v889 : IVec S16 32) (v957 : IVec S16 32) : Prop :=
  (∀ a x, ((![v889, v957] : Fin 2 → IVec S16 32) a x).toNat < S160x31.size a)
theorem k0_idx1578_inb : ∀ (v889 : IVec S16 32) (v957 : IVec S16 32) (k0_hw1578 : k0_chk1578 v889 v957), ∀ a x, ((![v889, v957] : Fin 2 → IVec S16 32) a x).toNat < S160x31.size a := fun v889 v957 k0_hw1578 => k0_hw1578

def k0_chk1579 (v889 : IVec S16 32) (v960 : IVec S16 32) : Prop :=
  (∀ a x, ((![v889, v960] : Fin 2 → IVec S16 32) a x).toNat < S160x39.size a)
theorem k0_idx1579_inb : ∀ (v889 : IVec S16 32) (v960 : IVec S16 32) (k0_hw1579 : k0_chk1579 v889 v960), ∀ a x, ((![v889, v960] : Fin 2 → IVec S16 32) a x).toNat < S160x39.size a := fun v889 v960 k0_hw1579 => k0_hw1579

def k0_chk1580 (v889 : IVec S16 32) (v968 : IVec S16 32) : Prop :=
  (∀ a x, ((![v889, v968] : Fin 2 → IVec S16 32) a x).toNat < S160x39.size a)
theorem k0_idx1580_inb : ∀ (v889 : IVec S16 32) (v968 : IVec S16 32) (k0_hw1580 : k0_chk1580 v889 v968), ∀ a x, ((![v889, v968] : Fin 2 → IVec S16 32) a x).toNat < S160x39.size a := fun v889 v968 k0_hw1580 => k0_hw1580

def k0_chk1581 (v889 : IVec S16 32) (v976 : IVec S16 32) : Prop :=
  (∀ a x, ((![v889, v976] : Fin 2 → IVec S16 32) a x).toNat < S160x31.size a)
theorem k0_idx1581_inb : ∀ (v889 : IVec S16 32) (v976 : IVec S16 32) (k0_hw1581 : k0_chk1581 v889 v976), ∀ a x, ((![v889, v976] : Fin 2 → IVec S16 32) a x).toNat < S160x31.size a := fun v889 v976 k0_hw1581 => k0_hw1581

def k0_chk1582 (v889 : IVec S16 32) (v979 : IVec S16 32) : Prop :=
  (∀ a x, ((![v889, v979] : Fin 2 → IVec S16 32) a x).toNat < S160x31.size a)
theorem k0_idx1582_inb : ∀ (v889 : IVec S16 32) (v979 : IVec S16 32) (k0_hw1582 : k0_chk1582 v889 v979), ∀ a x, ((![v889, v979] : Fin 2 → IVec S16 32) a x).toNat < S160x31.size a := fun v889 v979 k0_hw1582 => k0_hw1582

def k0_chk1583 (v889 : IVec S16 32) (v982 : IVec S16 32) : Prop :=
  (∀ a x, ((![v889, v982] : Fin 2 → IVec S16 32) a x).toNat < S160x39.size a)
theorem k0_idx1583_inb : ∀ (v889 : IVec S16 32) (v982 : IVec S16 32) (k0_hw1583 : k0_chk1583 v889 v982), ∀ a x, ((![v889, v982] : Fin 2 → IVec S16 32) a x).toNat < S160x39.size a := fun v889 v982 k0_hw1583 => k0_hw1583

def k0_chk1584 (v889 : IVec S16 32) (v990 : IVec S16 32) : Prop :=
  (∀ a x, ((![v889, v990] : Fin 2 → IVec S16 32) a x).toNat < S160x39.size a)
theorem k0_idx1584_inb : ∀ (v889 : IVec S16 32) (v990 : IVec S16 32) (k0_hw1584 : k0_chk1584 v889 v990), ∀ a x, ((![v889, v990] : Fin 2 → IVec S16 32) a x).toNat < S160x39.size a := fun v889 v990 k0_hw1584 => k0_hw1584

def k0_chk1585 (v889 : IVec S16 32) (v998 : IVec S16 32) : Prop :=
  (∀ a x, ((![v889, v998] : Fin 2 → IVec S16 32) a x).toNat < S160x31.size a)
theorem k0_idx1585_inb : ∀ (v889 : IVec S16 32) (v998 : IVec S16 32) (k0_hw1585 : k0_chk1585 v889 v998), ∀ a x, ((![v889, v998] : Fin 2 → IVec S16 32) a x).toNat < S160x31.size a := fun v889 v998 k0_hw1585 => k0_hw1585

def k0_chk1586 (v889 : IVec S16 32) (v1001 : IVec S16 32) : Prop :=
  (∀ a x, ((![v889, v1001] : Fin 2 → IVec S16 32) a x).toNat < S160x31.size a)
theorem k0_idx1586_inb : ∀ (v889 : IVec S16 32) (v1001 : IVec S16 32) (k0_hw1586 : k0_chk1586 v889 v1001), ∀ a x, ((![v889, v1001] : Fin 2 → IVec S16 32) a x).toNat < S160x31.size a := fun v889 v1001 k0_hw1586 => k0_hw1586

def k0_chk1587 (v889 : IVec S16 32) (v1004 : IVec S16 32) : Prop :=
  (∀ a x, ((![v889, v1004] : Fin 2 → IVec S16 32) a x).toNat < S160x39.size a)
theorem k0_idx1587_inb : ∀ (v889 : IVec S16 32) (v1004 : IVec S16 32) (k0_hw1587 : k0_chk1587 v889 v1004), ∀ a x, ((![v889, v1004] : Fin 2 → IVec S16 32) a x).toNat < S160x39.size a := fun v889 v1004 k0_hw1587 => k0_hw1587

def k0_chk1588 (v889 : IVec S16 32) (v1012 : IVec S16 32) : Prop :=
  (∀ a x, ((![v889, v1012] : Fin 2 → IVec S16 32) a x).toNat < S160x39.size a)
theorem k0_idx1588_inb : ∀ (v889 : IVec S16 32) (v1012 : IVec S16 32) (k0_hw1588 : k0_chk1588 v889 v1012), ∀ a x, ((![v889, v1012] : Fin 2 → IVec S16 32) a x).toNat < S160x39.size a := fun v889 v1012 k0_hw1588 => k0_hw1588

def k0_chk1589 (v889 : IVec S16 32) (v1020 : IVec S16 32) : Prop :=
  (∀ a x, ((![v889, v1020] : Fin 2 → IVec S16 32) a x).toNat < S160x31.size a)
theorem k0_idx1589_inb : ∀ (v889 : IVec S16 32) (v1020 : IVec S16 32) (k0_hw1589 : k0_chk1589 v889 v1020), ∀ a x, ((![v889, v1020] : Fin 2 → IVec S16 32) a x).toNat < S160x31.size a := fun v889 v1020 k0_hw1589 => k0_hw1589

def k0_chk1590 (v889 : IVec S16 32) (v1023 : IVec S16 32) : Prop :=
  (∀ a x, ((![v889, v1023] : Fin 2 → IVec S16 32) a x).toNat < S160x31.size a)
theorem k0_idx1590_inb : ∀ (v889 : IVec S16 32) (v1023 : IVec S16 32) (k0_hw1590 : k0_chk1590 v889 v1023), ∀ a x, ((![v889, v1023] : Fin 2 → IVec S16 32) a x).toNat < S160x31.size a := fun v889 v1023 k0_hw1590 => k0_hw1590

def k0_chk1591 (v889 : IVec S16 32) (v1026 : IVec S16 32) : Prop :=
  (∀ a x, ((![v889, v1026] : Fin 2 → IVec S16 32) a x).toNat < S160x39.size a)
theorem k0_idx1591_inb : ∀ (v889 : IVec S16 32) (v1026 : IVec S16 32) (k0_hw1591 : k0_chk1591 v889 v1026), ∀ a x, ((![v889, v1026] : Fin 2 → IVec S16 32) a x).toNat < S160x39.size a := fun v889 v1026 k0_hw1591 => k0_hw1591

def k0_chk1592 (v889 : IVec S16 32) (v1030 : IVec S16 32) : Prop :=
  (∀ a x, ((![v889, v1030] : Fin 2 → IVec S16 32) a x).toNat < S160x31.size a)
theorem k0_idx1592_inb : ∀ (v889 : IVec S16 32) (v1030 : IVec S16 32) (k0_hw1592 : k0_chk1592 v889 v1030), ∀ a x, ((![v889, v1030] : Fin 2 → IVec S16 32) a x).toNat < S160x31.size a := fun v889 v1030 k0_hw1592 => k0_hw1592

def k0_chk1593 (v889 : IVec S16 32) (v1033 : IVec S16 32) : Prop :=
  (∀ a x, ((![v889, v1033] : Fin 2 → IVec S16 32) a x).toNat < S160x39.size a)
theorem k0_idx1593_inb : ∀ (v889 : IVec S16 32) (v1033 : IVec S16 32) (k0_hw1593 : k0_chk1593 v889 v1033), ∀ a x, ((![v889, v1033] : Fin 2 → IVec S16 32) a x).toNat < S160x39.size a := fun v889 v1033 k0_hw1593 => k0_hw1593

def k0_chk1594 (v889 : IVec S16 32) (v1037 : IVec S16 32) : Prop :=
  (∀ a x, ((![v889, v1037] : Fin 2 → IVec S16 32) a x).toNat < S160x31.size a)
theorem k0_idx1594_inb : ∀ (v889 : IVec S16 32) (v1037 : IVec S16 32) (k0_hw1594 : k0_chk1594 v889 v1037), ∀ a x, ((![v889, v1037] : Fin 2 → IVec S16 32) a x).toNat < S160x31.size a := fun v889 v1037 k0_hw1594 => k0_hw1594

def k0_chk1595 (v889 : IVec S16 32) (v1040 : IVec S16 32) : Prop :=
  (∀ a x, ((![v889, v1040] : Fin 2 → IVec S16 32) a x).toNat < S160x39.size a)
theorem k0_idx1595_inb : ∀ (v889 : IVec S16 32) (v1040 : IVec S16 32) (k0_hw1595 : k0_chk1595 v889 v1040), ∀ a x, ((![v889, v1040] : Fin 2 → IVec S16 32) a x).toNat < S160x39.size a := fun v889 v1040 k0_hw1595 => k0_hw1595

def k0_chk1596 (v889 : IVec S16 32) (v1044 : IVec S16 32) : Prop :=
  (∀ a x, ((![v889, v1044] : Fin 2 → IVec S16 32) a x).toNat < S160x31.size a)
theorem k0_idx1596_inb : ∀ (v889 : IVec S16 32) (v1044 : IVec S16 32) (k0_hw1596 : k0_chk1596 v889 v1044), ∀ a x, ((![v889, v1044] : Fin 2 → IVec S16 32) a x).toNat < S160x31.size a := fun v889 v1044 k0_hw1596 => k0_hw1596

def k0_chk1597 (v889 : IVec S16 32) (v1047 : IVec S16 32) : Prop :=
  (∀ a x, ((![v889, v1047] : Fin 2 → IVec S16 32) a x).toNat < S160x39.size a)
theorem k0_idx1597_inb : ∀ (v889 : IVec S16 32) (v1047 : IVec S16 32) (k0_hw1597 : k0_chk1597 v889 v1047), ∀ a x, ((![v889, v1047] : Fin 2 → IVec S16 32) a x).toNat < S160x39.size a := fun v889 v1047 k0_hw1597 => k0_hw1597

def k0_chk1598 (v889 : IVec S16 32) (v1051 : IVec S16 32) : Prop :=
  (∀ a x, ((![v889, v1051] : Fin 2 → IVec S16 32) a x).toNat < S160x31.size a)
theorem k0_idx1598_inb : ∀ (v889 : IVec S16 32) (v1051 : IVec S16 32) (k0_hw1598 : k0_chk1598 v889 v1051), ∀ a x, ((![v889, v1051] : Fin 2 → IVec S16 32) a x).toNat < S160x31.size a := fun v889 v1051 k0_hw1598 => k0_hw1598

def k0_chk1599 (v889 : IVec S16 32) (v1054 : IVec S16 32) : Prop :=
  (∀ a x, ((![v889, v1054] : Fin 2 → IVec S16 32) a x).toNat < S160x39.size a)
theorem k0_idx1599_inb : ∀ (v889 : IVec S16 32) (v1054 : IVec S16 32) (k0_hw1599 : k0_chk1599 v889 v1054), ∀ a x, ((![v889, v1054] : Fin 2 → IVec S16 32) a x).toNat < S160x39.size a := fun v889 v1054 k0_hw1599 => k0_hw1599

def k0_chk1600 (v889 : IVec S16 32) (v1058 : IVec S16 32) : Prop :=
  (∀ a x, ((![v889, v1058] : Fin 2 → IVec S16 32) a x).toNat < S160x31.size a)
theorem k0_idx1600_inb : ∀ (v889 : IVec S16 32) (v1058 : IVec S16 32) (k0_hw1600 : k0_chk1600 v889 v1058), ∀ a x, ((![v889, v1058] : Fin 2 → IVec S16 32) a x).toNat < S160x31.size a := fun v889 v1058 k0_hw1600 => k0_hw1600

def k0_chk1601 (v889 : IVec S16 32) (v1061 : IVec S16 32) : Prop :=
  (∀ a x, ((![v889, v1061] : Fin 2 → IVec S16 32) a x).toNat < S160x39.size a)
theorem k0_idx1601_inb : ∀ (v889 : IVec S16 32) (v1061 : IVec S16 32) (k0_hw1601 : k0_chk1601 v889 v1061), ∀ a x, ((![v889, v1061] : Fin 2 → IVec S16 32) a x).toNat < S160x39.size a := fun v889 v1061 k0_hw1601 => k0_hw1601

def k0_chk1602 (v889 : IVec S16 32) (v1065 : IVec S16 32) : Prop :=
  (∀ a x, ((![v889, v1065] : Fin 2 → IVec S16 32) a x).toNat < S160x31.size a)
theorem k0_idx1602_inb : ∀ (v889 : IVec S16 32) (v1065 : IVec S16 32) (k0_hw1602 : k0_chk1602 v889 v1065), ∀ a x, ((![v889, v1065] : Fin 2 → IVec S16 32) a x).toNat < S160x31.size a := fun v889 v1065 k0_hw1602 => k0_hw1602

def k0_chk1603 (v889 : IVec S16 32) (v1068 : IVec S16 32) : Prop :=
  (∀ a x, ((![v889, v1068] : Fin 2 → IVec S16 32) a x).toNat < S160x39.size a)
theorem k0_idx1603_inb : ∀ (v889 : IVec S16 32) (v1068 : IVec S16 32) (k0_hw1603 : k0_chk1603 v889 v1068), ∀ a x, ((![v889, v1068] : Fin 2 → IVec S16 32) a x).toNat < S160x39.size a := fun v889 v1068 k0_hw1603 => k0_hw1603

def k0_chk1604 (v889 : IVec S16 32) (v1072 : IVec S16 32) : Prop :=
  (∀ a x, ((![v889, v1072] : Fin 2 → IVec S16 32) a x).toNat < S160x31.size a)
theorem k0_idx1604_inb : ∀ (v889 : IVec S16 32) (v1072 : IVec S16 32) (k0_hw1604 : k0_chk1604 v889 v1072), ∀ a x, ((![v889, v1072] : Fin 2 → IVec S16 32) a x).toNat < S160x31.size a := fun v889 v1072 k0_hw1604 => k0_hw1604

def k0_chk1605 (v889 : IVec S16 32) (v1075 : IVec S16 32) : Prop :=
  (∀ a x, ((![v889, v1075] : Fin 2 → IVec S16 32) a x).toNat < S160x39.size a)
theorem k0_idx1605_inb : ∀ (v889 : IVec S16 32) (v1075 : IVec S16 32) (k0_hw1605 : k0_chk1605 v889 v1075), ∀ a x, ((![v889, v1075] : Fin 2 → IVec S16 32) a x).toNat < S160x39.size a := fun v889 v1075 k0_hw1605 => k0_hw1605

def k0_chk1606 (v889 : IVec S16 32) (v1079 : IVec S16 32) : Prop :=
  (∀ a x, ((![v889, v1079] : Fin 2 → IVec S16 32) a x).toNat < S160x31.size a)
theorem k0_idx1606_inb : ∀ (v889 : IVec S16 32) (v1079 : IVec S16 32) (k0_hw1606 : k0_chk1606 v889 v1079), ∀ a x, ((![v889, v1079] : Fin 2 → IVec S16 32) a x).toNat < S160x31.size a := fun v889 v1079 k0_hw1606 => k0_hw1606

def k0_chk1607 (v889 : IVec S16 32) (v1082 : IVec S16 32) : Prop :=
  (∀ a x, ((![v889, v1082] : Fin 2 → IVec S16 32) a x).toNat < S160x39.size a)
theorem k0_idx1607_inb : ∀ (v889 : IVec S16 32) (v1082 : IVec S16 32) (k0_hw1607 : k0_chk1607 v889 v1082), ∀ a x, ((![v889, v1082] : Fin 2 → IVec S16 32) a x).toNat < S160x39.size a := fun v889 v1082 k0_hw1607 => k0_hw1607

def k0_chk1608 (v889 : IVec S16 32) (v1086 : IVec S16 32) : Prop :=
  (∀ a x, ((![v889, v1086] : Fin 2 → IVec S16 32) a x).toNat < S160x31.size a)
theorem k0_idx1608_inb : ∀ (v889 : IVec S16 32) (v1086 : IVec S16 32) (k0_hw1608 : k0_chk1608 v889 v1086), ∀ a x, ((![v889, v1086] : Fin 2 → IVec S16 32) a x).toNat < S160x31.size a := fun v889 v1086 k0_hw1608 => k0_hw1608

def k0_chk1609 (v889 : IVec S16 32) (v1089 : IVec S16 32) : Prop :=
  (∀ a x, ((![v889, v1089] : Fin 2 → IVec S16 32) a x).toNat < S160x39.size a)
theorem k0_idx1609_inb : ∀ (v889 : IVec S16 32) (v1089 : IVec S16 32) (k0_hw1609 : k0_chk1609 v889 v1089), ∀ a x, ((![v889, v1089] : Fin 2 → IVec S16 32) a x).toNat < S160x39.size a := fun v889 v1089 k0_hw1609 => k0_hw1609

def k0_chk1610 (v889 : IVec S16 32) (v1093 : IVec S16 32) : Prop :=
  (∀ a x, ((![v889, v1093] : Fin 2 → IVec S16 32) a x).toNat < S160x31.size a)
theorem k0_idx1610_inb : ∀ (v889 : IVec S16 32) (v1093 : IVec S16 32) (k0_hw1610 : k0_chk1610 v889 v1093), ∀ a x, ((![v889, v1093] : Fin 2 → IVec S16 32) a x).toNat < S160x31.size a := fun v889 v1093 k0_hw1610 => k0_hw1610

def k0_chk1611 (v889 : IVec S16 32) (v1096 : IVec S16 32) : Prop :=
  (∀ a x, ((![v889, v1096] : Fin 2 → IVec S16 32) a x).toNat < S160x39.size a)
theorem k0_idx1611_inb : ∀ (v889 : IVec S16 32) (v1096 : IVec S16 32) (k0_hw1611 : k0_chk1611 v889 v1096), ∀ a x, ((![v889, v1096] : Fin 2 → IVec S16 32) a x).toNat < S160x39.size a := fun v889 v1096 k0_hw1611 => k0_hw1611

def k0_chk1612 (v889 : IVec S16 32) (v1100 : IVec S16 32) : Prop :=
  (∀ a x, ((![v889, v1100] : Fin 2 → IVec S16 32) a x).toNat < S160x31.size a)
theorem k0_idx1612_inb : ∀ (v889 : IVec S16 32) (v1100 : IVec S16 32) (k0_hw1612 : k0_chk1612 v889 v1100), ∀ a x, ((![v889, v1100] : Fin 2 → IVec S16 32) a x).toNat < S160x31.size a := fun v889 v1100 k0_hw1612 => k0_hw1612

def k0_chk1613 (v889 : IVec S16 32) (v1103 : IVec S16 32) : Prop :=
  (∀ a x, ((![v889, v1103] : Fin 2 → IVec S16 32) a x).toNat < S160x39.size a)
theorem k0_idx1613_inb : ∀ (v889 : IVec S16 32) (v1103 : IVec S16 32) (k0_hw1613 : k0_chk1613 v889 v1103), ∀ a x, ((![v889, v1103] : Fin 2 → IVec S16 32) a x).toNat < S160x39.size a := fun v889 v1103 k0_hw1613 => k0_hw1613

def k0_chk1614 (v889 : IVec S16 32) (v1107 : IVec S16 32) : Prop :=
  (∀ a x, ((![v889, v1107] : Fin 2 → IVec S16 32) a x).toNat < S160x31.size a)
theorem k0_idx1614_inb : ∀ (v889 : IVec S16 32) (v1107 : IVec S16 32) (k0_hw1614 : k0_chk1614 v889 v1107), ∀ a x, ((![v889, v1107] : Fin 2 → IVec S16 32) a x).toNat < S160x31.size a := fun v889 v1107 k0_hw1614 => k0_hw1614

def k0_chk1615 (v889 : IVec S16 32) (v1110 : IVec S16 32) : Prop :=
  (∀ a x, ((![v889, v1110] : Fin 2 → IVec S16 32) a x).toNat < S160x39.size a)
theorem k0_idx1615_inb : ∀ (v889 : IVec S16 32) (v1110 : IVec S16 32) (k0_hw1615 : k0_chk1615 v889 v1110), ∀ a x, ((![v889, v1110] : Fin 2 → IVec S16 32) a x).toNat < S160x39.size a := fun v889 v1110 k0_hw1615 => k0_hw1615

def k0_chk1616 (v889 : IVec S16 32) (v1114 : IVec S16 32) : Prop :=
  (∀ a x, ((![v889, v1114] : Fin 2 → IVec S16 32) a x).toNat < S160x31.size a)
theorem k0_idx1616_inb : ∀ (v889 : IVec S16 32) (v1114 : IVec S16 32) (k0_hw1616 : k0_chk1616 v889 v1114), ∀ a x, ((![v889, v1114] : Fin 2 → IVec S16 32) a x).toNat < S160x31.size a := fun v889 v1114 k0_hw1616 => k0_hw1616

def k0_chk1617 (v889 : IVec S16 32) (v1117 : IVec S16 32) : Prop :=
  (∀ a x, ((![v889, v1117] : Fin 2 → IVec S16 32) a x).toNat < S160x39.size a)
theorem k0_idx1617_inb : ∀ (v889 : IVec S16 32) (v1117 : IVec S16 32) (k0_hw1617 : k0_chk1617 v889 v1117), ∀ a x, ((![v889, v1117] : Fin 2 → IVec S16 32) a x).toNat < S160x39.size a := fun v889 v1117 k0_hw1617 => k0_hw1617

def k0_chk1618 (v889 : IVec S16 32) (v1121 : IVec S16 32) : Prop :=
  (∀ a x, ((![v889, v1121] : Fin 2 → IVec S16 32) a x).toNat < S160x31.size a)
theorem k0_idx1618_inb : ∀ (v889 : IVec S16 32) (v1121 : IVec S16 32) (k0_hw1618 : k0_chk1618 v889 v1121), ∀ a x, ((![v889, v1121] : Fin 2 → IVec S16 32) a x).toNat < S160x31.size a := fun v889 v1121 k0_hw1618 => k0_hw1618

def k0_chk1619 (v889 : IVec S16 32) (v1124 : IVec S16 32) : Prop :=
  (∀ a x, ((![v889, v1124] : Fin 2 → IVec S16 32) a x).toNat < S160x39.size a)
theorem k0_idx1619_inb : ∀ (v889 : IVec S16 32) (v1124 : IVec S16 32) (k0_hw1619 : k0_chk1619 v889 v1124), ∀ a x, ((![v889, v1124] : Fin 2 → IVec S16 32) a x).toNat < S160x39.size a := fun v889 v1124 k0_hw1619 => k0_hw1619

def k0_chk1620 (v889 : IVec S16 32) (v1128 : IVec S16 32) : Prop :=
  (∀ a x, ((![v889, v1128] : Fin 2 → IVec S16 32) a x).toNat < S160x31.size a)
theorem k0_idx1620_inb : ∀ (v889 : IVec S16 32) (v1128 : IVec S16 32) (k0_hw1620 : k0_chk1620 v889 v1128), ∀ a x, ((![v889, v1128] : Fin 2 → IVec S16 32) a x).toNat < S160x31.size a := fun v889 v1128 k0_hw1620 => k0_hw1620

def k0_chk1621 (v889 : IVec S16 32) (v1131 : IVec S16 32) : Prop :=
  (∀ a x, ((![v889, v1131] : Fin 2 → IVec S16 32) a x).toNat < S160x39.size a)
theorem k0_idx1621_inb : ∀ (v889 : IVec S16 32) (v1131 : IVec S16 32) (k0_hw1621 : k0_chk1621 v889 v1131), ∀ a x, ((![v889, v1131] : Fin 2 → IVec S16 32) a x).toNat < S160x39.size a := fun v889 v1131 k0_hw1621 => k0_hw1621

def k0_chk1622 (v889 : IVec S16 32) (v1135 : IVec S16 32) : Prop :=
  (∀ a x, ((![v889, v1135] : Fin 2 → IVec S16 32) a x).toNat < S160x31.size a)
theorem k0_idx1622_inb : ∀ (v889 : IVec S16 32) (v1135 : IVec S16 32) (k0_hw1622 : k0_chk1622 v889 v1135), ∀ a x, ((![v889, v1135] : Fin 2 → IVec S16 32) a x).toNat < S160x31.size a := fun v889 v1135 k0_hw1622 => k0_hw1622

def k0_chk1623 (v889 : IVec S16 32) (v1138 : IVec S16 32) : Prop :=
  (∀ a x, ((![v889, v1138] : Fin 2 → IVec S16 32) a x).toNat < S160x39.size a)
theorem k0_idx1623_inb : ∀ (v889 : IVec S16 32) (v1138 : IVec S16 32) (k0_hw1623 : k0_chk1623 v889 v1138), ∀ a x, ((![v889, v1138] : Fin 2 → IVec S16 32) a x).toNat < S160x39.size a := fun v889 v1138 k0_hw1623 => k0_hw1623

def k0_chk1624 (v889 : IVec S16 32) (v1142 : IVec S16 32) : Prop :=
  (∀ a x, ((![v889, v1142] : Fin 2 → IVec S16 32) a x).toNat < S160x31.size a)
theorem k0_idx1624_inb : ∀ (v889 : IVec S16 32) (v1142 : IVec S16 32) (k0_hw1624 : k0_chk1624 v889 v1142), ∀ a x, ((![v889, v1142] : Fin 2 → IVec S16 32) a x).toNat < S160x31.size a := fun v889 v1142 k0_hw1624 => k0_hw1624

def k0_chk1625 (v889 : IVec S16 32) (v1145 : IVec S16 32) : Prop :=
  (∀ a x, ((![v889, v1145] : Fin 2 → IVec S16 32) a x).toNat < S160x39.size a)
theorem k0_idx1625_inb : ∀ (v889 : IVec S16 32) (v1145 : IVec S16 32) (k0_hw1625 : k0_chk1625 v889 v1145), ∀ a x, ((![v889, v1145] : Fin 2 → IVec S16 32) a x).toNat < S160x39.size a := fun v889 v1145 k0_hw1625 => k0_hw1625

def k0_chk1626 (v889 : IVec S16 32) (v1149 : IVec S16 32) : Prop :=
  (∀ a x, ((![v889, v1149] : Fin 2 → IVec S16 32) a x).toNat < S160x31.size a)
theorem k0_idx1626_inb : ∀ (v889 : IVec S16 32) (v1149 : IVec S16 32) (k0_hw1626 : k0_chk1626 v889 v1149), ∀ a x, ((![v889, v1149] : Fin 2 → IVec S16 32) a x).toNat < S160x31.size a := fun v889 v1149 k0_hw1626 => k0_hw1626

def k0_chk1627 (v889 : IVec S16 32) (v1152 : IVec S16 32) : Prop :=
  (∀ a x, ((![v889, v1152] : Fin 2 → IVec S16 32) a x).toNat < S160x39.size a)
theorem k0_idx1627_inb : ∀ (v889 : IVec S16 32) (v1152 : IVec S16 32) (k0_hw1627 : k0_chk1627 v889 v1152), ∀ a x, ((![v889, v1152] : Fin 2 → IVec S16 32) a x).toNat < S160x39.size a := fun v889 v1152 k0_hw1627 => k0_hw1627

def k0_chk1628 (v889 : IVec S16 32) (v1156 : IVec S16 32) : Prop :=
  (∀ a x, ((![v889, v1156] : Fin 2 → IVec S16 32) a x).toNat < S160x31.size a)
theorem k0_idx1628_inb : ∀ (v889 : IVec S16 32) (v1156 : IVec S16 32) (k0_hw1628 : k0_chk1628 v889 v1156), ∀ a x, ((![v889, v1156] : Fin 2 → IVec S16 32) a x).toNat < S160x31.size a := fun v889 v1156 k0_hw1628 => k0_hw1628

def k0_chk1629 (v889 : IVec S16 32) (v1159 : IVec S16 32) : Prop :=
  (∀ a x, ((![v889, v1159] : Fin 2 → IVec S16 32) a x).toNat < S160x39.size a)
theorem k0_idx1629_inb : ∀ (v889 : IVec S16 32) (v1159 : IVec S16 32) (k0_hw1629 : k0_chk1629 v889 v1159), ∀ a x, ((![v889, v1159] : Fin 2 → IVec S16 32) a x).toNat < S160x39.size a := fun v889 v1159 k0_hw1629 => k0_hw1629

def k0_chk1630 (v889 : IVec S16 32) (v1163 : IVec S16 32) : Prop :=
  (∀ a x, ((![v889, v1163] : Fin 2 → IVec S16 32) a x).toNat < S160x31.size a)
theorem k0_idx1630_inb : ∀ (v889 : IVec S16 32) (v1163 : IVec S16 32) (k0_hw1630 : k0_chk1630 v889 v1163), ∀ a x, ((![v889, v1163] : Fin 2 → IVec S16 32) a x).toNat < S160x31.size a := fun v889 v1163 k0_hw1630 => k0_hw1630

def k0_chk1631 (v889 : IVec S16 32) (v1166 : IVec S16 32) : Prop :=
  (∀ a x, ((![v889, v1166] : Fin 2 → IVec S16 32) a x).toNat < S160x39.size a)
theorem k0_idx1631_inb : ∀ (v889 : IVec S16 32) (v1166 : IVec S16 32) (k0_hw1631 : k0_chk1631 v889 v1166), ∀ a x, ((![v889, v1166] : Fin 2 → IVec S16 32) a x).toNat < S160x39.size a := fun v889 v1166 k0_hw1631 => k0_hw1631

def k0_chk1632 (v889 : IVec S16 32) (v1170 : IVec S16 32) : Prop :=
  (∀ a x, ((![v889, v1170] : Fin 2 → IVec S16 32) a x).toNat < S160x31.size a)
theorem k0_idx1632_inb : ∀ (v889 : IVec S16 32) (v1170 : IVec S16 32) (k0_hw1632 : k0_chk1632 v889 v1170), ∀ a x, ((![v889, v1170] : Fin 2 → IVec S16 32) a x).toNat < S160x31.size a := fun v889 v1170 k0_hw1632 => k0_hw1632

def k0_chk1633 (v1174 : IVec S16 32) (v1175 : IVec S16 32) : Prop :=
  (∀ a x, ((![v1174, v1175] : Fin 2 → IVec S16 32) a x).toNat < S160x39.size a)
theorem k0_idx1633_inb : ∀ (v1174 : IVec S16 32) (v1175 : IVec S16 32) (k0_hw1633 : k0_chk1633 v1174 v1175), ∀ a x, ((![v1174, v1175] : Fin 2 → IVec S16 32) a x).toNat < S160x39.size a := fun v1174 v1175 k0_hw1633 => k0_hw1633

def k0_chk1634 (v1174 : IVec S16 32) (v1179 : IVec S16 32) : Prop :=
  (∀ a x, ((![v1174, v1179] : Fin 2 → IVec S16 32) a x).toNat < S160x39.size a)
theorem k0_idx1634_inb : ∀ (v1174 : IVec S16 32) (v1179 : IVec S16 32) (k0_hw1634 : k0_chk1634 v1174 v1179), ∀ a x, ((![v1174, v1179] : Fin 2 → IVec S16 32) a x).toNat < S160x39.size a := fun v1174 v1179 k0_hw1634 => k0_hw1634

def k0_chk1635 (v1174 : IVec S16 32) (v1183 : IVec S16 32) : Prop :=
  (∀ a x, ((![v1174, v1183] : Fin 2 → IVec S16 32) a x).toNat < S160x39.size a)
theorem k0_idx1635_inb : ∀ (v1174 : IVec S16 32) (v1183 : IVec S16 32) (k0_hw1635 : k0_chk1635 v1174 v1183), ∀ a x, ((![v1174, v1183] : Fin 2 → IVec S16 32) a x).toNat < S160x39.size a := fun v1174 v1183 k0_hw1635 => k0_hw1635

def k0_chk1636 (v1174 : IVec S16 32) (v1187 : IVec S16 32) : Prop :=
  (∀ a x, ((![v1174, v1187] : Fin 2 → IVec S16 32) a x).toNat < S160x39.size a)
theorem k0_idx1636_inb : ∀ (v1174 : IVec S16 32) (v1187 : IVec S16 32) (k0_hw1636 : k0_chk1636 v1174 v1187), ∀ a x, ((![v1174, v1187] : Fin 2 → IVec S16 32) a x).toNat < S160x39.size a := fun v1174 v1187 k0_hw1636 => k0_hw1636

def k0_chk1637 (v1174 : IVec S16 32) (v1192 : IVec S16 32) : Prop :=
  (∀ a x, ((![v1174, v1192] : Fin 2 → IVec S16 32) a x).toNat < S160x39.size a)
theorem k0_idx1637_inb : ∀ (v1174 : IVec S16 32) (v1192 : IVec S16 32) (k0_hw1637 : k0_chk1637 v1174 v1192), ∀ a x, ((![v1174, v1192] : Fin 2 → IVec S16 32) a x).toNat < S160x39.size a := fun v1174 v1192 k0_hw1637 => k0_hw1637

def k0_chk1638 (v1174 : IVec S16 32) (v1196 : IVec S16 32) : Prop :=
  (∀ a x, ((![v1174, v1196] : Fin 2 → IVec S16 32) a x).toNat < S160x39.size a)
theorem k0_idx1638_inb : ∀ (v1174 : IVec S16 32) (v1196 : IVec S16 32) (k0_hw1638 : k0_chk1638 v1174 v1196), ∀ a x, ((![v1174, v1196] : Fin 2 → IVec S16 32) a x).toNat < S160x39.size a := fun v1174 v1196 k0_hw1638 => k0_hw1638

def k0_chk1639 (v1174 : IVec S16 32) (v1201 : IVec S16 32) : Prop :=
  (∀ a x, ((![v1174, v1201] : Fin 2 → IVec S16 32) a x).toNat < S160x39.size a)
theorem k0_idx1639_inb : ∀ (v1174 : IVec S16 32) (v1201 : IVec S16 32) (k0_hw1639 : k0_chk1639 v1174 v1201), ∀ a x, ((![v1174, v1201] : Fin 2 → IVec S16 32) a x).toNat < S160x39.size a := fun v1174 v1201 k0_hw1639 => k0_hw1639

def k0_chk1640 (v1174 : IVec S16 32) (v1209 : IVec S16 32) : Prop :=
  (∀ a x, ((![v1174, v1209] : Fin 2 → IVec S16 32) a x).toNat < S160x39.size a)
theorem k0_idx1640_inb : ∀ (v1174 : IVec S16 32) (v1209 : IVec S16 32) (k0_hw1640 : k0_chk1640 v1174 v1209), ∀ a x, ((![v1174, v1209] : Fin 2 → IVec S16 32) a x).toNat < S160x39.size a := fun v1174 v1209 k0_hw1640 => k0_hw1640

def k0_chk1641 (v1174 : IVec S16 32) (v1217 : IVec S16 32) : Prop :=
  (∀ a x, ((![v1174, v1217] : Fin 2 → IVec S16 32) a x).toNat < S160x31.size a)
theorem k0_idx1641_inb : ∀ (v1174 : IVec S16 32) (v1217 : IVec S16 32) (k0_hw1641 : k0_chk1641 v1174 v1217), ∀ a x, ((![v1174, v1217] : Fin 2 → IVec S16 32) a x).toNat < S160x31.size a := fun v1174 v1217 k0_hw1641 => k0_hw1641

def k0_chk1642 (v1174 : IVec S16 32) (v1220 : IVec S16 32) : Prop :=
  (∀ a x, ((![v1174, v1220] : Fin 2 → IVec S16 32) a x).toNat < S160x31.size a)
theorem k0_idx1642_inb : ∀ (v1174 : IVec S16 32) (v1220 : IVec S16 32) (k0_hw1642 : k0_chk1642 v1174 v1220), ∀ a x, ((![v1174, v1220] : Fin 2 → IVec S16 32) a x).toNat < S160x31.size a := fun v1174 v1220 k0_hw1642 => k0_hw1642

def k0_chk1643 (v1174 : IVec S16 32) (v1223 : IVec S16 32) : Prop :=
  (∀ a x, ((![v1174, v1223] : Fin 2 → IVec S16 32) a x).toNat < S160x39.size a)
theorem k0_idx1643_inb : ∀ (v1174 : IVec S16 32) (v1223 : IVec S16 32) (k0_hw1643 : k0_chk1643 v1174 v1223), ∀ a x, ((![v1174, v1223] : Fin 2 → IVec S16 32) a x).toNat < S160x39.size a := fun v1174 v1223 k0_hw1643 => k0_hw1643

def k0_chk1644 (v1174 : IVec S16 32) (v1231 : IVec S16 32) : Prop :=
  (∀ a x, ((![v1174, v1231] : Fin 2 → IVec S16 32) a x).toNat < S160x39.size a)
theorem k0_idx1644_inb : ∀ (v1174 : IVec S16 32) (v1231 : IVec S16 32) (k0_hw1644 : k0_chk1644 v1174 v1231), ∀ a x, ((![v1174, v1231] : Fin 2 → IVec S16 32) a x).toNat < S160x39.size a := fun v1174 v1231 k0_hw1644 => k0_hw1644

def k0_chk1645 (v1174 : IVec S16 32) (v1239 : IVec S16 32) : Prop :=
  (∀ a x, ((![v1174, v1239] : Fin 2 → IVec S16 32) a x).toNat < S160x31.size a)
theorem k0_idx1645_inb : ∀ (v1174 : IVec S16 32) (v1239 : IVec S16 32) (k0_hw1645 : k0_chk1645 v1174 v1239), ∀ a x, ((![v1174, v1239] : Fin 2 → IVec S16 32) a x).toNat < S160x31.size a := fun v1174 v1239 k0_hw1645 => k0_hw1645

def k0_chk1646 (v1174 : IVec S16 32) (v1242 : IVec S16 32) : Prop :=
  (∀ a x, ((![v1174, v1242] : Fin 2 → IVec S16 32) a x).toNat < S160x31.size a)
theorem k0_idx1646_inb : ∀ (v1174 : IVec S16 32) (v1242 : IVec S16 32) (k0_hw1646 : k0_chk1646 v1174 v1242), ∀ a x, ((![v1174, v1242] : Fin 2 → IVec S16 32) a x).toNat < S160x31.size a := fun v1174 v1242 k0_hw1646 => k0_hw1646

def k0_chk1647 (v1174 : IVec S16 32) (v1245 : IVec S16 32) : Prop :=
  (∀ a x, ((![v1174, v1245] : Fin 2 → IVec S16 32) a x).toNat < S160x39.size a)
theorem k0_idx1647_inb : ∀ (v1174 : IVec S16 32) (v1245 : IVec S16 32) (k0_hw1647 : k0_chk1647 v1174 v1245), ∀ a x, ((![v1174, v1245] : Fin 2 → IVec S16 32) a x).toNat < S160x39.size a := fun v1174 v1245 k0_hw1647 => k0_hw1647

def k0_chk1648 (v1174 : IVec S16 32) (v1253 : IVec S16 32) : Prop :=
  (∀ a x, ((![v1174, v1253] : Fin 2 → IVec S16 32) a x).toNat < S160x39.size a)
theorem k0_idx1648_inb : ∀ (v1174 : IVec S16 32) (v1253 : IVec S16 32) (k0_hw1648 : k0_chk1648 v1174 v1253), ∀ a x, ((![v1174, v1253] : Fin 2 → IVec S16 32) a x).toNat < S160x39.size a := fun v1174 v1253 k0_hw1648 => k0_hw1648

def k0_chk1649 (v1174 : IVec S16 32) (v1261 : IVec S16 32) : Prop :=
  (∀ a x, ((![v1174, v1261] : Fin 2 → IVec S16 32) a x).toNat < S160x31.size a)
theorem k0_idx1649_inb : ∀ (v1174 : IVec S16 32) (v1261 : IVec S16 32) (k0_hw1649 : k0_chk1649 v1174 v1261), ∀ a x, ((![v1174, v1261] : Fin 2 → IVec S16 32) a x).toNat < S160x31.size a := fun v1174 v1261 k0_hw1649 => k0_hw1649

def k0_chk1650 (v1174 : IVec S16 32) (v1264 : IVec S16 32) : Prop :=
  (∀ a x, ((![v1174, v1264] : Fin 2 → IVec S16 32) a x).toNat < S160x31.size a)
theorem k0_idx1650_inb : ∀ (v1174 : IVec S16 32) (v1264 : IVec S16 32) (k0_hw1650 : k0_chk1650 v1174 v1264), ∀ a x, ((![v1174, v1264] : Fin 2 → IVec S16 32) a x).toNat < S160x31.size a := fun v1174 v1264 k0_hw1650 => k0_hw1650

def k0_chk1651 (v1174 : IVec S16 32) (v1267 : IVec S16 32) : Prop :=
  (∀ a x, ((![v1174, v1267] : Fin 2 → IVec S16 32) a x).toNat < S160x39.size a)
theorem k0_idx1651_inb : ∀ (v1174 : IVec S16 32) (v1267 : IVec S16 32) (k0_hw1651 : k0_chk1651 v1174 v1267), ∀ a x, ((![v1174, v1267] : Fin 2 → IVec S16 32) a x).toNat < S160x39.size a := fun v1174 v1267 k0_hw1651 => k0_hw1651

def k0_chk1652 (v1174 : IVec S16 32) (v1275 : IVec S16 32) : Prop :=
  (∀ a x, ((![v1174, v1275] : Fin 2 → IVec S16 32) a x).toNat < S160x39.size a)
theorem k0_idx1652_inb : ∀ (v1174 : IVec S16 32) (v1275 : IVec S16 32) (k0_hw1652 : k0_chk1652 v1174 v1275), ∀ a x, ((![v1174, v1275] : Fin 2 → IVec S16 32) a x).toNat < S160x39.size a := fun v1174 v1275 k0_hw1652 => k0_hw1652

def k0_chk1653 (v1174 : IVec S16 32) (v1283 : IVec S16 32) : Prop :=
  (∀ a x, ((![v1174, v1283] : Fin 2 → IVec S16 32) a x).toNat < S160x31.size a)
theorem k0_idx1653_inb : ∀ (v1174 : IVec S16 32) (v1283 : IVec S16 32) (k0_hw1653 : k0_chk1653 v1174 v1283), ∀ a x, ((![v1174, v1283] : Fin 2 → IVec S16 32) a x).toNat < S160x31.size a := fun v1174 v1283 k0_hw1653 => k0_hw1653

def k0_chk1654 (v1174 : IVec S16 32) (v1286 : IVec S16 32) : Prop :=
  (∀ a x, ((![v1174, v1286] : Fin 2 → IVec S16 32) a x).toNat < S160x31.size a)
theorem k0_idx1654_inb : ∀ (v1174 : IVec S16 32) (v1286 : IVec S16 32) (k0_hw1654 : k0_chk1654 v1174 v1286), ∀ a x, ((![v1174, v1286] : Fin 2 → IVec S16 32) a x).toNat < S160x31.size a := fun v1174 v1286 k0_hw1654 => k0_hw1654

def k0_chk1655 (v1174 : IVec S16 32) (v1289 : IVec S16 32) : Prop :=
  (∀ a x, ((![v1174, v1289] : Fin 2 → IVec S16 32) a x).toNat < S160x39.size a)
theorem k0_idx1655_inb : ∀ (v1174 : IVec S16 32) (v1289 : IVec S16 32) (k0_hw1655 : k0_chk1655 v1174 v1289), ∀ a x, ((![v1174, v1289] : Fin 2 → IVec S16 32) a x).toNat < S160x39.size a := fun v1174 v1289 k0_hw1655 => k0_hw1655

def k0_chk1656 (v1174 : IVec S16 32) (v1297 : IVec S16 32) : Prop :=
  (∀ a x, ((![v1174, v1297] : Fin 2 → IVec S16 32) a x).toNat < S160x39.size a)
theorem k0_idx1656_inb : ∀ (v1174 : IVec S16 32) (v1297 : IVec S16 32) (k0_hw1656 : k0_chk1656 v1174 v1297), ∀ a x, ((![v1174, v1297] : Fin 2 → IVec S16 32) a x).toNat < S160x39.size a := fun v1174 v1297 k0_hw1656 => k0_hw1656

def k0_chk1657 (v1174 : IVec S16 32) (v1305 : IVec S16 32) : Prop :=
  (∀ a x, ((![v1174, v1305] : Fin 2 → IVec S16 32) a x).toNat < S160x31.size a)
theorem k0_idx1657_inb : ∀ (v1174 : IVec S16 32) (v1305 : IVec S16 32) (k0_hw1657 : k0_chk1657 v1174 v1305), ∀ a x, ((![v1174, v1305] : Fin 2 → IVec S16 32) a x).toNat < S160x31.size a := fun v1174 v1305 k0_hw1657 => k0_hw1657

def k0_chk1658 (v1174 : IVec S16 32) (v1308 : IVec S16 32) : Prop :=
  (∀ a x, ((![v1174, v1308] : Fin 2 → IVec S16 32) a x).toNat < S160x31.size a)
theorem k0_idx1658_inb : ∀ (v1174 : IVec S16 32) (v1308 : IVec S16 32) (k0_hw1658 : k0_chk1658 v1174 v1308), ∀ a x, ((![v1174, v1308] : Fin 2 → IVec S16 32) a x).toNat < S160x31.size a := fun v1174 v1308 k0_hw1658 => k0_hw1658

def k0_chk1659 (v1174 : IVec S16 32) (v1311 : IVec S16 32) : Prop :=
  (∀ a x, ((![v1174, v1311] : Fin 2 → IVec S16 32) a x).toNat < S160x39.size a)
theorem k0_idx1659_inb : ∀ (v1174 : IVec S16 32) (v1311 : IVec S16 32) (k0_hw1659 : k0_chk1659 v1174 v1311), ∀ a x, ((![v1174, v1311] : Fin 2 → IVec S16 32) a x).toNat < S160x39.size a := fun v1174 v1311 k0_hw1659 => k0_hw1659

def k0_chk1660 (v1174 : IVec S16 32) (v1315 : IVec S16 32) : Prop :=
  (∀ a x, ((![v1174, v1315] : Fin 2 → IVec S16 32) a x).toNat < S160x31.size a)
theorem k0_idx1660_inb : ∀ (v1174 : IVec S16 32) (v1315 : IVec S16 32) (k0_hw1660 : k0_chk1660 v1174 v1315), ∀ a x, ((![v1174, v1315] : Fin 2 → IVec S16 32) a x).toNat < S160x31.size a := fun v1174 v1315 k0_hw1660 => k0_hw1660

def k0_chk1661 (v1174 : IVec S16 32) (v1318 : IVec S16 32) : Prop :=
  (∀ a x, ((![v1174, v1318] : Fin 2 → IVec S16 32) a x).toNat < S160x39.size a)
theorem k0_idx1661_inb : ∀ (v1174 : IVec S16 32) (v1318 : IVec S16 32) (k0_hw1661 : k0_chk1661 v1174 v1318), ∀ a x, ((![v1174, v1318] : Fin 2 → IVec S16 32) a x).toNat < S160x39.size a := fun v1174 v1318 k0_hw1661 => k0_hw1661

def k0_chk1662 (v1174 : IVec S16 32) (v1322 : IVec S16 32) : Prop :=
  (∀ a x, ((![v1174, v1322] : Fin 2 → IVec S16 32) a x).toNat < S160x31.size a)
theorem k0_idx1662_inb : ∀ (v1174 : IVec S16 32) (v1322 : IVec S16 32) (k0_hw1662 : k0_chk1662 v1174 v1322), ∀ a x, ((![v1174, v1322] : Fin 2 → IVec S16 32) a x).toNat < S160x31.size a := fun v1174 v1322 k0_hw1662 => k0_hw1662

def k0_chk1663 (v1174 : IVec S16 32) (v1325 : IVec S16 32) : Prop :=
  (∀ a x, ((![v1174, v1325] : Fin 2 → IVec S16 32) a x).toNat < S160x39.size a)
theorem k0_idx1663_inb : ∀ (v1174 : IVec S16 32) (v1325 : IVec S16 32) (k0_hw1663 : k0_chk1663 v1174 v1325), ∀ a x, ((![v1174, v1325] : Fin 2 → IVec S16 32) a x).toNat < S160x39.size a := fun v1174 v1325 k0_hw1663 => k0_hw1663

variable {F : FTy → Type} [FloatOps F]

def k0_chk1664 (v1174 : IVec S16 32) (v1329 : IVec S16 32) : Prop :=
  (∀ a x, ((![v1174, v1329] : Fin 2 → IVec S16 32) a x).toNat < S160x31.size a)
theorem k0_idx1664_inb : ∀ (v1174 : IVec S16 32) (v1329 : IVec S16 32) (k0_hw1664 : k0_chk1664 v1174 v1329), ∀ a x, ((![v1174, v1329] : Fin 2 → IVec S16 32) a x).toNat < S160x31.size a := fun v1174 v1329 k0_hw1664 => k0_hw1664

def k0_chk1665 (v1174 : IVec S16 32) (v1332 : IVec S16 32) : Prop :=
  (∀ a x, ((![v1174, v1332] : Fin 2 → IVec S16 32) a x).toNat < S160x39.size a)
theorem k0_idx1665_inb : ∀ (v1174 : IVec S16 32) (v1332 : IVec S16 32) (k0_hw1665 : k0_chk1665 v1174 v1332), ∀ a x, ((![v1174, v1332] : Fin 2 → IVec S16 32) a x).toNat < S160x39.size a := fun v1174 v1332 k0_hw1665 => k0_hw1665

def k0_chk1666 (v1174 : IVec S16 32) (v1336 : IVec S16 32) : Prop :=
  (∀ a x, ((![v1174, v1336] : Fin 2 → IVec S16 32) a x).toNat < S160x31.size a)
theorem k0_idx1666_inb : ∀ (v1174 : IVec S16 32) (v1336 : IVec S16 32) (k0_hw1666 : k0_chk1666 v1174 v1336), ∀ a x, ((![v1174, v1336] : Fin 2 → IVec S16 32) a x).toNat < S160x31.size a := fun v1174 v1336 k0_hw1666 => k0_hw1666

def k0_chk1667 (v1174 : IVec S16 32) (v1339 : IVec S16 32) : Prop :=
  (∀ a x, ((![v1174, v1339] : Fin 2 → IVec S16 32) a x).toNat < S160x39.size a)
theorem k0_idx1667_inb : ∀ (v1174 : IVec S16 32) (v1339 : IVec S16 32) (k0_hw1667 : k0_chk1667 v1174 v1339), ∀ a x, ((![v1174, v1339] : Fin 2 → IVec S16 32) a x).toNat < S160x39.size a := fun v1174 v1339 k0_hw1667 => k0_hw1667

def k0_chk1668 (v1174 : IVec S16 32) (v1343 : IVec S16 32) : Prop :=
  (∀ a x, ((![v1174, v1343] : Fin 2 → IVec S16 32) a x).toNat < S160x31.size a)
theorem k0_idx1668_inb : ∀ (v1174 : IVec S16 32) (v1343 : IVec S16 32) (k0_hw1668 : k0_chk1668 v1174 v1343), ∀ a x, ((![v1174, v1343] : Fin 2 → IVec S16 32) a x).toNat < S160x31.size a := fun v1174 v1343 k0_hw1668 => k0_hw1668

def k0_chk1669 (v1174 : IVec S16 32) (v1346 : IVec S16 32) : Prop :=
  (∀ a x, ((![v1174, v1346] : Fin 2 → IVec S16 32) a x).toNat < S160x39.size a)
theorem k0_idx1669_inb : ∀ (v1174 : IVec S16 32) (v1346 : IVec S16 32) (k0_hw1669 : k0_chk1669 v1174 v1346), ∀ a x, ((![v1174, v1346] : Fin 2 → IVec S16 32) a x).toNat < S160x39.size a := fun v1174 v1346 k0_hw1669 => k0_hw1669

def k0_chk1670 (v1174 : IVec S16 32) (v1350 : IVec S16 32) : Prop :=
  (∀ a x, ((![v1174, v1350] : Fin 2 → IVec S16 32) a x).toNat < S160x31.size a)
theorem k0_idx1670_inb : ∀ (v1174 : IVec S16 32) (v1350 : IVec S16 32) (k0_hw1670 : k0_chk1670 v1174 v1350), ∀ a x, ((![v1174, v1350] : Fin 2 → IVec S16 32) a x).toNat < S160x31.size a := fun v1174 v1350 k0_hw1670 => k0_hw1670

def k0_chk1671 (v1174 : IVec S16 32) (v1353 : IVec S16 32) : Prop :=
  (∀ a x, ((![v1174, v1353] : Fin 2 → IVec S16 32) a x).toNat < S160x39.size a)
theorem k0_idx1671_inb : ∀ (v1174 : IVec S16 32) (v1353 : IVec S16 32) (k0_hw1671 : k0_chk1671 v1174 v1353), ∀ a x, ((![v1174, v1353] : Fin 2 → IVec S16 32) a x).toNat < S160x39.size a := fun v1174 v1353 k0_hw1671 => k0_hw1671

def k0_chk1672 (v1174 : IVec S16 32) (v1357 : IVec S16 32) : Prop :=
  (∀ a x, ((![v1174, v1357] : Fin 2 → IVec S16 32) a x).toNat < S160x31.size a)
theorem k0_idx1672_inb : ∀ (v1174 : IVec S16 32) (v1357 : IVec S16 32) (k0_hw1672 : k0_chk1672 v1174 v1357), ∀ a x, ((![v1174, v1357] : Fin 2 → IVec S16 32) a x).toNat < S160x31.size a := fun v1174 v1357 k0_hw1672 => k0_hw1672

def k0_chk1673 (v1174 : IVec S16 32) (v1360 : IVec S16 32) : Prop :=
  (∀ a x, ((![v1174, v1360] : Fin 2 → IVec S16 32) a x).toNat < S160x39.size a)
theorem k0_idx1673_inb : ∀ (v1174 : IVec S16 32) (v1360 : IVec S16 32) (k0_hw1673 : k0_chk1673 v1174 v1360), ∀ a x, ((![v1174, v1360] : Fin 2 → IVec S16 32) a x).toNat < S160x39.size a := fun v1174 v1360 k0_hw1673 => k0_hw1673

def k0_chk1674 (v1174 : IVec S16 32) (v1364 : IVec S16 32) : Prop :=
  (∀ a x, ((![v1174, v1364] : Fin 2 → IVec S16 32) a x).toNat < S160x31.size a)
theorem k0_idx1674_inb : ∀ (v1174 : IVec S16 32) (v1364 : IVec S16 32) (k0_hw1674 : k0_chk1674 v1174 v1364), ∀ a x, ((![v1174, v1364] : Fin 2 → IVec S16 32) a x).toNat < S160x31.size a := fun v1174 v1364 k0_hw1674 => k0_hw1674

def k0_chk1675 (v1174 : IVec S16 32) (v1367 : IVec S16 32) : Prop :=
  (∀ a x, ((![v1174, v1367] : Fin 2 → IVec S16 32) a x).toNat < S160x39.size a)
theorem k0_idx1675_inb : ∀ (v1174 : IVec S16 32) (v1367 : IVec S16 32) (k0_hw1675 : k0_chk1675 v1174 v1367), ∀ a x, ((![v1174, v1367] : Fin 2 → IVec S16 32) a x).toNat < S160x39.size a := fun v1174 v1367 k0_hw1675 => k0_hw1675

def k0_chk1676 (v1174 : IVec S16 32) (v1371 : IVec S16 32) : Prop :=
  (∀ a x, ((![v1174, v1371] : Fin 2 → IVec S16 32) a x).toNat < S160x31.size a)
theorem k0_idx1676_inb : ∀ (v1174 : IVec S16 32) (v1371 : IVec S16 32) (k0_hw1676 : k0_chk1676 v1174 v1371), ∀ a x, ((![v1174, v1371] : Fin 2 → IVec S16 32) a x).toNat < S160x31.size a := fun v1174 v1371 k0_hw1676 => k0_hw1676

def k0_chk1677 (v1174 : IVec S16 32) (v1374 : IVec S16 32) : Prop :=
  (∀ a x, ((![v1174, v1374] : Fin 2 → IVec S16 32) a x).toNat < S160x39.size a)
theorem k0_idx1677_inb : ∀ (v1174 : IVec S16 32) (v1374 : IVec S16 32) (k0_hw1677 : k0_chk1677 v1174 v1374), ∀ a x, ((![v1174, v1374] : Fin 2 → IVec S16 32) a x).toNat < S160x39.size a := fun v1174 v1374 k0_hw1677 => k0_hw1677

def k0_chk1678 (v1174 : IVec S16 32) (v1378 : IVec S16 32) : Prop :=
  (∀ a x, ((![v1174, v1378] : Fin 2 → IVec S16 32) a x).toNat < S160x31.size a)
theorem k0_idx1678_inb : ∀ (v1174 : IVec S16 32) (v1378 : IVec S16 32) (k0_hw1678 : k0_chk1678 v1174 v1378), ∀ a x, ((![v1174, v1378] : Fin 2 → IVec S16 32) a x).toNat < S160x31.size a := fun v1174 v1378 k0_hw1678 => k0_hw1678

def k0_chk1679 (v1174 : IVec S16 32) (v1381 : IVec S16 32) : Prop :=
  (∀ a x, ((![v1174, v1381] : Fin 2 → IVec S16 32) a x).toNat < S160x39.size a)
theorem k0_idx1679_inb : ∀ (v1174 : IVec S16 32) (v1381 : IVec S16 32) (k0_hw1679 : k0_chk1679 v1174 v1381), ∀ a x, ((![v1174, v1381] : Fin 2 → IVec S16 32) a x).toNat < S160x39.size a := fun v1174 v1381 k0_hw1679 => k0_hw1679

def k0_chk1680 (v1174 : IVec S16 32) (v1385 : IVec S16 32) : Prop :=
  (∀ a x, ((![v1174, v1385] : Fin 2 → IVec S16 32) a x).toNat < S160x31.size a)
theorem k0_idx1680_inb : ∀ (v1174 : IVec S16 32) (v1385 : IVec S16 32) (k0_hw1680 : k0_chk1680 v1174 v1385), ∀ a x, ((![v1174, v1385] : Fin 2 → IVec S16 32) a x).toNat < S160x31.size a := fun v1174 v1385 k0_hw1680 => k0_hw1680

def k0_chk1681 (v1174 : IVec S16 32) (v1388 : IVec S16 32) : Prop :=
  (∀ a x, ((![v1174, v1388] : Fin 2 → IVec S16 32) a x).toNat < S160x39.size a)
theorem k0_idx1681_inb : ∀ (v1174 : IVec S16 32) (v1388 : IVec S16 32) (k0_hw1681 : k0_chk1681 v1174 v1388), ∀ a x, ((![v1174, v1388] : Fin 2 → IVec S16 32) a x).toNat < S160x39.size a := fun v1174 v1388 k0_hw1681 => k0_hw1681

def k0_chk1682 (v1174 : IVec S16 32) (v1392 : IVec S16 32) : Prop :=
  (∀ a x, ((![v1174, v1392] : Fin 2 → IVec S16 32) a x).toNat < S160x31.size a)
theorem k0_idx1682_inb : ∀ (v1174 : IVec S16 32) (v1392 : IVec S16 32) (k0_hw1682 : k0_chk1682 v1174 v1392), ∀ a x, ((![v1174, v1392] : Fin 2 → IVec S16 32) a x).toNat < S160x31.size a := fun v1174 v1392 k0_hw1682 => k0_hw1682

def k0_chk1683 (v1174 : IVec S16 32) (v1395 : IVec S16 32) : Prop :=
  (∀ a x, ((![v1174, v1395] : Fin 2 → IVec S16 32) a x).toNat < S160x39.size a)
theorem k0_idx1683_inb : ∀ (v1174 : IVec S16 32) (v1395 : IVec S16 32) (k0_hw1683 : k0_chk1683 v1174 v1395), ∀ a x, ((![v1174, v1395] : Fin 2 → IVec S16 32) a x).toNat < S160x39.size a := fun v1174 v1395 k0_hw1683 => k0_hw1683

def k0_chk1684 (v1174 : IVec S16 32) (v1399 : IVec S16 32) : Prop :=
  (∀ a x, ((![v1174, v1399] : Fin 2 → IVec S16 32) a x).toNat < S160x31.size a)
theorem k0_idx1684_inb : ∀ (v1174 : IVec S16 32) (v1399 : IVec S16 32) (k0_hw1684 : k0_chk1684 v1174 v1399), ∀ a x, ((![v1174, v1399] : Fin 2 → IVec S16 32) a x).toNat < S160x31.size a := fun v1174 v1399 k0_hw1684 => k0_hw1684

def k0_chk1685 (v1174 : IVec S16 32) (v1402 : IVec S16 32) : Prop :=
  (∀ a x, ((![v1174, v1402] : Fin 2 → IVec S16 32) a x).toNat < S160x39.size a)
theorem k0_idx1685_inb : ∀ (v1174 : IVec S16 32) (v1402 : IVec S16 32) (k0_hw1685 : k0_chk1685 v1174 v1402), ∀ a x, ((![v1174, v1402] : Fin 2 → IVec S16 32) a x).toNat < S160x39.size a := fun v1174 v1402 k0_hw1685 => k0_hw1685

def k0_chk1686 (v1174 : IVec S16 32) (v1406 : IVec S16 32) : Prop :=
  (∀ a x, ((![v1174, v1406] : Fin 2 → IVec S16 32) a x).toNat < S160x31.size a)
theorem k0_idx1686_inb : ∀ (v1174 : IVec S16 32) (v1406 : IVec S16 32) (k0_hw1686 : k0_chk1686 v1174 v1406), ∀ a x, ((![v1174, v1406] : Fin 2 → IVec S16 32) a x).toNat < S160x31.size a := fun v1174 v1406 k0_hw1686 => k0_hw1686

def k0_chk1687 (v1174 : IVec S16 32) (v1409 : IVec S16 32) : Prop :=
  (∀ a x, ((![v1174, v1409] : Fin 2 → IVec S16 32) a x).toNat < S160x39.size a)
theorem k0_idx1687_inb : ∀ (v1174 : IVec S16 32) (v1409 : IVec S16 32) (k0_hw1687 : k0_chk1687 v1174 v1409), ∀ a x, ((![v1174, v1409] : Fin 2 → IVec S16 32) a x).toNat < S160x39.size a := fun v1174 v1409 k0_hw1687 => k0_hw1687

def k0_chk1688 (v1174 : IVec S16 32) (v1413 : IVec S16 32) : Prop :=
  (∀ a x, ((![v1174, v1413] : Fin 2 → IVec S16 32) a x).toNat < S160x31.size a)
theorem k0_idx1688_inb : ∀ (v1174 : IVec S16 32) (v1413 : IVec S16 32) (k0_hw1688 : k0_chk1688 v1174 v1413), ∀ a x, ((![v1174, v1413] : Fin 2 → IVec S16 32) a x).toNat < S160x31.size a := fun v1174 v1413 k0_hw1688 => k0_hw1688

def k0_chk1689 (v1174 : IVec S16 32) (v1416 : IVec S16 32) : Prop :=
  (∀ a x, ((![v1174, v1416] : Fin 2 → IVec S16 32) a x).toNat < S160x39.size a)
theorem k0_idx1689_inb : ∀ (v1174 : IVec S16 32) (v1416 : IVec S16 32) (k0_hw1689 : k0_chk1689 v1174 v1416), ∀ a x, ((![v1174, v1416] : Fin 2 → IVec S16 32) a x).toNat < S160x39.size a := fun v1174 v1416 k0_hw1689 => k0_hw1689

def k0_chk1690 (v1174 : IVec S16 32) (v1420 : IVec S16 32) : Prop :=
  (∀ a x, ((![v1174, v1420] : Fin 2 → IVec S16 32) a x).toNat < S160x31.size a)
theorem k0_idx1690_inb : ∀ (v1174 : IVec S16 32) (v1420 : IVec S16 32) (k0_hw1690 : k0_chk1690 v1174 v1420), ∀ a x, ((![v1174, v1420] : Fin 2 → IVec S16 32) a x).toNat < S160x31.size a := fun v1174 v1420 k0_hw1690 => k0_hw1690

def k0_chk1691 (v1174 : IVec S16 32) (v1423 : IVec S16 32) : Prop :=
  (∀ a x, ((![v1174, v1423] : Fin 2 → IVec S16 32) a x).toNat < S160x39.size a)
theorem k0_idx1691_inb : ∀ (v1174 : IVec S16 32) (v1423 : IVec S16 32) (k0_hw1691 : k0_chk1691 v1174 v1423), ∀ a x, ((![v1174, v1423] : Fin 2 → IVec S16 32) a x).toNat < S160x39.size a := fun v1174 v1423 k0_hw1691 => k0_hw1691

def k0_chk1692 (v1174 : IVec S16 32) (v1427 : IVec S16 32) : Prop :=
  (∀ a x, ((![v1174, v1427] : Fin 2 → IVec S16 32) a x).toNat < S160x31.size a)
theorem k0_idx1692_inb : ∀ (v1174 : IVec S16 32) (v1427 : IVec S16 32) (k0_hw1692 : k0_chk1692 v1174 v1427), ∀ a x, ((![v1174, v1427] : Fin 2 → IVec S16 32) a x).toNat < S160x31.size a := fun v1174 v1427 k0_hw1692 => k0_hw1692

def k0_chk1693 (v1174 : IVec S16 32) (v1430 : IVec S16 32) : Prop :=
  (∀ a x, ((![v1174, v1430] : Fin 2 → IVec S16 32) a x).toNat < S160x39.size a)
theorem k0_idx1693_inb : ∀ (v1174 : IVec S16 32) (v1430 : IVec S16 32) (k0_hw1693 : k0_chk1693 v1174 v1430), ∀ a x, ((![v1174, v1430] : Fin 2 → IVec S16 32) a x).toNat < S160x39.size a := fun v1174 v1430 k0_hw1693 => k0_hw1693

def k0_chk1694 (v1174 : IVec S16 32) (v1434 : IVec S16 32) : Prop :=
  (∀ a x, ((![v1174, v1434] : Fin 2 → IVec S16 32) a x).toNat < S160x31.size a)
theorem k0_idx1694_inb : ∀ (v1174 : IVec S16 32) (v1434 : IVec S16 32) (k0_hw1694 : k0_chk1694 v1174 v1434), ∀ a x, ((![v1174, v1434] : Fin 2 → IVec S16 32) a x).toNat < S160x31.size a := fun v1174 v1434 k0_hw1694 => k0_hw1694

def k0_chk1695 (v1174 : IVec S16 32) (v1437 : IVec S16 32) : Prop :=
  (∀ a x, ((![v1174, v1437] : Fin 2 → IVec S16 32) a x).toNat < S160x39.size a)
theorem k0_idx1695_inb : ∀ (v1174 : IVec S16 32) (v1437 : IVec S16 32) (k0_hw1695 : k0_chk1695 v1174 v1437), ∀ a x, ((![v1174, v1437] : Fin 2 → IVec S16 32) a x).toNat < S160x39.size a := fun v1174 v1437 k0_hw1695 => k0_hw1695

def k0_chk1696 (v1174 : IVec S16 32) (v1441 : IVec S16 32) : Prop :=
  (∀ a x, ((![v1174, v1441] : Fin 2 → IVec S16 32) a x).toNat < S160x31.size a)
theorem k0_idx1696_inb : ∀ (v1174 : IVec S16 32) (v1441 : IVec S16 32) (k0_hw1696 : k0_chk1696 v1174 v1441), ∀ a x, ((![v1174, v1441] : Fin 2 → IVec S16 32) a x).toNat < S160x31.size a := fun v1174 v1441 k0_hw1696 => k0_hw1696

def k0_chk1697 (v1174 : IVec S16 32) (v1444 : IVec S16 32) : Prop :=
  (∀ a x, ((![v1174, v1444] : Fin 2 → IVec S16 32) a x).toNat < S160x39.size a)
theorem k0_idx1697_inb : ∀ (v1174 : IVec S16 32) (v1444 : IVec S16 32) (k0_hw1697 : k0_chk1697 v1174 v1444), ∀ a x, ((![v1174, v1444] : Fin 2 → IVec S16 32) a x).toNat < S160x39.size a := fun v1174 v1444 k0_hw1697 => k0_hw1697

def k0_chk1698 (v1174 : IVec S16 32) (v1448 : IVec S16 32) : Prop :=
  (∀ a x, ((![v1174, v1448] : Fin 2 → IVec S16 32) a x).toNat < S160x31.size a)
theorem k0_idx1698_inb : ∀ (v1174 : IVec S16 32) (v1448 : IVec S16 32) (k0_hw1698 : k0_chk1698 v1174 v1448), ∀ a x, ((![v1174, v1448] : Fin 2 → IVec S16 32) a x).toNat < S160x31.size a := fun v1174 v1448 k0_hw1698 => k0_hw1698

def k0_chk1699 (v1174 : IVec S16 32) (v1451 : IVec S16 32) : Prop :=
  (∀ a x, ((![v1174, v1451] : Fin 2 → IVec S16 32) a x).toNat < S160x39.size a)
theorem k0_idx1699_inb : ∀ (v1174 : IVec S16 32) (v1451 : IVec S16 32) (k0_hw1699 : k0_chk1699 v1174 v1451), ∀ a x, ((![v1174, v1451] : Fin 2 → IVec S16 32) a x).toNat < S160x39.size a := fun v1174 v1451 k0_hw1699 => k0_hw1699

def k0_chk1700 (v1174 : IVec S16 32) (v1455 : IVec S16 32) : Prop :=
  (∀ a x, ((![v1174, v1455] : Fin 2 → IVec S16 32) a x).toNat < S160x31.size a)
theorem k0_idx1700_inb : ∀ (v1174 : IVec S16 32) (v1455 : IVec S16 32) (k0_hw1700 : k0_chk1700 v1174 v1455), ∀ a x, ((![v1174, v1455] : Fin 2 → IVec S16 32) a x).toNat < S160x31.size a := fun v1174 v1455 k0_hw1700 => k0_hw1700

def k0_chk1701 (v1459 : IVec S16 32) (v1460 : IVec S16 32) : Prop :=
  (∀ a x, ((![v1459, v1460] : Fin 2 → IVec S16 32) a x).toNat < S160x39.size a)
theorem k0_idx1701_inb : ∀ (v1459 : IVec S16 32) (v1460 : IVec S16 32) (k0_hw1701 : k0_chk1701 v1459 v1460), ∀ a x, ((![v1459, v1460] : Fin 2 → IVec S16 32) a x).toNat < S160x39.size a := fun v1459 v1460 k0_hw1701 => k0_hw1701

def k0_chk1702 (v1459 : IVec S16 32) (v1464 : IVec S16 32) : Prop :=
  (∀ a x, ((![v1459, v1464] : Fin 2 → IVec S16 32) a x).toNat < S160x39.size a)
theorem k0_idx1702_inb : ∀ (v1459 : IVec S16 32) (v1464 : IVec S16 32) (k0_hw1702 : k0_chk1702 v1459 v1464), ∀ a x, ((![v1459, v1464] : Fin 2 → IVec S16 32) a x).toNat < S160x39.size a := fun v1459 v1464 k0_hw1702 => k0_hw1702

def k0_chk1703 (v1459 : IVec S16 32) (v1468 : IVec S16 32) : Prop :=
  (∀ a x, ((![v1459, v1468] : Fin 2 → IVec S16 32) a x).toNat < S160x39.size a)
theorem k0_idx1703_inb : ∀ (v1459 : IVec S16 32) (v1468 : IVec S16 32) (k0_hw1703 : k0_chk1703 v1459 v1468), ∀ a x, ((![v1459, v1468] : Fin 2 → IVec S16 32) a x).toNat < S160x39.size a := fun v1459 v1468 k0_hw1703 => k0_hw1703

def k0_chk1704 (v1459 : IVec S16 32) (v1472 : IVec S16 32) : Prop :=
  (∀ a x, ((![v1459, v1472] : Fin 2 → IVec S16 32) a x).toNat < S160x39.size a)
theorem k0_idx1704_inb : ∀ (v1459 : IVec S16 32) (v1472 : IVec S16 32) (k0_hw1704 : k0_chk1704 v1459 v1472), ∀ a x, ((![v1459, v1472] : Fin 2 → IVec S16 32) a x).toNat < S160x39.size a := fun v1459 v1472 k0_hw1704 => k0_hw1704

def k0_chk1705 (v1459 : IVec S16 32) (v1477 : IVec S16 32) : Prop :=
  (∀ a x, ((![v1459, v1477] : Fin 2 → IVec S16 32) a x).toNat < S160x39.size a)
theorem k0_idx1705_inb : ∀ (v1459 : IVec S16 32) (v1477 : IVec S16 32) (k0_hw1705 : k0_chk1705 v1459 v1477), ∀ a x, ((![v1459, v1477] : Fin 2 → IVec S16 32) a x).toNat < S160x39.size a := fun v1459 v1477 k0_hw1705 => k0_hw1705

def k0_chk1706 (v1459 : IVec S16 32) (v1481 : IVec S16 32) : Prop :=
  (∀ a x, ((![v1459, v1481] : Fin 2 → IVec S16 32) a x).toNat < S160x39.size a)
theorem k0_idx1706_inb : ∀ (v1459 : IVec S16 32) (v1481 : IVec S16 32) (k0_hw1706 : k0_chk1706 v1459 v1481), ∀ a x, ((![v1459, v1481] : Fin 2 → IVec S16 32) a x).toNat < S160x39.size a := fun v1459 v1481 k0_hw1706 => k0_hw1706

def k0_chk1707 (v1459 : IVec S16 32) (v1486 : IVec S16 32) : Prop :=
  (∀ a x, ((![v1459, v1486] : Fin 2 → IVec S16 32) a x).toNat < S160x39.size a)
theorem k0_idx1707_inb : ∀ (v1459 : IVec S16 32) (v1486 : IVec S16 32) (k0_hw1707 : k0_chk1707 v1459 v1486), ∀ a x, ((![v1459, v1486] : Fin 2 → IVec S16 32) a x).toNat < S160x39.size a := fun v1459 v1486 k0_hw1707 => k0_hw1707

def k0_chk1708 (v1459 : IVec S16 32) (v1494 : IVec S16 32) : Prop :=
  (∀ a x, ((![v1459, v1494] : Fin 2 → IVec S16 32) a x).toNat < S160x39.size a)
theorem k0_idx1708_inb : ∀ (v1459 : IVec S16 32) (v1494 : IVec S16 32) (k0_hw1708 : k0_chk1708 v1459 v1494), ∀ a x, ((![v1459, v1494] : Fin 2 → IVec S16 32) a x).toNat < S160x39.size a := fun v1459 v1494 k0_hw1708 => k0_hw1708

def k0_chk1709 (v1459 : IVec S16 32) (v1502 : IVec S16 32) : Prop :=
  (∀ a x, ((![v1459, v1502] : Fin 2 → IVec S16 32) a x).toNat < S160x31.size a)
theorem k0_idx1709_inb : ∀ (v1459 : IVec S16 32) (v1502 : IVec S16 32) (k0_hw1709 : k0_chk1709 v1459 v1502), ∀ a x, ((![v1459, v1502] : Fin 2 → IVec S16 32) a x).toNat < S160x31.size a := fun v1459 v1502 k0_hw1709 => k0_hw1709

def k0_chk1710 (v1459 : IVec S16 32) (v1505 : IVec S16 32) : Prop :=
  (∀ a x, ((![v1459, v1505] : Fin 2 → IVec S16 32) a x).toNat < S160x31.size a)
theorem k0_idx1710_inb : ∀ (v1459 : IVec S16 32) (v1505 : IVec S16 32) (k0_hw1710 : k0_chk1710 v1459 v1505), ∀ a x, ((![v1459, v1505] : Fin 2 → IVec S16 32) a x).toNat < S160x31.size a := fun v1459 v1505 k0_hw1710 => k0_hw1710

def k0_chk1711 (v1459 : IVec S16 32) (v1508 : IVec S16 32) : Prop :=
  (∀ a x, ((![v1459, v1508] : Fin 2 → IVec S16 32) a x).toNat < S160x39.size a)
theorem k0_idx1711_inb : ∀ (v1459 : IVec S16 32) (v1508 : IVec S16 32) (k0_hw1711 : k0_chk1711 v1459 v1508), ∀ a x, ((![v1459, v1508] : Fin 2 → IVec S16 32) a x).toNat < S160x39.size a := fun v1459 v1508 k0_hw1711 => k0_hw1711

def k0_chk1712 (v1459 : IVec S16 32) (v1516 : IVec S16 32) : Prop :=
  (∀ a x, ((![v1459, v1516] : Fin 2 → IVec S16 32) a x).toNat < S160x39.size a)
theorem k0_idx1712_inb : ∀ (v1459 : IVec S16 32) (v1516 : IVec S16 32) (k0_hw1712 : k0_chk1712 v1459 v1516), ∀ a x, ((![v1459, v1516] : Fin 2 → IVec S16 32) a x).toNat < S160x39.size a := fun v1459 v1516 k0_hw1712 => k0_hw1712

def k0_chk1713 (v1459 : IVec S16 32) (v1524 : IVec S16 32) : Prop :=
  (∀ a x, ((![v1459, v1524] : Fin 2 → IVec S16 32) a x).toNat < S160x31.size a)
theorem k0_idx1713_inb : ∀ (v1459 : IVec S16 32) (v1524 : IVec S16 32) (k0_hw1713 : k0_chk1713 v1459 v1524), ∀ a x, ((![v1459, v1524] : Fin 2 → IVec S16 32) a x).toNat < S160x31.size a := fun v1459 v1524 k0_hw1713 => k0_hw1713

def k0_chk1714 (v1459 : IVec S16 32) (v1527 : IVec S16 32) : Prop :=
  (∀ a x, ((![v1459, v1527] : Fin 2 → IVec S16 32) a x).toNat < S160x31.size a)
theorem k0_idx1714_inb : ∀ (v1459 : IVec S16 32) (v1527 : IVec S16 32) (k0_hw1714 : k0_chk1714 v1459 v1527), ∀ a x, ((![v1459, v1527] : Fin 2 → IVec S16 32) a x).toNat < S160x31.size a := fun v1459 v1527 k0_hw1714 => k0_hw1714

def k0_chk1715 (v1459 : IVec S16 32) (v1530 : IVec S16 32) : Prop :=
  (∀ a x, ((![v1459, v1530] : Fin 2 → IVec S16 32) a x).toNat < S160x39.size a)
theorem k0_idx1715_inb : ∀ (v1459 : IVec S16 32) (v1530 : IVec S16 32) (k0_hw1715 : k0_chk1715 v1459 v1530), ∀ a x, ((![v1459, v1530] : Fin 2 → IVec S16 32) a x).toNat < S160x39.size a := fun v1459 v1530 k0_hw1715 => k0_hw1715

def k0_chk1716 (v1459 : IVec S16 32) (v1538 : IVec S16 32) : Prop :=
  (∀ a x, ((![v1459, v1538] : Fin 2 → IVec S16 32) a x).toNat < S160x39.size a)
theorem k0_idx1716_inb : ∀ (v1459 : IVec S16 32) (v1538 : IVec S16 32) (k0_hw1716 : k0_chk1716 v1459 v1538), ∀ a x, ((![v1459, v1538] : Fin 2 → IVec S16 32) a x).toNat < S160x39.size a := fun v1459 v1538 k0_hw1716 => k0_hw1716

def k0_chk1717 (v1459 : IVec S16 32) (v1546 : IVec S16 32) : Prop :=
  (∀ a x, ((![v1459, v1546] : Fin 2 → IVec S16 32) a x).toNat < S160x31.size a)
theorem k0_idx1717_inb : ∀ (v1459 : IVec S16 32) (v1546 : IVec S16 32) (k0_hw1717 : k0_chk1717 v1459 v1546), ∀ a x, ((![v1459, v1546] : Fin 2 → IVec S16 32) a x).toNat < S160x31.size a := fun v1459 v1546 k0_hw1717 => k0_hw1717

def k0_chk1718 (v1459 : IVec S16 32) (v1549 : IVec S16 32) : Prop :=
  (∀ a x, ((![v1459, v1549] : Fin 2 → IVec S16 32) a x).toNat < S160x31.size a)
theorem k0_idx1718_inb : ∀ (v1459 : IVec S16 32) (v1549 : IVec S16 32) (k0_hw1718 : k0_chk1718 v1459 v1549), ∀ a x, ((![v1459, v1549] : Fin 2 → IVec S16 32) a x).toNat < S160x31.size a := fun v1459 v1549 k0_hw1718 => k0_hw1718

def k0_chk1719 (v1459 : IVec S16 32) (v1552 : IVec S16 32) : Prop :=
  (∀ a x, ((![v1459, v1552] : Fin 2 → IVec S16 32) a x).toNat < S160x39.size a)
theorem k0_idx1719_inb : ∀ (v1459 : IVec S16 32) (v1552 : IVec S16 32) (k0_hw1719 : k0_chk1719 v1459 v1552), ∀ a x, ((![v1459, v1552] : Fin 2 → IVec S16 32) a x).toNat < S160x39.size a := fun v1459 v1552 k0_hw1719 => k0_hw1719

def k0_chk1720 (v1459 : IVec S16 32) (v1560 : IVec S16 32) : Prop :=
  (∀ a x, ((![v1459, v1560] : Fin 2 → IVec S16 32) a x).toNat < S160x39.size a)
theorem k0_idx1720_inb : ∀ (v1459 : IVec S16 32) (v1560 : IVec S16 32) (k0_hw1720 : k0_chk1720 v1459 v1560), ∀ a x, ((![v1459, v1560] : Fin 2 → IVec S16 32) a x).toNat < S160x39.size a := fun v1459 v1560 k0_hw1720 => k0_hw1720

def k0_chk1721 (v1459 : IVec S16 32) (v1568 : IVec S16 32) : Prop :=
  (∀ a x, ((![v1459, v1568] : Fin 2 → IVec S16 32) a x).toNat < S160x31.size a)
theorem k0_idx1721_inb : ∀ (v1459 : IVec S16 32) (v1568 : IVec S16 32) (k0_hw1721 : k0_chk1721 v1459 v1568), ∀ a x, ((![v1459, v1568] : Fin 2 → IVec S16 32) a x).toNat < S160x31.size a := fun v1459 v1568 k0_hw1721 => k0_hw1721

def k0_chk1722 (v1459 : IVec S16 32) (v1571 : IVec S16 32) : Prop :=
  (∀ a x, ((![v1459, v1571] : Fin 2 → IVec S16 32) a x).toNat < S160x31.size a)
theorem k0_idx1722_inb : ∀ (v1459 : IVec S16 32) (v1571 : IVec S16 32) (k0_hw1722 : k0_chk1722 v1459 v1571), ∀ a x, ((![v1459, v1571] : Fin 2 → IVec S16 32) a x).toNat < S160x31.size a := fun v1459 v1571 k0_hw1722 => k0_hw1722

def k0_chk1723 (v1459 : IVec S16 32) (v1574 : IVec S16 32) : Prop :=
  (∀ a x, ((![v1459, v1574] : Fin 2 → IVec S16 32) a x).toNat < S160x39.size a)
theorem k0_idx1723_inb : ∀ (v1459 : IVec S16 32) (v1574 : IVec S16 32) (k0_hw1723 : k0_chk1723 v1459 v1574), ∀ a x, ((![v1459, v1574] : Fin 2 → IVec S16 32) a x).toNat < S160x39.size a := fun v1459 v1574 k0_hw1723 => k0_hw1723

def k0_chk1724 (v1459 : IVec S16 32) (v1582 : IVec S16 32) : Prop :=
  (∀ a x, ((![v1459, v1582] : Fin 2 → IVec S16 32) a x).toNat < S160x39.size a)
theorem k0_idx1724_inb : ∀ (v1459 : IVec S16 32) (v1582 : IVec S16 32) (k0_hw1724 : k0_chk1724 v1459 v1582), ∀ a x, ((![v1459, v1582] : Fin 2 → IVec S16 32) a x).toNat < S160x39.size a := fun v1459 v1582 k0_hw1724 => k0_hw1724

def k0_chk1725 (v1459 : IVec S16 32) (v1590 : IVec S16 32) : Prop :=
  (∀ a x, ((![v1459, v1590] : Fin 2 → IVec S16 32) a x).toNat < S160x31.size a)
theorem k0_idx1725_inb : ∀ (v1459 : IVec S16 32) (v1590 : IVec S16 32) (k0_hw1725 : k0_chk1725 v1459 v1590), ∀ a x, ((![v1459, v1590] : Fin 2 → IVec S16 32) a x).toNat < S160x31.size a := fun v1459 v1590 k0_hw1725 => k0_hw1725

def k0_chk1726 (v1459 : IVec S16 32) (v1593 : IVec S16 32) : Prop :=
  (∀ a x, ((![v1459, v1593] : Fin 2 → IVec S16 32) a x).toNat < S160x31.size a)
theorem k0_idx1726_inb : ∀ (v1459 : IVec S16 32) (v1593 : IVec S16 32) (k0_hw1726 : k0_chk1726 v1459 v1593), ∀ a x, ((![v1459, v1593] : Fin 2 → IVec S16 32) a x).toNat < S160x31.size a := fun v1459 v1593 k0_hw1726 => k0_hw1726

def k0_chk1727 (v1459 : IVec S16 32) (v1596 : IVec S16 32) : Prop :=
  (∀ a x, ((![v1459, v1596] : Fin 2 → IVec S16 32) a x).toNat < S160x39.size a)
theorem k0_idx1727_inb : ∀ (v1459 : IVec S16 32) (v1596 : IVec S16 32) (k0_hw1727 : k0_chk1727 v1459 v1596), ∀ a x, ((![v1459, v1596] : Fin 2 → IVec S16 32) a x).toNat < S160x39.size a := fun v1459 v1596 k0_hw1727 => k0_hw1727

def k0_chk1728 (v1459 : IVec S16 32) (v1600 : IVec S16 32) : Prop :=
  (∀ a x, ((![v1459, v1600] : Fin 2 → IVec S16 32) a x).toNat < S160x31.size a)
theorem k0_idx1728_inb : ∀ (v1459 : IVec S16 32) (v1600 : IVec S16 32) (k0_hw1728 : k0_chk1728 v1459 v1600), ∀ a x, ((![v1459, v1600] : Fin 2 → IVec S16 32) a x).toNat < S160x31.size a := fun v1459 v1600 k0_hw1728 => k0_hw1728

def k0_chk1729 (v1459 : IVec S16 32) (v1603 : IVec S16 32) : Prop :=
  (∀ a x, ((![v1459, v1603] : Fin 2 → IVec S16 32) a x).toNat < S160x39.size a)
theorem k0_idx1729_inb : ∀ (v1459 : IVec S16 32) (v1603 : IVec S16 32) (k0_hw1729 : k0_chk1729 v1459 v1603), ∀ a x, ((![v1459, v1603] : Fin 2 → IVec S16 32) a x).toNat < S160x39.size a := fun v1459 v1603 k0_hw1729 => k0_hw1729

def k0_chk1730 (v1459 : IVec S16 32) (v1607 : IVec S16 32) : Prop :=
  (∀ a x, ((![v1459, v1607] : Fin 2 → IVec S16 32) a x).toNat < S160x31.size a)
theorem k0_idx1730_inb : ∀ (v1459 : IVec S16 32) (v1607 : IVec S16 32) (k0_hw1730 : k0_chk1730 v1459 v1607), ∀ a x, ((![v1459, v1607] : Fin 2 → IVec S16 32) a x).toNat < S160x31.size a := fun v1459 v1607 k0_hw1730 => k0_hw1730

def k0_chk1731 (v1459 : IVec S16 32) (v1610 : IVec S16 32) : Prop :=
  (∀ a x, ((![v1459, v1610] : Fin 2 → IVec S16 32) a x).toNat < S160x39.size a)
theorem k0_idx1731_inb : ∀ (v1459 : IVec S16 32) (v1610 : IVec S16 32) (k0_hw1731 : k0_chk1731 v1459 v1610), ∀ a x, ((![v1459, v1610] : Fin 2 → IVec S16 32) a x).toNat < S160x39.size a := fun v1459 v1610 k0_hw1731 => k0_hw1731

def k0_chk1732 (v1459 : IVec S16 32) (v1614 : IVec S16 32) : Prop :=
  (∀ a x, ((![v1459, v1614] : Fin 2 → IVec S16 32) a x).toNat < S160x31.size a)
theorem k0_idx1732_inb : ∀ (v1459 : IVec S16 32) (v1614 : IVec S16 32) (k0_hw1732 : k0_chk1732 v1459 v1614), ∀ a x, ((![v1459, v1614] : Fin 2 → IVec S16 32) a x).toNat < S160x31.size a := fun v1459 v1614 k0_hw1732 => k0_hw1732

def k0_chk1733 (v1459 : IVec S16 32) (v1617 : IVec S16 32) : Prop :=
  (∀ a x, ((![v1459, v1617] : Fin 2 → IVec S16 32) a x).toNat < S160x39.size a)
theorem k0_idx1733_inb : ∀ (v1459 : IVec S16 32) (v1617 : IVec S16 32) (k0_hw1733 : k0_chk1733 v1459 v1617), ∀ a x, ((![v1459, v1617] : Fin 2 → IVec S16 32) a x).toNat < S160x39.size a := fun v1459 v1617 k0_hw1733 => k0_hw1733

def k0_chk1734 (v1459 : IVec S16 32) (v1621 : IVec S16 32) : Prop :=
  (∀ a x, ((![v1459, v1621] : Fin 2 → IVec S16 32) a x).toNat < S160x31.size a)
theorem k0_idx1734_inb : ∀ (v1459 : IVec S16 32) (v1621 : IVec S16 32) (k0_hw1734 : k0_chk1734 v1459 v1621), ∀ a x, ((![v1459, v1621] : Fin 2 → IVec S16 32) a x).toNat < S160x31.size a := fun v1459 v1621 k0_hw1734 => k0_hw1734

def k0_chk1735 (v1459 : IVec S16 32) (v1624 : IVec S16 32) : Prop :=
  (∀ a x, ((![v1459, v1624] : Fin 2 → IVec S16 32) a x).toNat < S160x39.size a)
theorem k0_idx1735_inb : ∀ (v1459 : IVec S16 32) (v1624 : IVec S16 32) (k0_hw1735 : k0_chk1735 v1459 v1624), ∀ a x, ((![v1459, v1624] : Fin 2 → IVec S16 32) a x).toNat < S160x39.size a := fun v1459 v1624 k0_hw1735 => k0_hw1735

def k0_chk1736 (v1459 : IVec S16 32) (v1628 : IVec S16 32) : Prop :=
  (∀ a x, ((![v1459, v1628] : Fin 2 → IVec S16 32) a x).toNat < S160x31.size a)
theorem k0_idx1736_inb : ∀ (v1459 : IVec S16 32) (v1628 : IVec S16 32) (k0_hw1736 : k0_chk1736 v1459 v1628), ∀ a x, ((![v1459, v1628] : Fin 2 → IVec S16 32) a x).toNat < S160x31.size a := fun v1459 v1628 k0_hw1736 => k0_hw1736

def k0_chk1737 (v1459 : IVec S16 32) (v1631 : IVec S16 32) : Prop :=
  (∀ a x, ((![v1459, v1631] : Fin 2 → IVec S16 32) a x).toNat < S160x39.size a)
theorem k0_idx1737_inb : ∀ (v1459 : IVec S16 32) (v1631 : IVec S16 32) (k0_hw1737 : k0_chk1737 v1459 v1631), ∀ a x, ((![v1459, v1631] : Fin 2 → IVec S16 32) a x).toNat < S160x39.size a := fun v1459 v1631 k0_hw1737 => k0_hw1737

def k0_chk1738 (v1459 : IVec S16 32) (v1635 : IVec S16 32) : Prop :=
  (∀ a x, ((![v1459, v1635] : Fin 2 → IVec S16 32) a x).toNat < S160x31.size a)
theorem k0_idx1738_inb : ∀ (v1459 : IVec S16 32) (v1635 : IVec S16 32) (k0_hw1738 : k0_chk1738 v1459 v1635), ∀ a x, ((![v1459, v1635] : Fin 2 → IVec S16 32) a x).toNat < S160x31.size a := fun v1459 v1635 k0_hw1738 => k0_hw1738

def k0_chk1739 (v1459 : IVec S16 32) (v1638 : IVec S16 32) : Prop :=
  (∀ a x, ((![v1459, v1638] : Fin 2 → IVec S16 32) a x).toNat < S160x39.size a)
theorem k0_idx1739_inb : ∀ (v1459 : IVec S16 32) (v1638 : IVec S16 32) (k0_hw1739 : k0_chk1739 v1459 v1638), ∀ a x, ((![v1459, v1638] : Fin 2 → IVec S16 32) a x).toNat < S160x39.size a := fun v1459 v1638 k0_hw1739 => k0_hw1739

def k0_chk1740 (v1459 : IVec S16 32) (v1642 : IVec S16 32) : Prop :=
  (∀ a x, ((![v1459, v1642] : Fin 2 → IVec S16 32) a x).toNat < S160x31.size a)
theorem k0_idx1740_inb : ∀ (v1459 : IVec S16 32) (v1642 : IVec S16 32) (k0_hw1740 : k0_chk1740 v1459 v1642), ∀ a x, ((![v1459, v1642] : Fin 2 → IVec S16 32) a x).toNat < S160x31.size a := fun v1459 v1642 k0_hw1740 => k0_hw1740

def k0_chk1741 (v1459 : IVec S16 32) (v1645 : IVec S16 32) : Prop :=
  (∀ a x, ((![v1459, v1645] : Fin 2 → IVec S16 32) a x).toNat < S160x39.size a)
theorem k0_idx1741_inb : ∀ (v1459 : IVec S16 32) (v1645 : IVec S16 32) (k0_hw1741 : k0_chk1741 v1459 v1645), ∀ a x, ((![v1459, v1645] : Fin 2 → IVec S16 32) a x).toNat < S160x39.size a := fun v1459 v1645 k0_hw1741 => k0_hw1741

def k0_chk1742 (v1459 : IVec S16 32) (v1649 : IVec S16 32) : Prop :=
  (∀ a x, ((![v1459, v1649] : Fin 2 → IVec S16 32) a x).toNat < S160x31.size a)
theorem k0_idx1742_inb : ∀ (v1459 : IVec S16 32) (v1649 : IVec S16 32) (k0_hw1742 : k0_chk1742 v1459 v1649), ∀ a x, ((![v1459, v1649] : Fin 2 → IVec S16 32) a x).toNat < S160x31.size a := fun v1459 v1649 k0_hw1742 => k0_hw1742

def k0_chk1743 (v1459 : IVec S16 32) (v1652 : IVec S16 32) : Prop :=
  (∀ a x, ((![v1459, v1652] : Fin 2 → IVec S16 32) a x).toNat < S160x39.size a)
theorem k0_idx1743_inb : ∀ (v1459 : IVec S16 32) (v1652 : IVec S16 32) (k0_hw1743 : k0_chk1743 v1459 v1652), ∀ a x, ((![v1459, v1652] : Fin 2 → IVec S16 32) a x).toNat < S160x39.size a := fun v1459 v1652 k0_hw1743 => k0_hw1743

def k0_chk1744 (v1459 : IVec S16 32) (v1656 : IVec S16 32) : Prop :=
  (∀ a x, ((![v1459, v1656] : Fin 2 → IVec S16 32) a x).toNat < S160x31.size a)
theorem k0_idx1744_inb : ∀ (v1459 : IVec S16 32) (v1656 : IVec S16 32) (k0_hw1744 : k0_chk1744 v1459 v1656), ∀ a x, ((![v1459, v1656] : Fin 2 → IVec S16 32) a x).toNat < S160x31.size a := fun v1459 v1656 k0_hw1744 => k0_hw1744

def k0_chk1745 (v1459 : IVec S16 32) (v1659 : IVec S16 32) : Prop :=
  (∀ a x, ((![v1459, v1659] : Fin 2 → IVec S16 32) a x).toNat < S160x39.size a)
theorem k0_idx1745_inb : ∀ (v1459 : IVec S16 32) (v1659 : IVec S16 32) (k0_hw1745 : k0_chk1745 v1459 v1659), ∀ a x, ((![v1459, v1659] : Fin 2 → IVec S16 32) a x).toNat < S160x39.size a := fun v1459 v1659 k0_hw1745 => k0_hw1745

def k0_chk1746 (v1459 : IVec S16 32) (v1663 : IVec S16 32) : Prop :=
  (∀ a x, ((![v1459, v1663] : Fin 2 → IVec S16 32) a x).toNat < S160x31.size a)
theorem k0_idx1746_inb : ∀ (v1459 : IVec S16 32) (v1663 : IVec S16 32) (k0_hw1746 : k0_chk1746 v1459 v1663), ∀ a x, ((![v1459, v1663] : Fin 2 → IVec S16 32) a x).toNat < S160x31.size a := fun v1459 v1663 k0_hw1746 => k0_hw1746

def k0_chk1747 (v1459 : IVec S16 32) (v1666 : IVec S16 32) : Prop :=
  (∀ a x, ((![v1459, v1666] : Fin 2 → IVec S16 32) a x).toNat < S160x39.size a)
theorem k0_idx1747_inb : ∀ (v1459 : IVec S16 32) (v1666 : IVec S16 32) (k0_hw1747 : k0_chk1747 v1459 v1666), ∀ a x, ((![v1459, v1666] : Fin 2 → IVec S16 32) a x).toNat < S160x39.size a := fun v1459 v1666 k0_hw1747 => k0_hw1747

def k0_chk1748 (v1459 : IVec S16 32) (v1670 : IVec S16 32) : Prop :=
  (∀ a x, ((![v1459, v1670] : Fin 2 → IVec S16 32) a x).toNat < S160x31.size a)
theorem k0_idx1748_inb : ∀ (v1459 : IVec S16 32) (v1670 : IVec S16 32) (k0_hw1748 : k0_chk1748 v1459 v1670), ∀ a x, ((![v1459, v1670] : Fin 2 → IVec S16 32) a x).toNat < S160x31.size a := fun v1459 v1670 k0_hw1748 => k0_hw1748

def k0_chk1749 (v1459 : IVec S16 32) (v1673 : IVec S16 32) : Prop :=
  (∀ a x, ((![v1459, v1673] : Fin 2 → IVec S16 32) a x).toNat < S160x39.size a)
theorem k0_idx1749_inb : ∀ (v1459 : IVec S16 32) (v1673 : IVec S16 32) (k0_hw1749 : k0_chk1749 v1459 v1673), ∀ a x, ((![v1459, v1673] : Fin 2 → IVec S16 32) a x).toNat < S160x39.size a := fun v1459 v1673 k0_hw1749 => k0_hw1749

def k0_chk1750 (v1459 : IVec S16 32) (v1677 : IVec S16 32) : Prop :=
  (∀ a x, ((![v1459, v1677] : Fin 2 → IVec S16 32) a x).toNat < S160x31.size a)
theorem k0_idx1750_inb : ∀ (v1459 : IVec S16 32) (v1677 : IVec S16 32) (k0_hw1750 : k0_chk1750 v1459 v1677), ∀ a x, ((![v1459, v1677] : Fin 2 → IVec S16 32) a x).toNat < S160x31.size a := fun v1459 v1677 k0_hw1750 => k0_hw1750

def k0_chk1751 (v1459 : IVec S16 32) (v1680 : IVec S16 32) : Prop :=
  (∀ a x, ((![v1459, v1680] : Fin 2 → IVec S16 32) a x).toNat < S160x39.size a)
theorem k0_idx1751_inb : ∀ (v1459 : IVec S16 32) (v1680 : IVec S16 32) (k0_hw1751 : k0_chk1751 v1459 v1680), ∀ a x, ((![v1459, v1680] : Fin 2 → IVec S16 32) a x).toNat < S160x39.size a := fun v1459 v1680 k0_hw1751 => k0_hw1751

def k0_chk1752 (v1459 : IVec S16 32) (v1684 : IVec S16 32) : Prop :=
  (∀ a x, ((![v1459, v1684] : Fin 2 → IVec S16 32) a x).toNat < S160x31.size a)
theorem k0_idx1752_inb : ∀ (v1459 : IVec S16 32) (v1684 : IVec S16 32) (k0_hw1752 : k0_chk1752 v1459 v1684), ∀ a x, ((![v1459, v1684] : Fin 2 → IVec S16 32) a x).toNat < S160x31.size a := fun v1459 v1684 k0_hw1752 => k0_hw1752

def k0_chk1753 (v1459 : IVec S16 32) (v1687 : IVec S16 32) : Prop :=
  (∀ a x, ((![v1459, v1687] : Fin 2 → IVec S16 32) a x).toNat < S160x39.size a)
theorem k0_idx1753_inb : ∀ (v1459 : IVec S16 32) (v1687 : IVec S16 32) (k0_hw1753 : k0_chk1753 v1459 v1687), ∀ a x, ((![v1459, v1687] : Fin 2 → IVec S16 32) a x).toNat < S160x39.size a := fun v1459 v1687 k0_hw1753 => k0_hw1753

def k0_chk1754 (v1459 : IVec S16 32) (v1691 : IVec S16 32) : Prop :=
  (∀ a x, ((![v1459, v1691] : Fin 2 → IVec S16 32) a x).toNat < S160x31.size a)
theorem k0_idx1754_inb : ∀ (v1459 : IVec S16 32) (v1691 : IVec S16 32) (k0_hw1754 : k0_chk1754 v1459 v1691), ∀ a x, ((![v1459, v1691] : Fin 2 → IVec S16 32) a x).toNat < S160x31.size a := fun v1459 v1691 k0_hw1754 => k0_hw1754

def k0_chk1755 (v1459 : IVec S16 32) (v1694 : IVec S16 32) : Prop :=
  (∀ a x, ((![v1459, v1694] : Fin 2 → IVec S16 32) a x).toNat < S160x39.size a)
theorem k0_idx1755_inb : ∀ (v1459 : IVec S16 32) (v1694 : IVec S16 32) (k0_hw1755 : k0_chk1755 v1459 v1694), ∀ a x, ((![v1459, v1694] : Fin 2 → IVec S16 32) a x).toNat < S160x39.size a := fun v1459 v1694 k0_hw1755 => k0_hw1755

def k0_chk1756 (v1459 : IVec S16 32) (v1698 : IVec S16 32) : Prop :=
  (∀ a x, ((![v1459, v1698] : Fin 2 → IVec S16 32) a x).toNat < S160x31.size a)
theorem k0_idx1756_inb : ∀ (v1459 : IVec S16 32) (v1698 : IVec S16 32) (k0_hw1756 : k0_chk1756 v1459 v1698), ∀ a x, ((![v1459, v1698] : Fin 2 → IVec S16 32) a x).toNat < S160x31.size a := fun v1459 v1698 k0_hw1756 => k0_hw1756

def k0_chk1757 (v1459 : IVec S16 32) (v1701 : IVec S16 32) : Prop :=
  (∀ a x, ((![v1459, v1701] : Fin 2 → IVec S16 32) a x).toNat < S160x39.size a)
theorem k0_idx1757_inb : ∀ (v1459 : IVec S16 32) (v1701 : IVec S16 32) (k0_hw1757 : k0_chk1757 v1459 v1701), ∀ a x, ((![v1459, v1701] : Fin 2 → IVec S16 32) a x).toNat < S160x39.size a := fun v1459 v1701 k0_hw1757 => k0_hw1757

def k0_chk1758 (v1459 : IVec S16 32) (v1705 : IVec S16 32) : Prop :=
  (∀ a x, ((![v1459, v1705] : Fin 2 → IVec S16 32) a x).toNat < S160x31.size a)
theorem k0_idx1758_inb : ∀ (v1459 : IVec S16 32) (v1705 : IVec S16 32) (k0_hw1758 : k0_chk1758 v1459 v1705), ∀ a x, ((![v1459, v1705] : Fin 2 → IVec S16 32) a x).toNat < S160x31.size a := fun v1459 v1705 k0_hw1758 => k0_hw1758

def k0_chk1759 (v1459 : IVec S16 32) (v1708 : IVec S16 32) : Prop :=
  (∀ a x, ((![v1459, v1708] : Fin 2 → IVec S16 32) a x).toNat < S160x39.size a)
theorem k0_idx1759_inb : ∀ (v1459 : IVec S16 32) (v1708 : IVec S16 32) (k0_hw1759 : k0_chk1759 v1459 v1708), ∀ a x, ((![v1459, v1708] : Fin 2 → IVec S16 32) a x).toNat < S160x39.size a := fun v1459 v1708 k0_hw1759 => k0_hw1759

def k0_chk1760 (v1459 : IVec S16 32) (v1712 : IVec S16 32) : Prop :=
  (∀ a x, ((![v1459, v1712] : Fin 2 → IVec S16 32) a x).toNat < S160x31.size a)
theorem k0_idx1760_inb : ∀ (v1459 : IVec S16 32) (v1712 : IVec S16 32) (k0_hw1760 : k0_chk1760 v1459 v1712), ∀ a x, ((![v1459, v1712] : Fin 2 → IVec S16 32) a x).toNat < S160x31.size a := fun v1459 v1712 k0_hw1760 => k0_hw1760

def k0_chk1761 (v1459 : IVec S16 32) (v1715 : IVec S16 32) : Prop :=
  (∀ a x, ((![v1459, v1715] : Fin 2 → IVec S16 32) a x).toNat < S160x39.size a)
theorem k0_idx1761_inb : ∀ (v1459 : IVec S16 32) (v1715 : IVec S16 32) (k0_hw1761 : k0_chk1761 v1459 v1715), ∀ a x, ((![v1459, v1715] : Fin 2 → IVec S16 32) a x).toNat < S160x39.size a := fun v1459 v1715 k0_hw1761 => k0_hw1761

def k0_chk1762 (v1459 : IVec S16 32) (v1719 : IVec S16 32) : Prop :=
  (∀ a x, ((![v1459, v1719] : Fin 2 → IVec S16 32) a x).toNat < S160x31.size a)
theorem k0_idx1762_inb : ∀ (v1459 : IVec S16 32) (v1719 : IVec S16 32) (k0_hw1762 : k0_chk1762 v1459 v1719), ∀ a x, ((![v1459, v1719] : Fin 2 → IVec S16 32) a x).toNat < S160x31.size a := fun v1459 v1719 k0_hw1762 => k0_hw1762

def k0_chk1763 (v1459 : IVec S16 32) (v1722 : IVec S16 32) : Prop :=
  (∀ a x, ((![v1459, v1722] : Fin 2 → IVec S16 32) a x).toNat < S160x39.size a)
theorem k0_idx1763_inb : ∀ (v1459 : IVec S16 32) (v1722 : IVec S16 32) (k0_hw1763 : k0_chk1763 v1459 v1722), ∀ a x, ((![v1459, v1722] : Fin 2 → IVec S16 32) a x).toNat < S160x39.size a := fun v1459 v1722 k0_hw1763 => k0_hw1763

def k0_chk1764 (v1459 : IVec S16 32) (v1726 : IVec S16 32) : Prop :=
  (∀ a x, ((![v1459, v1726] : Fin 2 → IVec S16 32) a x).toNat < S160x31.size a)
theorem k0_idx1764_inb : ∀ (v1459 : IVec S16 32) (v1726 : IVec S16 32) (k0_hw1764 : k0_chk1764 v1459 v1726), ∀ a x, ((![v1459, v1726] : Fin 2 → IVec S16 32) a x).toNat < S160x31.size a := fun v1459 v1726 k0_hw1764 => k0_hw1764

def k0_chk1765 (v1459 : IVec S16 32) (v1729 : IVec S16 32) : Prop :=
  (∀ a x, ((![v1459, v1729] : Fin 2 → IVec S16 32) a x).toNat < S160x39.size a)
theorem k0_idx1765_inb : ∀ (v1459 : IVec S16 32) (v1729 : IVec S16 32) (k0_hw1765 : k0_chk1765 v1459 v1729), ∀ a x, ((![v1459, v1729] : Fin 2 → IVec S16 32) a x).toNat < S160x39.size a := fun v1459 v1729 k0_hw1765 => k0_hw1765

def k0_chk1766 (v1459 : IVec S16 32) (v1733 : IVec S16 32) : Prop :=
  (∀ a x, ((![v1459, v1733] : Fin 2 → IVec S16 32) a x).toNat < S160x31.size a)
theorem k0_idx1766_inb : ∀ (v1459 : IVec S16 32) (v1733 : IVec S16 32) (k0_hw1766 : k0_chk1766 v1459 v1733), ∀ a x, ((![v1459, v1733] : Fin 2 → IVec S16 32) a x).toNat < S160x31.size a := fun v1459 v1733 k0_hw1766 => k0_hw1766

def k0_chk1767 (v1459 : IVec S16 32) (v1736 : IVec S16 32) : Prop :=
  (∀ a x, ((![v1459, v1736] : Fin 2 → IVec S16 32) a x).toNat < S160x39.size a)
theorem k0_idx1767_inb : ∀ (v1459 : IVec S16 32) (v1736 : IVec S16 32) (k0_hw1767 : k0_chk1767 v1459 v1736), ∀ a x, ((![v1459, v1736] : Fin 2 → IVec S16 32) a x).toNat < S160x39.size a := fun v1459 v1736 k0_hw1767 => k0_hw1767

def k0_chk1768 (v1459 : IVec S16 32) (v1740 : IVec S16 32) : Prop :=
  (∀ a x, ((![v1459, v1740] : Fin 2 → IVec S16 32) a x).toNat < S160x31.size a)
theorem k0_idx1768_inb : ∀ (v1459 : IVec S16 32) (v1740 : IVec S16 32) (k0_hw1768 : k0_chk1768 v1459 v1740), ∀ a x, ((![v1459, v1740] : Fin 2 → IVec S16 32) a x).toNat < S160x31.size a := fun v1459 v1740 k0_hw1768 => k0_hw1768

def k0_chk1769 (v1744 : IVec S16 32) (v1745 : IVec S16 32) : Prop :=
  (∀ a x, ((![v1744, v1745] : Fin 2 → IVec S16 32) a x).toNat < S160x39.size a)
theorem k0_idx1769_inb : ∀ (v1744 : IVec S16 32) (v1745 : IVec S16 32) (k0_hw1769 : k0_chk1769 v1744 v1745), ∀ a x, ((![v1744, v1745] : Fin 2 → IVec S16 32) a x).toNat < S160x39.size a := fun v1744 v1745 k0_hw1769 => k0_hw1769

def k0_chk1770 (v1744 : IVec S16 32) (v1749 : IVec S16 32) : Prop :=
  (∀ a x, ((![v1744, v1749] : Fin 2 → IVec S16 32) a x).toNat < S160x39.size a)
theorem k0_idx1770_inb : ∀ (v1744 : IVec S16 32) (v1749 : IVec S16 32) (k0_hw1770 : k0_chk1770 v1744 v1749), ∀ a x, ((![v1744, v1749] : Fin 2 → IVec S16 32) a x).toNat < S160x39.size a := fun v1744 v1749 k0_hw1770 => k0_hw1770

def k0_chk1771 (v1744 : IVec S16 32) (v1753 : IVec S16 32) : Prop :=
  (∀ a x, ((![v1744, v1753] : Fin 2 → IVec S16 32) a x).toNat < S160x39.size a)
theorem k0_idx1771_inb : ∀ (v1744 : IVec S16 32) (v1753 : IVec S16 32) (k0_hw1771 : k0_chk1771 v1744 v1753), ∀ a x, ((![v1744, v1753] : Fin 2 → IVec S16 32) a x).toNat < S160x39.size a := fun v1744 v1753 k0_hw1771 => k0_hw1771

def k0_chk1772 (v1744 : IVec S16 32) (v1757 : IVec S16 32) : Prop :=
  (∀ a x, ((![v1744, v1757] : Fin 2 → IVec S16 32) a x).toNat < S160x39.size a)
theorem k0_idx1772_inb : ∀ (v1744 : IVec S16 32) (v1757 : IVec S16 32) (k0_hw1772 : k0_chk1772 v1744 v1757), ∀ a x, ((![v1744, v1757] : Fin 2 → IVec S16 32) a x).toNat < S160x39.size a := fun v1744 v1757 k0_hw1772 => k0_hw1772

def k0_chk1773 (v1744 : IVec S16 32) (v1762 : IVec S16 32) : Prop :=
  (∀ a x, ((![v1744, v1762] : Fin 2 → IVec S16 32) a x).toNat < S160x39.size a)
theorem k0_idx1773_inb : ∀ (v1744 : IVec S16 32) (v1762 : IVec S16 32) (k0_hw1773 : k0_chk1773 v1744 v1762), ∀ a x, ((![v1744, v1762] : Fin 2 → IVec S16 32) a x).toNat < S160x39.size a := fun v1744 v1762 k0_hw1773 => k0_hw1773

def k0_chk1774 (v1744 : IVec S16 32) (v1766 : IVec S16 32) : Prop :=
  (∀ a x, ((![v1744, v1766] : Fin 2 → IVec S16 32) a x).toNat < S160x39.size a)
theorem k0_idx1774_inb : ∀ (v1744 : IVec S16 32) (v1766 : IVec S16 32) (k0_hw1774 : k0_chk1774 v1744 v1766), ∀ a x, ((![v1744, v1766] : Fin 2 → IVec S16 32) a x).toNat < S160x39.size a := fun v1744 v1766 k0_hw1774 => k0_hw1774

def k0_chk1775 (v1744 : IVec S16 32) (v1771 : IVec S16 32) : Prop :=
  (∀ a x, ((![v1744, v1771] : Fin 2 → IVec S16 32) a x).toNat < S160x39.size a)
theorem k0_idx1775_inb : ∀ (v1744 : IVec S16 32) (v1771 : IVec S16 32) (k0_hw1775 : k0_chk1775 v1744 v1771), ∀ a x, ((![v1744, v1771] : Fin 2 → IVec S16 32) a x).toNat < S160x39.size a := fun v1744 v1771 k0_hw1775 => k0_hw1775

def k0_chk1776 (v1744 : IVec S16 32) (v1779 : IVec S16 32) : Prop :=
  (∀ a x, ((![v1744, v1779] : Fin 2 → IVec S16 32) a x).toNat < S160x39.size a)
theorem k0_idx1776_inb : ∀ (v1744 : IVec S16 32) (v1779 : IVec S16 32) (k0_hw1776 : k0_chk1776 v1744 v1779), ∀ a x, ((![v1744, v1779] : Fin 2 → IVec S16 32) a x).toNat < S160x39.size a := fun v1744 v1779 k0_hw1776 => k0_hw1776

def k0_chk1777 (v1744 : IVec S16 32) (v1787 : IVec S16 32) : Prop :=
  (∀ a x, ((![v1744, v1787] : Fin 2 → IVec S16 32) a x).toNat < S160x31.size a)
theorem k0_idx1777_inb : ∀ (v1744 : IVec S16 32) (v1787 : IVec S16 32) (k0_hw1777 : k0_chk1777 v1744 v1787), ∀ a x, ((![v1744, v1787] : Fin 2 → IVec S16 32) a x).toNat < S160x31.size a := fun v1744 v1787 k0_hw1777 => k0_hw1777

def k0_chk1778 (v1744 : IVec S16 32) (v1790 : IVec S16 32) : Prop :=
  (∀ a x, ((![v1744, v1790] : Fin 2 → IVec S16 32) a x).toNat < S160x31.size a)
theorem k0_idx1778_inb : ∀ (v1744 : IVec S16 32) (v1790 : IVec S16 32) (k0_hw1778 : k0_chk1778 v1744 v1790), ∀ a x, ((![v1744, v1790] : Fin 2 → IVec S16 32) a x).toNat < S160x31.size a := fun v1744 v1790 k0_hw1778 => k0_hw1778

def k0_chk1779 (v1744 : IVec S16 32) (v1793 : IVec S16 32) : Prop :=
  (∀ a x, ((![v1744, v1793] : Fin 2 → IVec S16 32) a x).toNat < S160x39.size a)
theorem k0_idx1779_inb : ∀ (v1744 : IVec S16 32) (v1793 : IVec S16 32) (k0_hw1779 : k0_chk1779 v1744 v1793), ∀ a x, ((![v1744, v1793] : Fin 2 → IVec S16 32) a x).toNat < S160x39.size a := fun v1744 v1793 k0_hw1779 => k0_hw1779

def k0_chk1780 (v1744 : IVec S16 32) (v1801 : IVec S16 32) : Prop :=
  (∀ a x, ((![v1744, v1801] : Fin 2 → IVec S16 32) a x).toNat < S160x39.size a)
theorem k0_idx1780_inb : ∀ (v1744 : IVec S16 32) (v1801 : IVec S16 32) (k0_hw1780 : k0_chk1780 v1744 v1801), ∀ a x, ((![v1744, v1801] : Fin 2 → IVec S16 32) a x).toNat < S160x39.size a := fun v1744 v1801 k0_hw1780 => k0_hw1780

def k0_chk1781 (v1744 : IVec S16 32) (v1809 : IVec S16 32) : Prop :=
  (∀ a x, ((![v1744, v1809] : Fin 2 → IVec S16 32) a x).toNat < S160x31.size a)
theorem k0_idx1781_inb : ∀ (v1744 : IVec S16 32) (v1809 : IVec S16 32) (k0_hw1781 : k0_chk1781 v1744 v1809), ∀ a x, ((![v1744, v1809] : Fin 2 → IVec S16 32) a x).toNat < S160x31.size a := fun v1744 v1809 k0_hw1781 => k0_hw1781

def k0_chk1782 (v1744 : IVec S16 32) (v1812 : IVec S16 32) : Prop :=
  (∀ a x, ((![v1744, v1812] : Fin 2 → IVec S16 32) a x).toNat < S160x31.size a)
theorem k0_idx1782_inb : ∀ (v1744 : IVec S16 32) (v1812 : IVec S16 32) (k0_hw1782 : k0_chk1782 v1744 v1812), ∀ a x, ((![v1744, v1812] : Fin 2 → IVec S16 32) a x).toNat < S160x31.size a := fun v1744 v1812 k0_hw1782 => k0_hw1782

def k0_chk1783 (v1744 : IVec S16 32) (v1815 : IVec S16 32) : Prop :=
  (∀ a x, ((![v1744, v1815] : Fin 2 → IVec S16 32) a x).toNat < S160x39.size a)
theorem k0_idx1783_inb : ∀ (v1744 : IVec S16 32) (v1815 : IVec S16 32) (k0_hw1783 : k0_chk1783 v1744 v1815), ∀ a x, ((![v1744, v1815] : Fin 2 → IVec S16 32) a x).toNat < S160x39.size a := fun v1744 v1815 k0_hw1783 => k0_hw1783

def k0_chk1784 (v1744 : IVec S16 32) (v1823 : IVec S16 32) : Prop :=
  (∀ a x, ((![v1744, v1823] : Fin 2 → IVec S16 32) a x).toNat < S160x39.size a)
theorem k0_idx1784_inb : ∀ (v1744 : IVec S16 32) (v1823 : IVec S16 32) (k0_hw1784 : k0_chk1784 v1744 v1823), ∀ a x, ((![v1744, v1823] : Fin 2 → IVec S16 32) a x).toNat < S160x39.size a := fun v1744 v1823 k0_hw1784 => k0_hw1784

def k0_chk1785 (v1744 : IVec S16 32) (v1831 : IVec S16 32) : Prop :=
  (∀ a x, ((![v1744, v1831] : Fin 2 → IVec S16 32) a x).toNat < S160x31.size a)
theorem k0_idx1785_inb : ∀ (v1744 : IVec S16 32) (v1831 : IVec S16 32) (k0_hw1785 : k0_chk1785 v1744 v1831), ∀ a x, ((![v1744, v1831] : Fin 2 → IVec S16 32) a x).toNat < S160x31.size a := fun v1744 v1831 k0_hw1785 => k0_hw1785

def k0_chk1786 (v1744 : IVec S16 32) (v1834 : IVec S16 32) : Prop :=
  (∀ a x, ((![v1744, v1834] : Fin 2 → IVec S16 32) a x).toNat < S160x31.size a)
theorem k0_idx1786_inb : ∀ (v1744 : IVec S16 32) (v1834 : IVec S16 32) (k0_hw1786 : k0_chk1786 v1744 v1834), ∀ a x, ((![v1744, v1834] : Fin 2 → IVec S16 32) a x).toNat < S160x31.size a := fun v1744 v1834 k0_hw1786 => k0_hw1786

def k0_chk1787 (v1744 : IVec S16 32) (v1837 : IVec S16 32) : Prop :=
  (∀ a x, ((![v1744, v1837] : Fin 2 → IVec S16 32) a x).toNat < S160x39.size a)
theorem k0_idx1787_inb : ∀ (v1744 : IVec S16 32) (v1837 : IVec S16 32) (k0_hw1787 : k0_chk1787 v1744 v1837), ∀ a x, ((![v1744, v1837] : Fin 2 → IVec S16 32) a x).toNat < S160x39.size a := fun v1744 v1837 k0_hw1787 => k0_hw1787

def k0_chk1788 (v1744 : IVec S16 32) (v1845 : IVec S16 32) : Prop :=
  (∀ a x, ((![v1744, v1845] : Fin 2 → IVec S16 32) a x).toNat < S160x39.size a)
theorem k0_idx1788_inb : ∀ (v1744 : IVec S16 32) (v1845 : IVec S16 32) (k0_hw1788 : k0_chk1788 v1744 v1845), ∀ a x, ((![v1744, v1845] : Fin 2 → IVec S16 32) a x).toNat < S160x39.size a := fun v1744 v1845 k0_hw1788 => k0_hw1788

def k0_chk1789 (v1744 : IVec S16 32) (v1853 : IVec S16 32) : Prop :=
  (∀ a x, ((![v1744, v1853] : Fin 2 → IVec S16 32) a x).toNat < S160x31.size a)
theorem k0_idx1789_inb : ∀ (v1744 : IVec S16 32) (v1853 : IVec S16 32) (k0_hw1789 : k0_chk1789 v1744 v1853), ∀ a x, ((![v1744, v1853] : Fin 2 → IVec S16 32) a x).toNat < S160x31.size a := fun v1744 v1853 k0_hw1789 => k0_hw1789

def k0_chk1790 (v1744 : IVec S16 32) (v1856 : IVec S16 32) : Prop :=
  (∀ a x, ((![v1744, v1856] : Fin 2 → IVec S16 32) a x).toNat < S160x31.size a)
theorem k0_idx1790_inb : ∀ (v1744 : IVec S16 32) (v1856 : IVec S16 32) (k0_hw1790 : k0_chk1790 v1744 v1856), ∀ a x, ((![v1744, v1856] : Fin 2 → IVec S16 32) a x).toNat < S160x31.size a := fun v1744 v1856 k0_hw1790 => k0_hw1790

def k0_chk1791 (v1744 : IVec S16 32) (v1859 : IVec S16 32) : Prop :=
  (∀ a x, ((![v1744, v1859] : Fin 2 → IVec S16 32) a x).toNat < S160x39.size a)
theorem k0_idx1791_inb : ∀ (v1744 : IVec S16 32) (v1859 : IVec S16 32) (k0_hw1791 : k0_chk1791 v1744 v1859), ∀ a x, ((![v1744, v1859] : Fin 2 → IVec S16 32) a x).toNat < S160x39.size a := fun v1744 v1859 k0_hw1791 => k0_hw1791

def k0_chk1792 (v1744 : IVec S16 32) (v1867 : IVec S16 32) : Prop :=
  (∀ a x, ((![v1744, v1867] : Fin 2 → IVec S16 32) a x).toNat < S160x39.size a)
theorem k0_idx1792_inb : ∀ (v1744 : IVec S16 32) (v1867 : IVec S16 32) (k0_hw1792 : k0_chk1792 v1744 v1867), ∀ a x, ((![v1744, v1867] : Fin 2 → IVec S16 32) a x).toNat < S160x39.size a := fun v1744 v1867 k0_hw1792 => k0_hw1792

def k0_chk1793 (v1744 : IVec S16 32) (v1875 : IVec S16 32) : Prop :=
  (∀ a x, ((![v1744, v1875] : Fin 2 → IVec S16 32) a x).toNat < S160x31.size a)
theorem k0_idx1793_inb : ∀ (v1744 : IVec S16 32) (v1875 : IVec S16 32) (k0_hw1793 : k0_chk1793 v1744 v1875), ∀ a x, ((![v1744, v1875] : Fin 2 → IVec S16 32) a x).toNat < S160x31.size a := fun v1744 v1875 k0_hw1793 => k0_hw1793

def k0_chk1794 (v1744 : IVec S16 32) (v1878 : IVec S16 32) : Prop :=
  (∀ a x, ((![v1744, v1878] : Fin 2 → IVec S16 32) a x).toNat < S160x31.size a)
theorem k0_idx1794_inb : ∀ (v1744 : IVec S16 32) (v1878 : IVec S16 32) (k0_hw1794 : k0_chk1794 v1744 v1878), ∀ a x, ((![v1744, v1878] : Fin 2 → IVec S16 32) a x).toNat < S160x31.size a := fun v1744 v1878 k0_hw1794 => k0_hw1794

def k0_chk1795 (v1744 : IVec S16 32) (v1881 : IVec S16 32) : Prop :=
  (∀ a x, ((![v1744, v1881] : Fin 2 → IVec S16 32) a x).toNat < S160x39.size a)
theorem k0_idx1795_inb : ∀ (v1744 : IVec S16 32) (v1881 : IVec S16 32) (k0_hw1795 : k0_chk1795 v1744 v1881), ∀ a x, ((![v1744, v1881] : Fin 2 → IVec S16 32) a x).toNat < S160x39.size a := fun v1744 v1881 k0_hw1795 => k0_hw1795

def k0_chk1796 (v1744 : IVec S16 32) (v1885 : IVec S16 32) : Prop :=
  (∀ a x, ((![v1744, v1885] : Fin 2 → IVec S16 32) a x).toNat < S160x31.size a)
theorem k0_idx1796_inb : ∀ (v1744 : IVec S16 32) (v1885 : IVec S16 32) (k0_hw1796 : k0_chk1796 v1744 v1885), ∀ a x, ((![v1744, v1885] : Fin 2 → IVec S16 32) a x).toNat < S160x31.size a := fun v1744 v1885 k0_hw1796 => k0_hw1796

def k0_chk1797 (v1744 : IVec S16 32) (v1888 : IVec S16 32) : Prop :=
  (∀ a x, ((![v1744, v1888] : Fin 2 → IVec S16 32) a x).toNat < S160x39.size a)
theorem k0_idx1797_inb : ∀ (v1744 : IVec S16 32) (v1888 : IVec S16 32) (k0_hw1797 : k0_chk1797 v1744 v1888), ∀ a x, ((![v1744, v1888] : Fin 2 → IVec S16 32) a x).toNat < S160x39.size a := fun v1744 v1888 k0_hw1797 => k0_hw1797

def k0_chk1798 (v1744 : IVec S16 32) (v1892 : IVec S16 32) : Prop :=
  (∀ a x, ((![v1744, v1892] : Fin 2 → IVec S16 32) a x).toNat < S160x31.size a)
theorem k0_idx1798_inb : ∀ (v1744 : IVec S16 32) (v1892 : IVec S16 32) (k0_hw1798 : k0_chk1798 v1744 v1892), ∀ a x, ((![v1744, v1892] : Fin 2 → IVec S16 32) a x).toNat < S160x31.size a := fun v1744 v1892 k0_hw1798 => k0_hw1798

def k0_chk1799 (v1744 : IVec S16 32) (v1895 : IVec S16 32) : Prop :=
  (∀ a x, ((![v1744, v1895] : Fin 2 → IVec S16 32) a x).toNat < S160x39.size a)
theorem k0_idx1799_inb : ∀ (v1744 : IVec S16 32) (v1895 : IVec S16 32) (k0_hw1799 : k0_chk1799 v1744 v1895), ∀ a x, ((![v1744, v1895] : Fin 2 → IVec S16 32) a x).toNat < S160x39.size a := fun v1744 v1895 k0_hw1799 => k0_hw1799

def k0_chk1800 (v1744 : IVec S16 32) (v1899 : IVec S16 32) : Prop :=
  (∀ a x, ((![v1744, v1899] : Fin 2 → IVec S16 32) a x).toNat < S160x31.size a)
theorem k0_idx1800_inb : ∀ (v1744 : IVec S16 32) (v1899 : IVec S16 32) (k0_hw1800 : k0_chk1800 v1744 v1899), ∀ a x, ((![v1744, v1899] : Fin 2 → IVec S16 32) a x).toNat < S160x31.size a := fun v1744 v1899 k0_hw1800 => k0_hw1800

def k0_chk1801 (v1744 : IVec S16 32) (v1902 : IVec S16 32) : Prop :=
  (∀ a x, ((![v1744, v1902] : Fin 2 → IVec S16 32) a x).toNat < S160x39.size a)
theorem k0_idx1801_inb : ∀ (v1744 : IVec S16 32) (v1902 : IVec S16 32) (k0_hw1801 : k0_chk1801 v1744 v1902), ∀ a x, ((![v1744, v1902] : Fin 2 → IVec S16 32) a x).toNat < S160x39.size a := fun v1744 v1902 k0_hw1801 => k0_hw1801

def k0_chk1802 (v1744 : IVec S16 32) (v1906 : IVec S16 32) : Prop :=
  (∀ a x, ((![v1744, v1906] : Fin 2 → IVec S16 32) a x).toNat < S160x31.size a)
theorem k0_idx1802_inb : ∀ (v1744 : IVec S16 32) (v1906 : IVec S16 32) (k0_hw1802 : k0_chk1802 v1744 v1906), ∀ a x, ((![v1744, v1906] : Fin 2 → IVec S16 32) a x).toNat < S160x31.size a := fun v1744 v1906 k0_hw1802 => k0_hw1802

def k0_chk1803 (v1744 : IVec S16 32) (v1909 : IVec S16 32) : Prop :=
  (∀ a x, ((![v1744, v1909] : Fin 2 → IVec S16 32) a x).toNat < S160x39.size a)
theorem k0_idx1803_inb : ∀ (v1744 : IVec S16 32) (v1909 : IVec S16 32) (k0_hw1803 : k0_chk1803 v1744 v1909), ∀ a x, ((![v1744, v1909] : Fin 2 → IVec S16 32) a x).toNat < S160x39.size a := fun v1744 v1909 k0_hw1803 => k0_hw1803

def k0_chk1804 (v1744 : IVec S16 32) (v1913 : IVec S16 32) : Prop :=
  (∀ a x, ((![v1744, v1913] : Fin 2 → IVec S16 32) a x).toNat < S160x31.size a)
theorem k0_idx1804_inb : ∀ (v1744 : IVec S16 32) (v1913 : IVec S16 32) (k0_hw1804 : k0_chk1804 v1744 v1913), ∀ a x, ((![v1744, v1913] : Fin 2 → IVec S16 32) a x).toNat < S160x31.size a := fun v1744 v1913 k0_hw1804 => k0_hw1804

def k0_chk1805 (v1744 : IVec S16 32) (v1916 : IVec S16 32) : Prop :=
  (∀ a x, ((![v1744, v1916] : Fin 2 → IVec S16 32) a x).toNat < S160x39.size a)
theorem k0_idx1805_inb : ∀ (v1744 : IVec S16 32) (v1916 : IVec S16 32) (k0_hw1805 : k0_chk1805 v1744 v1916), ∀ a x, ((![v1744, v1916] : Fin 2 → IVec S16 32) a x).toNat < S160x39.size a := fun v1744 v1916 k0_hw1805 => k0_hw1805

def k0_chk1806 (v1744 : IVec S16 32) (v1920 : IVec S16 32) : Prop :=
  (∀ a x, ((![v1744, v1920] : Fin 2 → IVec S16 32) a x).toNat < S160x31.size a)
theorem k0_idx1806_inb : ∀ (v1744 : IVec S16 32) (v1920 : IVec S16 32) (k0_hw1806 : k0_chk1806 v1744 v1920), ∀ a x, ((![v1744, v1920] : Fin 2 → IVec S16 32) a x).toNat < S160x31.size a := fun v1744 v1920 k0_hw1806 => k0_hw1806

def k0_chk1807 (v1744 : IVec S16 32) (v1923 : IVec S16 32) : Prop :=
  (∀ a x, ((![v1744, v1923] : Fin 2 → IVec S16 32) a x).toNat < S160x39.size a)
theorem k0_idx1807_inb : ∀ (v1744 : IVec S16 32) (v1923 : IVec S16 32) (k0_hw1807 : k0_chk1807 v1744 v1923), ∀ a x, ((![v1744, v1923] : Fin 2 → IVec S16 32) a x).toNat < S160x39.size a := fun v1744 v1923 k0_hw1807 => k0_hw1807

def k0_chk1808 (v1744 : IVec S16 32) (v1927 : IVec S16 32) : Prop :=
  (∀ a x, ((![v1744, v1927] : Fin 2 → IVec S16 32) a x).toNat < S160x31.size a)
theorem k0_idx1808_inb : ∀ (v1744 : IVec S16 32) (v1927 : IVec S16 32) (k0_hw1808 : k0_chk1808 v1744 v1927), ∀ a x, ((![v1744, v1927] : Fin 2 → IVec S16 32) a x).toNat < S160x31.size a := fun v1744 v1927 k0_hw1808 => k0_hw1808

def k0_chk1809 (v1744 : IVec S16 32) (v1930 : IVec S16 32) : Prop :=
  (∀ a x, ((![v1744, v1930] : Fin 2 → IVec S16 32) a x).toNat < S160x39.size a)
theorem k0_idx1809_inb : ∀ (v1744 : IVec S16 32) (v1930 : IVec S16 32) (k0_hw1809 : k0_chk1809 v1744 v1930), ∀ a x, ((![v1744, v1930] : Fin 2 → IVec S16 32) a x).toNat < S160x39.size a := fun v1744 v1930 k0_hw1809 => k0_hw1809

def k0_chk1810 (v1744 : IVec S16 32) (v1934 : IVec S16 32) : Prop :=
  (∀ a x, ((![v1744, v1934] : Fin 2 → IVec S16 32) a x).toNat < S160x31.size a)
theorem k0_idx1810_inb : ∀ (v1744 : IVec S16 32) (v1934 : IVec S16 32) (k0_hw1810 : k0_chk1810 v1744 v1934), ∀ a x, ((![v1744, v1934] : Fin 2 → IVec S16 32) a x).toNat < S160x31.size a := fun v1744 v1934 k0_hw1810 => k0_hw1810

def k0_chk1811 (v1744 : IVec S16 32) (v1937 : IVec S16 32) : Prop :=
  (∀ a x, ((![v1744, v1937] : Fin 2 → IVec S16 32) a x).toNat < S160x39.size a)
theorem k0_idx1811_inb : ∀ (v1744 : IVec S16 32) (v1937 : IVec S16 32) (k0_hw1811 : k0_chk1811 v1744 v1937), ∀ a x, ((![v1744, v1937] : Fin 2 → IVec S16 32) a x).toNat < S160x39.size a := fun v1744 v1937 k0_hw1811 => k0_hw1811

def k0_chk1812 (v1744 : IVec S16 32) (v1941 : IVec S16 32) : Prop :=
  (∀ a x, ((![v1744, v1941] : Fin 2 → IVec S16 32) a x).toNat < S160x31.size a)
theorem k0_idx1812_inb : ∀ (v1744 : IVec S16 32) (v1941 : IVec S16 32) (k0_hw1812 : k0_chk1812 v1744 v1941), ∀ a x, ((![v1744, v1941] : Fin 2 → IVec S16 32) a x).toNat < S160x31.size a := fun v1744 v1941 k0_hw1812 => k0_hw1812

def k0_chk1813 (v1744 : IVec S16 32) (v1944 : IVec S16 32) : Prop :=
  (∀ a x, ((![v1744, v1944] : Fin 2 → IVec S16 32) a x).toNat < S160x39.size a)
theorem k0_idx1813_inb : ∀ (v1744 : IVec S16 32) (v1944 : IVec S16 32) (k0_hw1813 : k0_chk1813 v1744 v1944), ∀ a x, ((![v1744, v1944] : Fin 2 → IVec S16 32) a x).toNat < S160x39.size a := fun v1744 v1944 k0_hw1813 => k0_hw1813

def k0_chk1814 (v1744 : IVec S16 32) (v1948 : IVec S16 32) : Prop :=
  (∀ a x, ((![v1744, v1948] : Fin 2 → IVec S16 32) a x).toNat < S160x31.size a)
theorem k0_idx1814_inb : ∀ (v1744 : IVec S16 32) (v1948 : IVec S16 32) (k0_hw1814 : k0_chk1814 v1744 v1948), ∀ a x, ((![v1744, v1948] : Fin 2 → IVec S16 32) a x).toNat < S160x31.size a := fun v1744 v1948 k0_hw1814 => k0_hw1814

def k0_chk1815 (v1744 : IVec S16 32) (v1951 : IVec S16 32) : Prop :=
  (∀ a x, ((![v1744, v1951] : Fin 2 → IVec S16 32) a x).toNat < S160x39.size a)
theorem k0_idx1815_inb : ∀ (v1744 : IVec S16 32) (v1951 : IVec S16 32) (k0_hw1815 : k0_chk1815 v1744 v1951), ∀ a x, ((![v1744, v1951] : Fin 2 → IVec S16 32) a x).toNat < S160x39.size a := fun v1744 v1951 k0_hw1815 => k0_hw1815

def k0_chk1816 (v1744 : IVec S16 32) (v1955 : IVec S16 32) : Prop :=
  (∀ a x, ((![v1744, v1955] : Fin 2 → IVec S16 32) a x).toNat < S160x31.size a)
theorem k0_idx1816_inb : ∀ (v1744 : IVec S16 32) (v1955 : IVec S16 32) (k0_hw1816 : k0_chk1816 v1744 v1955), ∀ a x, ((![v1744, v1955] : Fin 2 → IVec S16 32) a x).toNat < S160x31.size a := fun v1744 v1955 k0_hw1816 => k0_hw1816

def k0_chk1817 (v1744 : IVec S16 32) (v1958 : IVec S16 32) : Prop :=
  (∀ a x, ((![v1744, v1958] : Fin 2 → IVec S16 32) a x).toNat < S160x39.size a)
theorem k0_idx1817_inb : ∀ (v1744 : IVec S16 32) (v1958 : IVec S16 32) (k0_hw1817 : k0_chk1817 v1744 v1958), ∀ a x, ((![v1744, v1958] : Fin 2 → IVec S16 32) a x).toNat < S160x39.size a := fun v1744 v1958 k0_hw1817 => k0_hw1817

def k0_chk1818 (v1744 : IVec S16 32) (v1962 : IVec S16 32) : Prop :=
  (∀ a x, ((![v1744, v1962] : Fin 2 → IVec S16 32) a x).toNat < S160x31.size a)
theorem k0_idx1818_inb : ∀ (v1744 : IVec S16 32) (v1962 : IVec S16 32) (k0_hw1818 : k0_chk1818 v1744 v1962), ∀ a x, ((![v1744, v1962] : Fin 2 → IVec S16 32) a x).toNat < S160x31.size a := fun v1744 v1962 k0_hw1818 => k0_hw1818

def k0_chk1819 (v1744 : IVec S16 32) (v1965 : IVec S16 32) : Prop :=
  (∀ a x, ((![v1744, v1965] : Fin 2 → IVec S16 32) a x).toNat < S160x39.size a)
theorem k0_idx1819_inb : ∀ (v1744 : IVec S16 32) (v1965 : IVec S16 32) (k0_hw1819 : k0_chk1819 v1744 v1965), ∀ a x, ((![v1744, v1965] : Fin 2 → IVec S16 32) a x).toNat < S160x39.size a := fun v1744 v1965 k0_hw1819 => k0_hw1819

def k0_chk1820 (v1744 : IVec S16 32) (v1969 : IVec S16 32) : Prop :=
  (∀ a x, ((![v1744, v1969] : Fin 2 → IVec S16 32) a x).toNat < S160x31.size a)
theorem k0_idx1820_inb : ∀ (v1744 : IVec S16 32) (v1969 : IVec S16 32) (k0_hw1820 : k0_chk1820 v1744 v1969), ∀ a x, ((![v1744, v1969] : Fin 2 → IVec S16 32) a x).toNat < S160x31.size a := fun v1744 v1969 k0_hw1820 => k0_hw1820

def k0_chk1821 (v1744 : IVec S16 32) (v1972 : IVec S16 32) : Prop :=
  (∀ a x, ((![v1744, v1972] : Fin 2 → IVec S16 32) a x).toNat < S160x39.size a)
theorem k0_idx1821_inb : ∀ (v1744 : IVec S16 32) (v1972 : IVec S16 32) (k0_hw1821 : k0_chk1821 v1744 v1972), ∀ a x, ((![v1744, v1972] : Fin 2 → IVec S16 32) a x).toNat < S160x39.size a := fun v1744 v1972 k0_hw1821 => k0_hw1821

def k0_chk1822 (v1744 : IVec S16 32) (v1976 : IVec S16 32) : Prop :=
  (∀ a x, ((![v1744, v1976] : Fin 2 → IVec S16 32) a x).toNat < S160x31.size a)
theorem k0_idx1822_inb : ∀ (v1744 : IVec S16 32) (v1976 : IVec S16 32) (k0_hw1822 : k0_chk1822 v1744 v1976), ∀ a x, ((![v1744, v1976] : Fin 2 → IVec S16 32) a x).toNat < S160x31.size a := fun v1744 v1976 k0_hw1822 => k0_hw1822

def k0_chk1823 (v1744 : IVec S16 32) (v1979 : IVec S16 32) : Prop :=
  (∀ a x, ((![v1744, v1979] : Fin 2 → IVec S16 32) a x).toNat < S160x39.size a)
theorem k0_idx1823_inb : ∀ (v1744 : IVec S16 32) (v1979 : IVec S16 32) (k0_hw1823 : k0_chk1823 v1744 v1979), ∀ a x, ((![v1744, v1979] : Fin 2 → IVec S16 32) a x).toNat < S160x39.size a := fun v1744 v1979 k0_hw1823 => k0_hw1823

def k0_chk1824 (v1744 : IVec S16 32) (v1983 : IVec S16 32) : Prop :=
  (∀ a x, ((![v1744, v1983] : Fin 2 → IVec S16 32) a x).toNat < S160x31.size a)
theorem k0_idx1824_inb : ∀ (v1744 : IVec S16 32) (v1983 : IVec S16 32) (k0_hw1824 : k0_chk1824 v1744 v1983), ∀ a x, ((![v1744, v1983] : Fin 2 → IVec S16 32) a x).toNat < S160x31.size a := fun v1744 v1983 k0_hw1824 => k0_hw1824

def k0_chk1825 (v1744 : IVec S16 32) (v1986 : IVec S16 32) : Prop :=
  (∀ a x, ((![v1744, v1986] : Fin 2 → IVec S16 32) a x).toNat < S160x39.size a)
theorem k0_idx1825_inb : ∀ (v1744 : IVec S16 32) (v1986 : IVec S16 32) (k0_hw1825 : k0_chk1825 v1744 v1986), ∀ a x, ((![v1744, v1986] : Fin 2 → IVec S16 32) a x).toNat < S160x39.size a := fun v1744 v1986 k0_hw1825 => k0_hw1825

def k0_chk1826 (v1744 : IVec S16 32) (v1990 : IVec S16 32) : Prop :=
  (∀ a x, ((![v1744, v1990] : Fin 2 → IVec S16 32) a x).toNat < S160x31.size a)
theorem k0_idx1826_inb : ∀ (v1744 : IVec S16 32) (v1990 : IVec S16 32) (k0_hw1826 : k0_chk1826 v1744 v1990), ∀ a x, ((![v1744, v1990] : Fin 2 → IVec S16 32) a x).toNat < S160x31.size a := fun v1744 v1990 k0_hw1826 => k0_hw1826

def k0_chk1827 (v1744 : IVec S16 32) (v1993 : IVec S16 32) : Prop :=
  (∀ a x, ((![v1744, v1993] : Fin 2 → IVec S16 32) a x).toNat < S160x39.size a)
theorem k0_idx1827_inb : ∀ (v1744 : IVec S16 32) (v1993 : IVec S16 32) (k0_hw1827 : k0_chk1827 v1744 v1993), ∀ a x, ((![v1744, v1993] : Fin 2 → IVec S16 32) a x).toNat < S160x39.size a := fun v1744 v1993 k0_hw1827 => k0_hw1827

def k0_chk1828 (v1744 : IVec S16 32) (v1997 : IVec S16 32) : Prop :=
  (∀ a x, ((![v1744, v1997] : Fin 2 → IVec S16 32) a x).toNat < S160x31.size a)
theorem k0_idx1828_inb : ∀ (v1744 : IVec S16 32) (v1997 : IVec S16 32) (k0_hw1828 : k0_chk1828 v1744 v1997), ∀ a x, ((![v1744, v1997] : Fin 2 → IVec S16 32) a x).toNat < S160x31.size a := fun v1744 v1997 k0_hw1828 => k0_hw1828

def k0_chk1829 (v1744 : IVec S16 32) (v2000 : IVec S16 32) : Prop :=
  (∀ a x, ((![v1744, v2000] : Fin 2 → IVec S16 32) a x).toNat < S160x39.size a)
theorem k0_idx1829_inb : ∀ (v1744 : IVec S16 32) (v2000 : IVec S16 32) (k0_hw1829 : k0_chk1829 v1744 v2000), ∀ a x, ((![v1744, v2000] : Fin 2 → IVec S16 32) a x).toNat < S160x39.size a := fun v1744 v2000 k0_hw1829 => k0_hw1829

def k0_chk1830 (v1744 : IVec S16 32) (v2004 : IVec S16 32) : Prop :=
  (∀ a x, ((![v1744, v2004] : Fin 2 → IVec S16 32) a x).toNat < S160x31.size a)
theorem k0_idx1830_inb : ∀ (v1744 : IVec S16 32) (v2004 : IVec S16 32) (k0_hw1830 : k0_chk1830 v1744 v2004), ∀ a x, ((![v1744, v2004] : Fin 2 → IVec S16 32) a x).toNat < S160x31.size a := fun v1744 v2004 k0_hw1830 => k0_hw1830

def k0_chk1831 (v1744 : IVec S16 32) (v2007 : IVec S16 32) : Prop :=
  (∀ a x, ((![v1744, v2007] : Fin 2 → IVec S16 32) a x).toNat < S160x39.size a)
theorem k0_idx1831_inb : ∀ (v1744 : IVec S16 32) (v2007 : IVec S16 32) (k0_hw1831 : k0_chk1831 v1744 v2007), ∀ a x, ((![v1744, v2007] : Fin 2 → IVec S16 32) a x).toNat < S160x39.size a := fun v1744 v2007 k0_hw1831 => k0_hw1831

def k0_chk1832 (v1744 : IVec S16 32) (v2011 : IVec S16 32) : Prop :=
  (∀ a x, ((![v1744, v2011] : Fin 2 → IVec S16 32) a x).toNat < S160x31.size a)
theorem k0_idx1832_inb : ∀ (v1744 : IVec S16 32) (v2011 : IVec S16 32) (k0_hw1832 : k0_chk1832 v1744 v2011), ∀ a x, ((![v1744, v2011] : Fin 2 → IVec S16 32) a x).toNat < S160x31.size a := fun v1744 v2011 k0_hw1832 => k0_hw1832

def k0_chk1833 (v1744 : IVec S16 32) (v2014 : IVec S16 32) : Prop :=
  (∀ a x, ((![v1744, v2014] : Fin 2 → IVec S16 32) a x).toNat < S160x39.size a)
theorem k0_idx1833_inb : ∀ (v1744 : IVec S16 32) (v2014 : IVec S16 32) (k0_hw1833 : k0_chk1833 v1744 v2014), ∀ a x, ((![v1744, v2014] : Fin 2 → IVec S16 32) a x).toNat < S160x39.size a := fun v1744 v2014 k0_hw1833 => k0_hw1833

def k0_chk1834 (v1744 : IVec S16 32) (v2018 : IVec S16 32) : Prop :=
  (∀ a x, ((![v1744, v2018] : Fin 2 → IVec S16 32) a x).toNat < S160x31.size a)
theorem k0_idx1834_inb : ∀ (v1744 : IVec S16 32) (v2018 : IVec S16 32) (k0_hw1834 : k0_chk1834 v1744 v2018), ∀ a x, ((![v1744, v2018] : Fin 2 → IVec S16 32) a x).toNat < S160x31.size a := fun v1744 v2018 k0_hw1834 => k0_hw1834

def k0_chk1835 (v1744 : IVec S16 32) (v2021 : IVec S16 32) : Prop :=
  (∀ a x, ((![v1744, v2021] : Fin 2 → IVec S16 32) a x).toNat < S160x39.size a)
theorem k0_idx1835_inb : ∀ (v1744 : IVec S16 32) (v2021 : IVec S16 32) (k0_hw1835 : k0_chk1835 v1744 v2021), ∀ a x, ((![v1744, v2021] : Fin 2 → IVec S16 32) a x).toNat < S160x39.size a := fun v1744 v2021 k0_hw1835 => k0_hw1835

def k0_chk1836 (v1744 : IVec S16 32) (v2025 : IVec S16 32) : Prop :=
  (∀ a x, ((![v1744, v2025] : Fin 2 → IVec S16 32) a x).toNat < S160x31.size a)
theorem k0_idx1836_inb : ∀ (v1744 : IVec S16 32) (v2025 : IVec S16 32) (k0_hw1836 : k0_chk1836 v1744 v2025), ∀ a x, ((![v1744, v2025] : Fin 2 → IVec S16 32) a x).toNat < S160x31.size a := fun v1744 v2025 k0_hw1836 => k0_hw1836

def k0_chk1837 (v2029 : IVec S16 32) (v2030 : IVec S16 32) : Prop :=
  (∀ a x, ((![v2029, v2030] : Fin 2 → IVec S16 32) a x).toNat < S160x39.size a)
theorem k0_idx1837_inb : ∀ (v2029 : IVec S16 32) (v2030 : IVec S16 32) (k0_hw1837 : k0_chk1837 v2029 v2030), ∀ a x, ((![v2029, v2030] : Fin 2 → IVec S16 32) a x).toNat < S160x39.size a := fun v2029 v2030 k0_hw1837 => k0_hw1837

def k0_chk1838 (v2029 : IVec S16 32) (v2034 : IVec S16 32) : Prop :=
  (∀ a x, ((![v2029, v2034] : Fin 2 → IVec S16 32) a x).toNat < S160x39.size a)
theorem k0_idx1838_inb : ∀ (v2029 : IVec S16 32) (v2034 : IVec S16 32) (k0_hw1838 : k0_chk1838 v2029 v2034), ∀ a x, ((![v2029, v2034] : Fin 2 → IVec S16 32) a x).toNat < S160x39.size a := fun v2029 v2034 k0_hw1838 => k0_hw1838

def k0_chk1839 (v2029 : IVec S16 32) (v2038 : IVec S16 32) : Prop :=
  (∀ a x, ((![v2029, v2038] : Fin 2 → IVec S16 32) a x).toNat < S160x39.size a)
theorem k0_idx1839_inb : ∀ (v2029 : IVec S16 32) (v2038 : IVec S16 32) (k0_hw1839 : k0_chk1839 v2029 v2038), ∀ a x, ((![v2029, v2038] : Fin 2 → IVec S16 32) a x).toNat < S160x39.size a := fun v2029 v2038 k0_hw1839 => k0_hw1839

def k0_chk1840 (v2029 : IVec S16 32) (v2042 : IVec S16 32) : Prop :=
  (∀ a x, ((![v2029, v2042] : Fin 2 → IVec S16 32) a x).toNat < S160x39.size a)
theorem k0_idx1840_inb : ∀ (v2029 : IVec S16 32) (v2042 : IVec S16 32) (k0_hw1840 : k0_chk1840 v2029 v2042), ∀ a x, ((![v2029, v2042] : Fin 2 → IVec S16 32) a x).toNat < S160x39.size a := fun v2029 v2042 k0_hw1840 => k0_hw1840

def k0_chk1841 (v2029 : IVec S16 32) (v2047 : IVec S16 32) : Prop :=
  (∀ a x, ((![v2029, v2047] : Fin 2 → IVec S16 32) a x).toNat < S160x39.size a)
theorem k0_idx1841_inb : ∀ (v2029 : IVec S16 32) (v2047 : IVec S16 32) (k0_hw1841 : k0_chk1841 v2029 v2047), ∀ a x, ((![v2029, v2047] : Fin 2 → IVec S16 32) a x).toNat < S160x39.size a := fun v2029 v2047 k0_hw1841 => k0_hw1841

def k0_chk1842 (v2029 : IVec S16 32) (v2051 : IVec S16 32) : Prop :=
  (∀ a x, ((![v2029, v2051] : Fin 2 → IVec S16 32) a x).toNat < S160x39.size a)
theorem k0_idx1842_inb : ∀ (v2029 : IVec S16 32) (v2051 : IVec S16 32) (k0_hw1842 : k0_chk1842 v2029 v2051), ∀ a x, ((![v2029, v2051] : Fin 2 → IVec S16 32) a x).toNat < S160x39.size a := fun v2029 v2051 k0_hw1842 => k0_hw1842

def k0_chk1843 (v2029 : IVec S16 32) (v2056 : IVec S16 32) : Prop :=
  (∀ a x, ((![v2029, v2056] : Fin 2 → IVec S16 32) a x).toNat < S160x39.size a)
theorem k0_idx1843_inb : ∀ (v2029 : IVec S16 32) (v2056 : IVec S16 32) (k0_hw1843 : k0_chk1843 v2029 v2056), ∀ a x, ((![v2029, v2056] : Fin 2 → IVec S16 32) a x).toNat < S160x39.size a := fun v2029 v2056 k0_hw1843 => k0_hw1843

def k0_chk1844 (v2029 : IVec S16 32) (v2064 : IVec S16 32) : Prop :=
  (∀ a x, ((![v2029, v2064] : Fin 2 → IVec S16 32) a x).toNat < S160x39.size a)
theorem k0_idx1844_inb : ∀ (v2029 : IVec S16 32) (v2064 : IVec S16 32) (k0_hw1844 : k0_chk1844 v2029 v2064), ∀ a x, ((![v2029, v2064] : Fin 2 → IVec S16 32) a x).toNat < S160x39.size a := fun v2029 v2064 k0_hw1844 => k0_hw1844

def k0_chk1845 (v2029 : IVec S16 32) (v2072 : IVec S16 32) : Prop :=
  (∀ a x, ((![v2029, v2072] : Fin 2 → IVec S16 32) a x).toNat < S160x31.size a)
theorem k0_idx1845_inb : ∀ (v2029 : IVec S16 32) (v2072 : IVec S16 32) (k0_hw1845 : k0_chk1845 v2029 v2072), ∀ a x, ((![v2029, v2072] : Fin 2 → IVec S16 32) a x).toNat < S160x31.size a := fun v2029 v2072 k0_hw1845 => k0_hw1845

def k0_chk1846 (v2029 : IVec S16 32) (v2075 : IVec S16 32) : Prop :=
  (∀ a x, ((![v2029, v2075] : Fin 2 → IVec S16 32) a x).toNat < S160x31.size a)
theorem k0_idx1846_inb : ∀ (v2029 : IVec S16 32) (v2075 : IVec S16 32) (k0_hw1846 : k0_chk1846 v2029 v2075), ∀ a x, ((![v2029, v2075] : Fin 2 → IVec S16 32) a x).toNat < S160x31.size a := fun v2029 v2075 k0_hw1846 => k0_hw1846

def k0_chk1847 (v2029 : IVec S16 32) (v2078 : IVec S16 32) : Prop :=
  (∀ a x, ((![v2029, v2078] : Fin 2 → IVec S16 32) a x).toNat < S160x39.size a)
theorem k0_idx1847_inb : ∀ (v2029 : IVec S16 32) (v2078 : IVec S16 32) (k0_hw1847 : k0_chk1847 v2029 v2078), ∀ a x, ((![v2029, v2078] : Fin 2 → IVec S16 32) a x).toNat < S160x39.size a := fun v2029 v2078 k0_hw1847 => k0_hw1847

def k0_chk1848 (v2029 : IVec S16 32) (v2086 : IVec S16 32) : Prop :=
  (∀ a x, ((![v2029, v2086] : Fin 2 → IVec S16 32) a x).toNat < S160x39.size a)
theorem k0_idx1848_inb : ∀ (v2029 : IVec S16 32) (v2086 : IVec S16 32) (k0_hw1848 : k0_chk1848 v2029 v2086), ∀ a x, ((![v2029, v2086] : Fin 2 → IVec S16 32) a x).toNat < S160x39.size a := fun v2029 v2086 k0_hw1848 => k0_hw1848

def k0_chk1849 (v2029 : IVec S16 32) (v2094 : IVec S16 32) : Prop :=
  (∀ a x, ((![v2029, v2094] : Fin 2 → IVec S16 32) a x).toNat < S160x31.size a)
theorem k0_idx1849_inb : ∀ (v2029 : IVec S16 32) (v2094 : IVec S16 32) (k0_hw1849 : k0_chk1849 v2029 v2094), ∀ a x, ((![v2029, v2094] : Fin 2 → IVec S16 32) a x).toNat < S160x31.size a := fun v2029 v2094 k0_hw1849 => k0_hw1849

def k0_chk1850 (v2029 : IVec S16 32) (v2097 : IVec S16 32) : Prop :=
  (∀ a x, ((![v2029, v2097] : Fin 2 → IVec S16 32) a x).toNat < S160x31.size a)
theorem k0_idx1850_inb : ∀ (v2029 : IVec S16 32) (v2097 : IVec S16 32) (k0_hw1850 : k0_chk1850 v2029 v2097), ∀ a x, ((![v2029, v2097] : Fin 2 → IVec S16 32) a x).toNat < S160x31.size a := fun v2029 v2097 k0_hw1850 => k0_hw1850

def k0_chk1851 (v2029 : IVec S16 32) (v2100 : IVec S16 32) : Prop :=
  (∀ a x, ((![v2029, v2100] : Fin 2 → IVec S16 32) a x).toNat < S160x39.size a)
theorem k0_idx1851_inb : ∀ (v2029 : IVec S16 32) (v2100 : IVec S16 32) (k0_hw1851 : k0_chk1851 v2029 v2100), ∀ a x, ((![v2029, v2100] : Fin 2 → IVec S16 32) a x).toNat < S160x39.size a := fun v2029 v2100 k0_hw1851 => k0_hw1851

def k0_chk1852 (v2029 : IVec S16 32) (v2108 : IVec S16 32) : Prop :=
  (∀ a x, ((![v2029, v2108] : Fin 2 → IVec S16 32) a x).toNat < S160x39.size a)
theorem k0_idx1852_inb : ∀ (v2029 : IVec S16 32) (v2108 : IVec S16 32) (k0_hw1852 : k0_chk1852 v2029 v2108), ∀ a x, ((![v2029, v2108] : Fin 2 → IVec S16 32) a x).toNat < S160x39.size a := fun v2029 v2108 k0_hw1852 => k0_hw1852

def k0_chk1853 (v2029 : IVec S16 32) (v2116 : IVec S16 32) : Prop :=
  (∀ a x, ((![v2029, v2116] : Fin 2 → IVec S16 32) a x).toNat < S160x31.size a)
theorem k0_idx1853_inb : ∀ (v2029 : IVec S16 32) (v2116 : IVec S16 32) (k0_hw1853 : k0_chk1853 v2029 v2116), ∀ a x, ((![v2029, v2116] : Fin 2 → IVec S16 32) a x).toNat < S160x31.size a := fun v2029 v2116 k0_hw1853 => k0_hw1853

def k0_chk1854 (v2029 : IVec S16 32) (v2119 : IVec S16 32) : Prop :=
  (∀ a x, ((![v2029, v2119] : Fin 2 → IVec S16 32) a x).toNat < S160x31.size a)
theorem k0_idx1854_inb : ∀ (v2029 : IVec S16 32) (v2119 : IVec S16 32) (k0_hw1854 : k0_chk1854 v2029 v2119), ∀ a x, ((![v2029, v2119] : Fin 2 → IVec S16 32) a x).toNat < S160x31.size a := fun v2029 v2119 k0_hw1854 => k0_hw1854

def k0_chk1855 (v2029 : IVec S16 32) (v2122 : IVec S16 32) : Prop :=
  (∀ a x, ((![v2029, v2122] : Fin 2 → IVec S16 32) a x).toNat < S160x39.size a)
theorem k0_idx1855_inb : ∀ (v2029 : IVec S16 32) (v2122 : IVec S16 32) (k0_hw1855 : k0_chk1855 v2029 v2122), ∀ a x, ((![v2029, v2122] : Fin 2 → IVec S16 32) a x).toNat < S160x39.size a := fun v2029 v2122 k0_hw1855 => k0_hw1855

def k0_chk1856 (v2029 : IVec S16 32) (v2130 : IVec S16 32) : Prop :=
  (∀ a x, ((![v2029, v2130] : Fin 2 → IVec S16 32) a x).toNat < S160x39.size a)
theorem k0_idx1856_inb : ∀ (v2029 : IVec S16 32) (v2130 : IVec S16 32) (k0_hw1856 : k0_chk1856 v2029 v2130), ∀ a x, ((![v2029, v2130] : Fin 2 → IVec S16 32) a x).toNat < S160x39.size a := fun v2029 v2130 k0_hw1856 => k0_hw1856

def k0_chk1857 (v2029 : IVec S16 32) (v2138 : IVec S16 32) : Prop :=
  (∀ a x, ((![v2029, v2138] : Fin 2 → IVec S16 32) a x).toNat < S160x31.size a)
theorem k0_idx1857_inb : ∀ (v2029 : IVec S16 32) (v2138 : IVec S16 32) (k0_hw1857 : k0_chk1857 v2029 v2138), ∀ a x, ((![v2029, v2138] : Fin 2 → IVec S16 32) a x).toNat < S160x31.size a := fun v2029 v2138 k0_hw1857 => k0_hw1857

def k0_chk1858 (v2029 : IVec S16 32) (v2141 : IVec S16 32) : Prop :=
  (∀ a x, ((![v2029, v2141] : Fin 2 → IVec S16 32) a x).toNat < S160x31.size a)
theorem k0_idx1858_inb : ∀ (v2029 : IVec S16 32) (v2141 : IVec S16 32) (k0_hw1858 : k0_chk1858 v2029 v2141), ∀ a x, ((![v2029, v2141] : Fin 2 → IVec S16 32) a x).toNat < S160x31.size a := fun v2029 v2141 k0_hw1858 => k0_hw1858

def k0_chk1859 (v2029 : IVec S16 32) (v2144 : IVec S16 32) : Prop :=
  (∀ a x, ((![v2029, v2144] : Fin 2 → IVec S16 32) a x).toNat < S160x39.size a)
theorem k0_idx1859_inb : ∀ (v2029 : IVec S16 32) (v2144 : IVec S16 32) (k0_hw1859 : k0_chk1859 v2029 v2144), ∀ a x, ((![v2029, v2144] : Fin 2 → IVec S16 32) a x).toNat < S160x39.size a := fun v2029 v2144 k0_hw1859 => k0_hw1859

def k0_chk1860 (v2029 : IVec S16 32) (v2152 : IVec S16 32) : Prop :=
  (∀ a x, ((![v2029, v2152] : Fin 2 → IVec S16 32) a x).toNat < S160x39.size a)
theorem k0_idx1860_inb : ∀ (v2029 : IVec S16 32) (v2152 : IVec S16 32) (k0_hw1860 : k0_chk1860 v2029 v2152), ∀ a x, ((![v2029, v2152] : Fin 2 → IVec S16 32) a x).toNat < S160x39.size a := fun v2029 v2152 k0_hw1860 => k0_hw1860

def k0_chk1861 (v2029 : IVec S16 32) (v2160 : IVec S16 32) : Prop :=
  (∀ a x, ((![v2029, v2160] : Fin 2 → IVec S16 32) a x).toNat < S160x31.size a)
theorem k0_idx1861_inb : ∀ (v2029 : IVec S16 32) (v2160 : IVec S16 32) (k0_hw1861 : k0_chk1861 v2029 v2160), ∀ a x, ((![v2029, v2160] : Fin 2 → IVec S16 32) a x).toNat < S160x31.size a := fun v2029 v2160 k0_hw1861 => k0_hw1861

def k0_chk1862 (v2029 : IVec S16 32) (v2163 : IVec S16 32) : Prop :=
  (∀ a x, ((![v2029, v2163] : Fin 2 → IVec S16 32) a x).toNat < S160x31.size a)
theorem k0_idx1862_inb : ∀ (v2029 : IVec S16 32) (v2163 : IVec S16 32) (k0_hw1862 : k0_chk1862 v2029 v2163), ∀ a x, ((![v2029, v2163] : Fin 2 → IVec S16 32) a x).toNat < S160x31.size a := fun v2029 v2163 k0_hw1862 => k0_hw1862

def k0_chk1863 (v2029 : IVec S16 32) (v2166 : IVec S16 32) : Prop :=
  (∀ a x, ((![v2029, v2166] : Fin 2 → IVec S16 32) a x).toNat < S160x39.size a)
theorem k0_idx1863_inb : ∀ (v2029 : IVec S16 32) (v2166 : IVec S16 32) (k0_hw1863 : k0_chk1863 v2029 v2166), ∀ a x, ((![v2029, v2166] : Fin 2 → IVec S16 32) a x).toNat < S160x39.size a := fun v2029 v2166 k0_hw1863 => k0_hw1863

def k0_chk1864 (v2029 : IVec S16 32) (v2170 : IVec S16 32) : Prop :=
  (∀ a x, ((![v2029, v2170] : Fin 2 → IVec S16 32) a x).toNat < S160x31.size a)
theorem k0_idx1864_inb : ∀ (v2029 : IVec S16 32) (v2170 : IVec S16 32) (k0_hw1864 : k0_chk1864 v2029 v2170), ∀ a x, ((![v2029, v2170] : Fin 2 → IVec S16 32) a x).toNat < S160x31.size a := fun v2029 v2170 k0_hw1864 => k0_hw1864

def k0_chk1865 (v2029 : IVec S16 32) (v2173 : IVec S16 32) : Prop :=
  (∀ a x, ((![v2029, v2173] : Fin 2 → IVec S16 32) a x).toNat < S160x39.size a)
theorem k0_idx1865_inb : ∀ (v2029 : IVec S16 32) (v2173 : IVec S16 32) (k0_hw1865 : k0_chk1865 v2029 v2173), ∀ a x, ((![v2029, v2173] : Fin 2 → IVec S16 32) a x).toNat < S160x39.size a := fun v2029 v2173 k0_hw1865 => k0_hw1865

def k0_chk1866 (v2029 : IVec S16 32) (v2177 : IVec S16 32) : Prop :=
  (∀ a x, ((![v2029, v2177] : Fin 2 → IVec S16 32) a x).toNat < S160x31.size a)
theorem k0_idx1866_inb : ∀ (v2029 : IVec S16 32) (v2177 : IVec S16 32) (k0_hw1866 : k0_chk1866 v2029 v2177), ∀ a x, ((![v2029, v2177] : Fin 2 → IVec S16 32) a x).toNat < S160x31.size a := fun v2029 v2177 k0_hw1866 => k0_hw1866

def k0_chk1867 (v2029 : IVec S16 32) (v2180 : IVec S16 32) : Prop :=
  (∀ a x, ((![v2029, v2180] : Fin 2 → IVec S16 32) a x).toNat < S160x39.size a)
theorem k0_idx1867_inb : ∀ (v2029 : IVec S16 32) (v2180 : IVec S16 32) (k0_hw1867 : k0_chk1867 v2029 v2180), ∀ a x, ((![v2029, v2180] : Fin 2 → IVec S16 32) a x).toNat < S160x39.size a := fun v2029 v2180 k0_hw1867 => k0_hw1867

def k0_chk1868 (v2029 : IVec S16 32) (v2184 : IVec S16 32) : Prop :=
  (∀ a x, ((![v2029, v2184] : Fin 2 → IVec S16 32) a x).toNat < S160x31.size a)
theorem k0_idx1868_inb : ∀ (v2029 : IVec S16 32) (v2184 : IVec S16 32) (k0_hw1868 : k0_chk1868 v2029 v2184), ∀ a x, ((![v2029, v2184] : Fin 2 → IVec S16 32) a x).toNat < S160x31.size a := fun v2029 v2184 k0_hw1868 => k0_hw1868

def k0_chk1869 (v2029 : IVec S16 32) (v2187 : IVec S16 32) : Prop :=
  (∀ a x, ((![v2029, v2187] : Fin 2 → IVec S16 32) a x).toNat < S160x39.size a)
theorem k0_idx1869_inb : ∀ (v2029 : IVec S16 32) (v2187 : IVec S16 32) (k0_hw1869 : k0_chk1869 v2029 v2187), ∀ a x, ((![v2029, v2187] : Fin 2 → IVec S16 32) a x).toNat < S160x39.size a := fun v2029 v2187 k0_hw1869 => k0_hw1869

def k0_chk1870 (v2029 : IVec S16 32) (v2191 : IVec S16 32) : Prop :=
  (∀ a x, ((![v2029, v2191] : Fin 2 → IVec S16 32) a x).toNat < S160x31.size a)
theorem k0_idx1870_inb : ∀ (v2029 : IVec S16 32) (v2191 : IVec S16 32) (k0_hw1870 : k0_chk1870 v2029 v2191), ∀ a x, ((![v2029, v2191] : Fin 2 → IVec S16 32) a x).toNat < S160x31.size a := fun v2029 v2191 k0_hw1870 => k0_hw1870

def k0_chk1871 (v2029 : IVec S16 32) (v2194 : IVec S16 32) : Prop :=
  (∀ a x, ((![v2029, v2194] : Fin 2 → IVec S16 32) a x).toNat < S160x39.size a)
theorem k0_idx1871_inb : ∀ (v2029 : IVec S16 32) (v2194 : IVec S16 32) (k0_hw1871 : k0_chk1871 v2029 v2194), ∀ a x, ((![v2029, v2194] : Fin 2 → IVec S16 32) a x).toNat < S160x39.size a := fun v2029 v2194 k0_hw1871 => k0_hw1871

def k0_chk1872 (v2029 : IVec S16 32) (v2198 : IVec S16 32) : Prop :=
  (∀ a x, ((![v2029, v2198] : Fin 2 → IVec S16 32) a x).toNat < S160x31.size a)
theorem k0_idx1872_inb : ∀ (v2029 : IVec S16 32) (v2198 : IVec S16 32) (k0_hw1872 : k0_chk1872 v2029 v2198), ∀ a x, ((![v2029, v2198] : Fin 2 → IVec S16 32) a x).toNat < S160x31.size a := fun v2029 v2198 k0_hw1872 => k0_hw1872

def k0_chk1873 (v2029 : IVec S16 32) (v2201 : IVec S16 32) : Prop :=
  (∀ a x, ((![v2029, v2201] : Fin 2 → IVec S16 32) a x).toNat < S160x39.size a)
theorem k0_idx1873_inb : ∀ (v2029 : IVec S16 32) (v2201 : IVec S16 32) (k0_hw1873 : k0_chk1873 v2029 v2201), ∀ a x, ((![v2029, v2201] : Fin 2 → IVec S16 32) a x).toNat < S160x39.size a := fun v2029 v2201 k0_hw1873 => k0_hw1873

def k0_chk1874 (v2029 : IVec S16 32) (v2205 : IVec S16 32) : Prop :=
  (∀ a x, ((![v2029, v2205] : Fin 2 → IVec S16 32) a x).toNat < S160x31.size a)
theorem k0_idx1874_inb : ∀ (v2029 : IVec S16 32) (v2205 : IVec S16 32) (k0_hw1874 : k0_chk1874 v2029 v2205), ∀ a x, ((![v2029, v2205] : Fin 2 → IVec S16 32) a x).toNat < S160x31.size a := fun v2029 v2205 k0_hw1874 => k0_hw1874

def k0_chk1875 (v2029 : IVec S16 32) (v2208 : IVec S16 32) : Prop :=
  (∀ a x, ((![v2029, v2208] : Fin 2 → IVec S16 32) a x).toNat < S160x39.size a)
theorem k0_idx1875_inb : ∀ (v2029 : IVec S16 32) (v2208 : IVec S16 32) (k0_hw1875 : k0_chk1875 v2029 v2208), ∀ a x, ((![v2029, v2208] : Fin 2 → IVec S16 32) a x).toNat < S160x39.size a := fun v2029 v2208 k0_hw1875 => k0_hw1875

def k0_chk1876 (v2029 : IVec S16 32) (v2212 : IVec S16 32) : Prop :=
  (∀ a x, ((![v2029, v2212] : Fin 2 → IVec S16 32) a x).toNat < S160x31.size a)
theorem k0_idx1876_inb : ∀ (v2029 : IVec S16 32) (v2212 : IVec S16 32) (k0_hw1876 : k0_chk1876 v2029 v2212), ∀ a x, ((![v2029, v2212] : Fin 2 → IVec S16 32) a x).toNat < S160x31.size a := fun v2029 v2212 k0_hw1876 => k0_hw1876

def k0_chk1877 (v2029 : IVec S16 32) (v2215 : IVec S16 32) : Prop :=
  (∀ a x, ((![v2029, v2215] : Fin 2 → IVec S16 32) a x).toNat < S160x39.size a)
theorem k0_idx1877_inb : ∀ (v2029 : IVec S16 32) (v2215 : IVec S16 32) (k0_hw1877 : k0_chk1877 v2029 v2215), ∀ a x, ((![v2029, v2215] : Fin 2 → IVec S16 32) a x).toNat < S160x39.size a := fun v2029 v2215 k0_hw1877 => k0_hw1877

def k0_chk1878 (v2029 : IVec S16 32) (v2219 : IVec S16 32) : Prop :=
  (∀ a x, ((![v2029, v2219] : Fin 2 → IVec S16 32) a x).toNat < S160x31.size a)
theorem k0_idx1878_inb : ∀ (v2029 : IVec S16 32) (v2219 : IVec S16 32) (k0_hw1878 : k0_chk1878 v2029 v2219), ∀ a x, ((![v2029, v2219] : Fin 2 → IVec S16 32) a x).toNat < S160x31.size a := fun v2029 v2219 k0_hw1878 => k0_hw1878

def k0_chk1879 (v2029 : IVec S16 32) (v2222 : IVec S16 32) : Prop :=
  (∀ a x, ((![v2029, v2222] : Fin 2 → IVec S16 32) a x).toNat < S160x39.size a)
theorem k0_idx1879_inb : ∀ (v2029 : IVec S16 32) (v2222 : IVec S16 32) (k0_hw1879 : k0_chk1879 v2029 v2222), ∀ a x, ((![v2029, v2222] : Fin 2 → IVec S16 32) a x).toNat < S160x39.size a := fun v2029 v2222 k0_hw1879 => k0_hw1879

def k0_chk1880 (v2029 : IVec S16 32) (v2226 : IVec S16 32) : Prop :=
  (∀ a x, ((![v2029, v2226] : Fin 2 → IVec S16 32) a x).toNat < S160x31.size a)
theorem k0_idx1880_inb : ∀ (v2029 : IVec S16 32) (v2226 : IVec S16 32) (k0_hw1880 : k0_chk1880 v2029 v2226), ∀ a x, ((![v2029, v2226] : Fin 2 → IVec S16 32) a x).toNat < S160x31.size a := fun v2029 v2226 k0_hw1880 => k0_hw1880

def k0_chk1881 (v2029 : IVec S16 32) (v2229 : IVec S16 32) : Prop :=
  (∀ a x, ((![v2029, v2229] : Fin 2 → IVec S16 32) a x).toNat < S160x39.size a)
theorem k0_idx1881_inb : ∀ (v2029 : IVec S16 32) (v2229 : IVec S16 32) (k0_hw1881 : k0_chk1881 v2029 v2229), ∀ a x, ((![v2029, v2229] : Fin 2 → IVec S16 32) a x).toNat < S160x39.size a := fun v2029 v2229 k0_hw1881 => k0_hw1881

def k0_chk1882 (v2029 : IVec S16 32) (v2233 : IVec S16 32) : Prop :=
  (∀ a x, ((![v2029, v2233] : Fin 2 → IVec S16 32) a x).toNat < S160x31.size a)
theorem k0_idx1882_inb : ∀ (v2029 : IVec S16 32) (v2233 : IVec S16 32) (k0_hw1882 : k0_chk1882 v2029 v2233), ∀ a x, ((![v2029, v2233] : Fin 2 → IVec S16 32) a x).toNat < S160x31.size a := fun v2029 v2233 k0_hw1882 => k0_hw1882

def k0_chk1883 (v2029 : IVec S16 32) (v2236 : IVec S16 32) : Prop :=
  (∀ a x, ((![v2029, v2236] : Fin 2 → IVec S16 32) a x).toNat < S160x39.size a)
theorem k0_idx1883_inb : ∀ (v2029 : IVec S16 32) (v2236 : IVec S16 32) (k0_hw1883 : k0_chk1883 v2029 v2236), ∀ a x, ((![v2029, v2236] : Fin 2 → IVec S16 32) a x).toNat < S160x39.size a := fun v2029 v2236 k0_hw1883 => k0_hw1883

def k0_chk1884 (v2029 : IVec S16 32) (v2240 : IVec S16 32) : Prop :=
  (∀ a x, ((![v2029, v2240] : Fin 2 → IVec S16 32) a x).toNat < S160x31.size a)
theorem k0_idx1884_inb : ∀ (v2029 : IVec S16 32) (v2240 : IVec S16 32) (k0_hw1884 : k0_chk1884 v2029 v2240), ∀ a x, ((![v2029, v2240] : Fin 2 → IVec S16 32) a x).toNat < S160x31.size a := fun v2029 v2240 k0_hw1884 => k0_hw1884

def k0_chk1885 (v2029 : IVec S16 32) (v2243 : IVec S16 32) : Prop :=
  (∀ a x, ((![v2029, v2243] : Fin 2 → IVec S16 32) a x).toNat < S160x39.size a)
theorem k0_idx1885_inb : ∀ (v2029 : IVec S16 32) (v2243 : IVec S16 32) (k0_hw1885 : k0_chk1885 v2029 v2243), ∀ a x, ((![v2029, v2243] : Fin 2 → IVec S16 32) a x).toNat < S160x39.size a := fun v2029 v2243 k0_hw1885 => k0_hw1885

def k0_chk1886 (v2029 : IVec S16 32) (v2247 : IVec S16 32) : Prop :=
  (∀ a x, ((![v2029, v2247] : Fin 2 → IVec S16 32) a x).toNat < S160x31.size a)
theorem k0_idx1886_inb : ∀ (v2029 : IVec S16 32) (v2247 : IVec S16 32) (k0_hw1886 : k0_chk1886 v2029 v2247), ∀ a x, ((![v2029, v2247] : Fin 2 → IVec S16 32) a x).toNat < S160x31.size a := fun v2029 v2247 k0_hw1886 => k0_hw1886

def k0_chk1887 (v2029 : IVec S16 32) (v2250 : IVec S16 32) : Prop :=
  (∀ a x, ((![v2029, v2250] : Fin 2 → IVec S16 32) a x).toNat < S160x39.size a)
theorem k0_idx1887_inb : ∀ (v2029 : IVec S16 32) (v2250 : IVec S16 32) (k0_hw1887 : k0_chk1887 v2029 v2250), ∀ a x, ((![v2029, v2250] : Fin 2 → IVec S16 32) a x).toNat < S160x39.size a := fun v2029 v2250 k0_hw1887 => k0_hw1887

def k0_chk1888 (v2029 : IVec S16 32) (v2254 : IVec S16 32) : Prop :=
  (∀ a x, ((![v2029, v2254] : Fin 2 → IVec S16 32) a x).toNat < S160x31.size a)
theorem k0_idx1888_inb : ∀ (v2029 : IVec S16 32) (v2254 : IVec S16 32) (k0_hw1888 : k0_chk1888 v2029 v2254), ∀ a x, ((![v2029, v2254] : Fin 2 → IVec S16 32) a x).toNat < S160x31.size a := fun v2029 v2254 k0_hw1888 => k0_hw1888

def k0_chk1889 (v2029 : IVec S16 32) (v2257 : IVec S16 32) : Prop :=
  (∀ a x, ((![v2029, v2257] : Fin 2 → IVec S16 32) a x).toNat < S160x39.size a)
theorem k0_idx1889_inb : ∀ (v2029 : IVec S16 32) (v2257 : IVec S16 32) (k0_hw1889 : k0_chk1889 v2029 v2257), ∀ a x, ((![v2029, v2257] : Fin 2 → IVec S16 32) a x).toNat < S160x39.size a := fun v2029 v2257 k0_hw1889 => k0_hw1889

def k0_chk1890 (v2029 : IVec S16 32) (v2261 : IVec S16 32) : Prop :=
  (∀ a x, ((![v2029, v2261] : Fin 2 → IVec S16 32) a x).toNat < S160x31.size a)
theorem k0_idx1890_inb : ∀ (v2029 : IVec S16 32) (v2261 : IVec S16 32) (k0_hw1890 : k0_chk1890 v2029 v2261), ∀ a x, ((![v2029, v2261] : Fin 2 → IVec S16 32) a x).toNat < S160x31.size a := fun v2029 v2261 k0_hw1890 => k0_hw1890

def k0_chk1891 (v2029 : IVec S16 32) (v2264 : IVec S16 32) : Prop :=
  (∀ a x, ((![v2029, v2264] : Fin 2 → IVec S16 32) a x).toNat < S160x39.size a)
theorem k0_idx1891_inb : ∀ (v2029 : IVec S16 32) (v2264 : IVec S16 32) (k0_hw1891 : k0_chk1891 v2029 v2264), ∀ a x, ((![v2029, v2264] : Fin 2 → IVec S16 32) a x).toNat < S160x39.size a := fun v2029 v2264 k0_hw1891 => k0_hw1891

def k0_chk1892 (v2029 : IVec S16 32) (v2268 : IVec S16 32) : Prop :=
  (∀ a x, ((![v2029, v2268] : Fin 2 → IVec S16 32) a x).toNat < S160x31.size a)
theorem k0_idx1892_inb : ∀ (v2029 : IVec S16 32) (v2268 : IVec S16 32) (k0_hw1892 : k0_chk1892 v2029 v2268), ∀ a x, ((![v2029, v2268] : Fin 2 → IVec S16 32) a x).toNat < S160x31.size a := fun v2029 v2268 k0_hw1892 => k0_hw1892

def k0_chk1893 (v2029 : IVec S16 32) (v2271 : IVec S16 32) : Prop :=
  (∀ a x, ((![v2029, v2271] : Fin 2 → IVec S16 32) a x).toNat < S160x39.size a)
theorem k0_idx1893_inb : ∀ (v2029 : IVec S16 32) (v2271 : IVec S16 32) (k0_hw1893 : k0_chk1893 v2029 v2271), ∀ a x, ((![v2029, v2271] : Fin 2 → IVec S16 32) a x).toNat < S160x39.size a := fun v2029 v2271 k0_hw1893 => k0_hw1893

def k0_chk1894 (v2029 : IVec S16 32) (v2275 : IVec S16 32) : Prop :=
  (∀ a x, ((![v2029, v2275] : Fin 2 → IVec S16 32) a x).toNat < S160x31.size a)
theorem k0_idx1894_inb : ∀ (v2029 : IVec S16 32) (v2275 : IVec S16 32) (k0_hw1894 : k0_chk1894 v2029 v2275), ∀ a x, ((![v2029, v2275] : Fin 2 → IVec S16 32) a x).toNat < S160x31.size a := fun v2029 v2275 k0_hw1894 => k0_hw1894

def k0_chk1895 (v2029 : IVec S16 32) (v2278 : IVec S16 32) : Prop :=
  (∀ a x, ((![v2029, v2278] : Fin 2 → IVec S16 32) a x).toNat < S160x39.size a)
theorem k0_idx1895_inb : ∀ (v2029 : IVec S16 32) (v2278 : IVec S16 32) (k0_hw1895 : k0_chk1895 v2029 v2278), ∀ a x, ((![v2029, v2278] : Fin 2 → IVec S16 32) a x).toNat < S160x39.size a := fun v2029 v2278 k0_hw1895 => k0_hw1895

def k0_chk1896 (v2029 : IVec S16 32) (v2282 : IVec S16 32) : Prop :=
  (∀ a x, ((![v2029, v2282] : Fin 2 → IVec S16 32) a x).toNat < S160x31.size a)
theorem k0_idx1896_inb : ∀ (v2029 : IVec S16 32) (v2282 : IVec S16 32) (k0_hw1896 : k0_chk1896 v2029 v2282), ∀ a x, ((![v2029, v2282] : Fin 2 → IVec S16 32) a x).toNat < S160x31.size a := fun v2029 v2282 k0_hw1896 => k0_hw1896

def k0_chk1897 (v2029 : IVec S16 32) (v2285 : IVec S16 32) : Prop :=
  (∀ a x, ((![v2029, v2285] : Fin 2 → IVec S16 32) a x).toNat < S160x39.size a)
theorem k0_idx1897_inb : ∀ (v2029 : IVec S16 32) (v2285 : IVec S16 32) (k0_hw1897 : k0_chk1897 v2029 v2285), ∀ a x, ((![v2029, v2285] : Fin 2 → IVec S16 32) a x).toNat < S160x39.size a := fun v2029 v2285 k0_hw1897 => k0_hw1897

def k0_chk1898 (v2029 : IVec S16 32) (v2289 : IVec S16 32) : Prop :=
  (∀ a x, ((![v2029, v2289] : Fin 2 → IVec S16 32) a x).toNat < S160x31.size a)
theorem k0_idx1898_inb : ∀ (v2029 : IVec S16 32) (v2289 : IVec S16 32) (k0_hw1898 : k0_chk1898 v2029 v2289), ∀ a x, ((![v2029, v2289] : Fin 2 → IVec S16 32) a x).toNat < S160x31.size a := fun v2029 v2289 k0_hw1898 => k0_hw1898

def k0_chk1899 (v2029 : IVec S16 32) (v2292 : IVec S16 32) : Prop :=
  (∀ a x, ((![v2029, v2292] : Fin 2 → IVec S16 32) a x).toNat < S160x39.size a)
theorem k0_idx1899_inb : ∀ (v2029 : IVec S16 32) (v2292 : IVec S16 32) (k0_hw1899 : k0_chk1899 v2029 v2292), ∀ a x, ((![v2029, v2292] : Fin 2 → IVec S16 32) a x).toNat < S160x39.size a := fun v2029 v2292 k0_hw1899 => k0_hw1899

def k0_chk1900 (v2029 : IVec S16 32) (v2296 : IVec S16 32) : Prop :=
  (∀ a x, ((![v2029, v2296] : Fin 2 → IVec S16 32) a x).toNat < S160x31.size a)
theorem k0_idx1900_inb : ∀ (v2029 : IVec S16 32) (v2296 : IVec S16 32) (k0_hw1900 : k0_chk1900 v2029 v2296), ∀ a x, ((![v2029, v2296] : Fin 2 → IVec S16 32) a x).toNat < S160x31.size a := fun v2029 v2296 k0_hw1900 => k0_hw1900

def k0_chk1901 (v2029 : IVec S16 32) (v2299 : IVec S16 32) : Prop :=
  (∀ a x, ((![v2029, v2299] : Fin 2 → IVec S16 32) a x).toNat < S160x39.size a)
theorem k0_idx1901_inb : ∀ (v2029 : IVec S16 32) (v2299 : IVec S16 32) (k0_hw1901 : k0_chk1901 v2029 v2299), ∀ a x, ((![v2029, v2299] : Fin 2 → IVec S16 32) a x).toNat < S160x39.size a := fun v2029 v2299 k0_hw1901 => k0_hw1901

def k0_chk1902 (v2029 : IVec S16 32) (v2303 : IVec S16 32) : Prop :=
  (∀ a x, ((![v2029, v2303] : Fin 2 → IVec S16 32) a x).toNat < S160x31.size a)
theorem k0_idx1902_inb : ∀ (v2029 : IVec S16 32) (v2303 : IVec S16 32) (k0_hw1902 : k0_chk1902 v2029 v2303), ∀ a x, ((![v2029, v2303] : Fin 2 → IVec S16 32) a x).toNat < S160x31.size a := fun v2029 v2303 k0_hw1902 => k0_hw1902

def k0_chk1903 (v2029 : IVec S16 32) (v2306 : IVec S16 32) : Prop :=
  (∀ a x, ((![v2029, v2306] : Fin 2 → IVec S16 32) a x).toNat < S160x39.size a)
theorem k0_idx1903_inb : ∀ (v2029 : IVec S16 32) (v2306 : IVec S16 32) (k0_hw1903 : k0_chk1903 v2029 v2306), ∀ a x, ((![v2029, v2306] : Fin 2 → IVec S16 32) a x).toNat < S160x39.size a := fun v2029 v2306 k0_hw1903 => k0_hw1903

def k0_chk1904 (v2029 : IVec S16 32) (v2310 : IVec S16 32) : Prop :=
  (∀ a x, ((![v2029, v2310] : Fin 2 → IVec S16 32) a x).toNat < S160x31.size a)
theorem k0_idx1904_inb : ∀ (v2029 : IVec S16 32) (v2310 : IVec S16 32) (k0_hw1904 : k0_chk1904 v2029 v2310), ∀ a x, ((![v2029, v2310] : Fin 2 → IVec S16 32) a x).toNat < S160x31.size a := fun v2029 v2310 k0_hw1904 => k0_hw1904

def k0_chk1905 (v2314 : IVec S16 32) (v2315 : IVec S16 32) : Prop :=
  (∀ a x, ((![v2314, v2315] : Fin 2 → IVec S16 32) a x).toNat < S160x39.size a)
theorem k0_idx1905_inb : ∀ (v2314 : IVec S16 32) (v2315 : IVec S16 32) (k0_hw1905 : k0_chk1905 v2314 v2315), ∀ a x, ((![v2314, v2315] : Fin 2 → IVec S16 32) a x).toNat < S160x39.size a := fun v2314 v2315 k0_hw1905 => k0_hw1905

def k0_chk1906 (v2314 : IVec S16 32) (v2319 : IVec S16 32) : Prop :=
  (∀ a x, ((![v2314, v2319] : Fin 2 → IVec S16 32) a x).toNat < S160x39.size a)
theorem k0_idx1906_inb : ∀ (v2314 : IVec S16 32) (v2319 : IVec S16 32) (k0_hw1906 : k0_chk1906 v2314 v2319), ∀ a x, ((![v2314, v2319] : Fin 2 → IVec S16 32) a x).toNat < S160x39.size a := fun v2314 v2319 k0_hw1906 => k0_hw1906

def k0_chk1907 (v2314 : IVec S16 32) (v2323 : IVec S16 32) : Prop :=
  (∀ a x, ((![v2314, v2323] : Fin 2 → IVec S16 32) a x).toNat < S160x39.size a)
theorem k0_idx1907_inb : ∀ (v2314 : IVec S16 32) (v2323 : IVec S16 32) (k0_hw1907 : k0_chk1907 v2314 v2323), ∀ a x, ((![v2314, v2323] : Fin 2 → IVec S16 32) a x).toNat < S160x39.size a := fun v2314 v2323 k0_hw1907 => k0_hw1907

def k0_chk1908 (v2314 : IVec S16 32) (v2327 : IVec S16 32) : Prop :=
  (∀ a x, ((![v2314, v2327] : Fin 2 → IVec S16 32) a x).toNat < S160x39.size a)
theorem k0_idx1908_inb : ∀ (v2314 : IVec S16 32) (v2327 : IVec S16 32) (k0_hw1908 : k0_chk1908 v2314 v2327), ∀ a x, ((![v2314, v2327] : Fin 2 → IVec S16 32) a x).toNat < S160x39.size a := fun v2314 v2327 k0_hw1908 => k0_hw1908

def k0_chk1909 (v2314 : IVec S16 32) (v2332 : IVec S16 32) : Prop :=
  (∀ a x, ((![v2314, v2332] : Fin 2 → IVec S16 32) a x).toNat < S160x39.size a)
theorem k0_idx1909_inb : ∀ (v2314 : IVec S16 32) (v2332 : IVec S16 32) (k0_hw1909 : k0_chk1909 v2314 v2332), ∀ a x, ((![v2314, v2332] : Fin 2 → IVec S16 32) a x).toNat < S160x39.size a := fun v2314 v2332 k0_hw1909 => k0_hw1909

def k0_chk1910 (v2314 : IVec S16 32) (v2336 : IVec S16 32) : Prop :=
  (∀ a x, ((![v2314, v2336] : Fin 2 → IVec S16 32) a x).toNat < S160x39.size a)
theorem k0_idx1910_inb : ∀ (v2314 : IVec S16 32) (v2336 : IVec S16 32) (k0_hw1910 : k0_chk1910 v2314 v2336), ∀ a x, ((![v2314, v2336] : Fin 2 → IVec S16 32) a x).toNat < S160x39.size a := fun v2314 v2336 k0_hw1910 => k0_hw1910

def k0_chk1911 (v2314 : IVec S16 32) (v2341 : IVec S16 32) : Prop :=
  (∀ a x, ((![v2314, v2341] : Fin 2 → IVec S16 32) a x).toNat < S160x39.size a)
theorem k0_idx1911_inb : ∀ (v2314 : IVec S16 32) (v2341 : IVec S16 32) (k0_hw1911 : k0_chk1911 v2314 v2341), ∀ a x, ((![v2314, v2341] : Fin 2 → IVec S16 32) a x).toNat < S160x39.size a := fun v2314 v2341 k0_hw1911 => k0_hw1911

def k0_chk1912 (v2314 : IVec S16 32) (v2349 : IVec S16 32) : Prop :=
  (∀ a x, ((![v2314, v2349] : Fin 2 → IVec S16 32) a x).toNat < S160x39.size a)
theorem k0_idx1912_inb : ∀ (v2314 : IVec S16 32) (v2349 : IVec S16 32) (k0_hw1912 : k0_chk1912 v2314 v2349), ∀ a x, ((![v2314, v2349] : Fin 2 → IVec S16 32) a x).toNat < S160x39.size a := fun v2314 v2349 k0_hw1912 => k0_hw1912

def k0_chk1913 (v2314 : IVec S16 32) (v2357 : IVec S16 32) : Prop :=
  (∀ a x, ((![v2314, v2357] : Fin 2 → IVec S16 32) a x).toNat < S160x31.size a)
theorem k0_idx1913_inb : ∀ (v2314 : IVec S16 32) (v2357 : IVec S16 32) (k0_hw1913 : k0_chk1913 v2314 v2357), ∀ a x, ((![v2314, v2357] : Fin 2 → IVec S16 32) a x).toNat < S160x31.size a := fun v2314 v2357 k0_hw1913 => k0_hw1913

def k0_chk1914 (v2314 : IVec S16 32) (v2360 : IVec S16 32) : Prop :=
  (∀ a x, ((![v2314, v2360] : Fin 2 → IVec S16 32) a x).toNat < S160x31.size a)
theorem k0_idx1914_inb : ∀ (v2314 : IVec S16 32) (v2360 : IVec S16 32) (k0_hw1914 : k0_chk1914 v2314 v2360), ∀ a x, ((![v2314, v2360] : Fin 2 → IVec S16 32) a x).toNat < S160x31.size a := fun v2314 v2360 k0_hw1914 => k0_hw1914

def k0_chk1915 (v2314 : IVec S16 32) (v2363 : IVec S16 32) : Prop :=
  (∀ a x, ((![v2314, v2363] : Fin 2 → IVec S16 32) a x).toNat < S160x39.size a)
theorem k0_idx1915_inb : ∀ (v2314 : IVec S16 32) (v2363 : IVec S16 32) (k0_hw1915 : k0_chk1915 v2314 v2363), ∀ a x, ((![v2314, v2363] : Fin 2 → IVec S16 32) a x).toNat < S160x39.size a := fun v2314 v2363 k0_hw1915 => k0_hw1915

def k0_chk1916 (v2314 : IVec S16 32) (v2371 : IVec S16 32) : Prop :=
  (∀ a x, ((![v2314, v2371] : Fin 2 → IVec S16 32) a x).toNat < S160x39.size a)
theorem k0_idx1916_inb : ∀ (v2314 : IVec S16 32) (v2371 : IVec S16 32) (k0_hw1916 : k0_chk1916 v2314 v2371), ∀ a x, ((![v2314, v2371] : Fin 2 → IVec S16 32) a x).toNat < S160x39.size a := fun v2314 v2371 k0_hw1916 => k0_hw1916

def k0_chk1917 (v2314 : IVec S16 32) (v2379 : IVec S16 32) : Prop :=
  (∀ a x, ((![v2314, v2379] : Fin 2 → IVec S16 32) a x).toNat < S160x31.size a)
theorem k0_idx1917_inb : ∀ (v2314 : IVec S16 32) (v2379 : IVec S16 32) (k0_hw1917 : k0_chk1917 v2314 v2379), ∀ a x, ((![v2314, v2379] : Fin 2 → IVec S16 32) a x).toNat < S160x31.size a := fun v2314 v2379 k0_hw1917 => k0_hw1917

def k0_chk1918 (v2314 : IVec S16 32) (v2382 : IVec S16 32) : Prop :=
  (∀ a x, ((![v2314, v2382] : Fin 2 → IVec S16 32) a x).toNat < S160x31.size a)
theorem k0_idx1918_inb : ∀ (v2314 : IVec S16 32) (v2382 : IVec S16 32) (k0_hw1918 : k0_chk1918 v2314 v2382), ∀ a x, ((![v2314, v2382] : Fin 2 → IVec S16 32) a x).toNat < S160x31.size a := fun v2314 v2382 k0_hw1918 => k0_hw1918

def k0_chk1919 (v2314 : IVec S16 32) (v2385 : IVec S16 32) : Prop :=
  (∀ a x, ((![v2314, v2385] : Fin 2 → IVec S16 32) a x).toNat < S160x39.size a)
theorem k0_idx1919_inb : ∀ (v2314 : IVec S16 32) (v2385 : IVec S16 32) (k0_hw1919 : k0_chk1919 v2314 v2385), ∀ a x, ((![v2314, v2385] : Fin 2 → IVec S16 32) a x).toNat < S160x39.size a := fun v2314 v2385 k0_hw1919 => k0_hw1919

def k0_chk1920 (v2314 : IVec S16 32) (v2393 : IVec S16 32) : Prop :=
  (∀ a x, ((![v2314, v2393] : Fin 2 → IVec S16 32) a x).toNat < S160x39.size a)
theorem k0_idx1920_inb : ∀ (v2314 : IVec S16 32) (v2393 : IVec S16 32) (k0_hw1920 : k0_chk1920 v2314 v2393), ∀ a x, ((![v2314, v2393] : Fin 2 → IVec S16 32) a x).toNat < S160x39.size a := fun v2314 v2393 k0_hw1920 => k0_hw1920

def k0_chk1921 (v2314 : IVec S16 32) (v2401 : IVec S16 32) : Prop :=
  (∀ a x, ((![v2314, v2401] : Fin 2 → IVec S16 32) a x).toNat < S160x31.size a)
theorem k0_idx1921_inb : ∀ (v2314 : IVec S16 32) (v2401 : IVec S16 32) (k0_hw1921 : k0_chk1921 v2314 v2401), ∀ a x, ((![v2314, v2401] : Fin 2 → IVec S16 32) a x).toNat < S160x31.size a := fun v2314 v2401 k0_hw1921 => k0_hw1921

def k0_chk1922 (v2314 : IVec S16 32) (v2404 : IVec S16 32) : Prop :=
  (∀ a x, ((![v2314, v2404] : Fin 2 → IVec S16 32) a x).toNat < S160x31.size a)
theorem k0_idx1922_inb : ∀ (v2314 : IVec S16 32) (v2404 : IVec S16 32) (k0_hw1922 : k0_chk1922 v2314 v2404), ∀ a x, ((![v2314, v2404] : Fin 2 → IVec S16 32) a x).toNat < S160x31.size a := fun v2314 v2404 k0_hw1922 => k0_hw1922

def k0_chk1923 (v2314 : IVec S16 32) (v2407 : IVec S16 32) : Prop :=
  (∀ a x, ((![v2314, v2407] : Fin 2 → IVec S16 32) a x).toNat < S160x39.size a)
theorem k0_idx1923_inb : ∀ (v2314 : IVec S16 32) (v2407 : IVec S16 32) (k0_hw1923 : k0_chk1923 v2314 v2407), ∀ a x, ((![v2314, v2407] : Fin 2 → IVec S16 32) a x).toNat < S160x39.size a := fun v2314 v2407 k0_hw1923 => k0_hw1923

def k0_chk1924 (v2314 : IVec S16 32) (v2415 : IVec S16 32) : Prop :=
  (∀ a x, ((![v2314, v2415] : Fin 2 → IVec S16 32) a x).toNat < S160x39.size a)
theorem k0_idx1924_inb : ∀ (v2314 : IVec S16 32) (v2415 : IVec S16 32) (k0_hw1924 : k0_chk1924 v2314 v2415), ∀ a x, ((![v2314, v2415] : Fin 2 → IVec S16 32) a x).toNat < S160x39.size a := fun v2314 v2415 k0_hw1924 => k0_hw1924

def k0_chk1925 (v2314 : IVec S16 32) (v2423 : IVec S16 32) : Prop :=
  (∀ a x, ((![v2314, v2423] : Fin 2 → IVec S16 32) a x).toNat < S160x31.size a)
theorem k0_idx1925_inb : ∀ (v2314 : IVec S16 32) (v2423 : IVec S16 32) (k0_hw1925 : k0_chk1925 v2314 v2423), ∀ a x, ((![v2314, v2423] : Fin 2 → IVec S16 32) a x).toNat < S160x31.size a := fun v2314 v2423 k0_hw1925 => k0_hw1925

def k0_chk1926 (v2314 : IVec S16 32) (v2426 : IVec S16 32) : Prop :=
  (∀ a x, ((![v2314, v2426] : Fin 2 → IVec S16 32) a x).toNat < S160x31.size a)
theorem k0_idx1926_inb : ∀ (v2314 : IVec S16 32) (v2426 : IVec S16 32) (k0_hw1926 : k0_chk1926 v2314 v2426), ∀ a x, ((![v2314, v2426] : Fin 2 → IVec S16 32) a x).toNat < S160x31.size a := fun v2314 v2426 k0_hw1926 => k0_hw1926

def k0_chk1927 (v2314 : IVec S16 32) (v2429 : IVec S16 32) : Prop :=
  (∀ a x, ((![v2314, v2429] : Fin 2 → IVec S16 32) a x).toNat < S160x39.size a)
theorem k0_idx1927_inb : ∀ (v2314 : IVec S16 32) (v2429 : IVec S16 32) (k0_hw1927 : k0_chk1927 v2314 v2429), ∀ a x, ((![v2314, v2429] : Fin 2 → IVec S16 32) a x).toNat < S160x39.size a := fun v2314 v2429 k0_hw1927 => k0_hw1927

def k0_chk1928 (v2314 : IVec S16 32) (v2437 : IVec S16 32) : Prop :=
  (∀ a x, ((![v2314, v2437] : Fin 2 → IVec S16 32) a x).toNat < S160x39.size a)
theorem k0_idx1928_inb : ∀ (v2314 : IVec S16 32) (v2437 : IVec S16 32) (k0_hw1928 : k0_chk1928 v2314 v2437), ∀ a x, ((![v2314, v2437] : Fin 2 → IVec S16 32) a x).toNat < S160x39.size a := fun v2314 v2437 k0_hw1928 => k0_hw1928

def k0_chk1929 (v2314 : IVec S16 32) (v2445 : IVec S16 32) : Prop :=
  (∀ a x, ((![v2314, v2445] : Fin 2 → IVec S16 32) a x).toNat < S160x31.size a)
theorem k0_idx1929_inb : ∀ (v2314 : IVec S16 32) (v2445 : IVec S16 32) (k0_hw1929 : k0_chk1929 v2314 v2445), ∀ a x, ((![v2314, v2445] : Fin 2 → IVec S16 32) a x).toNat < S160x31.size a := fun v2314 v2445 k0_hw1929 => k0_hw1929

def k0_chk1930 (v2314 : IVec S16 32) (v2448 : IVec S16 32) : Prop :=
  (∀ a x, ((![v2314, v2448] : Fin 2 → IVec S16 32) a x).toNat < S160x31.size a)
theorem k0_idx1930_inb : ∀ (v2314 : IVec S16 32) (v2448 : IVec S16 32) (k0_hw1930 : k0_chk1930 v2314 v2448), ∀ a x, ((![v2314, v2448] : Fin 2 → IVec S16 32) a x).toNat < S160x31.size a := fun v2314 v2448 k0_hw1930 => k0_hw1930

def k0_chk1931 (v2314 : IVec S16 32) (v2451 : IVec S16 32) : Prop :=
  (∀ a x, ((![v2314, v2451] : Fin 2 → IVec S16 32) a x).toNat < S160x39.size a)
theorem k0_idx1931_inb : ∀ (v2314 : IVec S16 32) (v2451 : IVec S16 32) (k0_hw1931 : k0_chk1931 v2314 v2451), ∀ a x, ((![v2314, v2451] : Fin 2 → IVec S16 32) a x).toNat < S160x39.size a := fun v2314 v2451 k0_hw1931 => k0_hw1931

def k0_chk1932 (v2314 : IVec S16 32) (v2455 : IVec S16 32) : Prop :=
  (∀ a x, ((![v2314, v2455] : Fin 2 → IVec S16 32) a x).toNat < S160x31.size a)
theorem k0_idx1932_inb : ∀ (v2314 : IVec S16 32) (v2455 : IVec S16 32) (k0_hw1932 : k0_chk1932 v2314 v2455), ∀ a x, ((![v2314, v2455] : Fin 2 → IVec S16 32) a x).toNat < S160x31.size a := fun v2314 v2455 k0_hw1932 => k0_hw1932

def k0_chk1933 (v2314 : IVec S16 32) (v2458 : IVec S16 32) : Prop :=
  (∀ a x, ((![v2314, v2458] : Fin 2 → IVec S16 32) a x).toNat < S160x39.size a)
theorem k0_idx1933_inb : ∀ (v2314 : IVec S16 32) (v2458 : IVec S16 32) (k0_hw1933 : k0_chk1933 v2314 v2458), ∀ a x, ((![v2314, v2458] : Fin 2 → IVec S16 32) a x).toNat < S160x39.size a := fun v2314 v2458 k0_hw1933 => k0_hw1933

def k0_chk1934 (v2314 : IVec S16 32) (v2462 : IVec S16 32) : Prop :=
  (∀ a x, ((![v2314, v2462] : Fin 2 → IVec S16 32) a x).toNat < S160x31.size a)
theorem k0_idx1934_inb : ∀ (v2314 : IVec S16 32) (v2462 : IVec S16 32) (k0_hw1934 : k0_chk1934 v2314 v2462), ∀ a x, ((![v2314, v2462] : Fin 2 → IVec S16 32) a x).toNat < S160x31.size a := fun v2314 v2462 k0_hw1934 => k0_hw1934

def k0_chk1935 (v2314 : IVec S16 32) (v2465 : IVec S16 32) : Prop :=
  (∀ a x, ((![v2314, v2465] : Fin 2 → IVec S16 32) a x).toNat < S160x39.size a)
theorem k0_idx1935_inb : ∀ (v2314 : IVec S16 32) (v2465 : IVec S16 32) (k0_hw1935 : k0_chk1935 v2314 v2465), ∀ a x, ((![v2314, v2465] : Fin 2 → IVec S16 32) a x).toNat < S160x39.size a := fun v2314 v2465 k0_hw1935 => k0_hw1935

def k0_chk1936 (v2314 : IVec S16 32) (v2469 : IVec S16 32) : Prop :=
  (∀ a x, ((![v2314, v2469] : Fin 2 → IVec S16 32) a x).toNat < S160x31.size a)
theorem k0_idx1936_inb : ∀ (v2314 : IVec S16 32) (v2469 : IVec S16 32) (k0_hw1936 : k0_chk1936 v2314 v2469), ∀ a x, ((![v2314, v2469] : Fin 2 → IVec S16 32) a x).toNat < S160x31.size a := fun v2314 v2469 k0_hw1936 => k0_hw1936

def k0_chk1937 (v2314 : IVec S16 32) (v2472 : IVec S16 32) : Prop :=
  (∀ a x, ((![v2314, v2472] : Fin 2 → IVec S16 32) a x).toNat < S160x39.size a)
theorem k0_idx1937_inb : ∀ (v2314 : IVec S16 32) (v2472 : IVec S16 32) (k0_hw1937 : k0_chk1937 v2314 v2472), ∀ a x, ((![v2314, v2472] : Fin 2 → IVec S16 32) a x).toNat < S160x39.size a := fun v2314 v2472 k0_hw1937 => k0_hw1937

def k0_chk1938 (v2314 : IVec S16 32) (v2476 : IVec S16 32) : Prop :=
  (∀ a x, ((![v2314, v2476] : Fin 2 → IVec S16 32) a x).toNat < S160x31.size a)
theorem k0_idx1938_inb : ∀ (v2314 : IVec S16 32) (v2476 : IVec S16 32) (k0_hw1938 : k0_chk1938 v2314 v2476), ∀ a x, ((![v2314, v2476] : Fin 2 → IVec S16 32) a x).toNat < S160x31.size a := fun v2314 v2476 k0_hw1938 => k0_hw1938

def k0_chk1939 (v2314 : IVec S16 32) (v2479 : IVec S16 32) : Prop :=
  (∀ a x, ((![v2314, v2479] : Fin 2 → IVec S16 32) a x).toNat < S160x39.size a)
theorem k0_idx1939_inb : ∀ (v2314 : IVec S16 32) (v2479 : IVec S16 32) (k0_hw1939 : k0_chk1939 v2314 v2479), ∀ a x, ((![v2314, v2479] : Fin 2 → IVec S16 32) a x).toNat < S160x39.size a := fun v2314 v2479 k0_hw1939 => k0_hw1939

def k0_chk1940 (v2314 : IVec S16 32) (v2483 : IVec S16 32) : Prop :=
  (∀ a x, ((![v2314, v2483] : Fin 2 → IVec S16 32) a x).toNat < S160x31.size a)
theorem k0_idx1940_inb : ∀ (v2314 : IVec S16 32) (v2483 : IVec S16 32) (k0_hw1940 : k0_chk1940 v2314 v2483), ∀ a x, ((![v2314, v2483] : Fin 2 → IVec S16 32) a x).toNat < S160x31.size a := fun v2314 v2483 k0_hw1940 => k0_hw1940

def k0_chk1941 (v2314 : IVec S16 32) (v2486 : IVec S16 32) : Prop :=
  (∀ a x, ((![v2314, v2486] : Fin 2 → IVec S16 32) a x).toNat < S160x39.size a)
theorem k0_idx1941_inb : ∀ (v2314 : IVec S16 32) (v2486 : IVec S16 32) (k0_hw1941 : k0_chk1941 v2314 v2486), ∀ a x, ((![v2314, v2486] : Fin 2 → IVec S16 32) a x).toNat < S160x39.size a := fun v2314 v2486 k0_hw1941 => k0_hw1941

def k0_chk1942 (v2314 : IVec S16 32) (v2490 : IVec S16 32) : Prop :=
  (∀ a x, ((![v2314, v2490] : Fin 2 → IVec S16 32) a x).toNat < S160x31.size a)
theorem k0_idx1942_inb : ∀ (v2314 : IVec S16 32) (v2490 : IVec S16 32) (k0_hw1942 : k0_chk1942 v2314 v2490), ∀ a x, ((![v2314, v2490] : Fin 2 → IVec S16 32) a x).toNat < S160x31.size a := fun v2314 v2490 k0_hw1942 => k0_hw1942

def k0_chk1943 (v2314 : IVec S16 32) (v2493 : IVec S16 32) : Prop :=
  (∀ a x, ((![v2314, v2493] : Fin 2 → IVec S16 32) a x).toNat < S160x39.size a)
theorem k0_idx1943_inb : ∀ (v2314 : IVec S16 32) (v2493 : IVec S16 32) (k0_hw1943 : k0_chk1943 v2314 v2493), ∀ a x, ((![v2314, v2493] : Fin 2 → IVec S16 32) a x).toNat < S160x39.size a := fun v2314 v2493 k0_hw1943 => k0_hw1943

def k0_chk1944 (v2314 : IVec S16 32) (v2497 : IVec S16 32) : Prop :=
  (∀ a x, ((![v2314, v2497] : Fin 2 → IVec S16 32) a x).toNat < S160x31.size a)
theorem k0_idx1944_inb : ∀ (v2314 : IVec S16 32) (v2497 : IVec S16 32) (k0_hw1944 : k0_chk1944 v2314 v2497), ∀ a x, ((![v2314, v2497] : Fin 2 → IVec S16 32) a x).toNat < S160x31.size a := fun v2314 v2497 k0_hw1944 => k0_hw1944

def k0_chk1945 (v2314 : IVec S16 32) (v2500 : IVec S16 32) : Prop :=
  (∀ a x, ((![v2314, v2500] : Fin 2 → IVec S16 32) a x).toNat < S160x39.size a)
theorem k0_idx1945_inb : ∀ (v2314 : IVec S16 32) (v2500 : IVec S16 32) (k0_hw1945 : k0_chk1945 v2314 v2500), ∀ a x, ((![v2314, v2500] : Fin 2 → IVec S16 32) a x).toNat < S160x39.size a := fun v2314 v2500 k0_hw1945 => k0_hw1945

def k0_chk1946 (v2314 : IVec S16 32) (v2504 : IVec S16 32) : Prop :=
  (∀ a x, ((![v2314, v2504] : Fin 2 → IVec S16 32) a x).toNat < S160x31.size a)
theorem k0_idx1946_inb : ∀ (v2314 : IVec S16 32) (v2504 : IVec S16 32) (k0_hw1946 : k0_chk1946 v2314 v2504), ∀ a x, ((![v2314, v2504] : Fin 2 → IVec S16 32) a x).toNat < S160x31.size a := fun v2314 v2504 k0_hw1946 => k0_hw1946

def k0_chk1947 (v2314 : IVec S16 32) (v2507 : IVec S16 32) : Prop :=
  (∀ a x, ((![v2314, v2507] : Fin 2 → IVec S16 32) a x).toNat < S160x39.size a)
theorem k0_idx1947_inb : ∀ (v2314 : IVec S16 32) (v2507 : IVec S16 32) (k0_hw1947 : k0_chk1947 v2314 v2507), ∀ a x, ((![v2314, v2507] : Fin 2 → IVec S16 32) a x).toNat < S160x39.size a := fun v2314 v2507 k0_hw1947 => k0_hw1947

def k0_chk1948 (v2314 : IVec S16 32) (v2511 : IVec S16 32) : Prop :=
  (∀ a x, ((![v2314, v2511] : Fin 2 → IVec S16 32) a x).toNat < S160x31.size a)
theorem k0_idx1948_inb : ∀ (v2314 : IVec S16 32) (v2511 : IVec S16 32) (k0_hw1948 : k0_chk1948 v2314 v2511), ∀ a x, ((![v2314, v2511] : Fin 2 → IVec S16 32) a x).toNat < S160x31.size a := fun v2314 v2511 k0_hw1948 => k0_hw1948

def k0_chk1949 (v2314 : IVec S16 32) (v2514 : IVec S16 32) : Prop :=
  (∀ a x, ((![v2314, v2514] : Fin 2 → IVec S16 32) a x).toNat < S160x39.size a)
theorem k0_idx1949_inb : ∀ (v2314 : IVec S16 32) (v2514 : IVec S16 32) (k0_hw1949 : k0_chk1949 v2314 v2514), ∀ a x, ((![v2314, v2514] : Fin 2 → IVec S16 32) a x).toNat < S160x39.size a := fun v2314 v2514 k0_hw1949 => k0_hw1949

def k0_chk1950 (v2314 : IVec S16 32) (v2518 : IVec S16 32) : Prop :=
  (∀ a x, ((![v2314, v2518] : Fin 2 → IVec S16 32) a x).toNat < S160x31.size a)
theorem k0_idx1950_inb : ∀ (v2314 : IVec S16 32) (v2518 : IVec S16 32) (k0_hw1950 : k0_chk1950 v2314 v2518), ∀ a x, ((![v2314, v2518] : Fin 2 → IVec S16 32) a x).toNat < S160x31.size a := fun v2314 v2518 k0_hw1950 => k0_hw1950

def k0_chk1951 (v2314 : IVec S16 32) (v2521 : IVec S16 32) : Prop :=
  (∀ a x, ((![v2314, v2521] : Fin 2 → IVec S16 32) a x).toNat < S160x39.size a)
theorem k0_idx1951_inb : ∀ (v2314 : IVec S16 32) (v2521 : IVec S16 32) (k0_hw1951 : k0_chk1951 v2314 v2521), ∀ a x, ((![v2314, v2521] : Fin 2 → IVec S16 32) a x).toNat < S160x39.size a := fun v2314 v2521 k0_hw1951 => k0_hw1951

def k0_chk1952 (v2314 : IVec S16 32) (v2525 : IVec S16 32) : Prop :=
  (∀ a x, ((![v2314, v2525] : Fin 2 → IVec S16 32) a x).toNat < S160x31.size a)
theorem k0_idx1952_inb : ∀ (v2314 : IVec S16 32) (v2525 : IVec S16 32) (k0_hw1952 : k0_chk1952 v2314 v2525), ∀ a x, ((![v2314, v2525] : Fin 2 → IVec S16 32) a x).toNat < S160x31.size a := fun v2314 v2525 k0_hw1952 => k0_hw1952

def k0_chk1953 (v2314 : IVec S16 32) (v2528 : IVec S16 32) : Prop :=
  (∀ a x, ((![v2314, v2528] : Fin 2 → IVec S16 32) a x).toNat < S160x39.size a)
theorem k0_idx1953_inb : ∀ (v2314 : IVec S16 32) (v2528 : IVec S16 32) (k0_hw1953 : k0_chk1953 v2314 v2528), ∀ a x, ((![v2314, v2528] : Fin 2 → IVec S16 32) a x).toNat < S160x39.size a := fun v2314 v2528 k0_hw1953 => k0_hw1953

def k0_chk1954 (v2314 : IVec S16 32) (v2532 : IVec S16 32) : Prop :=
  (∀ a x, ((![v2314, v2532] : Fin 2 → IVec S16 32) a x).toNat < S160x31.size a)
theorem k0_idx1954_inb : ∀ (v2314 : IVec S16 32) (v2532 : IVec S16 32) (k0_hw1954 : k0_chk1954 v2314 v2532), ∀ a x, ((![v2314, v2532] : Fin 2 → IVec S16 32) a x).toNat < S160x31.size a := fun v2314 v2532 k0_hw1954 => k0_hw1954

def k0_chk1955 (v2314 : IVec S16 32) (v2535 : IVec S16 32) : Prop :=
  (∀ a x, ((![v2314, v2535] : Fin 2 → IVec S16 32) a x).toNat < S160x39.size a)
theorem k0_idx1955_inb : ∀ (v2314 : IVec S16 32) (v2535 : IVec S16 32) (k0_hw1955 : k0_chk1955 v2314 v2535), ∀ a x, ((![v2314, v2535] : Fin 2 → IVec S16 32) a x).toNat < S160x39.size a := fun v2314 v2535 k0_hw1955 => k0_hw1955

def k0_chk1956 (v2314 : IVec S16 32) (v2539 : IVec S16 32) : Prop :=
  (∀ a x, ((![v2314, v2539] : Fin 2 → IVec S16 32) a x).toNat < S160x31.size a)
theorem k0_idx1956_inb : ∀ (v2314 : IVec S16 32) (v2539 : IVec S16 32) (k0_hw1956 : k0_chk1956 v2314 v2539), ∀ a x, ((![v2314, v2539] : Fin 2 → IVec S16 32) a x).toNat < S160x31.size a := fun v2314 v2539 k0_hw1956 => k0_hw1956

def k0_chk1957 (v2314 : IVec S16 32) (v2542 : IVec S16 32) : Prop :=
  (∀ a x, ((![v2314, v2542] : Fin 2 → IVec S16 32) a x).toNat < S160x39.size a)
theorem k0_idx1957_inb : ∀ (v2314 : IVec S16 32) (v2542 : IVec S16 32) (k0_hw1957 : k0_chk1957 v2314 v2542), ∀ a x, ((![v2314, v2542] : Fin 2 → IVec S16 32) a x).toNat < S160x39.size a := fun v2314 v2542 k0_hw1957 => k0_hw1957

def k0_chk1958 (v2314 : IVec S16 32) (v2546 : IVec S16 32) : Prop :=
  (∀ a x, ((![v2314, v2546] : Fin 2 → IVec S16 32) a x).toNat < S160x31.size a)
theorem k0_idx1958_inb : ∀ (v2314 : IVec S16 32) (v2546 : IVec S16 32) (k0_hw1958 : k0_chk1958 v2314 v2546), ∀ a x, ((![v2314, v2546] : Fin 2 → IVec S16 32) a x).toNat < S160x31.size a := fun v2314 v2546 k0_hw1958 => k0_hw1958

def k0_chk1959 (v2314 : IVec S16 32) (v2549 : IVec S16 32) : Prop :=
  (∀ a x, ((![v2314, v2549] : Fin 2 → IVec S16 32) a x).toNat < S160x39.size a)
theorem k0_idx1959_inb : ∀ (v2314 : IVec S16 32) (v2549 : IVec S16 32) (k0_hw1959 : k0_chk1959 v2314 v2549), ∀ a x, ((![v2314, v2549] : Fin 2 → IVec S16 32) a x).toNat < S160x39.size a := fun v2314 v2549 k0_hw1959 => k0_hw1959

def k0_chk1960 (v2314 : IVec S16 32) (v2553 : IVec S16 32) : Prop :=
  (∀ a x, ((![v2314, v2553] : Fin 2 → IVec S16 32) a x).toNat < S160x31.size a)
theorem k0_idx1960_inb : ∀ (v2314 : IVec S16 32) (v2553 : IVec S16 32) (k0_hw1960 : k0_chk1960 v2314 v2553), ∀ a x, ((![v2314, v2553] : Fin 2 → IVec S16 32) a x).toNat < S160x31.size a := fun v2314 v2553 k0_hw1960 => k0_hw1960

def k0_chk1961 (v2314 : IVec S16 32) (v2556 : IVec S16 32) : Prop :=
  (∀ a x, ((![v2314, v2556] : Fin 2 → IVec S16 32) a x).toNat < S160x39.size a)
theorem k0_idx1961_inb : ∀ (v2314 : IVec S16 32) (v2556 : IVec S16 32) (k0_hw1961 : k0_chk1961 v2314 v2556), ∀ a x, ((![v2314, v2556] : Fin 2 → IVec S16 32) a x).toNat < S160x39.size a := fun v2314 v2556 k0_hw1961 => k0_hw1961

def k0_chk1962 (v2314 : IVec S16 32) (v2560 : IVec S16 32) : Prop :=
  (∀ a x, ((![v2314, v2560] : Fin 2 → IVec S16 32) a x).toNat < S160x31.size a)
theorem k0_idx1962_inb : ∀ (v2314 : IVec S16 32) (v2560 : IVec S16 32) (k0_hw1962 : k0_chk1962 v2314 v2560), ∀ a x, ((![v2314, v2560] : Fin 2 → IVec S16 32) a x).toNat < S160x31.size a := fun v2314 v2560 k0_hw1962 => k0_hw1962

def k0_chk1963 (v2314 : IVec S16 32) (v2563 : IVec S16 32) : Prop :=
  (∀ a x, ((![v2314, v2563] : Fin 2 → IVec S16 32) a x).toNat < S160x39.size a)
theorem k0_idx1963_inb : ∀ (v2314 : IVec S16 32) (v2563 : IVec S16 32) (k0_hw1963 : k0_chk1963 v2314 v2563), ∀ a x, ((![v2314, v2563] : Fin 2 → IVec S16 32) a x).toNat < S160x39.size a := fun v2314 v2563 k0_hw1963 => k0_hw1963

def k0_chk1964 (v2314 : IVec S16 32) (v2567 : IVec S16 32) : Prop :=
  (∀ a x, ((![v2314, v2567] : Fin 2 → IVec S16 32) a x).toNat < S160x31.size a)
theorem k0_idx1964_inb : ∀ (v2314 : IVec S16 32) (v2567 : IVec S16 32) (k0_hw1964 : k0_chk1964 v2314 v2567), ∀ a x, ((![v2314, v2567] : Fin 2 → IVec S16 32) a x).toNat < S160x31.size a := fun v2314 v2567 k0_hw1964 => k0_hw1964

def k0_chk1965 (v2314 : IVec S16 32) (v2570 : IVec S16 32) : Prop :=
  (∀ a x, ((![v2314, v2570] : Fin 2 → IVec S16 32) a x).toNat < S160x39.size a)
theorem k0_idx1965_inb : ∀ (v2314 : IVec S16 32) (v2570 : IVec S16 32) (k0_hw1965 : k0_chk1965 v2314 v2570), ∀ a x, ((![v2314, v2570] : Fin 2 → IVec S16 32) a x).toNat < S160x39.size a := fun v2314 v2570 k0_hw1965 => k0_hw1965

def k0_chk1966 (v2314 : IVec S16 32) (v2574 : IVec S16 32) : Prop :=
  (∀ a x, ((![v2314, v2574] : Fin 2 → IVec S16 32) a x).toNat < S160x31.size a)
theorem k0_idx1966_inb : ∀ (v2314 : IVec S16 32) (v2574 : IVec S16 32) (k0_hw1966 : k0_chk1966 v2314 v2574), ∀ a x, ((![v2314, v2574] : Fin 2 → IVec S16 32) a x).toNat < S160x31.size a := fun v2314 v2574 k0_hw1966 => k0_hw1966

def k0_chk1967 (v2314 : IVec S16 32) (v2577 : IVec S16 32) : Prop :=
  (∀ a x, ((![v2314, v2577] : Fin 2 → IVec S16 32) a x).toNat < S160x39.size a)
theorem k0_idx1967_inb : ∀ (v2314 : IVec S16 32) (v2577 : IVec S16 32) (k0_hw1967 : k0_chk1967 v2314 v2577), ∀ a x, ((![v2314, v2577] : Fin 2 → IVec S16 32) a x).toNat < S160x39.size a := fun v2314 v2577 k0_hw1967 => k0_hw1967

def k0_chk1968 (v2314 : IVec S16 32) (v2581 : IVec S16 32) : Prop :=
  (∀ a x, ((![v2314, v2581] : Fin 2 → IVec S16 32) a x).toNat < S160x31.size a)
theorem k0_idx1968_inb : ∀ (v2314 : IVec S16 32) (v2581 : IVec S16 32) (k0_hw1968 : k0_chk1968 v2314 v2581), ∀ a x, ((![v2314, v2581] : Fin 2 → IVec S16 32) a x).toNat < S160x31.size a := fun v2314 v2581 k0_hw1968 => k0_hw1968

def k0_chk1969 (v2314 : IVec S16 32) (v2584 : IVec S16 32) : Prop :=
  (∀ a x, ((![v2314, v2584] : Fin 2 → IVec S16 32) a x).toNat < S160x39.size a)
theorem k0_idx1969_inb : ∀ (v2314 : IVec S16 32) (v2584 : IVec S16 32) (k0_hw1969 : k0_chk1969 v2314 v2584), ∀ a x, ((![v2314, v2584] : Fin 2 → IVec S16 32) a x).toNat < S160x39.size a := fun v2314 v2584 k0_hw1969 => k0_hw1969

def k0_chk1970 (v2314 : IVec S16 32) (v2588 : IVec S16 32) : Prop :=
  (∀ a x, ((![v2314, v2588] : Fin 2 → IVec S16 32) a x).toNat < S160x31.size a)
theorem k0_idx1970_inb : ∀ (v2314 : IVec S16 32) (v2588 : IVec S16 32) (k0_hw1970 : k0_chk1970 v2314 v2588), ∀ a x, ((![v2314, v2588] : Fin 2 → IVec S16 32) a x).toNat < S160x31.size a := fun v2314 v2588 k0_hw1970 => k0_hw1970

def k0_chk1971 (v2314 : IVec S16 32) (v2591 : IVec S16 32) : Prop :=
  (∀ a x, ((![v2314, v2591] : Fin 2 → IVec S16 32) a x).toNat < S160x39.size a)
theorem k0_idx1971_inb : ∀ (v2314 : IVec S16 32) (v2591 : IVec S16 32) (k0_hw1971 : k0_chk1971 v2314 v2591), ∀ a x, ((![v2314, v2591] : Fin 2 → IVec S16 32) a x).toNat < S160x39.size a := fun v2314 v2591 k0_hw1971 => k0_hw1971

def k0_chk1972 (v2314 : IVec S16 32) (v2595 : IVec S16 32) : Prop :=
  (∀ a x, ((![v2314, v2595] : Fin 2 → IVec S16 32) a x).toNat < S160x31.size a)
theorem k0_idx1972_inb : ∀ (v2314 : IVec S16 32) (v2595 : IVec S16 32) (k0_hw1972 : k0_chk1972 v2314 v2595), ∀ a x, ((![v2314, v2595] : Fin 2 → IVec S16 32) a x).toNat < S160x31.size a := fun v2314 v2595 k0_hw1972 => k0_hw1972

def k0_chk1973 (v2599 : IVec S16 32) (v2600 : IVec S16 32) : Prop :=
  (∀ a x, ((![v2599, v2600] : Fin 2 → IVec S16 32) a x).toNat < S160x39.size a)
theorem k0_idx1973_inb : ∀ (v2599 : IVec S16 32) (v2600 : IVec S16 32) (k0_hw1973 : k0_chk1973 v2599 v2600), ∀ a x, ((![v2599, v2600] : Fin 2 → IVec S16 32) a x).toNat < S160x39.size a := fun v2599 v2600 k0_hw1973 => k0_hw1973

def k0_chk1974 (v2599 : IVec S16 32) (v2604 : IVec S16 32) : Prop :=
  (∀ a x, ((![v2599, v2604] : Fin 2 → IVec S16 32) a x).toNat < S160x39.size a)
theorem k0_idx1974_inb : ∀ (v2599 : IVec S16 32) (v2604 : IVec S16 32) (k0_hw1974 : k0_chk1974 v2599 v2604), ∀ a x, ((![v2599, v2604] : Fin 2 → IVec S16 32) a x).toNat < S160x39.size a := fun v2599 v2604 k0_hw1974 => k0_hw1974

def k0_chk1975 (v2599 : IVec S16 32) (v2608 : IVec S16 32) : Prop :=
  (∀ a x, ((![v2599, v2608] : Fin 2 → IVec S16 32) a x).toNat < S160x39.size a)
theorem k0_idx1975_inb : ∀ (v2599 : IVec S16 32) (v2608 : IVec S16 32) (k0_hw1975 : k0_chk1975 v2599 v2608), ∀ a x, ((![v2599, v2608] : Fin 2 → IVec S16 32) a x).toNat < S160x39.size a := fun v2599 v2608 k0_hw1975 => k0_hw1975

def k0_chk1976 (v2599 : IVec S16 32) (v2612 : IVec S16 32) : Prop :=
  (∀ a x, ((![v2599, v2612] : Fin 2 → IVec S16 32) a x).toNat < S160x39.size a)
theorem k0_idx1976_inb : ∀ (v2599 : IVec S16 32) (v2612 : IVec S16 32) (k0_hw1976 : k0_chk1976 v2599 v2612), ∀ a x, ((![v2599, v2612] : Fin 2 → IVec S16 32) a x).toNat < S160x39.size a := fun v2599 v2612 k0_hw1976 => k0_hw1976

def k0_chk1977 (v2599 : IVec S16 32) (v2617 : IVec S16 32) : Prop :=
  (∀ a x, ((![v2599, v2617] : Fin 2 → IVec S16 32) a x).toNat < S160x39.size a)
theorem k0_idx1977_inb : ∀ (v2599 : IVec S16 32) (v2617 : IVec S16 32) (k0_hw1977 : k0_chk1977 v2599 v2617), ∀ a x, ((![v2599, v2617] : Fin 2 → IVec S16 32) a x).toNat < S160x39.size a := fun v2599 v2617 k0_hw1977 => k0_hw1977

def k0_chk1978 (v2599 : IVec S16 32) (v2621 : IVec S16 32) : Prop :=
  (∀ a x, ((![v2599, v2621] : Fin 2 → IVec S16 32) a x).toNat < S160x39.size a)
theorem k0_idx1978_inb : ∀ (v2599 : IVec S16 32) (v2621 : IVec S16 32) (k0_hw1978 : k0_chk1978 v2599 v2621), ∀ a x, ((![v2599, v2621] : Fin 2 → IVec S16 32) a x).toNat < S160x39.size a := fun v2599 v2621 k0_hw1978 => k0_hw1978

def k0_chk1979 (v2599 : IVec S16 32) (v2626 : IVec S16 32) : Prop :=
  (∀ a x, ((![v2599, v2626] : Fin 2 → IVec S16 32) a x).toNat < S160x39.size a)
theorem k0_idx1979_inb : ∀ (v2599 : IVec S16 32) (v2626 : IVec S16 32) (k0_hw1979 : k0_chk1979 v2599 v2626), ∀ a x, ((![v2599, v2626] : Fin 2 → IVec S16 32) a x).toNat < S160x39.size a := fun v2599 v2626 k0_hw1979 => k0_hw1979

def k0_chk1980 (v2599 : IVec S16 32) (v2634 : IVec S16 32) : Prop :=
  (∀ a x, ((![v2599, v2634] : Fin 2 → IVec S16 32) a x).toNat < S160x39.size a)
theorem k0_idx1980_inb : ∀ (v2599 : IVec S16 32) (v2634 : IVec S16 32) (k0_hw1980 : k0_chk1980 v2599 v2634), ∀ a x, ((![v2599, v2634] : Fin 2 → IVec S16 32) a x).toNat < S160x39.size a := fun v2599 v2634 k0_hw1980 => k0_hw1980

def k0_chk1981 (v2599 : IVec S16 32) (v2642 : IVec S16 32) : Prop :=
  (∀ a x, ((![v2599, v2642] : Fin 2 → IVec S16 32) a x).toNat < S160x31.size a)
theorem k0_idx1981_inb : ∀ (v2599 : IVec S16 32) (v2642 : IVec S16 32) (k0_hw1981 : k0_chk1981 v2599 v2642), ∀ a x, ((![v2599, v2642] : Fin 2 → IVec S16 32) a x).toNat < S160x31.size a := fun v2599 v2642 k0_hw1981 => k0_hw1981

def k0_chk1982 (v2599 : IVec S16 32) (v2645 : IVec S16 32) : Prop :=
  (∀ a x, ((![v2599, v2645] : Fin 2 → IVec S16 32) a x).toNat < S160x31.size a)
theorem k0_idx1982_inb : ∀ (v2599 : IVec S16 32) (v2645 : IVec S16 32) (k0_hw1982 : k0_chk1982 v2599 v2645), ∀ a x, ((![v2599, v2645] : Fin 2 → IVec S16 32) a x).toNat < S160x31.size a := fun v2599 v2645 k0_hw1982 => k0_hw1982

def k0_chk1983 (v2599 : IVec S16 32) (v2648 : IVec S16 32) : Prop :=
  (∀ a x, ((![v2599, v2648] : Fin 2 → IVec S16 32) a x).toNat < S160x39.size a)
theorem k0_idx1983_inb : ∀ (v2599 : IVec S16 32) (v2648 : IVec S16 32) (k0_hw1983 : k0_chk1983 v2599 v2648), ∀ a x, ((![v2599, v2648] : Fin 2 → IVec S16 32) a x).toNat < S160x39.size a := fun v2599 v2648 k0_hw1983 => k0_hw1983

def k0_chk1984 (v2599 : IVec S16 32) (v2656 : IVec S16 32) : Prop :=
  (∀ a x, ((![v2599, v2656] : Fin 2 → IVec S16 32) a x).toNat < S160x39.size a)
theorem k0_idx1984_inb : ∀ (v2599 : IVec S16 32) (v2656 : IVec S16 32) (k0_hw1984 : k0_chk1984 v2599 v2656), ∀ a x, ((![v2599, v2656] : Fin 2 → IVec S16 32) a x).toNat < S160x39.size a := fun v2599 v2656 k0_hw1984 => k0_hw1984

def k0_chk1985 (v2599 : IVec S16 32) (v2664 : IVec S16 32) : Prop :=
  (∀ a x, ((![v2599, v2664] : Fin 2 → IVec S16 32) a x).toNat < S160x31.size a)
theorem k0_idx1985_inb : ∀ (v2599 : IVec S16 32) (v2664 : IVec S16 32) (k0_hw1985 : k0_chk1985 v2599 v2664), ∀ a x, ((![v2599, v2664] : Fin 2 → IVec S16 32) a x).toNat < S160x31.size a := fun v2599 v2664 k0_hw1985 => k0_hw1985

def k0_chk1986 (v2599 : IVec S16 32) (v2667 : IVec S16 32) : Prop :=
  (∀ a x, ((![v2599, v2667] : Fin 2 → IVec S16 32) a x).toNat < S160x31.size a)
theorem k0_idx1986_inb : ∀ (v2599 : IVec S16 32) (v2667 : IVec S16 32) (k0_hw1986 : k0_chk1986 v2599 v2667), ∀ a x, ((![v2599, v2667] : Fin 2 → IVec S16 32) a x).toNat < S160x31.size a := fun v2599 v2667 k0_hw1986 => k0_hw1986

def k0_chk1987 (v2599 : IVec S16 32) (v2670 : IVec S16 32) : Prop :=
  (∀ a x, ((![v2599, v2670] : Fin 2 → IVec S16 32) a x).toNat < S160x39.size a)
theorem k0_idx1987_inb : ∀ (v2599 : IVec S16 32) (v2670 : IVec S16 32) (k0_hw1987 : k0_chk1987 v2599 v2670), ∀ a x, ((![v2599, v2670] : Fin 2 → IVec S16 32) a x).toNat < S160x39.size a := fun v2599 v2670 k0_hw1987 => k0_hw1987

def k0_chk1988 (v2599 : IVec S16 32) (v2678 : IVec S16 32) : Prop :=
  (∀ a x, ((![v2599, v2678] : Fin 2 → IVec S16 32) a x).toNat < S160x39.size a)
theorem k0_idx1988_inb : ∀ (v2599 : IVec S16 32) (v2678 : IVec S16 32) (k0_hw1988 : k0_chk1988 v2599 v2678), ∀ a x, ((![v2599, v2678] : Fin 2 → IVec S16 32) a x).toNat < S160x39.size a := fun v2599 v2678 k0_hw1988 => k0_hw1988

def k0_chk1989 (v2599 : IVec S16 32) (v2686 : IVec S16 32) : Prop :=
  (∀ a x, ((![v2599, v2686] : Fin 2 → IVec S16 32) a x).toNat < S160x31.size a)
theorem k0_idx1989_inb : ∀ (v2599 : IVec S16 32) (v2686 : IVec S16 32) (k0_hw1989 : k0_chk1989 v2599 v2686), ∀ a x, ((![v2599, v2686] : Fin 2 → IVec S16 32) a x).toNat < S160x31.size a := fun v2599 v2686 k0_hw1989 => k0_hw1989

def k0_chk1990 (v2599 : IVec S16 32) (v2689 : IVec S16 32) : Prop :=
  (∀ a x, ((![v2599, v2689] : Fin 2 → IVec S16 32) a x).toNat < S160x31.size a)
theorem k0_idx1990_inb : ∀ (v2599 : IVec S16 32) (v2689 : IVec S16 32) (k0_hw1990 : k0_chk1990 v2599 v2689), ∀ a x, ((![v2599, v2689] : Fin 2 → IVec S16 32) a x).toNat < S160x31.size a := fun v2599 v2689 k0_hw1990 => k0_hw1990

def k0_chk1991 (v2599 : IVec S16 32) (v2692 : IVec S16 32) : Prop :=
  (∀ a x, ((![v2599, v2692] : Fin 2 → IVec S16 32) a x).toNat < S160x39.size a)
theorem k0_idx1991_inb : ∀ (v2599 : IVec S16 32) (v2692 : IVec S16 32) (k0_hw1991 : k0_chk1991 v2599 v2692), ∀ a x, ((![v2599, v2692] : Fin 2 → IVec S16 32) a x).toNat < S160x39.size a := fun v2599 v2692 k0_hw1991 => k0_hw1991

def k0_chk1992 (v2599 : IVec S16 32) (v2700 : IVec S16 32) : Prop :=
  (∀ a x, ((![v2599, v2700] : Fin 2 → IVec S16 32) a x).toNat < S160x39.size a)
theorem k0_idx1992_inb : ∀ (v2599 : IVec S16 32) (v2700 : IVec S16 32) (k0_hw1992 : k0_chk1992 v2599 v2700), ∀ a x, ((![v2599, v2700] : Fin 2 → IVec S16 32) a x).toNat < S160x39.size a := fun v2599 v2700 k0_hw1992 => k0_hw1992

def k0_chk1993 (v2599 : IVec S16 32) (v2708 : IVec S16 32) : Prop :=
  (∀ a x, ((![v2599, v2708] : Fin 2 → IVec S16 32) a x).toNat < S160x31.size a)
theorem k0_idx1993_inb : ∀ (v2599 : IVec S16 32) (v2708 : IVec S16 32) (k0_hw1993 : k0_chk1993 v2599 v2708), ∀ a x, ((![v2599, v2708] : Fin 2 → IVec S16 32) a x).toNat < S160x31.size a := fun v2599 v2708 k0_hw1993 => k0_hw1993

def k0_chk1994 (v2599 : IVec S16 32) (v2711 : IVec S16 32) : Prop :=
  (∀ a x, ((![v2599, v2711] : Fin 2 → IVec S16 32) a x).toNat < S160x31.size a)
theorem k0_idx1994_inb : ∀ (v2599 : IVec S16 32) (v2711 : IVec S16 32) (k0_hw1994 : k0_chk1994 v2599 v2711), ∀ a x, ((![v2599, v2711] : Fin 2 → IVec S16 32) a x).toNat < S160x31.size a := fun v2599 v2711 k0_hw1994 => k0_hw1994

def k0_chk1995 (v2599 : IVec S16 32) (v2714 : IVec S16 32) : Prop :=
  (∀ a x, ((![v2599, v2714] : Fin 2 → IVec S16 32) a x).toNat < S160x39.size a)
theorem k0_idx1995_inb : ∀ (v2599 : IVec S16 32) (v2714 : IVec S16 32) (k0_hw1995 : k0_chk1995 v2599 v2714), ∀ a x, ((![v2599, v2714] : Fin 2 → IVec S16 32) a x).toNat < S160x39.size a := fun v2599 v2714 k0_hw1995 => k0_hw1995

def k0_chk1996 (v2599 : IVec S16 32) (v2722 : IVec S16 32) : Prop :=
  (∀ a x, ((![v2599, v2722] : Fin 2 → IVec S16 32) a x).toNat < S160x39.size a)
theorem k0_idx1996_inb : ∀ (v2599 : IVec S16 32) (v2722 : IVec S16 32) (k0_hw1996 : k0_chk1996 v2599 v2722), ∀ a x, ((![v2599, v2722] : Fin 2 → IVec S16 32) a x).toNat < S160x39.size a := fun v2599 v2722 k0_hw1996 => k0_hw1996

def k0_chk1997 (v2599 : IVec S16 32) (v2730 : IVec S16 32) : Prop :=
  (∀ a x, ((![v2599, v2730] : Fin 2 → IVec S16 32) a x).toNat < S160x31.size a)
theorem k0_idx1997_inb : ∀ (v2599 : IVec S16 32) (v2730 : IVec S16 32) (k0_hw1997 : k0_chk1997 v2599 v2730), ∀ a x, ((![v2599, v2730] : Fin 2 → IVec S16 32) a x).toNat < S160x31.size a := fun v2599 v2730 k0_hw1997 => k0_hw1997

def k0_chk1998 (v2599 : IVec S16 32) (v2733 : IVec S16 32) : Prop :=
  (∀ a x, ((![v2599, v2733] : Fin 2 → IVec S16 32) a x).toNat < S160x31.size a)
theorem k0_idx1998_inb : ∀ (v2599 : IVec S16 32) (v2733 : IVec S16 32) (k0_hw1998 : k0_chk1998 v2599 v2733), ∀ a x, ((![v2599, v2733] : Fin 2 → IVec S16 32) a x).toNat < S160x31.size a := fun v2599 v2733 k0_hw1998 => k0_hw1998

def k0_chk1999 (v2599 : IVec S16 32) (v2736 : IVec S16 32) : Prop :=
  (∀ a x, ((![v2599, v2736] : Fin 2 → IVec S16 32) a x).toNat < S160x39.size a)
theorem k0_idx1999_inb : ∀ (v2599 : IVec S16 32) (v2736 : IVec S16 32) (k0_hw1999 : k0_chk1999 v2599 v2736), ∀ a x, ((![v2599, v2736] : Fin 2 → IVec S16 32) a x).toNat < S160x39.size a := fun v2599 v2736 k0_hw1999 => k0_hw1999

def k0_chk2000 (v2599 : IVec S16 32) (v2740 : IVec S16 32) : Prop :=
  (∀ a x, ((![v2599, v2740] : Fin 2 → IVec S16 32) a x).toNat < S160x31.size a)
theorem k0_idx2000_inb : ∀ (v2599 : IVec S16 32) (v2740 : IVec S16 32) (k0_hw2000 : k0_chk2000 v2599 v2740), ∀ a x, ((![v2599, v2740] : Fin 2 → IVec S16 32) a x).toNat < S160x31.size a := fun v2599 v2740 k0_hw2000 => k0_hw2000

def k0_chk2001 (v2599 : IVec S16 32) (v2743 : IVec S16 32) : Prop :=
  (∀ a x, ((![v2599, v2743] : Fin 2 → IVec S16 32) a x).toNat < S160x39.size a)
theorem k0_idx2001_inb : ∀ (v2599 : IVec S16 32) (v2743 : IVec S16 32) (k0_hw2001 : k0_chk2001 v2599 v2743), ∀ a x, ((![v2599, v2743] : Fin 2 → IVec S16 32) a x).toNat < S160x39.size a := fun v2599 v2743 k0_hw2001 => k0_hw2001

def k0_chk2002 (v2599 : IVec S16 32) (v2747 : IVec S16 32) : Prop :=
  (∀ a x, ((![v2599, v2747] : Fin 2 → IVec S16 32) a x).toNat < S160x31.size a)
theorem k0_idx2002_inb : ∀ (v2599 : IVec S16 32) (v2747 : IVec S16 32) (k0_hw2002 : k0_chk2002 v2599 v2747), ∀ a x, ((![v2599, v2747] : Fin 2 → IVec S16 32) a x).toNat < S160x31.size a := fun v2599 v2747 k0_hw2002 => k0_hw2002

def k0_chk2003 (v2599 : IVec S16 32) (v2750 : IVec S16 32) : Prop :=
  (∀ a x, ((![v2599, v2750] : Fin 2 → IVec S16 32) a x).toNat < S160x39.size a)
theorem k0_idx2003_inb : ∀ (v2599 : IVec S16 32) (v2750 : IVec S16 32) (k0_hw2003 : k0_chk2003 v2599 v2750), ∀ a x, ((![v2599, v2750] : Fin 2 → IVec S16 32) a x).toNat < S160x39.size a := fun v2599 v2750 k0_hw2003 => k0_hw2003

def k0_chk2004 (v2599 : IVec S16 32) (v2754 : IVec S16 32) : Prop :=
  (∀ a x, ((![v2599, v2754] : Fin 2 → IVec S16 32) a x).toNat < S160x31.size a)
theorem k0_idx2004_inb : ∀ (v2599 : IVec S16 32) (v2754 : IVec S16 32) (k0_hw2004 : k0_chk2004 v2599 v2754), ∀ a x, ((![v2599, v2754] : Fin 2 → IVec S16 32) a x).toNat < S160x31.size a := fun v2599 v2754 k0_hw2004 => k0_hw2004

def k0_chk2005 (v2599 : IVec S16 32) (v2757 : IVec S16 32) : Prop :=
  (∀ a x, ((![v2599, v2757] : Fin 2 → IVec S16 32) a x).toNat < S160x39.size a)
theorem k0_idx2005_inb : ∀ (v2599 : IVec S16 32) (v2757 : IVec S16 32) (k0_hw2005 : k0_chk2005 v2599 v2757), ∀ a x, ((![v2599, v2757] : Fin 2 → IVec S16 32) a x).toNat < S160x39.size a := fun v2599 v2757 k0_hw2005 => k0_hw2005

def k0_chk2006 (v2599 : IVec S16 32) (v2761 : IVec S16 32) : Prop :=
  (∀ a x, ((![v2599, v2761] : Fin 2 → IVec S16 32) a x).toNat < S160x31.size a)
theorem k0_idx2006_inb : ∀ (v2599 : IVec S16 32) (v2761 : IVec S16 32) (k0_hw2006 : k0_chk2006 v2599 v2761), ∀ a x, ((![v2599, v2761] : Fin 2 → IVec S16 32) a x).toNat < S160x31.size a := fun v2599 v2761 k0_hw2006 => k0_hw2006

def k0_chk2007 (v2599 : IVec S16 32) (v2764 : IVec S16 32) : Prop :=
  (∀ a x, ((![v2599, v2764] : Fin 2 → IVec S16 32) a x).toNat < S160x39.size a)
theorem k0_idx2007_inb : ∀ (v2599 : IVec S16 32) (v2764 : IVec S16 32) (k0_hw2007 : k0_chk2007 v2599 v2764), ∀ a x, ((![v2599, v2764] : Fin 2 → IVec S16 32) a x).toNat < S160x39.size a := fun v2599 v2764 k0_hw2007 => k0_hw2007

def k0_chk2008 (v2599 : IVec S16 32) (v2768 : IVec S16 32) : Prop :=
  (∀ a x, ((![v2599, v2768] : Fin 2 → IVec S16 32) a x).toNat < S160x31.size a)
theorem k0_idx2008_inb : ∀ (v2599 : IVec S16 32) (v2768 : IVec S16 32) (k0_hw2008 : k0_chk2008 v2599 v2768), ∀ a x, ((![v2599, v2768] : Fin 2 → IVec S16 32) a x).toNat < S160x31.size a := fun v2599 v2768 k0_hw2008 => k0_hw2008

def k0_chk2009 (v2599 : IVec S16 32) (v2771 : IVec S16 32) : Prop :=
  (∀ a x, ((![v2599, v2771] : Fin 2 → IVec S16 32) a x).toNat < S160x39.size a)
theorem k0_idx2009_inb : ∀ (v2599 : IVec S16 32) (v2771 : IVec S16 32) (k0_hw2009 : k0_chk2009 v2599 v2771), ∀ a x, ((![v2599, v2771] : Fin 2 → IVec S16 32) a x).toNat < S160x39.size a := fun v2599 v2771 k0_hw2009 => k0_hw2009

def k0_chk2010 (v2599 : IVec S16 32) (v2775 : IVec S16 32) : Prop :=
  (∀ a x, ((![v2599, v2775] : Fin 2 → IVec S16 32) a x).toNat < S160x31.size a)
theorem k0_idx2010_inb : ∀ (v2599 : IVec S16 32) (v2775 : IVec S16 32) (k0_hw2010 : k0_chk2010 v2599 v2775), ∀ a x, ((![v2599, v2775] : Fin 2 → IVec S16 32) a x).toNat < S160x31.size a := fun v2599 v2775 k0_hw2010 => k0_hw2010

def k0_chk2011 (v2599 : IVec S16 32) (v2778 : IVec S16 32) : Prop :=
  (∀ a x, ((![v2599, v2778] : Fin 2 → IVec S16 32) a x).toNat < S160x39.size a)
theorem k0_idx2011_inb : ∀ (v2599 : IVec S16 32) (v2778 : IVec S16 32) (k0_hw2011 : k0_chk2011 v2599 v2778), ∀ a x, ((![v2599, v2778] : Fin 2 → IVec S16 32) a x).toNat < S160x39.size a := fun v2599 v2778 k0_hw2011 => k0_hw2011

def k0_chk2012 (v2599 : IVec S16 32) (v2782 : IVec S16 32) : Prop :=
  (∀ a x, ((![v2599, v2782] : Fin 2 → IVec S16 32) a x).toNat < S160x31.size a)
theorem k0_idx2012_inb : ∀ (v2599 : IVec S16 32) (v2782 : IVec S16 32) (k0_hw2012 : k0_chk2012 v2599 v2782), ∀ a x, ((![v2599, v2782] : Fin 2 → IVec S16 32) a x).toNat < S160x31.size a := fun v2599 v2782 k0_hw2012 => k0_hw2012

def k0_chk2013 (v2599 : IVec S16 32) (v2785 : IVec S16 32) : Prop :=
  (∀ a x, ((![v2599, v2785] : Fin 2 → IVec S16 32) a x).toNat < S160x39.size a)
theorem k0_idx2013_inb : ∀ (v2599 : IVec S16 32) (v2785 : IVec S16 32) (k0_hw2013 : k0_chk2013 v2599 v2785), ∀ a x, ((![v2599, v2785] : Fin 2 → IVec S16 32) a x).toNat < S160x39.size a := fun v2599 v2785 k0_hw2013 => k0_hw2013

def k0_chk2014 (v2599 : IVec S16 32) (v2789 : IVec S16 32) : Prop :=
  (∀ a x, ((![v2599, v2789] : Fin 2 → IVec S16 32) a x).toNat < S160x31.size a)
theorem k0_idx2014_inb : ∀ (v2599 : IVec S16 32) (v2789 : IVec S16 32) (k0_hw2014 : k0_chk2014 v2599 v2789), ∀ a x, ((![v2599, v2789] : Fin 2 → IVec S16 32) a x).toNat < S160x31.size a := fun v2599 v2789 k0_hw2014 => k0_hw2014

def k0_chk2015 (v2599 : IVec S16 32) (v2792 : IVec S16 32) : Prop :=
  (∀ a x, ((![v2599, v2792] : Fin 2 → IVec S16 32) a x).toNat < S160x39.size a)
theorem k0_idx2015_inb : ∀ (v2599 : IVec S16 32) (v2792 : IVec S16 32) (k0_hw2015 : k0_chk2015 v2599 v2792), ∀ a x, ((![v2599, v2792] : Fin 2 → IVec S16 32) a x).toNat < S160x39.size a := fun v2599 v2792 k0_hw2015 => k0_hw2015

def k0_chk2016 (v2599 : IVec S16 32) (v2796 : IVec S16 32) : Prop :=
  (∀ a x, ((![v2599, v2796] : Fin 2 → IVec S16 32) a x).toNat < S160x31.size a)
theorem k0_idx2016_inb : ∀ (v2599 : IVec S16 32) (v2796 : IVec S16 32) (k0_hw2016 : k0_chk2016 v2599 v2796), ∀ a x, ((![v2599, v2796] : Fin 2 → IVec S16 32) a x).toNat < S160x31.size a := fun v2599 v2796 k0_hw2016 => k0_hw2016

def k0_chk2017 (v2599 : IVec S16 32) (v2799 : IVec S16 32) : Prop :=
  (∀ a x, ((![v2599, v2799] : Fin 2 → IVec S16 32) a x).toNat < S160x39.size a)
theorem k0_idx2017_inb : ∀ (v2599 : IVec S16 32) (v2799 : IVec S16 32) (k0_hw2017 : k0_chk2017 v2599 v2799), ∀ a x, ((![v2599, v2799] : Fin 2 → IVec S16 32) a x).toNat < S160x39.size a := fun v2599 v2799 k0_hw2017 => k0_hw2017

def k0_chk2018 (v2599 : IVec S16 32) (v2803 : IVec S16 32) : Prop :=
  (∀ a x, ((![v2599, v2803] : Fin 2 → IVec S16 32) a x).toNat < S160x31.size a)
theorem k0_idx2018_inb : ∀ (v2599 : IVec S16 32) (v2803 : IVec S16 32) (k0_hw2018 : k0_chk2018 v2599 v2803), ∀ a x, ((![v2599, v2803] : Fin 2 → IVec S16 32) a x).toNat < S160x31.size a := fun v2599 v2803 k0_hw2018 => k0_hw2018

def k0_chk2019 (v2599 : IVec S16 32) (v2806 : IVec S16 32) : Prop :=
  (∀ a x, ((![v2599, v2806] : Fin 2 → IVec S16 32) a x).toNat < S160x39.size a)
theorem k0_idx2019_inb : ∀ (v2599 : IVec S16 32) (v2806 : IVec S16 32) (k0_hw2019 : k0_chk2019 v2599 v2806), ∀ a x, ((![v2599, v2806] : Fin 2 → IVec S16 32) a x).toNat < S160x39.size a := fun v2599 v2806 k0_hw2019 => k0_hw2019

def k0_chk2020 (v2599 : IVec S16 32) (v2810 : IVec S16 32) : Prop :=
  (∀ a x, ((![v2599, v2810] : Fin 2 → IVec S16 32) a x).toNat < S160x31.size a)
theorem k0_idx2020_inb : ∀ (v2599 : IVec S16 32) (v2810 : IVec S16 32) (k0_hw2020 : k0_chk2020 v2599 v2810), ∀ a x, ((![v2599, v2810] : Fin 2 → IVec S16 32) a x).toNat < S160x31.size a := fun v2599 v2810 k0_hw2020 => k0_hw2020

def k0_chk2021 (v2599 : IVec S16 32) (v2813 : IVec S16 32) : Prop :=
  (∀ a x, ((![v2599, v2813] : Fin 2 → IVec S16 32) a x).toNat < S160x39.size a)
theorem k0_idx2021_inb : ∀ (v2599 : IVec S16 32) (v2813 : IVec S16 32) (k0_hw2021 : k0_chk2021 v2599 v2813), ∀ a x, ((![v2599, v2813] : Fin 2 → IVec S16 32) a x).toNat < S160x39.size a := fun v2599 v2813 k0_hw2021 => k0_hw2021

def k0_chk2022 (v2599 : IVec S16 32) (v2817 : IVec S16 32) : Prop :=
  (∀ a x, ((![v2599, v2817] : Fin 2 → IVec S16 32) a x).toNat < S160x31.size a)
theorem k0_idx2022_inb : ∀ (v2599 : IVec S16 32) (v2817 : IVec S16 32) (k0_hw2022 : k0_chk2022 v2599 v2817), ∀ a x, ((![v2599, v2817] : Fin 2 → IVec S16 32) a x).toNat < S160x31.size a := fun v2599 v2817 k0_hw2022 => k0_hw2022

def k0_chk2023 (v2599 : IVec S16 32) (v2820 : IVec S16 32) : Prop :=
  (∀ a x, ((![v2599, v2820] : Fin 2 → IVec S16 32) a x).toNat < S160x39.size a)
theorem k0_idx2023_inb : ∀ (v2599 : IVec S16 32) (v2820 : IVec S16 32) (k0_hw2023 : k0_chk2023 v2599 v2820), ∀ a x, ((![v2599, v2820] : Fin 2 → IVec S16 32) a x).toNat < S160x39.size a := fun v2599 v2820 k0_hw2023 => k0_hw2023

def k0_chk2024 (v2599 : IVec S16 32) (v2824 : IVec S16 32) : Prop :=
  (∀ a x, ((![v2599, v2824] : Fin 2 → IVec S16 32) a x).toNat < S160x31.size a)
theorem k0_idx2024_inb : ∀ (v2599 : IVec S16 32) (v2824 : IVec S16 32) (k0_hw2024 : k0_chk2024 v2599 v2824), ∀ a x, ((![v2599, v2824] : Fin 2 → IVec S16 32) a x).toNat < S160x31.size a := fun v2599 v2824 k0_hw2024 => k0_hw2024

def k0_chk2025 (v2599 : IVec S16 32) (v2827 : IVec S16 32) : Prop :=
  (∀ a x, ((![v2599, v2827] : Fin 2 → IVec S16 32) a x).toNat < S160x39.size a)
theorem k0_idx2025_inb : ∀ (v2599 : IVec S16 32) (v2827 : IVec S16 32) (k0_hw2025 : k0_chk2025 v2599 v2827), ∀ a x, ((![v2599, v2827] : Fin 2 → IVec S16 32) a x).toNat < S160x39.size a := fun v2599 v2827 k0_hw2025 => k0_hw2025

def k0_chk2026 (v2599 : IVec S16 32) (v2831 : IVec S16 32) : Prop :=
  (∀ a x, ((![v2599, v2831] : Fin 2 → IVec S16 32) a x).toNat < S160x31.size a)
theorem k0_idx2026_inb : ∀ (v2599 : IVec S16 32) (v2831 : IVec S16 32) (k0_hw2026 : k0_chk2026 v2599 v2831), ∀ a x, ((![v2599, v2831] : Fin 2 → IVec S16 32) a x).toNat < S160x31.size a := fun v2599 v2831 k0_hw2026 => k0_hw2026

def k0_chk2027 (v2599 : IVec S16 32) (v2834 : IVec S16 32) : Prop :=
  (∀ a x, ((![v2599, v2834] : Fin 2 → IVec S16 32) a x).toNat < S160x39.size a)
theorem k0_idx2027_inb : ∀ (v2599 : IVec S16 32) (v2834 : IVec S16 32) (k0_hw2027 : k0_chk2027 v2599 v2834), ∀ a x, ((![v2599, v2834] : Fin 2 → IVec S16 32) a x).toNat < S160x39.size a := fun v2599 v2834 k0_hw2027 => k0_hw2027

def k0_chk2028 (v2599 : IVec S16 32) (v2838 : IVec S16 32) : Prop :=
  (∀ a x, ((![v2599, v2838] : Fin 2 → IVec S16 32) a x).toNat < S160x31.size a)
theorem k0_idx2028_inb : ∀ (v2599 : IVec S16 32) (v2838 : IVec S16 32) (k0_hw2028 : k0_chk2028 v2599 v2838), ∀ a x, ((![v2599, v2838] : Fin 2 → IVec S16 32) a x).toNat < S160x31.size a := fun v2599 v2838 k0_hw2028 => k0_hw2028

def k0_chk2029 (v2599 : IVec S16 32) (v2841 : IVec S16 32) : Prop :=
  (∀ a x, ((![v2599, v2841] : Fin 2 → IVec S16 32) a x).toNat < S160x39.size a)
theorem k0_idx2029_inb : ∀ (v2599 : IVec S16 32) (v2841 : IVec S16 32) (k0_hw2029 : k0_chk2029 v2599 v2841), ∀ a x, ((![v2599, v2841] : Fin 2 → IVec S16 32) a x).toNat < S160x39.size a := fun v2599 v2841 k0_hw2029 => k0_hw2029

def k0_chk2030 (v2599 : IVec S16 32) (v2845 : IVec S16 32) : Prop :=
  (∀ a x, ((![v2599, v2845] : Fin 2 → IVec S16 32) a x).toNat < S160x31.size a)
theorem k0_idx2030_inb : ∀ (v2599 : IVec S16 32) (v2845 : IVec S16 32) (k0_hw2030 : k0_chk2030 v2599 v2845), ∀ a x, ((![v2599, v2845] : Fin 2 → IVec S16 32) a x).toNat < S160x31.size a := fun v2599 v2845 k0_hw2030 => k0_hw2030

def k0_chk2031 (v2599 : IVec S16 32) (v2848 : IVec S16 32) : Prop :=
  (∀ a x, ((![v2599, v2848] : Fin 2 → IVec S16 32) a x).toNat < S160x39.size a)
theorem k0_idx2031_inb : ∀ (v2599 : IVec S16 32) (v2848 : IVec S16 32) (k0_hw2031 : k0_chk2031 v2599 v2848), ∀ a x, ((![v2599, v2848] : Fin 2 → IVec S16 32) a x).toNat < S160x39.size a := fun v2599 v2848 k0_hw2031 => k0_hw2031

def k0_chk2032 (v2599 : IVec S16 32) (v2852 : IVec S16 32) : Prop :=
  (∀ a x, ((![v2599, v2852] : Fin 2 → IVec S16 32) a x).toNat < S160x31.size a)
theorem k0_idx2032_inb : ∀ (v2599 : IVec S16 32) (v2852 : IVec S16 32) (k0_hw2032 : k0_chk2032 v2599 v2852), ∀ a x, ((![v2599, v2852] : Fin 2 → IVec S16 32) a x).toNat < S160x31.size a := fun v2599 v2852 k0_hw2032 => k0_hw2032

def k0_chk2033 (v2599 : IVec S16 32) (v2855 : IVec S16 32) : Prop :=
  (∀ a x, ((![v2599, v2855] : Fin 2 → IVec S16 32) a x).toNat < S160x39.size a)
theorem k0_idx2033_inb : ∀ (v2599 : IVec S16 32) (v2855 : IVec S16 32) (k0_hw2033 : k0_chk2033 v2599 v2855), ∀ a x, ((![v2599, v2855] : Fin 2 → IVec S16 32) a x).toNat < S160x39.size a := fun v2599 v2855 k0_hw2033 => k0_hw2033

def k0_chk2034 (v2599 : IVec S16 32) (v2859 : IVec S16 32) : Prop :=
  (∀ a x, ((![v2599, v2859] : Fin 2 → IVec S16 32) a x).toNat < S160x31.size a)
theorem k0_idx2034_inb : ∀ (v2599 : IVec S16 32) (v2859 : IVec S16 32) (k0_hw2034 : k0_chk2034 v2599 v2859), ∀ a x, ((![v2599, v2859] : Fin 2 → IVec S16 32) a x).toNat < S160x31.size a := fun v2599 v2859 k0_hw2034 => k0_hw2034

def k0_chk2035 (v2599 : IVec S16 32) (v2862 : IVec S16 32) : Prop :=
  (∀ a x, ((![v2599, v2862] : Fin 2 → IVec S16 32) a x).toNat < S160x39.size a)
theorem k0_idx2035_inb : ∀ (v2599 : IVec S16 32) (v2862 : IVec S16 32) (k0_hw2035 : k0_chk2035 v2599 v2862), ∀ a x, ((![v2599, v2862] : Fin 2 → IVec S16 32) a x).toNat < S160x39.size a := fun v2599 v2862 k0_hw2035 => k0_hw2035

def k0_chk2036 (v2599 : IVec S16 32) (v2866 : IVec S16 32) : Prop :=
  (∀ a x, ((![v2599, v2866] : Fin 2 → IVec S16 32) a x).toNat < S160x31.size a)
theorem k0_idx2036_inb : ∀ (v2599 : IVec S16 32) (v2866 : IVec S16 32) (k0_hw2036 : k0_chk2036 v2599 v2866), ∀ a x, ((![v2599, v2866] : Fin 2 → IVec S16 32) a x).toNat < S160x31.size a := fun v2599 v2866 k0_hw2036 => k0_hw2036

def k0_chk2037 (v2599 : IVec S16 32) (v2869 : IVec S16 32) : Prop :=
  (∀ a x, ((![v2599, v2869] : Fin 2 → IVec S16 32) a x).toNat < S160x39.size a)
theorem k0_idx2037_inb : ∀ (v2599 : IVec S16 32) (v2869 : IVec S16 32) (k0_hw2037 : k0_chk2037 v2599 v2869), ∀ a x, ((![v2599, v2869] : Fin 2 → IVec S16 32) a x).toNat < S160x39.size a := fun v2599 v2869 k0_hw2037 => k0_hw2037

def k0_chk2038 (v2599 : IVec S16 32) (v2873 : IVec S16 32) : Prop :=
  (∀ a x, ((![v2599, v2873] : Fin 2 → IVec S16 32) a x).toNat < S160x31.size a)
theorem k0_idx2038_inb : ∀ (v2599 : IVec S16 32) (v2873 : IVec S16 32) (k0_hw2038 : k0_chk2038 v2599 v2873), ∀ a x, ((![v2599, v2873] : Fin 2 → IVec S16 32) a x).toNat < S160x31.size a := fun v2599 v2873 k0_hw2038 => k0_hw2038

def k0_chk2039 (v2599 : IVec S16 32) (v2876 : IVec S16 32) : Prop :=
  (∀ a x, ((![v2599, v2876] : Fin 2 → IVec S16 32) a x).toNat < S160x39.size a)
theorem k0_idx2039_inb : ∀ (v2599 : IVec S16 32) (v2876 : IVec S16 32) (k0_hw2039 : k0_chk2039 v2599 v2876), ∀ a x, ((![v2599, v2876] : Fin 2 → IVec S16 32) a x).toNat < S160x39.size a := fun v2599 v2876 k0_hw2039 => k0_hw2039

def k0_chk2040 (v2599 : IVec S16 32) (v2880 : IVec S16 32) : Prop :=
  (∀ a x, ((![v2599, v2880] : Fin 2 → IVec S16 32) a x).toNat < S160x31.size a)
theorem k0_idx2040_inb : ∀ (v2599 : IVec S16 32) (v2880 : IVec S16 32) (k0_hw2040 : k0_chk2040 v2599 v2880), ∀ a x, ((![v2599, v2880] : Fin 2 → IVec S16 32) a x).toNat < S160x31.size a := fun v2599 v2880 k0_hw2040 => k0_hw2040
def k0_off11 (i : grid0.Coords) (c19840_i32_2819 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v2 : BitVec 32 := Scalar.muli v1 c20000_i32
  let v2883 : BitVec 32 := Scalar.addi v2 c19840_i32_2819
  let c0_i32_2823 : BitVec 32 := 0#32
  ![v2883.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x20000x39 : Shape := ⟨3, ![32, 20000, 39]⟩
abbrev S32x20000x1 : Shape := ⟨3, ![32, 20000, 1]⟩
abbrev S32x20000 : Shape := ⟨2, ![32, 20000]⟩
abbrev S_ : Shape := ⟨0, ![]⟩
abbrev S32x20000x21 : Shape := ⟨3, ![32, 20000, 21]⟩
abbrev S32x20000x31 : Shape := ⟨3, ![32, 20000, 31]⟩

abbrev nBuf : Space → Nat
  | .hbm => 105
  | .vmem => 0
  | .smem => 0
  | _ => 0

abbrev bufTy : (tb : Table) → Fin (tcTables nBuf tb) → BufTy
  | .hbm, ⟨0, _⟩ => ⟨S32x20000x39, .f32⟩
  | .hbm, ⟨1, _⟩ => ⟨S32x20000x1, .f32⟩
  | .hbm, ⟨2, _⟩ => ⟨S32x20000, .f32⟩
  | .hbm, ⟨3, _⟩ => ⟨S32x20000x1, .f32⟩
  | .hbm, ⟨4, _⟩ => ⟨S32x20000, .f32⟩
  | .hbm, ⟨5, _⟩ => ⟨S32x20000x1, .f32⟩
  | .hbm, ⟨6, _⟩ => ⟨S32x20000, .f32⟩
  | .hbm, ⟨7, _⟩ => ⟨S32x20000x1, .f32⟩
  | .hbm, ⟨8, _⟩ => ⟨S32x20000, .f32⟩
  | .hbm, ⟨9, _⟩ => ⟨S32x20000x1, .f32⟩
  | .hbm, ⟨10, _⟩ => ⟨S32x20000, .f32⟩
  | .hbm, ⟨11, _⟩ => ⟨S32x20000x1, .f32⟩
  | .hbm, ⟨12, _⟩ => ⟨S32x20000, .f32⟩
  | .hbm, ⟨13, _⟩ => ⟨S32x20000x1, .f32⟩
  | .hbm, ⟨14, _⟩ => ⟨S32x20000, .f32⟩
  | .hbm, ⟨15, _⟩ => ⟨S32x20000x1, .f32⟩
  | .hbm, ⟨16, _⟩ => ⟨S32x20000, .f32⟩
  | .hbm, ⟨17, _⟩ => ⟨S32x20000, .f32⟩
  | .hbm, ⟨18, _⟩ => ⟨S32x20000, .f32⟩
  | .hbm, ⟨19, _⟩ => ⟨S32x20000, .f32⟩
  | .hbm, ⟨20, _⟩ => ⟨S32x20000, .f32⟩
  | .hbm, ⟨21, _⟩ => ⟨S32x20000, .f32⟩
  | .hbm, ⟨22, _⟩ => ⟨S32x20000, .f32⟩
  | .hbm, ⟨23, _⟩ => ⟨S_, .f32⟩
  | .hbm, ⟨24, _⟩ => ⟨S32x20000, .f32⟩
  | .hbm, ⟨25, _⟩ => ⟨S32x20000, .f32⟩
  | .hbm, ⟨26, _⟩ => ⟨S_, .f32⟩
  | .hbm, ⟨27, _⟩ => ⟨S32x20000, .f32⟩
  | .hbm, ⟨28, _⟩ => ⟨S32x20000, .f32⟩
  | .hbm, ⟨29, _⟩ => ⟨S32x20000x1, .f32⟩
  | .hbm, ⟨30, _⟩ => ⟨S32x20000x1, .f32⟩
  | .hbm, ⟨31, _⟩ => ⟨S32x20000x1, .f32⟩
  | .hbm, ⟨32, _⟩ => ⟨S32x20000, .f32⟩
  | .hbm, ⟨33, _⟩ => ⟨S32x20000x1, .f32⟩
  | .hbm, ⟨34, _⟩ => ⟨S32x20000, .f32⟩
  | .hbm, ⟨35, _⟩ => ⟨S32x20000, .f32⟩
  | .hbm, ⟨36, _⟩ => ⟨S32x20000, .f32⟩
  | .hbm, ⟨37, _⟩ => ⟨S32x20000, .f32⟩
  | .hbm, ⟨38, _⟩ => ⟨S32x20000, .f32⟩
  | .hbm, ⟨39, _⟩ => ⟨S32x20000, .f32⟩
  | .hbm, ⟨40, _⟩ => ⟨S32x20000, .f32⟩
  | .hbm, ⟨41, _⟩ => ⟨S_, .f32⟩
  | .hbm, ⟨42, _⟩ => ⟨S32x20000, .f32⟩
  | .hbm, ⟨43, _⟩ => ⟨S32x20000, .f32⟩
  | .hbm, ⟨44, _⟩ => ⟨S_, .f32⟩
  | .hbm, ⟨45, _⟩ => ⟨S32x20000, .f32⟩
  | .hbm, ⟨46, _⟩ => ⟨S32x20000, .f32⟩
  | .hbm, ⟨47, _⟩ => ⟨S32x20000x1, .f32⟩
  | .hbm, ⟨48, _⟩ => ⟨S32x20000x1, .f32⟩
  | .hbm, ⟨49, _⟩ => ⟨S32x20000x1, .f32⟩
  | .hbm, ⟨50, _⟩ => ⟨S32x20000, .f32⟩
  | .hbm, ⟨51, _⟩ => ⟨S32x20000x1, .f32⟩
  | .hbm, ⟨52, _⟩ => ⟨S32x20000, .f32⟩
  | .hbm, ⟨53, _⟩ => ⟨S32x20000, .f32⟩
  | .hbm, ⟨54, _⟩ => ⟨S32x20000, .f32⟩
  | .hbm, ⟨55, _⟩ => ⟨S32x20000, .f32⟩
  | .hbm, ⟨56, _⟩ => ⟨S32x20000, .f32⟩
  | .hbm, ⟨57, _⟩ => ⟨S32x20000, .f32⟩
  | .hbm, ⟨58, _⟩ => ⟨S32x20000, .f32⟩
  | .hbm, ⟨59, _⟩ => ⟨S_, .f32⟩
  | .hbm, ⟨60, _⟩ => ⟨S32x20000, .f32⟩
  | .hbm, ⟨61, _⟩ => ⟨S32x20000, .f32⟩
  | .hbm, ⟨62, _⟩ => ⟨S_, .f32⟩
  | .hbm, ⟨63, _⟩ => ⟨S32x20000, .f32⟩
  | .hbm, ⟨64, _⟩ => ⟨S32x20000, .f32⟩
  | .hbm, ⟨65, _⟩ => ⟨S32x20000x1, .f32⟩
  | .hbm, ⟨66, _⟩ => ⟨S32x20000x1, .f32⟩
  | .hbm, ⟨67, _⟩ => ⟨S32x20000x1, .f32⟩
  | .hbm, ⟨68, _⟩ => ⟨S32x20000, .f32⟩
  | .hbm, ⟨69, _⟩ => ⟨S32x20000x1, .f32⟩
  | .hbm, ⟨70, _⟩ => ⟨S32x20000, .f32⟩
  | .hbm, ⟨71, _⟩ => ⟨S32x20000, .f32⟩
  | .hbm, ⟨72, _⟩ => ⟨S32x20000, .f32⟩
  | .hbm, ⟨73, _⟩ => ⟨S32x20000, .f32⟩
  | .hbm, ⟨74, _⟩ => ⟨S32x20000, .f32⟩
  | .hbm, ⟨75, _⟩ => ⟨S32x20000, .f32⟩
  | .hbm, ⟨76, _⟩ => ⟨S32x20000, .f32⟩
  | .hbm, ⟨77, _⟩ => ⟨S_, .f32⟩
  | .hbm, ⟨78, _⟩ => ⟨S32x20000, .f32⟩
  | .hbm, ⟨79, _⟩ => ⟨S32x20000, .f32⟩
  | .hbm, ⟨80, _⟩ => ⟨S_, .f32⟩
  | .hbm, ⟨81, _⟩ => ⟨S32x20000, .f32⟩
  | .hbm, ⟨82, _⟩ => ⟨S32x20000, .f32⟩
  | .hbm, ⟨83, _⟩ => ⟨S32x20000x1, .f32⟩
  | .hbm, ⟨84, _⟩ => ⟨S32x20000x1, .f32⟩
  | .hbm, ⟨85, _⟩ => ⟨S32x20000x1, .f32⟩
  | .hbm, ⟨86, _⟩ => ⟨S32x20000, .f32⟩
  | .hbm, ⟨87, _⟩ => ⟨S32x20000x1, .f32⟩
  | .hbm, ⟨88, _⟩ => ⟨S32x20000, .f32⟩
  | .hbm, ⟨89, _⟩ => ⟨S32x20000, .f32⟩
  | .hbm, ⟨90, _⟩ => ⟨S32x20000, .f32⟩
  | .hbm, ⟨91, _⟩ => ⟨S32x20000, .f32⟩
  | .hbm, ⟨92, _⟩ => ⟨S32x20000, .f32⟩
  | .hbm, ⟨93, _⟩ => ⟨S32x20000, .f32⟩
  | .hbm, ⟨94, _⟩ => ⟨S32x20000, .f32⟩
  | .hbm, ⟨95, _⟩ => ⟨S_, .f32⟩
  | .hbm, ⟨96, _⟩ => ⟨S32x20000, .f32⟩
  | .hbm, ⟨97, _⟩ => ⟨S32x20000, .f32⟩
  | .hbm, ⟨98, _⟩ => ⟨S_, .f32⟩
  | .hbm, ⟨99, _⟩ => ⟨S32x20000, .f32⟩
  | .hbm, ⟨100, _⟩ => ⟨S32x20000, .f32⟩
  | .hbm, ⟨101, _⟩ => ⟨S32x20000x1, .f32⟩
  | .hbm, ⟨102, _⟩ => ⟨S32x20000x1, .f32⟩
  | .hbm, ⟨103, _⟩ => ⟨S32x20000x21, .f32⟩
  | .hbm, ⟨104, _⟩ => ⟨S32x20000x31, .f32⟩
  | _, _ => ⟨S32x20000x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_cst : Ref sig .tc := ⟨.hbm, 23, rfl⟩
abbrev main_v22 : Ref sig .tc := ⟨.hbm, 24, rfl⟩
abbrev main_v23 : Ref sig .tc := ⟨.hbm, 25, rfl⟩
abbrev main_cst_0 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_cst_1 : Ref sig .tc := ⟨.hbm, 41, rfl⟩
abbrev main_v38 : Ref sig .tc := ⟨.hbm, 42, rfl⟩
abbrev main_v39 : Ref sig .tc := ⟨.hbm, 43, rfl⟩
abbrev main_cst_2 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_cst_3 : Ref sig .tc := ⟨.hbm, 59, rfl⟩
abbrev main_v54 : Ref sig .tc := ⟨.hbm, 60, rfl⟩
abbrev main_v55 : Ref sig .tc := ⟨.hbm, 61, rfl⟩
abbrev main_cst_4 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_5 : Ref sig .tc := ⟨.hbm, 77, rfl⟩
abbrev main_v70 : Ref sig .tc := ⟨.hbm, 78, rfl⟩
abbrev main_v71 : Ref sig .tc := ⟨.hbm, 79, rfl⟩
abbrev main_cst_6 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_cst_7 : Ref sig .tc := ⟨.hbm, 95, rfl⟩
abbrev main_v86 : Ref sig .tc := ⟨.hbm, 96, rfl⟩
abbrev main_v87 : Ref sig .tc := ⟨.hbm, 97, rfl⟩
abbrev main_cst_8 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩

abbrev nD : Nat := 1
abbrev τ : Topo := Topo.v7x

variable {F : FTy → Type} [FloatOps F]
-- ==== Proof.Body.lean ====
/-
  The tile's program, written once over its structure.

  The printed program of a tile is a long straight line: every group of sixteen rows and every column has its own statements. Here the
  same program is built from a few definitions — a gather, a scatter, one group of rows, one chunk — and the printed program is shown
  equal to it.
-/
module

public import proofs.«01_k».proof.Defs
public import Idealize.ShloMosaic.Lib.SparseCore.Ops
public import proofs.«01_k».proof.Proof.Gen.KernelIdeal

@[expose] public section

noncomputable section

namespace Cert.Decode

open Cert.KernelIdeal
open Cert.KernelIdeal.Facts₀ Cert.KernelIdeal.Facts
open Idealize.ShloMosaic Idealize.SL.Sem

variable {F : FTy → Type} [FloatOps F]
variable {pc : Fin τ.nSC} {ps : Fin τ.nSub} {α : Type}

/-- Programs of one tile. -/
abbrev TP (F : FTy → Type) (pc : Fin τ.nSC) (ps : Fin τ.nSub) (α : Type) : Type 1 :=
  Prog (TpuEff nD τ sig (Elt F) Λ₀ (.scVector pc ps)) α

/-- The words of a column number, one per lane. -/
abbrev colv (c : ℕ) : IVec S16 32 := broadcast S16 (BitVec.ofNat 32 c)

/-- Gather column `c` of the rows `rows` of the input chunk, then go on with the sixteen values. -/
def gatK (iv : Memref sig .scVector .vmem S160x39 .f32) (rows : IVec S16 32) (c : ℕ)
    (k : Vec F S16 .f32 → TP F pc ps α) : TP F pc ps α :=
  .op (.assume (k0_chk1 rows (colv c)) (k0_chk1.dec rows (colv c))) fun h =>
  .op (.load iv (.whole S160x39) (View.loadsAt_whole (View.loads_vmem h_S160x39))) fun f =>
  k (loadIdx f ![rows, colv c] (k0_idx1_inb rows (colv c) h.down))

/-- A whole output chunk may be stored. -/
theorem stores_out (ov : Memref sig .scVector .vmem S160x31 .f32) : (ov.access (.whole S160x31)).Stores Finset.univ :=
  View.stores_vmem_bits_univ h_S160x31 rfl

/-- Scatter `v` into column `c` of the rows `rows` of the output chunk, then go on. -/
def scatK (ov : Memref sig .scVector .vmem S160x31 .f32) (rows : IVec S16 32) (c : ℕ) (v : Vec F S16 .f32)
    (k : TP F pc ps α) : TP F pc ps α :=
  .op (.assume (k0_chk9 rows (colv c)) (k0_chk9.dec rows (colv c))) fun h =>
  .op (.load ov (.whole S160x31) (View.loadsAt_rect (stores_out ov).loads)) fun f =>
  .op (.store ov (.whole S160x31) (storeIdx f ![rows, colv c] v (fun _ => 1#1) false (k0_idx9_inb rows (colv c) h.down)) Finset.univ
    (stores_out ov) (.inl rfl)) fun _ => k

/-- A key point's coordinate: the gathered `x` scaled by `w`, moved by `c`, in image units. -/
abbrev kpt (x w c : FVec F S16 .f32) : FVec F S16 .f32 :=
  mulf (addf (mulf x w) c) (broadcast S16 (Scalar.ofBits .f32 0x44000000#32))

/-- One pair of coordinates: gather both, scatter both. -/
def pairK (iv : Memref sig .scVector .vmem S160x39 .f32) (ov : Memref sig .scVector .vmem S160x31 .f32) (rows : IVec S16 32)
    (cx cy vx vy : Vec F S16 .f32) (n : ℕ) (k : TP F pc ps α) : TP F pc ps α :=
  gatK iv rows (21 + 2 * n) fun x => gatK iv rows (22 + 2 * n) fun y =>
  scatK ov rows (21 + 2 * n) (kpt x vx cx) (scatK ov rows (22 + 2 * n) (kpt y vy cy) k)

/-- One column copied. -/
def copyK (iv : Memref sig .scVector .vmem S160x39 .f32) (ov : Memref sig .scVector .vmem S160x31 .f32) (rows : IVec S16 32)
    (c : ℕ) (k : TP F pc ps α) : TP F pc ps α :=
  gatK iv rows c fun x => scatK ov rows c x k

/-- One group of sixteen rows. -/
def groupK (iv : Memref sig .scVector .vmem S160x39 .f32) (ov : Memref sig .scVector .vmem S160x31 .f32) (rows : IVec S16 32)
    (k : TP F pc ps α) : TP F pc ps α :=
  gatK iv rows 31 fun cx => gatK iv rows 32 fun cy =>
  gatK iv rows 35 fun vx => gatK iv rows 33 fun wx =>
  gatK iv rows 36 fun vy => gatK iv rows 34 fun wy =>
  (List.range 5).foldr (pairK iv ov rows cx cy (mulf vx wx) (mulf vy wy))
    ((List.range 21).foldr (copyK iv ov rows) k)

/-- The row numbers of group `g`, one per lane. -/
abbrev rowv (g : ℕ) : IVec S16 32 :=
  addi (broadcast S16 (BitVec.ofNat 32 (16 * g))) (iota .scVector S16 32 [0] iota_S16_d0_w32_scVector)

/-- One chunk: its ten groups. -/
def chunkK (iv : Memref sig .scVector .vmem S160x39 .f32) (ov : Memref sig .scVector .vmem S160x31 .f32)
    (k : TP F pc ps α) : TP F pc ps α :=
  (List.range 10).foldr (fun g k => groupK iv ov (rowv g) k) k

/-- Slot `0` and slot `1` of the input scratch. -/
abbrev ivS0 (m : Memref sig .scVector .vmem S2x160x39 .f32) : Memref sig .scVector .vmem S160x39 .f32 :=
  (m.slice (Rect.unit (s := S2x160x39) ![0, 0, 0] S1x160x39.size inb_S2x160x39_S1x160x39_0_0_0) (fun _ => rfl)).squeeze S160x39 squeezes_S1x160x39_S160x39
@[inherit_doc ivS0]
abbrev ivS1 (m : Memref sig .scVector .vmem S2x160x39 .f32) : Memref sig .scVector .vmem S160x39 .f32 :=
  (m.slice (Rect.unit (s := S2x160x39) ![1, 0, 0] S1x160x39.size inb_S2x160x39_S1x160x39_1_0_0) (fun _ => rfl)).squeeze S160x39 squeezes_S1x160x39_S160x39
/-- Slot `0` and slot `1` of the output scratch. -/
abbrev ovS0 (m : Memref sig .scVector .vmem S2x160x31 .f32) : Memref sig .scVector .vmem S160x31 .f32 :=
  (m.slice (Rect.unit (s := S2x160x31) ![0, 0, 0] S1x160x31.size inb_S2x160x31_S1x160x31_0_0_0) (fun _ => rfl)).squeeze S160x31 squeezes_S1x160x31_S160x31
@[inherit_doc ovS0]
abbrev ovS1 (m : Memref sig .scVector .vmem S2x160x31 .f32) : Memref sig .scVector .vmem S160x31 .f32 :=
  (m.slice (Rect.unit (s := S2x160x31) ![1, 0, 0] S1x160x31.size inb_S2x160x31_S1x160x31_1_0_0) (fun _ => rfl)).squeeze S160x31 squeezes_S1x160x31_S160x31

/-- The rows of the input array that a copy names: 160 of them, from the offsets `o`. -/
abbrev xRows (m : Memref sig .scVector .hbm S640000x39 .f32) (o : Fin 2 → ℕ) (h : ∀ a, o a + S160x39.size a ≤ S640000x39.size a) :
    Memref sig .scVector .hbm S160x39 .f32 := m.slice (Rect.unit (s := S640000x39) o S160x39.size h) (fun _ => rfl)
/-- The rows of the output array that a copy names. -/
abbrev oRows (m : Memref sig .scVector .hbm S640000x31 .f32) (o : Fin 2 → ℕ) (h : ∀ a, o a + S160x31.size a ≤ S640000x31.size a) :
    Memref sig .scVector .hbm S160x31 .f32 := m.slice (Rect.unit (s := S640000x31) o S160x31.size h) (fun _ => rfl)

/-- Start a copy of rows of the input into a slot. -/
def inStart (src : Memref sig .scVector .hbm S160x39 .f32) (iv : Memref sig .scVector .vmem S160x39 .f32) (sem : DmaSems sig S_)
    (hs : src.view.WordExact) (hd : iv.view.WordExact) (k : TP F pc ps α) : TP F pc ps α :=
  .op (.enqueueDma src (.here iv) (.dma sem.sem) hs hd ⟨Or.inl rfl, trivial⟩) fun _ => k
/-- Wait for it. -/
def inWait (src : Memref sig .scVector .hbm S160x39 .f32) (iv : Memref sig .scVector .vmem S160x39 .f32) (sem : DmaSems sig S_)
    (hs : src.view.WordExact) (hd : iv.view.WordExact) (k : TP F pc ps α) : TP F pc ps α :=
  .op (.waitDma2 sem.sem src iv hs hd) fun _ => k
/-- Start a copy of a slot into rows of the output. -/
def outStart (ov : Memref sig .scVector .vmem S160x31 .f32) (dst : Memref sig .scVector .hbm S160x31 .f32) (sem : DmaSems sig S_)
    (hs : ov.view.WordExact) (hd : dst.view.WordExact) (k : TP F pc ps α) : TP F pc ps α :=
  .op (.enqueueDma ov (.here dst) (.dma sem.sem) hs hd ⟨Or.inl rfl, trivial⟩) fun _ => k
/-- Wait for it. -/
def outWait (ov : Memref sig .scVector .vmem S160x31 .f32) (dst : Memref sig .scVector .hbm S160x31 .f32) (sem : DmaSems sig S_)
    (hs : ov.view.WordExact) (hd : dst.view.WordExact) (k : TP F pc ps α) : TP F pc ps α :=
  .op (.waitDma2 sem.sem ov dst hs hd) fun _ => k

section Tile

variable (i : grid0.Coords) (arg2 : Memref sig .scVector .hbm S640000x39 .f32) (arg3 : Memref sig .scVector .hbm S640000x31 .f32)
variable (arg4 : Memref sig .scVector .vmem S2x160x39 .f32) (arg5 : Memref sig .scVector .vmem S2x160x31 .f32)
variable (arg6 arg7 arg8 arg9 : DmaSems sig S_)

/-- The second slot's prefetch is issued in every trip: the first slot's next chunk always exists. -/
theorem cond2_all : ∀ t : Fin k0_t1_loop.trips, k0_cond2 t = 1#1 := by decide +kernel

/-- The wait for slot `0`'s copy out of the trip before, when there was one. -/
def wb0 (t : Fin k0_t1_loop.trips) (k : TP F pc ps α) : TP F pc ps α :=
  if h : k0_cond1 t = 1#1 then
    outWait (ovS0 arg5) (oRows arg3 (k0_off2 i t) (k0_off2_inb i t h)) arg8 ((View.wordExact_bits rfl).reshape _ _) (View.wordExact_bits rfl) k
  else k
/-- The same for slot `1`. -/
def wb1 (t : Fin k0_t1_loop.trips) (k : TP F pc ps α) : TP F pc ps α :=
  if h : k0_cond3 t = 1#1 then
    outWait (ovS1 arg5) (oRows arg3 (k0_off6 i t) (k0_off6_inb i t h)) arg9 ((View.wordExact_bits rfl).reshape _ _) (View.wordExact_bits rfl) k
  else k
/-- Slot `1`'s next copy in, when there is one. -/
def pre1 (t : Fin k0_t1_loop.trips) (k : TP F pc ps α) : TP F pc ps α :=
  if h : k0_cond4 t = 1#1 then
    inStart (xRows arg2 (k0_off9 i t) (k0_off9_inb i t h)) (ivS1 arg4) arg7 (View.wordExact_bits rfl) ((View.wordExact_bits rfl).reshape _ _) k
  else k

/-- One trip of the loop: a chunk in each slot. -/
def tripK (t : Fin k0_t1_loop.trips) (k : TP F pc ps α) : TP F pc ps α :=
  wb0 i arg3 arg5 arg8 t <|
  inWait (xRows arg2 (k0_off3 i t) (k0_off3_inb i t)) (ivS0 arg4) arg6 (View.wordExact_bits rfl) ((View.wordExact_bits rfl).reshape _ _) <|
  chunkK (ivS0 arg4) (ovS0 arg5) <|
  outStart (ovS0 arg5) (oRows arg3 (k0_off4 i t) (k0_off4_inb i t)) arg8 ((View.wordExact_bits rfl).reshape _ _) (View.wordExact_bits rfl) <|
  inStart (xRows arg2 (k0_off5 i t) (k0_off5_inb i t (cond2_all t))) (ivS0 arg4) arg6 (View.wordExact_bits rfl) ((View.wordExact_bits rfl).reshape _ _) <|
  wb1 i arg3 arg5 arg9 t <|
  inWait (xRows arg2 (k0_off7 i t) (k0_off7_inb i t)) (ivS1 arg4) arg7 (View.wordExact_bits rfl) ((View.wordExact_bits rfl).reshape _ _) <|
  chunkK (ivS1 arg4) (ovS1 arg5) <|
  outStart (ovS1 arg5) (oRows arg3 (k0_off8 i t) (k0_off8_inb i t)) arg9 ((View.wordExact_bits rfl).reshape _ _) (View.wordExact_bits rfl) <|
  pre1 i arg2 arg4 arg7 t k

/-- After the loop: the last chunk, and the waits for what is still in flight. -/
def lastK (k : TP F pc ps α) : TP F pc ps α :=
  outWait (ovS0 arg5) (oRows arg3 (k0_off10 i) (k0_off10_inb i)) arg8 ((View.wordExact_bits rfl).reshape _ _) (View.wordExact_bits rfl) <|
  inWait (xRows arg2 (k0_off1 i 19840#32) (k0_off1_inb i 2)) (ivS0 arg4) arg6 (View.wordExact_bits rfl) ((View.wordExact_bits rfl).reshape _ _) <|
  chunkK (ivS0 arg4) (ovS0 arg5) <|
  outStart (ovS0 arg5) (oRows arg3 (k0_off11 i 19840#32) (k0_off11_inb i 1)) arg8 ((View.wordExact_bits rfl).reshape _ _) (View.wordExact_bits rfl) <|
  outWait (ovS1 arg5) (oRows arg3 (k0_off11 i 19680#32) (k0_off11_inb i 0)) arg9 ((View.wordExact_bits rfl).reshape _ _) (View.wordExact_bits rfl) <|
  outWait (ovS0 arg5) (oRows arg3 (k0_off11 i 19840#32) (k0_off11_inb i 1)) arg8 ((View.wordExact_bits rfl).reshape _ _) (View.wordExact_bits rfl) k

/-- The whole tile. -/
def tileK : TP F pc ps PUnit :=
  inStart (xRows arg2 (k0_off1 i 0#32) (k0_off1_inb i 0)) (ivS0 arg4) arg6 (View.wordExact_bits rfl) ((View.wordExact_bits rfl).reshape _ _) <|
  inStart (xRows arg2 (k0_off1 i 160#32) (k0_off1_inb i 1)) (ivS1 arg4) arg7 (View.wordExact_bits rfl) ((View.wordExact_bits rfl).reshape _ _) <|
  (Scf.Loop.for k0_t1_loop k0_t1_ok ⟨⟩ fun t (_ : PUnit) => tripK i arg2 arg3 arg4 arg5 arg6 arg7 arg8 arg9 t (.ret ⟨⟩)) >>= fun _ =>
  lastK i arg2 arg3 arg4 arg5 arg6 arg8 arg9 (.ret ⟨⟩)

end Tile

end Cert.Decode

end
-- ==== Proof.Values.lean ====
/-
  The values of one chunk, with no program in sight.

  A chunk is 160 rows of 39 numbers; what a tile makes of it is 160 rows of 31. Here: the function of one row (`keyCol`), the same over a
  chunk (`decChunk`), the words a gather and a scatter are addressed with, and what one indexed load reads and one indexed store leaves.
-/
module

public import proofs.«01_k».proof.Proof.Body

@[expose] public section

noncomputable section

namespace Cert.Decode

open Cert.KernelIdeal
open Cert.KernelIdeal.Facts₀ Cert.KernelIdeal.Facts
open Idealize.ShloMosaic Idealize.SL.Sem

variable {F : FTy → Type} [FloatOps F]

/-! ## One row -/

/-- 512, the number of image units a key point is scaled by. -/
abbrev w512 : F .f32 := Scalar.ofBits .f32 0x44000000#32

/-- Column `c` of the result for one row: the first 21 columns are copied; after them come five pairs, the one of parity `q` being
    `(row c * (row (35 + q) * row (33 + q)) + row (31 + q)) * 512`. -/
def keyCol (row : Fin 39 → F .f32) (c : Fin 31) : F .f32 :=
  if c.val < 21 then row ⟨c.val, by omega⟩
  else
    FloatOps.mulf (FloatOps.addf (FloatOps.mulf (row ⟨c.val, by omega⟩)
        (FloatOps.mulf (row ⟨35 + (c.val - 21) % 2, by omega⟩) (row ⟨33 + (c.val - 21) % 2, by omega⟩)))
      (row ⟨31 + (c.val - 21) % 2, by omega⟩)) w512

/-- The index of row `r`, column `c` of an input chunk. -/
def ix39 (r : Fin 160) (c : Fin 39) : S160x39.Idx := fun a => match a with | 0 => r | 1 => c

/-- What a chunk becomes: every row by `keyCol`. -/
def decChunk (X : Vec F S160x39 .f32) : Vec F S160x31 .f32 := fun j => keyCol (fun c => X (ix39 (j 0) c)) (j 1)

/-! ## The addresses -/

omit [FloatOps F] in
/-- Lane `x` of group `g`'s row numbers is `16 g + x`. -/
theorem toNat_rowv {g : ℕ} (hg : g < 10) (x : S16.Idx) : (rowv g x).toNat = 16 * g + (x 0).val := by
  have hx : (x 0).val < 16 := (x 0).isLt
  have h : rowv g x = BitVec.ofNat 32 (16 * g) + BitVec.ofNat 32 (0 * 16 + (x 0).val) := rfl
  rw [h, BitVec.toNat_add, BitVec.toNat_ofNat, BitVec.toNat_ofNat]
  omega

omit [FloatOps F] in
/-- Every lane of a column number is that number. -/
theorem toNat_colv {c : ℕ} (hc : c < 39) (x : S16.Idx) : (colv c x).toNat = c := by
  show (BitVec.ofNat 32 c).toNat = c
  rw [BitVec.toNat_ofNat]; omega

omit [FloatOps F] in
/-- A gather's addresses lie in the input chunk. -/
theorem chk_gat {g c : ℕ} (hg : g < 10) (hc : c < 39) : k0_chk1 (rowv g) (colv c) := by
  intro a x
  have hx : (x 0).val < 16 := (x 0).isLt
  match a with
  | 0 => show (rowv g x).toNat < 160; rw [toNat_rowv hg]; omega
  | 1 => show (colv c x).toNat < 39; rw [toNat_colv hc]; omega

omit [FloatOps F] in
/-- A scatter's addresses lie in the output chunk. -/
theorem chk_scat {g c : ℕ} (hg : g < 10) (hc : c < 31) : k0_chk9 (rowv g) (colv c) := by
  intro a x
  have hx : (x 0).val < 16 := (x 0).isLt
  match a with
  | 0 => show (rowv g x).toNat < 160; rw [toNat_rowv hg]; omega
  | 1 => show (colv c x).toNat < 31; rw [toNat_colv (by omega)]; omega

/-! ## A gather -/

/-- The sixteen values of column `c` in the rows of group `g`. -/
def colX (X : Vec F S160x39 .f32) {g c : ℕ} (hg : g < 10) (hc : c < 39) : Vec F S16 .f32 :=
  fun x => X (ix39 ⟨16 * g + (x 0).val, by have : (x 0).val < 16 := (x 0).isLt; omega⟩ ⟨c, hc⟩)

/-- A gather reads them. -/
theorem loadIdx_eq (X : Vec F S160x39 .f32) {g c : ℕ} (hg : g < 10) (hc : c < 39)
    (h : ∀ a x, ((![rowv g, colv c] : Fin 2 → IVec S16 32) a x).toNat < S160x39.size a) :
    loadIdx X ![rowv g, colv c] h = colX X hg hc := by
  funext x
  show X _ = X _
  congr 1
  funext a
  apply Fin.ext
  match a with
  | 0 => exact toNat_rowv hg x
  | 1 => exact toNat_colv hc x

/-! ## A scatter -/

/-- The entries of column `c` in the rows of group `g`. -/
def inGrp (g c : ℕ) (j : S160x31.Idx) : Prop := (j 0).val / 16 = g ∧ (j 1).val = c

/-- A run of lanes written one after another: an entry that holds `t` already or is named by one of them ends at `t`, if every lane that
    names it carries `t`. -/
theorem foldl_lanes {ι : Type} {s : Shape} {e : EltTy} (at' : ι → s.Idx) (v : ι → Elt F e) (j : s.Idx) (t : Elt F e)
    (hv : ∀ k, (∀ a, (j a).val = (at' k a).val) → v k = t) (l : List ι) :
    ∀ Y : Vec F s e, (Y j = t ∨ ∃ k ∈ l, ∀ a, (j a).val = (at' k a).val) →
      l.foldl (fun g k => fun j' => if (∀ a, (j' a).val = (at' k a).val) then v k else g j') Y j = t := by
  induction l with
  | nil => rintro Y (h | ⟨k, hk, -⟩) <;> [exact h; cases hk]
  | cons k l ih =>
    intro Y h
    rw [List.foldl_cons]
    apply ih
    by_cases hk : ∀ a, (j a).val = (at' k a).val
    · left; simp only [if_pos hk]; exact hv k hk
    · rcases h with h | ⟨k', hk', h'⟩
      · left; simp only [if_neg hk]; exact h
      · rcases List.mem_cons.mp hk' with rfl | hm
        · exact absurd h' hk
        · exact .inr ⟨k', hm, h'⟩

/-- A scatter of values that are the target's own: where the target was reached it stays so, and the entries named reach it. -/
theorem storeIdx_eq (Y T : Vec F S160x31 .f32) (v : Vec F S16 .f32) {g c : ℕ} (hg : g < 10) (hc : c < 31)
    (h : ∀ a x, ((![rowv g, colv c] : Fin 2 → IVec S16 32) a x).toNat < S160x31.size a)
    (hv : ∀ x j, (j 0).val = 16 * g + (x 0).val → (j 1).val = c → v x = T j)
    (j : S160x31.Idx) (hj : Y j = T j ∨ inGrp g c j) :
    storeIdx Y ![rowv g, colv c] v (fun _ => 1#1) false h j = T j := by
  have hat : ∀ (x : S16.Idx), (∀ a, (j a).val = (idxAt (s := S160x31) ![rowv g, colv c] h x a).val) ↔
      (j 0).val = 16 * g + (x 0).val ∧ (j 1).val = c := by
    intro x
    constructor
    · intro e
      exact ⟨(e 0).trans (toNat_rowv hg x), (e 1).trans (toNat_colv (by omega) x)⟩
    · rintro ⟨e0, e1⟩ a
      match a with
      | 0 => exact e0.trans (toNat_rowv hg x).symm
      | 1 => exact e1.trans (toNat_colv (by omega) x).symm
  unfold storeIdx
  simp only [if_true, Bool.false_eq_true, if_false]
  refine foldl_lanes (fun k => idxAt (s := S160x31) ![rowv g, colv c] h (Shape.ofLane k)) (fun k => v (Shape.ofLane k)) j (T j) ?_
    (List.finRange 16) Y ?_
  · intro k hk
    obtain ⟨e0, e1⟩ := (hat _).mp hk
    exact hv _ j e0 e1
  · refine hj.imp id fun hj => ⟨⟨(j 0).val % 16, Nat.mod_lt _ (by decide)⟩, List.mem_finRange _, (hat _).mpr ⟨?_, hj.2⟩⟩
    show (j 0).val = 16 * g + (j 0).val % 16
    have := hj.1
    omega

/-! ## The values scattered are the target's -/

/-- A copied column. -/
theorem copy_val (X : Vec F S160x39 .f32) {g c : ℕ} (hg : g < 10) (hc : c < 21) (x : S16.Idx) (j : S160x31.Idx)
    (h0 : (j 0).val = 16 * g + (x 0).val) (h1 : (j 1).val = c) : colX X hg (show c < 39 by omega) x = decChunk X j := by
  unfold decChunk keyCol
  rw [if_pos (by rw [h1]; exact hc)]
  show X _ = X _
  congr 2
  · exact Fin.ext h0.symm
  · exact Fin.ext h1.symm

/-- A key point's coordinate, of parity `q`. -/
theorem kpt_val (X : Vec F S160x39 .f32) {g n q : ℕ} (hg : g < 10) (hn : n < 5) (hq : q < 2) (x : S16.Idx) (j : S160x31.Idx)
    (h0 : (j 0).val = 16 * g + (x 0).val) (h1 : (j 1).val = 21 + q + 2 * n) :
    kpt (colX X hg (show 21 + q + 2 * n < 39 by omega)) (mulf (colX X hg (show 35 + q < 39 by omega)) (colX X hg (show 33 + q < 39 by omega)))
      (colX X hg (show 31 + q < 39 by omega)) x = decChunk X j := by
  unfold decChunk keyCol
  rw [if_neg (by rw [h1]; omega)]
  have hq' : (21 + q + 2 * n - 21) % 2 = q := by omega
  have hr : (⟨16 * g + (x 0).val, by have : (x 0).val < 16 := (x 0).isLt; omega⟩ : Fin 160) = j 0 := Fin.ext h0.symm
  show FloatOps.mulf (FloatOps.addf (FloatOps.mulf (X (ix39 _ _)) (FloatOps.mulf (X (ix39 _ _)) (X (ix39 _ _)))) (X (ix39 _ _))) w512 = _
  rw [hr]
  simp only [h1, hq']

end Cert.Decode

end
-- ==== Proof.Chunk.lean ====
/-
  The run of one chunk.

  What a tile holds while it works on a chunk: the input slot, reading as the chunk `X`, and the output slot, some of whose entries have
  reached `decChunk X`. Each statement of the body adds to the entries reached; after the ten groups every entry has been.
-/
module

public import proofs.«01_k».proof.Proof.Values
public import Idealize.ShloMosaic.Lib.Tactic

@[expose] public section

noncomputable section

namespace Cert.Decode

open Cert.KernelIdeal
open Cert.KernelIdeal.Facts₀ Cert.KernelIdeal.Facts
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {pc : Fin τ.nSC} {ps : Fin τ.nSub} {α : Type}
variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V)

local notation "𝕄" => MT nD τ sig Ix (Elt F) Name U Lvl

/-- The thread of tile `ps` of SparseCore `pc`. -/
abbrev thr (d : Dev nD) (pc : Fin τ.nSC) (ps : Fin τ.nSub) : Thread nD τ := (d, .scVector pc ps)

/-- The input slot, reading as `X`. -/
def ivSt (pc : Fin τ.nSC) (ps : Fin τ.nSub) (iv : Memref sig .scVector .vmem S160x39 .f32) (X : Vec F S160x39 .f32) : sProp 𝕄 :=
  iprop(∃ f : Buf (Elt F) (iv.view.loc (thr d pc ps)), ⌜iv.view.read (Elt F) f = X⌝ ∗ iv.view.loc (thr d pc ps) ↦[iv.view.set]{fullShare} f)

/-- The output slot, whose entries in `D` read as `T`. -/
def ovSt (pc : Fin τ.nSC) (ps : Fin τ.nSub) (ov : Memref sig .scVector .vmem S160x31 .f32) (T : Vec F S160x31 .f32)
    (D : S160x31.Idx → Prop) : sProp 𝕄 :=
  iprop(∃ f : Buf (Elt F) (ov.view.loc (thr d pc ps)), ⌜∀ j, D j → ov.view.read (Elt F) f j = T j⌝
    ∗ ov.view.loc (thr d pc ps) ↦[ov.view.set]{fullShare} f)

omit [FloatOps F] in
/-- Fewer entries may be claimed. -/
theorem ovSt_mono {ov : Memref sig .scVector .vmem S160x31 .f32} {T : Vec F S160x31 .f32} {D D' : S160x31.Idx → Prop}
    (h : ∀ j, D' j → D j) : (ovSt d pc ps ov T D : sProp 𝕄) ⊢ ovSt d pc ps ov T D' := by
  unfold ovSt
  iintro ⟨%f, %hf, H⟩
  iexists f
  isplitr
  · ipureintro; exact fun j hj => hf j (h j hj)
  · iexact H

omit [FloatOps F] in
/-- A view's whole rectangle reads as the view. -/
theorem read_access {κ : Kind} {sp : Space} {s : Shape} {e : EltTy} (m : Memref sig κ sp s e) (f : m.view.ty.Contents (Elt F)) :
    (m.access (.whole s)).read (Elt F) f = m.view.read (Elt F) f := by
  funext x
  have h : (Rect.whole s).emb x = x := Rect.emb_whole_apply _ x
  exact congrArg (m.view.read (Elt F) f) h

omit [FloatOps F] in
/-- Its elements are the view's. -/
theorem set_access {κ : Kind} {sp : Space} {s : Shape} {e : EltTy} (m : Memref sig κ sp s e) :
    (m.access (.whole s)).set = m.view.set := by
  rw [View.set_slice, Rect.set_whole]; rfl

omit [FloatOps F] in
/-- Overwritten whole, the view reads as what was written. -/
theorem read_write_access {κ : Kind} {sp : Space} {s : Shape} {e : EltTy} (m : Memref sig κ sp s e) (f : m.view.ty.Contents (Elt F))
    (w : s.Idx → Elt F e) : m.view.read (Elt F) ((m.access (.whole s)).write (Elt F) f w Finset.univ) = w := by
  rw [← read_access]
  exact View.read_write_univ (v := m.access (.whole s)) f w

/-- A gather: the slot stays, the program goes on with the sixteen values. -/
theorem wp_gat {iv : Memref sig .scVector .vmem S160x39 .f32} {X : Vec F S160x39 .f32} {g c : ℕ} (hg : g < 10) (hc : c < 39)
    {k : Vec F S16 .f32 → TP F pc ps α} {Q : α → sProp 𝕄} :
    (ivSt d pc ps iv X : sProp 𝕄)
      ⊢ iprop((ivSt d pc ps iv X -∗ wp frame (wpE defs 𝒱 (thr d pc ps) bd) Set.univ (k (colX X hg hc)) Q)
        -∗ wp frame (wpE defs 𝒱 (thr d pc ps) bd) Set.univ (gatK iv (rowv g) c k) Q) := by
  unfold gatK
  unfold ivSt
  iintro ⟨%f, %hf, H⟩ Hk
  iapply (wp_assume (defs := defs) 𝒱 (thr d pc ps) bd Set.univ (Q := Q) (chk_gat hg hc))
  iapply (wp_load_rect (defs := defs) 𝒱 (thr d pc ps) bd Set.univ (Q := Q) (m := iv) (r := Rect.whole S160x39) (f := f) (q := fullShare)
    (S := iv.view.set) (set_access iv).subset) $$ H
  iintro H
  rw [read_access, hf, loadIdx_eq X hg hc]
  iapply Hk
  iexists f
  isplitr
  · ipureintro; exact hf
  · iexact H

/-- A scatter of the target's own values: the entries named are reached. -/
theorem wp_scat {ov : Memref sig .scVector .vmem S160x31 .f32} {T : Vec F S160x31 .f32} {D : S160x31.Idx → Prop} {g c : ℕ}
    (hg : g < 10) (hc : c < 31) {v : Vec F S16 .f32} (hv : ∀ x j, (j 0).val = 16 * g + (x 0).val → (j 1).val = c → v x = T j)
    {k : TP F pc ps α} {Q : α → sProp 𝕄} :
    (ovSt d pc ps ov T D : sProp 𝕄)
      ⊢ iprop((ovSt d pc ps ov T (fun j => D j ∨ inGrp g c j) -∗ wp frame (wpE defs 𝒱 (thr d pc ps) bd) Set.univ k Q)
        -∗ wp frame (wpE defs 𝒱 (thr d pc ps) bd) Set.univ (scatK ov (rowv g) c v k) Q) := by
  unfold scatK
  unfold ovSt
  iintro ⟨%f, %hf, H⟩ Hk
  iapply (wp_assume (defs := defs) 𝒱 (thr d pc ps) bd Set.univ (Q := Q) (chk_scat hg hc))
  iapply (wp_load_rect (defs := defs) 𝒱 (thr d pc ps) bd Set.univ (Q := Q) (m := ov) (r := Rect.whole S160x31) (f := f) (q := fullShare)
    (S := ov.view.set) (set_access ov).subset) $$ H
  iintro H
  iapply (wp_store (defs := defs) 𝒱 (thr d pc ps) bd Set.univ (Q := Q) (m := ov) (r := Rect.whole S160x31) (Mk := Finset.univ) (f := f)
    (S := ov.view.set) (set_access ov).subset) $$ H
  iintro H
  iapply Hk
  iexists _
  isplitr
  swap
  · iexact H
  · ipureintro
    intro j hj
    rw [read_write_access, read_access]
    exact storeIdx_eq _ T v hg hc _ hv j (hj.imp (hf j) id)

/-! ## Runs of statements -/

/-- The two slots at work: the input reading as `X`, the output's entries in `D` as `decChunk X`. -/
def workSt (pc : Fin τ.nSC) (ps : Fin τ.nSub) (iv : Memref sig .scVector .vmem S160x39 .f32) (ov : Memref sig .scVector .vmem S160x31 .f32)
    (X : Vec F S160x39 .f32) (D : S160x31.Idx → Prop) : sProp 𝕄 :=
  iprop(ivSt d pc ps iv X ∗ ovSt d pc ps ov (decChunk X) D)

/-- A run of statements, each of which reaches its own entries, reaches all of them. -/
theorem wp_fold {iv : Memref sig .scVector .vmem S160x39 .f32} {ov : Memref sig .scVector .vmem S160x31 .f32} {X : Vec F S160x39 .f32}
    {Q : α → sProp 𝕄} (step : ℕ → TP F pc ps α → TP F pc ps α) (add : ℕ → S160x31.Idx → Prop) (l : List ℕ)
    (h : ∀ n ∈ l, ∀ D k, (workSt d pc ps iv ov X D : sProp 𝕄)
      ⊢ iprop((workSt d pc ps iv ov X (fun j => D j ∨ add n j) -∗ wp frame (wpE defs 𝒱 (thr d pc ps) bd) Set.univ k Q)
        -∗ wp frame (wpE defs 𝒱 (thr d pc ps) bd) Set.univ (step n k) Q)) (k : TP F pc ps α) :
    ∀ D, (workSt d pc ps iv ov X D : sProp 𝕄)
      ⊢ iprop((workSt d pc ps iv ov X (fun j => D j ∨ ∃ n ∈ l, add n j) -∗ wp frame (wpE defs 𝒱 (thr d pc ps) bd) Set.univ k Q)
        -∗ wp frame (wpE defs 𝒱 (thr d pc ps) bd) Set.univ (l.foldr step k) Q) := by
  induction l with
  | nil =>
    intro D
    simp only [List.not_mem_nil, false_and, exists_false, or_false, List.foldr_nil]
    iintro H Hk
    iapply Hk $$ H
  | cons n l ih =>
    intro D
    rw [List.foldr_cons]
    iintro H Hk
    iapply (h n List.mem_cons_self D _) $$ H
    iintro H
    iapply (ih (fun n' hn' => h n' (List.mem_cons_of_mem _ hn')) _) $$ H
    simp only [List.mem_cons, exists_eq_or_imp, or_assoc]
    iexact Hk

/-- A gather, the output slot riding along. -/
theorem wp_gatW {iv : Memref sig .scVector .vmem S160x39 .f32} {ov : Memref sig .scVector .vmem S160x31 .f32} {X : Vec F S160x39 .f32}
    {D : S160x31.Idx → Prop} {g c : ℕ} (hg : g < 10) (hc : c < 39) {k : Vec F S16 .f32 → TP F pc ps α} {Q : α → sProp 𝕄} :
    (workSt d pc ps iv ov X D : sProp 𝕄)
      ⊢ iprop((workSt d pc ps iv ov X D -∗ wp frame (wpE defs 𝒱 (thr d pc ps) bd) Set.univ (k (colX X hg hc)) Q)
        -∗ wp frame (wpE defs 𝒱 (thr d pc ps) bd) Set.univ (gatK iv (rowv g) c k) Q) := by
  unfold workSt
  iintro ⟨Hi, Ho⟩ Hk
  iapply (wp_gat 𝒱 d bd hg hc) $$ Hi
  iintro Hi
  iapply Hk
  isplitl [Hi] <;> iassumption

/-- A scatter, the input slot riding along. -/
theorem wp_scatW {iv : Memref sig .scVector .vmem S160x39 .f32} {ov : Memref sig .scVector .vmem S160x31 .f32} {X : Vec F S160x39 .f32}
    {D : S160x31.Idx → Prop} {g c : ℕ} (hg : g < 10) (hc : c < 31) {v : Vec F S16 .f32}
    (hv : ∀ x j, (j 0).val = 16 * g + (x 0).val → (j 1).val = c → v x = decChunk X j) {k : TP F pc ps α} {Q : α → sProp 𝕄} :
    (workSt d pc ps iv ov X D : sProp 𝕄)
      ⊢ iprop((workSt d pc ps iv ov X (fun j => D j ∨ inGrp g c j) -∗ wp frame (wpE defs 𝒱 (thr d pc ps) bd) Set.univ k Q)
        -∗ wp frame (wpE defs 𝒱 (thr d pc ps) bd) Set.univ (scatK ov (rowv g) c v k) Q) := by
  unfold workSt
  iintro ⟨Hi, Ho⟩ Hk
  iapply (wp_scat 𝒱 d bd hg hc hv) $$ Ho
  iintro Ho
  iapply Hk
  isplitl [Hi] <;> iassumption

/-- One pair of key point coordinates. -/
theorem wp_pair {iv : Memref sig .scVector .vmem S160x39 .f32} {ov : Memref sig .scVector .vmem S160x31 .f32} {X : Vec F S160x39 .f32}
    {g : ℕ} (hg : g < 10) {n : ℕ} (hn : n < 5) (D : S160x31.Idx → Prop) (k : TP F pc ps α) {Q : α → sProp 𝕄} :
    (workSt d pc ps iv ov X D : sProp 𝕄)
      ⊢ iprop((workSt d pc ps iv ov X (fun j => D j ∨ (inGrp g (21 + 2 * n) j ∨ inGrp g (22 + 2 * n) j))
            -∗ wp frame (wpE defs 𝒱 (thr d pc ps) bd) Set.univ k Q)
        -∗ wp frame (wpE defs 𝒱 (thr d pc ps) bd) Set.univ
            (pairK iv ov (rowv g) (colX X hg (show 31 < 39 by decide)) (colX X hg (show 32 < 39 by decide))
              (mulf (colX X hg (show 35 < 39 by decide)) (colX X hg (show 33 < 39 by decide)))
              (mulf (colX X hg (show 36 < 39 by decide)) (colX X hg (show 34 < 39 by decide))) n k) Q) := by
  unfold pairK
  iintro H Hk
  iapply (wp_gatW 𝒱 d bd hg (show 21 + 2 * n < 39 by omega)) $$ H
  iintro H
  iapply (wp_gatW 𝒱 d bd hg (show 22 + 2 * n < 39 by omega)) $$ H
  iintro H
  iapply (wp_scatW 𝒱 d bd hg (show 21 + 2 * n < 31 by omega) (fun x j h0 h1 => kpt_val X (q := 0) hg hn (by decide) x j h0 h1)) $$ H
  iintro H
  iapply (wp_scatW 𝒱 d bd hg (show 22 + 2 * n < 31 by omega) (fun x j h0 h1 => kpt_val X (q := 1) hg hn (by decide) x j h0 h1)) $$ H
  simp only [or_assoc]
  iexact Hk

/-- One copied column. -/
theorem wp_copy {iv : Memref sig .scVector .vmem S160x39 .f32} {ov : Memref sig .scVector .vmem S160x31 .f32} {X : Vec F S160x39 .f32}
    {g : ℕ} (hg : g < 10) {c : ℕ} (hc : c < 21) (D : S160x31.Idx → Prop) (k : TP F pc ps α) {Q : α → sProp 𝕄} :
    (workSt d pc ps iv ov X D : sProp 𝕄)
      ⊢ iprop((workSt d pc ps iv ov X (fun j => D j ∨ inGrp g c j) -∗ wp frame (wpE defs 𝒱 (thr d pc ps) bd) Set.univ k Q)
        -∗ wp frame (wpE defs 𝒱 (thr d pc ps) bd) Set.univ (copyK iv ov (rowv g) c k) Q) := by
  unfold copyK
  iintro H Hk
  iapply (wp_gatW 𝒱 d bd hg (show c < 39 by omega)) $$ H
  iintro H
  iapply (wp_scatW 𝒱 d bd hg (show c < 31 by omega) (fun x j h0 h1 => copy_val X hg hc x j h0 h1)) $$ H
  iexact Hk

omit [FloatOps F] in
/-- The slots, fewer entries claimed. -/
theorem workSt_mono {iv : Memref sig .scVector .vmem S160x39 .f32} {ov : Memref sig .scVector .vmem S160x31 .f32} [FloatOps F]
    {X : Vec F S160x39 .f32} {D D' : S160x31.Idx → Prop} (h : ∀ j, D' j → D j) :
    (workSt d pc ps iv ov X D : sProp 𝕄) ⊢ workSt d pc ps iv ov X D' := by
  unfold workSt
  iintro ⟨Hi, Ho⟩
  isplitl [Hi]
  · iexact Hi
  · iapply (ovSt_mono d h) $$ Ho

/-- One group of sixteen rows: its entries in all 31 columns. -/
theorem wp_group {iv : Memref sig .scVector .vmem S160x39 .f32} {ov : Memref sig .scVector .vmem S160x31 .f32} {X : Vec F S160x39 .f32}
    {g : ℕ} (hg : g < 10) (D : S160x31.Idx → Prop) (k : TP F pc ps α) {Q : α → sProp 𝕄} :
    (workSt d pc ps iv ov X D : sProp 𝕄)
      ⊢ iprop((workSt d pc ps iv ov X (fun j => D j ∨ (j 0).val / 16 = g) -∗ wp frame (wpE defs 𝒱 (thr d pc ps) bd) Set.univ k Q)
        -∗ wp frame (wpE defs 𝒱 (thr d pc ps) bd) Set.univ (groupK iv ov (rowv g) k) Q) := by
  unfold groupK
  iintro H Hk
  iapply (wp_gatW 𝒱 d bd hg (show 31 < 39 by decide)) $$ H
  iintro H
  iapply (wp_gatW 𝒱 d bd hg (show 32 < 39 by decide)) $$ H
  iintro H
  iapply (wp_gatW 𝒱 d bd hg (show 35 < 39 by decide)) $$ H
  iintro H
  iapply (wp_gatW 𝒱 d bd hg (show 33 < 39 by decide)) $$ H
  iintro H
  iapply (wp_gatW 𝒱 d bd hg (show 36 < 39 by decide)) $$ H
  iintro H
  iapply (wp_gatW 𝒱 d bd hg (show 34 < 39 by decide)) $$ H
  iintro H
  iapply (wp_fold 𝒱 d bd _ (fun n j => inGrp g (21 + 2 * n) j ∨ inGrp g (22 + 2 * n) j) (List.range 5)
    (fun n hn D k => wp_pair 𝒱 d bd hg (List.mem_range.mp hn) D k) _ D) $$ H
  iintro H
  iapply (wp_fold 𝒱 d bd _ (inGrp g) (List.range 21) (fun n hn D k => wp_copy 𝒱 d bd hg (List.mem_range.mp hn) D k) k _) $$ H
  iintro H
  iapply Hk
  iapply (workSt_mono d (D' := fun j => D j ∨ (j 0).val / 16 = g) ?_) $$ H
  rintro j (h | h)
  · exact .inl (.inl h)
  · have h1 : (j 1).val < 31 := (j 1).isLt
    by_cases hc : (j 1).val < 21
    · exact .inr ⟨(j 1).val, List.mem_range.mpr hc, h, rfl⟩
    · refine .inl (.inr ⟨((j 1).val - 21) / 2, List.mem_range.mpr (by omega), ?_⟩)
      by_cases hp : (j 1).val % 2 = 1
      · exact .inl ⟨h, by omega⟩
      · exact .inr ⟨h, by omega⟩

/-- One chunk: from any output slot to one that reads as the chunk's result. -/
theorem wp_chunk {iv : Memref sig .scVector .vmem S160x39 .f32} {ov : Memref sig .scVector .vmem S160x31 .f32} {X : Vec F S160x39 .f32}
    (k : TP F pc ps α) {Q : α → sProp 𝕄} :
    (workSt d pc ps iv ov X (fun _ => False) : sProp 𝕄)
      ⊢ iprop((workSt d pc ps iv ov X (fun _ => True) -∗ wp frame (wpE defs 𝒱 (thr d pc ps) bd) Set.univ k Q)
        -∗ wp frame (wpE defs 𝒱 (thr d pc ps) bd) Set.univ (chunkK iv ov k) Q) := by
  unfold chunkK
  iintro H Hk
  iapply (wp_fold 𝒱 d bd (fun g k => groupK iv ov (rowv g) k) (fun g j => (j 0).val / 16 = g) (List.range 10)
    (fun n hn D k => wp_group 𝒱 d bd (List.mem_range.mp hn) D k) k _) $$ H
  iintro H
  iapply Hk
  iapply (workSt_mono d ?_) $$ H
  intro j _
  have h0 : (j 0).val < 160 := (j 0).isLt
  exact .inr ⟨_, List.mem_range.mpr (by omega), rfl⟩

end Cert.Decode

end
-- ==== Proof.Setup.lean ====
/-
  The setting of the launch: the program as the launch theorem sees it, the resources, and the chunks of the two arrays.

  The input array has 640000 rows of 39 numbers, the output as many rows of 31. Both are cut into 4000 chunks of 160 rows; tile `i` works on
  the 125 chunks from number `125 (2 i₁ + i₀)` on.
-/
module

public import proofs.«01_k».proof.Proof.Chunk
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Decode

open Cert.KernelIdeal
open Cert.KernelIdeal.Facts₀ Cert.KernelIdeal.Facts
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the whole program. -/
abbrev ΛP : Labels := Pipeline.Sig Λ₀ (Fin 0) fun p => (pcfgs (F := F) p).Adm
/-- The one launch. -/
abbrev K : SparseCore.Cfg τ sig (ΛP (F := F)) 1 := sc (F := F)
/-- The program's definitions. -/
abbrev D [FloatOps F] : Defs nD τ sig (Elt F) (ΛP (F := F)) := Pipeline.defs pcfgs defs₀
/-- The variants: no call recurs. -/
abbrev 𝒱₀ : Variants := Variants.none
@[inherit_doc 𝒱₀]
abbrev 𝒱 : Variants := 𝒱₀.lift
@[inherit_doc 𝒱₀]
abbrev v₀ : 𝒱.V := Sum.inl none

/-- What the launch theorem asks of the program's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources -/

/-- The handshakes' rounds. -/
abbrev UH : Type := URounds (GSem nD τ sig) ℕ
/-- Beside them, the transfers' counters. -/
abbrev UU : Type := UH × Counters

local notation "𝕄" => MT nD τ sig (HIx 1) (Elt F) ℕ UU ℕ

/-- The handshakes' rounds are the left factor. -/
abbrev EH : Emb UH (MT nD τ sig (HIx 1) (Elt F) ℕ UU ℕ) := embL

/-- The transfers' counters are the right factor. -/
abbrev EC : UEmb Counters (MT nD τ sig (HIx 1) (Elt F) ℕ UU ℕ) := countersEmb

/-! ## The arrays -/

/-- The input and the output array of device `d`. -/
abbrev xLoc (d : Dev nD) : Loc nD τ sig := (SparseCore.T d).loc main_v0
@[inherit_doc xLoc]
abbrev oLoc (d : Dev nD) : Loc nD τ sig := (SparseCore.T d).loc main_v1

/-- The same arrays as a tile names them. -/
abbrev xW : Memref sig .scVector .hbm S640000x39 .f32 := Memref.whole main_v0_scv
@[inherit_doc xW]
abbrev oW : Memref sig .scVector .hbm S640000x31 .f32 := Memref.whole main_v1_scv

/-- The elements of chunk `q` of the input, and of the output. -/
def xSet (q : ℕ) : Finset S640000x39.Idx := Finset.univ.filter fun y => (y 0).val / 160 = q
@[inherit_doc xSet]
def oSet (q : ℕ) : Finset S640000x31.Idx := Finset.univ.filter fun y => (y 0).val / 160 = q

/-- Row `r` of an input array. -/
def rowX (x : Vec F S640000x39 .f32) (r : ℕ) : Fin 39 → F .f32 :=
  fun c => x (fun a => match a with | 0 => (Fin.ofNat 640000 r : Fin 640000) | 1 => c)

/-- Chunk `q` of an input array. -/
def chunkX (x : Vec F S640000x39 .f32) (q : ℕ) : Vec F S160x39 .f32 := fun j => rowX x (160 * q + (j 0).val) (j 1)

/-- What the tiles make of an input array: every row by `keyCol`. -/
def decAll [FloatOps F] (x : Vec F S640000x39 .f32) : Vec F S640000x31 .f32 := fun y => keyCol (rowX x (y 0).val) (y 1)

/-! ## A chunk's rows, as a copy names them -/

section Rows

variable {q : ℕ}

/-- The elements a copy in reads are the chunk's. -/
theorem set_xRows (o : Fin 2 → ℕ) (h : ∀ a, o a + S160x39.size a ≤ S640000x39.size a) (ho : o = ![160 * q, 0]) :
    (xRows xW o h).view.set = xSet q := by
  subst ho
  ext y
  show y ∈ ((xW).view.slice _).set ↔ y ∈ xSet q
  unfold xSet
  rw [View.set_slice_whole, Rect.mem_set_unit, Finset.mem_filter]
  have h1 : (y 1).val < 39 := (y 1).isLt
  constructor
  · intro e
    have e0 := e 0
    exact ⟨Finset.mem_univ _, by
      have a : 160 * q ≤ (y 0).val := e0.1
      have b : (y 0).val < 160 * q + 160 := e0.2
      omega⟩
  · rintro ⟨-, e⟩ a
    match a with
    | 0 => show 160 * q ≤ (y 0).val ∧ (y 0).val < 160 * q + 160; omega
    | 1 => show 0 ≤ (y 1).val ∧ (y 1).val < 0 + 39; omega

/-- The elements a copy out writes are the chunk's. -/
theorem set_oRows (o : Fin 2 → ℕ) (h : ∀ a, o a + S160x31.size a ≤ S640000x31.size a) (ho : o = ![160 * q, 0]) :
    (oRows oW o h).view.set = oSet q := by
  subst ho
  ext y
  show y ∈ ((oW).view.slice _).set ↔ y ∈ oSet q
  unfold oSet
  rw [View.set_slice_whole, Rect.mem_set_unit, Finset.mem_filter]
  have h1 : (y 1).val < 31 := (y 1).isLt
  constructor
  · intro e
    have e0 := e 0
    exact ⟨Finset.mem_univ _, by
      have a : 160 * q ≤ (y 0).val := e0.1
      have b : (y 0).val < 160 * q + 160 := e0.2
      omega⟩
  · rintro ⟨-, e⟩ a
    match a with
    | 0 => show 160 * q ≤ (y 0).val ∧ (y 0).val < 160 * q + 160; omega
    | 1 => show 0 ≤ (y 1).val ∧ (y 1).val < 0 + 31; omega

/-- A copy in reads the chunk. -/
theorem read_xRows (x : Vec F S640000x39 .f32) (o : Fin 2 → ℕ) (h : ∀ a, o a + S160x39.size a ≤ S640000x39.size a)
    (ho : o = ![160 * q, 0]) : (xRows xW o h).view.read (Elt F) x = chunkX x q := by
  subst ho
  funext j
  show x _ = x _
  have h0 : 160 * q + 160 ≤ 640000 := h 0
  have hj : (j 0).val < 160 := (j 0).isLt
  congr 1
  funext a
  apply Fin.ext
  match a with
  | 0 =>
    show 160 * q + 1 * (j 0).val = (160 * q + (j 0).val) % 640000
    rw [Nat.mod_eq_of_lt (by omega)]; omega
  | 1 => show 0 + 1 * (j 1).val = (j 1).val; omega

variable [FloatOps F]

/-- What a copy out of the chunk's result leaves on the chunk's rows. -/
theorem write_oRows (x : Vec F S640000x39 .f32) (fo : Vec F S640000x31 .f32) (o : Fin 2 → ℕ)
    (h : ∀ a, o a + S160x31.size a ≤ S640000x31.size a) (ho : o = ![160 * q, 0]) (y : S640000x31.Idx) (hy : y ∈ (oRows oW o h).view.set) :
    (oRows oW o h).view.write (Elt F) fo (decChunk (chunkX x q)) Finset.univ y = decAll x y := by
  obtain ⟨j, rfl⟩ : ∃ j, (oRows oW o h).view.emb j = y := by
    obtain ⟨j, -, hj⟩ := Finset.mem_map.mp hy
    exact ⟨j, hj⟩
  refine (View.write_emb_of_mem (v := (oRows oW o h).view) (Val := Elt F) fo (decChunk (chunkX x q)) (Finset.mem_univ j)).trans ?_
  subst ho
  have e0 : (((oRows oW _ h).view.emb j : S640000x31.Idx) 0).val = 160 * q + 1 * (j 0).val := rfl
  have e1 : ((oRows oW _ h).view.emb j : S640000x31.Idx) 1 = j 1 := Fin.ext (show 0 + 1 * (j 1).val = (j 1).val by omega)
  show keyCol (rowX x (160 * q + (j 0).val)) (j 1) = keyCol (rowX x (((oRows oW _ h).view.emb j : S640000x31.Idx) 0).val) (((oRows oW _ h).view.emb j : S640000x31.Idx) 1)
  rw [e0, e1, Nat.one_mul]

end Rows

end Cert.Decode

end
-- ==== Proof.Copies.lean ====
/-
  The copies of a tile.

  A copy in lends a chunk of the input and an input slot to a transfer and gets both back at the wait, the slot reading as the chunk. A copy
  out lends an output slot that reads as the chunk's result and a chunk of the output, and gets both back, the chunk of the output holding
  the result.
-/
module

public import proofs.«01_k».proof.Proof.Setup

@[expose] public section

noncomputable section

namespace Cert.Decode

open Cert.KernelIdeal
open Cert.KernelIdeal.Facts₀ Cert.KernelIdeal.Facts
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (pc : Fin τ.nSC) (ps : Fin τ.nSub) (x : Vec F S640000x39 .f32)

/-! ## What a tile holds -/

/-- Chunk `q` of the input. -/
def xC (q : ℕ) : sProp 𝕄 := (xLoc d ↦[xSet q]{fullShare} (x : Buf (Elt F) (xLoc d)))
/-- Chunk `q` of the output, holding `f`. -/
def oC (q : ℕ) (f : Vec F S640000x31 .f32) : sProp 𝕄 := (oLoc d ↦[oSet q]{fullShare} (f : Buf (Elt F) (oLoc d)))

/-- An input slot, whatever it holds. -/
def ivAny (iv : Memref sig .scVector .vmem S160x39 .f32) : sProp 𝕄 :=
  iprop(∃ f : Buf (Elt F) (iv.view.loc (thr d pc ps)), iv.view.loc (thr d pc ps) ↦[iv.view.set]{fullShare} f)
/-- An output slot, whatever it holds. -/
def ovAny (ov : Memref sig .scVector .vmem S160x31 .f32) : sProp 𝕄 :=
  iprop(∃ f : Buf (Elt F) (ov.view.loc (thr d pc ps)), ov.view.loc (thr d pc ps) ↦[ov.view.set]{fullShare} f)

/-- A copy of chunk `q` into the slot, in flight. -/
def inFly (sem : DmaSems sig S_) (iv : Memref sig .scVector .vmem S160x39 .f32) (q : ℕ) : sProp 𝕄 :=
  Transfers.Flight EC (thr d pc ps) (.dma sem.sem) none iv.view.dmaCredit iprop(ivSt d pc ps iv (chunkX x q) ∗ xC d x q)

/-- What a copy out credits. -/
abbrev outCredit : ℕ := sig.dmaCredit .scVector (Kind.scVector.table .hbm) (oW).view.buf S160x31 .f32

/-- A copy of the slot into chunk `q` of the output, in flight. -/
def outFly (sem : DmaSems sig S_) (ov : Memref sig .scVector .vmem S160x31 .f32) (q : ℕ) : sProp 𝕄 :=
  Transfers.Flight EC (thr d pc ps) (.dma sem.sem) none outCredit iprop(ovAny d pc ps ov ∗ oC d q (decAll x))

/-- A semaphore's counter at zero. -/
abbrev idle (sem : DmaSems sig S_) : sProp 𝕄 := semVal (thr d pc ps, SemLoc.dma sem.sem) 0

/-- The tile's duties: it owes `O`, has waited as in `W` and at the transfers' own index, and may wait there again. -/
def Duty (O : CellTallies nD τ sig (HIx 1)) (W : Waits sig (HIx 1)) : sProp 𝕄 :=
  iprop(Transfers.MayWaits (thr d pc ps) (none : HIx 1) O ∗ ∃ W', ⌜∀ p ∈ W', p ∈ W ∨ p.2 = none⌝ ∗ owes (thr d pc ps) O W')

variable {d pc ps x}
variable {α : Type} {O : CellTallies nD τ sig (HIx 1)} {W : Waits sig (HIx 1)}

/-- A tile's program runs and ends in `Q`. -/
abbrev wpT (d : Dev nD) {pc : Fin τ.nSC} {ps : Fin τ.nSub} (p : TP F pc ps α) (Q : α → sProp 𝕄) : sProp 𝕄 :=
  wp frame (wpE (defs₀ (F := F)) 𝒱₀ (thr d pc ps) none) Set.univ p Q

/-! ## The copies in -/

/-- Start a copy in. -/
theorem wp_inStart {q : ℕ} {sem : DmaSems sig S_} {iv : Memref sig .scVector .vmem S160x39 .f32} (o : Fin 2 → ℕ)
    (h : ∀ a, o a + S160x39.size a ≤ S640000x39.size a) (ho : o = ![160 * q, 0]) {hs : (xRows xW o h).view.WordExact} {hd : iv.view.WordExact}
    {k : TP F pc ps α} {Q : α → sProp 𝕄} :
    iprop(ivAny d pc ps iv ∗ xC d x q ∗ idle d pc ps sem)
      ⊢ iprop((inFly d pc ps x sem iv q -∗ wpT d k Q) -∗ wpT d (inStart (xRows xW o h) iv sem hs hd k) Q) := by
  unfold inStart ivAny xC
  iintro ⟨⟨%f, Hi⟩, Hx, Hv⟩ Hk
  ihave Hx' := (Entails.of_eq (show (xLoc d ↦[xSet q]{fullShare} (x : Buf (Elt F) (xLoc d)) : sProp 𝕄)
    = ((xRows xW o h).view.loc (thr d pc ps) ↦[(xRows xW o h).view.set]{fullShare} (x : Buf (Elt F) (xLoc d))) by rw [set_xRows o h ho])) $$ Hx
  iapply (Transfers.wp_dmaLocal EC 𝒱₀ (thr d pc ps) none (none : HIx 1) iv.view.dmaCredit rfl
    (View.dmaCredit_pos _ (show 0 < S160x39.numel by decide)) (Finset.Subset.refl _)) $$ [Hi Hx' Hv]
  · isplitl [Hx']; · iexact Hx'
    isplitl [Hi]; · iexact Hi
    iexact Hv
  iintro Hf
  iapply Hk
  unfold inFly
  iapply (Transfers.Flight_mono EC (thr d pc ps) ?_) $$ Hf
  unfold ivSt xC
  iintro ⟨Hi, Hx⟩
  isplitl [Hi]
  · iexists _
    isplitr
    swap
    · iexact Hi
    · ipureintro
      exact (View.read_write_univ _ _).trans (read_xRows x o h ho)
  · iapply (Entails.of_eq (show (xLoc d ↦[xSet q]{fullShare} (x : Buf (Elt F) (xLoc d)) : sProp 𝕄)
      = ((xRows xW o h).view.loc (thr d pc ps) ↦[(xRows xW o h).view.set]{fullShare} (x : Buf (Elt F) (xLoc d))) by rw [set_xRows o h ho]).symm)
    iexact Hx

/-- Wait for a copy in. -/
theorem wp_inWait {q : ℕ} {sem : DmaSems sig S_} {iv : Memref sig .scVector .vmem S160x39 .f32}
    {src : Memref sig .scVector .hbm S160x39 .f32} {hs : src.view.WordExact} {hd : iv.view.WordExact} {k : TP F pc ps α} {Q : α → sProp 𝕄} :
    iprop(inFly d pc ps x sem iv q ∗ Duty d pc ps O W)
      ⊢ iprop((iprop(ivSt d pc ps iv (chunkX x q) ∗ xC d x q ∗ idle d pc ps sem ∗ Duty d pc ps O W) -∗ wpT d k Q)
        -∗ wpT d (inWait src iv sem hs hd k) Q) := by
  unfold inWait inFly Duty
  iintro ⟨Hf, #Hmw, %W', %hW', HO⟩ Hk
  ihave Hm := (Transfers.MayWaits.elim (SemLoc.dma sem.sem)) $$ Hmw
  iapply (Transfers.wp_waitLocalO EC 𝒱₀ (thr d pc ps) none (none : HIx 1) rfl) $$ [Hf HO Hm]
  · isplitl [Hf]; · iexact Hf
    isplitl [HO] <;> iassumption
  iintro ⟨⟨Hi, Hx⟩, Hv, HO⟩
  iapply Hk
  isplitl [Hi]; · iexact Hi
  isplitl [Hx]; · iexact Hx
  isplitl [Hv]; · iexact Hv
  isplitr; · iexact Hmw
  iexists (insert (SemLoc.dma sem.sem, (none : HIx 1)) W')
  isplitr
  · ipureintro; intro p hp
    rcases Finset.mem_insert.mp hp with hp | hp
    · exact .inr (hp ▸ rfl)
    · exact hW' p hp
  · iexact HO

/-! ## The copies out -/

/-- Start a copy out. -/
theorem wp_outStart {q : ℕ} {fo : Vec F S640000x31 .f32} {sem : DmaSems sig S_} {ov : Memref sig .scVector .vmem S160x31 .f32} (o : Fin 2 → ℕ)
    (h : ∀ a, o a + S160x31.size a ≤ S640000x31.size a) (ho : o = ![160 * q, 0]) {hs : ov.view.WordExact} {hd : (oRows oW o h).view.WordExact}
    {k : TP F pc ps α} {Q : α → sProp 𝕄} :
    iprop(ovSt d pc ps ov (decChunk (chunkX x q)) (fun _ => True) ∗ oC d q fo ∗ idle d pc ps sem)
      ⊢ iprop((outFly d pc ps x sem ov q -∗ wpT d k Q) -∗ wpT d (outStart ov (oRows oW o h) sem hs hd k) Q) := by
  unfold outStart ovSt oC
  iintro ⟨⟨%f, %hf, Hv⟩, Ho, Hs⟩ Hk
  ihave Ho' := (Entails.of_eq (show (oLoc d ↦[oSet q]{fullShare} (fo : Buf (Elt F) (oLoc d)) : sProp 𝕄)
    = ((oRows oW o h).view.loc (thr d pc ps) ↦[(oRows oW o h).view.set]{fullShare} (fo : Buf (Elt F) (oLoc d))) by rw [set_oRows o h ho])) $$ Ho
  iapply (Transfers.wp_dmaLocal EC 𝒱₀ (thr d pc ps) none (none : HIx 1) outCredit rfl
    (View.dmaCredit_pos (oRows oW o h).view (show 0 < S160x31.numel by decide)) (Finset.Subset.refl _)) $$ [Hv Ho' Hs]
  · isplitl [Hv]; · iexact Hv
    isplitl [Ho']; · iexact Ho'
    iexact Hs
  iintro Hf
  iapply Hk
  unfold outFly
  iapply (Transfers.Flight_mono EC (thr d pc ps) ?_) $$ Hf
  unfold ovAny oC
  iintro ⟨Ho, Hv⟩
  isplitl [Hv]; · iexists _; iexact Hv
  have hT : ov.view.read (Elt F) f = decChunk (chunkX x q) := funext fun j => hf j trivial
  iapply (Entails.of_eq (show ((oRows oW o h).view.loc (thr d pc ps) ↦[(oRows oW o h).view.set]{fullShare}
      ((oRows oW o h).view.write (Elt F) fo (ReadAs.same.apply (ov.view.read (Elt F) f)) Finset.univ) : sProp 𝕄)
    = (oLoc d ↦[oSet q]{fullShare} (decAll x : Buf (Elt F) (oLoc d))) by
      rw [← set_oRows o h ho]
      refine pointsTo_congr fun y hy => ?_
      show (oRows oW o h).view.write (Elt F) fo (ov.view.read (Elt F) f) Finset.univ y = _
      rw [hT]
      exact write_oRows x fo o h ho y hy))
  iexact Ho

/-- Wait for a copy out. -/
theorem wp_outWait {q : ℕ} {sem : DmaSems sig S_} {ov : Memref sig .scVector .vmem S160x31 .f32} (o : Fin 2 → ℕ)
    (h : ∀ a, o a + S160x31.size a ≤ S640000x31.size a) {hs : ov.view.WordExact} {hd : (oRows oW o h).view.WordExact}
    {k : TP F pc ps α} {Q : α → sProp 𝕄} :
    iprop(outFly d pc ps x sem ov q ∗ Duty d pc ps O W)
      ⊢ iprop((iprop(ovAny d pc ps ov ∗ oC d q (decAll x) ∗ idle d pc ps sem ∗ Duty d pc ps O W) -∗ wpT d k Q)
        -∗ wpT d (outWait ov (oRows oW o h) sem hs hd k) Q) := by
  unfold outWait outFly Duty
  iintro ⟨Hf, #Hmw, %W', %hW', HO⟩ Hk
  ihave Hm := (Transfers.MayWaits.elim (SemLoc.dma sem.sem)) $$ Hmw
  iapply (Transfers.wp_waitLocalO EC 𝒱₀ (thr d pc ps) none (none : HIx 1) rfl) $$ [Hf HO Hm]
  · isplitl [Hf]; · iexact Hf
    isplitl [HO] <;> iassumption
  iintro ⟨⟨Hv, Ho⟩, Hs, HO⟩
  iapply Hk
  isplitl [Hv]; · iexact Hv
  isplitl [Ho]; · iexact Ho
  isplitl [Hs]; · iexact Hs
  isplitr; · iexact Hmw
  iexists (insert (SemLoc.dma sem.sem, (none : HIx 1)) W')
  isplitr
  · ipureintro; intro p hp
    rcases Finset.mem_insert.mp hp with hp | hp
    · exact .inr (hp ▸ rfl)
    · exact hW' p hp
  · iexact HO

/-! ## The work on a chunk -/

/-- A chunk's run between a copy in and a copy out. -/
theorem wp_work {X : Vec F S160x39 .f32} {iv : Memref sig .scVector .vmem S160x39 .f32} {ov : Memref sig .scVector .vmem S160x31 .f32}
    {k : TP F pc ps α} {Q : α → sProp 𝕄} :
    iprop(ivSt d pc ps iv X ∗ ovAny d pc ps ov)
      ⊢ iprop((iprop(ivAny d pc ps iv ∗ ovSt d pc ps ov (decChunk X) (fun _ => True)) -∗ wpT d k Q) -∗ wpT d (chunkK iv ov k) Q) := by
  iintro ⟨Hi, Ho⟩ Hk
  iapply (wp_chunk 𝒱₀ d none (X := X) (iv := iv) (ov := ov) k) $$ [Hi Ho]
  · unfold workSt ovSt ovAny
    isplitl [Hi]; · iexact Hi
    icases Ho with ⟨%f, Ho⟩
    iexists f
    isplitr
    · ipureintro; exact fun _ h => h.elim
    · iexact Ho
  unfold workSt
  iintro ⟨Hi, Ho⟩
  iapply Hk
  isplitl [Hi]
  · unfold ivSt ivAny
    icases Hi with ⟨%f, -, Hi⟩
    iexists f; iexact Hi
  · iexact Ho

end Cert.Decode

end
-- ==== Proof.Tile.lean ====
/-
  The run of a tile.

  Before trip `t` the copies in of chunks `2t` and `2t + 1` are in flight, and (after the first trip) the copies out of chunks `2t - 2` and
  `2t - 1`; the chunks of the input already worked on are back, and the chunks of the output before those in flight hold the result. The
  loop keeps this, and after it the last chunk is worked on and every copy is waited for.
-/
module

public import proofs.«01_k».proof.Proof.Copies
public import Idealize.SL.BI.BigOpNat

@[expose] public section

noncomputable section

namespace Cert.Decode

open Cert.KernelIdeal
open Cert.KernelIdeal.Facts₀ Cert.KernelIdeal.Facts
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The tile's numbers -/

/-- The first chunk of tile `i`. -/
def base (i : grid0.Coords) : ℕ := 125 * (2 * (i 1).val + (i 0).val)

/-- Chunk `j` of a tile begins at row `160 (base + j)`. -/
theorem off_chunk {o : Fin 2 → ℕ} {i : grid0.Coords} {n j : ℕ} (h : o = ![40000 * (i 1).val + 20000 * (i 0).val + n, 0]) (hj : n = 160 * j) :
    o = ![160 * (base i + j), 0] := by
  rw [h, hj]
  unfold base
  congr 1
  ring

/-- The offsets of the first two copies in. -/
theorem off1_eq : ∀ i : grid0.Coords, k0_off1 i 0#32 = ![40000 * (i 1).val + 20000 * (i 0).val + 0, 0]
    ∧ k0_off1 i 160#32 = ![40000 * (i 1).val + 20000 * (i 0).val + 160, 0] := by decide +kernel

/-- There are copies out to wait for from the second trip on. -/
theorem cond1_iff : ∀ t : Fin k0_t1_loop.trips, k0_cond1 t = 1#1 ↔ 0 < t.val := by decide +kernel
@[inherit_doc cond1_iff]
theorem cond3_iff : ∀ t : Fin k0_t1_loop.trips, k0_cond3 t = 1#1 ↔ 0 < t.val := by decide +kernel
/-- The second slot has a next chunk in every trip but the last. -/
theorem cond4_iff : ∀ t : Fin k0_t1_loop.trips, k0_cond4 t = 1#1 ↔ t.val < 61 := by decide +kernel
/-- There are 62 trips. -/
theorem trips_eq : k0_t1_loop.trips = 62 := by decide +kernel

omit [FloatOps F] in
/-- An empty run. -/
theorem run_empty {a b : ℕ} (h : b ≤ a) (A : ℕ → sProp 𝕄) : bigSep (Finset.Ico a b) A = iprop(emp) := by
  rw [Finset.Ico_eq_empty_of_le h, bigSep_empty]; rfl

/-! ## The invariant -/

variable (d : Dev nD) (pc : Fin τ.nSC) (ps : Fin τ.nSub) (x : Vec F S640000x39 .f32) (fo : Vec F S640000x31 .f32)

/-- An output slot before trip `t`: idle before the first, else its chunk of the trip before (the pair's member `e`) in flight. -/
def outS (sem : DmaSems sig S_) (ov : Memref sig .scVector .vmem S160x31 .f32) (b e : ℕ) : ℕ → sProp 𝕄
  | 0 => iprop(idle d pc ps sem ∗ ovAny d pc ps ov)
  | n + 1 => outFly d pc ps x sem ov (b + (2 * n + e))

/-- What its wait hands back. -/
def backS (b e : ℕ) : ℕ → sProp 𝕄
  | 0 => iprop(emp)
  | n + 1 => oC d (b + (2 * n + e)) (decAll x)

/-- The second input slot before trip `t`: its chunk in flight, or idle after the last trip. -/
def in1S (sem : DmaSems sig S_) (iv : Memref sig .scVector .vmem S160x39 .f32) (b t : ℕ) : sProp 𝕄 :=
  if t < 62 then inFly d pc ps x sem iv (b + (2 * t + 1)) else iprop(idle d pc ps sem ∗ ivAny d pc ps iv)

/-- The tile before trip `t`. -/
def Inv (arg4 : Memref sig .scVector .vmem S2x160x39 .f32) (arg5 : Memref sig .scVector .vmem S2x160x31 .f32)
    (arg6 arg7 arg8 arg9 : DmaSems sig S_) (O : CellTallies nD τ sig (HIx 1)) (W : Waits sig (HIx 1)) (b t : ℕ) : sProp 𝕄 :=
  iprop(Duty d pc ps O W
    ∗ inFly d pc ps x arg6 (ivS0 arg4) (b + 2 * t) ∗ in1S d pc ps x arg7 (ivS1 arg4) b t
    ∗ outS d pc ps x arg8 (ovS0 arg5) b 0 t ∗ outS d pc ps x arg9 (ovS1 arg5) b 1 t
    ∗ bigSep (Finset.Ico 0 (2 * t)) (fun j => xC d x (b + j)) ∗ bigSep (Finset.Ico (2 * t + 2) 125) (fun j => xC d x (b + j))
    ∗ bigSep (Finset.Ico 0 (2 * (t - 1))) (fun j => oC d (b + j) (decAll x)) ∗ bigSep (Finset.Ico (2 * t) 125) (fun j => oC d (b + j) fo))

variable {d x fo} {i : grid0.Coords}
variable {arg4 : Memref sig .scVector .vmem S2x160x39 .f32} {arg5 : Memref sig .scVector .vmem S2x160x31 .f32}
variable {arg6 arg7 arg8 arg9 : DmaSems sig S_} {O : CellTallies nD τ sig (HIx 1)} {W : Waits sig (HIx 1)}
variable {α : Type} {pc ps}

/-- What the two waits hand back joins the chunks done. -/
theorem back_join (b t : ℕ) :
    iprop(bigSep (Finset.Ico 0 (2 * (t - 1))) (fun j => oC d (b + j) (decAll x)) ∗ backS d x b 0 t ∗ backS d x b 1 t)
      ⊢ (bigSep (Finset.Ico 0 (2 * t)) (fun j => oC d (b + j) (decAll x)) : sProp 𝕄) := by
  cases t with
  | zero =>
    unfold backS
    iintro ⟨H, -, -⟩
    iexact H
  | succ n =>
    unfold backS
    rw [show 2 * (n + 1 - 1) = 2 * n by omega, show 2 * (n + 1) = 2 * n + 1 + 1 by ring, bigSep_Ico_succ_top (by omega), bigSep_Ico_succ_top (by omega)]
    iintro ⟨H, H0, H1⟩
    isplitl [H1]; · iexact H1
    isplitl [H0] <;> iassumption

/-- The wait for slot `0`'s copy out of the trip before. -/
theorem wp_wb0 {b : ℕ} {t : Fin k0_t1_loop.trips} {k : TP F pc ps α} {Q : α → sProp 𝕄} :
    iprop(outS d pc ps x arg8 (ovS0 arg5) b 0 t.val ∗ Duty d pc ps O W)
      ⊢ iprop((iprop(ovAny d pc ps (ovS0 arg5) ∗ backS d x b 0 t.val ∗ idle d pc ps arg8 ∗ Duty d pc ps O W) -∗ wpT d k Q)
        -∗ wpT d (wb0 i oW arg5 arg8 t k) Q) := by
  unfold wb0
  by_cases h : k0_cond1 t = 1#1
  · rw [dif_pos h]
    obtain ⟨n, hn⟩ : ∃ n, t.val = n + 1 := ⟨t.val - 1, by have := (cond1_iff t).mp h; omega⟩
    rw [hn]
    unfold outS backS
    exact wp_outWait _ _
  · rw [dif_neg h]
    have h0 : t.val = 0 := by have := (cond1_iff t).not.mp h; omega
    rw [h0]
    unfold outS backS
    iintro ⟨⟨Hs, Ho⟩, HD⟩ Hk
    iapply Hk
    isplitl [Ho]; · iexact Ho
    isplitr; · iempintro
    isplitl [Hs] <;> iassumption

/-- The wait for slot `1`'s copy out of the trip before. -/
theorem wp_wb1 {b : ℕ} {t : Fin k0_t1_loop.trips} {k : TP F pc ps α} {Q : α → sProp 𝕄} :
    iprop(outS d pc ps x arg9 (ovS1 arg5) b 1 t.val ∗ Duty d pc ps O W)
      ⊢ iprop((iprop(ovAny d pc ps (ovS1 arg5) ∗ backS d x b 1 t.val ∗ idle d pc ps arg9 ∗ Duty d pc ps O W) -∗ wpT d k Q)
        -∗ wpT d (wb1 i oW arg5 arg9 t k) Q) := by
  unfold wb1
  by_cases h : k0_cond3 t = 1#1
  · rw [dif_pos h]
    obtain ⟨n, hn⟩ : ∃ n, t.val = n + 1 := ⟨t.val - 1, by have := (cond3_iff t).mp h; omega⟩
    rw [hn]
    unfold outS backS
    exact wp_outWait _ _
  · rw [dif_neg h]
    have h0 : t.val = 0 := by have := (cond3_iff t).not.mp h; omega
    rw [h0]
    unfold outS backS
    iintro ⟨⟨Hs, Ho⟩, HD⟩ Hk
    iapply Hk
    isplitl [Ho]; · iexact Ho
    isplitr; · iempintro
    isplitl [Hs] <;> iassumption

/-- Slot `1`'s next copy in, when there is one. -/
theorem wp_pre1 {t : Fin k0_t1_loop.trips} {k : TP F pc ps α} {Q : α → sProp 𝕄} :
    iprop(ivAny d pc ps (ivS1 arg4) ∗ idle d pc ps arg7 ∗ bigSep (Finset.Ico (2 * t.val + 3) 125) (fun j => xC d x (base i + j)))
      ⊢ iprop((iprop(in1S d pc ps x arg7 (ivS1 arg4) (base i) (t.val + 1) ∗ bigSep (Finset.Ico (2 * t.val + 4) 125) (fun j => xC d x (base i + j)))
          -∗ wpT d k Q)
        -∗ wpT d (pre1 i xW arg4 arg7 t k) Q) := by
  have ht : t.val < 62 := trips_eq ▸ t.isLt
  unfold pre1 in1S
  by_cases h : k0_cond4 t = 1#1
  · rw [dif_pos h]
    have h1 := (cond4_iff t).mp h
    rw [if_pos (by omega), bigSep_Ico_succ_bot (show 2 * t.val + 3 < 125 by omega)]
    iintro ⟨Hi, Hs, Hx, HxB⟩ Hk
    iapply (wp_inStart (q := base i + (2 * (t.val + 1) + 1)) (k0_off9 i t) _ (off_chunk (n := 320 * t.val + 480) (Gen.k0_off9_eq i t) (by ring))) $$ [Hi Hs Hx]
    · isplitl [Hi]; · iexact Hi
      isplitl [Hx]; · iexact Hx
      iexact Hs
    iintro Hf
    iapply Hk
    isplitl [Hf] <;> iassumption
  · rw [dif_neg h]
    have h1 := (cond4_iff t).not.mp h
    rw [if_neg (by omega), run_empty (show 125 ≤ 2 * t.val + 3 by omega), run_empty (show 125 ≤ 2 * t.val + 4 by omega)]
    iintro ⟨Hi, Hs, -⟩ Hk
    iapply Hk
    isplitl
    · isplitl [Hs] <;> iassumption
    · iempintro

/-- One trip keeps the invariant. -/
theorem wp_trip (t : Fin k0_t1_loop.trips) :
    (Inv d pc ps x fo arg4 arg5 arg6 arg7 arg8 arg9 O W (base i) t.val : sProp 𝕄)
      ⊢ wpT d (tripK i xW oW arg4 arg5 arg6 arg7 arg8 arg9 t (.ret ⟨⟩ : TP F pc ps PUnit))
          fun _ => Inv d pc ps x fo arg4 arg5 arg6 arg7 arg8 arg9 O W (base i) (t.val + 1) := by
  have ht : t.val < 62 := trips_eq ▸ t.isLt
  unfold tripK
  rw [Inv, in1S, if_pos ht, bigSep_Ico_succ_bot (show 2 * t.val < 125 by omega) (fun j => oC d (base i + j) fo),
    bigSep_Ico_succ_bot (show 2 * t.val + 1 < 125 by omega) (fun j => oC d (base i + j) fo),
    bigSep_Ico_succ_bot (show 2 * t.val + 2 < 125 by omega) (fun j => xC d x (base i + j))]
  iintro ⟨HD, Hin0, Hin1, Ho0, Ho1, HxA, ⟨Hx2, HxB⟩, HoA, Hc0, Hc1, HoB⟩
  -- slot 0
  iapply (wp_wb0 (b := base i)) $$ [Ho0 HD]
  · isplitl [Ho0] <;> iassumption
  iintro ⟨Hov0, Hb0, Hs8, HD⟩
  iapply wp_inWait $$ [Hin0 HD]
  · isplitl [Hin0] <;> iassumption
  iintro ⟨Hiv0, Hx0, Hs6, HD⟩
  iapply wp_work $$ [Hiv0 Hov0]
  · isplitl [Hiv0] <;> iassumption
  iintro ⟨Hiv0, Hov0⟩
  iapply (wp_outStart (q := base i + 2 * t.val) (k0_off4 i t) _ (off_chunk (n := 320 * t.val) (Gen.k0_off4_eq i t) (by ring))) $$ [Hov0 Hc0 Hs8]
  · isplitl [Hov0]; · iexact Hov0
    isplitl [Hc0] <;> iassumption
  iintro Ho0
  iapply (wp_inStart (q := base i + (2 * t.val + 2)) (k0_off5 i t) _ (off_chunk (n := 320 * t.val + 320) (Gen.k0_off5_eq i t) (by ring))) $$ [Hiv0 Hx2 Hs6]
  · isplitl [Hiv0]; · iexact Hiv0
    isplitl [Hx2] <;> iassumption
  iintro Hin0
  -- slot 1
  iapply (wp_wb1 (b := base i)) $$ [Ho1 HD]
  · isplitl [Ho1] <;> iassumption
  iintro ⟨Hov1, Hb1, Hs9, HD⟩
  iapply wp_inWait $$ [Hin1 HD]
  · isplitl [Hin1] <;> iassumption
  iintro ⟨Hiv1, Hx1, Hs7, HD⟩
  iapply wp_work $$ [Hiv1 Hov1]
  · isplitl [Hiv1] <;> iassumption
  iintro ⟨Hiv1, Hov1⟩
  iapply (wp_outStart (q := base i + (2 * t.val + 1)) (k0_off8 i t) _ (off_chunk (n := 320 * t.val + 160) (Gen.k0_off8_eq i t) (by ring))) $$ [Hov1 Hc1 Hs9]
  · isplitl [Hov1]; · iexact Hov1
    isplitl [Hc1] <;> iassumption
  iintro Ho1
  iapply (wp_pre1 (i := i) (t := t)) $$ [Hiv1 Hs7 HxB]
  · isplitl [Hiv1]; · iexact Hiv1
    isplitl [Hs7] <;> iassumption
  iintro ⟨Hin1, HxB⟩
  unfold wpT
  rw [wp_ret]
  imodintro
  rw [Inv, show 2 * (t.val + 1) = 2 * t.val + 1 + 1 by ring, show t.val + 1 - 1 = t.val by omega,
    bigSep_Ico_succ_top (show 0 ≤ 2 * t.val + 1 by omega) (fun j => xC d x (base i + j)),
    bigSep_Ico_succ_top (show 0 ≤ 2 * t.val by omega) (fun j => xC d x (base i + j))]
  isplitl [HD]; · iexact HD
  isplitl [Hin0]; · iexact Hin0
  isplitl [Hin1]; · iexact Hin1
  isplitl [Ho0]; · unfold outS; iexact Ho0
  isplitl [Ho1]; · unfold outS; iexact Ho1
  isplitl [HxA Hx0 Hx1]
  · isplitl [Hx1]; · iexact Hx1
    isplitl [Hx0] <;> iassumption
  isplitl [HxB]; · iexact HxB
  isplitl [HoA Hb0 Hb1]
  · iapply (back_join (base i) t.val)
    isplitl [HoA]; · iexact HoA
    isplitl [Hb0] <;> iassumption
  iexact HoB

/-- After the loop: the last chunk, in slot `0`, and the waits for the copies still in flight. -/
theorem wp_last :
    (Inv d pc ps x fo arg4 arg5 arg6 arg7 arg8 arg9 O W (base i) 62 : sProp 𝕄)
      ⊢ wpT d (lastK i xW oW arg4 arg5 arg6 arg8 arg9 (.ret ⟨⟩ : TP F pc ps PUnit)) fun _ =>
        iprop(Duty d pc ps O W
          ∗ (ivAny d pc ps (ivS0 arg4) ∗ ivAny d pc ps (ivS1 arg4) ∗ ovAny d pc ps (ovS0 arg5) ∗ ovAny d pc ps (ovS1 arg5))
          ∗ (idle d pc ps arg6 ∗ idle d pc ps arg7 ∗ idle d pc ps arg8 ∗ idle d pc ps arg9)
          ∗ bigSep (Finset.Ico 0 125) (fun j => xC d x (base i + j)) ∗ bigSep (Finset.Ico 0 125) (fun j => oC d (base i + j) (decAll x))) := by
  rw [Inv, in1S, if_neg (by decide)]
  unfold lastK
  rw [show outS d pc ps x arg8 (ovS0 arg5) (base i) 0 62 = outFly d pc ps x arg8 (ovS0 arg5) (base i + (2 * 61 + 0)) from rfl,
    show outS d pc ps x arg9 (ovS1 arg5) (base i) 1 62 = outFly d pc ps x arg9 (ovS1 arg5) (base i + (2 * 61 + 1)) from rfl]
  rw [bigSep_Ico_succ_bot (show 2 * 62 < 125 by omega) (fun j => oC d (base i + j) fo)]
  iintro ⟨HD, Hin0, ⟨Hs7, Hiv1⟩, Ho0, Ho1, HxA, -, HoA, Hc, -⟩
  iapply (wp_outWait _ _) $$ [Ho0 HD]
  · isplitl [Ho0] <;> iassumption
  iintro ⟨Hov0, Hb0, Hs8, HD⟩
  iapply wp_inWait $$ [Hin0 HD]
  · isplitl [Hin0] <;> iassumption
  iintro ⟨Hiv0, Hx0, Hs6, HD⟩
  iapply wp_work $$ [Hiv0 Hov0]
  · isplitl [Hiv0] <;> iassumption
  iintro ⟨Hiv0, Hov0⟩
  iapply (wp_outStart (q := base i + 2 * 62) (k0_off11 i 19840#32) _ (off_chunk (j := 2 * 62) (n := 160 * 1 + 19680) (Gen.k0_off11_eq i 1) (by omega))) $$ [Hov0 Hc Hs8]
  · isplitl [Hov0]; · iexact Hov0
    isplitl [Hc] <;> iassumption
  iintro Ho0
  iapply (wp_outWait _ _) $$ [Ho1 HD]
  · isplitl [Ho1] <;> iassumption
  iintro ⟨Hov1, Hb1, Hs9, HD⟩
  iapply (wp_outWait _ _) $$ [Ho0 HD]
  · isplitl [Ho0] <;> iassumption
  iintro ⟨Hov0, Hb2, Hs8, HD⟩
  unfold wpT
  rw [wp_ret]
  imodintro
  isplitl [HD]; · iexact HD
  isplitl [Hiv0 Hiv1 Hov0 Hov1]
  · isplitl [Hiv0]; · iexact Hiv0
    isplitl [Hiv1]; · iexact Hiv1
    isplitl [Hov0] <;> iassumption
  isplitl [Hs6 Hs7 Hs8 Hs9]
  · isplitl [Hs6]; · iexact Hs6
    isplitl [Hs7]; · iexact Hs7
    isplitl [Hs8] <;> iassumption
  isplitl [HxA Hx0]
  · rw [bigSep_Ico_succ_top (show 0 ≤ 124 by omega) (fun j => xC d x (base i + j))]
    isplitl [Hx0] <;> iassumption
  · rw [bigSep_Ico_succ_top (show 0 ≤ 124 by omega) (fun j => oC d (base i + j) (decAll x)),
      bigSep_Ico_succ_top (show 0 ≤ 123 by omega) (fun j => oC d (base i + j) (decAll x)),
      bigSep_Ico_succ_top (show 0 ≤ 122 by omega) (fun j => oC d (base i + j) (decAll x))]
    isplitl [Hb2]; · iexact Hb2
    isplitl [Hb1]; · iexact Hb1
    isplitl [Hb0] <;> iassumption

/-- The whole tile: its chunks of the output go from anything to the result, its chunks of the input come back. -/
theorem wp_tile :
    iprop(Duty d pc ps O W
        ∗ (ivAny d pc ps (ivS0 arg4) ∗ ivAny d pc ps (ivS1 arg4) ∗ ovAny d pc ps (ovS0 arg5) ∗ ovAny d pc ps (ovS1 arg5))
        ∗ (idle d pc ps arg6 ∗ idle d pc ps arg7 ∗ idle d pc ps arg8 ∗ idle d pc ps arg9)
        ∗ bigSep (Finset.Ico 0 125) (fun j => xC d x (base i + j)) ∗ bigSep (Finset.Ico 0 125) (fun j => oC d (base i + j) fo))
      ⊢ wpT d (tileK i xW oW arg4 arg5 arg6 arg7 arg8 arg9 : TP F pc ps PUnit) fun _ =>
        iprop(Duty d pc ps O W
          ∗ (ivAny d pc ps (ivS0 arg4) ∗ ivAny d pc ps (ivS1 arg4) ∗ ovAny d pc ps (ovS0 arg5) ∗ ovAny d pc ps (ovS1 arg5))
          ∗ (idle d pc ps arg6 ∗ idle d pc ps arg7 ∗ idle d pc ps arg8 ∗ idle d pc ps arg9)
          ∗ bigSep (Finset.Ico 0 125) (fun j => xC d x (base i + j)) ∗ bigSep (Finset.Ico 0 125) (fun j => oC d (base i + j) (decAll x))) := by
  unfold tileK
  iintro ⟨HD, ⟨Hiv0, Hiv1, Hov0, Hov1⟩, ⟨Hs6, Hs7, Hs8, Hs9⟩, Hx, HoB⟩
  ihave Hx' := (Entails.of_eq (bigSep_Ico_succ_bot (show 0 < 125 by omega) (fun j => xC d x (base i + j)))) $$ Hx
  icases Hx' with ⟨Hx0, Hx⟩
  ihave Hx' := (Entails.of_eq (bigSep_Ico_succ_bot (show 0 + 1 < 125 by omega) (fun j => xC d x (base i + j)))) $$ Hx
  icases Hx' with ⟨Hx1, HxB⟩
  iapply (wp_inStart (q := base i + 0) (k0_off1 i 0#32) _ (off_chunk (off1_eq i).1 rfl)) $$ [Hiv0 Hx0 Hs6]
  · isplitl [Hiv0]; · iexact Hiv0
    isplitl [Hx0] <;> iassumption
  iintro Hin0
  iapply (wp_inStart (q := base i + (0 + 1)) (k0_off1 i 160#32) _ (off_chunk (off1_eq i).2 rfl)) $$ [Hiv1 Hx1 Hs7]
  · isplitl [Hiv1]; · iexact Hiv1
    isplitl [Hx1] <;> iassumption
  iintro Hin1
  iapply (Scf.wp_for_bind _ _ _ _ _ _ k0_t1_ok _ _
    (fun t (_ : PUnit) => Inv d pc ps x fo arg4 arg5 arg6 arg7 arg8 arg9 O W (base i) t) (fun t _ => wp_trip t))
    $$ [HD Hin0 Hin1 Hov0 Hov1 Hs8 Hs9 HxB HoB]
  · rw [Inv, in1S, if_pos (by decide), outS, outS, run_empty (show 2 * 0 ≤ 0 by omega), run_empty (show 2 * (0 - 1) ≤ 0 by omega)]
    isplitl [HD]; · iexact HD
    isplitl [Hin0]; · iexact Hin0
    isplitl [Hin1]; · iexact Hin1
    isplitl [Hs8 Hov0]; · isplitl [Hs8] <;> iassumption
    isplitl [Hs9 Hov1]; · isplitl [Hs9] <;> iassumption
    isplitr; · iempintro
    isplitl [HxB]; · iexact HxB
    isplitr; · iempintro
    iexact HoB
  iintro %_ HI
  rw [show Scf.trips k0_t1_loop.lb k0_t1_loop.ub k0_t1_loop.st = 62 from trips_eq]
  iapply wp_last $$ HI

end Cert.Decode

end
-- ==== Proof.Printed.lean ====
/-
  The printed program of a tile is the one of `Body.lean`.
-/
module

public import proofs.«01_k».proof.Proof.Body

@[expose] public section

set_option maxRecDepth 100000
set_option maxHeartbeats 0

noncomputable section

namespace Cert.Decode

open Cert.KernelIdeal
open Cert.KernelIdeal.Facts₀ Cert.KernelIdeal.Facts
open Idealize.ShloMosaic Idealize.SL.Sem

variable {F : FTy → Type} [FloatOps F]

/-- The printed program of a tile is `tileK`: a trip of the loop is compared at each way its conditions can come out, the rest of the
    tile at once. -/
theorem printed_eq (i : grid0.Coords) (arg2 : Memref sig .scVector .hbm S640000x39 .f32) (harg2 : arg2.IsWhole)
    (arg3 : Memref sig .scVector .hbm S640000x31 .f32) (harg3 : arg3.IsWhole)
    (arg4 : Memref sig .scVector .vmem S2x160x39 .f32) (harg4 : arg4.IsWhole)
    (arg5 : Memref sig .scVector .vmem S2x160x31 .f32) (harg5 : arg5.IsWhole) (arg6 arg7 arg8 arg9 : DmaSems sig S_) :
    cc0__decode_sc (F := F) i arg2 harg2 arg3 harg3 arg4 harg4 arg5 harg5 arg6 arg7 arg8 arg9
      = tileK i arg2 arg3 arg4 arg5 arg6 arg7 arg8 arg9 := by
  unfold cc0__decode_sc k0_part341 k0_part228 tileK
  change Prog.op _ (fun _ => Prog.op _ (fun _ => ((Scf.Loop.for _ _ _ _ >>= _) >>= _) >>= _)) = _
  refine congrArg (Prog.op _) (funext fun _ => congrArg (Prog.op _) (funext fun _ => ?_))
  rw [Prog.bind_assoc, Prog.bind_assoc]
  refine congrArg₂ (fun a b => Prog.bind a b) (congrArg _ (funext fun t => funext fun _ => ?_)) (funext fun _ => ?_)
  · unfold tripK wb0 wb1 pre1 k0_part225 k0_part226 k0_part1 k0_part113
    have h3 : k0_cond3 t = k0_cond1 t := rfl
    by_cases h1 : k0_cond1 t = 1#1 <;> by_cases h4 : k0_cond4 t = 1#1 <;>
      (have h3' := h3 ▸ h1
       simp only [dif_pos, dif_neg, h1, h3', h4, cond2_all, not_false_eq_true]
       rfl)
  · rfl

end Cert.Decode

end
-- ==== Proof.Task.lean ====
/-
  A tile's task.

  A tile's two scratch buffers are cut into their slots, its four semaphores are found among its own, the kernel's program for the tile is the
  one of `Body.lean`, and its run is `wp_tile`.
-/
module

public import proofs.«01_k».proof.Proof.Tile
public import proofs.«01_k».proof.Proof.Printed

@[expose] public section

noncomputable section

namespace Cert.Decode

open Cert.KernelIdeal
open Cert.KernelIdeal.Facts₀ Cert.KernelIdeal.Facts
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## A buffer cut in two pieces and a rest -/

/-- A buffer, whatever it holds, is two disjoint pieces and a rest, whatever they hold. -/
theorem cut_two {ℓ : Loc nD τ sig} {A B : Finset (Idx ℓ)} (h : Disjoint A B) :
    iprop(∃ f : Buf (Elt F) ℓ, ℓ ↦{fullShare} f)
      ⊢ (iprop((∃ f : Buf (Elt F) ℓ, ℓ ↦[A]{fullShare} f) ∗ (∃ f : Buf (Elt F) ℓ, ℓ ↦[B]{fullShare} f)
        ∗ ∃ f : Buf (Elt F) ℓ, ℓ ↦[(Finset.univ \ A) \ B]{fullShare} f) : sProp 𝕄) := by
  iintro ⟨%f, H⟩
  ihave H' := (pointsTo_split_subset (Finset.subset_univ A)).1 $$ H
  icases H' with ⟨HA, H⟩
  ihave H' := (pointsTo_split_subset (show B ⊆ Finset.univ \ A from fun y hy =>
    Finset.mem_sdiff.mpr ⟨Finset.mem_univ _, Finset.disjoint_right.mp h hy⟩)).1 $$ H
  icases H' with ⟨HB, H⟩
  isplitl [HA]; · iexists f; iexact HA
  isplitl [HB]; · iexists f; iexact HB
  iexists f; iexact H

/-- and back. -/
theorem join_two {ℓ : Loc nD τ sig} {A B : Finset (Idx ℓ)} (h : Disjoint A B) :
    iprop((∃ f : Buf (Elt F) ℓ, ℓ ↦[A]{fullShare} f) ∗ (∃ f : Buf (Elt F) ℓ, ℓ ↦[B]{fullShare} f)
        ∗ ∃ f : Buf (Elt F) ℓ, ℓ ↦[(Finset.univ \ A) \ B]{fullShare} f)
      ⊢ (iprop(∃ f : Buf (Elt F) ℓ, ℓ ↦{fullShare} f) : sProp 𝕄) := by
  iintro ⟨⟨%f, HA⟩, ⟨%g, HB⟩, ⟨%r, H⟩⟩
  ihave H' := (pointsTo_join_subset (show B ⊆ Finset.univ \ A from fun y hy =>
    Finset.mem_sdiff.mpr ⟨Finset.mem_univ _, Finset.disjoint_right.mp h hy⟩)) $$ [HB H]
  · isplitl [HB] <;> iassumption
  ihave H'' := (pointsTo_join_subset (Finset.subset_univ A)) $$ [HA H']
  · isplitl [HA] <;> iassumption
  iexists _
  iexact H''

/-! ## The slots -/

/-- The scratch buffers. -/
abbrev ivW : Memref sig .scVector .vmem S2x160x39 .f32 := Memref.whole cc0_scratch0
@[inherit_doc ivW]
abbrev ovW : Memref sig .scVector .vmem S2x160x31 .f32 := Memref.whole cc0_scratch1

/-- The two input slots share no element: they differ in the first coordinate. -/
theorem iv_disjoint : Disjoint (ivS0 ivW).view.set (ivS1 ivW).view.set := by
  refine Finset.disjoint_left.mpr fun y h0 h1 => ?_
  rw [show (ivS0 ivW).view.set = (ivW.view.slice (Rect.unit (s := S2x160x39) ![0, 0, 0] S1x160x39.size inb_S2x160x39_S1x160x39_0_0_0)).set from
    View.set_reshape _ _, View.set_slice_whole, Rect.mem_set_unit] at h0
  rw [show (ivS1 ivW).view.set = (ivW.view.slice (Rect.unit (s := S2x160x39) ![1, 0, 0] S1x160x39.size inb_S2x160x39_S1x160x39_1_0_0)).set from
    View.set_reshape _ _, View.set_slice_whole, Rect.mem_set_unit] at h1
  have a : (y 0).val < 0 + 1 := (h0 0).2
  have b : 1 ≤ (y 0).val := (h1 0).1
  omega
/-- Nor do the two output slots. -/
theorem ov_disjoint : Disjoint (ovS0 ovW).view.set (ovS1 ovW).view.set := by
  refine Finset.disjoint_left.mpr fun y h0 h1 => ?_
  rw [show (ovS0 ovW).view.set = (ovW.view.slice (Rect.unit (s := S2x160x31) ![0, 0, 0] S1x160x31.size inb_S2x160x31_S1x160x31_0_0_0)).set from
    View.set_reshape _ _, View.set_slice_whole, Rect.mem_set_unit] at h0
  rw [show (ovS1 ovW).view.set = (ovW.view.slice (Rect.unit (s := S2x160x31) ![1, 0, 0] S1x160x31.size inb_S2x160x31_S1x160x31_1_0_0)).set from
    View.set_reshape _ _, View.set_slice_whole, Rect.mem_set_unit] at h1
  have a : (y 0).val < 0 + 1 := (h0 0).2
  have b : 1 ≤ (y 0).val := (h1 0).1
  omega

variable (d : Dev nD) (pc : Fin τ.nSC) (ps : Fin τ.nSub)

/-- The part of the input scratch that neither slot names. -/
def ivRest : sProp 𝕄 :=
  iprop(∃ f : Buf (Elt F) ((V d pc ps).loc cc0_scratch0),
    (V d pc ps).loc cc0_scratch0 ↦[(Finset.univ \ (ivS0 ivW).view.set) \ (ivS1 ivW).view.set]{fullShare} f)
/-- The same of the output scratch. -/
def ovRest : sProp 𝕄 :=
  iprop(∃ f : Buf (Elt F) ((V d pc ps).loc cc0_scratch1),
    (V d pc ps).loc cc0_scratch1 ↦[(Finset.univ \ (ovS0 ovW).view.set) \ (ovS1 ovW).view.set]{fullShare} f)

/-- The input scratch is its slots and the rest. -/
theorem iv_cut : iprop(∃ f : Buf (Elt F) ((V d pc ps).loc cc0_scratch0), (V d pc ps).loc cc0_scratch0 ↦{fullShare} f)
    ⊢ (iprop(ivAny d pc ps (ivS0 ivW) ∗ ivAny d pc ps (ivS1 ivW) ∗ ivRest d pc ps) : sProp 𝕄) :=
  cut_two iv_disjoint
@[inherit_doc iv_cut]
theorem iv_join : iprop(ivAny d pc ps (ivS0 ivW) ∗ ivAny d pc ps (ivS1 ivW) ∗ ivRest d pc ps)
    ⊢ (iprop(∃ f : Buf (Elt F) ((V d pc ps).loc cc0_scratch0), (V d pc ps).loc cc0_scratch0 ↦{fullShare} f) : sProp 𝕄) :=
  join_two iv_disjoint
/-- The output scratch is its slots and the rest. -/
theorem ov_cut : iprop(∃ f : Buf (Elt F) ((V d pc ps).loc cc0_scratch1), (V d pc ps).loc cc0_scratch1 ↦{fullShare} f)
    ⊢ (iprop(ovAny d pc ps (ovS0 ovW) ∗ ovAny d pc ps (ovS1 ovW) ∗ ovRest d pc ps) : sProp 𝕄) :=
  cut_two ov_disjoint
@[inherit_doc ov_cut]
theorem ov_join : iprop(ovAny d pc ps (ovS0 ovW) ∗ ovAny d pc ps (ovS1 ovW) ∗ ovRest d pc ps)
    ⊢ (iprop(∃ f : Buf (Elt F) ((V d pc ps).loc cc0_scratch1), (V d pc ps).loc cc0_scratch1 ↦{fullShare} f) : sProp 𝕄) :=
  join_two ov_disjoint

/-! ## A tile's own semaphores and buffers -/

/-- The counter of a tile's semaphore. -/
abbrev cellOf (sem : DmaSems sig S_) : GSem nD τ sig := (thr d pc ps, SemLoc.dma sem.sem)

/-- A tile's own semaphores but the four. -/
def otherCells : Finset (GSem nD τ sig) :=
  ((((ownCells (V d pc ps)).erase (cellOf d pc ps cc0_scratch2)).erase (cellOf d pc ps cc0_scratch3)).erase (cellOf d pc ps cc0_scratch4)).erase
    (cellOf d pc ps cc0_scratch5)

/-- Cells of different semaphores differ. -/
theorem cell_ne {a b : DmaSems sig S_} (h : a.sem ≠ b.sem) : cellOf d pc ps a ≠ cellOf d pc ps b :=
  fun e => h (SemLoc.dma.inj (Prod.mk.inj e).2)

/-- A semaphore of a tile's own is among its cells. -/
theorem cell_mem {a : DmaSems sig S_} (h : (SemLoc.dma a.sem : SemLoc sig).isScoped .scVector = true) :
    cellOf d pc ps a ∈ ownCells (V d pc ps) := mem_ownCells.mpr ⟨rfl, h⟩

/-- The tile's own semaphores at zero are the kernel's four and the others. -/
theorem sems_split :
    (ownSems0 (V d pc ps) : sProp 𝕄)
      = iprop(idle d pc ps cc0_scratch2 ∗ idle d pc ps cc0_scratch3 ∗ idle d pc ps cc0_scratch4 ∗ idle d pc ps cc0_scratch5
          ∗ bigSep (otherCells d pc ps) fun g => semVal g 0) := by
  unfold SparseCore.Cfg.ownSems0 otherCells
  rw [SparseCore.bigSep_erase' (cell_mem d pc ps (a := cc0_scratch2) (by decide)),
    SparseCore.bigSep_erase' (Finset.mem_erase.mpr ⟨cell_ne d pc ps (a := cc0_scratch3) (b := cc0_scratch2) (by decide), cell_mem d pc ps (by decide)⟩),
    SparseCore.bigSep_erase' (Finset.mem_erase.mpr ⟨cell_ne d pc ps (a := cc0_scratch4) (b := cc0_scratch3) (by decide),
      Finset.mem_erase.mpr ⟨cell_ne d pc ps (a := cc0_scratch4) (b := cc0_scratch2) (by decide), cell_mem d pc ps (by decide)⟩⟩),
    SparseCore.bigSep_erase' (Finset.mem_erase.mpr ⟨cell_ne d pc ps (a := cc0_scratch5) (b := cc0_scratch4) (by decide),
      Finset.mem_erase.mpr ⟨cell_ne d pc ps (a := cc0_scratch5) (b := cc0_scratch3) (by decide),
        Finset.mem_erase.mpr ⟨cell_ne d pc ps (a := cc0_scratch5) (b := cc0_scratch2) (by decide), cell_mem d pc ps (by decide)⟩⟩⟩)]

/-- A tile's own buffers but the two scratch buffers. -/
def otherRefs : Finset (DevRef τ sig) :=
  ((ownRefs (τ := τ) (.scVector pc ps)).erase ((Proc.scVector pc ps).devRef cc0_scratch0)).erase ((Proc.scVector pc ps).devRef cc0_scratch1)

/-- The tile's own buffers are the two scratch buffers and the others. -/
theorem bufs_split :
    (ownBufs (V d pc ps) : sProp 𝕄)
      = iprop((∃ f : Buf (Elt F) ((V d pc ps).loc cc0_scratch0), (V d pc ps).loc cc0_scratch0 ↦{fullShare} f)
          ∗ (∃ f : Buf (Elt F) ((V d pc ps).loc cc0_scratch1), (V d pc ps).loc cc0_scratch1 ↦{fullShare} f)
          ∗ bigSep (otherRefs pc ps) fun b => iprop(∃ f : Buf (Elt F) ((d, b) : Loc nD τ sig), ((d, b) : Loc nD τ sig) ↦{fullShare} f)) := by
  unfold SparseCore.Cfg.ownBufs otherRefs
  refine (SparseCore.bigSep_erase' (SparseCore.Cfg.mem_ownRefs_of_owner (p := Proc.scVector pc ps)
    (b := (Proc.scVector pc ps).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector pc ps) (b := (Proc.scVector pc ps).devRef cc0_scratch1) rfl⟩)]

/-! ## The task -/

variable [FloatOps F] {d} {x : Vec F S640000x39 .f32} {fo : Vec F S640000x31 .f32}

/-- What a tile's task takes and brings back: its chunks of the input, and of the output at `f`. -/
def share (d : Dev nD) (b : ℕ) (x : Vec F S640000x39 .f32) (f : Vec F S640000x31 .f32) : sProp 𝕄 :=
  iprop(bigSep (Finset.Ico 0 125) (fun j => xC d x (b + j)) ∗ bigSep (Finset.Ico 0 125) (fun j => oC d (b + j) f))

/-- The task of tile `i`, from its share with the output at anything to its share with the output at the result. -/
theorem wp_task (i : grid0.Coords) (O : CellTallies nD τ sig (HIx 1)) (W : Waits sig (HIx 1)) (hO : ∀ g, O g none = 0) :
    iprop(levAts (K (F := F)).L (K (F := F)).lev ∗ emp ∗ share d (base i) x fo
        ∗ scopedBufs (V d ((i 0).castLE hcore0) ((i 1).castLE hsub0)) ∗ scopedSems0 (V d ((i 0).castLE hcore0) ((i 1).castLE hsub0))
        ∗ owes (V d ((i 0).castLE hcore0) ((i 1).castLE hsub0)) O W)
      ⊢ wpT d (cc0__decode_sc (F := F) i xW (Memref.isWhole_whole _) oW (Memref.isWhole_whole _) ivW (Memref.isWhole_whole _) ovW (Memref.isWhole_whole _)
          cc0_scratch2 cc0_scratch3 cc0_scratch4 cc0_scratch5)
        fun _ => iprop(share d (base i) x (decAll x)
          ∗ scopedBufs (V d ((i 0).castLE hcore0) ((i 1).castLE hsub0)) ∗ scopedSems0 (V d ((i 0).castLE hcore0) ((i 1).castLE hsub0))
          ∗ ∃ W', ⌜∀ p ∈ W', p ∈ W ∨ p.2 = none⌝ ∗ owes (V d ((i 0).castLE hcore0) ((i 1).castLE hsub0)) O W') := by
  rw [printed_eq, (K (F := F)).scopedBufs_V facts d _ _, SparseCore.Cfg.scopedSems0_V (Val := Elt F) d _ _, sems_split, bufs_split]
  unfold share
  iintro ⟨#Hlv, -, ⟨Hx, Ho⟩, ⟨Hiv, Hov, Hbufs⟩, ⟨Hs6, Hs7, Hs8, Hs9, Hsems⟩, HO⟩
  ihave Hmw := ((K (F := F)).mayWaits_none (thr := V d ((i 0).castLE hcore0) ((i 1).castLE hsub0)) hO) $$ Hlv
  ihave Hiv' := (iv_cut d _ _) $$ Hiv
  icases Hiv' with ⟨Hiv0, Hiv1, HivR⟩
  ihave Hov' := (ov_cut d _ _) $$ Hov
  icases Hov' with ⟨Hov0, Hov1, HovR⟩
  ihave Hwp := (wp_tile (d := d) (x := x) (fo := fo) (i := i) (arg4 := ivW) (arg5 := ovW) (arg6 := cc0_scratch2) (arg7 := cc0_scratch3) (arg8 := cc0_scratch4)
    (arg9 := cc0_scratch5) (O := O) (W := W) (pc := (i 0).castLE hcore0) (ps := (i 1).castLE hsub0)) $$ [Hmw HO Hiv0 Hiv1 Hov0 Hov1 Hs6 Hs7 Hs8 Hs9 Hx Ho]
  · isplitl [Hmw HO]
    · unfold Duty
      isplitl [Hmw]; · iexact Hmw
      iexists W
      isplitr; · ipureintro; exact fun p hp => .inl hp
      iexact HO
    isplitl [Hiv0 Hiv1 Hov0 Hov1]
    · isplitl [Hiv0]; · iexact Hiv0
      isplitl [Hiv1]; · iexact Hiv1
      isplitl [Hov0] <;> iassumption
    isplitl [Hs6 Hs7 Hs8 Hs9]
    · isplitl [Hs6]; · iexact Hs6
      isplitl [Hs7]; · iexact Hs7
      isplitl [Hs8] <;> iassumption
    isplitl [Hx] <;> iassumption
  unfold wpT
  iapply (wp_wand frame _ _) $$ [Hwp]
  · iexact Hwp
  iintro %_ ⟨HD, ⟨Hiv0, Hiv1, Hov0, Hov1⟩, ⟨Hs6, Hs7, Hs8, Hs9⟩, Hx, Ho⟩
  isplitl [Hx Ho]
  · isplitl [Hx] <;> iassumption
  isplitl [Hiv0 Hiv1 HivR Hov0 Hov1 HovR Hbufs]
  · isplitl [Hiv0 Hiv1 HivR]
    · iapply (iv_join d _ _)
      isplitl [Hiv0]; · iexact Hiv0
      isplitl [Hiv1] <;> iassumption
    isplitl [Hov0 Hov1 HovR]
    · iapply (ov_join d _ _)
      isplitl [Hov0]; · iexact Hov0
      isplitl [Hov1] <;> iassumption
    iexact Hbufs
  isplitl [Hs6 Hs7 Hs8 Hs9 Hsems]
  · isplitl [Hs6]; · iexact Hs6
    isplitl [Hs7]; · iexact Hs7
    isplitl [Hs8]; · iexact Hs8
    isplitl [Hs9] <;> iassumption
  unfold Duty
  icases HD with ⟨-, HO⟩
  iexact HO

end Cert.Decode

end
-- ==== Proof.Launch.lean ====
/-
  The launch.

  The arrays are dealt to the 32 tiles in chunks of 160 rows and gathered from them; around the launch the program only reshapes. So the program
  ends with its argument as it was and its result the reshape of `decAll` of the reshaped argument.
-/
module

public import proofs.«01_k».proof.Proof.Task

@[expose] public section

noncomputable section

namespace Cert.Decode

open Cert.KernelIdeal
open Cert.KernelIdeal.Facts₀ Cert.KernelIdeal.Facts
open Idealize.ShloMosaic
open Idealize.ShloMosaic.SparseCore (S V T)
open Idealize.ShloMosaic.SparseCore.Cfg (HIx Pay)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Dealing an array to the tiles -/

/-- The first chunk of the tile at `(c, s)`. -/
def tileBase (c s : ℕ) : ℕ := 125 * (2 * s + c)

/-- A buffer whose elements lie in 640000 rows, dealt to the tiles chunk by chunk. -/
theorem deal {ℓ : Loc nD τ sig} (r : Idx ℓ → ℕ) (hr : ∀ y, r y < 640000) (f : Buf (Elt F) ℓ) :
    (ℓ ↦{fullShare} f : sProp 𝕄)
      = bigSep (Finset.univ : Finset (Fin 2)) fun c => bigSep (Finset.univ : Finset (Fin 16)) fun s =>
          bigSep (Finset.Ico 0 125) fun j => ℓ ↦[Finset.univ.filter fun y => r y / 160 = tileBase c.val s.val + j]{fullShare} f := by
  classical
  have h1 : (Finset.univ : Finset (Idx ℓ))
      = (Finset.univ : Finset (Fin 2 × Fin 16)).biUnion fun p => Finset.univ.filter fun y => r y / 20000 = 2 * p.2.val + p.1.val := by
    ext y
    have := hr y
    simp only [Finset.mem_univ, Finset.mem_biUnion, Finset.mem_filter, true_and, true_iff]
    exact ⟨(⟨r y / 20000 % 2, by omega⟩, ⟨r y / 20000 / 2, by omega⟩), by dsimp only; omega⟩
  have h2 (c : Fin 2) (s : Fin 16) : (Finset.univ.filter fun y : Idx ℓ => r y / 20000 = 2 * s.val + c.val)
      = (Finset.Ico 0 125).biUnion fun j => Finset.univ.filter fun y => r y / 160 = tileBase c.val s.val + j := by
    ext y
    unfold tileBase
    simp only [Finset.mem_univ, Finset.mem_biUnion, Finset.mem_filter, true_and, Finset.mem_Ico]
    constructor
    · intro h
      exact ⟨r y / 160 - 125 * (2 * s.val + c.val), by omega, by omega⟩
    · rintro ⟨j, hj, h⟩
      omega
  rw [show (ℓ ↦{fullShare} f : sProp 𝕄) = ℓ ↦[(Finset.univ : Finset (Fin 2 × Fin 16)).biUnion
      fun p => Finset.univ.filter fun y => r y / 20000 = 2 * p.2.val + p.1.val]{fullShare} f by rw [← h1],
    pointsTo_biUnion, bigSep_univ_prod]
  · refine bigSep_congr fun c _ => bigSep_congr fun s _ => ?_
    dsimp only
    rw [h2 c s, pointsTo_biUnion]
    intro j _ j' _ hne
    refine Finset.disjoint_left.mpr fun y h h' => hne ?_
    have a := (Finset.mem_filter.mp h).2
    have b := (Finset.mem_filter.mp h').2
    omega
  · intro p _ p' _ hne
    refine Finset.disjoint_left.mpr fun y h h' => hne ?_
    have a := (Finset.mem_filter.mp h).2
    have b := (Finset.mem_filter.mp h').2
    have h1 := p.1.isLt
    have h1' := p'.1.isLt
    exact Prod.ext (Fin.ext (by omega)) (Fin.ext (by omega))

/-- The two arrays, dealt. -/
theorem deal_shares (d : Dev nD) (x : Vec F S640000x39 .f32) (f : Vec F S640000x31 .f32) :
    iprop((xLoc d ↦{fullShare} (x : Buf (Elt F) (xLoc d))) ∗ (oLoc d ↦{fullShare} (f : Buf (Elt F) (oLoc d))))
      = (bigSep (Finset.univ : Finset (Fin 2)) fun c => bigSep (Finset.univ : Finset (Fin 16)) fun s => share d (tileBase c.val s.val) x f : sProp 𝕄) := by
  rw [deal (ℓ := xLoc d) (fun y : S640000x39.Idx => (y 0).val) (fun y : S640000x39.Idx => (y 0).isLt) x,
    deal (ℓ := oLoc d) (fun y : S640000x31.Idx => (y 0).val) (fun y : S640000x31.Idx => (y 0).isLt) f]
  unfold share
  simp only [bigSep_sep']
  rfl

variable [FloatOps F]
variable (m : (ℓ : Loc nD τ sig) → Buf (Elt F) ℓ) (ρ : Dev nD → PrngReg)

/-! ## What the handshakes carry -/

/-- The argument, and the result, as locations of device `d`. -/
abbrev aLoc (d : Dev nD) : Loc nD τ sig := (SparseCore.T d).loc main_arg0
@[inherit_doc aLoc]
abbrev rLoc (d : Dev nD) : Loc nD τ sig := (SparseCore.T d).loc main_v2

/-- The launch's input: the argument reshaped. -/
def xin (d : Dev nD) : Vec F S640000x39 .f32 :=
  shapeCast S640000x39 (m (aLoc d) : Vec F S32x20000x39 .f32) shapeCasts_S32x20000x39_S640000x39

/-- The program's result: the launch's output reshaped. -/
def rout (d : Dev nD) : Vec F S32x20000x31 .f32 :=
  shapeCast S32x20000x31 (decAll (xin m d)) shapeCasts_S640000x31_S32x20000x31

/-- A tile's share before its task, and after. -/
def goS (d : Dev nD) (c s : ℕ) : sProp 𝕄 := share d (tileBase c s) (xin m d) (m (oLoc d))
@[inherit_doc goS]
def tdS (d : Dev nD) (c s : ℕ) : sProp 𝕄 := share d (tileBase c s) (xin m d) (decAll (xin m d))

instance goS_storable (d : Dev nD) (c s : ℕ) : BI.Storable (upEmb : UEmb _ 𝕄) (goS m d c s) := by
  unfold goS share xC oC; infer_instance
instance tdS_storable (d : Dev nD) (c s : ℕ) : BI.Storable (upEmb : UEmb _ 𝕄) (tdS m d c s) := by
  unfold tdS share xC oC; infer_instance

/-- The call takes every tile's share and brings it back. -/
def P : (K (F := F)).Pay (nD := nD) (Val := Elt F) (Name := ℕ) (U := UU) where
  st := fun _ d c => bigSep (Finset.univ : Finset (Fin 16)) fun s => goS m d c.val s.val
  dn := fun _ d c => bigSep (Finset.univ : Finset (Fin 16)) fun s => tdS m d c.val s.val
  go := fun _ d c i => goS m d c.val i.val
  td := fun _ d c i => tdS m d c.val i.val
  x := fun _ _ => iprop(emp)

instance P_storable : (P (F := F) m).IsStorable where
  st _ d c := (inferInstance : BI.Storable (upEmb : UEmb _ 𝕄) (bigSep (Finset.univ : Finset (Fin 16)) fun s => goS m d c.val s.val))
  dn _ d c := (inferInstance : BI.Storable (upEmb : UEmb _ 𝕄) (bigSep (Finset.univ : Finset (Fin 16)) fun s => tdS m d c.val s.val))
  go _ d c i := goS_storable m d c.val i.val
  td _ d c i := tdS_storable m d c.val i.val

/-! ## The launch theorem's obligations -/

/-- The grid coordinates of the tile at `(c, s)`. -/
def coords (c : Fin (grid0.bound 0)) (s : Fin (grid0.bound 1)) : grid0.Coords :=
  fun | 0 => c | 1 => s | ⟨_ + 2, h⟩ => absurd h (Nat.not_lt.2 (Nat.le_add_left _ _))

/-- What a tile runs. -/
theorem defs₀_tile (c : Fin τ.nSC) (s : Fin τ.nSub) :
    defs₀ (F := F) (.scVector c s) 0 ()
      = SparseCore.onTile hcore0 hsub0 (fun c s => cc0__decode_sc (coords c s) xW (Memref.isWhole_whole _) oW (Memref.isWhole_whole _)
          ivW (Memref.isWhole_whole _) ovW (Memref.isWhole_whole _) cc0_scratch2 cc0_scratch3 cc0_scratch4 cc0_scratch5) ⟨⟩ c s := rfl

omit [FloatOps F] in
/-- A task's waits, as the launch theorem lists them. -/
theorem post_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- Every tile's task. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]
  simp only [SparseCore.onTile, hc, and_self, ↓reduceDIte]
  exact (wp_task (d := d) (x := xin m d) (fo := m (oLoc d)) (coords ⟨_, hc.1⟩ ⟨_, hc.2⟩) O W hO).trans (wp_mono frame _ _ fun _ => post_waits)

/-- A SparseCore's part of the call is its tiles' shares. -/
theorem vecSplit : (K (F := F)).VecSplit' (P m) 0 := by
  intro d c
  show (bigSep (Finset.univ : Finset (Fin 16)) fun s => goS m d c.val s.val) ⊢ |={Set.univ}=> iprop(
    (bigSep (Finset.univ : Finset (Fin 16)) fun s => goS m d c.val s.val)
      ∗ ((bigSep (Finset.univ : Finset (Fin 16)) fun s => tdS m d c.val s.val) -∗ bigSep (Finset.univ : Finset (Fin 16)) fun s => tdS m d c.val s.val))
  iintro H
  imodintro
  isplitl [H]; · iexact H
  iintro H
  iexact H

/-- The launch's ghost state: the handshakes' rounds, nothing of the transfers. -/
def u₀ : UU := (initOf (K (F := F)).hsCells (K (F := F)).hsToks, 1)

omit [FloatOps F] in
/-- Nothing, however often. -/
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## The host program -/

/-- The program's arrays: argument, launch's input, launch's output, result. -/
abbrev a' : DevRef τ sig := Proc.devRef .tc (main_arg0 : Ref sig .tc)
@[inherit_doc a']
abbrev x' : DevRef τ sig := Proc.devRef .tc (main_v0 : Ref sig .tc)
@[inherit_doc a']
abbrev o' : DevRef τ sig := Proc.devRef .tc (main_v1 : Ref sig .tc)
@[inherit_doc a']
abbrev r' : DevRef τ sig := Proc.devRef .tc (main_v2 : Ref sig .tc)

/-- The reshape before the launch, and the one after it. -/
abbrev opIn : HloOp τ sig (Elt F) :=
  StableHlo.reshape main_arg0 main_v0 (rfl : (.f32 : EltTy) = .f32) shapeCasts_S32x20000x39_S640000x39
@[inherit_doc opIn]
abbrev opOut : HloOp τ sig (Elt F) :=
  StableHlo.reshape main_v1 main_v2 (rfl : (.f32 : EltTy) = .f32) shapeCasts_S640000x31_S32x20000x31

/-- All of them. -/
abbrev arrays : Finset (DevRef τ sig) := {a', x', o', r'}

omit [FloatOps F] in
/-- The arrays held, one by one. -/
theorem held_arrays (d : Dev nD) (W : Valuation τ sig (Elt F)) :
    (held (T d) arrays W : sProp 𝕄)
      = iprop((aLoc d ↦{fullShare} W a') ∗ (xLoc d ↦{fullShare} W x') ∗ (oLoc d ↦{fullShare} W o') ∗ rLoc d ↦{fullShare} W r') := by
  unfold held arrays
  rw [SparseCore.bigSep_insert' (by decide), SparseCore.bigSep_insert' (by decide), SparseCore.bigSep_insert' (by decide), bigSep_singleton]

/-- The memory at the start; after the first reshape; after the launch. -/
def V0 (d : Dev nD) : Valuation τ sig (Elt F) := fun b => m (d, b)
@[inherit_doc V0]
def V1 (d : Dev nD) : Valuation τ sig (Elt F) := (opIn (F := F)).result (V0 m d)
@[inherit_doc V0]
def V2 (d : Dev nD) : Valuation τ sig (Elt F) := Function.update (V1 m d) o' (decAll (xin m d))

/-- What the program holds at its start. -/
theorem unscoped_held (d : Dev nD) : (unscopedBufs d (fun b => m ((SparseCore.T d).loc b)) : sProp 𝕄) = held (T d) arrays (V0 m d) := by
  unfold unscopedBufs
  rw [held_arrays, show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]
  rfl

/-- The values along the way. -/
theorem V1_a (d : Dev nD) : V1 m d a' = m (aLoc d) := StableHlo.reshape_result_ne _ _ _ _ _ _ _ (by decide)
@[inherit_doc V1_a]
theorem V1_x (d : Dev nD) : V1 m d x' = xin m d := StableHlo.reshape_result _ _ _ _ _ _ _
@[inherit_doc V1_a]
theorem V1_o (d : Dev nD) : V1 m d o' = m (oLoc d) := StableHlo.reshape_result_ne _ _ _ _ _ _ _ (by decide)
@[inherit_doc V1_a]
theorem V2_o (d : Dev nD) : V2 m d o' = decAll (xin m d) := Function.update_self _ _ _
@[inherit_doc V1_a]
theorem V2_ne (d : Dev nD) {b : DevRef τ sig} (h : b ≠ o') : V2 m d b = V1 m d b := Function.update_of_ne h _ _
@[inherit_doc V1_a]
theorem V3_a (d : Dev nD) : (opOut (F := F)).result (V2 m d) a' = m (aLoc d) :=
  (StableHlo.reshape_result_ne _ _ _ _ _ _ _ (by decide)).trans ((V2_ne m d (by decide)).trans (V1_a m d))
@[inherit_doc V1_a]
theorem V3_r (d : Dev nD) : (opOut (F := F)).result (V2 m d) r' = rout m d :=
  (StableHlo.reshape_result _ _ _ _ _ _ _).trans (by rw [V2_o]; rfl)

/-- What the call takes. -/
theorem st_eq (d : Dev nD) : (bigSep Finset.univ fun c : Fin ((K (F := F)).nCore 0) => (P m).st 0 d c)
    = (iprop((xLoc d ↦{fullShare} (xin m d : Buf (Elt F) (xLoc d))) ∗ (oLoc d ↦{fullShare} m (oLoc d))) : sProp 𝕄) := by
  rw [deal_shares d (xin m d) (m (oLoc d))]
  have h (c : Fin ((K (F := F)).nCore 0)) : (P m).st 0 d c = bigSep (Finset.univ : Finset (Fin 16)) fun s => goS m d c.val s.val := rfl
  simp only [h]
  unfold goS
  rfl
/-- What the call brings back. -/
theorem dn_eq (d : Dev nD) : (bigSep Finset.univ fun c : Fin ((K (F := F)).nCore 0) => (P m).dn 0 d c)
    = (iprop((xLoc d ↦{fullShare} (xin m d : Buf (Elt F) (xLoc d))) ∗ (oLoc d ↦{fullShare} (decAll (xin m d) : Buf (Elt F) (oLoc d)))) : sProp 𝕄) := by
  rw [deal_shares d (xin m d) (decAll (xin m d))]
  have h (c : Fin ((K (F := F)).nCore 0)) : (P m).dn 0 d c = bigSep (Finset.univ : Finset (Fin 16)) fun s => tdS m d c.val s.val := rfl
  simp only [h]
  unfold tdS
  rfl

/-- What the program leaves: its argument as it was, its result. -/
abbrev FIN (d : Dev nD) : sProp 𝕄 :=
  iprop((aLoc d ↦{fullShare} m (aLoc d)) ∗ (rLoc d ↦{fullShare} (rout m d : Buf (Elt F) (rLoc d))))

/-- The program on device `d`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := arrays)
    (show ({a', x'} : Finset (DevRef τ sig)) ⊆ arrays by decide) (V := V0 m d)) $$ [Hb Hheld]
  · isplitl [Hb] <;> iassumption
  iintro ⟨Hb, Hheld⟩
  rw [wp_ret]; imodintro
  ihave Hh := (Entails.of_eq (held_arrays (F := F) d ((opIn (F := F)).result (V0 m d)))) $$ Hheld
  rw [show (opIn (F := F)).result (V0 m d) = V1 m d from rfl, V1_a, V1_x, V1_o]
  icases Hh with ⟨Ha, Hx, Ho, Hr⟩
  iapply ((K (F := F)).wp_run (D (F := F)) 𝒱 (EH := EH) (P := P m) κ d 0) $$ [Hst Ha Hx Ho Hr Hb Hts]
  isplitr; · iexact Hctx
  isplitl [Hst]; · iexact Hst
  isplitl [Hx Ho]
  · rw [st_eq]
    isplitl [Hx] <;> iassumption
  iintro ⟨Hst, Hdn⟩
  ihave Hdn' := (Entails.of_eq (dn_eq m d)) $$ Hdn
  icases Hdn' with ⟨Hx, Ho⟩
  iapply (wp_hlo_within 𝒱 (SparseCore.T d) none Set.univ (op := opOut) (S := arrays)
    (show ({o', r'} : Finset (DevRef τ sig)) ⊆ arrays by decide) (V := V2 m d)) $$ [Hb Ha Hx Ho Hr]
  · isplitl [Hb]; · iexact Hb
    rw [held_arrays, V2_o, V2_ne m d (b := a') (by decide), V2_ne m d (b := x') (by decide), V2_ne m d (b := r') (by decide), V1_a, V1_x]
    isplitl [Ha]; · iexact Ha
    isplitl [Hx]; · iexact Hx
    isplitl [Ho] <;> iassumption
  iintro ⟨Hb, Hheld⟩
  ihave Hh := (Entails.of_eq (held_arrays (F := F) d ((opOut (F := F)).result (V2 m d)))) $$ Hheld
  rw [V3_a, V3_r]
  icases Hh with ⟨Ha, -, -, Hr⟩
  rw [wp_ret]; imodintro; imodintro
  isplitl [Hst]; · iexact Hst
  isplitl [Ha Hr]
  · isplitl [Ha] <;> iassumption
  isplitl [Hb] <;> iassumption

/-- What is read off the memory at the end. -/
def fq (d : Dev nD) (s' : Phys nD τ sig (Elt F)) : Prop := s'.mem.mem (aLoc d) = m (aLoc d) ∧ s'.mem.mem (rLoc d) = rout m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := rout m d)) $$ [HSI Hr]
  · isplitl [HSI] <;> iassumption
  icases H with %h2
  ipureintro
  exact ⟨funext fun i => h1 i (Finset.mem_univ i), funext fun i => h2 i (Finset.mem_univ i)⟩

/-- What every run ends in: the argument as it was, the result, every semaphore at zero. -/
def QC : PUnit × MemSt nD τ sig (Elt F) → Prop := fun r =>
  (∀ c : Dev nD, r.2.mem (aLoc c) = m (aLoc c) ∧ r.2.mem (rLoc c) = rout m c) ∧ r.2.sem = fun _ => 0

/-- The program's run, at any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Decode

end
-- ==== Proof.RefValue.lean ====
/-
  The reference's values.

  The reference writes its result as one array of the 21 copied columns and ten single columns put side by side, a single column being
  `((x * v) * w + c) * 512` of four columns of the argument. Over the extended reals the product of three may be bracketed either way, so
  each row of the result is `keyCol` of the argument's row, which is what the kernel computes.
-/
module

public import proofs.«01_k».proof.Proof.Launch
public import proofs.«01_k».proof.Proof.Gen.ReferenceIdeal.Run
public import Idealize.ShloMosaic.PureOps.Ideal
public import Idealize.ShloMosaic.Lib.Pipeline.Value
public import Idealize.ShloMosaic.Lib.Pointwise.Index

@[expose] public section

noncomputable section

namespace Cert.Decode

open Idealize.ShloMosaic
open Cert.ReferenceIdeal (S_ S32x20000 S32x20000x1 S32x20000x21 S32x20000x31 S32x20000x39)
open Cert.ReferenceIdeal.Facts₀ Cert.ReferenceIdeal.Facts

/-- The index of batch `b`, anchor `n`, column `c` of the argument. -/
def at39 (b : Fin 32) (n : Fin 20000) (c : Fin 39) : S32x20000x39.Idx := fun a => match a with | 0 => b | 1 => n | 2 => c

/-- The row of the argument that an index of the result lies in. -/
def rowAt (A : Vec Ideal S32x20000x39 .f32) (b : Fin 32) (n : Fin 20000) : Fin 39 → Ideal .f32 := fun c => A (at39 b n c)

/-- Every single column may be sliced out. -/
theorem slices_col {k : ℕ} (hk : k < 39) : S32x20000x39.Slices ![0, 0, k] S32x20000x1 := by
  refine ⟨rfl, fun a => ?_⟩
  fin_cases a
  · show 0 + 32 ≤ 32; omega
  · show 0 + 20000 ≤ 20000; omega
  · show k + 1 ≤ 39; omega

/-- Column `k` of the argument, by itself. -/
def colOf (A : Vec Ideal S32x20000x39 .f32) (k : ℕ) (hk : k < 39) : FVec Ideal S32x20000 .f32 :=
  shapeCast S32x20000 (extractStridedSlice S32x20000x1 ![0, 0, k] A (slices_col hk)) Cert.ReferenceIdeal.Gen.shapeCasts_S32x20000x1_S32x20000

/-- A column at a batch and an anchor. -/
theorem colOf_apply (A : Vec Ideal S32x20000x39 .f32) (k : ℕ) (hk : k < 39) (i : S32x20000.Idx) :
    colOf A k hk i = rowAt A (i 0) (i 1) ⟨k, hk⟩ := by
  unfold colOf rowAt
  rw [shapeCast_apply _ _ i (fun a => match a with | 0 => i 0 | 1 => i 1 | 2 => (0 : Fin 1) : S32x20000x1.Idx)]
  · refine extractStridedSlice_apply _ _ _ _ _ fun a => ?_
    fin_cases a
    · exact (Nat.zero_add _).symm
    · exact (Nat.zero_add _).symm
    · rfl
  · rw [Shape.rowMajor_val_three, Shape.rowMajor_val_two]
    show ((i 0).val * 20000 + (i 1).val) * 1 + 0 = (i 0).val * 20000 + (i 1).val
    omega

/-- The reference's key-point column number `n`. -/
def kpCol (A : Vec Ideal S32x20000x39 .f32) (n : Fin 10) : Vec Ideal S32x20000x1 .f32 :=
  broadcastInDim S32x20000x1 ![0, 1] Cert.ReferenceIdeal.Gen.bcast_S32x20000_S32x20000x1_0_1
    (mulf (F := Ideal) (addf (mulf (mulf (colOf A (21 + n.val) (by omega)) (colOf A (35 + n.val % 2) (by omega))) (colOf A (33 + n.val % 2) (by omega)))
        (colOf A (31 + n.val % 2) (by omega)))
      (broadcastInDim S32x20000 ![] Cert.ReferenceIdeal.Gen.bcast_S_S32x20000 (constant S_ .f32 0x44000000#32)))

/-- It is column `21 + n` of `keyCol`: the product of three, bracketed the other way. -/
theorem kpCol_apply (A : Vec Ideal S32x20000x39 .f32) (n : Fin 10) (j : S32x20000x1.Idx) :
    kpCol A n j = keyCol (rowAt A (j 0) (j 1)) ⟨21 + n.val, by omega⟩ := by
  unfold kpCol
  rw [broadcastInDim_apply _ _ _ j (fun a => match a with | 0 => j 0 | 1 => j 1 : S32x20000.Idx) fun a => by fin_cases a <;> rfl]
  unfold keyCol
  rw [if_neg (show ¬ 21 + n.val < 21 by omega)]
  show (colOf A (21 + n.val) _ _ * colOf A (35 + n.val % 2) _ _ * colOf A (33 + n.val % 2) _ _ + colOf A (31 + n.val % 2) _ _ : EReal)
      * Scalar.ofBits (F := Ideal) .f32 0x44000000#32 = (_ * (_ * _) + _) * Scalar.ofBits (F := Ideal) .f32 0x44000000#32
  simp only [colOf_apply, mul_assoc, show 21 + n.val - 21 = n.val by omega]

/-- The reference's result, its columns named. -/
def refCols (A : Vec Ideal S32x20000x39 .f32) : List ((s : Shape) × (s.Idx → Ideal .f32)) :=
  [⟨S32x20000x21, extractStridedSlice S32x20000x21 ![0, 0, 0] A Cert.ReferenceIdeal.Gen.slices_S32x20000x39_S32x20000x21_0_0_0⟩,
    ⟨S32x20000x1, kpCol A 0⟩, ⟨S32x20000x1, kpCol A 1⟩, ⟨S32x20000x1, kpCol A 2⟩, ⟨S32x20000x1, kpCol A 3⟩, ⟨S32x20000x1, kpCol A 4⟩,
    ⟨S32x20000x1, kpCol A 5⟩, ⟨S32x20000x1, kpCol A 6⟩, ⟨S32x20000x1, kpCol A 7⟩, ⟨S32x20000x1, kpCol A 8⟩, ⟨S32x20000x1, kpCol A 9⟩]

/-- What those columns put side by side read: `keyCol` of each row. -/
theorem refCols_apply (A : Vec Ideal S32x20000x39 .f32) (h : Shape.Concatenates ((refCols A).map (·.1)) S32x20000x31 2) (j : S32x20000x31.Idx) :
    concatenate S32x20000x31 2 (refCols A) h j = keyCol (rowAt A (j 0) (j 1)) (j 2) := by
  have hj : (j 2).val < 31 := (j 2).isLt
  by_cases hc : (j 2).val < 21
  · refine (concatenate_apply_piece (2 : Fin 3) (refCols A) h j 0 (Nat.succ_pos 10) S32x20000x21 _ rfl rfl 0 rfl
      (fun a => match a with | 0 => j 0 | 1 => j 1 | 2 => ⟨(j 2).val, hc⟩ : S32x20000x21.Idx) (fun b hb => ?_) (Nat.zero_add _)).trans ?_
    · fin_cases b
      · rfl
      · rfl
      · exact absurd rfl hb
    · unfold keyCol rowAt
      rw [if_pos hc]
      refine extractStridedSlice_apply _ _ _ _ _ fun a => ?_
      fin_cases a <;> exact (Nat.zero_add _).symm
  · obtain ⟨n, hn⟩ : ∃ n : Fin 10, (j 2).val = 21 + n.val := ⟨⟨(j 2).val - 21, by omega⟩, by dsimp only; omega⟩
    have hl : 1 + n.val < (refCols A).length := by show 1 + n.val < 11; omega
    refine (concatenate_apply_piece (2 : Fin 3) (refCols A) h j (1 + n.val) hl S32x20000x1 (kpCol A n) (by fin_cases n <;> rfl) rfl
      (21 + n.val) (by fin_cases n <;> rfl)
      (fun a => match a with | 0 => j 0 | 1 => j 1 | 2 => (0 : Fin 1) : S32x20000x1.Idx) (fun b hb => ?_) hn.symm).trans ?_
    · fin_cases b
      · rfl
      · rfl
      · exact absurd rfl hb
    · rw [kpCol_apply, show j 2 = (⟨21 + n.val, by omega⟩ : Fin 31) from Fin.ext hn]

/-- The whole result as a function of the argument: batch by batch and row by row, `keyCol`. -/
def decode (A : Vec Ideal S32x20000x39 .f32) : Vec Ideal S32x20000x31 .f32 := fun j => keyCol (rowAt A (j 0) (j 1)) (j 2)

/-- The reference's result is `decode` of its argument. -/
theorem ref_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 m c
      = decode (m ((c.tc : Thread Cert.ReferenceIdeal.nD Cert.ReferenceIdeal.τ).loc Cert.ReferenceIdeal.main_arg0)) := by
  show Cert.ReferenceIdeal.Value.res_main_v93 m c = _
  unfold Cert.ReferenceIdeal.Value.res_main_v93
  generalize m ((c.tc : Thread Cert.ReferenceIdeal.nD Cert.ReferenceIdeal.τ).loc Cert.ReferenceIdeal.main_arg0) = A
  refine Eq.trans (b := concatenate S32x20000x31 2 (refCols A) Cert.ReferenceIdeal.Gen.concatenates_S32x20000x21_S32x20000x1_S32x20000x1_S32x20000x1_S32x20000x1_S32x20000x1_S32x20000x1_S32x20000x1_S32x20000x1_S32x20000x1_S32x20000x1_S32x20000x31_d2) ?_ ?_
  · unfold refCols kpCol colOf
    rfl
  exact funext fun j => refCols_apply A Cert.ReferenceIdeal.Gen.concatenates_S32x20000x21_S32x20000x1_S32x20000x1_S32x20000x1_S32x20000x1_S32x20000x1_S32x20000x1_S32x20000x1_S32x20000x1_S32x20000x1_S32x20000x1_S32x20000x31_d2 j

/-- The kernel's result is `decode` of its argument. -/
theorem kernel_value (m : (ℓ : Loc Cert.KernelIdeal.nD Cert.KernelIdeal.τ Cert.KernelIdeal.sig) → Buf (Elt Ideal) ℓ)
    (c : Dev Cert.KernelIdeal.nD) : rout m c = decode (m (aLoc c)) := by
  funext j
  have h0 : (j 0).val < 32 := (j 0).isLt
  have h1 : (j 1).val < 20000 := (j 1).isLt
  unfold rout decode
  rw [shapeCast_apply _ _ j (fun a => match a with | 0 => ⟨(j 0).val * 20000 + (j 1).val, by show _ < 640000; omega⟩ | 1 => j 2 : Cert.KernelIdeal.S640000x31.Idx)]
  · show keyCol (rowX (xin m c) ((j 0).val * 20000 + (j 1).val)) (j 2) = keyCol _ (j 2)
    congr 1
    funext k
    unfold rowX xin rowAt
    refine shapeCast_apply _ _ _ _ ((Shape.rowMajor_val_three (d := ![32, 20000, 39]) _).trans (Eq.trans ?_
      (Shape.rowMajor_val_two (d := ![640000, 39]) _).symm))
    show ((j 0).val * 20000 + (j 1).val) * 39 + k.val = (((j 0).val * 20000 + (j 1).val) % 640000) * 39 + k.val
    rw [Nat.mod_eq_of_lt (by omega)]
  · rw [Shape.rowMajor_val_three, Shape.rowMajor_val_two]
    rfl

end Cert.Decode

end
-- ==== Proof.lean ====
/-
  The five claims of this certificate.

  The kernel's run is proved once, for any float values (`Cert.Decode.run_main`). The printed program and the idealized one are the same
  text, so both frames come from it; the value claim puts its result beside the reference's (`Cert.Decode.kernel_value`, `ref_value`):
  both are `Cert.Decode.decode` of the argument.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The printed kernel ends, faults nowhere, leaves its argument as it was and every semaphore at zero. -/
theorem frame_kernel : Cert.quiescent_Kernel := fun m ρ _ =>
  (θ_run Cert.KernelIdeal.defs _ _).mono (fun _ h => ⟨fun c => (h.1 c).1, h.2⟩) (Decode.run_main (F := Bits) m ρ)

/-- So does the idealized one. -/
theorem frame_kernelIdeal : Cert.quiescent_KernelIdeal := fun m ρ _ =>
  (θ_run Cert.KernelIdeal.defs _ _).mono (fun _ h => ⟨fun c => (h.1 c).1, h.2⟩) (Decode.run_main (F := Ideal) m ρ)

/-- The reference ends with its argument as it was; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩) (ReferenceIdeal.Value.run (F := Ideal) m ρ)

/-- From the same argument, kernel and reference end with the same result. -/
theorem value : Cert.algebraic_KernelIdeal_ReferenceIdeal := fun m ρ m' ρ' _ hm =>
  ⟨fun c => Decode.decode (m (Decode.aLoc c)),
    (θ_run Cert.KernelIdeal.defs _ _).mono (fun _ h c => ⟨((h.1 c).2).trans (Decode.kernel_value m c), (h.1 c).1⟩) (Decode.run_main (F := Ideal) m ρ),
    (θ_run Cert.ReferenceIdeal.defs _ _).mono
      (fun _ h c => ⟨((h c).1).trans ((Decode.ref_value m' c).trans (congrArg Decode.decode (hm c))), (h c).2⟩)
      (ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
